-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Split (m : (ℓ : Loc Cert.Split.nD Cert.Split.τ Cert.Split.sig) → Buf (Elt Bits) ℓ) : Prop :=
  True

def Pre_SplitIdeal (m : (ℓ : Loc Cert.SplitIdeal.nD Cert.SplitIdeal.τ Cert.SplitIdeal.sig) → Buf (Elt Ideal) ℓ) : Prop :=
  True

def Pre_SplitRefIdeal (m : (ℓ : Loc Cert.SplitRefIdeal.nD Cert.SplitRefIdeal.τ Cert.SplitRefIdeal.sig) → Buf (Elt Ideal) ℓ) : Prop :=
  True

def Pre_SplitRef (m : (ℓ : Loc Cert.SplitRef.nD Cert.SplitRef.τ Cert.SplitRef.sig) → Buf (Elt Bits) ℓ) : Prop :=
  True

def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeRefIdeal (m : (ℓ : Loc Cert.ExchangeRefIdeal.nD Cert.ExchangeRefIdeal.τ Cert.ExchangeRefIdeal.sig) → Buf (Elt Ideal) ℓ) : Prop :=
  True

def Pre_ExchangeRef (m : (ℓ : Loc Cert.ExchangeRef.nD Cert.ExchangeRef.τ Cert.ExchangeRef.sig) → Buf (Elt Bits) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_JoinRef (m : (ℓ : Loc Cert.JoinRef.nD Cert.JoinRef.τ Cert.JoinRef.sig) → Buf (Elt Bits) ℓ) : Prop :=
  True

def Pre_AdamWin (m : (ℓ : Loc Cert.AdamWin.nD Cert.AdamWin.τ Cert.AdamWin.sig) → Buf (Elt Bits) ℓ) : Prop :=
  True

def Pre_AdamWinIdeal (m : (ℓ : Loc Cert.AdamWinIdeal.nD Cert.AdamWinIdeal.τ Cert.AdamWinIdeal.sig) → Buf (Elt Ideal) ℓ) : Prop :=
  True

def Pre_AdamWinRefIdeal (m : (ℓ : Loc Cert.AdamWinRefIdeal.nD Cert.AdamWinRefIdeal.τ Cert.AdamWinRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamRow (m : (ℓ : Loc Cert.AdamRow.nD Cert.AdamRow.τ Cert.AdamRow.sig) → Buf (Elt Bits) ℓ) : Prop :=
  True

def Pre_AdamRowIdeal (m : (ℓ : Loc Cert.AdamRowIdeal.nD Cert.AdamRowIdeal.τ Cert.AdamRowIdeal.sig) → Buf (Elt Ideal) ℓ) : Prop :=
  True

def Pre_AdamRowRefIdeal (m : (ℓ : Loc Cert.AdamRowRefIdeal.nD Cert.AdamRowRefIdeal.τ Cert.AdamRowRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamRepl (m : (ℓ : Loc Cert.AdamRepl.nD Cert.AdamRepl.τ Cert.AdamRepl.sig) → Buf (Elt Bits) ℓ) : Prop :=
  True

def Pre_AdamReplIdeal (m : (ℓ : Loc Cert.AdamReplIdeal.nD Cert.AdamReplIdeal.τ Cert.AdamReplIdeal.sig) → Buf (Elt Ideal) ℓ) : Prop :=
  True

def Pre_AdamReplRefIdeal (m : (ℓ : Loc Cert.AdamReplRefIdeal.nD Cert.AdamReplRefIdeal.τ Cert.AdamReplRefIdeal.sig) → Buf (Elt Ideal) ℓ) : Prop :=
  True

def Pre_PackSmall (m : (ℓ : Loc Cert.PackSmall.nD Cert.PackSmall.τ Cert.PackSmall.sig) → Buf (Elt Bits) ℓ) : Prop :=
  True

def Pre_PackSmallIdeal (m : (ℓ : Loc Cert.PackSmallIdeal.nD Cert.PackSmallIdeal.τ Cert.PackSmallIdeal.sig) → Buf (Elt Ideal) ℓ) : Prop :=
  True

def Pre_PackSmallRefIdeal (m : (ℓ : Loc Cert.PackSmallRefIdeal.nD Cert.PackSmallRefIdeal.τ Cert.PackSmallRefIdeal.sig) → Buf (Elt Ideal) ℓ) : Prop :=
  True

def Pre_PackRepl (m : (ℓ : Loc Cert.PackRepl.nD Cert.PackRepl.τ Cert.PackRepl.sig) → Buf (Elt Bits) ℓ) : Prop :=
  True

def Pre_PackReplIdeal (m : (ℓ : Loc Cert.PackReplIdeal.nD Cert.PackReplIdeal.τ Cert.PackReplIdeal.sig) → Buf (Elt Ideal) ℓ) : Prop :=
  True

def Pre_PackReplRefIdeal (m : (ℓ : Loc Cert.PackReplRefIdeal.nD Cert.PackReplRefIdeal.τ Cert.PackReplRefIdeal.sig) → Buf (Elt Ideal) ℓ) : Prop :=
  True

def Pre_AddWin (m : (ℓ : Loc Cert.AddWin.nD Cert.AddWin.τ Cert.AddWin.sig) → Buf (Elt Bits) ℓ) : Prop :=
  True

def Pre_AddWinIdeal (m : (ℓ : Loc Cert.AddWinIdeal.nD Cert.AddWinIdeal.τ Cert.AddWinIdeal.sig) → Buf (Elt Ideal) ℓ) : Prop :=
  True

def Pre_AddWinRefIdeal (m : (ℓ : Loc Cert.AddWinRefIdeal.nD Cert.AddWinRefIdeal.τ Cert.AddWinRefIdeal.sig) → Buf (Elt Ideal) ℓ) : Prop :=
  True

def Pre_AddUp (m : (ℓ : Loc Cert.AddUp.nD Cert.AddUp.τ Cert.AddUp.sig) → Buf (Elt Bits) ℓ) : Prop :=
  True

def Pre_AddUpIdeal (m : (ℓ : Loc Cert.AddUpIdeal.nD Cert.AddUpIdeal.τ Cert.AddUpIdeal.sig) → Buf (Elt Ideal) ℓ) : Prop :=
  True

def Pre_AddUpRefIdeal (m : (ℓ : Loc Cert.AddUpRefIdeal.nD Cert.AddUpRefIdeal.τ Cert.AddUpRefIdeal.sig) → Buf (Elt Ideal) ℓ) : Prop :=
  True

def Pre_AddRow (m : (ℓ : Loc Cert.AddRow.nD Cert.AddRow.τ Cert.AddRow.sig) → Buf (Elt Bits) ℓ) : Prop :=
  True

def Pre_AddRowIdeal (m : (ℓ : Loc Cert.AddRowIdeal.nD Cert.AddRowIdeal.τ Cert.AddRowIdeal.sig) → Buf (Elt Ideal) ℓ) : Prop :=
  True

def Pre_AddRowRefIdeal (m : (ℓ : Loc Cert.AddRowRefIdeal.nD Cert.AddRowRefIdeal.τ Cert.AddRowRefIdeal.sig) → Buf (Elt Ideal) ℓ) : Prop :=
  True

def Pre_AddDown (m : (ℓ : Loc Cert.AddDown.nD Cert.AddDown.τ Cert.AddDown.sig) → Buf (Elt Bits) ℓ) : Prop :=
  True

def Pre_AddDownIdeal (m : (ℓ : Loc Cert.AddDownIdeal.nD Cert.AddDownIdeal.τ Cert.AddDownIdeal.sig) → Buf (Elt Ideal) ℓ) : Prop :=
  True

def Pre_AddDownRefIdeal (m : (ℓ : Loc Cert.AddDownRefIdeal.nD Cert.AddDownRefIdeal.τ Cert.AddDownRefIdeal.sig) → Buf (Elt Ideal) ℓ) : Prop :=
  True

def Pre_AddSmall (m : (ℓ : Loc Cert.AddSmall.nD Cert.AddSmall.τ Cert.AddSmall.sig) → Buf (Elt Bits) ℓ) : Prop :=
  True

def Pre_AddSmallIdeal (m : (ℓ : Loc Cert.AddSmallIdeal.nD Cert.AddSmallIdeal.τ Cert.AddSmallIdeal.sig) → Buf (Elt Ideal) ℓ) : Prop :=
  True

def Pre_AddSmallRefIdeal (m : (ℓ : Loc Cert.AddSmallRefIdeal.nD Cert.AddSmallRefIdeal.τ Cert.AddSmallRefIdeal.sig) → Buf (Elt Ideal) ℓ) : Prop :=
  True

def Pre_SumWin (m : (ℓ : Loc Cert.SumWin.nD Cert.SumWin.τ Cert.SumWin.sig) → Buf (Elt Bits) ℓ) : Prop :=
  True

def Pre_SumWinIdeal (m : (ℓ : Loc Cert.SumWinIdeal.nD Cert.SumWinIdeal.τ Cert.SumWinIdeal.sig) → Buf (Elt Ideal) ℓ) : Prop :=
  True

def Pre_SumWinRefIdeal (m : (ℓ : Loc Cert.SumWinRefIdeal.nD Cert.SumWinRefIdeal.τ Cert.SumWinRefIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_SumRow (m : (ℓ : Loc Cert.SumRow.nD Cert.SumRow.τ Cert.SumRow.sig) → Buf (Elt Bits) ℓ) : Prop :=
  True

def Pre_SumRowIdeal (m : (ℓ : Loc Cert.SumRowIdeal.nD Cert.SumRowIdeal.τ Cert.SumRowIdeal.sig) → Buf (Elt Ideal) ℓ) : Prop :=
  True

def Pre_SumRowRefIdeal (m : (ℓ : Loc Cert.SumRowRefIdeal.nD Cert.SumRowRefIdeal.τ Cert.SumRowRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumRepl (m : (ℓ : Loc Cert.SumRepl.nD Cert.SumRepl.τ Cert.SumRepl.sig) → Buf (Elt Bits) ℓ) : Prop :=
  True

def Pre_SumReplIdeal (m : (ℓ : Loc Cert.SumReplIdeal.nD Cert.SumReplIdeal.τ Cert.SumReplIdeal.sig) → Buf (Elt Ideal) ℓ) : Prop :=
  True

def Pre_SumReplRefIdeal (m : (ℓ : Loc Cert.SumReplRefIdeal.nD Cert.SumReplRefIdeal.τ Cert.SumReplRefIdeal.sig) → Buf (Elt Ideal) ℓ) : Prop :=
  True

def Pre_NormBack (m : (ℓ : Loc Cert.NormBack.nD Cert.NormBack.τ Cert.NormBack.sig) → Buf (Elt Bits) ℓ) : Prop :=
  True

def Pre_NormBackIdeal (m : (ℓ : Loc Cert.NormBackIdeal.nD Cert.NormBackIdeal.τ Cert.NormBackIdeal.sig) → Buf (Elt Ideal) ℓ) : Prop :=
  True

def Pre_NormBackRefIdeal (m : (ℓ : Loc Cert.NormBackRefIdeal.nD Cert.NormBackRefIdeal.τ Cert.NormBackRefIdeal.sig) → Buf (Elt Ideal) ℓ) : Prop :=
  True

def Pre_LastStep (m : (ℓ : Loc Cert.LastStep.nD Cert.LastStep.τ Cert.LastStep.sig) → Buf (Elt Bits) ℓ) : Prop :=
  True

def Pre_LastStepIdeal (m : (ℓ : Loc Cert.LastStepIdeal.nD Cert.LastStepIdeal.τ Cert.LastStepIdeal.sig) → Buf (Elt Ideal) ℓ) : Prop :=
  True

def Pre_LastStepRefIdeal (m : (ℓ : Loc Cert.LastStepRefIdeal.nD Cert.LastStepRefIdeal.τ Cert.LastStepRefIdeal.sig) → Buf (Elt Ideal) ℓ) : Prop :=
  True

def Pre_MidNorms (m : (ℓ : Loc Cert.MidNorms.nD Cert.MidNorms.τ Cert.MidNorms.sig) → Buf (Elt Bits) ℓ) : Prop :=
  True

def Pre_MidNormsIdeal (m : (ℓ : Loc Cert.MidNormsIdeal.nD Cert.MidNormsIdeal.τ Cert.MidNormsIdeal.sig) → Buf (Elt Ideal) ℓ) : Prop :=
  True

def Pre_MidNormsRefIdeal (m : (ℓ : Loc Cert.MidNormsRefIdeal.nD Cert.MidNormsRefIdeal.τ Cert.MidNormsRefIdeal.sig) → Buf (Elt Ideal) ℓ) : Prop :=
  True

def Pre_BackWin (m : (ℓ : Loc Cert.BackWin.nD Cert.BackWin.τ Cert.BackWin.sig) → Buf (Elt Bits) ℓ) : Prop :=
  True

def Pre_BackWinIdeal (m : (ℓ : Loc Cert.BackWinIdeal.nD Cert.BackWinIdeal.τ Cert.BackWinIdeal.sig) → Buf (Elt Ideal) ℓ) : Prop :=
  True

def Pre_BackWinRefIdeal (m : (ℓ : Loc Cert.BackWinRefIdeal.nD Cert.BackWinRefIdeal.τ Cert.BackWinRefIdeal.sig) → Buf (Elt Ideal) ℓ) : Prop :=
  True

def Pre_BackUp (m : (ℓ : Loc Cert.BackUp.nD Cert.BackUp.τ Cert.BackUp.sig) → Buf (Elt Bits) ℓ) : Prop :=
  True

def Pre_BackUpIdeal (m : (ℓ : Loc Cert.BackUpIdeal.nD Cert.BackUpIdeal.τ Cert.BackUpIdeal.sig) → Buf (Elt Ideal) ℓ) : Prop :=
  True

def Pre_BackUpRefIdeal (m : (ℓ : Loc Cert.BackUpRefIdeal.nD Cert.BackUpRefIdeal.τ Cert.BackUpRefIdeal.sig) → Buf (Elt Ideal) ℓ) : Prop :=
  True

def Pre_BackOut (m : (ℓ : Loc Cert.BackOut.nD Cert.BackOut.τ Cert.BackOut.sig) → Buf (Elt Bits) ℓ) : Prop :=
  True

def Pre_BackOutIdeal (m : (ℓ : Loc Cert.BackOutIdeal.nD Cert.BackOutIdeal.τ Cert.BackOutIdeal.sig) → Buf (Elt Ideal) ℓ) : Prop :=
  True

def Pre_BackOutRefIdeal (m : (ℓ : Loc Cert.BackOutRefIdeal.nD Cert.BackOutRefIdeal.τ Cert.BackOutRefIdeal.sig) → Buf (Elt Ideal) ℓ) : Prop :=
  True

def Pre_BackConv (m : (ℓ : Loc Cert.BackConv.nD Cert.BackConv.τ Cert.BackConv.sig) → Buf (Elt Bits) ℓ) : Prop :=
  True

def Pre_BackConvIdeal (m : (ℓ : Loc Cert.BackConvIdeal.nD Cert.BackConvIdeal.τ Cert.BackConvIdeal.sig) → Buf (Elt Ideal) ℓ) : Prop :=
  True

def Pre_BackConvRefIdeal (m : (ℓ : Loc Cert.BackConvRefIdeal.nD Cert.BackConvRefIdeal.τ Cert.BackConvRefIdeal.sig) → Buf (Elt Ideal) ℓ) : Prop :=
  True

def Pre_BackFfn (m : (ℓ : Loc Cert.BackFfn.nD Cert.BackFfn.τ Cert.BackFfn.sig) → Buf (Elt Bits) ℓ) : Prop :=
  True

def Pre_BackFfnIdeal (m : (ℓ : Loc Cert.BackFfnIdeal.nD Cert.BackFfnIdeal.τ Cert.BackFfnIdeal.sig) → Buf (Elt Ideal) ℓ) : Prop :=
  True

def Pre_BackFfnIdeal_finite [hPre_finite : Cert.Pre_finite.Facts] (m : (ℓ : Loc Cert.BackFfnIdeal.nD Cert.BackFfnIdeal.τ Cert.BackFfnIdeal.sig) → Buf (Elt Ideal) ℓ) : Prop :=
  ∀ c : Dev Cert.BackFfnIdeal.nD,
    (Cert.Pre_finite.fn (F := Ideal) (m ((c.tc : Thread Cert.BackFfnIdeal.nD Cert.BackFfnIdeal.τ).loc Cert.BackFfnIdeal.main_arg0)) (m ((c.tc : Thread Cert.BackFfnIdeal.nD Cert.BackFfnIdeal.τ).loc Cert.BackFfnIdeal.main_arg1)) (m ((c.tc : Thread Cert.BackFfnIdeal.nD Cert.BackFfnIdeal.τ).loc Cert.BackFfnIdeal.main_arg2)) (m ((c.tc : Thread Cert.BackFfnIdeal.nD Cert.BackFfnIdeal.τ).loc Cert.BackFfnIdeal.main_arg3)) (m ((c.tc : Thread Cert.BackFfnIdeal.nD Cert.BackFfnIdeal.τ).loc Cert.BackFfnIdeal.main_arg4))).1 = (fun _ => 1#1)
    ∧ (Cert.Pre_finite.fn (F := Ideal) (m ((c.tc : Thread Cert.BackFfnIdeal.nD Cert.BackFfnIdeal.τ).loc Cert.BackFfnIdeal.main_arg0)) (m ((c.tc : Thread Cert.BackFfnIdeal.nD Cert.BackFfnIdeal.τ).loc Cert.BackFfnIdeal.main_arg1)) (m ((c.tc : Thread Cert.BackFfnIdeal.nD Cert.BackFfnIdeal.τ).loc Cert.BackFfnIdeal.main_arg2)) (m ((c.tc : Thread Cert.BackFfnIdeal.nD Cert.BackFfnIdeal.τ).loc Cert.BackFfnIdeal.main_arg3)) (m ((c.tc : Thread Cert.BackFfnIdeal.nD Cert.BackFfnIdeal.τ).loc Cert.BackFfnIdeal.main_arg4))).2.1 = (fun _ => 1#1)
    ∧ (Cert.Pre_finite.fn (F := Ideal) (m ((c.tc : Thread Cert.BackFfnIdeal.nD Cert.BackFfnIdeal.τ).loc Cert.BackFfnIdeal.main_arg0)) (m ((c.tc : Thread Cert.BackFfnIdeal.nD Cert.BackFfnIdeal.τ).loc Cert.BackFfnIdeal.main_arg1)) (m ((c.tc : Thread Cert.BackFfnIdeal.nD Cert.BackFfnIdeal.τ).loc Cert.BackFfnIdeal.main_arg2)) (m ((c.tc : Thread Cert.BackFfnIdeal.nD Cert.BackFfnIdeal.τ).loc Cert.BackFfnIdeal.main_arg3)) (m ((c.tc : Thread Cert.BackFfnIdeal.nD Cert.BackFfnIdeal.τ).loc Cert.BackFfnIdeal.main_arg4))).2.2.1 = (fun _ => 1#1)
    ∧ (Cert.Pre_finite.fn (F := Ideal) (m ((c.tc : Thread Cert.BackFfnIdeal.nD Cert.BackFfnIdeal.τ).loc Cert.BackFfnIdeal.main_arg0)) (m ((c.tc : Thread Cert.BackFfnIdeal.nD Cert.BackFfnIdeal.τ).loc Cert.BackFfnIdeal.main_arg1)) (m ((c.tc : Thread Cert.BackFfnIdeal.nD Cert.BackFfnIdeal.τ).loc Cert.BackFfnIdeal.main_arg2)) (m ((c.tc : Thread Cert.BackFfnIdeal.nD Cert.BackFfnIdeal.τ).loc Cert.BackFfnIdeal.main_arg3)) (m ((c.tc : Thread Cert.BackFfnIdeal.nD Cert.BackFfnIdeal.τ).loc Cert.BackFfnIdeal.main_arg4))).2.2.2.1 = (fun _ => 1#1)
    ∧ (Cert.Pre_finite.fn (F := Ideal) (m ((c.tc : Thread Cert.BackFfnIdeal.nD Cert.BackFfnIdeal.τ).loc Cert.BackFfnIdeal.main_arg0)) (m ((c.tc : Thread Cert.BackFfnIdeal.nD Cert.BackFfnIdeal.τ).loc Cert.BackFfnIdeal.main_arg1)) (m ((c.tc : Thread Cert.BackFfnIdeal.nD Cert.BackFfnIdeal.τ).loc Cert.BackFfnIdeal.main_arg2)) (m ((c.tc : Thread Cert.BackFfnIdeal.nD Cert.BackFfnIdeal.τ).loc Cert.BackFfnIdeal.main_arg3)) (m ((c.tc : Thread Cert.BackFfnIdeal.nD Cert.BackFfnIdeal.τ).loc Cert.BackFfnIdeal.main_arg4))).2.2.2.2 = (fun _ => 1#1)

def Pre_BackFfnRefIdeal (m : (ℓ : Loc Cert.BackFfnRefIdeal.nD Cert.BackFfnRefIdeal.τ Cert.BackFfnRefIdeal.sig) → Buf (Elt Ideal) ℓ) : Prop :=
  True

def Pre_BackFfnRefIdeal_finite [hPre_finite : Cert.Pre_finite.Facts] (m : (ℓ : Loc Cert.BackFfnRefIdeal.nD Cert.BackFfnRefIdeal.τ Cert.BackFfnRefIdeal.sig) → Buf (Elt Ideal) ℓ) : Prop :=
  ∀ c : Dev Cert.BackFfnRefIdeal.nD,
    (Cert.Pre_finite.fn (F := Ideal) (m ((c.tc : Thread Cert.BackFfnRefIdeal.nD Cert.BackFfnRefIdeal.τ).loc Cert.BackFfnRefIdeal.main_arg0)) (m ((c.tc : Thread Cert.BackFfnRefIdeal.nD Cert.BackFfnRefIdeal.τ).loc Cert.BackFfnRefIdeal.main_arg1)) (m ((c.tc : Thread Cert.BackFfnRefIdeal.nD Cert.BackFfnRefIdeal.τ).loc Cert.BackFfnRefIdeal.main_arg2)) (m ((c.tc : Thread Cert.BackFfnRefIdeal.nD Cert.BackFfnRefIdeal.τ).loc Cert.BackFfnRefIdeal.main_arg3)) (m ((c.tc : Thread Cert.BackFfnRefIdeal.nD Cert.BackFfnRefIdeal.τ).loc Cert.BackFfnRefIdeal.main_arg4))).1 = (fun _ => 1#1)
    ∧ (Cert.Pre_finite.fn (F := Ideal) (m ((c.tc : Thread Cert.BackFfnRefIdeal.nD Cert.BackFfnRefIdeal.τ).loc Cert.BackFfnRefIdeal.main_arg0)) (m ((c.tc : Thread Cert.BackFfnRefIdeal.nD Cert.BackFfnRefIdeal.τ).loc Cert.BackFfnRefIdeal.main_arg1)) (m ((c.tc : Thread Cert.BackFfnRefIdeal.nD Cert.BackFfnRefIdeal.τ).loc Cert.BackFfnRefIdeal.main_arg2)) (m ((c.tc : Thread Cert.BackFfnRefIdeal.nD Cert.BackFfnRefIdeal.τ).loc Cert.BackFfnRefIdeal.main_arg3)) (m ((c.tc : Thread Cert.BackFfnRefIdeal.nD Cert.BackFfnRefIdeal.τ).loc Cert.BackFfnRefIdeal.main_arg4))).2.1 = (fun _ => 1#1)
    ∧ (Cert.Pre_finite.fn (F := Ideal) (m ((c.tc : Thread Cert.BackFfnRefIdeal.nD Cert.BackFfnRefIdeal.τ).loc Cert.BackFfnRefIdeal.main_arg0)) (m ((c.tc : Thread Cert.BackFfnRefIdeal.nD Cert.BackFfnRefIdeal.τ).loc Cert.BackFfnRefIdeal.main_arg1)) (m ((c.tc : Thread Cert.BackFfnRefIdeal.nD Cert.BackFfnRefIdeal.τ).loc Cert.BackFfnRefIdeal.main_arg2)) (m ((c.tc : Thread Cert.BackFfnRefIdeal.nD Cert.BackFfnRefIdeal.τ).loc Cert.BackFfnRefIdeal.main_arg3)) (m ((c.tc : Thread Cert.BackFfnRefIdeal.nD Cert.BackFfnRefIdeal.τ).loc Cert.BackFfnRefIdeal.main_arg4))).2.2.1 = (fun _ => 1#1)
    ∧ (Cert.Pre_finite.fn (F := Ideal) (m ((c.tc : Thread Cert.BackFfnRefIdeal.nD Cert.BackFfnRefIdeal.τ).loc Cert.BackFfnRefIdeal.main_arg0)) (m ((c.tc : Thread Cert.BackFfnRefIdeal.nD Cert.BackFfnRefIdeal.τ).loc Cert.BackFfnRefIdeal.main_arg1)) (m ((c.tc : Thread Cert.BackFfnRefIdeal.nD Cert.BackFfnRefIdeal.τ).loc Cert.BackFfnRefIdeal.main_arg2)) (m ((c.tc : Thread Cert.BackFfnRefIdeal.nD Cert.BackFfnRefIdeal.τ).loc Cert.BackFfnRefIdeal.main_arg3)) (m ((c.tc : Thread Cert.BackFfnRefIdeal.nD Cert.BackFfnRefIdeal.τ).loc Cert.BackFfnRefIdeal.main_arg4))).2.2.2.1 = (fun _ => 1#1)
    ∧ (Cert.Pre_finite.fn (F := Ideal) (m ((c.tc : Thread Cert.BackFfnRefIdeal.nD Cert.BackFfnRefIdeal.τ).loc Cert.BackFfnRefIdeal.main_arg0)) (m ((c.tc : Thread Cert.BackFfnRefIdeal.nD Cert.BackFfnRefIdeal.τ).loc Cert.BackFfnRefIdeal.main_arg1)) (m ((c.tc : Thread Cert.BackFfnRefIdeal.nD Cert.BackFfnRefIdeal.τ).loc Cert.BackFfnRefIdeal.main_arg2)) (m ((c.tc : Thread Cert.BackFfnRefIdeal.nD Cert.BackFfnRefIdeal.τ).loc Cert.BackFfnRefIdeal.main_arg3)) (m ((c.tc : Thread Cert.BackFfnRefIdeal.nD Cert.BackFfnRefIdeal.τ).loc Cert.BackFfnRefIdeal.main_arg4))).2.2.2.2 = (fun _ => 1#1)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5)
      ∧ r.2.mem ((c.tc : Thread Cert.Gather.nD Cert.Gather.τ).loc Cert.Gather.main_arg6) = m ((c.tc : Thread Cert.Gather.nD Cert.Gather.τ).loc Cert.Gather.main_arg6))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
      ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4)
      ∧ r.2.mem ((c.tc : Thread Cert.GatherRefIdeal.nD Cert.GatherRefIdeal.τ).loc Cert.GatherRefIdeal.main_arg5) = m ((c.tc : Thread Cert.GatherRefIdeal.nD Cert.GatherRefIdeal.τ).loc Cert.GatherRefIdeal.main_arg5)
      ∧ r.2.mem ((c.tc : Thread Cert.GatherRefIdeal.nD Cert.GatherRefIdeal.τ).loc Cert.GatherRefIdeal.main_arg6) = m ((c.tc : Thread Cert.GatherRefIdeal.nD Cert.GatherRefIdeal.τ).loc Cert.GatherRefIdeal.main_arg6))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2)
      ∧ r.2.mem ((c.tc : Thread Cert.GatherRef.nD Cert.GatherRef.τ).loc Cert.GatherRef.main_arg3) = m ((c.tc : Thread Cert.GatherRef.nD Cert.GatherRef.τ).loc Cert.GatherRef.main_arg3)
      ∧ r.2.mem ((c.tc : Thread Cert.GatherRef.nD Cert.GatherRef.τ).loc Cert.GatherRef.main_arg4) = m ((c.tc : Thread Cert.GatherRef.nD Cert.GatherRef.τ).loc Cert.GatherRef.main_arg4)
      ∧ r.2.mem ((c.tc : Thread Cert.GatherRef.nD Cert.GatherRef.τ).loc Cert.GatherRef.main_arg5) = m ((c.tc : Thread Cert.GatherRef.nD Cert.GatherRef.τ).loc Cert.GatherRef.main_arg5)
      ∧ r.2.mem ((c.tc : Thread Cert.GatherRef.nD Cert.GatherRef.τ).loc Cert.GatherRef.main_arg6) = m ((c.tc : Thread Cert.GatherRef.nD Cert.GatherRef.τ).loc Cert.GatherRef.main_arg6))
      ∧ r.2.sem = fun _ => 0)

def quiescent_Split [hSplit : Cert.Split.Facts] : Prop :=
  ∀ (m : (ℓ : Loc Cert.Split.nD Cert.Split.τ Cert.Split.sig) → Buf (Elt Bits) ℓ) (g : Dev Cert.Split.nD → PrngReg), Pre_Split m →
    θ_run (Cert.Split.defs (F := Bits)) (onTc (τ := Cert.Split.τ) (Cert.Split.main (F := Bits))) ⟨m, fun _ => 0, g⟩ (fun r => (∀ c : Dev Cert.Split.nD,
      r.2.mem ((c.tc : Thread Cert.Split.nD Cert.Split.τ).loc Cert.Split.main_arg0) = m ((c.tc : Thread Cert.Split.nD Cert.Split.τ).loc Cert.Split.main_arg0)
      ∧ r.2.mem ((c.tc : Thread Cert.Split.nD Cert.Split.τ).loc Cert.Split.main_arg1) = m ((c.tc : Thread Cert.Split.nD Cert.Split.τ).loc Cert.Split.main_arg1)
      ∧ r.2.mem ((c.tc : Thread Cert.Split.nD Cert.Split.τ).loc Cert.Split.main_arg2) = m ((c.tc : Thread Cert.Split.nD Cert.Split.τ).loc Cert.Split.main_arg2)
      ∧ r.2.mem ((c.tc : Thread Cert.Split.nD Cert.Split.τ).loc Cert.Split.main_arg3) = m ((c.tc : Thread Cert.Split.nD Cert.Split.τ).loc Cert.Split.main_arg3)
      ∧ r.2.mem ((c.tc : Thread Cert.Split.nD Cert.Split.τ).loc Cert.Split.main_arg4) = m ((c.tc : Thread Cert.Split.nD Cert.Split.τ).loc Cert.Split.main_arg4)
      ∧ r.2.mem ((c.tc : Thread Cert.Split.nD Cert.Split.τ).loc Cert.Split.main_arg5) = m ((c.tc : Thread Cert.Split.nD Cert.Split.τ).loc Cert.Split.main_arg5)
      ∧ r.2.mem ((c.tc : Thread Cert.Split.nD Cert.Split.τ).loc Cert.Split.main_arg6) = m ((c.tc : Thread Cert.Split.nD Cert.Split.τ).loc Cert.Split.main_arg6))
      ∧ r.2.sem = fun _ => 0)

def quiescent_SplitIdeal [hSplitIdeal : Cert.SplitIdeal.Facts] : Prop :=
  ∀ (m : (ℓ : Loc Cert.SplitIdeal.nD Cert.SplitIdeal.τ Cert.SplitIdeal.sig) → Buf (Elt Ideal) ℓ) (g : Dev Cert.SplitIdeal.nD → PrngReg), Pre_SplitIdeal m →
    θ_run (Cert.SplitIdeal.defs (F := Ideal)) (onTc (τ := Cert.SplitIdeal.τ) (Cert.SplitIdeal.main (F := Ideal))) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
      ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1)
      ∧ r.2.mem ((c.tc : Thread Cert.SplitIdeal.nD Cert.SplitIdeal.τ).loc Cert.SplitIdeal.main_arg2) = m ((c.tc : Thread Cert.SplitIdeal.nD Cert.SplitIdeal.τ).loc Cert.SplitIdeal.main_arg2)
      ∧ r.2.mem ((c.tc : Thread Cert.SplitIdeal.nD Cert.SplitIdeal.τ).loc Cert.SplitIdeal.main_arg3) = m ((c.tc : Thread Cert.SplitIdeal.nD Cert.SplitIdeal.τ).loc Cert.SplitIdeal.main_arg3)
      ∧ r.2.mem ((c.tc : Thread Cert.SplitIdeal.nD Cert.SplitIdeal.τ).loc Cert.SplitIdeal.main_arg4) = m ((c.tc : Thread Cert.SplitIdeal.nD Cert.SplitIdeal.τ).loc Cert.SplitIdeal.main_arg4)
      ∧ r.2.mem ((c.tc : Thread Cert.SplitIdeal.nD Cert.SplitIdeal.τ).loc Cert.SplitIdeal.main_arg5) = m ((c.tc : Thread Cert.SplitIdeal.nD Cert.SplitIdeal.τ).loc Cert.SplitIdeal.main_arg5)
      ∧ r.2.mem ((c.tc : Thread Cert.SplitIdeal.nD Cert.SplitIdeal.τ).loc Cert.SplitIdeal.main_arg6) = m ((c.tc : Thread Cert.SplitIdeal.nD Cert.SplitIdeal.τ).loc Cert.SplitIdeal.main_arg6))
      ∧ r.2.sem = fun _ => 0)

def quiescent_SplitRefIdeal [hSplitRefIdeal : Cert.SplitRefIdeal.Facts] : Prop :=
  ∀ (m : (ℓ : Loc Cert.SplitRefIdeal.nD Cert.SplitRefIdeal.τ Cert.SplitRefIdeal.sig) → Buf (Elt Ideal) ℓ) (g : Dev Cert.SplitRefIdeal.nD → PrngReg), Pre_SplitRefIdeal m →
    θ_run (Cert.SplitRefIdeal.defs (F := Ideal)) (onTc (τ := Cert.SplitRefIdeal.τ) (Cert.SplitRefIdeal.main (F := Ideal))) ⟨m, fun _ => 0, g⟩ (fun r => (∀ c : Dev Cert.SplitRefIdeal.nD,
      r.2.mem ((c.tc : Thread Cert.SplitRefIdeal.nD Cert.SplitRefIdeal.τ).loc Cert.SplitRefIdeal.main_arg0) = m ((c.tc : Thread Cert.SplitRefIdeal.nD Cert.SplitRefIdeal.τ).loc Cert.SplitRefIdeal.main_arg0)
      ∧ r.2.mem ((c.tc : Thread Cert.SplitRefIdeal.nD Cert.SplitRefIdeal.τ).loc Cert.SplitRefIdeal.main_arg1) = m ((c.tc : Thread Cert.SplitRefIdeal.nD Cert.SplitRefIdeal.τ).loc Cert.SplitRefIdeal.main_arg1)
      ∧ r.2.mem ((c.tc : Thread Cert.SplitRefIdeal.nD Cert.SplitRefIdeal.τ).loc Cert.SplitRefIdeal.main_arg2) = m ((c.tc : Thread Cert.SplitRefIdeal.nD Cert.SplitRefIdeal.τ).loc Cert.SplitRefIdeal.main_arg2)
      ∧ r.2.mem ((c.tc : Thread Cert.SplitRefIdeal.nD Cert.SplitRefIdeal.τ).loc Cert.SplitRefIdeal.main_arg3) = m ((c.tc : Thread Cert.SplitRefIdeal.nD Cert.SplitRefIdeal.τ).loc Cert.SplitRefIdeal.main_arg3)
      ∧ r.2.mem ((c.tc : Thread Cert.SplitRefIdeal.nD Cert.SplitRefIdeal.τ).loc Cert.SplitRefIdeal.main_arg4) = m ((c.tc : Thread Cert.SplitRefIdeal.nD Cert.SplitRefIdeal.τ).loc Cert.SplitRefIdeal.main_arg4)
      ∧ r.2.mem ((c.tc : Thread Cert.SplitRefIdeal.nD Cert.SplitRefIdeal.τ).loc Cert.SplitRefIdeal.main_arg5) = m ((c.tc : Thread Cert.SplitRefIdeal.nD Cert.SplitRefIdeal.τ).loc Cert.SplitRefIdeal.main_arg5)
      ∧ r.2.mem ((c.tc : Thread Cert.SplitRefIdeal.nD Cert.SplitRefIdeal.τ).loc Cert.SplitRefIdeal.main_arg6) = m ((c.tc : Thread Cert.SplitRefIdeal.nD Cert.SplitRefIdeal.τ).loc Cert.SplitRefIdeal.main_arg6))
      ∧ r.2.sem = fun _ => 0)

def quiescent_SplitRef [hSplitRef : Cert.SplitRef.Facts] : Prop :=
  ∀ (m : (ℓ : Loc Cert.SplitRef.nD Cert.SplitRef.τ Cert.SplitRef.sig) → Buf (Elt Bits) ℓ) (g : Dev Cert.SplitRef.nD → PrngReg), Pre_SplitRef m →
    θ_run (Cert.SplitRef.defs (F := Bits)) (onTc (τ := Cert.SplitRef.τ) (Cert.SplitRef.main (F := Bits))) ⟨m, fun _ => 0, g⟩ (fun r => (∀ c : Dev Cert.SplitRef.nD,
      r.2.mem ((c.tc : Thread Cert.SplitRef.nD Cert.SplitRef.τ).loc Cert.SplitRef.main_arg0) = m ((c.tc : Thread Cert.SplitRef.nD Cert.SplitRef.τ).loc Cert.SplitRef.main_arg0)
      ∧ r.2.mem ((c.tc : Thread Cert.SplitRef.nD Cert.SplitRef.τ).loc Cert.SplitRef.main_arg1) = m ((c.tc : Thread Cert.SplitRef.nD Cert.SplitRef.τ).loc Cert.SplitRef.main_arg1)
      ∧ r.2.mem ((c.tc : Thread Cert.SplitRef.nD Cert.SplitRef.τ).loc Cert.SplitRef.main_arg2) = m ((c.tc : Thread Cert.SplitRef.nD Cert.SplitRef.τ).loc Cert.SplitRef.main_arg2)
      ∧ r.2.mem ((c.tc : Thread Cert.SplitRef.nD Cert.SplitRef.τ).loc Cert.SplitRef.main_arg3) = m ((c.tc : Thread Cert.SplitRef.nD Cert.SplitRef.τ).loc Cert.SplitRef.main_arg3)
      ∧ r.2.mem ((c.tc : Thread Cert.SplitRef.nD Cert.SplitRef.τ).loc Cert.SplitRef.main_arg4) = m ((c.tc : Thread Cert.SplitRef.nD Cert.SplitRef.τ).loc Cert.SplitRef.main_arg4)
      ∧ r.2.mem ((c.tc : Thread Cert.SplitRef.nD Cert.SplitRef.τ).loc Cert.SplitRef.main_arg5) = m ((c.tc : Thread Cert.SplitRef.nD Cert.SplitRef.τ).loc Cert.SplitRef.main_arg5)
      ∧ r.2.mem ((c.tc : Thread Cert.SplitRef.nD Cert.SplitRef.τ).loc Cert.SplitRef.main_arg6) = m ((c.tc : Thread Cert.SplitRef.nD Cert.SplitRef.τ).loc Cert.SplitRef.main_arg6))
      ∧ r.2.sem = fun _ => 0)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0)
      ∧ r.2.mem ((c.tc : Thread Cert.Exchange.nD Cert.Exchange.τ).loc Cert.Exchange.main_arg1) = m ((c.tc : Thread Cert.Exchange.nD Cert.Exchange.τ).loc Cert.Exchange.main_arg1)
      ∧ r.2.mem ((c.tc : Thread Cert.Exchange.nD Cert.Exchange.τ).loc Cert.Exchange.main_arg2) = m ((c.tc : Thread Cert.Exchange.nD Cert.Exchange.τ).loc Cert.Exchange.main_arg2)
      ∧ r.2.mem ((c.tc : Thread Cert.Exchange.nD Cert.Exchange.τ).loc Cert.Exchange.main_arg3) = m ((c.tc : Thread Cert.Exchange.nD Cert.Exchange.τ).loc Cert.Exchange.main_arg3)
      ∧ r.2.mem ((c.tc : Thread Cert.Exchange.nD Cert.Exchange.τ).loc Cert.Exchange.main_arg4) = m ((c.tc : Thread Cert.Exchange.nD Cert.Exchange.τ).loc Cert.Exchange.main_arg4)
      ∧ r.2.mem ((c.tc : Thread Cert.Exchange.nD Cert.Exchange.τ).loc Cert.Exchange.main_arg5) = m ((c.tc : Thread Cert.Exchange.nD Cert.Exchange.τ).loc Cert.Exchange.main_arg5)
      ∧ r.2.mem ((c.tc : Thread Cert.Exchange.nD Cert.Exchange.τ).loc Cert.Exchange.main_arg6) = m ((c.tc : Thread Cert.Exchange.nD Cert.Exchange.τ).loc Cert.Exchange.main_arg6)
      ∧ r.2.mem ((c.tc : Thread Cert.Exchange.nD Cert.Exchange.τ).loc Cert.Exchange.main_arg7) = m ((c.tc : Thread Cert.Exchange.nD Cert.Exchange.τ).loc Cert.Exchange.main_arg7))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
      ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
      ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3)
      ∧ r.2.mem ((c.tc : Thread Cert.ExchangeIdeal.nD Cert.ExchangeIdeal.τ).loc Cert.ExchangeIdeal.main_arg4) = m ((c.tc : Thread Cert.ExchangeIdeal.nD Cert.ExchangeIdeal.τ).loc Cert.ExchangeIdeal.main_arg4)
      ∧ r.2.mem ((c.tc : Thread Cert.ExchangeIdeal.nD Cert.ExchangeIdeal.τ).loc Cert.ExchangeIdeal.main_arg5) = m ((c.tc : Thread Cert.ExchangeIdeal.nD Cert.ExchangeIdeal.τ).loc Cert.ExchangeIdeal.main_arg5)
      ∧ r.2.mem ((c.tc : Thread Cert.ExchangeIdeal.nD Cert.ExchangeIdeal.τ).loc Cert.ExchangeIdeal.main_arg6) = m ((c.tc : Thread Cert.ExchangeIdeal.nD Cert.ExchangeIdeal.τ).loc Cert.ExchangeIdeal.main_arg6)
      ∧ r.2.mem ((c.tc : Thread Cert.ExchangeIdeal.nD Cert.ExchangeIdeal.τ).loc Cert.ExchangeIdeal.main_arg7) = m ((c.tc : Thread Cert.ExchangeIdeal.nD Cert.ExchangeIdeal.τ).loc Cert.ExchangeIdeal.main_arg7))
      ∧ r.2.sem = fun _ => 0)

def quiescent_ExchangeRefIdeal [hExchangeRefIdeal : Cert.ExchangeRefIdeal.Facts] : Prop :=
  ∀ (m : (ℓ : Loc Cert.ExchangeRefIdeal.nD Cert.ExchangeRefIdeal.τ Cert.ExchangeRefIdeal.sig) → Buf (Elt Ideal) ℓ) (g : Dev Cert.ExchangeRefIdeal.nD → PrngReg), Pre_ExchangeRefIdeal m →
    θ_run (Cert.ExchangeRefIdeal.defs (F := Ideal)) (onTc (τ := Cert.ExchangeRefIdeal.τ) (Cert.ExchangeRefIdeal.main (F := Ideal))) ⟨m, fun _ => 0, g⟩ (fun r => (∀ c : Dev Cert.ExchangeRefIdeal.nD,
      r.2.mem ((c.tc : Thread Cert.ExchangeRefIdeal.nD Cert.ExchangeRefIdeal.τ).loc Cert.ExchangeRefIdeal.main_arg0) = m ((c.tc : Thread Cert.ExchangeRefIdeal.nD Cert.ExchangeRefIdeal.τ).loc Cert.ExchangeRefIdeal.main_arg0)
      ∧ r.2.mem ((c.tc : Thread Cert.ExchangeRefIdeal.nD Cert.ExchangeRefIdeal.τ).loc Cert.ExchangeRefIdeal.main_arg1) = m ((c.tc : Thread Cert.ExchangeRefIdeal.nD Cert.ExchangeRefIdeal.τ).loc Cert.ExchangeRefIdeal.main_arg1)
      ∧ r.2.mem ((c.tc : Thread Cert.ExchangeRefIdeal.nD Cert.ExchangeRefIdeal.τ).loc Cert.ExchangeRefIdeal.main_arg2) = m ((c.tc : Thread Cert.ExchangeRefIdeal.nD Cert.ExchangeRefIdeal.τ).loc Cert.ExchangeRefIdeal.main_arg2)
      ∧ r.2.mem ((c.tc : Thread Cert.ExchangeRefIdeal.nD Cert.ExchangeRefIdeal.τ).loc Cert.ExchangeRefIdeal.main_arg3) = m ((c.tc : Thread Cert.ExchangeRefIdeal.nD Cert.ExchangeRefIdeal.τ).loc Cert.ExchangeRefIdeal.main_arg3)
      ∧ r.2.mem ((c.tc : Thread Cert.ExchangeRefIdeal.nD Cert.ExchangeRefIdeal.τ).loc Cert.ExchangeRefIdeal.main_arg4) = m ((c.tc : Thread Cert.ExchangeRefIdeal.nD Cert.ExchangeRefIdeal.τ).loc Cert.ExchangeRefIdeal.main_arg4)
      ∧ r.2.mem ((c.tc : Thread Cert.ExchangeRefIdeal.nD Cert.ExchangeRefIdeal.τ).loc Cert.ExchangeRefIdeal.main_arg5) = m ((c.tc : Thread Cert.ExchangeRefIdeal.nD Cert.ExchangeRefIdeal.τ).loc Cert.ExchangeRefIdeal.main_arg5)
      ∧ r.2.mem ((c.tc : Thread Cert.ExchangeRefIdeal.nD Cert.ExchangeRefIdeal.τ).loc Cert.ExchangeRefIdeal.main_arg6) = m ((c.tc : Thread Cert.ExchangeRefIdeal.nD Cert.ExchangeRefIdeal.τ).loc Cert.ExchangeRefIdeal.main_arg6)
      ∧ r.2.mem ((c.tc : Thread Cert.ExchangeRefIdeal.nD Cert.ExchangeRefIdeal.τ).loc Cert.ExchangeRefIdeal.main_arg7) = m ((c.tc : Thread Cert.ExchangeRefIdeal.nD Cert.ExchangeRefIdeal.τ).loc Cert.ExchangeRefIdeal.main_arg7))
      ∧ r.2.sem = fun _ => 0)

def quiescent_ExchangeRef [hExchangeRef : Cert.ExchangeRef.Facts] : Prop :=
  ∀ (m : (ℓ : Loc Cert.ExchangeRef.nD Cert.ExchangeRef.τ Cert.ExchangeRef.sig) → Buf (Elt Bits) ℓ) (g : Dev Cert.ExchangeRef.nD → PrngReg), Pre_ExchangeRef m →
    θ_run (Cert.ExchangeRef.defs (F := Bits)) (onTc (τ := Cert.ExchangeRef.τ) (Cert.ExchangeRef.main (F := Bits))) ⟨m, fun _ => 0, g⟩ (fun r => (∀ c : Dev Cert.ExchangeRef.nD,
      r.2.mem ((c.tc : Thread Cert.ExchangeRef.nD Cert.ExchangeRef.τ).loc Cert.ExchangeRef.main_arg0) = m ((c.tc : Thread Cert.ExchangeRef.nD Cert.ExchangeRef.τ).loc Cert.ExchangeRef.main_arg0)
      ∧ r.2.mem ((c.tc : Thread Cert.ExchangeRef.nD Cert.ExchangeRef.τ).loc Cert.ExchangeRef.main_arg1) = m ((c.tc : Thread Cert.ExchangeRef.nD Cert.ExchangeRef.τ).loc Cert.ExchangeRef.main_arg1)
      ∧ r.2.mem ((c.tc : Thread Cert.ExchangeRef.nD Cert.ExchangeRef.τ).loc Cert.ExchangeRef.main_arg2) = m ((c.tc : Thread Cert.ExchangeRef.nD Cert.ExchangeRef.τ).loc Cert.ExchangeRef.main_arg2)
      ∧ r.2.mem ((c.tc : Thread Cert.ExchangeRef.nD Cert.ExchangeRef.τ).loc Cert.ExchangeRef.main_arg3) = m ((c.tc : Thread Cert.ExchangeRef.nD Cert.ExchangeRef.τ).loc Cert.ExchangeRef.main_arg3)
      ∧ r.2.mem ((c.tc : Thread Cert.ExchangeRef.nD Cert.ExchangeRef.τ).loc Cert.ExchangeRef.main_arg4) = m ((c.tc : Thread Cert.ExchangeRef.nD Cert.ExchangeRef.τ).loc Cert.ExchangeRef.main_arg4)
      ∧ r.2.mem ((c.tc : Thread Cert.ExchangeRef.nD Cert.ExchangeRef.τ).loc Cert.ExchangeRef.main_arg5) = m ((c.tc : Thread Cert.ExchangeRef.nD Cert.ExchangeRef.τ).loc Cert.ExchangeRef.main_arg5)
      ∧ r.2.mem ((c.tc : Thread Cert.ExchangeRef.nD Cert.ExchangeRef.τ).loc Cert.ExchangeRef.main_arg6) = m ((c.tc : Thread Cert.ExchangeRef.nD Cert.ExchangeRef.τ).loc Cert.ExchangeRef.main_arg6)
      ∧ r.2.mem ((c.tc : Thread Cert.ExchangeRef.nD Cert.ExchangeRef.τ).loc Cert.ExchangeRef.main_arg7) = m ((c.tc : Thread Cert.ExchangeRef.nD Cert.ExchangeRef.τ).loc Cert.ExchangeRef.main_arg7))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3)
      ∧ r.2.mem ((c.tc : Thread Cert.Join.nD Cert.Join.τ).loc Cert.Join.main_arg4) = m ((c.tc : Thread Cert.Join.nD Cert.Join.τ).loc Cert.Join.main_arg4)
      ∧ r.2.mem ((c.tc : Thread Cert.Join.nD Cert.Join.τ).loc Cert.Join.main_arg5) = m ((c.tc : Thread Cert.Join.nD Cert.Join.τ).loc Cert.Join.main_arg5)
      ∧ r.2.mem ((c.tc : Thread Cert.Join.nD Cert.Join.τ).loc Cert.Join.main_arg6) = m ((c.tc : Thread Cert.Join.nD Cert.Join.τ).loc Cert.Join.main_arg6))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
      ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
      ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3)
      ∧ r.2.mem ((c.tc : Thread Cert.JoinRefIdeal.nD Cert.JoinRefIdeal.τ).loc Cert.JoinRefIdeal.main_arg4) = m ((c.tc : Thread Cert.JoinRefIdeal.nD Cert.JoinRefIdeal.τ).loc Cert.JoinRefIdeal.main_arg4)
      ∧ r.2.mem ((c.tc : Thread Cert.JoinRefIdeal.nD Cert.JoinRefIdeal.τ).loc Cert.JoinRefIdeal.main_arg5) = m ((c.tc : Thread Cert.JoinRefIdeal.nD Cert.JoinRefIdeal.τ).loc Cert.JoinRefIdeal.main_arg5)
      ∧ r.2.mem ((c.tc : Thread Cert.JoinRefIdeal.nD Cert.JoinRefIdeal.τ).loc Cert.JoinRefIdeal.main_arg6) = m ((c.tc : Thread Cert.JoinRefIdeal.nD Cert.JoinRefIdeal.τ).loc Cert.JoinRefIdeal.main_arg6))
      ∧ r.2.sem = fun _ => 0)

def quiescent_JoinRef [hJoinRef : Cert.JoinRef.Facts] : Prop :=
  ∀ (m : (ℓ : Loc Cert.JoinRef.nD Cert.JoinRef.τ Cert.JoinRef.sig) → Buf (Elt Bits) ℓ) (g : Dev Cert.JoinRef.nD → PrngReg), Pre_JoinRef m →
    θ_run (Cert.JoinRef.defs (F := Bits)) (onTc (τ := Cert.JoinRef.τ) (Cert.JoinRef.main (F := Bits))) ⟨m, fun _ => 0, g⟩ (fun r => (∀ c : Dev Cert.JoinRef.nD,
      r.2.mem ((c.tc : Thread Cert.JoinRef.nD Cert.JoinRef.τ).loc Cert.JoinRef.main_arg0) = m ((c.tc : Thread Cert.JoinRef.nD Cert.JoinRef.τ).loc Cert.JoinRef.main_arg0)
      ∧ r.2.mem ((c.tc : Thread Cert.JoinRef.nD Cert.JoinRef.τ).loc Cert.JoinRef.main_arg1) = m ((c.tc : Thread Cert.JoinRef.nD Cert.JoinRef.τ).loc Cert.JoinRef.main_arg1)
      ∧ r.2.mem ((c.tc : Thread Cert.JoinRef.nD Cert.JoinRef.τ).loc Cert.JoinRef.main_arg2) = m ((c.tc : Thread Cert.JoinRef.nD Cert.JoinRef.τ).loc Cert.JoinRef.main_arg2)
      ∧ r.2.mem ((c.tc : Thread Cert.JoinRef.nD Cert.JoinRef.τ).loc Cert.JoinRef.main_arg3) = m ((c.tc : Thread Cert.JoinRef.nD Cert.JoinRef.τ).loc Cert.JoinRef.main_arg3)
      ∧ r.2.mem ((c.tc : Thread Cert.JoinRef.nD Cert.JoinRef.τ).loc Cert.JoinRef.main_arg4) = m ((c.tc : Thread Cert.JoinRef.nD Cert.JoinRef.τ).loc Cert.JoinRef.main_arg4)
      ∧ r.2.mem ((c.tc : Thread Cert.JoinRef.nD Cert.JoinRef.τ).loc Cert.JoinRef.main_arg5) = m ((c.tc : Thread Cert.JoinRef.nD Cert.JoinRef.τ).loc Cert.JoinRef.main_arg5)
      ∧ r.2.mem ((c.tc : Thread Cert.JoinRef.nD Cert.JoinRef.τ).loc Cert.JoinRef.main_arg6) = m ((c.tc : Thread Cert.JoinRef.nD Cert.JoinRef.τ).loc Cert.JoinRef.main_arg6))
      ∧ r.2.sem = fun _ => 0)

def quiescent_AdamWin [hAdamWin : Cert.AdamWin.Facts] : Prop :=
  ∀ (m : (ℓ : Loc Cert.AdamWin.nD Cert.AdamWin.τ Cert.AdamWin.sig) → Buf (Elt Bits) ℓ) (g : Dev Cert.AdamWin.nD → PrngReg), Pre_AdamWin m →
    θ_run (Cert.AdamWin.defs (F := Bits)) (onTc (τ := Cert.AdamWin.τ) (Cert.AdamWin.main (F := Bits))) ⟨m, fun _ => 0, g⟩ (fun r => (∀ c : Dev Cert.AdamWin.nD,
      r.2.mem ((c.tc : Thread Cert.AdamWin.nD Cert.AdamWin.τ).loc Cert.AdamWin.main_arg0) = m ((c.tc : Thread Cert.AdamWin.nD Cert.AdamWin.τ).loc Cert.AdamWin.main_arg0)
      ∧ r.2.mem ((c.tc : Thread Cert.AdamWin.nD Cert.AdamWin.τ).loc Cert.AdamWin.main_arg1) = m ((c.tc : Thread Cert.AdamWin.nD Cert.AdamWin.τ).loc Cert.AdamWin.main_arg1)
      ∧ r.2.mem ((c.tc : Thread Cert.AdamWin.nD Cert.AdamWin.τ).loc Cert.AdamWin.main_arg2) = m ((c.tc : Thread Cert.AdamWin.nD Cert.AdamWin.τ).loc Cert.AdamWin.main_arg2)
      ∧ r.2.mem ((c.tc : Thread Cert.AdamWin.nD Cert.AdamWin.τ).loc Cert.AdamWin.main_arg3) = m ((c.tc : Thread Cert.AdamWin.nD Cert.AdamWin.τ).loc Cert.AdamWin.main_arg3))
      ∧ r.2.sem = fun _ => 0)

def quiescent_AdamWinIdeal [hAdamWinIdeal : Cert.AdamWinIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg), Pre_AdamWinIdeal m →
    θ_run (Cert.AdamWinIdeal.defs (F := Ideal)) (onTc (τ := Cert.AdamWinIdeal.τ) (Cert.AdamWinIdeal.main (F := Ideal))) ⟨m, fun _ => 0, g⟩ (fun r => (∀ c : Dev Cert.AdamWinIdeal.nD,
      r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
      ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
      ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
      ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3))
      ∧ r.2.sem = fun _ => 0)

def quiescent_AdamWinRefIdeal [hAdamWinRefIdeal : Cert.AdamWinRefIdeal.Facts] : Prop :=
  ∀ (m : (ℓ : Loc Cert.AdamWinRefIdeal.nD Cert.AdamWinRefIdeal.τ Cert.AdamWinRefIdeal.sig) → Buf (Elt Ideal) ℓ) (g : Dev Cert.AdamWinRefIdeal.nD → PrngReg), Pre_AdamWinRefIdeal m →
    θ_run (Cert.AdamWinRefIdeal.defs (F := Ideal)) (onTc (τ := Cert.AdamWinRefIdeal.τ) (Cert.AdamWinRefIdeal.main (F := Ideal))) ⟨m, fun _ => 0, g⟩ (fun r => (∀ c : Dev Cert.AdamWinRefIdeal.nD,
      r.2.mem ((c.tc : Thread Cert.AdamWinRefIdeal.nD Cert.AdamWinRefIdeal.τ).loc Cert.AdamWinRefIdeal.main_arg0) = m ((c.tc : Thread Cert.AdamWinRefIdeal.nD Cert.AdamWinRefIdeal.τ).loc Cert.AdamWinRefIdeal.main_arg0)
      ∧ r.2.mem ((c.tc : Thread Cert.AdamWinRefIdeal.nD Cert.AdamWinRefIdeal.τ).loc Cert.AdamWinRefIdeal.main_arg1) = m ((c.tc : Thread Cert.AdamWinRefIdeal.nD Cert.AdamWinRefIdeal.τ).loc Cert.AdamWinRefIdeal.main_arg1)
      ∧ r.2.mem ((c.tc : Thread Cert.AdamWinRefIdeal.nD Cert.AdamWinRefIdeal.τ).loc Cert.AdamWinRefIdeal.main_arg2) = m ((c.tc : Thread Cert.AdamWinRefIdeal.nD Cert.AdamWinRefIdeal.τ).loc Cert.AdamWinRefIdeal.main_arg2)
      ∧ r.2.mem ((c.tc : Thread Cert.AdamWinRefIdeal.nD Cert.AdamWinRefIdeal.τ).loc Cert.AdamWinRefIdeal.main_arg3) = m ((c.tc : Thread Cert.AdamWinRefIdeal.nD Cert.AdamWinRefIdeal.τ).loc Cert.AdamWinRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamRow [hAdamRow : Cert.AdamRow.Facts] : Prop :=
  ∀ (m : (ℓ : Loc Cert.AdamRow.nD Cert.AdamRow.τ Cert.AdamRow.sig) → Buf (Elt Bits) ℓ) (g : Dev Cert.AdamRow.nD → PrngReg), Pre_AdamRow m →
    θ_run (Cert.AdamRow.defs (F := Bits)) (onTc (τ := Cert.AdamRow.τ) (Cert.AdamRow.main (F := Bits))) ⟨m, fun _ => 0, g⟩ (fun r => (∀ c : Dev Cert.AdamRow.nD,
      r.2.mem ((c.tc : Thread Cert.AdamRow.nD Cert.AdamRow.τ).loc Cert.AdamRow.main_arg0) = m ((c.tc : Thread Cert.AdamRow.nD Cert.AdamRow.τ).loc Cert.AdamRow.main_arg0)
      ∧ r.2.mem ((c.tc : Thread Cert.AdamRow.nD Cert.AdamRow.τ).loc Cert.AdamRow.main_arg1) = m ((c.tc : Thread Cert.AdamRow.nD Cert.AdamRow.τ).loc Cert.AdamRow.main_arg1)
      ∧ r.2.mem ((c.tc : Thread Cert.AdamRow.nD Cert.AdamRow.τ).loc Cert.AdamRow.main_arg2) = m ((c.tc : Thread Cert.AdamRow.nD Cert.AdamRow.τ).loc Cert.AdamRow.main_arg2)
      ∧ r.2.mem ((c.tc : Thread Cert.AdamRow.nD Cert.AdamRow.τ).loc Cert.AdamRow.main_arg3) = m ((c.tc : Thread Cert.AdamRow.nD Cert.AdamRow.τ).loc Cert.AdamRow.main_arg3))
      ∧ r.2.sem = fun _ => 0)

def quiescent_AdamRowIdeal [hAdamRowIdeal : Cert.AdamRowIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg), Pre_AdamRowIdeal m →
    θ_run (Cert.AdamRowIdeal.defs (F := Ideal)) (onTc (τ := Cert.AdamRowIdeal.τ) (Cert.AdamRowIdeal.main (F := Ideal))) ⟨m, fun _ => 0, g⟩ (fun r => (∀ c : Dev Cert.AdamRowIdeal.nD,
      r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
      ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
      ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
      ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ r.2.sem = fun _ => 0)

def quiescent_AdamRowRefIdeal [hAdamRowRefIdeal : Cert.AdamRowRefIdeal.Facts] : Prop :=
  ∀ (m : (ℓ : Loc Cert.AdamRowRefIdeal.nD Cert.AdamRowRefIdeal.τ Cert.AdamRowRefIdeal.sig) → Buf (Elt Ideal) ℓ) (g : Dev Cert.AdamRowRefIdeal.nD → PrngReg), Pre_AdamRowRefIdeal m →
    θ_run (Cert.AdamRowRefIdeal.defs (F := Ideal)) (onTc (τ := Cert.AdamRowRefIdeal.τ) (Cert.AdamRowRefIdeal.main (F := Ideal))) ⟨m, fun _ => 0, g⟩ (fun r => (∀ c : Dev Cert.AdamRowRefIdeal.nD,
      r.2.mem ((c.tc : Thread Cert.AdamRowRefIdeal.nD Cert.AdamRowRefIdeal.τ).loc Cert.AdamRowRefIdeal.main_arg0) = m ((c.tc : Thread Cert.AdamRowRefIdeal.nD Cert.AdamRowRefIdeal.τ).loc Cert.AdamRowRefIdeal.main_arg0)
      ∧ r.2.mem ((c.tc : Thread Cert.AdamRowRefIdeal.nD Cert.AdamRowRefIdeal.τ).loc Cert.AdamRowRefIdeal.main_arg1) = m ((c.tc : Thread Cert.AdamRowRefIdeal.nD Cert.AdamRowRefIdeal.τ).loc Cert.AdamRowRefIdeal.main_arg1)
      ∧ r.2.mem ((c.tc : Thread Cert.AdamRowRefIdeal.nD Cert.AdamRowRefIdeal.τ).loc Cert.AdamRowRefIdeal.main_arg2) = m ((c.tc : Thread Cert.AdamRowRefIdeal.nD Cert.AdamRowRefIdeal.τ).loc Cert.AdamRowRefIdeal.main_arg2)
      ∧ r.2.mem ((c.tc : Thread Cert.AdamRowRefIdeal.nD Cert.AdamRowRefIdeal.τ).loc Cert.AdamRowRefIdeal.main_arg3) = m ((c.tc : Thread Cert.AdamRowRefIdeal.nD Cert.AdamRowRefIdeal.τ).loc Cert.AdamRowRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamRepl [hAdamRepl : Cert.AdamRepl.Facts] : Prop :=
  ∀ (m : (ℓ : Loc Cert.AdamRepl.nD Cert.AdamRepl.τ Cert.AdamRepl.sig) → Buf (Elt Bits) ℓ) (g : Dev Cert.AdamRepl.nD → PrngReg), Pre_AdamRepl m →
    θ_run (Cert.AdamRepl.defs (F := Bits)) (onTc (τ := Cert.AdamRepl.τ) (Cert.AdamRepl.main (F := Bits))) ⟨m, fun _ => 0, g⟩ (fun r => (∀ c : Dev Cert.AdamRepl.nD,
      r.2.mem ((c.tc : Thread Cert.AdamRepl.nD Cert.AdamRepl.τ).loc Cert.AdamRepl.main_arg0) = m ((c.tc : Thread Cert.AdamRepl.nD Cert.AdamRepl.τ).loc Cert.AdamRepl.main_arg0)
      ∧ r.2.mem ((c.tc : Thread Cert.AdamRepl.nD Cert.AdamRepl.τ).loc Cert.AdamRepl.main_arg1) = m ((c.tc : Thread Cert.AdamRepl.nD Cert.AdamRepl.τ).loc Cert.AdamRepl.main_arg1)
      ∧ r.2.mem ((c.tc : Thread Cert.AdamRepl.nD Cert.AdamRepl.τ).loc Cert.AdamRepl.main_arg2) = m ((c.tc : Thread Cert.AdamRepl.nD Cert.AdamRepl.τ).loc Cert.AdamRepl.main_arg2)
      ∧ r.2.mem ((c.tc : Thread Cert.AdamRepl.nD Cert.AdamRepl.τ).loc Cert.AdamRepl.main_arg3) = m ((c.tc : Thread Cert.AdamRepl.nD Cert.AdamRepl.τ).loc Cert.AdamRepl.main_arg3))
      ∧ r.2.sem = fun _ => 0)

def quiescent_AdamReplIdeal [hAdamReplIdeal : Cert.AdamReplIdeal.Facts] : Prop :=
  ∀ (m : (ℓ : Loc Cert.AdamReplIdeal.nD Cert.AdamReplIdeal.τ Cert.AdamReplIdeal.sig) → Buf (Elt Ideal) ℓ) (g : Dev Cert.AdamReplIdeal.nD → PrngReg), Pre_AdamReplIdeal m →
    θ_run (Cert.AdamReplIdeal.defs (F := Ideal)) (onTc (τ := Cert.AdamReplIdeal.τ) (Cert.AdamReplIdeal.main (F := Ideal))) ⟨m, fun _ => 0, g⟩ (fun r => (∀ c : Dev Cert.AdamReplIdeal.nD,
      r.2.mem ((c.tc : Thread Cert.AdamReplIdeal.nD Cert.AdamReplIdeal.τ).loc Cert.AdamReplIdeal.main_arg0) = m ((c.tc : Thread Cert.AdamReplIdeal.nD Cert.AdamReplIdeal.τ).loc Cert.AdamReplIdeal.main_arg0)
      ∧ r.2.mem ((c.tc : Thread Cert.AdamReplIdeal.nD Cert.AdamReplIdeal.τ).loc Cert.AdamReplIdeal.main_arg1) = m ((c.tc : Thread Cert.AdamReplIdeal.nD Cert.AdamReplIdeal.τ).loc Cert.AdamReplIdeal.main_arg1)
      ∧ r.2.mem ((c.tc : Thread Cert.AdamReplIdeal.nD Cert.AdamReplIdeal.τ).loc Cert.AdamReplIdeal.main_arg2) = m ((c.tc : Thread Cert.AdamReplIdeal.nD Cert.AdamReplIdeal.τ).loc Cert.AdamReplIdeal.main_arg2)
      ∧ r.2.mem ((c.tc : Thread Cert.AdamReplIdeal.nD Cert.AdamReplIdeal.τ).loc Cert.AdamReplIdeal.main_arg3) = m ((c.tc : Thread Cert.AdamReplIdeal.nD Cert.AdamReplIdeal.τ).loc Cert.AdamReplIdeal.main_arg3))
      ∧ r.2.sem = fun _ => 0)

def quiescent_AdamReplRefIdeal [hAdamReplRefIdeal : Cert.AdamReplRefIdeal.Facts] : Prop :=
  ∀ (m : (ℓ : Loc Cert.AdamReplRefIdeal.nD Cert.AdamReplRefIdeal.τ Cert.AdamReplRefIdeal.sig) → Buf (Elt Ideal) ℓ) (g : Dev Cert.AdamReplRefIdeal.nD → PrngReg), Pre_AdamReplRefIdeal m →
    θ_run (Cert.AdamReplRefIdeal.defs (F := Ideal)) (onTc (τ := Cert.AdamReplRefIdeal.τ) (Cert.AdamReplRefIdeal.main (F := Ideal))) ⟨m, fun _ => 0, g⟩ (fun r => (∀ c : Dev Cert.AdamReplRefIdeal.nD,
      r.2.mem ((c.tc : Thread Cert.AdamReplRefIdeal.nD Cert.AdamReplRefIdeal.τ).loc Cert.AdamReplRefIdeal.main_arg0) = m ((c.tc : Thread Cert.AdamReplRefIdeal.nD Cert.AdamReplRefIdeal.τ).loc Cert.AdamReplRefIdeal.main_arg0)
      ∧ r.2.mem ((c.tc : Thread Cert.AdamReplRefIdeal.nD Cert.AdamReplRefIdeal.τ).loc Cert.AdamReplRefIdeal.main_arg1) = m ((c.tc : Thread Cert.AdamReplRefIdeal.nD Cert.AdamReplRefIdeal.τ).loc Cert.AdamReplRefIdeal.main_arg1)
      ∧ r.2.mem ((c.tc : Thread Cert.AdamReplRefIdeal.nD Cert.AdamReplRefIdeal.τ).loc Cert.AdamReplRefIdeal.main_arg2) = m ((c.tc : Thread Cert.AdamReplRefIdeal.nD Cert.AdamReplRefIdeal.τ).loc Cert.AdamReplRefIdeal.main_arg2)
      ∧ r.2.mem ((c.tc : Thread Cert.AdamReplRefIdeal.nD Cert.AdamReplRefIdeal.τ).loc Cert.AdamReplRefIdeal.main_arg3) = m ((c.tc : Thread Cert.AdamReplRefIdeal.nD Cert.AdamReplRefIdeal.τ).loc Cert.AdamReplRefIdeal.main_arg3))
      ∧ r.2.sem = fun _ => 0)

def quiescent_PackSmall [hPackSmall : Cert.PackSmall.Facts] : Prop :=
  ∀ (m : (ℓ : Loc Cert.PackSmall.nD Cert.PackSmall.τ Cert.PackSmall.sig) → Buf (Elt Bits) ℓ) (g : Dev Cert.PackSmall.nD → PrngReg), Pre_PackSmall m →
    θ_run (Cert.PackSmall.defs (F := Bits)) (onTc (τ := Cert.PackSmall.τ) (Cert.PackSmall.main (F := Bits))) ⟨m, fun _ => 0, g⟩ (fun r => (∀ c : Dev Cert.PackSmall.nD,
      r.2.mem ((c.tc : Thread Cert.PackSmall.nD Cert.PackSmall.τ).loc Cert.PackSmall.main_arg0) = m ((c.tc : Thread Cert.PackSmall.nD Cert.PackSmall.τ).loc Cert.PackSmall.main_arg0)
      ∧ r.2.mem ((c.tc : Thread Cert.PackSmall.nD Cert.PackSmall.τ).loc Cert.PackSmall.main_arg1) = m ((c.tc : Thread Cert.PackSmall.nD Cert.PackSmall.τ).loc Cert.PackSmall.main_arg1)
      ∧ r.2.mem ((c.tc : Thread Cert.PackSmall.nD Cert.PackSmall.τ).loc Cert.PackSmall.main_arg2) = m ((c.tc : Thread Cert.PackSmall.nD Cert.PackSmall.τ).loc Cert.PackSmall.main_arg2)
      ∧ r.2.mem ((c.tc : Thread Cert.PackSmall.nD Cert.PackSmall.τ).loc Cert.PackSmall.main_arg3) = m ((c.tc : Thread Cert.PackSmall.nD Cert.PackSmall.τ).loc Cert.PackSmall.main_arg3)
      ∧ r.2.mem ((c.tc : Thread Cert.PackSmall.nD Cert.PackSmall.τ).loc Cert.PackSmall.main_arg4) = m ((c.tc : Thread Cert.PackSmall.nD Cert.PackSmall.τ).loc Cert.PackSmall.main_arg4)
      ∧ r.2.mem ((c.tc : Thread Cert.PackSmall.nD Cert.PackSmall.τ).loc Cert.PackSmall.main_arg5) = m ((c.tc : Thread Cert.PackSmall.nD Cert.PackSmall.τ).loc Cert.PackSmall.main_arg5)
      ∧ r.2.mem ((c.tc : Thread Cert.PackSmall.nD Cert.PackSmall.τ).loc Cert.PackSmall.main_arg6) = m ((c.tc : Thread Cert.PackSmall.nD Cert.PackSmall.τ).loc Cert.PackSmall.main_arg6)
      ∧ r.2.mem ((c.tc : Thread Cert.PackSmall.nD Cert.PackSmall.τ).loc Cert.PackSmall.main_arg7) = m ((c.tc : Thread Cert.PackSmall.nD Cert.PackSmall.τ).loc Cert.PackSmall.main_arg7)
      ∧ r.2.mem ((c.tc : Thread Cert.PackSmall.nD Cert.PackSmall.τ).loc Cert.PackSmall.main_arg8) = m ((c.tc : Thread Cert.PackSmall.nD Cert.PackSmall.τ).loc Cert.PackSmall.main_arg8)
      ∧ r.2.mem ((c.tc : Thread Cert.PackSmall.nD Cert.PackSmall.τ).loc Cert.PackSmall.main_arg9) = m ((c.tc : Thread Cert.PackSmall.nD Cert.PackSmall.τ).loc Cert.PackSmall.main_arg9)
      ∧ r.2.mem ((c.tc : Thread Cert.PackSmall.nD Cert.PackSmall.τ).loc Cert.PackSmall.main_arg10) = m ((c.tc : Thread Cert.PackSmall.nD Cert.PackSmall.τ).loc Cert.PackSmall.main_arg10)
      ∧ r.2.mem ((c.tc : Thread Cert.PackSmall.nD Cert.PackSmall.τ).loc Cert.PackSmall.main_arg11) = m ((c.tc : Thread Cert.PackSmall.nD Cert.PackSmall.τ).loc Cert.PackSmall.main_arg11)
      ∧ r.2.mem ((c.tc : Thread Cert.PackSmall.nD Cert.PackSmall.τ).loc Cert.PackSmall.main_arg12) = m ((c.tc : Thread Cert.PackSmall.nD Cert.PackSmall.τ).loc Cert.PackSmall.main_arg12)
      ∧ r.2.mem ((c.tc : Thread Cert.PackSmall.nD Cert.PackSmall.τ).loc Cert.PackSmall.main_arg13) = m ((c.tc : Thread Cert.PackSmall.nD Cert.PackSmall.τ).loc Cert.PackSmall.main_arg13)
      ∧ r.2.mem ((c.tc : Thread Cert.PackSmall.nD Cert.PackSmall.τ).loc Cert.PackSmall.main_arg14) = m ((c.tc : Thread Cert.PackSmall.nD Cert.PackSmall.τ).loc Cert.PackSmall.main_arg14)
      ∧ r.2.mem ((c.tc : Thread Cert.PackSmall.nD Cert.PackSmall.τ).loc Cert.PackSmall.main_arg15) = m ((c.tc : Thread Cert.PackSmall.nD Cert.PackSmall.τ).loc Cert.PackSmall.main_arg15)
      ∧ r.2.mem ((c.tc : Thread Cert.PackSmall.nD Cert.PackSmall.τ).loc Cert.PackSmall.main_arg16) = m ((c.tc : Thread Cert.PackSmall.nD Cert.PackSmall.τ).loc Cert.PackSmall.main_arg16)
      ∧ r.2.mem ((c.tc : Thread Cert.PackSmall.nD Cert.PackSmall.τ).loc Cert.PackSmall.main_arg17) = m ((c.tc : Thread Cert.PackSmall.nD Cert.PackSmall.τ).loc Cert.PackSmall.main_arg17)
      ∧ r.2.mem ((c.tc : Thread Cert.PackSmall.nD Cert.PackSmall.τ).loc Cert.PackSmall.main_arg18) = m ((c.tc : Thread Cert.PackSmall.nD Cert.PackSmall.τ).loc Cert.PackSmall.main_arg18)
      ∧ r.2.mem ((c.tc : Thread Cert.PackSmall.nD Cert.PackSmall.τ).loc Cert.PackSmall.main_arg19) = m ((c.tc : Thread Cert.PackSmall.nD Cert.PackSmall.τ).loc Cert.PackSmall.main_arg19)
      ∧ r.2.mem ((c.tc : Thread Cert.PackSmall.nD Cert.PackSmall.τ).loc Cert.PackSmall.main_arg20) = m ((c.tc : Thread Cert.PackSmall.nD Cert.PackSmall.τ).loc Cert.PackSmall.main_arg20)
      ∧ r.2.mem ((c.tc : Thread Cert.PackSmall.nD Cert.PackSmall.τ).loc Cert.PackSmall.main_arg21) = m ((c.tc : Thread Cert.PackSmall.nD Cert.PackSmall.τ).loc Cert.PackSmall.main_arg21)
      ∧ r.2.mem ((c.tc : Thread Cert.PackSmall.nD Cert.PackSmall.τ).loc Cert.PackSmall.main_arg22) = m ((c.tc : Thread Cert.PackSmall.nD Cert.PackSmall.τ).loc Cert.PackSmall.main_arg22)
      ∧ r.2.mem ((c.tc : Thread Cert.PackSmall.nD Cert.PackSmall.τ).loc Cert.PackSmall.main_arg23) = m ((c.tc : Thread Cert.PackSmall.nD Cert.PackSmall.τ).loc Cert.PackSmall.main_arg23)
      ∧ r.2.mem ((c.tc : Thread Cert.PackSmall.nD Cert.PackSmall.τ).loc Cert.PackSmall.main_arg24) = m ((c.tc : Thread Cert.PackSmall.nD Cert.PackSmall.τ).loc Cert.PackSmall.main_arg24)
      ∧ r.2.mem ((c.tc : Thread Cert.PackSmall.nD Cert.PackSmall.τ).loc Cert.PackSmall.main_arg25) = m ((c.tc : Thread Cert.PackSmall.nD Cert.PackSmall.τ).loc Cert.PackSmall.main_arg25)
      ∧ r.2.mem ((c.tc : Thread Cert.PackSmall.nD Cert.PackSmall.τ).loc Cert.PackSmall.main_arg26) = m ((c.tc : Thread Cert.PackSmall.nD Cert.PackSmall.τ).loc Cert.PackSmall.main_arg26)
      ∧ r.2.mem ((c.tc : Thread Cert.PackSmall.nD Cert.PackSmall.τ).loc Cert.PackSmall.main_arg27) = m ((c.tc : Thread Cert.PackSmall.nD Cert.PackSmall.τ).loc Cert.PackSmall.main_arg27))
      ∧ r.2.sem = fun _ => 0)

def quiescent_PackSmallIdeal [hPackSmallIdeal : Cert.PackSmallIdeal.Facts] : Prop :=
  ∀ (m : (ℓ : Loc Cert.PackSmallIdeal.nD Cert.PackSmallIdeal.τ Cert.PackSmallIdeal.sig) → Buf (Elt Ideal) ℓ) (g : Dev Cert.PackSmallIdeal.nD → PrngReg), Pre_PackSmallIdeal m →
    θ_run (Cert.PackSmallIdeal.defs (F := Ideal)) (onTc (τ := Cert.PackSmallIdeal.τ) (Cert.PackSmallIdeal.main (F := Ideal))) ⟨m, fun _ => 0, g⟩ (fun r => (∀ c : Dev Cert.PackSmallIdeal.nD,
      r.2.mem ((c.tc : Thread Cert.PackSmallIdeal.nD Cert.PackSmallIdeal.τ).loc Cert.PackSmallIdeal.main_arg0) = m ((c.tc : Thread Cert.PackSmallIdeal.nD Cert.PackSmallIdeal.τ).loc Cert.PackSmallIdeal.main_arg0)
      ∧ r.2.mem ((c.tc : Thread Cert.PackSmallIdeal.nD Cert.PackSmallIdeal.τ).loc Cert.PackSmallIdeal.main_arg1) = m ((c.tc : Thread Cert.PackSmallIdeal.nD Cert.PackSmallIdeal.τ).loc Cert.PackSmallIdeal.main_arg1)
      ∧ r.2.mem ((c.tc : Thread Cert.PackSmallIdeal.nD Cert.PackSmallIdeal.τ).loc Cert.PackSmallIdeal.main_arg2) = m ((c.tc : Thread Cert.PackSmallIdeal.nD Cert.PackSmallIdeal.τ).loc Cert.PackSmallIdeal.main_arg2)
      ∧ r.2.mem ((c.tc : Thread Cert.PackSmallIdeal.nD Cert.PackSmallIdeal.τ).loc Cert.PackSmallIdeal.main_arg3) = m ((c.tc : Thread Cert.PackSmallIdeal.nD Cert.PackSmallIdeal.τ).loc Cert.PackSmallIdeal.main_arg3)
      ∧ r.2.mem ((c.tc : Thread Cert.PackSmallIdeal.nD Cert.PackSmallIdeal.τ).loc Cert.PackSmallIdeal.main_arg4) = m ((c.tc : Thread Cert.PackSmallIdeal.nD Cert.PackSmallIdeal.τ).loc Cert.PackSmallIdeal.main_arg4)
      ∧ r.2.mem ((c.tc : Thread Cert.PackSmallIdeal.nD Cert.PackSmallIdeal.τ).loc Cert.PackSmallIdeal.main_arg5) = m ((c.tc : Thread Cert.PackSmallIdeal.nD Cert.PackSmallIdeal.τ).loc Cert.PackSmallIdeal.main_arg5)
      ∧ r.2.mem ((c.tc : Thread Cert.PackSmallIdeal.nD Cert.PackSmallIdeal.τ).loc Cert.PackSmallIdeal.main_arg6) = m ((c.tc : Thread Cert.PackSmallIdeal.nD Cert.PackSmallIdeal.τ).loc Cert.PackSmallIdeal.main_arg6)
      ∧ r.2.mem ((c.tc : Thread Cert.PackSmallIdeal.nD Cert.PackSmallIdeal.τ).loc Cert.PackSmallIdeal.main_arg7) = m ((c.tc : Thread Cert.PackSmallIdeal.nD Cert.PackSmallIdeal.τ).loc Cert.PackSmallIdeal.main_arg7)
      ∧ r.2.mem ((c.tc : Thread Cert.PackSmallIdeal.nD Cert.PackSmallIdeal.τ).loc Cert.PackSmallIdeal.main_arg8) = m ((c.tc : Thread Cert.PackSmallIdeal.nD Cert.PackSmallIdeal.τ).loc Cert.PackSmallIdeal.main_arg8)
      ∧ r.2.mem ((c.tc : Thread Cert.PackSmallIdeal.nD Cert.PackSmallIdeal.τ).loc Cert.PackSmallIdeal.main_arg9) = m ((c.tc : Thread Cert.PackSmallIdeal.nD Cert.PackSmallIdeal.τ).loc Cert.PackSmallIdeal.main_arg9)
      ∧ r.2.mem ((c.tc : Thread Cert.PackSmallIdeal.nD Cert.PackSmallIdeal.τ).loc Cert.PackSmallIdeal.main_arg10) = m ((c.tc : Thread Cert.PackSmallIdeal.nD Cert.PackSmallIdeal.τ).loc Cert.PackSmallIdeal.main_arg10)
      ∧ r.2.mem ((c.tc : Thread Cert.PackSmallIdeal.nD Cert.PackSmallIdeal.τ).loc Cert.PackSmallIdeal.main_arg11) = m ((c.tc : Thread Cert.PackSmallIdeal.nD Cert.PackSmallIdeal.τ).loc Cert.PackSmallIdeal.main_arg11)
      ∧ r.2.mem ((c.tc : Thread Cert.PackSmallIdeal.nD Cert.PackSmallIdeal.τ).loc Cert.PackSmallIdeal.main_arg12) = m ((c.tc : Thread Cert.PackSmallIdeal.nD Cert.PackSmallIdeal.τ).loc Cert.PackSmallIdeal.main_arg12)
      ∧ r.2.mem ((c.tc : Thread Cert.PackSmallIdeal.nD Cert.PackSmallIdeal.τ).loc Cert.PackSmallIdeal.main_arg13) = m ((c.tc : Thread Cert.PackSmallIdeal.nD Cert.PackSmallIdeal.τ).loc Cert.PackSmallIdeal.main_arg13)
      ∧ r.2.mem ((c.tc : Thread Cert.PackSmallIdeal.nD Cert.PackSmallIdeal.τ).loc Cert.PackSmallIdeal.main_arg14) = m ((c.tc : Thread Cert.PackSmallIdeal.nD Cert.PackSmallIdeal.τ).loc Cert.PackSmallIdeal.main_arg14)
      ∧ r.2.mem ((c.tc : Thread Cert.PackSmallIdeal.nD Cert.PackSmallIdeal.τ).loc Cert.PackSmallIdeal.main_arg15) = m ((c.tc : Thread Cert.PackSmallIdeal.nD Cert.PackSmallIdeal.τ).loc Cert.PackSmallIdeal.main_arg15)
      ∧ r.2.mem ((c.tc : Thread Cert.PackSmallIdeal.nD Cert.PackSmallIdeal.τ).loc Cert.PackSmallIdeal.main_arg16) = m ((c.tc : Thread Cert.PackSmallIdeal.nD Cert.PackSmallIdeal.τ).loc Cert.PackSmallIdeal.main_arg16)
      ∧ r.2.mem ((c.tc : Thread Cert.PackSmallIdeal.nD Cert.PackSmallIdeal.τ).loc Cert.PackSmallIdeal.main_arg17) = m ((c.tc : Thread Cert.PackSmallIdeal.nD Cert.PackSmallIdeal.τ).loc Cert.PackSmallIdeal.main_arg17)
      ∧ r.2.mem ((c.tc : Thread Cert.PackSmallIdeal.nD Cert.PackSmallIdeal.τ).loc Cert.PackSmallIdeal.main_arg18) = m ((c.tc : Thread Cert.PackSmallIdeal.nD Cert.PackSmallIdeal.τ).loc Cert.PackSmallIdeal.main_arg18)
      ∧ r.2.mem ((c.tc : Thread Cert.PackSmallIdeal.nD Cert.PackSmallIdeal.τ).loc Cert.PackSmallIdeal.main_arg19) = m ((c.tc : Thread Cert.PackSmallIdeal.nD Cert.PackSmallIdeal.τ).loc Cert.PackSmallIdeal.main_arg19)
      ∧ r.2.mem ((c.tc : Thread Cert.PackSmallIdeal.nD Cert.PackSmallIdeal.τ).loc Cert.PackSmallIdeal.main_arg20) = m ((c.tc : Thread Cert.PackSmallIdeal.nD Cert.PackSmallIdeal.τ).loc Cert.PackSmallIdeal.main_arg20)
      ∧ r.2.mem ((c.tc : Thread Cert.PackSmallIdeal.nD Cert.PackSmallIdeal.τ).loc Cert.PackSmallIdeal.main_arg21) = m ((c.tc : Thread Cert.PackSmallIdeal.nD Cert.PackSmallIdeal.τ).loc Cert.PackSmallIdeal.main_arg21)
      ∧ r.2.mem ((c.tc : Thread Cert.PackSmallIdeal.nD Cert.PackSmallIdeal.τ).loc Cert.PackSmallIdeal.main_arg22) = m ((c.tc : Thread Cert.PackSmallIdeal.nD Cert.PackSmallIdeal.τ).loc Cert.PackSmallIdeal.main_arg22)
      ∧ r.2.mem ((c.tc : Thread Cert.PackSmallIdeal.nD Cert.PackSmallIdeal.τ).loc Cert.PackSmallIdeal.main_arg23) = m ((c.tc : Thread Cert.PackSmallIdeal.nD Cert.PackSmallIdeal.τ).loc Cert.PackSmallIdeal.main_arg23)
      ∧ r.2.mem ((c.tc : Thread Cert.PackSmallIdeal.nD Cert.PackSmallIdeal.τ).loc Cert.PackSmallIdeal.main_arg24) = m ((c.tc : Thread Cert.PackSmallIdeal.nD Cert.PackSmallIdeal.τ).loc Cert.PackSmallIdeal.main_arg24)
      ∧ r.2.mem ((c.tc : Thread Cert.PackSmallIdeal.nD Cert.PackSmallIdeal.τ).loc Cert.PackSmallIdeal.main_arg25) = m ((c.tc : Thread Cert.PackSmallIdeal.nD Cert.PackSmallIdeal.τ).loc Cert.PackSmallIdeal.main_arg25)
      ∧ r.2.mem ((c.tc : Thread Cert.PackSmallIdeal.nD Cert.PackSmallIdeal.τ).loc Cert.PackSmallIdeal.main_arg26) = m ((c.tc : Thread Cert.PackSmallIdeal.nD Cert.PackSmallIdeal.τ).loc Cert.PackSmallIdeal.main_arg26)
      ∧ r.2.mem ((c.tc : Thread Cert.PackSmallIdeal.nD Cert.PackSmallIdeal.τ).loc Cert.PackSmallIdeal.main_arg27) = m ((c.tc : Thread Cert.PackSmallIdeal.nD Cert.PackSmallIdeal.τ).loc Cert.PackSmallIdeal.main_arg27))
      ∧ r.2.sem = fun _ => 0)

def quiescent_PackSmallRefIdeal [hPackSmallRefIdeal : Cert.PackSmallRefIdeal.Facts] : Prop :=
  ∀ (m : (ℓ : Loc Cert.PackSmallRefIdeal.nD Cert.PackSmallRefIdeal.τ Cert.PackSmallRefIdeal.sig) → Buf (Elt Ideal) ℓ) (g : Dev Cert.PackSmallRefIdeal.nD → PrngReg), Pre_PackSmallRefIdeal m →
    θ_run (Cert.PackSmallRefIdeal.defs (F := Ideal)) (onTc (τ := Cert.PackSmallRefIdeal.τ) (Cert.PackSmallRefIdeal.main (F := Ideal))) ⟨m, fun _ => 0, g⟩ (fun r => (∀ c : Dev Cert.PackSmallRefIdeal.nD,
      r.2.mem ((c.tc : Thread Cert.PackSmallRefIdeal.nD Cert.PackSmallRefIdeal.τ).loc Cert.PackSmallRefIdeal.main_arg0) = m ((c.tc : Thread Cert.PackSmallRefIdeal.nD Cert.PackSmallRefIdeal.τ).loc Cert.PackSmallRefIdeal.main_arg0)
      ∧ r.2.mem ((c.tc : Thread Cert.PackSmallRefIdeal.nD Cert.PackSmallRefIdeal.τ).loc Cert.PackSmallRefIdeal.main_arg1) = m ((c.tc : Thread Cert.PackSmallRefIdeal.nD Cert.PackSmallRefIdeal.τ).loc Cert.PackSmallRefIdeal.main_arg1)
      ∧ r.2.mem ((c.tc : Thread Cert.PackSmallRefIdeal.nD Cert.PackSmallRefIdeal.τ).loc Cert.PackSmallRefIdeal.main_arg2) = m ((c.tc : Thread Cert.PackSmallRefIdeal.nD Cert.PackSmallRefIdeal.τ).loc Cert.PackSmallRefIdeal.main_arg2)
      ∧ r.2.mem ((c.tc : Thread Cert.PackSmallRefIdeal.nD Cert.PackSmallRefIdeal.τ).loc Cert.PackSmallRefIdeal.main_arg3) = m ((c.tc : Thread Cert.PackSmallRefIdeal.nD Cert.PackSmallRefIdeal.τ).loc Cert.PackSmallRefIdeal.main_arg3)
      ∧ r.2.mem ((c.tc : Thread Cert.PackSmallRefIdeal.nD Cert.PackSmallRefIdeal.τ).loc Cert.PackSmallRefIdeal.main_arg4) = m ((c.tc : Thread Cert.PackSmallRefIdeal.nD Cert.PackSmallRefIdeal.τ).loc Cert.PackSmallRefIdeal.main_arg4)
      ∧ r.2.mem ((c.tc : Thread Cert.PackSmallRefIdeal.nD Cert.PackSmallRefIdeal.τ).loc Cert.PackSmallRefIdeal.main_arg5) = m ((c.tc : Thread Cert.PackSmallRefIdeal.nD Cert.PackSmallRefIdeal.τ).loc Cert.PackSmallRefIdeal.main_arg5)
      ∧ r.2.mem ((c.tc : Thread Cert.PackSmallRefIdeal.nD Cert.PackSmallRefIdeal.τ).loc Cert.PackSmallRefIdeal.main_arg6) = m ((c.tc : Thread Cert.PackSmallRefIdeal.nD Cert.PackSmallRefIdeal.τ).loc Cert.PackSmallRefIdeal.main_arg6)
      ∧ r.2.mem ((c.tc : Thread Cert.PackSmallRefIdeal.nD Cert.PackSmallRefIdeal.τ).loc Cert.PackSmallRefIdeal.main_arg7) = m ((c.tc : Thread Cert.PackSmallRefIdeal.nD Cert.PackSmallRefIdeal.τ).loc Cert.PackSmallRefIdeal.main_arg7)
      ∧ r.2.mem ((c.tc : Thread Cert.PackSmallRefIdeal.nD Cert.PackSmallRefIdeal.τ).loc Cert.PackSmallRefIdeal.main_arg8) = m ((c.tc : Thread Cert.PackSmallRefIdeal.nD Cert.PackSmallRefIdeal.τ).loc Cert.PackSmallRefIdeal.main_arg8)
      ∧ r.2.mem ((c.tc : Thread Cert.PackSmallRefIdeal.nD Cert.PackSmallRefIdeal.τ).loc Cert.PackSmallRefIdeal.main_arg9) = m ((c.tc : Thread Cert.PackSmallRefIdeal.nD Cert.PackSmallRefIdeal.τ).loc Cert.PackSmallRefIdeal.main_arg9)
      ∧ r.2.mem ((c.tc : Thread Cert.PackSmallRefIdeal.nD Cert.PackSmallRefIdeal.τ).loc Cert.PackSmallRefIdeal.main_arg10) = m ((c.tc : Thread Cert.PackSmallRefIdeal.nD Cert.PackSmallRefIdeal.τ).loc Cert.PackSmallRefIdeal.main_arg10)
      ∧ r.2.mem ((c.tc : Thread Cert.PackSmallRefIdeal.nD Cert.PackSmallRefIdeal.τ).loc Cert.PackSmallRefIdeal.main_arg11) = m ((c.tc : Thread Cert.PackSmallRefIdeal.nD Cert.PackSmallRefIdeal.τ).loc Cert.PackSmallRefIdeal.main_arg11)
      ∧ r.2.mem ((c.tc : Thread Cert.PackSmallRefIdeal.nD Cert.PackSmallRefIdeal.τ).loc Cert.PackSmallRefIdeal.main_arg12) = m ((c.tc : Thread Cert.PackSmallRefIdeal.nD Cert.PackSmallRefIdeal.τ).loc Cert.PackSmallRefIdeal.main_arg12)
      ∧ r.2.mem ((c.tc : Thread Cert.PackSmallRefIdeal.nD Cert.PackSmallRefIdeal.τ).loc Cert.PackSmallRefIdeal.main_arg13) = m ((c.tc : Thread Cert.PackSmallRefIdeal.nD Cert.PackSmallRefIdeal.τ).loc Cert.PackSmallRefIdeal.main_arg13)
      ∧ r.2.mem ((c.tc : Thread Cert.PackSmallRefIdeal.nD Cert.PackSmallRefIdeal.τ).loc Cert.PackSmallRefIdeal.main_arg14) = m ((c.tc : Thread Cert.PackSmallRefIdeal.nD Cert.PackSmallRefIdeal.τ).loc Cert.PackSmallRefIdeal.main_arg14)
      ∧ r.2.mem ((c.tc : Thread Cert.PackSmallRefIdeal.nD Cert.PackSmallRefIdeal.τ).loc Cert.PackSmallRefIdeal.main_arg15) = m ((c.tc : Thread Cert.PackSmallRefIdeal.nD Cert.PackSmallRefIdeal.τ).loc Cert.PackSmallRefIdeal.main_arg15)
      ∧ r.2.mem ((c.tc : Thread Cert.PackSmallRefIdeal.nD Cert.PackSmallRefIdeal.τ).loc Cert.PackSmallRefIdeal.main_arg16) = m ((c.tc : Thread Cert.PackSmallRefIdeal.nD Cert.PackSmallRefIdeal.τ).loc Cert.PackSmallRefIdeal.main_arg16)
      ∧ r.2.mem ((c.tc : Thread Cert.PackSmallRefIdeal.nD Cert.PackSmallRefIdeal.τ).loc Cert.PackSmallRefIdeal.main_arg17) = m ((c.tc : Thread Cert.PackSmallRefIdeal.nD Cert.PackSmallRefIdeal.τ).loc Cert.PackSmallRefIdeal.main_arg17)
      ∧ r.2.mem ((c.tc : Thread Cert.PackSmallRefIdeal.nD Cert.PackSmallRefIdeal.τ).loc Cert.PackSmallRefIdeal.main_arg18) = m ((c.tc : Thread Cert.PackSmallRefIdeal.nD Cert.PackSmallRefIdeal.τ).loc Cert.PackSmallRefIdeal.main_arg18)
      ∧ r.2.mem ((c.tc : Thread Cert.PackSmallRefIdeal.nD Cert.PackSmallRefIdeal.τ).loc Cert.PackSmallRefIdeal.main_arg19) = m ((c.tc : Thread Cert.PackSmallRefIdeal.nD Cert.PackSmallRefIdeal.τ).loc Cert.PackSmallRefIdeal.main_arg19)
      ∧ r.2.mem ((c.tc : Thread Cert.PackSmallRefIdeal.nD Cert.PackSmallRefIdeal.τ).loc Cert.PackSmallRefIdeal.main_arg20) = m ((c.tc : Thread Cert.PackSmallRefIdeal.nD Cert.PackSmallRefIdeal.τ).loc Cert.PackSmallRefIdeal.main_arg20)
      ∧ r.2.mem ((c.tc : Thread Cert.PackSmallRefIdeal.nD Cert.PackSmallRefIdeal.τ).loc Cert.PackSmallRefIdeal.main_arg21) = m ((c.tc : Thread Cert.PackSmallRefIdeal.nD Cert.PackSmallRefIdeal.τ).loc Cert.PackSmallRefIdeal.main_arg21)
      ∧ r.2.mem ((c.tc : Thread Cert.PackSmallRefIdeal.nD Cert.PackSmallRefIdeal.τ).loc Cert.PackSmallRefIdeal.main_arg22) = m ((c.tc : Thread Cert.PackSmallRefIdeal.nD Cert.PackSmallRefIdeal.τ).loc Cert.PackSmallRefIdeal.main_arg22)
      ∧ r.2.mem ((c.tc : Thread Cert.PackSmallRefIdeal.nD Cert.PackSmallRefIdeal.τ).loc Cert.PackSmallRefIdeal.main_arg23) = m ((c.tc : Thread Cert.PackSmallRefIdeal.nD Cert.PackSmallRefIdeal.τ).loc Cert.PackSmallRefIdeal.main_arg23)
      ∧ r.2.mem ((c.tc : Thread Cert.PackSmallRefIdeal.nD Cert.PackSmallRefIdeal.τ).loc Cert.PackSmallRefIdeal.main_arg24) = m ((c.tc : Thread Cert.PackSmallRefIdeal.nD Cert.PackSmallRefIdeal.τ).loc Cert.PackSmallRefIdeal.main_arg24)
      ∧ r.2.mem ((c.tc : Thread Cert.PackSmallRefIdeal.nD Cert.PackSmallRefIdeal.τ).loc Cert.PackSmallRefIdeal.main_arg25) = m ((c.tc : Thread Cert.PackSmallRefIdeal.nD Cert.PackSmallRefIdeal.τ).loc Cert.PackSmallRefIdeal.main_arg25)
      ∧ r.2.mem ((c.tc : Thread Cert.PackSmallRefIdeal.nD Cert.PackSmallRefIdeal.τ).loc Cert.PackSmallRefIdeal.main_arg26) = m ((c.tc : Thread Cert.PackSmallRefIdeal.nD Cert.PackSmallRefIdeal.τ).loc Cert.PackSmallRefIdeal.main_arg26)
      ∧ r.2.mem ((c.tc : Thread Cert.PackSmallRefIdeal.nD Cert.PackSmallRefIdeal.τ).loc Cert.PackSmallRefIdeal.main_arg27) = m ((c.tc : Thread Cert.PackSmallRefIdeal.nD Cert.PackSmallRefIdeal.τ).loc Cert.PackSmallRefIdeal.main_arg27))
      ∧ r.2.sem = fun _ => 0)

def quiescent_PackRepl [hPackRepl : Cert.PackRepl.Facts] : Prop :=
  ∀ (m : (ℓ : Loc Cert.PackRepl.nD Cert.PackRepl.τ Cert.PackRepl.sig) → Buf (Elt Bits) ℓ) (g : Dev Cert.PackRepl.nD → PrngReg), Pre_PackRepl m →
    θ_run (Cert.PackRepl.defs (F := Bits)) (onTc (τ := Cert.PackRepl.τ) (Cert.PackRepl.main (F := Bits))) ⟨m, fun _ => 0, g⟩ (fun r => (∀ c : Dev Cert.PackRepl.nD,
      r.2.mem ((c.tc : Thread Cert.PackRepl.nD Cert.PackRepl.τ).loc Cert.PackRepl.main_arg0) = m ((c.tc : Thread Cert.PackRepl.nD Cert.PackRepl.τ).loc Cert.PackRepl.main_arg0)
      ∧ r.2.mem ((c.tc : Thread Cert.PackRepl.nD Cert.PackRepl.τ).loc Cert.PackRepl.main_arg1) = m ((c.tc : Thread Cert.PackRepl.nD Cert.PackRepl.τ).loc Cert.PackRepl.main_arg1)
      ∧ r.2.mem ((c.tc : Thread Cert.PackRepl.nD Cert.PackRepl.τ).loc Cert.PackRepl.main_arg2) = m ((c.tc : Thread Cert.PackRepl.nD Cert.PackRepl.τ).loc Cert.PackRepl.main_arg2)
      ∧ r.2.mem ((c.tc : Thread Cert.PackRepl.nD Cert.PackRepl.τ).loc Cert.PackRepl.main_arg3) = m ((c.tc : Thread Cert.PackRepl.nD Cert.PackRepl.τ).loc Cert.PackRepl.main_arg3)
      ∧ r.2.mem ((c.tc : Thread Cert.PackRepl.nD Cert.PackRepl.τ).loc Cert.PackRepl.main_arg4) = m ((c.tc : Thread Cert.PackRepl.nD Cert.PackRepl.τ).loc Cert.PackRepl.main_arg4)
      ∧ r.2.mem ((c.tc : Thread Cert.PackRepl.nD Cert.PackRepl.τ).loc Cert.PackRepl.main_arg5) = m ((c.tc : Thread Cert.PackRepl.nD Cert.PackRepl.τ).loc Cert.PackRepl.main_arg5)
      ∧ r.2.mem ((c.tc : Thread Cert.PackRepl.nD Cert.PackRepl.τ).loc Cert.PackRepl.main_arg6) = m ((c.tc : Thread Cert.PackRepl.nD Cert.PackRepl.τ).loc Cert.PackRepl.main_arg6)
      ∧ r.2.mem ((c.tc : Thread Cert.PackRepl.nD Cert.PackRepl.τ).loc Cert.PackRepl.main_arg7) = m ((c.tc : Thread Cert.PackRepl.nD Cert.PackRepl.τ).loc Cert.PackRepl.main_arg7)
      ∧ r.2.mem ((c.tc : Thread Cert.PackRepl.nD Cert.PackRepl.τ).loc Cert.PackRepl.main_arg8) = m ((c.tc : Thread Cert.PackRepl.nD Cert.PackRepl.τ).loc Cert.PackRepl.main_arg8)
      ∧ r.2.mem ((c.tc : Thread Cert.PackRepl.nD Cert.PackRepl.τ).loc Cert.PackRepl.main_arg9) = m ((c.tc : Thread Cert.PackRepl.nD Cert.PackRepl.τ).loc Cert.PackRepl.main_arg9)
      ∧ r.2.mem ((c.tc : Thread Cert.PackRepl.nD Cert.PackRepl.τ).loc Cert.PackRepl.main_arg10) = m ((c.tc : Thread Cert.PackRepl.nD Cert.PackRepl.τ).loc Cert.PackRepl.main_arg10)
      ∧ r.2.mem ((c.tc : Thread Cert.PackRepl.nD Cert.PackRepl.τ).loc Cert.PackRepl.main_arg11) = m ((c.tc : Thread Cert.PackRepl.nD Cert.PackRepl.τ).loc Cert.PackRepl.main_arg11)
      ∧ r.2.mem ((c.tc : Thread Cert.PackRepl.nD Cert.PackRepl.τ).loc Cert.PackRepl.main_arg12) = m ((c.tc : Thread Cert.PackRepl.nD Cert.PackRepl.τ).loc Cert.PackRepl.main_arg12)
      ∧ r.2.mem ((c.tc : Thread Cert.PackRepl.nD Cert.PackRepl.τ).loc Cert.PackRepl.main_arg13) = m ((c.tc : Thread Cert.PackRepl.nD Cert.PackRepl.τ).loc Cert.PackRepl.main_arg13)
      ∧ r.2.mem ((c.tc : Thread Cert.PackRepl.nD Cert.PackRepl.τ).loc Cert.PackRepl.main_arg14) = m ((c.tc : Thread Cert.PackRepl.nD Cert.PackRepl.τ).loc Cert.PackRepl.main_arg14)
      ∧ r.2.mem ((c.tc : Thread Cert.PackRepl.nD Cert.PackRepl.τ).loc Cert.PackRepl.main_arg15) = m ((c.tc : Thread Cert.PackRepl.nD Cert.PackRepl.τ).loc Cert.PackRepl.main_arg15)
      ∧ r.2.mem ((c.tc : Thread Cert.PackRepl.nD Cert.PackRepl.τ).loc Cert.PackRepl.main_arg16) = m ((c.tc : Thread Cert.PackRepl.nD Cert.PackRepl.τ).loc Cert.PackRepl.main_arg16)
      ∧ r.2.mem ((c.tc : Thread Cert.PackRepl.nD Cert.PackRepl.τ).loc Cert.PackRepl.main_arg17) = m ((c.tc : Thread Cert.PackRepl.nD Cert.PackRepl.τ).loc Cert.PackRepl.main_arg17)
      ∧ r.2.mem ((c.tc : Thread Cert.PackRepl.nD Cert.PackRepl.τ).loc Cert.PackRepl.main_arg18) = m ((c.tc : Thread Cert.PackRepl.nD Cert.PackRepl.τ).loc Cert.PackRepl.main_arg18)
      ∧ r.2.mem ((c.tc : Thread Cert.PackRepl.nD Cert.PackRepl.τ).loc Cert.PackRepl.main_arg19) = m ((c.tc : Thread Cert.PackRepl.nD Cert.PackRepl.τ).loc Cert.PackRepl.main_arg19)
      ∧ r.2.mem ((c.tc : Thread Cert.PackRepl.nD Cert.PackRepl.τ).loc Cert.PackRepl.main_arg20) = m ((c.tc : Thread Cert.PackRepl.nD Cert.PackRepl.τ).loc Cert.PackRepl.main_arg20)
      ∧ r.2.mem ((c.tc : Thread Cert.PackRepl.nD Cert.PackRepl.τ).loc Cert.PackRepl.main_arg21) = m ((c.tc : Thread Cert.PackRepl.nD Cert.PackRepl.τ).loc Cert.PackRepl.main_arg21)
      ∧ r.2.mem ((c.tc : Thread Cert.PackRepl.nD Cert.PackRepl.τ).loc Cert.PackRepl.main_arg22) = m ((c.tc : Thread Cert.PackRepl.nD Cert.PackRepl.τ).loc Cert.PackRepl.main_arg22)
      ∧ r.2.mem ((c.tc : Thread Cert.PackRepl.nD Cert.PackRepl.τ).loc Cert.PackRepl.main_arg23) = m ((c.tc : Thread Cert.PackRepl.nD Cert.PackRepl.τ).loc Cert.PackRepl.main_arg23)
      ∧ r.2.mem ((c.tc : Thread Cert.PackRepl.nD Cert.PackRepl.τ).loc Cert.PackRepl.main_arg24) = m ((c.tc : Thread Cert.PackRepl.nD Cert.PackRepl.τ).loc Cert.PackRepl.main_arg24)
      ∧ r.2.mem ((c.tc : Thread Cert.PackRepl.nD Cert.PackRepl.τ).loc Cert.PackRepl.main_arg25) = m ((c.tc : Thread Cert.PackRepl.nD Cert.PackRepl.τ).loc Cert.PackRepl.main_arg25)
      ∧ r.2.mem ((c.tc : Thread Cert.PackRepl.nD Cert.PackRepl.τ).loc Cert.PackRepl.main_arg26) = m ((c.tc : Thread Cert.PackRepl.nD Cert.PackRepl.τ).loc Cert.PackRepl.main_arg26)
      ∧ r.2.mem ((c.tc : Thread Cert.PackRepl.nD Cert.PackRepl.τ).loc Cert.PackRepl.main_arg27) = m ((c.tc : Thread Cert.PackRepl.nD Cert.PackRepl.τ).loc Cert.PackRepl.main_arg27))
      ∧ r.2.sem = fun _ => 0)

def quiescent_PackReplIdeal [hPackReplIdeal : Cert.PackReplIdeal.Facts] : Prop :=
  ∀ (m : (ℓ : Loc Cert.PackReplIdeal.nD Cert.PackReplIdeal.τ Cert.PackReplIdeal.sig) → Buf (Elt Ideal) ℓ) (g : Dev Cert.PackReplIdeal.nD → PrngReg), Pre_PackReplIdeal m →
    θ_run (Cert.PackReplIdeal.defs (F := Ideal)) (onTc (τ := Cert.PackReplIdeal.τ) (Cert.PackReplIdeal.main (F := Ideal))) ⟨m, fun _ => 0, g⟩ (fun r => (∀ c : Dev Cert.PackReplIdeal.nD,
      r.2.mem ((c.tc : Thread Cert.PackReplIdeal.nD Cert.PackReplIdeal.τ).loc Cert.PackReplIdeal.main_arg0) = m ((c.tc : Thread Cert.PackReplIdeal.nD Cert.PackReplIdeal.τ).loc Cert.PackReplIdeal.main_arg0)
      ∧ r.2.mem ((c.tc : Thread Cert.PackReplIdeal.nD Cert.PackReplIdeal.τ).loc Cert.PackReplIdeal.main_arg1) = m ((c.tc : Thread Cert.PackReplIdeal.nD Cert.PackReplIdeal.τ).loc Cert.PackReplIdeal.main_arg1)
      ∧ r.2.mem ((c.tc : Thread Cert.PackReplIdeal.nD Cert.PackReplIdeal.τ).loc Cert.PackReplIdeal.main_arg2) = m ((c.tc : Thread Cert.PackReplIdeal.nD Cert.PackReplIdeal.τ).loc Cert.PackReplIdeal.main_arg2)
      ∧ r.2.mem ((c.tc : Thread Cert.PackReplIdeal.nD Cert.PackReplIdeal.τ).loc Cert.PackReplIdeal.main_arg3) = m ((c.tc : Thread Cert.PackReplIdeal.nD Cert.PackReplIdeal.τ).loc Cert.PackReplIdeal.main_arg3)
      ∧ r.2.mem ((c.tc : Thread Cert.PackReplIdeal.nD Cert.PackReplIdeal.τ).loc Cert.PackReplIdeal.main_arg4) = m ((c.tc : Thread Cert.PackReplIdeal.nD Cert.PackReplIdeal.τ).loc Cert.PackReplIdeal.main_arg4)
      ∧ r.2.mem ((c.tc : Thread Cert.PackReplIdeal.nD Cert.PackReplIdeal.τ).loc Cert.PackReplIdeal.main_arg5) = m ((c.tc : Thread Cert.PackReplIdeal.nD Cert.PackReplIdeal.τ).loc Cert.PackReplIdeal.main_arg5)
      ∧ r.2.mem ((c.tc : Thread Cert.PackReplIdeal.nD Cert.PackReplIdeal.τ).loc Cert.PackReplIdeal.main_arg6) = m ((c.tc : Thread Cert.PackReplIdeal.nD Cert.PackReplIdeal.τ).loc Cert.PackReplIdeal.main_arg6)
      ∧ r.2.mem ((c.tc : Thread Cert.PackReplIdeal.nD Cert.PackReplIdeal.τ).loc Cert.PackReplIdeal.main_arg7) = m ((c.tc : Thread Cert.PackReplIdeal.nD Cert.PackReplIdeal.τ).loc Cert.PackReplIdeal.main_arg7)
      ∧ r.2.mem ((c.tc : Thread Cert.PackReplIdeal.nD Cert.PackReplIdeal.τ).loc Cert.PackReplIdeal.main_arg8) = m ((c.tc : Thread Cert.PackReplIdeal.nD Cert.PackReplIdeal.τ).loc Cert.PackReplIdeal.main_arg8)
      ∧ r.2.mem ((c.tc : Thread Cert.PackReplIdeal.nD Cert.PackReplIdeal.τ).loc Cert.PackReplIdeal.main_arg9) = m ((c.tc : Thread Cert.PackReplIdeal.nD Cert.PackReplIdeal.τ).loc Cert.PackReplIdeal.main_arg9)
      ∧ r.2.mem ((c.tc : Thread Cert.PackReplIdeal.nD Cert.PackReplIdeal.τ).loc Cert.PackReplIdeal.main_arg10) = m ((c.tc : Thread Cert.PackReplIdeal.nD Cert.PackReplIdeal.τ).loc Cert.PackReplIdeal.main_arg10)
      ∧ r.2.mem ((c.tc : Thread Cert.PackReplIdeal.nD Cert.PackReplIdeal.τ).loc Cert.PackReplIdeal.main_arg11) = m ((c.tc : Thread Cert.PackReplIdeal.nD Cert.PackReplIdeal.τ).loc Cert.PackReplIdeal.main_arg11)
      ∧ r.2.mem ((c.tc : Thread Cert.PackReplIdeal.nD Cert.PackReplIdeal.τ).loc Cert.PackReplIdeal.main_arg12) = m ((c.tc : Thread Cert.PackReplIdeal.nD Cert.PackReplIdeal.τ).loc Cert.PackReplIdeal.main_arg12)
      ∧ r.2.mem ((c.tc : Thread Cert.PackReplIdeal.nD Cert.PackReplIdeal.τ).loc Cert.PackReplIdeal.main_arg13) = m ((c.tc : Thread Cert.PackReplIdeal.nD Cert.PackReplIdeal.τ).loc Cert.PackReplIdeal.main_arg13)
      ∧ r.2.mem ((c.tc : Thread Cert.PackReplIdeal.nD Cert.PackReplIdeal.τ).loc Cert.PackReplIdeal.main_arg14) = m ((c.tc : Thread Cert.PackReplIdeal.nD Cert.PackReplIdeal.τ).loc Cert.PackReplIdeal.main_arg14)
      ∧ r.2.mem ((c.tc : Thread Cert.PackReplIdeal.nD Cert.PackReplIdeal.τ).loc Cert.PackReplIdeal.main_arg15) = m ((c.tc : Thread Cert.PackReplIdeal.nD Cert.PackReplIdeal.τ).loc Cert.PackReplIdeal.main_arg15)
      ∧ r.2.mem ((c.tc : Thread Cert.PackReplIdeal.nD Cert.PackReplIdeal.τ).loc Cert.PackReplIdeal.main_arg16) = m ((c.tc : Thread Cert.PackReplIdeal.nD Cert.PackReplIdeal.τ).loc Cert.PackReplIdeal.main_arg16)
      ∧ r.2.mem ((c.tc : Thread Cert.PackReplIdeal.nD Cert.PackReplIdeal.τ).loc Cert.PackReplIdeal.main_arg17) = m ((c.tc : Thread Cert.PackReplIdeal.nD Cert.PackReplIdeal.τ).loc Cert.PackReplIdeal.main_arg17)
      ∧ r.2.mem ((c.tc : Thread Cert.PackReplIdeal.nD Cert.PackReplIdeal.τ).loc Cert.PackReplIdeal.main_arg18) = m ((c.tc : Thread Cert.PackReplIdeal.nD Cert.PackReplIdeal.τ).loc Cert.PackReplIdeal.main_arg18)
      ∧ r.2.mem ((c.tc : Thread Cert.PackReplIdeal.nD Cert.PackReplIdeal.τ).loc Cert.PackReplIdeal.main_arg19) = m ((c.tc : Thread Cert.PackReplIdeal.nD Cert.PackReplIdeal.τ).loc Cert.PackReplIdeal.main_arg19)
      ∧ r.2.mem ((c.tc : Thread Cert.PackReplIdeal.nD Cert.PackReplIdeal.τ).loc Cert.PackReplIdeal.main_arg20) = m ((c.tc : Thread Cert.PackReplIdeal.nD Cert.PackReplIdeal.τ).loc Cert.PackReplIdeal.main_arg20)
      ∧ r.2.mem ((c.tc : Thread Cert.PackReplIdeal.nD Cert.PackReplIdeal.τ).loc Cert.PackReplIdeal.main_arg21) = m ((c.tc : Thread Cert.PackReplIdeal.nD Cert.PackReplIdeal.τ).loc Cert.PackReplIdeal.main_arg21)
      ∧ r.2.mem ((c.tc : Thread Cert.PackReplIdeal.nD Cert.PackReplIdeal.τ).loc Cert.PackReplIdeal.main_arg22) = m ((c.tc : Thread Cert.PackReplIdeal.nD Cert.PackReplIdeal.τ).loc Cert.PackReplIdeal.main_arg22)
      ∧ r.2.mem ((c.tc : Thread Cert.PackReplIdeal.nD Cert.PackReplIdeal.τ).loc Cert.PackReplIdeal.main_arg23) = m ((c.tc : Thread Cert.PackReplIdeal.nD Cert.PackReplIdeal.τ).loc Cert.PackReplIdeal.main_arg23)
      ∧ r.2.mem ((c.tc : Thread Cert.PackReplIdeal.nD Cert.PackReplIdeal.τ).loc Cert.PackReplIdeal.main_arg24) = m ((c.tc : Thread Cert.PackReplIdeal.nD Cert.PackReplIdeal.τ).loc Cert.PackReplIdeal.main_arg24)
      ∧ r.2.mem ((c.tc : Thread Cert.PackReplIdeal.nD Cert.PackReplIdeal.τ).loc Cert.PackReplIdeal.main_arg25) = m ((c.tc : Thread Cert.PackReplIdeal.nD Cert.PackReplIdeal.τ).loc Cert.PackReplIdeal.main_arg25)
      ∧ r.2.mem ((c.tc : Thread Cert.PackReplIdeal.nD Cert.PackReplIdeal.τ).loc Cert.PackReplIdeal.main_arg26) = m ((c.tc : Thread Cert.PackReplIdeal.nD Cert.PackReplIdeal.τ).loc Cert.PackReplIdeal.main_arg26)
      ∧ r.2.mem ((c.tc : Thread Cert.PackReplIdeal.nD Cert.PackReplIdeal.τ).loc Cert.PackReplIdeal.main_arg27) = m ((c.tc : Thread Cert.PackReplIdeal.nD Cert.PackReplIdeal.τ).loc Cert.PackReplIdeal.main_arg27))
      ∧ r.2.sem = fun _ => 0)

def quiescent_PackReplRefIdeal [hPackReplRefIdeal : Cert.PackReplRefIdeal.Facts] : Prop :=
  ∀ (m : (ℓ : Loc Cert.PackReplRefIdeal.nD Cert.PackReplRefIdeal.τ Cert.PackReplRefIdeal.sig) → Buf (Elt Ideal) ℓ) (g : Dev Cert.PackReplRefIdeal.nD → PrngReg), Pre_PackReplRefIdeal m →
    θ_run (Cert.PackReplRefIdeal.defs (F := Ideal)) (onTc (τ := Cert.PackReplRefIdeal.τ) (Cert.PackReplRefIdeal.main (F := Ideal))) ⟨m, fun _ => 0, g⟩ (fun r => (∀ c : Dev Cert.PackReplRefIdeal.nD,
      r.2.mem ((c.tc : Thread Cert.PackReplRefIdeal.nD Cert.PackReplRefIdeal.τ).loc Cert.PackReplRefIdeal.main_arg0) = m ((c.tc : Thread Cert.PackReplRefIdeal.nD Cert.PackReplRefIdeal.τ).loc Cert.PackReplRefIdeal.main_arg0)
      ∧ r.2.mem ((c.tc : Thread Cert.PackReplRefIdeal.nD Cert.PackReplRefIdeal.τ).loc Cert.PackReplRefIdeal.main_arg1) = m ((c.tc : Thread Cert.PackReplRefIdeal.nD Cert.PackReplRefIdeal.τ).loc Cert.PackReplRefIdeal.main_arg1)
      ∧ r.2.mem ((c.tc : Thread Cert.PackReplRefIdeal.nD Cert.PackReplRefIdeal.τ).loc Cert.PackReplRefIdeal.main_arg2) = m ((c.tc : Thread Cert.PackReplRefIdeal.nD Cert.PackReplRefIdeal.τ).loc Cert.PackReplRefIdeal.main_arg2)
      ∧ r.2.mem ((c.tc : Thread Cert.PackReplRefIdeal.nD Cert.PackReplRefIdeal.τ).loc Cert.PackReplRefIdeal.main_arg3) = m ((c.tc : Thread Cert.PackReplRefIdeal.nD Cert.PackReplRefIdeal.τ).loc Cert.PackReplRefIdeal.main_arg3)
      ∧ r.2.mem ((c.tc : Thread Cert.PackReplRefIdeal.nD Cert.PackReplRefIdeal.τ).loc Cert.PackReplRefIdeal.main_arg4) = m ((c.tc : Thread Cert.PackReplRefIdeal.nD Cert.PackReplRefIdeal.τ).loc Cert.PackReplRefIdeal.main_arg4)
      ∧ r.2.mem ((c.tc : Thread Cert.PackReplRefIdeal.nD Cert.PackReplRefIdeal.τ).loc Cert.PackReplRefIdeal.main_arg5) = m ((c.tc : Thread Cert.PackReplRefIdeal.nD Cert.PackReplRefIdeal.τ).loc Cert.PackReplRefIdeal.main_arg5)
      ∧ r.2.mem ((c.tc : Thread Cert.PackReplRefIdeal.nD Cert.PackReplRefIdeal.τ).loc Cert.PackReplRefIdeal.main_arg6) = m ((c.tc : Thread Cert.PackReplRefIdeal.nD Cert.PackReplRefIdeal.τ).loc Cert.PackReplRefIdeal.main_arg6)
      ∧ r.2.mem ((c.tc : Thread Cert.PackReplRefIdeal.nD Cert.PackReplRefIdeal.τ).loc Cert.PackReplRefIdeal.main_arg7) = m ((c.tc : Thread Cert.PackReplRefIdeal.nD Cert.PackReplRefIdeal.τ).loc Cert.PackReplRefIdeal.main_arg7)
      ∧ r.2.mem ((c.tc : Thread Cert.PackReplRefIdeal.nD Cert.PackReplRefIdeal.τ).loc Cert.PackReplRefIdeal.main_arg8) = m ((c.tc : Thread Cert.PackReplRefIdeal.nD Cert.PackReplRefIdeal.τ).loc Cert.PackReplRefIdeal.main_arg8)
      ∧ r.2.mem ((c.tc : Thread Cert.PackReplRefIdeal.nD Cert.PackReplRefIdeal.τ).loc Cert.PackReplRefIdeal.main_arg9) = m ((c.tc : Thread Cert.PackReplRefIdeal.nD Cert.PackReplRefIdeal.τ).loc Cert.PackReplRefIdeal.main_arg9)
      ∧ r.2.mem ((c.tc : Thread Cert.PackReplRefIdeal.nD Cert.PackReplRefIdeal.τ).loc Cert.PackReplRefIdeal.main_arg10) = m ((c.tc : Thread Cert.PackReplRefIdeal.nD Cert.PackReplRefIdeal.τ).loc Cert.PackReplRefIdeal.main_arg10)
      ∧ r.2.mem ((c.tc : Thread Cert.PackReplRefIdeal.nD Cert.PackReplRefIdeal.τ).loc Cert.PackReplRefIdeal.main_arg11) = m ((c.tc : Thread Cert.PackReplRefIdeal.nD Cert.PackReplRefIdeal.τ).loc Cert.PackReplRefIdeal.main_arg11)
      ∧ r.2.mem ((c.tc : Thread Cert.PackReplRefIdeal.nD Cert.PackReplRefIdeal.τ).loc Cert.PackReplRefIdeal.main_arg12) = m ((c.tc : Thread Cert.PackReplRefIdeal.nD Cert.PackReplRefIdeal.τ).loc Cert.PackReplRefIdeal.main_arg12)
      ∧ r.2.mem ((c.tc : Thread Cert.PackReplRefIdeal.nD Cert.PackReplRefIdeal.τ).loc Cert.PackReplRefIdeal.main_arg13) = m ((c.tc : Thread Cert.PackReplRefIdeal.nD Cert.PackReplRefIdeal.τ).loc Cert.PackReplRefIdeal.main_arg13)
      ∧ r.2.mem ((c.tc : Thread Cert.PackReplRefIdeal.nD Cert.PackReplRefIdeal.τ).loc Cert.PackReplRefIdeal.main_arg14) = m ((c.tc : Thread Cert.PackReplRefIdeal.nD Cert.PackReplRefIdeal.τ).loc Cert.PackReplRefIdeal.main_arg14)
      ∧ r.2.mem ((c.tc : Thread Cert.PackReplRefIdeal.nD Cert.PackReplRefIdeal.τ).loc Cert.PackReplRefIdeal.main_arg15) = m ((c.tc : Thread Cert.PackReplRefIdeal.nD Cert.PackReplRefIdeal.τ).loc Cert.PackReplRefIdeal.main_arg15)
      ∧ r.2.mem ((c.tc : Thread Cert.PackReplRefIdeal.nD Cert.PackReplRefIdeal.τ).loc Cert.PackReplRefIdeal.main_arg16) = m ((c.tc : Thread Cert.PackReplRefIdeal.nD Cert.PackReplRefIdeal.τ).loc Cert.PackReplRefIdeal.main_arg16)
      ∧ r.2.mem ((c.tc : Thread Cert.PackReplRefIdeal.nD Cert.PackReplRefIdeal.τ).loc Cert.PackReplRefIdeal.main_arg17) = m ((c.tc : Thread Cert.PackReplRefIdeal.nD Cert.PackReplRefIdeal.τ).loc Cert.PackReplRefIdeal.main_arg17)
      ∧ r.2.mem ((c.tc : Thread Cert.PackReplRefIdeal.nD Cert.PackReplRefIdeal.τ).loc Cert.PackReplRefIdeal.main_arg18) = m ((c.tc : Thread Cert.PackReplRefIdeal.nD Cert.PackReplRefIdeal.τ).loc Cert.PackReplRefIdeal.main_arg18)
      ∧ r.2.mem ((c.tc : Thread Cert.PackReplRefIdeal.nD Cert.PackReplRefIdeal.τ).loc Cert.PackReplRefIdeal.main_arg19) = m ((c.tc : Thread Cert.PackReplRefIdeal.nD Cert.PackReplRefIdeal.τ).loc Cert.PackReplRefIdeal.main_arg19)
      ∧ r.2.mem ((c.tc : Thread Cert.PackReplRefIdeal.nD Cert.PackReplRefIdeal.τ).loc Cert.PackReplRefIdeal.main_arg20) = m ((c.tc : Thread Cert.PackReplRefIdeal.nD Cert.PackReplRefIdeal.τ).loc Cert.PackReplRefIdeal.main_arg20)
      ∧ r.2.mem ((c.tc : Thread Cert.PackReplRefIdeal.nD Cert.PackReplRefIdeal.τ).loc Cert.PackReplRefIdeal.main_arg21) = m ((c.tc : Thread Cert.PackReplRefIdeal.nD Cert.PackReplRefIdeal.τ).loc Cert.PackReplRefIdeal.main_arg21)
      ∧ r.2.mem ((c.tc : Thread Cert.PackReplRefIdeal.nD Cert.PackReplRefIdeal.τ).loc Cert.PackReplRefIdeal.main_arg22) = m ((c.tc : Thread Cert.PackReplRefIdeal.nD Cert.PackReplRefIdeal.τ).loc Cert.PackReplRefIdeal.main_arg22)
      ∧ r.2.mem ((c.tc : Thread Cert.PackReplRefIdeal.nD Cert.PackReplRefIdeal.τ).loc Cert.PackReplRefIdeal.main_arg23) = m ((c.tc : Thread Cert.PackReplRefIdeal.nD Cert.PackReplRefIdeal.τ).loc Cert.PackReplRefIdeal.main_arg23)
      ∧ r.2.mem ((c.tc : Thread Cert.PackReplRefIdeal.nD Cert.PackReplRefIdeal.τ).loc Cert.PackReplRefIdeal.main_arg24) = m ((c.tc : Thread Cert.PackReplRefIdeal.nD Cert.PackReplRefIdeal.τ).loc Cert.PackReplRefIdeal.main_arg24)
      ∧ r.2.mem ((c.tc : Thread Cert.PackReplRefIdeal.nD Cert.PackReplRefIdeal.τ).loc Cert.PackReplRefIdeal.main_arg25) = m ((c.tc : Thread Cert.PackReplRefIdeal.nD Cert.PackReplRefIdeal.τ).loc Cert.PackReplRefIdeal.main_arg25)
      ∧ r.2.mem ((c.tc : Thread Cert.PackReplRefIdeal.nD Cert.PackReplRefIdeal.τ).loc Cert.PackReplRefIdeal.main_arg26) = m ((c.tc : Thread Cert.PackReplRefIdeal.nD Cert.PackReplRefIdeal.τ).loc Cert.PackReplRefIdeal.main_arg26)
      ∧ r.2.mem ((c.tc : Thread Cert.PackReplRefIdeal.nD Cert.PackReplRefIdeal.τ).loc Cert.PackReplRefIdeal.main_arg27) = m ((c.tc : Thread Cert.PackReplRefIdeal.nD Cert.PackReplRefIdeal.τ).loc Cert.PackReplRefIdeal.main_arg27))
      ∧ r.2.sem = fun _ => 0)

def quiescent_AddWin [hAddWin : Cert.AddWin.Facts] : Prop :=
  ∀ (m : (ℓ : Loc Cert.AddWin.nD Cert.AddWin.τ Cert.AddWin.sig) → Buf (Elt Bits) ℓ) (g : Dev Cert.AddWin.nD → PrngReg), Pre_AddWin m →
    θ_run (Cert.AddWin.defs (F := Bits)) (onTc (τ := Cert.AddWin.τ) (Cert.AddWin.main (F := Bits))) ⟨m, fun _ => 0, g⟩ (fun r => (∀ c : Dev Cert.AddWin.nD,
      r.2.mem ((c.tc : Thread Cert.AddWin.nD Cert.AddWin.τ).loc Cert.AddWin.main_arg0) = m ((c.tc : Thread Cert.AddWin.nD Cert.AddWin.τ).loc Cert.AddWin.main_arg0)
      ∧ r.2.mem ((c.tc : Thread Cert.AddWin.nD Cert.AddWin.τ).loc Cert.AddWin.main_arg1) = m ((c.tc : Thread Cert.AddWin.nD Cert.AddWin.τ).loc Cert.AddWin.main_arg1))
      ∧ r.2.sem = fun _ => 0)

def quiescent_AddWinIdeal [hAddWinIdeal : Cert.AddWinIdeal.Facts] : Prop :=
  ∀ (m : (ℓ : Loc Cert.AddWinIdeal.nD Cert.AddWinIdeal.τ Cert.AddWinIdeal.sig) → Buf (Elt Ideal) ℓ) (g : Dev Cert.AddWinIdeal.nD → PrngReg), Pre_AddWinIdeal m →
    θ_run (Cert.AddWinIdeal.defs (F := Ideal)) (onTc (τ := Cert.AddWinIdeal.τ) (Cert.AddWinIdeal.main (F := Ideal))) ⟨m, fun _ => 0, g⟩ (fun r => (∀ c : Dev Cert.AddWinIdeal.nD,
      r.2.mem ((c.tc : Thread Cert.AddWinIdeal.nD Cert.AddWinIdeal.τ).loc Cert.AddWinIdeal.main_arg0) = m ((c.tc : Thread Cert.AddWinIdeal.nD Cert.AddWinIdeal.τ).loc Cert.AddWinIdeal.main_arg0)
      ∧ r.2.mem ((c.tc : Thread Cert.AddWinIdeal.nD Cert.AddWinIdeal.τ).loc Cert.AddWinIdeal.main_arg1) = m ((c.tc : Thread Cert.AddWinIdeal.nD Cert.AddWinIdeal.τ).loc Cert.AddWinIdeal.main_arg1))
      ∧ r.2.sem = fun _ => 0)

def quiescent_AddWinRefIdeal [hAddWinRefIdeal : Cert.AddWinRefIdeal.Facts] : Prop :=
  ∀ (m : (ℓ : Loc Cert.AddWinRefIdeal.nD Cert.AddWinRefIdeal.τ Cert.AddWinRefIdeal.sig) → Buf (Elt Ideal) ℓ) (g : Dev Cert.AddWinRefIdeal.nD → PrngReg), Pre_AddWinRefIdeal m →
    θ_run (Cert.AddWinRefIdeal.defs (F := Ideal)) (onTc (τ := Cert.AddWinRefIdeal.τ) (Cert.AddWinRefIdeal.main (F := Ideal))) ⟨m, fun _ => 0, g⟩ (fun r => (∀ c : Dev Cert.AddWinRefIdeal.nD,
      r.2.mem ((c.tc : Thread Cert.AddWinRefIdeal.nD Cert.AddWinRefIdeal.τ).loc Cert.AddWinRefIdeal.main_arg0) = m ((c.tc : Thread Cert.AddWinRefIdeal.nD Cert.AddWinRefIdeal.τ).loc Cert.AddWinRefIdeal.main_arg0)
      ∧ r.2.mem ((c.tc : Thread Cert.AddWinRefIdeal.nD Cert.AddWinRefIdeal.τ).loc Cert.AddWinRefIdeal.main_arg1) = m ((c.tc : Thread Cert.AddWinRefIdeal.nD Cert.AddWinRefIdeal.τ).loc Cert.AddWinRefIdeal.main_arg1))
      ∧ r.2.sem = fun _ => 0)

def quiescent_AddUp [hAddUp : Cert.AddUp.Facts] : Prop :=
  ∀ (m : (ℓ : Loc Cert.AddUp.nD Cert.AddUp.τ Cert.AddUp.sig) → Buf (Elt Bits) ℓ) (g : Dev Cert.AddUp.nD → PrngReg), Pre_AddUp m →
    θ_run (Cert.AddUp.defs (F := Bits)) (onTc (τ := Cert.AddUp.τ) (Cert.AddUp.main (F := Bits))) ⟨m, fun _ => 0, g⟩ (fun r => (∀ c : Dev Cert.AddUp.nD,
      r.2.mem ((c.tc : Thread Cert.AddUp.nD Cert.AddUp.τ).loc Cert.AddUp.main_arg0) = m ((c.tc : Thread Cert.AddUp.nD Cert.AddUp.τ).loc Cert.AddUp.main_arg0)
      ∧ r.2.mem ((c.tc : Thread Cert.AddUp.nD Cert.AddUp.τ).loc Cert.AddUp.main_arg1) = m ((c.tc : Thread Cert.AddUp.nD Cert.AddUp.τ).loc Cert.AddUp.main_arg1))
      ∧ r.2.sem = fun _ => 0)

def quiescent_AddUpIdeal [hAddUpIdeal : Cert.AddUpIdeal.Facts] : Prop :=
  ∀ (m : (ℓ : Loc Cert.AddUpIdeal.nD Cert.AddUpIdeal.τ Cert.AddUpIdeal.sig) → Buf (Elt Ideal) ℓ) (g : Dev Cert.AddUpIdeal.nD → PrngReg), Pre_AddUpIdeal m →
    θ_run (Cert.AddUpIdeal.defs (F := Ideal)) (onTc (τ := Cert.AddUpIdeal.τ) (Cert.AddUpIdeal.main (F := Ideal))) ⟨m, fun _ => 0, g⟩ (fun r => (∀ c : Dev Cert.AddUpIdeal.nD,
      r.2.mem ((c.tc : Thread Cert.AddUpIdeal.nD Cert.AddUpIdeal.τ).loc Cert.AddUpIdeal.main_arg0) = m ((c.tc : Thread Cert.AddUpIdeal.nD Cert.AddUpIdeal.τ).loc Cert.AddUpIdeal.main_arg0)
      ∧ r.2.mem ((c.tc : Thread Cert.AddUpIdeal.nD Cert.AddUpIdeal.τ).loc Cert.AddUpIdeal.main_arg1) = m ((c.tc : Thread Cert.AddUpIdeal.nD Cert.AddUpIdeal.τ).loc Cert.AddUpIdeal.main_arg1))
      ∧ r.2.sem = fun _ => 0)

def quiescent_AddUpRefIdeal [hAddUpRefIdeal : Cert.AddUpRefIdeal.Facts] : Prop :=
  ∀ (m : (ℓ : Loc Cert.AddUpRefIdeal.nD Cert.AddUpRefIdeal.τ Cert.AddUpRefIdeal.sig) → Buf (Elt Ideal) ℓ) (g : Dev Cert.AddUpRefIdeal.nD → PrngReg), Pre_AddUpRefIdeal m →
    θ_run (Cert.AddUpRefIdeal.defs (F := Ideal)) (onTc (τ := Cert.AddUpRefIdeal.τ) (Cert.AddUpRefIdeal.main (F := Ideal))) ⟨m, fun _ => 0, g⟩ (fun r => (∀ c : Dev Cert.AddUpRefIdeal.nD,
      r.2.mem ((c.tc : Thread Cert.AddUpRefIdeal.nD Cert.AddUpRefIdeal.τ).loc Cert.AddUpRefIdeal.main_arg0) = m ((c.tc : Thread Cert.AddUpRefIdeal.nD Cert.AddUpRefIdeal.τ).loc Cert.AddUpRefIdeal.main_arg0)
      ∧ r.2.mem ((c.tc : Thread Cert.AddUpRefIdeal.nD Cert.AddUpRefIdeal.τ).loc Cert.AddUpRefIdeal.main_arg1) = m ((c.tc : Thread Cert.AddUpRefIdeal.nD Cert.AddUpRefIdeal.τ).loc Cert.AddUpRefIdeal.main_arg1))
      ∧ r.2.sem = fun _ => 0)

def quiescent_AddRow [hAddRow : Cert.AddRow.Facts] : Prop :=
  ∀ (m : (ℓ : Loc Cert.AddRow.nD Cert.AddRow.τ Cert.AddRow.sig) → Buf (Elt Bits) ℓ) (g : Dev Cert.AddRow.nD → PrngReg), Pre_AddRow m →
    θ_run (Cert.AddRow.defs (F := Bits)) (onTc (τ := Cert.AddRow.τ) (Cert.AddRow.main (F := Bits))) ⟨m, fun _ => 0, g⟩ (fun r => (∀ c : Dev Cert.AddRow.nD,
      r.2.mem ((c.tc : Thread Cert.AddRow.nD Cert.AddRow.τ).loc Cert.AddRow.main_arg0) = m ((c.tc : Thread Cert.AddRow.nD Cert.AddRow.τ).loc Cert.AddRow.main_arg0)
      ∧ r.2.mem ((c.tc : Thread Cert.AddRow.nD Cert.AddRow.τ).loc Cert.AddRow.main_arg1) = m ((c.tc : Thread Cert.AddRow.nD Cert.AddRow.τ).loc Cert.AddRow.main_arg1))
      ∧ r.2.sem = fun _ => 0)

def quiescent_AddRowIdeal [hAddRowIdeal : Cert.AddRowIdeal.Facts] : Prop :=
  ∀ (m : (ℓ : Loc Cert.AddRowIdeal.nD Cert.AddRowIdeal.τ Cert.AddRowIdeal.sig) → Buf (Elt Ideal) ℓ) (g : Dev Cert.AddRowIdeal.nD → PrngReg), Pre_AddRowIdeal m →
    θ_run (Cert.AddRowIdeal.defs (F := Ideal)) (onTc (τ := Cert.AddRowIdeal.τ) (Cert.AddRowIdeal.main (F := Ideal))) ⟨m, fun _ => 0, g⟩ (fun r => (∀ c : Dev Cert.AddRowIdeal.nD,
      r.2.mem ((c.tc : Thread Cert.AddRowIdeal.nD Cert.AddRowIdeal.τ).loc Cert.AddRowIdeal.main_arg0) = m ((c.tc : Thread Cert.AddRowIdeal.nD Cert.AddRowIdeal.τ).loc Cert.AddRowIdeal.main_arg0)
      ∧ r.2.mem ((c.tc : Thread Cert.AddRowIdeal.nD Cert.AddRowIdeal.τ).loc Cert.AddRowIdeal.main_arg1) = m ((c.tc : Thread Cert.AddRowIdeal.nD Cert.AddRowIdeal.τ).loc Cert.AddRowIdeal.main_arg1))
      ∧ r.2.sem = fun _ => 0)

def quiescent_AddRowRefIdeal [hAddRowRefIdeal : Cert.AddRowRefIdeal.Facts] : Prop :=
  ∀ (m : (ℓ : Loc Cert.AddRowRefIdeal.nD Cert.AddRowRefIdeal.τ Cert.AddRowRefIdeal.sig) → Buf (Elt Ideal) ℓ) (g : Dev Cert.AddRowRefIdeal.nD → PrngReg), Pre_AddRowRefIdeal m →
    θ_run (Cert.AddRowRefIdeal.defs (F := Ideal)) (onTc (τ := Cert.AddRowRefIdeal.τ) (Cert.AddRowRefIdeal.main (F := Ideal))) ⟨m, fun _ => 0, g⟩ (fun r => (∀ c : Dev Cert.AddRowRefIdeal.nD,
      r.2.mem ((c.tc : Thread Cert.AddRowRefIdeal.nD Cert.AddRowRefIdeal.τ).loc Cert.AddRowRefIdeal.main_arg0) = m ((c.tc : Thread Cert.AddRowRefIdeal.nD Cert.AddRowRefIdeal.τ).loc Cert.AddRowRefIdeal.main_arg0)
      ∧ r.2.mem ((c.tc : Thread Cert.AddRowRefIdeal.nD Cert.AddRowRefIdeal.τ).loc Cert.AddRowRefIdeal.main_arg1) = m ((c.tc : Thread Cert.AddRowRefIdeal.nD Cert.AddRowRefIdeal.τ).loc Cert.AddRowRefIdeal.main_arg1))
      ∧ r.2.sem = fun _ => 0)

def quiescent_AddDown [hAddDown : Cert.AddDown.Facts] : Prop :=
  ∀ (m : (ℓ : Loc Cert.AddDown.nD Cert.AddDown.τ Cert.AddDown.sig) → Buf (Elt Bits) ℓ) (g : Dev Cert.AddDown.nD → PrngReg), Pre_AddDown m →
    θ_run (Cert.AddDown.defs (F := Bits)) (onTc (τ := Cert.AddDown.τ) (Cert.AddDown.main (F := Bits))) ⟨m, fun _ => 0, g⟩ (fun r => (∀ c : Dev Cert.AddDown.nD,
      r.2.mem ((c.tc : Thread Cert.AddDown.nD Cert.AddDown.τ).loc Cert.AddDown.main_arg0) = m ((c.tc : Thread Cert.AddDown.nD Cert.AddDown.τ).loc Cert.AddDown.main_arg0)
      ∧ r.2.mem ((c.tc : Thread Cert.AddDown.nD Cert.AddDown.τ).loc Cert.AddDown.main_arg1) = m ((c.tc : Thread Cert.AddDown.nD Cert.AddDown.τ).loc Cert.AddDown.main_arg1))
      ∧ r.2.sem = fun _ => 0)

def quiescent_AddDownIdeal [hAddDownIdeal : Cert.AddDownIdeal.Facts] : Prop :=
  ∀ (m : (ℓ : Loc Cert.AddDownIdeal.nD Cert.AddDownIdeal.τ Cert.AddDownIdeal.sig) → Buf (Elt Ideal) ℓ) (g : Dev Cert.AddDownIdeal.nD → PrngReg), Pre_AddDownIdeal m →
    θ_run (Cert.AddDownIdeal.defs (F := Ideal)) (onTc (τ := Cert.AddDownIdeal.τ) (Cert.AddDownIdeal.main (F := Ideal))) ⟨m, fun _ => 0, g⟩ (fun r => (∀ c : Dev Cert.AddDownIdeal.nD,
      r.2.mem ((c.tc : Thread Cert.AddDownIdeal.nD Cert.AddDownIdeal.τ).loc Cert.AddDownIdeal.main_arg0) = m ((c.tc : Thread Cert.AddDownIdeal.nD Cert.AddDownIdeal.τ).loc Cert.AddDownIdeal.main_arg0)
      ∧ r.2.mem ((c.tc : Thread Cert.AddDownIdeal.nD Cert.AddDownIdeal.τ).loc Cert.AddDownIdeal.main_arg1) = m ((c.tc : Thread Cert.AddDownIdeal.nD Cert.AddDownIdeal.τ).loc Cert.AddDownIdeal.main_arg1))
      ∧ r.2.sem = fun _ => 0)

def quiescent_AddDownRefIdeal [hAddDownRefIdeal : Cert.AddDownRefIdeal.Facts] : Prop :=
  ∀ (m : (ℓ : Loc Cert.AddDownRefIdeal.nD Cert.AddDownRefIdeal.τ Cert.AddDownRefIdeal.sig) → Buf (Elt Ideal) ℓ) (g : Dev Cert.AddDownRefIdeal.nD → PrngReg), Pre_AddDownRefIdeal m →
    θ_run (Cert.AddDownRefIdeal.defs (F := Ideal)) (onTc (τ := Cert.AddDownRefIdeal.τ) (Cert.AddDownRefIdeal.main (F := Ideal))) ⟨m, fun _ => 0, g⟩ (fun r => (∀ c : Dev Cert.AddDownRefIdeal.nD,
      r.2.mem ((c.tc : Thread Cert.AddDownRefIdeal.nD Cert.AddDownRefIdeal.τ).loc Cert.AddDownRefIdeal.main_arg0) = m ((c.tc : Thread Cert.AddDownRefIdeal.nD Cert.AddDownRefIdeal.τ).loc Cert.AddDownRefIdeal.main_arg0)
      ∧ r.2.mem ((c.tc : Thread Cert.AddDownRefIdeal.nD Cert.AddDownRefIdeal.τ).loc Cert.AddDownRefIdeal.main_arg1) = m ((c.tc : Thread Cert.AddDownRefIdeal.nD Cert.AddDownRefIdeal.τ).loc Cert.AddDownRefIdeal.main_arg1))
      ∧ r.2.sem = fun _ => 0)

def quiescent_AddSmall [hAddSmall : Cert.AddSmall.Facts] : Prop :=
  ∀ (m : (ℓ : Loc Cert.AddSmall.nD Cert.AddSmall.τ Cert.AddSmall.sig) → Buf (Elt Bits) ℓ) (g : Dev Cert.AddSmall.nD → PrngReg), Pre_AddSmall m →
    θ_run (Cert.AddSmall.defs (F := Bits)) (onTc (τ := Cert.AddSmall.τ) (Cert.AddSmall.main (F := Bits))) ⟨m, fun _ => 0, g⟩ (fun r => (∀ c : Dev Cert.AddSmall.nD,
      r.2.mem ((c.tc : Thread Cert.AddSmall.nD Cert.AddSmall.τ).loc Cert.AddSmall.main_arg0) = m ((c.tc : Thread Cert.AddSmall.nD Cert.AddSmall.τ).loc Cert.AddSmall.main_arg0)
      ∧ r.2.mem ((c.tc : Thread Cert.AddSmall.nD Cert.AddSmall.τ).loc Cert.AddSmall.main_arg1) = m ((c.tc : Thread Cert.AddSmall.nD Cert.AddSmall.τ).loc Cert.AddSmall.main_arg1))
      ∧ r.2.sem = fun _ => 0)

def quiescent_AddSmallIdeal [hAddSmallIdeal : Cert.AddSmallIdeal.Facts] : Prop :=
  ∀ (m : (ℓ : Loc Cert.AddSmallIdeal.nD Cert.AddSmallIdeal.τ Cert.AddSmallIdeal.sig) → Buf (Elt Ideal) ℓ) (g : Dev Cert.AddSmallIdeal.nD → PrngReg), Pre_AddSmallIdeal m →
    θ_run (Cert.AddSmallIdeal.defs (F := Ideal)) (onTc (τ := Cert.AddSmallIdeal.τ) (Cert.AddSmallIdeal.main (F := Ideal))) ⟨m, fun _ => 0, g⟩ (fun r => (∀ c : Dev Cert.AddSmallIdeal.nD,
      r.2.mem ((c.tc : Thread Cert.AddSmallIdeal.nD Cert.AddSmallIdeal.τ).loc Cert.AddSmallIdeal.main_arg0) = m ((c.tc : Thread Cert.AddSmallIdeal.nD Cert.AddSmallIdeal.τ).loc Cert.AddSmallIdeal.main_arg0)
      ∧ r.2.mem ((c.tc : Thread Cert.AddSmallIdeal.nD Cert.AddSmallIdeal.τ).loc Cert.AddSmallIdeal.main_arg1) = m ((c.tc : Thread Cert.AddSmallIdeal.nD Cert.AddSmallIdeal.τ).loc Cert.AddSmallIdeal.main_arg1))
      ∧ r.2.sem = fun _ => 0)

def quiescent_AddSmallRefIdeal [hAddSmallRefIdeal : Cert.AddSmallRefIdeal.Facts] : Prop :=
  ∀ (m : (ℓ : Loc Cert.AddSmallRefIdeal.nD Cert.AddSmallRefIdeal.τ Cert.AddSmallRefIdeal.sig) → Buf (Elt Ideal) ℓ) (g : Dev Cert.AddSmallRefIdeal.nD → PrngReg), Pre_AddSmallRefIdeal m →
    θ_run (Cert.AddSmallRefIdeal.defs (F := Ideal)) (onTc (τ := Cert.AddSmallRefIdeal.τ) (Cert.AddSmallRefIdeal.main (F := Ideal))) ⟨m, fun _ => 0, g⟩ (fun r => (∀ c : Dev Cert.AddSmallRefIdeal.nD,
      r.2.mem ((c.tc : Thread Cert.AddSmallRefIdeal.nD Cert.AddSmallRefIdeal.τ).loc Cert.AddSmallRefIdeal.main_arg0) = m ((c.tc : Thread Cert.AddSmallRefIdeal.nD Cert.AddSmallRefIdeal.τ).loc Cert.AddSmallRefIdeal.main_arg0)
      ∧ r.2.mem ((c.tc : Thread Cert.AddSmallRefIdeal.nD Cert.AddSmallRefIdeal.τ).loc Cert.AddSmallRefIdeal.main_arg1) = m ((c.tc : Thread Cert.AddSmallRefIdeal.nD Cert.AddSmallRefIdeal.τ).loc Cert.AddSmallRefIdeal.main_arg1))
      ∧ r.2.sem = fun _ => 0)

def quiescent_SumWin [hSumWin : Cert.SumWin.Facts] : Prop :=
  ∀ (m : (ℓ : Loc Cert.SumWin.nD Cert.SumWin.τ Cert.SumWin.sig) → Buf (Elt Bits) ℓ) (g : Dev Cert.SumWin.nD → PrngReg), Pre_SumWin m →
    θ_run (Cert.SumWin.defs (F := Bits)) (onTc (τ := Cert.SumWin.τ) (Cert.SumWin.main (F := Bits))) ⟨m, fun _ => 0, g⟩ (fun r => (∀ c : Dev Cert.SumWin.nD,
      r.2.mem ((c.tc : Thread Cert.SumWin.nD Cert.SumWin.τ).loc Cert.SumWin.main_arg0) = m ((c.tc : Thread Cert.SumWin.nD Cert.SumWin.τ).loc Cert.SumWin.main_arg0))
      ∧ r.2.sem = fun _ => 0)

def quiescent_SumWinIdeal [hSumWinIdeal : Cert.SumWinIdeal.Facts] : Prop :=
  ∀ (m : (ℓ : Loc Cert.SumWinIdeal.nD Cert.SumWinIdeal.τ Cert.SumWinIdeal.sig) → Buf (Elt Ideal) ℓ) (g : Dev Cert.SumWinIdeal.nD → PrngReg), Pre_SumWinIdeal m →
    θ_run (Cert.SumWinIdeal.defs (F := Ideal)) (onTc (τ := Cert.SumWinIdeal.τ) (Cert.SumWinIdeal.main (F := Ideal))) ⟨m, fun _ => 0, g⟩ (fun r => (∀ c : Dev Cert.SumWinIdeal.nD,
      r.2.mem ((c.tc : Thread Cert.SumWinIdeal.nD Cert.SumWinIdeal.τ).loc Cert.SumWinIdeal.main_arg0) = m ((c.tc : Thread Cert.SumWinIdeal.nD Cert.SumWinIdeal.τ).loc Cert.SumWinIdeal.main_arg0))
      ∧ r.2.sem = fun _ => 0)

def quiescent_SumWinRefIdeal [hSumWinRefIdeal : Cert.SumWinRefIdeal.Facts] : Prop :=
  ∀ (m : (ℓ : Loc Cert.SumWinRefIdeal.nD Cert.SumWinRefIdeal.τ Cert.SumWinRefIdeal.sig) → Buf (Elt Ideal) ℓ) (g : Dev Cert.SumWinRefIdeal.nD → PrngReg), Pre_SumWinRefIdeal m →
    θ_run (Cert.SumWinRefIdeal.defs (F := Ideal)) (onTc (τ := Cert.SumWinRefIdeal.τ) (Cert.SumWinRefIdeal.main (F := Ideal))) ⟨m, fun _ => 0, g⟩ (fun r => (∀ c : Dev Cert.SumWinRefIdeal.nD,
      r.2.mem ((c.tc : Thread Cert.SumWinRefIdeal.nD Cert.SumWinRefIdeal.τ).loc Cert.SumWinRefIdeal.main_arg0) = m ((c.tc : Thread Cert.SumWinRefIdeal.nD Cert.SumWinRefIdeal.τ).loc Cert.SumWinRefIdeal.main_arg0))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0))
      ∧ r.2.sem = fun _ => 0)

def quiescent_SumRow [hSumRow : Cert.SumRow.Facts] : Prop :=
  ∀ (m : (ℓ : Loc Cert.SumRow.nD Cert.SumRow.τ Cert.SumRow.sig) → Buf (Elt Bits) ℓ) (g : Dev Cert.SumRow.nD → PrngReg), Pre_SumRow m →
    θ_run (Cert.SumRow.defs (F := Bits)) (onTc (τ := Cert.SumRow.τ) (Cert.SumRow.main (F := Bits))) ⟨m, fun _ => 0, g⟩ (fun r => (∀ c : Dev Cert.SumRow.nD,
      r.2.mem ((c.tc : Thread Cert.SumRow.nD Cert.SumRow.τ).loc Cert.SumRow.main_arg0) = m ((c.tc : Thread Cert.SumRow.nD Cert.SumRow.τ).loc Cert.SumRow.main_arg0))
      ∧ r.2.sem = fun _ => 0)

def quiescent_SumRowIdeal [hSumRowIdeal : Cert.SumRowIdeal.Facts] : Prop :=
  ∀ (m : (ℓ : Loc Cert.SumRowIdeal.nD Cert.SumRowIdeal.τ Cert.SumRowIdeal.sig) → Buf (Elt Ideal) ℓ) (g : Dev Cert.SumRowIdeal.nD → PrngReg), Pre_SumRowIdeal m →
    θ_run (Cert.SumRowIdeal.defs (F := Ideal)) (onTc (τ := Cert.SumRowIdeal.τ) (Cert.SumRowIdeal.main (F := Ideal))) ⟨m, fun _ => 0, g⟩ (fun r => (∀ c : Dev Cert.SumRowIdeal.nD,
      r.2.mem ((c.tc : Thread Cert.SumRowIdeal.nD Cert.SumRowIdeal.τ).loc Cert.SumRowIdeal.main_arg0) = m ((c.tc : Thread Cert.SumRowIdeal.nD Cert.SumRowIdeal.τ).loc Cert.SumRowIdeal.main_arg0))
      ∧ r.2.sem = fun _ => 0)

def quiescent_SumRowRefIdeal [hSumRowRefIdeal : Cert.SumRowRefIdeal.Facts] : Prop :=
  ∀ (m : (ℓ : Loc Cert.SumRowRefIdeal.nD Cert.SumRowRefIdeal.τ Cert.SumRowRefIdeal.sig) → Buf (Elt Ideal) ℓ) (g : Dev Cert.SumRowRefIdeal.nD → PrngReg), Pre_SumRowRefIdeal m →
    θ_run (Cert.SumRowRefIdeal.defs (F := Ideal)) (onTc (τ := Cert.SumRowRefIdeal.τ) (Cert.SumRowRefIdeal.main (F := Ideal))) ⟨m, fun _ => 0, g⟩ (fun r => (∀ c : Dev Cert.SumRowRefIdeal.nD,
      r.2.mem ((c.tc : Thread Cert.SumRowRefIdeal.nD Cert.SumRowRefIdeal.τ).loc Cert.SumRowRefIdeal.main_arg0) = m ((c.tc : Thread Cert.SumRowRefIdeal.nD Cert.SumRowRefIdeal.τ).loc Cert.SumRowRefIdeal.main_arg0))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumRepl [hSumRepl : Cert.SumRepl.Facts] : Prop :=
  ∀ (m : (ℓ : Loc Cert.SumRepl.nD Cert.SumRepl.τ Cert.SumRepl.sig) → Buf (Elt Bits) ℓ) (g : Dev Cert.SumRepl.nD → PrngReg), Pre_SumRepl m →
    θ_run (Cert.SumRepl.defs (F := Bits)) (onTc (τ := Cert.SumRepl.τ) (Cert.SumRepl.main (F := Bits))) ⟨m, fun _ => 0, g⟩ (fun r => (∀ c : Dev Cert.SumRepl.nD,
      r.2.mem ((c.tc : Thread Cert.SumRepl.nD Cert.SumRepl.τ).loc Cert.SumRepl.main_arg0) = m ((c.tc : Thread Cert.SumRepl.nD Cert.SumRepl.τ).loc Cert.SumRepl.main_arg0))
      ∧ r.2.sem = fun _ => 0)

def quiescent_SumReplIdeal [hSumReplIdeal : Cert.SumReplIdeal.Facts] : Prop :=
  ∀ (m : (ℓ : Loc Cert.SumReplIdeal.nD Cert.SumReplIdeal.τ Cert.SumReplIdeal.sig) → Buf (Elt Ideal) ℓ) (g : Dev Cert.SumReplIdeal.nD → PrngReg), Pre_SumReplIdeal m →
    θ_run (Cert.SumReplIdeal.defs (F := Ideal)) (onTc (τ := Cert.SumReplIdeal.τ) (Cert.SumReplIdeal.main (F := Ideal))) ⟨m, fun _ => 0, g⟩ (fun r => (∀ c : Dev Cert.SumReplIdeal.nD,
      r.2.mem ((c.tc : Thread Cert.SumReplIdeal.nD Cert.SumReplIdeal.τ).loc Cert.SumReplIdeal.main_arg0) = m ((c.tc : Thread Cert.SumReplIdeal.nD Cert.SumReplIdeal.τ).loc Cert.SumReplIdeal.main_arg0))
      ∧ r.2.sem = fun _ => 0)

def quiescent_SumReplRefIdeal [hSumReplRefIdeal : Cert.SumReplRefIdeal.Facts] : Prop :=
  ∀ (m : (ℓ : Loc Cert.SumReplRefIdeal.nD Cert.SumReplRefIdeal.τ Cert.SumReplRefIdeal.sig) → Buf (Elt Ideal) ℓ) (g : Dev Cert.SumReplRefIdeal.nD → PrngReg), Pre_SumReplRefIdeal m →
    θ_run (Cert.SumReplRefIdeal.defs (F := Ideal)) (onTc (τ := Cert.SumReplRefIdeal.τ) (Cert.SumReplRefIdeal.main (F := Ideal))) ⟨m, fun _ => 0, g⟩ (fun r => (∀ c : Dev Cert.SumReplRefIdeal.nD,
      r.2.mem ((c.tc : Thread Cert.SumReplRefIdeal.nD Cert.SumReplRefIdeal.τ).loc Cert.SumReplRefIdeal.main_arg0) = m ((c.tc : Thread Cert.SumReplRefIdeal.nD Cert.SumReplRefIdeal.τ).loc Cert.SumReplRefIdeal.main_arg0))
      ∧ r.2.sem = fun _ => 0)

def quiescent_NormBack [hNormBack : Cert.NormBack.Facts] : Prop :=
  ∀ (m : (ℓ : Loc Cert.NormBack.nD Cert.NormBack.τ Cert.NormBack.sig) → Buf (Elt Bits) ℓ) (g : Dev Cert.NormBack.nD → PrngReg), Pre_NormBack m →
    θ_run (Cert.NormBack.defs (F := Bits)) (onTc (τ := Cert.NormBack.τ) (Cert.NormBack.main (F := Bits))) ⟨m, fun _ => 0, g⟩ (fun r => (∀ c : Dev Cert.NormBack.nD,
      r.2.mem ((c.tc : Thread Cert.NormBack.nD Cert.NormBack.τ).loc Cert.NormBack.main_arg0) = m ((c.tc : Thread Cert.NormBack.nD Cert.NormBack.τ).loc Cert.NormBack.main_arg0)
      ∧ r.2.mem ((c.tc : Thread Cert.NormBack.nD Cert.NormBack.τ).loc Cert.NormBack.main_arg1) = m ((c.tc : Thread Cert.NormBack.nD Cert.NormBack.τ).loc Cert.NormBack.main_arg1)
      ∧ r.2.mem ((c.tc : Thread Cert.NormBack.nD Cert.NormBack.τ).loc Cert.NormBack.main_arg2) = m ((c.tc : Thread Cert.NormBack.nD Cert.NormBack.τ).loc Cert.NormBack.main_arg2)
      ∧ r.2.mem ((c.tc : Thread Cert.NormBack.nD Cert.NormBack.τ).loc Cert.NormBack.main_arg3) = m ((c.tc : Thread Cert.NormBack.nD Cert.NormBack.τ).loc Cert.NormBack.main_arg3))
      ∧ r.2.sem = fun _ => 0)

def quiescent_NormBackIdeal [hNormBackIdeal : Cert.NormBackIdeal.Facts] : Prop :=
  ∀ (m : (ℓ : Loc Cert.NormBackIdeal.nD Cert.NormBackIdeal.τ Cert.NormBackIdeal.sig) → Buf (Elt Ideal) ℓ) (g : Dev Cert.NormBackIdeal.nD → PrngReg), Pre_NormBackIdeal m →
    θ_run (Cert.NormBackIdeal.defs (F := Ideal)) (onTc (τ := Cert.NormBackIdeal.τ) (Cert.NormBackIdeal.main (F := Ideal))) ⟨m, fun _ => 0, g⟩ (fun r => (∀ c : Dev Cert.NormBackIdeal.nD,
      r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
      ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
      ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
      ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ r.2.sem = fun _ => 0)

def quiescent_NormBackRefIdeal [hNormBackRefIdeal : Cert.NormBackRefIdeal.Facts] : Prop :=
  ∀ (m : (ℓ : Loc Cert.NormBackRefIdeal.nD Cert.NormBackRefIdeal.τ Cert.NormBackRefIdeal.sig) → Buf (Elt Ideal) ℓ) (g : Dev Cert.NormBackRefIdeal.nD → PrngReg), Pre_NormBackRefIdeal m →
    θ_run (Cert.NormBackRefIdeal.defs (F := Ideal)) (onTc (τ := Cert.NormBackRefIdeal.τ) (Cert.NormBackRefIdeal.main (F := Ideal))) ⟨m, fun _ => 0, g⟩ (fun r => (∀ c : Dev Cert.NormBackRefIdeal.nD,
      r.2.mem ((c.tc : Thread Cert.NormBackRefIdeal.nD Cert.NormBackRefIdeal.τ).loc Cert.NormBackRefIdeal.main_arg0) = m ((c.tc : Thread Cert.NormBackRefIdeal.nD Cert.NormBackRefIdeal.τ).loc Cert.NormBackRefIdeal.main_arg0)
      ∧ r.2.mem ((c.tc : Thread Cert.NormBackRefIdeal.nD Cert.NormBackRefIdeal.τ).loc Cert.NormBackRefIdeal.main_arg1) = m ((c.tc : Thread Cert.NormBackRefIdeal.nD Cert.NormBackRefIdeal.τ).loc Cert.NormBackRefIdeal.main_arg1)
      ∧ r.2.mem ((c.tc : Thread Cert.NormBackRefIdeal.nD Cert.NormBackRefIdeal.τ).loc Cert.NormBackRefIdeal.main_arg2) = m ((c.tc : Thread Cert.NormBackRefIdeal.nD Cert.NormBackRefIdeal.τ).loc Cert.NormBackRefIdeal.main_arg2)
      ∧ r.2.mem ((c.tc : Thread Cert.NormBackRefIdeal.nD Cert.NormBackRefIdeal.τ).loc Cert.NormBackRefIdeal.main_arg3) = m ((c.tc : Thread Cert.NormBackRefIdeal.nD Cert.NormBackRefIdeal.τ).loc Cert.NormBackRefIdeal.main_arg3))
      ∧ r.2.sem = fun _ => 0)

def quiescent_LastStep [hLastStep : Cert.LastStep.Facts] : Prop :=
  ∀ (m : (ℓ : Loc Cert.LastStep.nD Cert.LastStep.τ Cert.LastStep.sig) → Buf (Elt Bits) ℓ) (g : Dev Cert.LastStep.nD → PrngReg), Pre_LastStep m →
    θ_run (Cert.LastStep.defs (F := Bits)) (onTc (τ := Cert.LastStep.τ) (Cert.LastStep.main (F := Bits))) ⟨m, fun _ => 0, g⟩ (fun r => (∀ c : Dev Cert.LastStep.nD,
      r.2.mem ((c.tc : Thread Cert.LastStep.nD Cert.LastStep.τ).loc Cert.LastStep.main_arg0) = m ((c.tc : Thread Cert.LastStep.nD Cert.LastStep.τ).loc Cert.LastStep.main_arg0)
      ∧ r.2.mem ((c.tc : Thread Cert.LastStep.nD Cert.LastStep.τ).loc Cert.LastStep.main_arg1) = m ((c.tc : Thread Cert.LastStep.nD Cert.LastStep.τ).loc Cert.LastStep.main_arg1)
      ∧ r.2.mem ((c.tc : Thread Cert.LastStep.nD Cert.LastStep.τ).loc Cert.LastStep.main_arg2) = m ((c.tc : Thread Cert.LastStep.nD Cert.LastStep.τ).loc Cert.LastStep.main_arg2)
      ∧ r.2.mem ((c.tc : Thread Cert.LastStep.nD Cert.LastStep.τ).loc Cert.LastStep.main_arg3) = m ((c.tc : Thread Cert.LastStep.nD Cert.LastStep.τ).loc Cert.LastStep.main_arg3)
      ∧ r.2.mem ((c.tc : Thread Cert.LastStep.nD Cert.LastStep.τ).loc Cert.LastStep.main_arg4) = m ((c.tc : Thread Cert.LastStep.nD Cert.LastStep.τ).loc Cert.LastStep.main_arg4))
      ∧ r.2.sem = fun _ => 0)

def quiescent_LastStepIdeal [hLastStepIdeal : Cert.LastStepIdeal.Facts] : Prop :=
  ∀ (m : (ℓ : Loc Cert.LastStepIdeal.nD Cert.LastStepIdeal.τ Cert.LastStepIdeal.sig) → Buf (Elt Ideal) ℓ) (g : Dev Cert.LastStepIdeal.nD → PrngReg), Pre_LastStepIdeal m →
    θ_run (Cert.LastStepIdeal.defs (F := Ideal)) (onTc (τ := Cert.LastStepIdeal.τ) (Cert.LastStepIdeal.main (F := Ideal))) ⟨m, fun _ => 0, g⟩ (fun r => (∀ c : Dev Cert.LastStepIdeal.nD,
      r.2.mem ((c.tc : Thread Cert.LastStepIdeal.nD Cert.LastStepIdeal.τ).loc Cert.LastStepIdeal.main_arg0) = m ((c.tc : Thread Cert.LastStepIdeal.nD Cert.LastStepIdeal.τ).loc Cert.LastStepIdeal.main_arg0)
      ∧ r.2.mem ((c.tc : Thread Cert.LastStepIdeal.nD Cert.LastStepIdeal.τ).loc Cert.LastStepIdeal.main_arg1) = m ((c.tc : Thread Cert.LastStepIdeal.nD Cert.LastStepIdeal.τ).loc Cert.LastStepIdeal.main_arg1)
      ∧ r.2.mem ((c.tc : Thread Cert.LastStepIdeal.nD Cert.LastStepIdeal.τ).loc Cert.LastStepIdeal.main_arg2) = m ((c.tc : Thread Cert.LastStepIdeal.nD Cert.LastStepIdeal.τ).loc Cert.LastStepIdeal.main_arg2)
      ∧ r.2.mem ((c.tc : Thread Cert.LastStepIdeal.nD Cert.LastStepIdeal.τ).loc Cert.LastStepIdeal.main_arg3) = m ((c.tc : Thread Cert.LastStepIdeal.nD Cert.LastStepIdeal.τ).loc Cert.LastStepIdeal.main_arg3)
      ∧ r.2.mem ((c.tc : Thread Cert.LastStepIdeal.nD Cert.LastStepIdeal.τ).loc Cert.LastStepIdeal.main_arg4) = m ((c.tc : Thread Cert.LastStepIdeal.nD Cert.LastStepIdeal.τ).loc Cert.LastStepIdeal.main_arg4))
      ∧ r.2.sem = fun _ => 0)

def quiescent_LastStepRefIdeal [hLastStepRefIdeal : Cert.LastStepRefIdeal.Facts] : Prop :=
  ∀ (m : (ℓ : Loc Cert.LastStepRefIdeal.nD Cert.LastStepRefIdeal.τ Cert.LastStepRefIdeal.sig) → Buf (Elt Ideal) ℓ) (g : Dev Cert.LastStepRefIdeal.nD → PrngReg), Pre_LastStepRefIdeal m →
    θ_run (Cert.LastStepRefIdeal.defs (F := Ideal)) (onTc (τ := Cert.LastStepRefIdeal.τ) (Cert.LastStepRefIdeal.main (F := Ideal))) ⟨m, fun _ => 0, g⟩ (fun r => (∀ c : Dev Cert.LastStepRefIdeal.nD,
      r.2.mem ((c.tc : Thread Cert.LastStepRefIdeal.nD Cert.LastStepRefIdeal.τ).loc Cert.LastStepRefIdeal.main_arg0) = m ((c.tc : Thread Cert.LastStepRefIdeal.nD Cert.LastStepRefIdeal.τ).loc Cert.LastStepRefIdeal.main_arg0)
      ∧ r.2.mem ((c.tc : Thread Cert.LastStepRefIdeal.nD Cert.LastStepRefIdeal.τ).loc Cert.LastStepRefIdeal.main_arg1) = m ((c.tc : Thread Cert.LastStepRefIdeal.nD Cert.LastStepRefIdeal.τ).loc Cert.LastStepRefIdeal.main_arg1)
      ∧ r.2.mem ((c.tc : Thread Cert.LastStepRefIdeal.nD Cert.LastStepRefIdeal.τ).loc Cert.LastStepRefIdeal.main_arg2) = m ((c.tc : Thread Cert.LastStepRefIdeal.nD Cert.LastStepRefIdeal.τ).loc Cert.LastStepRefIdeal.main_arg2)
      ∧ r.2.mem ((c.tc : Thread Cert.LastStepRefIdeal.nD Cert.LastStepRefIdeal.τ).loc Cert.LastStepRefIdeal.main_arg3) = m ((c.tc : Thread Cert.LastStepRefIdeal.nD Cert.LastStepRefIdeal.τ).loc Cert.LastStepRefIdeal.main_arg3)
      ∧ r.2.mem ((c.tc : Thread Cert.LastStepRefIdeal.nD Cert.LastStepRefIdeal.τ).loc Cert.LastStepRefIdeal.main_arg4) = m ((c.tc : Thread Cert.LastStepRefIdeal.nD Cert.LastStepRefIdeal.τ).loc Cert.LastStepRefIdeal.main_arg4))
      ∧ r.2.sem = fun _ => 0)

def quiescent_MidNorms [hMidNorms : Cert.MidNorms.Facts] : Prop :=
  ∀ (m : (ℓ : Loc Cert.MidNorms.nD Cert.MidNorms.τ Cert.MidNorms.sig) → Buf (Elt Bits) ℓ) (g : Dev Cert.MidNorms.nD → PrngReg), Pre_MidNorms m →
    θ_run (Cert.MidNorms.defs (F := Bits)) (onTc (τ := Cert.MidNorms.τ) (Cert.MidNorms.main (F := Bits))) ⟨m, fun _ => 0, g⟩ (fun r => (∀ c : Dev Cert.MidNorms.nD,
      r.2.mem ((c.tc : Thread Cert.MidNorms.nD Cert.MidNorms.τ).loc Cert.MidNorms.main_arg0) = m ((c.tc : Thread Cert.MidNorms.nD Cert.MidNorms.τ).loc Cert.MidNorms.main_arg0)
      ∧ r.2.mem ((c.tc : Thread Cert.MidNorms.nD Cert.MidNorms.τ).loc Cert.MidNorms.main_arg1) = m ((c.tc : Thread Cert.MidNorms.nD Cert.MidNorms.τ).loc Cert.MidNorms.main_arg1)
      ∧ r.2.mem ((c.tc : Thread Cert.MidNorms.nD Cert.MidNorms.τ).loc Cert.MidNorms.main_arg2) = m ((c.tc : Thread Cert.MidNorms.nD Cert.MidNorms.τ).loc Cert.MidNorms.main_arg2)
      ∧ r.2.mem ((c.tc : Thread Cert.MidNorms.nD Cert.MidNorms.τ).loc Cert.MidNorms.main_arg3) = m ((c.tc : Thread Cert.MidNorms.nD Cert.MidNorms.τ).loc Cert.MidNorms.main_arg3)
      ∧ r.2.mem ((c.tc : Thread Cert.MidNorms.nD Cert.MidNorms.τ).loc Cert.MidNorms.main_arg4) = m ((c.tc : Thread Cert.MidNorms.nD Cert.MidNorms.τ).loc Cert.MidNorms.main_arg4)
      ∧ r.2.mem ((c.tc : Thread Cert.MidNorms.nD Cert.MidNorms.τ).loc Cert.MidNorms.main_arg5) = m ((c.tc : Thread Cert.MidNorms.nD Cert.MidNorms.τ).loc Cert.MidNorms.main_arg5))
      ∧ r.2.sem = fun _ => 0)

def quiescent_MidNormsIdeal [hMidNormsIdeal : Cert.MidNormsIdeal.Facts] : Prop :=
  ∀ (m : (ℓ : Loc Cert.MidNormsIdeal.nD Cert.MidNormsIdeal.τ Cert.MidNormsIdeal.sig) → Buf (Elt Ideal) ℓ) (g : Dev Cert.MidNormsIdeal.nD → PrngReg), Pre_MidNormsIdeal m →
    θ_run (Cert.MidNormsIdeal.defs (F := Ideal)) (onTc (τ := Cert.MidNormsIdeal.τ) (Cert.MidNormsIdeal.main (F := Ideal))) ⟨m, fun _ => 0, g⟩ (fun r => (∀ c : Dev Cert.MidNormsIdeal.nD,
      r.2.mem ((c.tc : Thread Cert.MidNormsIdeal.nD Cert.MidNormsIdeal.τ).loc Cert.MidNormsIdeal.main_arg0) = m ((c.tc : Thread Cert.MidNormsIdeal.nD Cert.MidNormsIdeal.τ).loc Cert.MidNormsIdeal.main_arg0)
      ∧ r.2.mem ((c.tc : Thread Cert.MidNormsIdeal.nD Cert.MidNormsIdeal.τ).loc Cert.MidNormsIdeal.main_arg1) = m ((c.tc : Thread Cert.MidNormsIdeal.nD Cert.MidNormsIdeal.τ).loc Cert.MidNormsIdeal.main_arg1)
      ∧ r.2.mem ((c.tc : Thread Cert.MidNormsIdeal.nD Cert.MidNormsIdeal.τ).loc Cert.MidNormsIdeal.main_arg2) = m ((c.tc : Thread Cert.MidNormsIdeal.nD Cert.MidNormsIdeal.τ).loc Cert.MidNormsIdeal.main_arg2)
      ∧ r.2.mem ((c.tc : Thread Cert.MidNormsIdeal.nD Cert.MidNormsIdeal.τ).loc Cert.MidNormsIdeal.main_arg3) = m ((c.tc : Thread Cert.MidNormsIdeal.nD Cert.MidNormsIdeal.τ).loc Cert.MidNormsIdeal.main_arg3)
      ∧ r.2.mem ((c.tc : Thread Cert.MidNormsIdeal.nD Cert.MidNormsIdeal.τ).loc Cert.MidNormsIdeal.main_arg4) = m ((c.tc : Thread Cert.MidNormsIdeal.nD Cert.MidNormsIdeal.τ).loc Cert.MidNormsIdeal.main_arg4)
      ∧ r.2.mem ((c.tc : Thread Cert.MidNormsIdeal.nD Cert.MidNormsIdeal.τ).loc Cert.MidNormsIdeal.main_arg5) = m ((c.tc : Thread Cert.MidNormsIdeal.nD Cert.MidNormsIdeal.τ).loc Cert.MidNormsIdeal.main_arg5))
      ∧ r.2.sem = fun _ => 0)

def quiescent_MidNormsRefIdeal [hMidNormsRefIdeal : Cert.MidNormsRefIdeal.Facts] : Prop :=
  ∀ (m : (ℓ : Loc Cert.MidNormsRefIdeal.nD Cert.MidNormsRefIdeal.τ Cert.MidNormsRefIdeal.sig) → Buf (Elt Ideal) ℓ) (g : Dev Cert.MidNormsRefIdeal.nD → PrngReg), Pre_MidNormsRefIdeal m →
    θ_run (Cert.MidNormsRefIdeal.defs (F := Ideal)) (onTc (τ := Cert.MidNormsRefIdeal.τ) (Cert.MidNormsRefIdeal.main (F := Ideal))) ⟨m, fun _ => 0, g⟩ (fun r => (∀ c : Dev Cert.MidNormsRefIdeal.nD,
      r.2.mem ((c.tc : Thread Cert.MidNormsRefIdeal.nD Cert.MidNormsRefIdeal.τ).loc Cert.MidNormsRefIdeal.main_arg0) = m ((c.tc : Thread Cert.MidNormsRefIdeal.nD Cert.MidNormsRefIdeal.τ).loc Cert.MidNormsRefIdeal.main_arg0)
      ∧ r.2.mem ((c.tc : Thread Cert.MidNormsRefIdeal.nD Cert.MidNormsRefIdeal.τ).loc Cert.MidNormsRefIdeal.main_arg1) = m ((c.tc : Thread Cert.MidNormsRefIdeal.nD Cert.MidNormsRefIdeal.τ).loc Cert.MidNormsRefIdeal.main_arg1)
      ∧ r.2.mem ((c.tc : Thread Cert.MidNormsRefIdeal.nD Cert.MidNormsRefIdeal.τ).loc Cert.MidNormsRefIdeal.main_arg2) = m ((c.tc : Thread Cert.MidNormsRefIdeal.nD Cert.MidNormsRefIdeal.τ).loc Cert.MidNormsRefIdeal.main_arg2)
      ∧ r.2.mem ((c.tc : Thread Cert.MidNormsRefIdeal.nD Cert.MidNormsRefIdeal.τ).loc Cert.MidNormsRefIdeal.main_arg3) = m ((c.tc : Thread Cert.MidNormsRefIdeal.nD Cert.MidNormsRefIdeal.τ).loc Cert.MidNormsRefIdeal.main_arg3)
      ∧ r.2.mem ((c.tc : Thread Cert.MidNormsRefIdeal.nD Cert.MidNormsRefIdeal.τ).loc Cert.MidNormsRefIdeal.main_arg4) = m ((c.tc : Thread Cert.MidNormsRefIdeal.nD Cert.MidNormsRefIdeal.τ).loc Cert.MidNormsRefIdeal.main_arg4)
      ∧ r.2.mem ((c.tc : Thread Cert.MidNormsRefIdeal.nD Cert.MidNormsRefIdeal.τ).loc Cert.MidNormsRefIdeal.main_arg5) = m ((c.tc : Thread Cert.MidNormsRefIdeal.nD Cert.MidNormsRefIdeal.τ).loc Cert.MidNormsRefIdeal.main_arg5))
      ∧ r.2.sem = fun _ => 0)

def quiescent_BackWin [hBackWin : Cert.BackWin.Facts] : Prop :=
  ∀ (m : (ℓ : Loc Cert.BackWin.nD Cert.BackWin.τ Cert.BackWin.sig) → Buf (Elt Bits) ℓ) (g : Dev Cert.BackWin.nD → PrngReg), Pre_BackWin m →
    θ_run (Cert.BackWin.defs (F := Bits)) (onTc (τ := Cert.BackWin.τ) (Cert.BackWin.main (F := Bits))) ⟨m, fun _ => 0, g⟩ (fun r => (∀ c : Dev Cert.BackWin.nD,
      r.2.mem ((c.tc : Thread Cert.BackWin.nD Cert.BackWin.τ).loc Cert.BackWin.main_arg0) = m ((c.tc : Thread Cert.BackWin.nD Cert.BackWin.τ).loc Cert.BackWin.main_arg0)
      ∧ r.2.mem ((c.tc : Thread Cert.BackWin.nD Cert.BackWin.τ).loc Cert.BackWin.main_arg1) = m ((c.tc : Thread Cert.BackWin.nD Cert.BackWin.τ).loc Cert.BackWin.main_arg1)
      ∧ r.2.mem ((c.tc : Thread Cert.BackWin.nD Cert.BackWin.τ).loc Cert.BackWin.main_arg2) = m ((c.tc : Thread Cert.BackWin.nD Cert.BackWin.τ).loc Cert.BackWin.main_arg2))
      ∧ r.2.sem = fun _ => 0)

def quiescent_BackWinIdeal [hBackWinIdeal : Cert.BackWinIdeal.Facts] : Prop :=
  ∀ (m : (ℓ : Loc Cert.BackWinIdeal.nD Cert.BackWinIdeal.τ Cert.BackWinIdeal.sig) → Buf (Elt Ideal) ℓ) (g : Dev Cert.BackWinIdeal.nD → PrngReg), Pre_BackWinIdeal m →
    θ_run (Cert.BackWinIdeal.defs (F := Ideal)) (onTc (τ := Cert.BackWinIdeal.τ) (Cert.BackWinIdeal.main (F := Ideal))) ⟨m, fun _ => 0, g⟩ (fun r => (∀ c : Dev Cert.BackWinIdeal.nD,
      r.2.mem ((c.tc : Thread Cert.BackWinIdeal.nD Cert.BackWinIdeal.τ).loc Cert.BackWinIdeal.main_arg0) = m ((c.tc : Thread Cert.BackWinIdeal.nD Cert.BackWinIdeal.τ).loc Cert.BackWinIdeal.main_arg0)
      ∧ r.2.mem ((c.tc : Thread Cert.BackWinIdeal.nD Cert.BackWinIdeal.τ).loc Cert.BackWinIdeal.main_arg1) = m ((c.tc : Thread Cert.BackWinIdeal.nD Cert.BackWinIdeal.τ).loc Cert.BackWinIdeal.main_arg1)
      ∧ r.2.mem ((c.tc : Thread Cert.BackWinIdeal.nD Cert.BackWinIdeal.τ).loc Cert.BackWinIdeal.main_arg2) = m ((c.tc : Thread Cert.BackWinIdeal.nD Cert.BackWinIdeal.τ).loc Cert.BackWinIdeal.main_arg2))
      ∧ r.2.sem = fun _ => 0)

def quiescent_BackWinRefIdeal [hBackWinRefIdeal : Cert.BackWinRefIdeal.Facts] : Prop :=
  ∀ (m : (ℓ : Loc Cert.BackWinRefIdeal.nD Cert.BackWinRefIdeal.τ Cert.BackWinRefIdeal.sig) → Buf (Elt Ideal) ℓ) (g : Dev Cert.BackWinRefIdeal.nD → PrngReg), Pre_BackWinRefIdeal m →
    θ_run (Cert.BackWinRefIdeal.defs (F := Ideal)) (onTc (τ := Cert.BackWinRefIdeal.τ) (Cert.BackWinRefIdeal.main (F := Ideal))) ⟨m, fun _ => 0, g⟩ (fun r => (∀ c : Dev Cert.BackWinRefIdeal.nD,
      r.2.mem ((c.tc : Thread Cert.BackWinRefIdeal.nD Cert.BackWinRefIdeal.τ).loc Cert.BackWinRefIdeal.main_arg0) = m ((c.tc : Thread Cert.BackWinRefIdeal.nD Cert.BackWinRefIdeal.τ).loc Cert.BackWinRefIdeal.main_arg0)
      ∧ r.2.mem ((c.tc : Thread Cert.BackWinRefIdeal.nD Cert.BackWinRefIdeal.τ).loc Cert.BackWinRefIdeal.main_arg1) = m ((c.tc : Thread Cert.BackWinRefIdeal.nD Cert.BackWinRefIdeal.τ).loc Cert.BackWinRefIdeal.main_arg1)
      ∧ r.2.mem ((c.tc : Thread Cert.BackWinRefIdeal.nD Cert.BackWinRefIdeal.τ).loc Cert.BackWinRefIdeal.main_arg2) = m ((c.tc : Thread Cert.BackWinRefIdeal.nD Cert.BackWinRefIdeal.τ).loc Cert.BackWinRefIdeal.main_arg2))
      ∧ r.2.sem = fun _ => 0)

def quiescent_BackUp [hBackUp : Cert.BackUp.Facts] : Prop :=
  ∀ (m : (ℓ : Loc Cert.BackUp.nD Cert.BackUp.τ Cert.BackUp.sig) → Buf (Elt Bits) ℓ) (g : Dev Cert.BackUp.nD → PrngReg), Pre_BackUp m →
    θ_run (Cert.BackUp.defs (F := Bits)) (onTc (τ := Cert.BackUp.τ) (Cert.BackUp.main (F := Bits))) ⟨m, fun _ => 0, g⟩ (fun r => (∀ c : Dev Cert.BackUp.nD,
      r.2.mem ((c.tc : Thread Cert.BackUp.nD Cert.BackUp.τ).loc Cert.BackUp.main_arg0) = m ((c.tc : Thread Cert.BackUp.nD Cert.BackUp.τ).loc Cert.BackUp.main_arg0)
      ∧ r.2.mem ((c.tc : Thread Cert.BackUp.nD Cert.BackUp.τ).loc Cert.BackUp.main_arg1) = m ((c.tc : Thread Cert.BackUp.nD Cert.BackUp.τ).loc Cert.BackUp.main_arg1)
      ∧ r.2.mem ((c.tc : Thread Cert.BackUp.nD Cert.BackUp.τ).loc Cert.BackUp.main_arg2) = m ((c.tc : Thread Cert.BackUp.nD Cert.BackUp.τ).loc Cert.BackUp.main_arg2))
      ∧ r.2.sem = fun _ => 0)

def quiescent_BackUpIdeal [hBackUpIdeal : Cert.BackUpIdeal.Facts] : Prop :=
  ∀ (m : (ℓ : Loc Cert.BackUpIdeal.nD Cert.BackUpIdeal.τ Cert.BackUpIdeal.sig) → Buf (Elt Ideal) ℓ) (g : Dev Cert.BackUpIdeal.nD → PrngReg), Pre_BackUpIdeal m →
    θ_run (Cert.BackUpIdeal.defs (F := Ideal)) (onTc (τ := Cert.BackUpIdeal.τ) (Cert.BackUpIdeal.main (F := Ideal))) ⟨m, fun _ => 0, g⟩ (fun r => (∀ c : Dev Cert.BackUpIdeal.nD,
      r.2.mem ((c.tc : Thread Cert.BackUpIdeal.nD Cert.BackUpIdeal.τ).loc Cert.BackUpIdeal.main_arg0) = m ((c.tc : Thread Cert.BackUpIdeal.nD Cert.BackUpIdeal.τ).loc Cert.BackUpIdeal.main_arg0)
      ∧ r.2.mem ((c.tc : Thread Cert.BackUpIdeal.nD Cert.BackUpIdeal.τ).loc Cert.BackUpIdeal.main_arg1) = m ((c.tc : Thread Cert.BackUpIdeal.nD Cert.BackUpIdeal.τ).loc Cert.BackUpIdeal.main_arg1)
      ∧ r.2.mem ((c.tc : Thread Cert.BackUpIdeal.nD Cert.BackUpIdeal.τ).loc Cert.BackUpIdeal.main_arg2) = m ((c.tc : Thread Cert.BackUpIdeal.nD Cert.BackUpIdeal.τ).loc Cert.BackUpIdeal.main_arg2))
      ∧ r.2.sem = fun _ => 0)

def quiescent_BackUpRefIdeal [hBackUpRefIdeal : Cert.BackUpRefIdeal.Facts] : Prop :=
  ∀ (m : (ℓ : Loc Cert.BackUpRefIdeal.nD Cert.BackUpRefIdeal.τ Cert.BackUpRefIdeal.sig) → Buf (Elt Ideal) ℓ) (g : Dev Cert.BackUpRefIdeal.nD → PrngReg), Pre_BackUpRefIdeal m →
    θ_run (Cert.BackUpRefIdeal.defs (F := Ideal)) (onTc (τ := Cert.BackUpRefIdeal.τ) (Cert.BackUpRefIdeal.main (F := Ideal))) ⟨m, fun _ => 0, g⟩ (fun r => (∀ c : Dev Cert.BackUpRefIdeal.nD,
      r.2.mem ((c.tc : Thread Cert.BackUpRefIdeal.nD Cert.BackUpRefIdeal.τ).loc Cert.BackUpRefIdeal.main_arg0) = m ((c.tc : Thread Cert.BackUpRefIdeal.nD Cert.BackUpRefIdeal.τ).loc Cert.BackUpRefIdeal.main_arg0)
      ∧ r.2.mem ((c.tc : Thread Cert.BackUpRefIdeal.nD Cert.BackUpRefIdeal.τ).loc Cert.BackUpRefIdeal.main_arg1) = m ((c.tc : Thread Cert.BackUpRefIdeal.nD Cert.BackUpRefIdeal.τ).loc Cert.BackUpRefIdeal.main_arg1)
      ∧ r.2.mem ((c.tc : Thread Cert.BackUpRefIdeal.nD Cert.BackUpRefIdeal.τ).loc Cert.BackUpRefIdeal.main_arg2) = m ((c.tc : Thread Cert.BackUpRefIdeal.nD Cert.BackUpRefIdeal.τ).loc Cert.BackUpRefIdeal.main_arg2))
      ∧ r.2.sem = fun _ => 0)

def quiescent_BackOut [hBackOut : Cert.BackOut.Facts] : Prop :=
  ∀ (m : (ℓ : Loc Cert.BackOut.nD Cert.BackOut.τ Cert.BackOut.sig) → Buf (Elt Bits) ℓ) (g : Dev Cert.BackOut.nD → PrngReg), Pre_BackOut m →
    θ_run (Cert.BackOut.defs (F := Bits)) (onTc (τ := Cert.BackOut.τ) (Cert.BackOut.main (F := Bits))) ⟨m, fun _ => 0, g⟩ (fun r => (∀ c : Dev Cert.BackOut.nD,
      r.2.mem ((c.tc : Thread Cert.BackOut.nD Cert.BackOut.τ).loc Cert.BackOut.main_arg0) = m ((c.tc : Thread Cert.BackOut.nD Cert.BackOut.τ).loc Cert.BackOut.main_arg0)
      ∧ r.2.mem ((c.tc : Thread Cert.BackOut.nD Cert.BackOut.τ).loc Cert.BackOut.main_arg1) = m ((c.tc : Thread Cert.BackOut.nD Cert.BackOut.τ).loc Cert.BackOut.main_arg1)
      ∧ r.2.mem ((c.tc : Thread Cert.BackOut.nD Cert.BackOut.τ).loc Cert.BackOut.main_arg2) = m ((c.tc : Thread Cert.BackOut.nD Cert.BackOut.τ).loc Cert.BackOut.main_arg2)
      ∧ r.2.mem ((c.tc : Thread Cert.BackOut.nD Cert.BackOut.τ).loc Cert.BackOut.main_arg3) = m ((c.tc : Thread Cert.BackOut.nD Cert.BackOut.τ).loc Cert.BackOut.main_arg3)
      ∧ r.2.mem ((c.tc : Thread Cert.BackOut.nD Cert.BackOut.τ).loc Cert.BackOut.main_arg4) = m ((c.tc : Thread Cert.BackOut.nD Cert.BackOut.τ).loc Cert.BackOut.main_arg4)
      ∧ r.2.mem ((c.tc : Thread Cert.BackOut.nD Cert.BackOut.τ).loc Cert.BackOut.main_arg5) = m ((c.tc : Thread Cert.BackOut.nD Cert.BackOut.τ).loc Cert.BackOut.main_arg5))
      ∧ r.2.sem = fun _ => 0)

def quiescent_BackOutIdeal [hBackOutIdeal : Cert.BackOutIdeal.Facts] : Prop :=
  ∀ (m : (ℓ : Loc Cert.BackOutIdeal.nD Cert.BackOutIdeal.τ Cert.BackOutIdeal.sig) → Buf (Elt Ideal) ℓ) (g : Dev Cert.BackOutIdeal.nD → PrngReg), Pre_BackOutIdeal m →
    θ_run (Cert.BackOutIdeal.defs (F := Ideal)) (onTc (τ := Cert.BackOutIdeal.τ) (Cert.BackOutIdeal.main (F := Ideal))) ⟨m, fun _ => 0, g⟩ (fun r => (∀ c : Dev Cert.BackOutIdeal.nD,
      r.2.mem ((c.tc : Thread Cert.BackOutIdeal.nD Cert.BackOutIdeal.τ).loc Cert.BackOutIdeal.main_arg0) = m ((c.tc : Thread Cert.BackOutIdeal.nD Cert.BackOutIdeal.τ).loc Cert.BackOutIdeal.main_arg0)
      ∧ r.2.mem ((c.tc : Thread Cert.BackOutIdeal.nD Cert.BackOutIdeal.τ).loc Cert.BackOutIdeal.main_arg1) = m ((c.tc : Thread Cert.BackOutIdeal.nD Cert.BackOutIdeal.τ).loc Cert.BackOutIdeal.main_arg1)
      ∧ r.2.mem ((c.tc : Thread Cert.BackOutIdeal.nD Cert.BackOutIdeal.τ).loc Cert.BackOutIdeal.main_arg2) = m ((c.tc : Thread Cert.BackOutIdeal.nD Cert.BackOutIdeal.τ).loc Cert.BackOutIdeal.main_arg2)
      ∧ r.2.mem ((c.tc : Thread Cert.BackOutIdeal.nD Cert.BackOutIdeal.τ).loc Cert.BackOutIdeal.main_arg3) = m ((c.tc : Thread Cert.BackOutIdeal.nD Cert.BackOutIdeal.τ).loc Cert.BackOutIdeal.main_arg3)
      ∧ r.2.mem ((c.tc : Thread Cert.BackOutIdeal.nD Cert.BackOutIdeal.τ).loc Cert.BackOutIdeal.main_arg4) = m ((c.tc : Thread Cert.BackOutIdeal.nD Cert.BackOutIdeal.τ).loc Cert.BackOutIdeal.main_arg4)
      ∧ r.2.mem ((c.tc : Thread Cert.BackOutIdeal.nD Cert.BackOutIdeal.τ).loc Cert.BackOutIdeal.main_arg5) = m ((c.tc : Thread Cert.BackOutIdeal.nD Cert.BackOutIdeal.τ).loc Cert.BackOutIdeal.main_arg5))
      ∧ r.2.sem = fun _ => 0)

def quiescent_BackOutRefIdeal [hBackOutRefIdeal : Cert.BackOutRefIdeal.Facts] : Prop :=
  ∀ (m : (ℓ : Loc Cert.BackOutRefIdeal.nD Cert.BackOutRefIdeal.τ Cert.BackOutRefIdeal.sig) → Buf (Elt Ideal) ℓ) (g : Dev Cert.BackOutRefIdeal.nD → PrngReg), Pre_BackOutRefIdeal m →
    θ_run (Cert.BackOutRefIdeal.defs (F := Ideal)) (onTc (τ := Cert.BackOutRefIdeal.τ) (Cert.BackOutRefIdeal.main (F := Ideal))) ⟨m, fun _ => 0, g⟩ (fun r => (∀ c : Dev Cert.BackOutRefIdeal.nD,
      r.2.mem ((c.tc : Thread Cert.BackOutRefIdeal.nD Cert.BackOutRefIdeal.τ).loc Cert.BackOutRefIdeal.main_arg0) = m ((c.tc : Thread Cert.BackOutRefIdeal.nD Cert.BackOutRefIdeal.τ).loc Cert.BackOutRefIdeal.main_arg0)
      ∧ r.2.mem ((c.tc : Thread Cert.BackOutRefIdeal.nD Cert.BackOutRefIdeal.τ).loc Cert.BackOutRefIdeal.main_arg1) = m ((c.tc : Thread Cert.BackOutRefIdeal.nD Cert.BackOutRefIdeal.τ).loc Cert.BackOutRefIdeal.main_arg1)
      ∧ r.2.mem ((c.tc : Thread Cert.BackOutRefIdeal.nD Cert.BackOutRefIdeal.τ).loc Cert.BackOutRefIdeal.main_arg2) = m ((c.tc : Thread Cert.BackOutRefIdeal.nD Cert.BackOutRefIdeal.τ).loc Cert.BackOutRefIdeal.main_arg2)
      ∧ r.2.mem ((c.tc : Thread Cert.BackOutRefIdeal.nD Cert.BackOutRefIdeal.τ).loc Cert.BackOutRefIdeal.main_arg3) = m ((c.tc : Thread Cert.BackOutRefIdeal.nD Cert.BackOutRefIdeal.τ).loc Cert.BackOutRefIdeal.main_arg3)
      ∧ r.2.mem ((c.tc : Thread Cert.BackOutRefIdeal.nD Cert.BackOutRefIdeal.τ).loc Cert.BackOutRefIdeal.main_arg4) = m ((c.tc : Thread Cert.BackOutRefIdeal.nD Cert.BackOutRefIdeal.τ).loc Cert.BackOutRefIdeal.main_arg4)
      ∧ r.2.mem ((c.tc : Thread Cert.BackOutRefIdeal.nD Cert.BackOutRefIdeal.τ).loc Cert.BackOutRefIdeal.main_arg5) = m ((c.tc : Thread Cert.BackOutRefIdeal.nD Cert.BackOutRefIdeal.τ).loc Cert.BackOutRefIdeal.main_arg5))
      ∧ r.2.sem = fun _ => 0)

def quiescent_BackConv [hBackConv : Cert.BackConv.Facts] : Prop :=
  ∀ (m : (ℓ : Loc Cert.BackConv.nD Cert.BackConv.τ Cert.BackConv.sig) → Buf (Elt Bits) ℓ) (g : Dev Cert.BackConv.nD → PrngReg), Pre_BackConv m →
    θ_run (Cert.BackConv.defs (F := Bits)) (onTc (τ := Cert.BackConv.τ) (Cert.BackConv.main (F := Bits))) ⟨m, fun _ => 0, g⟩ (fun r => (∀ c : Dev Cert.BackConv.nD,
      r.2.mem ((c.tc : Thread Cert.BackConv.nD Cert.BackConv.τ).loc Cert.BackConv.main_arg0) = m ((c.tc : Thread Cert.BackConv.nD Cert.BackConv.τ).loc Cert.BackConv.main_arg0)
      ∧ r.2.mem ((c.tc : Thread Cert.BackConv.nD Cert.BackConv.τ).loc Cert.BackConv.main_arg1) = m ((c.tc : Thread Cert.BackConv.nD Cert.BackConv.τ).loc Cert.BackConv.main_arg1)
      ∧ r.2.mem ((c.tc : Thread Cert.BackConv.nD Cert.BackConv.τ).loc Cert.BackConv.main_arg2) = m ((c.tc : Thread Cert.BackConv.nD Cert.BackConv.τ).loc Cert.BackConv.main_arg2)
      ∧ r.2.mem ((c.tc : Thread Cert.BackConv.nD Cert.BackConv.τ).loc Cert.BackConv.main_arg3) = m ((c.tc : Thread Cert.BackConv.nD Cert.BackConv.τ).loc Cert.BackConv.main_arg3)
      ∧ r.2.mem ((c.tc : Thread Cert.BackConv.nD Cert.BackConv.τ).loc Cert.BackConv.main_arg4) = m ((c.tc : Thread Cert.BackConv.nD Cert.BackConv.τ).loc Cert.BackConv.main_arg4))
      ∧ r.2.sem = fun _ => 0)

def quiescent_BackConvIdeal [hBackConvIdeal : Cert.BackConvIdeal.Facts] : Prop :=
  ∀ (m : (ℓ : Loc Cert.BackConvIdeal.nD Cert.BackConvIdeal.τ Cert.BackConvIdeal.sig) → Buf (Elt Ideal) ℓ) (g : Dev Cert.BackConvIdeal.nD → PrngReg), Pre_BackConvIdeal m →
    θ_run (Cert.BackConvIdeal.defs (F := Ideal)) (onTc (τ := Cert.BackConvIdeal.τ) (Cert.BackConvIdeal.main (F := Ideal))) ⟨m, fun _ => 0, g⟩ (fun r => (∀ c : Dev Cert.BackConvIdeal.nD,
      r.2.mem ((c.tc : Thread Cert.BackConvIdeal.nD Cert.BackConvIdeal.τ).loc Cert.BackConvIdeal.main_arg0) = m ((c.tc : Thread Cert.BackConvIdeal.nD Cert.BackConvIdeal.τ).loc Cert.BackConvIdeal.main_arg0)
      ∧ r.2.mem ((c.tc : Thread Cert.BackConvIdeal.nD Cert.BackConvIdeal.τ).loc Cert.BackConvIdeal.main_arg1) = m ((c.tc : Thread Cert.BackConvIdeal.nD Cert.BackConvIdeal.τ).loc Cert.BackConvIdeal.main_arg1)
      ∧ r.2.mem ((c.tc : Thread Cert.BackConvIdeal.nD Cert.BackConvIdeal.τ).loc Cert.BackConvIdeal.main_arg2) = m ((c.tc : Thread Cert.BackConvIdeal.nD Cert.BackConvIdeal.τ).loc Cert.BackConvIdeal.main_arg2)
      ∧ r.2.mem ((c.tc : Thread Cert.BackConvIdeal.nD Cert.BackConvIdeal.τ).loc Cert.BackConvIdeal.main_arg3) = m ((c.tc : Thread Cert.BackConvIdeal.nD Cert.BackConvIdeal.τ).loc Cert.BackConvIdeal.main_arg3)
      ∧ r.2.mem ((c.tc : Thread Cert.BackConvIdeal.nD Cert.BackConvIdeal.τ).loc Cert.BackConvIdeal.main_arg4) = m ((c.tc : Thread Cert.BackConvIdeal.nD Cert.BackConvIdeal.τ).loc Cert.BackConvIdeal.main_arg4))
      ∧ r.2.sem = fun _ => 0)

def quiescent_BackConvRefIdeal [hBackConvRefIdeal : Cert.BackConvRefIdeal.Facts] : Prop :=
  ∀ (m : (ℓ : Loc Cert.BackConvRefIdeal.nD Cert.BackConvRefIdeal.τ Cert.BackConvRefIdeal.sig) → Buf (Elt Ideal) ℓ) (g : Dev Cert.BackConvRefIdeal.nD → PrngReg), Pre_BackConvRefIdeal m →
    θ_run (Cert.BackConvRefIdeal.defs (F := Ideal)) (onTc (τ := Cert.BackConvRefIdeal.τ) (Cert.BackConvRefIdeal.main (F := Ideal))) ⟨m, fun _ => 0, g⟩ (fun r => (∀ c : Dev Cert.BackConvRefIdeal.nD,
      r.2.mem ((c.tc : Thread Cert.BackConvRefIdeal.nD Cert.BackConvRefIdeal.τ).loc Cert.BackConvRefIdeal.main_arg0) = m ((c.tc : Thread Cert.BackConvRefIdeal.nD Cert.BackConvRefIdeal.τ).loc Cert.BackConvRefIdeal.main_arg0)
      ∧ r.2.mem ((c.tc : Thread Cert.BackConvRefIdeal.nD Cert.BackConvRefIdeal.τ).loc Cert.BackConvRefIdeal.main_arg1) = m ((c.tc : Thread Cert.BackConvRefIdeal.nD Cert.BackConvRefIdeal.τ).loc Cert.BackConvRefIdeal.main_arg1)
      ∧ r.2.mem ((c.tc : Thread Cert.BackConvRefIdeal.nD Cert.BackConvRefIdeal.τ).loc Cert.BackConvRefIdeal.main_arg2) = m ((c.tc : Thread Cert.BackConvRefIdeal.nD Cert.BackConvRefIdeal.τ).loc Cert.BackConvRefIdeal.main_arg2)
      ∧ r.2.mem ((c.tc : Thread Cert.BackConvRefIdeal.nD Cert.BackConvRefIdeal.τ).loc Cert.BackConvRefIdeal.main_arg3) = m ((c.tc : Thread Cert.BackConvRefIdeal.nD Cert.BackConvRefIdeal.τ).loc Cert.BackConvRefIdeal.main_arg3)
      ∧ r.2.mem ((c.tc : Thread Cert.BackConvRefIdeal.nD Cert.BackConvRefIdeal.τ).loc Cert.BackConvRefIdeal.main_arg4) = m ((c.tc : Thread Cert.BackConvRefIdeal.nD Cert.BackConvRefIdeal.τ).loc Cert.BackConvRefIdeal.main_arg4))
      ∧ r.2.sem = fun _ => 0)

def quiescent_BackFfn [hBackFfn : Cert.BackFfn.Facts] : Prop :=
  ∀ (m : (ℓ : Loc Cert.BackFfn.nD Cert.BackFfn.τ Cert.BackFfn.sig) → Buf (Elt Bits) ℓ) (g : Dev Cert.BackFfn.nD → PrngReg), Pre_BackFfn m →
    θ_run (Cert.BackFfn.defs (F := Bits)) (onTc (τ := Cert.BackFfn.τ) (Cert.BackFfn.main (F := Bits))) ⟨m, fun _ => 0, g⟩ (fun r => (∀ c : Dev Cert.BackFfn.nD,
      r.2.mem ((c.tc : Thread Cert.BackFfn.nD Cert.BackFfn.τ).loc Cert.BackFfn.main_arg0) = m ((c.tc : Thread Cert.BackFfn.nD Cert.BackFfn.τ).loc Cert.BackFfn.main_arg0)
      ∧ r.2.mem ((c.tc : Thread Cert.BackFfn.nD Cert.BackFfn.τ).loc Cert.BackFfn.main_arg1) = m ((c.tc : Thread Cert.BackFfn.nD Cert.BackFfn.τ).loc Cert.BackFfn.main_arg1)
      ∧ r.2.mem ((c.tc : Thread Cert.BackFfn.nD Cert.BackFfn.τ).loc Cert.BackFfn.main_arg2) = m ((c.tc : Thread Cert.BackFfn.nD Cert.BackFfn.τ).loc Cert.BackFfn.main_arg2)
      ∧ r.2.mem ((c.tc : Thread Cert.BackFfn.nD Cert.BackFfn.τ).loc Cert.BackFfn.main_arg3) = m ((c.tc : Thread Cert.BackFfn.nD Cert.BackFfn.τ).loc Cert.BackFfn.main_arg3)
      ∧ r.2.mem ((c.tc : Thread Cert.BackFfn.nD Cert.BackFfn.τ).loc Cert.BackFfn.main_arg4) = m ((c.tc : Thread Cert.BackFfn.nD Cert.BackFfn.τ).loc Cert.BackFfn.main_arg4))
      ∧ r.2.sem = fun _ => 0)

def quiescent_BackFfnIdeal [hBackFfnIdeal : Cert.BackFfnIdeal.Facts] : Prop :=
  ∀ (m : (ℓ : Loc Cert.BackFfnIdeal.nD Cert.BackFfnIdeal.τ Cert.BackFfnIdeal.sig) → Buf (Elt Ideal) ℓ) (g : Dev Cert.BackFfnIdeal.nD → PrngReg), Pre_BackFfnIdeal m →
    θ_run (Cert.BackFfnIdeal.defs (F := Ideal)) (onTc (τ := Cert.BackFfnIdeal.τ) (Cert.BackFfnIdeal.main (F := Ideal))) ⟨m, fun _ => 0, g⟩ (fun r => (∀ c : Dev Cert.BackFfnIdeal.nD,
      r.2.mem ((c.tc : Thread Cert.BackFfnIdeal.nD Cert.BackFfnIdeal.τ).loc Cert.BackFfnIdeal.main_arg0) = m ((c.tc : Thread Cert.BackFfnIdeal.nD Cert.BackFfnIdeal.τ).loc Cert.BackFfnIdeal.main_arg0)
      ∧ r.2.mem ((c.tc : Thread Cert.BackFfnIdeal.nD Cert.BackFfnIdeal.τ).loc Cert.BackFfnIdeal.main_arg1) = m ((c.tc : Thread Cert.BackFfnIdeal.nD Cert.BackFfnIdeal.τ).loc Cert.BackFfnIdeal.main_arg1)
      ∧ r.2.mem ((c.tc : Thread Cert.BackFfnIdeal.nD Cert.BackFfnIdeal.τ).loc Cert.BackFfnIdeal.main_arg2) = m ((c.tc : Thread Cert.BackFfnIdeal.nD Cert.BackFfnIdeal.τ).loc Cert.BackFfnIdeal.main_arg2)
      ∧ r.2.mem ((c.tc : Thread Cert.BackFfnIdeal.nD Cert.BackFfnIdeal.τ).loc Cert.BackFfnIdeal.main_arg3) = m ((c.tc : Thread Cert.BackFfnIdeal.nD Cert.BackFfnIdeal.τ).loc Cert.BackFfnIdeal.main_arg3)
      ∧ r.2.mem ((c.tc : Thread Cert.BackFfnIdeal.nD Cert.BackFfnIdeal.τ).loc Cert.BackFfnIdeal.main_arg4) = m ((c.tc : Thread Cert.BackFfnIdeal.nD Cert.BackFfnIdeal.τ).loc Cert.BackFfnIdeal.main_arg4))
      ∧ r.2.sem = fun _ => 0)

def quiescent_BackFfnIdeal_pre_finite [hBackFfnIdeal : Cert.BackFfnIdeal.Facts] [hPre_finite : Cert.Pre_finite.Facts] : Prop :=
  ∀ (m : (ℓ : Loc Cert.BackFfnIdeal.nD Cert.BackFfnIdeal.τ Cert.BackFfnIdeal.sig) → Buf (Elt Ideal) ℓ) (g : Dev Cert.BackFfnIdeal.nD → PrngReg), Pre_BackFfnIdeal_finite m →
    θ_run (Cert.BackFfnIdeal.defs (F := Ideal)) (onTc (τ := Cert.BackFfnIdeal.τ) (Cert.BackFfnIdeal.main (F := Ideal))) ⟨m, fun _ => 0, g⟩ (fun r => (∀ c : Dev Cert.BackFfnIdeal.nD,
      r.2.mem ((c.tc : Thread Cert.BackFfnIdeal.nD Cert.BackFfnIdeal.τ).loc Cert.BackFfnIdeal.main_arg0) = m ((c.tc : Thread Cert.BackFfnIdeal.nD Cert.BackFfnIdeal.τ).loc Cert.BackFfnIdeal.main_arg0)
      ∧ r.2.mem ((c.tc : Thread Cert.BackFfnIdeal.nD Cert.BackFfnIdeal.τ).loc Cert.BackFfnIdeal.main_arg1) = m ((c.tc : Thread Cert.BackFfnIdeal.nD Cert.BackFfnIdeal.τ).loc Cert.BackFfnIdeal.main_arg1)
      ∧ r.2.mem ((c.tc : Thread Cert.BackFfnIdeal.nD Cert.BackFfnIdeal.τ).loc Cert.BackFfnIdeal.main_arg2) = m ((c.tc : Thread Cert.BackFfnIdeal.nD Cert.BackFfnIdeal.τ).loc Cert.BackFfnIdeal.main_arg2)
      ∧ r.2.mem ((c.tc : Thread Cert.BackFfnIdeal.nD Cert.BackFfnIdeal.τ).loc Cert.BackFfnIdeal.main_arg3) = m ((c.tc : Thread Cert.BackFfnIdeal.nD Cert.BackFfnIdeal.τ).loc Cert.BackFfnIdeal.main_arg3)
      ∧ r.2.mem ((c.tc : Thread Cert.BackFfnIdeal.nD Cert.BackFfnIdeal.τ).loc Cert.BackFfnIdeal.main_arg4) = m ((c.tc : Thread Cert.BackFfnIdeal.nD Cert.BackFfnIdeal.τ).loc Cert.BackFfnIdeal.main_arg4))
      ∧ r.2.sem = fun _ => 0)

def quiescent_BackFfnRefIdeal [hBackFfnRefIdeal : Cert.BackFfnRefIdeal.Facts] : Prop :=
  ∀ (m : (ℓ : Loc Cert.BackFfnRefIdeal.nD Cert.BackFfnRefIdeal.τ Cert.BackFfnRefIdeal.sig) → Buf (Elt Ideal) ℓ) (g : Dev Cert.BackFfnRefIdeal.nD → PrngReg), Pre_BackFfnRefIdeal m →
    θ_run (Cert.BackFfnRefIdeal.defs (F := Ideal)) (onTc (τ := Cert.BackFfnRefIdeal.τ) (Cert.BackFfnRefIdeal.main (F := Ideal))) ⟨m, fun _ => 0, g⟩ (fun r => (∀ c : Dev Cert.BackFfnRefIdeal.nD,
      r.2.mem ((c.tc : Thread Cert.BackFfnRefIdeal.nD Cert.BackFfnRefIdeal.τ).loc Cert.BackFfnRefIdeal.main_arg0) = m ((c.tc : Thread Cert.BackFfnRefIdeal.nD Cert.BackFfnRefIdeal.τ).loc Cert.BackFfnRefIdeal.main_arg0)
      ∧ r.2.mem ((c.tc : Thread Cert.BackFfnRefIdeal.nD Cert.BackFfnRefIdeal.τ).loc Cert.BackFfnRefIdeal.main_arg1) = m ((c.tc : Thread Cert.BackFfnRefIdeal.nD Cert.BackFfnRefIdeal.τ).loc Cert.BackFfnRefIdeal.main_arg1)
      ∧ r.2.mem ((c.tc : Thread Cert.BackFfnRefIdeal.nD Cert.BackFfnRefIdeal.τ).loc Cert.BackFfnRefIdeal.main_arg2) = m ((c.tc : Thread Cert.BackFfnRefIdeal.nD Cert.BackFfnRefIdeal.τ).loc Cert.BackFfnRefIdeal.main_arg2)
      ∧ r.2.mem ((c.tc : Thread Cert.BackFfnRefIdeal.nD Cert.BackFfnRefIdeal.τ).loc Cert.BackFfnRefIdeal.main_arg3) = m ((c.tc : Thread Cert.BackFfnRefIdeal.nD Cert.BackFfnRefIdeal.τ).loc Cert.BackFfnRefIdeal.main_arg3)
      ∧ r.2.mem ((c.tc : Thread Cert.BackFfnRefIdeal.nD Cert.BackFfnRefIdeal.τ).loc Cert.BackFfnRefIdeal.main_arg4) = m ((c.tc : Thread Cert.BackFfnRefIdeal.nD Cert.BackFfnRefIdeal.τ).loc Cert.BackFfnRefIdeal.main_arg4))
      ∧ r.2.sem = fun _ => 0)

def quiescent_BackFfnRefIdeal_pre_finite [hBackFfnRefIdeal : Cert.BackFfnRefIdeal.Facts] [hPre_finite : Cert.Pre_finite.Facts] : Prop :=
  ∀ (m : (ℓ : Loc Cert.BackFfnRefIdeal.nD Cert.BackFfnRefIdeal.τ Cert.BackFfnRefIdeal.sig) → Buf (Elt Ideal) ℓ) (g : Dev Cert.BackFfnRefIdeal.nD → PrngReg), Pre_BackFfnRefIdeal_finite m →
    θ_run (Cert.BackFfnRefIdeal.defs (F := Ideal)) (onTc (τ := Cert.BackFfnRefIdeal.τ) (Cert.BackFfnRefIdeal.main (F := Ideal))) ⟨m, fun _ => 0, g⟩ (fun r => (∀ c : Dev Cert.BackFfnRefIdeal.nD,
      r.2.mem ((c.tc : Thread Cert.BackFfnRefIdeal.nD Cert.BackFfnRefIdeal.τ).loc Cert.BackFfnRefIdeal.main_arg0) = m ((c.tc : Thread Cert.BackFfnRefIdeal.nD Cert.BackFfnRefIdeal.τ).loc Cert.BackFfnRefIdeal.main_arg0)
      ∧ r.2.mem ((c.tc : Thread Cert.BackFfnRefIdeal.nD Cert.BackFfnRefIdeal.τ).loc Cert.BackFfnRefIdeal.main_arg1) = m ((c.tc : Thread Cert.BackFfnRefIdeal.nD Cert.BackFfnRefIdeal.τ).loc Cert.BackFfnRefIdeal.main_arg1)
      ∧ r.2.mem ((c.tc : Thread Cert.BackFfnRefIdeal.nD Cert.BackFfnRefIdeal.τ).loc Cert.BackFfnRefIdeal.main_arg2) = m ((c.tc : Thread Cert.BackFfnRefIdeal.nD Cert.BackFfnRefIdeal.τ).loc Cert.BackFfnRefIdeal.main_arg2)
      ∧ r.2.mem ((c.tc : Thread Cert.BackFfnRefIdeal.nD Cert.BackFfnRefIdeal.τ).loc Cert.BackFfnRefIdeal.main_arg3) = m ((c.tc : Thread Cert.BackFfnRefIdeal.nD Cert.BackFfnRefIdeal.τ).loc Cert.BackFfnRefIdeal.main_arg3)
      ∧ r.2.mem ((c.tc : Thread Cert.BackFfnRefIdeal.nD Cert.BackFfnRefIdeal.τ).loc Cert.BackFfnRefIdeal.main_arg4) = m ((c.tc : Thread Cert.BackFfnRefIdeal.nD Cert.BackFfnRefIdeal.τ).loc Cert.BackFfnRefIdeal.main_arg4))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![1024, 1792]⟩ ⟨2, ![1024, 7168]⟩ (Layout.meshBlock [2, 2, 2] ![[], [0, 1]] c) (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.blockN ⟨2, ![1024, 1536]⟩ ⟨2, ![1024, 6144]⟩ (Layout.meshBlock [2, 2, 2] ![[], [0, 1]] c) (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.blockN ⟨2, ![256, 1024]⟩ ⟨2, ![1024, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.blockN ⟨2, ![256, 1024]⟩ ⟨2, ![1024, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg3))
      ∧ m ((c.tc : Thread Cert.GatherIdeal.nD Cert.GatherIdeal.τ).loc Cert.GatherIdeal.main_arg4) = Layout.blockN ⟨2, ![256, 1024]⟩ ⟨2, ![1024, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg4))
      ∧ m ((c.tc : Thread Cert.GatherIdeal.nD Cert.GatherIdeal.τ).loc Cert.GatherIdeal.main_arg5) = Layout.blockN ⟨2, ![768, 1024]⟩ ⟨2, ![3072, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg5))
      ∧ m ((c.tc : Thread Cert.GatherIdeal.nD Cert.GatherIdeal.τ).loc Cert.GatherIdeal.main_arg6) = Layout.blockN ⟨2, ![544, 256]⟩ ⟨2, ![2176, 256]⟩ (Layout.meshBlock [2, 2, 2] ![[0, 1], []] c) (m' (((0 : Dev Cert.GatherRefIdeal.nD).tc : Thread Cert.GatherRefIdeal.nD Cert.GatherRefIdeal.τ).loc Cert.GatherRefIdeal.main_arg6))) →
    ∃ (v0 : Buf (Elt Ideal) (((0 : Dev Cert.GatherRefIdeal.nD).tc : Thread Cert.GatherRefIdeal.nD Cert.GatherRefIdeal.τ).loc Cert.GatherRefIdeal.main_v8)) (v1 : Buf (Elt Ideal) (((0 : Dev Cert.GatherRefIdeal.nD).tc : Thread Cert.GatherRefIdeal.nD Cert.GatherRefIdeal.τ).loc Cert.GatherRefIdeal.main_v17)) (v2 : Buf (Elt Ideal) (((0 : Dev Cert.GatherRefIdeal.nD).tc : Thread Cert.GatherRefIdeal.nD Cert.GatherRefIdeal.τ).loc Cert.GatherRefIdeal.main_v18)) (v3 : Buf (Elt Ideal) (((0 : Dev Cert.GatherRefIdeal.nD).tc : Thread Cert.GatherRefIdeal.nD Cert.GatherRefIdeal.τ).loc Cert.GatherRefIdeal.main_v19)) (v4 : Buf (Elt Ideal) (((0 : Dev Cert.GatherRefIdeal.nD).tc : Thread Cert.GatherRefIdeal.nD Cert.GatherRefIdeal.τ).loc Cert.GatherRefIdeal.main_v20)) (v5 : Buf (Elt Ideal) (((0 : Dev Cert.GatherRefIdeal.nD).tc : Thread Cert.GatherRefIdeal.nD Cert.GatherRefIdeal.τ).loc Cert.GatherRefIdeal.main_v21)) (v6 : Buf (Elt Ideal) (((0 : Dev Cert.GatherRefIdeal.nD).tc : Thread Cert.GatherRefIdeal.nD Cert.GatherRefIdeal.τ).loc Cert.GatherRefIdeal.main_v22)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_v1_6) = v6
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v8) = v0
          ∧ r.2.mem (((0 : Dev Cert.GatherRefIdeal.nD).tc : Thread Cert.GatherRefIdeal.nD Cert.GatherRefIdeal.τ).loc Cert.GatherRefIdeal.main_v17) = v1
          ∧ r.2.mem (((0 : Dev Cert.GatherRefIdeal.nD).tc : Thread Cert.GatherRefIdeal.nD Cert.GatherRefIdeal.τ).loc Cert.GatherRefIdeal.main_v18) = v2
          ∧ r.2.mem (((0 : Dev Cert.GatherRefIdeal.nD).tc : Thread Cert.GatherRefIdeal.nD Cert.GatherRefIdeal.τ).loc Cert.GatherRefIdeal.main_v19) = v3
          ∧ r.2.mem (((0 : Dev Cert.GatherRefIdeal.nD).tc : Thread Cert.GatherRefIdeal.nD Cert.GatherRefIdeal.τ).loc Cert.GatherRefIdeal.main_v20) = v4
          ∧ r.2.mem (((0 : Dev Cert.GatherRefIdeal.nD).tc : Thread Cert.GatherRefIdeal.nD Cert.GatherRefIdeal.τ).loc Cert.GatherRefIdeal.main_v21) = v5
          ∧ r.2.mem (((0 : Dev Cert.GatherRefIdeal.nD).tc : Thread Cert.GatherRefIdeal.nD Cert.GatherRefIdeal.τ).loc Cert.GatherRefIdeal.main_v22) = v6
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)
          ∧ r.2.mem (((0 : Dev Cert.GatherRefIdeal.nD).tc : Thread Cert.GatherRefIdeal.nD Cert.GatherRefIdeal.τ).loc Cert.GatherRefIdeal.main_arg4) = m' (((0 : Dev Cert.GatherRefIdeal.nD).tc : Thread Cert.GatherRefIdeal.nD Cert.GatherRefIdeal.τ).loc Cert.GatherRefIdeal.main_arg4)
          ∧ r.2.mem (((0 : Dev Cert.GatherRefIdeal.nD).tc : Thread Cert.GatherRefIdeal.nD Cert.GatherRefIdeal.τ).loc Cert.GatherRefIdeal.main_arg5) = m' (((0 : Dev Cert.GatherRefIdeal.nD).tc : Thread Cert.GatherRefIdeal.nD Cert.GatherRefIdeal.τ).loc Cert.GatherRefIdeal.main_arg5)
          ∧ r.2.mem (((0 : Dev Cert.GatherRefIdeal.nD).tc : Thread Cert.GatherRefIdeal.nD Cert.GatherRefIdeal.τ).loc Cert.GatherRefIdeal.main_arg6) = m' (((0 : Dev Cert.GatherRefIdeal.nD).tc : Thread Cert.GatherRefIdeal.nD Cert.GatherRefIdeal.τ).loc Cert.GatherRefIdeal.main_arg6))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![1024, 1792]⟩ ⟨2, ![1024, 7168]⟩ (Layout.meshBlock [2, 2, 2] ![[], [0, 1]] c) (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.blockN ⟨2, ![1024, 1536]⟩ ⟨2, ![1024, 6144]⟩ (Layout.meshBlock [2, 2, 2] ![[], [0, 1]] c) (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.blockN ⟨2, ![256, 1024]⟩ ⟨2, ![1024, 1024]⟩ (Layout.meshBlock [2, 2, 2] ![[0, 1], []] c) (m' (((0 : Dev Cert.GatherRef.nD).tc : Thread Cert.GatherRef.nD Cert.GatherRef.τ).loc Cert.GatherRef.main_arg2))
      ∧ m ((c.tc : Thread Cert.Gather.nD Cert.Gather.τ).loc Cert.Gather.main_arg3) = Layout.blockN ⟨2, ![256, 1024]⟩ ⟨2, ![1024, 1024]⟩ (Layout.meshBlock [2, 2, 2] ![[0, 1], []] c) (m' (((0 : Dev Cert.GatherRef.nD).tc : Thread Cert.GatherRef.nD Cert.GatherRef.τ).loc Cert.GatherRef.main_arg3))
      ∧ m ((c.tc : Thread Cert.Gather.nD Cert.Gather.τ).loc Cert.Gather.main_arg4) = Layout.blockN ⟨2, ![256, 1024]⟩ ⟨2, ![1024, 1024]⟩ (Layout.meshBlock [2, 2, 2] ![[0, 1], []] c) (m' (((0 : Dev Cert.GatherRef.nD).tc : Thread Cert.GatherRef.nD Cert.GatherRef.τ).loc Cert.GatherRef.main_arg4))
      ∧ m ((c.tc : Thread Cert.Gather.nD Cert.Gather.τ).loc Cert.Gather.main_arg5) = Layout.blockN ⟨2, ![768, 1024]⟩ ⟨2, ![3072, 1024]⟩ (Layout.meshBlock [2, 2, 2] ![[0, 1], []] c) (m' (((0 : Dev Cert.GatherRef.nD).tc : Thread Cert.GatherRef.nD Cert.GatherRef.τ).loc Cert.GatherRef.main_arg5))
      ∧ m ((c.tc : Thread Cert.Gather.nD Cert.Gather.τ).loc Cert.Gather.main_arg6) = Layout.blockN ⟨2, ![544, 256]⟩ ⟨2, ![2176, 256]⟩ (Layout.meshBlock [2, 2, 2] ![[0, 1], []] c) (m' (((0 : Dev Cert.GatherRef.nD).tc : Thread Cert.GatherRef.nD Cert.GatherRef.τ).loc Cert.GatherRef.main_arg6))) →
    ∃ (v0 : Buf (Elt Bits) (((0 : Dev Cert.GatherRef.nD).tc : Thread Cert.GatherRef.nD Cert.GatherRef.τ).loc Cert.GatherRef.main_v8)) (v1 : Buf (Elt Bits) (((0 : Dev Cert.GatherRef.nD).tc : Thread Cert.GatherRef.nD Cert.GatherRef.τ).loc Cert.GatherRef.main_v17)) (v2 : Buf (Elt Bits) (((0 : Dev Cert.GatherRef.nD).tc : Thread Cert.GatherRef.nD Cert.GatherRef.τ).loc Cert.GatherRef.main_v18)) (v3 : Buf (Elt Bits) (((0 : Dev Cert.GatherRef.nD).tc : Thread Cert.GatherRef.nD Cert.GatherRef.τ).loc Cert.GatherRef.main_v19)) (v4 : Buf (Elt Bits) (((0 : Dev Cert.GatherRef.nD).tc : Thread Cert.GatherRef.nD Cert.GatherRef.τ).loc Cert.GatherRef.main_v20)) (v5 : Buf (Elt Bits) (((0 : Dev Cert.GatherRef.nD).tc : Thread Cert.GatherRef.nD Cert.GatherRef.τ).loc Cert.GatherRef.main_v21)) (v6 : Buf (Elt Bits) (((0 : Dev Cert.GatherRef.nD).tc : Thread Cert.GatherRef.nD Cert.GatherRef.τ).loc Cert.GatherRef.main_v22)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_v1_5) = v5
          ∧ r.2.mem ((c.tc : Thread Cert.Gather.nD Cert.Gather.τ).loc Cert.Gather.main_v1_6) = v6
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4)
          ∧ r.2.mem ((c.tc : Thread Cert.Gather.nD Cert.Gather.τ).loc Cert.Gather.main_arg5) = m ((c.tc : Thread Cert.Gather.nD Cert.Gather.τ).loc Cert.Gather.main_arg5)
          ∧ r.2.mem ((c.tc : Thread Cert.Gather.nD Cert.Gather.τ).loc Cert.Gather.main_arg6) = m ((c.tc : Thread Cert.Gather.nD Cert.Gather.τ).loc Cert.Gather.main_arg6))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v8) = v0
          ∧ r.2.mem (((0 : Dev Cert.GatherRef.nD).tc : Thread Cert.GatherRef.nD Cert.GatherRef.τ).loc Cert.GatherRef.main_v17) = v1
          ∧ r.2.mem (((0 : Dev Cert.GatherRef.nD).tc : Thread Cert.GatherRef.nD Cert.GatherRef.τ).loc Cert.GatherRef.main_v18) = v2
          ∧ r.2.mem (((0 : Dev Cert.GatherRef.nD).tc : Thread Cert.GatherRef.nD Cert.GatherRef.τ).loc Cert.GatherRef.main_v19) = v3
          ∧ r.2.mem (((0 : Dev Cert.GatherRef.nD).tc : Thread Cert.GatherRef.nD Cert.GatherRef.τ).loc Cert.GatherRef.main_v20) = v4
          ∧ r.2.mem (((0 : Dev Cert.GatherRef.nD).tc : Thread Cert.GatherRef.nD Cert.GatherRef.τ).loc Cert.GatherRef.main_v21) = v5
          ∧ r.2.mem (((0 : Dev Cert.GatherRef.nD).tc : Thread Cert.GatherRef.nD Cert.GatherRef.τ).loc Cert.GatherRef.main_v22) = v6
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2)
          ∧ r.2.mem (((0 : Dev Cert.GatherRef.nD).tc : Thread Cert.GatherRef.nD Cert.GatherRef.τ).loc Cert.GatherRef.main_arg3) = m' (((0 : Dev Cert.GatherRef.nD).tc : Thread Cert.GatherRef.nD Cert.GatherRef.τ).loc Cert.GatherRef.main_arg3)
          ∧ r.2.mem (((0 : Dev Cert.GatherRef.nD).tc : Thread Cert.GatherRef.nD Cert.GatherRef.τ).loc Cert.GatherRef.main_arg4) = m' (((0 : Dev Cert.GatherRef.nD).tc : Thread Cert.GatherRef.nD Cert.GatherRef.τ).loc Cert.GatherRef.main_arg4)
          ∧ r.2.mem (((0 : Dev Cert.GatherRef.nD).tc : Thread Cert.GatherRef.nD Cert.GatherRef.τ).loc Cert.GatherRef.main_arg5) = m' (((0 : Dev Cert.GatherRef.nD).tc : Thread Cert.GatherRef.nD Cert.GatherRef.τ).loc Cert.GatherRef.main_arg5)
          ∧ r.2.mem (((0 : Dev Cert.GatherRef.nD).tc : Thread Cert.GatherRef.nD Cert.GatherRef.τ).loc Cert.GatherRef.main_arg6) = m' (((0 : Dev Cert.GatherRef.nD).tc : Thread Cert.GatherRef.nD Cert.GatherRef.τ).loc Cert.GatherRef.main_arg6))

def preserves_Split_SplitIdeal : Prop :=
  True

def algebraic_SplitIdeal_SplitRefIdeal [hSplitIdeal : Cert.SplitIdeal.Facts] [hSplitRefIdeal : Cert.SplitRefIdeal.Facts] : Prop :=
  ∀ (m : (ℓ : Loc Cert.SplitIdeal.nD Cert.SplitIdeal.τ Cert.SplitIdeal.sig) → Buf (Elt Ideal) ℓ) (g : Dev Cert.SplitIdeal.nD → PrngReg)
    (m' : (ℓ : Loc Cert.SplitRefIdeal.nD Cert.SplitRefIdeal.τ Cert.SplitRefIdeal.sig) → Buf (Elt Ideal) ℓ) (g' : Dev Cert.SplitRefIdeal.nD → PrngReg), Pre_SplitIdeal m →
    (∀ c : Dev Cert.SplitIdeal.nD,
      m ((c.tc : Thread Cert.SplitIdeal.nD Cert.SplitIdeal.τ).loc Cert.SplitIdeal.main_arg0) = Layout.block ⟨2, ![1024, 7168]⟩ ⟨2, ![8192, 7168]⟩ 0 8 c (m' (((0 : Dev Cert.SplitRefIdeal.nD).tc : Thread Cert.SplitRefIdeal.nD Cert.SplitRefIdeal.τ).loc Cert.SplitRefIdeal.main_arg0))
      ∧ m ((c.tc : Thread Cert.SplitIdeal.nD Cert.SplitIdeal.τ).loc Cert.SplitIdeal.main_arg1) = Layout.block ⟨2, ![1024, 6144]⟩ ⟨2, ![8192, 6144]⟩ 0 8 c (m' (((0 : Dev Cert.SplitRefIdeal.nD).tc : Thread Cert.SplitRefIdeal.nD Cert.SplitRefIdeal.τ).loc Cert.SplitRefIdeal.main_arg1))
      ∧ m ((c.tc : Thread Cert.SplitIdeal.nD Cert.SplitIdeal.τ).loc Cert.SplitIdeal.main_arg2) = Layout.block ⟨2, ![1024, 1024]⟩ ⟨2, ![8192, 1024]⟩ 0 8 c (m' (((0 : Dev Cert.SplitRefIdeal.nD).tc : Thread Cert.SplitRefIdeal.nD Cert.SplitRefIdeal.τ).loc Cert.SplitRefIdeal.main_arg2))
      ∧ m ((c.tc : Thread Cert.SplitIdeal.nD Cert.SplitIdeal.τ).loc Cert.SplitIdeal.main_arg3) = Layout.block ⟨2, ![1024, 1024]⟩ ⟨2, ![8192, 1024]⟩ 0 8 c (m' (((0 : Dev Cert.SplitRefIdeal.nD).tc : Thread Cert.SplitRefIdeal.nD Cert.SplitRefIdeal.τ).loc Cert.SplitRefIdeal.main_arg3))
      ∧ m ((c.tc : Thread Cert.SplitIdeal.nD Cert.SplitIdeal.τ).loc Cert.SplitIdeal.main_arg4) = Layout.block ⟨2, ![1024, 1024]⟩ ⟨2, ![8192, 1024]⟩ 0 8 c (m' (((0 : Dev Cert.SplitRefIdeal.nD).tc : Thread Cert.SplitRefIdeal.nD Cert.SplitRefIdeal.τ).loc Cert.SplitRefIdeal.main_arg4))
      ∧ m ((c.tc : Thread Cert.SplitIdeal.nD Cert.SplitIdeal.τ).loc Cert.SplitIdeal.main_arg5) = Layout.block ⟨2, ![3072, 1024]⟩ ⟨2, ![24576, 1024]⟩ 0 8 c (m' (((0 : Dev Cert.SplitRefIdeal.nD).tc : Thread Cert.SplitRefIdeal.nD Cert.SplitRefIdeal.τ).loc Cert.SplitRefIdeal.main_arg5))
      ∧ m ((c.tc : Thread Cert.SplitIdeal.nD Cert.SplitIdeal.τ).loc Cert.SplitIdeal.main_arg6) = Layout.block ⟨3, ![4, 544, 256]⟩ ⟨3, ![32, 544, 256]⟩ 0 8 c (m' (((0 : Dev Cert.SplitRefIdeal.nD).tc : Thread Cert.SplitRefIdeal.nD Cert.SplitRefIdeal.τ).loc Cert.SplitRefIdeal.main_arg6))) →
    ∃ (v0 : Buf (Elt Ideal) (((0 : Dev Cert.SplitRefIdeal.nD).tc : Thread Cert.SplitRefIdeal.nD Cert.SplitRefIdeal.τ).loc Cert.SplitRefIdeal.main_v12)) (v1 : Buf (Elt Ideal) (((0 : Dev Cert.SplitRefIdeal.nD).tc : Thread Cert.SplitRefIdeal.nD Cert.SplitRefIdeal.τ).loc Cert.SplitRefIdeal.main_v16)) (v2 : Buf (Elt Ideal) (((0 : Dev Cert.SplitRefIdeal.nD).tc : Thread Cert.SplitRefIdeal.nD Cert.SplitRefIdeal.τ).loc Cert.SplitRefIdeal.main_v20)) (v3 : Buf (Elt Ideal) (((0 : Dev Cert.SplitRefIdeal.nD).tc : Thread Cert.SplitRefIdeal.nD Cert.SplitRefIdeal.τ).loc Cert.SplitRefIdeal.main_v24)) (v4 : Buf (Elt Ideal) (((0 : Dev Cert.SplitRefIdeal.nD).tc : Thread Cert.SplitRefIdeal.nD Cert.SplitRefIdeal.τ).loc Cert.SplitRefIdeal.main_v28)) (v5 : Buf (Elt Ideal) (((0 : Dev Cert.SplitRefIdeal.nD).tc : Thread Cert.SplitRefIdeal.nD Cert.SplitRefIdeal.τ).loc Cert.SplitRefIdeal.main_v32)) (v6 : Buf (Elt Ideal) (((0 : Dev Cert.SplitRefIdeal.nD).tc : Thread Cert.SplitRefIdeal.nD Cert.SplitRefIdeal.τ).loc Cert.SplitRefIdeal.main_v36)) (v7 : Buf (Elt Ideal) (((0 : Dev Cert.SplitRefIdeal.nD).tc : Thread Cert.SplitRefIdeal.nD Cert.SplitRefIdeal.τ).loc Cert.SplitRefIdeal.main_v40)) (v8 : Buf (Elt Ideal) (((0 : Dev Cert.SplitRefIdeal.nD).tc : Thread Cert.SplitRefIdeal.nD Cert.SplitRefIdeal.τ).loc Cert.SplitRefIdeal.main_v44)) (v9 : Buf (Elt Ideal) (((0 : Dev Cert.SplitRefIdeal.nD).tc : Thread Cert.SplitRefIdeal.nD Cert.SplitRefIdeal.τ).loc Cert.SplitRefIdeal.main_v48)) (v10 : Buf (Elt Ideal) (((0 : Dev Cert.SplitRefIdeal.nD).tc : Thread Cert.SplitRefIdeal.nD Cert.SplitRefIdeal.τ).loc Cert.SplitRefIdeal.main_v52)) (v11 : Buf (Elt Ideal) (((0 : Dev Cert.SplitRefIdeal.nD).tc : Thread Cert.SplitRefIdeal.nD Cert.SplitRefIdeal.τ).loc Cert.SplitRefIdeal.main_v56)) (v12 : Buf (Elt Ideal) (((0 : Dev Cert.SplitRefIdeal.nD).tc : Thread Cert.SplitRefIdeal.nD Cert.SplitRefIdeal.τ).loc Cert.SplitRefIdeal.main_v60)) (v13 : Buf (Elt Ideal) (((0 : Dev Cert.SplitRefIdeal.nD).tc : Thread Cert.SplitRefIdeal.nD Cert.SplitRefIdeal.τ).loc Cert.SplitRefIdeal.main_v64)),
      θ_run (Cert.SplitIdeal.defs (F := Ideal)) (onTc (τ := Cert.SplitIdeal.τ) (Cert.SplitIdeal.main (F := Ideal))) ⟨m, fun _ => 0, g⟩ (fun r => ∀ c : Dev Cert.SplitIdeal.nD,
          r.2.mem ((c.tc : Thread Cert.SplitIdeal.nD Cert.SplitIdeal.τ).loc Cert.SplitIdeal.main_v1_0) = Layout.blockN ⟨3, ![4, 512, 1792]⟩ ⟨3, ![16, 1024, 1792]⟩ (Layout.meshBlock [2, 2, 2] ![[0, 1], [2], []] c) v0
          ∧ r.2.mem ((c.tc : Thread Cert.SplitIdeal.nD Cert.SplitIdeal.τ).loc Cert.SplitIdeal.main_v1_1) = Layout.blockN ⟨3, ![4, 512, 1536]⟩ ⟨3, ![16, 1024, 1536]⟩ (Layout.meshBlock [2, 2, 2] ![[0, 1], [2], []] c) v1
          ∧ r.2.mem ((c.tc : Thread Cert.SplitIdeal.nD Cert.SplitIdeal.τ).loc Cert.SplitIdeal.main_v1_2) = Layout.blockN ⟨3, ![4, 128, 1024]⟩ ⟨3, ![16, 256, 1024]⟩ (Layout.meshBlock [2, 2, 2] ![[0, 1], [2], []] c) v2
          ∧ r.2.mem ((c.tc : Thread Cert.SplitIdeal.nD Cert.SplitIdeal.τ).loc Cert.SplitIdeal.main_v1_3) = Layout.blockN ⟨3, ![4, 128, 1024]⟩ ⟨3, ![16, 256, 1024]⟩ (Layout.meshBlock [2, 2, 2] ![[0, 1], [2], []] c) v3
          ∧ r.2.mem ((c.tc : Thread Cert.SplitIdeal.nD Cert.SplitIdeal.τ).loc Cert.SplitIdeal.main_v1_4) = Layout.blockN ⟨3, ![4, 128, 1024]⟩ ⟨3, ![16, 256, 1024]⟩ (Layout.meshBlock [2, 2, 2] ![[0, 1], [2], []] c) v4
          ∧ r.2.mem ((c.tc : Thread Cert.SplitIdeal.nD Cert.SplitIdeal.τ).loc Cert.SplitIdeal.main_v1_5) = Layout.blockN ⟨3, ![4, 384, 1024]⟩ ⟨3, ![16, 768, 1024]⟩ (Layout.meshBlock [2, 2, 2] ![[0, 1], [2], []] c) v5
          ∧ r.2.mem ((c.tc : Thread Cert.SplitIdeal.nD Cert.SplitIdeal.τ).loc Cert.SplitIdeal.main_v1_6) = Layout.blockN ⟨3, ![4, 272, 256]⟩ ⟨3, ![16, 544, 256]⟩ (Layout.meshBlock [2, 2, 2] ![[0, 1], [2], []] c) v6
          ∧ r.2.mem ((c.tc : Thread Cert.SplitIdeal.nD Cert.SplitIdeal.τ).loc Cert.SplitIdeal.main_v1_7) = Layout.blockN ⟨3, ![4, 512, 1792]⟩ ⟨3, ![16, 1024, 1792]⟩ (Layout.meshBlock [2, 2, 2] ![[0, 1], [2], []] c) v7
          ∧ r.2.mem ((c.tc : Thread Cert.SplitIdeal.nD Cert.SplitIdeal.τ).loc Cert.SplitIdeal.main_v1_8) = Layout.blockN ⟨3, ![4, 512, 1536]⟩ ⟨3, ![16, 1024, 1536]⟩ (Layout.meshBlock [2, 2, 2] ![[0, 1], [2], []] c) v8
          ∧ r.2.mem ((c.tc : Thread Cert.SplitIdeal.nD Cert.SplitIdeal.τ).loc Cert.SplitIdeal.main_v1_9) = Layout.blockN ⟨3, ![4, 128, 1024]⟩ ⟨3, ![16, 256, 1024]⟩ (Layout.meshBlock [2, 2, 2] ![[0, 1], [2], []] c) v9
          ∧ r.2.mem ((c.tc : Thread Cert.SplitIdeal.nD Cert.SplitIdeal.τ).loc Cert.SplitIdeal.main_v1_10) = Layout.blockN ⟨3, ![4, 128, 1024]⟩ ⟨3, ![16, 256, 1024]⟩ (Layout.meshBlock [2, 2, 2] ![[0, 1], [2], []] c) v10
          ∧ r.2.mem ((c.tc : Thread Cert.SplitIdeal.nD Cert.SplitIdeal.τ).loc Cert.SplitIdeal.main_v1_11) = Layout.blockN ⟨3, ![4, 128, 1024]⟩ ⟨3, ![16, 256, 1024]⟩ (Layout.meshBlock [2, 2, 2] ![[0, 1], [2], []] c) v11
          ∧ r.2.mem ((c.tc : Thread Cert.SplitIdeal.nD Cert.SplitIdeal.τ).loc Cert.SplitIdeal.main_v1_12) = Layout.blockN ⟨3, ![4, 384, 1024]⟩ ⟨3, ![16, 768, 1024]⟩ (Layout.meshBlock [2, 2, 2] ![[0, 1], [2], []] c) v12
          ∧ r.2.mem ((c.tc : Thread Cert.SplitIdeal.nD Cert.SplitIdeal.τ).loc Cert.SplitIdeal.main_v1_13) = Layout.blockN ⟨3, ![4, 272, 256]⟩ ⟨3, ![16, 544, 256]⟩ (Layout.meshBlock [2, 2, 2] ![[0, 1], [2], []] c) v13
          ∧ r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
          ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1)
          ∧ r.2.mem ((c.tc : Thread Cert.SplitIdeal.nD Cert.SplitIdeal.τ).loc Cert.SplitIdeal.main_arg2) = m ((c.tc : Thread Cert.SplitIdeal.nD Cert.SplitIdeal.τ).loc Cert.SplitIdeal.main_arg2)
          ∧ r.2.mem ((c.tc : Thread Cert.SplitIdeal.nD Cert.SplitIdeal.τ).loc Cert.SplitIdeal.main_arg3) = m ((c.tc : Thread Cert.SplitIdeal.nD Cert.SplitIdeal.τ).loc Cert.SplitIdeal.main_arg3)
          ∧ r.2.mem ((c.tc : Thread Cert.SplitIdeal.nD Cert.SplitIdeal.τ).loc Cert.SplitIdeal.main_arg4) = m ((c.tc : Thread Cert.SplitIdeal.nD Cert.SplitIdeal.τ).loc Cert.SplitIdeal.main_arg4)
          ∧ r.2.mem ((c.tc : Thread Cert.SplitIdeal.nD Cert.SplitIdeal.τ).loc Cert.SplitIdeal.main_arg5) = m ((c.tc : Thread Cert.SplitIdeal.nD Cert.SplitIdeal.τ).loc Cert.SplitIdeal.main_arg5)
          ∧ r.2.mem ((c.tc : Thread Cert.SplitIdeal.nD Cert.SplitIdeal.τ).loc Cert.SplitIdeal.main_arg6) = m ((c.tc : Thread Cert.SplitIdeal.nD Cert.SplitIdeal.τ).loc Cert.SplitIdeal.main_arg6))
      ∧ θ_run (Cert.SplitRefIdeal.defs (F := Ideal)) (onTc (τ := Cert.SplitRefIdeal.τ) (Cert.SplitRefIdeal.main (F := Ideal))) ⟨m', fun _ => 0, g'⟩ (fun r =>
          r.2.mem (((0 : Dev Cert.SplitRefIdeal.nD).tc : Thread Cert.SplitRefIdeal.nD Cert.SplitRefIdeal.τ).loc Cert.SplitRefIdeal.main_v12) = v0
          ∧ r.2.mem (((0 : Dev Cert.SplitRefIdeal.nD).tc : Thread Cert.SplitRefIdeal.nD Cert.SplitRefIdeal.τ).loc Cert.SplitRefIdeal.main_v16) = v1
          ∧ r.2.mem (((0 : Dev Cert.SplitRefIdeal.nD).tc : Thread Cert.SplitRefIdeal.nD Cert.SplitRefIdeal.τ).loc Cert.SplitRefIdeal.main_v20) = v2
          ∧ r.2.mem (((0 : Dev Cert.SplitRefIdeal.nD).tc : Thread Cert.SplitRefIdeal.nD Cert.SplitRefIdeal.τ).loc Cert.SplitRefIdeal.main_v24) = v3
          ∧ r.2.mem (((0 : Dev Cert.SplitRefIdeal.nD).tc : Thread Cert.SplitRefIdeal.nD Cert.SplitRefIdeal.τ).loc Cert.SplitRefIdeal.main_v28) = v4
          ∧ r.2.mem (((0 : Dev Cert.SplitRefIdeal.nD).tc : Thread Cert.SplitRefIdeal.nD Cert.SplitRefIdeal.τ).loc Cert.SplitRefIdeal.main_v32) = v5
          ∧ r.2.mem (((0 : Dev Cert.SplitRefIdeal.nD).tc : Thread Cert.SplitRefIdeal.nD Cert.SplitRefIdeal.τ).loc Cert.SplitRefIdeal.main_v36) = v6
          ∧ r.2.mem (((0 : Dev Cert.SplitRefIdeal.nD).tc : Thread Cert.SplitRefIdeal.nD Cert.SplitRefIdeal.τ).loc Cert.SplitRefIdeal.main_v40) = v7
          ∧ r.2.mem (((0 : Dev Cert.SplitRefIdeal.nD).tc : Thread Cert.SplitRefIdeal.nD Cert.SplitRefIdeal.τ).loc Cert.SplitRefIdeal.main_v44) = v8
          ∧ r.2.mem (((0 : Dev Cert.SplitRefIdeal.nD).tc : Thread Cert.SplitRefIdeal.nD Cert.SplitRefIdeal.τ).loc Cert.SplitRefIdeal.main_v48) = v9
          ∧ r.2.mem (((0 : Dev Cert.SplitRefIdeal.nD).tc : Thread Cert.SplitRefIdeal.nD Cert.SplitRefIdeal.τ).loc Cert.SplitRefIdeal.main_v52) = v10
          ∧ r.2.mem (((0 : Dev Cert.SplitRefIdeal.nD).tc : Thread Cert.SplitRefIdeal.nD Cert.SplitRefIdeal.τ).loc Cert.SplitRefIdeal.main_v56) = v11
          ∧ r.2.mem (((0 : Dev Cert.SplitRefIdeal.nD).tc : Thread Cert.SplitRefIdeal.nD Cert.SplitRefIdeal.τ).loc Cert.SplitRefIdeal.main_v60) = v12
          ∧ r.2.mem (((0 : Dev Cert.SplitRefIdeal.nD).tc : Thread Cert.SplitRefIdeal.nD Cert.SplitRefIdeal.τ).loc Cert.SplitRefIdeal.main_v64) = v13
          ∧ r.2.mem (((0 : Dev Cert.SplitRefIdeal.nD).tc : Thread Cert.SplitRefIdeal.nD Cert.SplitRefIdeal.τ).loc Cert.SplitRefIdeal.main_arg0) = m' (((0 : Dev Cert.SplitRefIdeal.nD).tc : Thread Cert.SplitRefIdeal.nD Cert.SplitRefIdeal.τ).loc Cert.SplitRefIdeal.main_arg0)
          ∧ r.2.mem (((0 : Dev Cert.SplitRefIdeal.nD).tc : Thread Cert.SplitRefIdeal.nD Cert.SplitRefIdeal.τ).loc Cert.SplitRefIdeal.main_arg1) = m' (((0 : Dev Cert.SplitRefIdeal.nD).tc : Thread Cert.SplitRefIdeal.nD Cert.SplitRefIdeal.τ).loc Cert.SplitRefIdeal.main_arg1)
          ∧ r.2.mem (((0 : Dev Cert.SplitRefIdeal.nD).tc : Thread Cert.SplitRefIdeal.nD Cert.SplitRefIdeal.τ).loc Cert.SplitRefIdeal.main_arg2) = m' (((0 : Dev Cert.SplitRefIdeal.nD).tc : Thread Cert.SplitRefIdeal.nD Cert.SplitRefIdeal.τ).loc Cert.SplitRefIdeal.main_arg2)
          ∧ r.2.mem (((0 : Dev Cert.SplitRefIdeal.nD).tc : Thread Cert.SplitRefIdeal.nD Cert.SplitRefIdeal.τ).loc Cert.SplitRefIdeal.main_arg3) = m' (((0 : Dev Cert.SplitRefIdeal.nD).tc : Thread Cert.SplitRefIdeal.nD Cert.SplitRefIdeal.τ).loc Cert.SplitRefIdeal.main_arg3)
          ∧ r.2.mem (((0 : Dev Cert.SplitRefIdeal.nD).tc : Thread Cert.SplitRefIdeal.nD Cert.SplitRefIdeal.τ).loc Cert.SplitRefIdeal.main_arg4) = m' (((0 : Dev Cert.SplitRefIdeal.nD).tc : Thread Cert.SplitRefIdeal.nD Cert.SplitRefIdeal.τ).loc Cert.SplitRefIdeal.main_arg4)
          ∧ r.2.mem (((0 : Dev Cert.SplitRefIdeal.nD).tc : Thread Cert.SplitRefIdeal.nD Cert.SplitRefIdeal.τ).loc Cert.SplitRefIdeal.main_arg5) = m' (((0 : Dev Cert.SplitRefIdeal.nD).tc : Thread Cert.SplitRefIdeal.nD Cert.SplitRefIdeal.τ).loc Cert.SplitRefIdeal.main_arg5)
          ∧ r.2.mem (((0 : Dev Cert.SplitRefIdeal.nD).tc : Thread Cert.SplitRefIdeal.nD Cert.SplitRefIdeal.τ).loc Cert.SplitRefIdeal.main_arg6) = m' (((0 : Dev Cert.SplitRefIdeal.nD).tc : Thread Cert.SplitRefIdeal.nD Cert.SplitRefIdeal.τ).loc Cert.SplitRefIdeal.main_arg6))

def bitexact_Split_SplitRef [hSplit : Cert.Split.Facts] [hSplitRef : Cert.SplitRef.Facts] : Prop :=
  ∀ (m : (ℓ : Loc Cert.Split.nD Cert.Split.τ Cert.Split.sig) → Buf (Elt Bits) ℓ) (g : Dev Cert.Split.nD → PrngReg)
    (m' : (ℓ : Loc Cert.SplitRef.nD Cert.SplitRef.τ Cert.SplitRef.sig) → Buf (Elt Bits) ℓ) (g' : Dev Cert.SplitRef.nD → PrngReg), Pre_Split m →
    (∀ c : Dev Cert.Split.nD,
      m ((c.tc : Thread Cert.Split.nD Cert.Split.τ).loc Cert.Split.main_arg0) = Layout.block ⟨2, ![1024, 7168]⟩ ⟨2, ![8192, 7168]⟩ 0 8 c (m' (((0 : Dev Cert.SplitRef.nD).tc : Thread Cert.SplitRef.nD Cert.SplitRef.τ).loc Cert.SplitRef.main_arg0))
      ∧ m ((c.tc : Thread Cert.Split.nD Cert.Split.τ).loc Cert.Split.main_arg1) = Layout.block ⟨2, ![1024, 6144]⟩ ⟨2, ![8192, 6144]⟩ 0 8 c (m' (((0 : Dev Cert.SplitRef.nD).tc : Thread Cert.SplitRef.nD Cert.SplitRef.τ).loc Cert.SplitRef.main_arg1))
      ∧ m ((c.tc : Thread Cert.Split.nD Cert.Split.τ).loc Cert.Split.main_arg2) = Layout.block ⟨2, ![1024, 1024]⟩ ⟨2, ![8192, 1024]⟩ 0 8 c (m' (((0 : Dev Cert.SplitRef.nD).tc : Thread Cert.SplitRef.nD Cert.SplitRef.τ).loc Cert.SplitRef.main_arg2))
      ∧ m ((c.tc : Thread Cert.Split.nD Cert.Split.τ).loc Cert.Split.main_arg3) = Layout.block ⟨2, ![1024, 1024]⟩ ⟨2, ![8192, 1024]⟩ 0 8 c (m' (((0 : Dev Cert.SplitRef.nD).tc : Thread Cert.SplitRef.nD Cert.SplitRef.τ).loc Cert.SplitRef.main_arg3))
      ∧ m ((c.tc : Thread Cert.Split.nD Cert.Split.τ).loc Cert.Split.main_arg4) = Layout.block ⟨2, ![1024, 1024]⟩ ⟨2, ![8192, 1024]⟩ 0 8 c (m' (((0 : Dev Cert.SplitRef.nD).tc : Thread Cert.SplitRef.nD Cert.SplitRef.τ).loc Cert.SplitRef.main_arg4))
      ∧ m ((c.tc : Thread Cert.Split.nD Cert.Split.τ).loc Cert.Split.main_arg5) = Layout.block ⟨2, ![3072, 1024]⟩ ⟨2, ![24576, 1024]⟩ 0 8 c (m' (((0 : Dev Cert.SplitRef.nD).tc : Thread Cert.SplitRef.nD Cert.SplitRef.τ).loc Cert.SplitRef.main_arg5))
      ∧ m ((c.tc : Thread Cert.Split.nD Cert.Split.τ).loc Cert.Split.main_arg6) = Layout.block ⟨3, ![4, 544, 256]⟩ ⟨3, ![32, 544, 256]⟩ 0 8 c (m' (((0 : Dev Cert.SplitRef.nD).tc : Thread Cert.SplitRef.nD Cert.SplitRef.τ).loc Cert.SplitRef.main_arg6))) →
    ∃ (v0 : Buf (Elt Bits) (((0 : Dev Cert.SplitRef.nD).tc : Thread Cert.SplitRef.nD Cert.SplitRef.τ).loc Cert.SplitRef.main_v12)) (v1 : Buf (Elt Bits) (((0 : Dev Cert.SplitRef.nD).tc : Thread Cert.SplitRef.nD Cert.SplitRef.τ).loc Cert.SplitRef.main_v16)) (v2 : Buf (Elt Bits) (((0 : Dev Cert.SplitRef.nD).tc : Thread Cert.SplitRef.nD Cert.SplitRef.τ).loc Cert.SplitRef.main_v20)) (v3 : Buf (Elt Bits) (((0 : Dev Cert.SplitRef.nD).tc : Thread Cert.SplitRef.nD Cert.SplitRef.τ).loc Cert.SplitRef.main_v24)) (v4 : Buf (Elt Bits) (((0 : Dev Cert.SplitRef.nD).tc : Thread Cert.SplitRef.nD Cert.SplitRef.τ).loc Cert.SplitRef.main_v28)) (v5 : Buf (Elt Bits) (((0 : Dev Cert.SplitRef.nD).tc : Thread Cert.SplitRef.nD Cert.SplitRef.τ).loc Cert.SplitRef.main_v32)) (v6 : Buf (Elt Bits) (((0 : Dev Cert.SplitRef.nD).tc : Thread Cert.SplitRef.nD Cert.SplitRef.τ).loc Cert.SplitRef.main_v36)) (v7 : Buf (Elt Bits) (((0 : Dev Cert.SplitRef.nD).tc : Thread Cert.SplitRef.nD Cert.SplitRef.τ).loc Cert.SplitRef.main_v40)) (v8 : Buf (Elt Bits) (((0 : Dev Cert.SplitRef.nD).tc : Thread Cert.SplitRef.nD Cert.SplitRef.τ).loc Cert.SplitRef.main_v44)) (v9 : Buf (Elt Bits) (((0 : Dev Cert.SplitRef.nD).tc : Thread Cert.SplitRef.nD Cert.SplitRef.τ).loc Cert.SplitRef.main_v48)) (v10 : Buf (Elt Bits) (((0 : Dev Cert.SplitRef.nD).tc : Thread Cert.SplitRef.nD Cert.SplitRef.τ).loc Cert.SplitRef.main_v52)) (v11 : Buf (Elt Bits) (((0 : Dev Cert.SplitRef.nD).tc : Thread Cert.SplitRef.nD Cert.SplitRef.τ).loc Cert.SplitRef.main_v56)) (v12 : Buf (Elt Bits) (((0 : Dev Cert.SplitRef.nD).tc : Thread Cert.SplitRef.nD Cert.SplitRef.τ).loc Cert.SplitRef.main_v60)) (v13 : Buf (Elt Bits) (((0 : Dev Cert.SplitRef.nD).tc : Thread Cert.SplitRef.nD Cert.SplitRef.τ).loc Cert.SplitRef.main_v64)),
      θ_run (Cert.Split.defs (F := Bits)) (onTc (τ := Cert.Split.τ) (Cert.Split.main (F := Bits))) ⟨m, fun _ => 0, g⟩ (fun r => ∀ c : Dev Cert.Split.nD,
          r.2.mem ((c.tc : Thread Cert.Split.nD Cert.Split.τ).loc Cert.Split.main_v1_0) = Layout.blockN ⟨3, ![4, 512, 1792]⟩ ⟨3, ![16, 1024, 1792]⟩ (Layout.meshBlock [2, 2, 2] ![[0, 1], [2], []] c) v0
          ∧ r.2.mem ((c.tc : Thread Cert.Split.nD Cert.Split.τ).loc Cert.Split.main_v1_1) = Layout.blockN ⟨3, ![4, 512, 1536]⟩ ⟨3, ![16, 1024, 1536]⟩ (Layout.meshBlock [2, 2, 2] ![[0, 1], [2], []] c) v1
          ∧ r.2.mem ((c.tc : Thread Cert.Split.nD Cert.Split.τ).loc Cert.Split.main_v1_2) = Layout.blockN ⟨3, ![4, 128, 1024]⟩ ⟨3, ![16, 256, 1024]⟩ (Layout.meshBlock [2, 2, 2] ![[0, 1], [2], []] c) v2
          ∧ r.2.mem ((c.tc : Thread Cert.Split.nD Cert.Split.τ).loc Cert.Split.main_v1_3) = Layout.blockN ⟨3, ![4, 128, 1024]⟩ ⟨3, ![16, 256, 1024]⟩ (Layout.meshBlock [2, 2, 2] ![[0, 1], [2], []] c) v3
          ∧ r.2.mem ((c.tc : Thread Cert.Split.nD Cert.Split.τ).loc Cert.Split.main_v1_4) = Layout.blockN ⟨3, ![4, 128, 1024]⟩ ⟨3, ![16, 256, 1024]⟩ (Layout.meshBlock [2, 2, 2] ![[0, 1], [2], []] c) v4
          ∧ r.2.mem ((c.tc : Thread Cert.Split.nD Cert.Split.τ).loc Cert.Split.main_v1_5) = Layout.blockN ⟨3, ![4, 384, 1024]⟩ ⟨3, ![16, 768, 1024]⟩ (Layout.meshBlock [2, 2, 2] ![[0, 1], [2], []] c) v5
          ∧ r.2.mem ((c.tc : Thread Cert.Split.nD Cert.Split.τ).loc Cert.Split.main_v1_6) = Layout.blockN ⟨3, ![4, 272, 256]⟩ ⟨3, ![16, 544, 256]⟩ (Layout.meshBlock [2, 2, 2] ![[0, 1], [2], []] c) v6
          ∧ r.2.mem ((c.tc : Thread Cert.Split.nD Cert.Split.τ).loc Cert.Split.main_v1_7) = Layout.blockN ⟨3, ![4, 512, 1792]⟩ ⟨3, ![16, 1024, 1792]⟩ (Layout.meshBlock [2, 2, 2] ![[0, 1], [2], []] c) v7
          ∧ r.2.mem ((c.tc : Thread Cert.Split.nD Cert.Split.τ).loc Cert.Split.main_v1_8) = Layout.blockN ⟨3, ![4, 512, 1536]⟩ ⟨3, ![16, 1024, 1536]⟩ (Layout.meshBlock [2, 2, 2] ![[0, 1], [2], []] c) v8
          ∧ r.2.mem ((c.tc : Thread Cert.Split.nD Cert.Split.τ).loc Cert.Split.main_v1_9) = Layout.blockN ⟨3, ![4, 128, 1024]⟩ ⟨3, ![16, 256, 1024]⟩ (Layout.meshBlock [2, 2, 2] ![[0, 1], [2], []] c) v9
          ∧ r.2.mem ((c.tc : Thread Cert.Split.nD Cert.Split.τ).loc Cert.Split.main_v1_10) = Layout.blockN ⟨3, ![4, 128, 1024]⟩ ⟨3, ![16, 256, 1024]⟩ (Layout.meshBlock [2, 2, 2] ![[0, 1], [2], []] c) v10
          ∧ r.2.mem ((c.tc : Thread Cert.Split.nD Cert.Split.τ).loc Cert.Split.main_v1_11) = Layout.blockN ⟨3, ![4, 128, 1024]⟩ ⟨3, ![16, 256, 1024]⟩ (Layout.meshBlock [2, 2, 2] ![[0, 1], [2], []] c) v11
          ∧ r.2.mem ((c.tc : Thread Cert.Split.nD Cert.Split.τ).loc Cert.Split.main_v1_12) = Layout.blockN ⟨3, ![4, 384, 1024]⟩ ⟨3, ![16, 768, 1024]⟩ (Layout.meshBlock [2, 2, 2] ![[0, 1], [2], []] c) v12
          ∧ r.2.mem ((c.tc : Thread Cert.Split.nD Cert.Split.τ).loc Cert.Split.main_v1_13) = Layout.blockN ⟨3, ![4, 272, 256]⟩ ⟨3, ![16, 544, 256]⟩ (Layout.meshBlock [2, 2, 2] ![[0, 1], [2], []] c) v13
          ∧ r.2.mem ((c.tc : Thread Cert.Split.nD Cert.Split.τ).loc Cert.Split.main_arg0) = m ((c.tc : Thread Cert.Split.nD Cert.Split.τ).loc Cert.Split.main_arg0)
          ∧ r.2.mem ((c.tc : Thread Cert.Split.nD Cert.Split.τ).loc Cert.Split.main_arg1) = m ((c.tc : Thread Cert.Split.nD Cert.Split.τ).loc Cert.Split.main_arg1)
          ∧ r.2.mem ((c.tc : Thread Cert.Split.nD Cert.Split.τ).loc Cert.Split.main_arg2) = m ((c.tc : Thread Cert.Split.nD Cert.Split.τ).loc Cert.Split.main_arg2)
          ∧ r.2.mem ((c.tc : Thread Cert.Split.nD Cert.Split.τ).loc Cert.Split.main_arg3) = m ((c.tc : Thread Cert.Split.nD Cert.Split.τ).loc Cert.Split.main_arg3)
          ∧ r.2.mem ((c.tc : Thread Cert.Split.nD Cert.Split.τ).loc Cert.Split.main_arg4) = m ((c.tc : Thread Cert.Split.nD Cert.Split.τ).loc Cert.Split.main_arg4)
          ∧ r.2.mem ((c.tc : Thread Cert.Split.nD Cert.Split.τ).loc Cert.Split.main_arg5) = m ((c.tc : Thread Cert.Split.nD Cert.Split.τ).loc Cert.Split.main_arg5)
          ∧ r.2.mem ((c.tc : Thread Cert.Split.nD Cert.Split.τ).loc Cert.Split.main_arg6) = m ((c.tc : Thread Cert.Split.nD Cert.Split.τ).loc Cert.Split.main_arg6))
      ∧ θ_run (Cert.SplitRef.defs (F := Bits)) (onTc (τ := Cert.SplitRef.τ) (Cert.SplitRef.main (F := Bits))) ⟨m', fun _ => 0, g'⟩ (fun r =>
          r.2.mem (((0 : Dev Cert.SplitRef.nD).tc : Thread Cert.SplitRef.nD Cert.SplitRef.τ).loc Cert.SplitRef.main_v12) = v0
          ∧ r.2.mem (((0 : Dev Cert.SplitRef.nD).tc : Thread Cert.SplitRef.nD Cert.SplitRef.τ).loc Cert.SplitRef.main_v16) = v1
          ∧ r.2.mem (((0 : Dev Cert.SplitRef.nD).tc : Thread Cert.SplitRef.nD Cert.SplitRef.τ).loc Cert.SplitRef.main_v20) = v2
          ∧ r.2.mem (((0 : Dev Cert.SplitRef.nD).tc : Thread Cert.SplitRef.nD Cert.SplitRef.τ).loc Cert.SplitRef.main_v24) = v3
          ∧ r.2.mem (((0 : Dev Cert.SplitRef.nD).tc : Thread Cert.SplitRef.nD Cert.SplitRef.τ).loc Cert.SplitRef.main_v28) = v4
          ∧ r.2.mem (((0 : Dev Cert.SplitRef.nD).tc : Thread Cert.SplitRef.nD Cert.SplitRef.τ).loc Cert.SplitRef.main_v32) = v5
          ∧ r.2.mem (((0 : Dev Cert.SplitRef.nD).tc : Thread Cert.SplitRef.nD Cert.SplitRef.τ).loc Cert.SplitRef.main_v36) = v6
          ∧ r.2.mem (((0 : Dev Cert.SplitRef.nD).tc : Thread Cert.SplitRef.nD Cert.SplitRef.τ).loc Cert.SplitRef.main_v40) = v7
          ∧ r.2.mem (((0 : Dev Cert.SplitRef.nD).tc : Thread Cert.SplitRef.nD Cert.SplitRef.τ).loc Cert.SplitRef.main_v44) = v8
          ∧ r.2.mem (((0 : Dev Cert.SplitRef.nD).tc : Thread Cert.SplitRef.nD Cert.SplitRef.τ).loc Cert.SplitRef.main_v48) = v9
          ∧ r.2.mem (((0 : Dev Cert.SplitRef.nD).tc : Thread Cert.SplitRef.nD Cert.SplitRef.τ).loc Cert.SplitRef.main_v52) = v10
          ∧ r.2.mem (((0 : Dev Cert.SplitRef.nD).tc : Thread Cert.SplitRef.nD Cert.SplitRef.τ).loc Cert.SplitRef.main_v56) = v11
          ∧ r.2.mem (((0 : Dev Cert.SplitRef.nD).tc : Thread Cert.SplitRef.nD Cert.SplitRef.τ).loc Cert.SplitRef.main_v60) = v12
          ∧ r.2.mem (((0 : Dev Cert.SplitRef.nD).tc : Thread Cert.SplitRef.nD Cert.SplitRef.τ).loc Cert.SplitRef.main_v64) = v13
          ∧ r.2.mem (((0 : Dev Cert.SplitRef.nD).tc : Thread Cert.SplitRef.nD Cert.SplitRef.τ).loc Cert.SplitRef.main_arg0) = m' (((0 : Dev Cert.SplitRef.nD).tc : Thread Cert.SplitRef.nD Cert.SplitRef.τ).loc Cert.SplitRef.main_arg0)
          ∧ r.2.mem (((0 : Dev Cert.SplitRef.nD).tc : Thread Cert.SplitRef.nD Cert.SplitRef.τ).loc Cert.SplitRef.main_arg1) = m' (((0 : Dev Cert.SplitRef.nD).tc : Thread Cert.SplitRef.nD Cert.SplitRef.τ).loc Cert.SplitRef.main_arg1)
          ∧ r.2.mem (((0 : Dev Cert.SplitRef.nD).tc : Thread Cert.SplitRef.nD Cert.SplitRef.τ).loc Cert.SplitRef.main_arg2) = m' (((0 : Dev Cert.SplitRef.nD).tc : Thread Cert.SplitRef.nD Cert.SplitRef.τ).loc Cert.SplitRef.main_arg2)
          ∧ r.2.mem (((0 : Dev Cert.SplitRef.nD).tc : Thread Cert.SplitRef.nD Cert.SplitRef.τ).loc Cert.SplitRef.main_arg3) = m' (((0 : Dev Cert.SplitRef.nD).tc : Thread Cert.SplitRef.nD Cert.SplitRef.τ).loc Cert.SplitRef.main_arg3)
          ∧ r.2.mem (((0 : Dev Cert.SplitRef.nD).tc : Thread Cert.SplitRef.nD Cert.SplitRef.τ).loc Cert.SplitRef.main_arg4) = m' (((0 : Dev Cert.SplitRef.nD).tc : Thread Cert.SplitRef.nD Cert.SplitRef.τ).loc Cert.SplitRef.main_arg4)
          ∧ r.2.mem (((0 : Dev Cert.SplitRef.nD).tc : Thread Cert.SplitRef.nD Cert.SplitRef.τ).loc Cert.SplitRef.main_arg5) = m' (((0 : Dev Cert.SplitRef.nD).tc : Thread Cert.SplitRef.nD Cert.SplitRef.τ).loc Cert.SplitRef.main_arg5)
          ∧ r.2.mem (((0 : Dev Cert.SplitRef.nD).tc : Thread Cert.SplitRef.nD Cert.SplitRef.τ).loc Cert.SplitRef.main_arg6) = m' (((0 : Dev Cert.SplitRef.nD).tc : Thread Cert.SplitRef.nD Cert.SplitRef.τ).loc Cert.SplitRef.main_arg6))

def preserves_Exchange_ExchangeIdeal : Prop :=
  True

def algebraic_ExchangeIdeal_ExchangeRefIdeal [hExchangeIdeal : Cert.ExchangeIdeal.Facts] [hExchangeRefIdeal : Cert.ExchangeRefIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeRefIdeal.nD Cert.ExchangeRefIdeal.τ Cert.ExchangeRefIdeal.sig) → Buf (Elt Ideal) ℓ) (g' : Dev Cert.ExchangeRefIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.blockN ⟨3, ![4, 512, 1792]⟩ ⟨3, ![16, 1024, 1792]⟩ (Layout.meshBlock [2, 2, 2] ![[0, 1], [2], []] c) (m' (((0 : Dev Cert.ExchangeRefIdeal.nD).tc : Thread Cert.ExchangeRefIdeal.nD Cert.ExchangeRefIdeal.τ).loc Cert.ExchangeRefIdeal.main_arg0))
      ∧ m ((c.tc : Thread Cert.ExchangeIdeal.nD Cert.ExchangeIdeal.τ).loc Cert.ExchangeIdeal.main_arg1) = Layout.blockN ⟨3, ![4, 512, 1536]⟩ ⟨3, ![16, 1024, 1536]⟩ (Layout.meshBlock [2, 2, 2] ![[0, 1], [2], []] c) (m' (((0 : Dev Cert.ExchangeRefIdeal.nD).tc : Thread Cert.ExchangeRefIdeal.nD Cert.ExchangeRefIdeal.τ).loc Cert.ExchangeRefIdeal.main_arg1))
      ∧ m ((c.tc : Thread Cert.ExchangeIdeal.nD Cert.ExchangeIdeal.τ).loc Cert.ExchangeIdeal.main_arg2) = Layout.blockN ⟨3, ![4, 128, 1024]⟩ ⟨3, ![16, 256, 1024]⟩ (Layout.meshBlock [2, 2, 2] ![[0, 1], [2], []] c) (m' (((0 : Dev Cert.ExchangeRefIdeal.nD).tc : Thread Cert.ExchangeRefIdeal.nD Cert.ExchangeRefIdeal.τ).loc Cert.ExchangeRefIdeal.main_arg2))
      ∧ m ((c.tc : Thread Cert.ExchangeIdeal.nD Cert.ExchangeIdeal.τ).loc Cert.ExchangeIdeal.main_arg3) = Layout.blockN ⟨3, ![4, 128, 1024]⟩ ⟨3, ![16, 256, 1024]⟩ (Layout.meshBlock [2, 2, 2] ![[0, 1], [2], []] c) (m' (((0 : Dev Cert.ExchangeRefIdeal.nD).tc : Thread Cert.ExchangeRefIdeal.nD Cert.ExchangeRefIdeal.τ).loc Cert.ExchangeRefIdeal.main_arg3))
      ∧ m ((c.tc : Thread Cert.ExchangeIdeal.nD Cert.ExchangeIdeal.τ).loc Cert.ExchangeIdeal.main_arg4) = Layout.blockN ⟨3, ![4, 128, 1024]⟩ ⟨3, ![16, 256, 1024]⟩ (Layout.meshBlock [2, 2, 2] ![[0, 1], [2], []] c) (m' (((0 : Dev Cert.ExchangeRefIdeal.nD).tc : Thread Cert.ExchangeRefIdeal.nD Cert.ExchangeRefIdeal.τ).loc Cert.ExchangeRefIdeal.main_arg4))
      ∧ m ((c.tc : Thread Cert.ExchangeIdeal.nD Cert.ExchangeIdeal.τ).loc Cert.ExchangeIdeal.main_arg5) = Layout.blockN ⟨3, ![4, 384, 1024]⟩ ⟨3, ![16, 768, 1024]⟩ (Layout.meshBlock [2, 2, 2] ![[0, 1], [2], []] c) (m' (((0 : Dev Cert.ExchangeRefIdeal.nD).tc : Thread Cert.ExchangeRefIdeal.nD Cert.ExchangeRefIdeal.τ).loc Cert.ExchangeRefIdeal.main_arg5))
      ∧ m ((c.tc : Thread Cert.ExchangeIdeal.nD Cert.ExchangeIdeal.τ).loc Cert.ExchangeIdeal.main_arg6) = Layout.blockN ⟨3, ![4, 272, 256]⟩ ⟨3, ![16, 544, 256]⟩ (Layout.meshBlock [2, 2, 2] ![[0, 1], [2], []] c) (m' (((0 : Dev Cert.ExchangeRefIdeal.nD).tc : Thread Cert.ExchangeRefIdeal.nD Cert.ExchangeRefIdeal.τ).loc Cert.ExchangeRefIdeal.main_arg6))
      ∧ m ((c.tc : Thread Cert.ExchangeIdeal.nD Cert.ExchangeIdeal.τ).loc Cert.ExchangeIdeal.main_arg7) = Layout.block ⟨2, ![16, 1024]⟩ ⟨2, ![128, 1024]⟩ 0 8 c (m' (((0 : Dev Cert.ExchangeRefIdeal.nD).tc : Thread Cert.ExchangeRefIdeal.nD Cert.ExchangeRefIdeal.τ).loc Cert.ExchangeRefIdeal.main_arg7))) →
    ∃ (v0 : Buf (Elt Ideal) (((0 : Dev Cert.ExchangeRefIdeal.nD).tc : Thread Cert.ExchangeRefIdeal.nD Cert.ExchangeRefIdeal.τ).loc Cert.ExchangeRefIdeal.main_v2)) (v1 : Buf (Elt Ideal) (((0 : Dev Cert.ExchangeRefIdeal.nD).tc : Thread Cert.ExchangeRefIdeal.nD Cert.ExchangeRefIdeal.τ).loc Cert.ExchangeRefIdeal.main_v5)) (v2 : Buf (Elt Ideal) (((0 : Dev Cert.ExchangeRefIdeal.nD).tc : Thread Cert.ExchangeRefIdeal.nD Cert.ExchangeRefIdeal.τ).loc Cert.ExchangeRefIdeal.main_v8)) (v3 : Buf (Elt Ideal) (((0 : Dev Cert.ExchangeRefIdeal.nD).tc : Thread Cert.ExchangeRefIdeal.nD Cert.ExchangeRefIdeal.τ).loc Cert.ExchangeRefIdeal.main_v11)) (v4 : Buf (Elt Ideal) (((0 : Dev Cert.ExchangeRefIdeal.nD).tc : Thread Cert.ExchangeRefIdeal.nD Cert.ExchangeRefIdeal.τ).loc Cert.ExchangeRefIdeal.main_v14)) (v5 : Buf (Elt Ideal) (((0 : Dev Cert.ExchangeRefIdeal.nD).tc : Thread Cert.ExchangeRefIdeal.nD Cert.ExchangeRefIdeal.τ).loc Cert.ExchangeRefIdeal.main_v17)) (v6 : Buf (Elt Ideal) (((0 : Dev Cert.ExchangeRefIdeal.nD).tc : Thread Cert.ExchangeRefIdeal.nD Cert.ExchangeRefIdeal.τ).loc Cert.ExchangeRefIdeal.main_v20)) (v7 : Buf (Elt Ideal) (((0 : Dev Cert.ExchangeRefIdeal.nD).tc : Thread Cert.ExchangeRefIdeal.nD Cert.ExchangeRefIdeal.τ).loc Cert.ExchangeRefIdeal.main_v21)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1_0) = Layout.blockN ⟨3, ![4, 512, 1792]⟩ ⟨3, ![16, 1024, 1792]⟩ (Layout.meshBlock [2, 2, 2] ![[0, 1], [2], []] c) v0
          ∧ r.2.mem ((c.tc : Thread Cert.ExchangeIdeal.nD Cert.ExchangeIdeal.τ).loc Cert.ExchangeIdeal.main_v1_1) = Layout.blockN ⟨3, ![4, 512, 1536]⟩ ⟨3, ![16, 1024, 1536]⟩ (Layout.meshBlock [2, 2, 2] ![[0, 1], [2], []] c) v1
          ∧ r.2.mem ((c.tc : Thread Cert.ExchangeIdeal.nD Cert.ExchangeIdeal.τ).loc Cert.ExchangeIdeal.main_v1_2) = Layout.blockN ⟨3, ![4, 128, 1024]⟩ ⟨3, ![16, 256, 1024]⟩ (Layout.meshBlock [2, 2, 2] ![[0, 1], [2], []] c) v2
          ∧ r.2.mem ((c.tc : Thread Cert.ExchangeIdeal.nD Cert.ExchangeIdeal.τ).loc Cert.ExchangeIdeal.main_v1_3) = Layout.blockN ⟨3, ![4, 128, 1024]⟩ ⟨3, ![16, 256, 1024]⟩ (Layout.meshBlock [2, 2, 2] ![[0, 1], [2], []] c) v3
          ∧ r.2.mem ((c.tc : Thread Cert.ExchangeIdeal.nD Cert.ExchangeIdeal.τ).loc Cert.ExchangeIdeal.main_v1_4) = Layout.blockN ⟨3, ![4, 128, 1024]⟩ ⟨3, ![16, 256, 1024]⟩ (Layout.meshBlock [2, 2, 2] ![[0, 1], [2], []] c) v4
          ∧ r.2.mem ((c.tc : Thread Cert.ExchangeIdeal.nD Cert.ExchangeIdeal.τ).loc Cert.ExchangeIdeal.main_v1_5) = Layout.blockN ⟨3, ![4, 384, 1024]⟩ ⟨3, ![16, 768, 1024]⟩ (Layout.meshBlock [2, 2, 2] ![[0, 1], [2], []] c) v5
          ∧ r.2.mem ((c.tc : Thread Cert.ExchangeIdeal.nD Cert.ExchangeIdeal.τ).loc Cert.ExchangeIdeal.main_v1_6) = Layout.blockN ⟨3, ![4, 272, 256]⟩ ⟨3, ![16, 544, 256]⟩ (Layout.meshBlock [2, 2, 2] ![[0, 1], [2], []] c) v6
          ∧ r.2.mem ((c.tc : Thread Cert.ExchangeIdeal.nD Cert.ExchangeIdeal.τ).loc Cert.ExchangeIdeal.main_v1_7) = v7
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
          ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
          ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
          ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3)
          ∧ r.2.mem ((c.tc : Thread Cert.ExchangeIdeal.nD Cert.ExchangeIdeal.τ).loc Cert.ExchangeIdeal.main_arg4) = m ((c.tc : Thread Cert.ExchangeIdeal.nD Cert.ExchangeIdeal.τ).loc Cert.ExchangeIdeal.main_arg4)
          ∧ r.2.mem ((c.tc : Thread Cert.ExchangeIdeal.nD Cert.ExchangeIdeal.τ).loc Cert.ExchangeIdeal.main_arg5) = m ((c.tc : Thread Cert.ExchangeIdeal.nD Cert.ExchangeIdeal.τ).loc Cert.ExchangeIdeal.main_arg5)
          ∧ r.2.mem ((c.tc : Thread Cert.ExchangeIdeal.nD Cert.ExchangeIdeal.τ).loc Cert.ExchangeIdeal.main_arg6) = m ((c.tc : Thread Cert.ExchangeIdeal.nD Cert.ExchangeIdeal.τ).loc Cert.ExchangeIdeal.main_arg6)
          ∧ r.2.mem ((c.tc : Thread Cert.ExchangeIdeal.nD Cert.ExchangeIdeal.τ).loc Cert.ExchangeIdeal.main_arg7) = m ((c.tc : Thread Cert.ExchangeIdeal.nD Cert.ExchangeIdeal.τ).loc Cert.ExchangeIdeal.main_arg7))
      ∧ θ_run (Cert.ExchangeRefIdeal.defs (F := Ideal)) (onTc (τ := Cert.ExchangeRefIdeal.τ) (Cert.ExchangeRefIdeal.main (F := Ideal))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v2) = v0
          ∧ r.2.mem (((0 : Dev Cert.ExchangeRefIdeal.nD).tc : Thread Cert.ExchangeRefIdeal.nD Cert.ExchangeRefIdeal.τ).loc Cert.ExchangeRefIdeal.main_v5) = v1
          ∧ r.2.mem (((0 : Dev Cert.ExchangeRefIdeal.nD).tc : Thread Cert.ExchangeRefIdeal.nD Cert.ExchangeRefIdeal.τ).loc Cert.ExchangeRefIdeal.main_v8) = v2
          ∧ r.2.mem (((0 : Dev Cert.ExchangeRefIdeal.nD).tc : Thread Cert.ExchangeRefIdeal.nD Cert.ExchangeRefIdeal.τ).loc Cert.ExchangeRefIdeal.main_v11) = v3
          ∧ r.2.mem (((0 : Dev Cert.ExchangeRefIdeal.nD).tc : Thread Cert.ExchangeRefIdeal.nD Cert.ExchangeRefIdeal.τ).loc Cert.ExchangeRefIdeal.main_v14) = v4
          ∧ r.2.mem (((0 : Dev Cert.ExchangeRefIdeal.nD).tc : Thread Cert.ExchangeRefIdeal.nD Cert.ExchangeRefIdeal.τ).loc Cert.ExchangeRefIdeal.main_v17) = v5
          ∧ r.2.mem (((0 : Dev Cert.ExchangeRefIdeal.nD).tc : Thread Cert.ExchangeRefIdeal.nD Cert.ExchangeRefIdeal.τ).loc Cert.ExchangeRefIdeal.main_v20) = v6
          ∧ r.2.mem (((0 : Dev Cert.ExchangeRefIdeal.nD).tc : Thread Cert.ExchangeRefIdeal.nD Cert.ExchangeRefIdeal.τ).loc Cert.ExchangeRefIdeal.main_v21) = v7
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0)
          ∧ r.2.mem (((0 : Dev Cert.ExchangeRefIdeal.nD).tc : Thread Cert.ExchangeRefIdeal.nD Cert.ExchangeRefIdeal.τ).loc Cert.ExchangeRefIdeal.main_arg1) = m' (((0 : Dev Cert.ExchangeRefIdeal.nD).tc : Thread Cert.ExchangeRefIdeal.nD Cert.ExchangeRefIdeal.τ).loc Cert.ExchangeRefIdeal.main_arg1)
          ∧ r.2.mem (((0 : Dev Cert.ExchangeRefIdeal.nD).tc : Thread Cert.ExchangeRefIdeal.nD Cert.ExchangeRefIdeal.τ).loc Cert.ExchangeRefIdeal.main_arg2) = m' (((0 : Dev Cert.ExchangeRefIdeal.nD).tc : Thread Cert.ExchangeRefIdeal.nD Cert.ExchangeRefIdeal.τ).loc Cert.ExchangeRefIdeal.main_arg2)
          ∧ r.2.mem (((0 : Dev Cert.ExchangeRefIdeal.nD).tc : Thread Cert.ExchangeRefIdeal.nD Cert.ExchangeRefIdeal.τ).loc Cert.ExchangeRefIdeal.main_arg3) = m' (((0 : Dev Cert.ExchangeRefIdeal.nD).tc : Thread Cert.ExchangeRefIdeal.nD Cert.ExchangeRefIdeal.τ).loc Cert.ExchangeRefIdeal.main_arg3)
          ∧ r.2.mem (((0 : Dev Cert.ExchangeRefIdeal.nD).tc : Thread Cert.ExchangeRefIdeal.nD Cert.ExchangeRefIdeal.τ).loc Cert.ExchangeRefIdeal.main_arg4) = m' (((0 : Dev Cert.ExchangeRefIdeal.nD).tc : Thread Cert.ExchangeRefIdeal.nD Cert.ExchangeRefIdeal.τ).loc Cert.ExchangeRefIdeal.main_arg4)
          ∧ r.2.mem (((0 : Dev Cert.ExchangeRefIdeal.nD).tc : Thread Cert.ExchangeRefIdeal.nD Cert.ExchangeRefIdeal.τ).loc Cert.ExchangeRefIdeal.main_arg5) = m' (((0 : Dev Cert.ExchangeRefIdeal.nD).tc : Thread Cert.ExchangeRefIdeal.nD Cert.ExchangeRefIdeal.τ).loc Cert.ExchangeRefIdeal.main_arg5)
          ∧ r.2.mem (((0 : Dev Cert.ExchangeRefIdeal.nD).tc : Thread Cert.ExchangeRefIdeal.nD Cert.ExchangeRefIdeal.τ).loc Cert.ExchangeRefIdeal.main_arg6) = m' (((0 : Dev Cert.ExchangeRefIdeal.nD).tc : Thread Cert.ExchangeRefIdeal.nD Cert.ExchangeRefIdeal.τ).loc Cert.ExchangeRefIdeal.main_arg6)
          ∧ r.2.mem (((0 : Dev Cert.ExchangeRefIdeal.nD).tc : Thread Cert.ExchangeRefIdeal.nD Cert.ExchangeRefIdeal.τ).loc Cert.ExchangeRefIdeal.main_arg7) = m' (((0 : Dev Cert.ExchangeRefIdeal.nD).tc : Thread Cert.ExchangeRefIdeal.nD Cert.ExchangeRefIdeal.τ).loc Cert.ExchangeRefIdeal.main_arg7))

def bitexact_Exchange_ExchangeRef [hExchange : Cert.Exchange.Facts] [hExchangeRef : Cert.ExchangeRef.Facts] : Prop :=
  ∀ (m : (ℓ : Loc Cert.Exchange.nD Cert.Exchange.τ Cert.Exchange.sig) → Buf (Elt Bits) ℓ) (g : Dev Cert.Exchange.nD → PrngReg)
    (m' : (ℓ : Loc Cert.ExchangeRef.nD Cert.ExchangeRef.τ Cert.ExchangeRef.sig) → Buf (Elt Bits) ℓ) (g' : Dev Cert.ExchangeRef.nD → PrngReg), Pre_Exchange m →
    (∀ c : Dev Cert.Exchange.nD,
      m ((c.tc : Thread Cert.Exchange.nD Cert.Exchange.τ).loc Cert.Exchange.main_arg0) = Layout.blockN ⟨3, ![4, 512, 1792]⟩ ⟨3, ![16, 1024, 1792]⟩ (Layout.meshBlock [2, 2, 2] ![[0, 1], [2], []] c) (m' (((0 : Dev Cert.ExchangeRef.nD).tc : Thread Cert.ExchangeRef.nD Cert.ExchangeRef.τ).loc Cert.ExchangeRef.main_arg0))
      ∧ m ((c.tc : Thread Cert.Exchange.nD Cert.Exchange.τ).loc Cert.Exchange.main_arg1) = Layout.blockN ⟨3, ![4, 512, 1536]⟩ ⟨3, ![16, 1024, 1536]⟩ (Layout.meshBlock [2, 2, 2] ![[0, 1], [2], []] c) (m' (((0 : Dev Cert.ExchangeRef.nD).tc : Thread Cert.ExchangeRef.nD Cert.ExchangeRef.τ).loc Cert.ExchangeRef.main_arg1))
      ∧ m ((c.tc : Thread Cert.Exchange.nD Cert.Exchange.τ).loc Cert.Exchange.main_arg2) = Layout.blockN ⟨3, ![4, 128, 1024]⟩ ⟨3, ![16, 256, 1024]⟩ (Layout.meshBlock [2, 2, 2] ![[0, 1], [2], []] c) (m' (((0 : Dev Cert.ExchangeRef.nD).tc : Thread Cert.ExchangeRef.nD Cert.ExchangeRef.τ).loc Cert.ExchangeRef.main_arg2))
      ∧ m ((c.tc : Thread Cert.Exchange.nD Cert.Exchange.τ).loc Cert.Exchange.main_arg3) = Layout.blockN ⟨3, ![4, 128, 1024]⟩ ⟨3, ![16, 256, 1024]⟩ (Layout.meshBlock [2, 2, 2] ![[0, 1], [2], []] c) (m' (((0 : Dev Cert.ExchangeRef.nD).tc : Thread Cert.ExchangeRef.nD Cert.ExchangeRef.τ).loc Cert.ExchangeRef.main_arg3))
      ∧ m ((c.tc : Thread Cert.Exchange.nD Cert.Exchange.τ).loc Cert.Exchange.main_arg4) = Layout.blockN ⟨3, ![4, 128, 1024]⟩ ⟨3, ![16, 256, 1024]⟩ (Layout.meshBlock [2, 2, 2] ![[0, 1], [2], []] c) (m' (((0 : Dev Cert.ExchangeRef.nD).tc : Thread Cert.ExchangeRef.nD Cert.ExchangeRef.τ).loc Cert.ExchangeRef.main_arg4))
      ∧ m ((c.tc : Thread Cert.Exchange.nD Cert.Exchange.τ).loc Cert.Exchange.main_arg5) = Layout.blockN ⟨3, ![4, 384, 1024]⟩ ⟨3, ![16, 768, 1024]⟩ (Layout.meshBlock [2, 2, 2] ![[0, 1], [2], []] c) (m' (((0 : Dev Cert.ExchangeRef.nD).tc : Thread Cert.ExchangeRef.nD Cert.ExchangeRef.τ).loc Cert.ExchangeRef.main_arg5))
      ∧ m ((c.tc : Thread Cert.Exchange.nD Cert.Exchange.τ).loc Cert.Exchange.main_arg6) = Layout.blockN ⟨3, ![4, 272, 256]⟩ ⟨3, ![16, 544, 256]⟩ (Layout.meshBlock [2, 2, 2] ![[0, 1], [2], []] c) (m' (((0 : Dev Cert.ExchangeRef.nD).tc : Thread Cert.ExchangeRef.nD Cert.ExchangeRef.τ).loc Cert.ExchangeRef.main_arg6))
      ∧ m ((c.tc : Thread Cert.Exchange.nD Cert.Exchange.τ).loc Cert.Exchange.main_arg7) = Layout.block ⟨2, ![16, 1024]⟩ ⟨2, ![128, 1024]⟩ 0 8 c (m' (((0 : Dev Cert.ExchangeRef.nD).tc : Thread Cert.ExchangeRef.nD Cert.ExchangeRef.τ).loc Cert.ExchangeRef.main_arg7))) →
    ∃ (v0 : Buf (Elt Bits) (((0 : Dev Cert.ExchangeRef.nD).tc : Thread Cert.ExchangeRef.nD Cert.ExchangeRef.τ).loc Cert.ExchangeRef.main_v2)) (v1 : Buf (Elt Bits) (((0 : Dev Cert.ExchangeRef.nD).tc : Thread Cert.ExchangeRef.nD Cert.ExchangeRef.τ).loc Cert.ExchangeRef.main_v5)) (v2 : Buf (Elt Bits) (((0 : Dev Cert.ExchangeRef.nD).tc : Thread Cert.ExchangeRef.nD Cert.ExchangeRef.τ).loc Cert.ExchangeRef.main_v8)) (v3 : Buf (Elt Bits) (((0 : Dev Cert.ExchangeRef.nD).tc : Thread Cert.ExchangeRef.nD Cert.ExchangeRef.τ).loc Cert.ExchangeRef.main_v11)) (v4 : Buf (Elt Bits) (((0 : Dev Cert.ExchangeRef.nD).tc : Thread Cert.ExchangeRef.nD Cert.ExchangeRef.τ).loc Cert.ExchangeRef.main_v14)) (v5 : Buf (Elt Bits) (((0 : Dev Cert.ExchangeRef.nD).tc : Thread Cert.ExchangeRef.nD Cert.ExchangeRef.τ).loc Cert.ExchangeRef.main_v17)) (v6 : Buf (Elt Bits) (((0 : Dev Cert.ExchangeRef.nD).tc : Thread Cert.ExchangeRef.nD Cert.ExchangeRef.τ).loc Cert.ExchangeRef.main_v20)) (v7 : Buf (Elt Bits) (((0 : Dev Cert.ExchangeRef.nD).tc : Thread Cert.ExchangeRef.nD Cert.ExchangeRef.τ).loc Cert.ExchangeRef.main_v21)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1_0) = Layout.blockN ⟨3, ![4, 512, 1792]⟩ ⟨3, ![16, 1024, 1792]⟩ (Layout.meshBlock [2, 2, 2] ![[0, 1], [2], []] c) v0
          ∧ r.2.mem ((c.tc : Thread Cert.Exchange.nD Cert.Exchange.τ).loc Cert.Exchange.main_v1_1) = Layout.blockN ⟨3, ![4, 512, 1536]⟩ ⟨3, ![16, 1024, 1536]⟩ (Layout.meshBlock [2, 2, 2] ![[0, 1], [2], []] c) v1
          ∧ r.2.mem ((c.tc : Thread Cert.Exchange.nD Cert.Exchange.τ).loc Cert.Exchange.main_v1_2) = Layout.blockN ⟨3, ![4, 128, 1024]⟩ ⟨3, ![16, 256, 1024]⟩ (Layout.meshBlock [2, 2, 2] ![[0, 1], [2], []] c) v2
          ∧ r.2.mem ((c.tc : Thread Cert.Exchange.nD Cert.Exchange.τ).loc Cert.Exchange.main_v1_3) = Layout.blockN ⟨3, ![4, 128, 1024]⟩ ⟨3, ![16, 256, 1024]⟩ (Layout.meshBlock [2, 2, 2] ![[0, 1], [2], []] c) v3
          ∧ r.2.mem ((c.tc : Thread Cert.Exchange.nD Cert.Exchange.τ).loc Cert.Exchange.main_v1_4) = Layout.blockN ⟨3, ![4, 128, 1024]⟩ ⟨3, ![16, 256, 1024]⟩ (Layout.meshBlock [2, 2, 2] ![[0, 1], [2], []] c) v4
          ∧ r.2.mem ((c.tc : Thread Cert.Exchange.nD Cert.Exchange.τ).loc Cert.Exchange.main_v1_5) = Layout.blockN ⟨3, ![4, 384, 1024]⟩ ⟨3, ![16, 768, 1024]⟩ (Layout.meshBlock [2, 2, 2] ![[0, 1], [2], []] c) v5
          ∧ r.2.mem ((c.tc : Thread Cert.Exchange.nD Cert.Exchange.τ).loc Cert.Exchange.main_v1_6) = Layout.blockN ⟨3, ![4, 272, 256]⟩ ⟨3, ![16, 544, 256]⟩ (Layout.meshBlock [2, 2, 2] ![[0, 1], [2], []] c) v6
          ∧ r.2.mem ((c.tc : Thread Cert.Exchange.nD Cert.Exchange.τ).loc Cert.Exchange.main_v1_7) = v7
          ∧ r.2.mem ((c.tc : Thread Cert.Exchange.nD Cert.Exchange.τ).loc Cert.Exchange.main_arg0) = m ((c.tc : Thread Cert.Exchange.nD Cert.Exchange.τ).loc Cert.Exchange.main_arg0)
          ∧ r.2.mem ((c.tc : Thread Cert.Exchange.nD Cert.Exchange.τ).loc Cert.Exchange.main_arg1) = m ((c.tc : Thread Cert.Exchange.nD Cert.Exchange.τ).loc Cert.Exchange.main_arg1)
          ∧ r.2.mem ((c.tc : Thread Cert.Exchange.nD Cert.Exchange.τ).loc Cert.Exchange.main_arg2) = m ((c.tc : Thread Cert.Exchange.nD Cert.Exchange.τ).loc Cert.Exchange.main_arg2)
          ∧ r.2.mem ((c.tc : Thread Cert.Exchange.nD Cert.Exchange.τ).loc Cert.Exchange.main_arg3) = m ((c.tc : Thread Cert.Exchange.nD Cert.Exchange.τ).loc Cert.Exchange.main_arg3)
          ∧ r.2.mem ((c.tc : Thread Cert.Exchange.nD Cert.Exchange.τ).loc Cert.Exchange.main_arg4) = m ((c.tc : Thread Cert.Exchange.nD Cert.Exchange.τ).loc Cert.Exchange.main_arg4)
          ∧ r.2.mem ((c.tc : Thread Cert.Exchange.nD Cert.Exchange.τ).loc Cert.Exchange.main_arg5) = m ((c.tc : Thread Cert.Exchange.nD Cert.Exchange.τ).loc Cert.Exchange.main_arg5)
          ∧ r.2.mem ((c.tc : Thread Cert.Exchange.nD Cert.Exchange.τ).loc Cert.Exchange.main_arg6) = m ((c.tc : Thread Cert.Exchange.nD Cert.Exchange.τ).loc Cert.Exchange.main_arg6)
          ∧ r.2.mem ((c.tc : Thread Cert.Exchange.nD Cert.Exchange.τ).loc Cert.Exchange.main_arg7) = m ((c.tc : Thread Cert.Exchange.nD Cert.Exchange.τ).loc Cert.Exchange.main_arg7))
      ∧ θ_run (Cert.ExchangeRef.defs (F := Bits)) (onTc (τ := Cert.ExchangeRef.τ) (Cert.ExchangeRef.main (F := Bits))) ⟨m', fun _ => 0, g'⟩ (fun r =>
          r.2.mem (((0 : Dev Cert.ExchangeRef.nD).tc : Thread Cert.ExchangeRef.nD Cert.ExchangeRef.τ).loc Cert.ExchangeRef.main_v2) = v0
          ∧ r.2.mem (((0 : Dev Cert.ExchangeRef.nD).tc : Thread Cert.ExchangeRef.nD Cert.ExchangeRef.τ).loc Cert.ExchangeRef.main_v5) = v1
          ∧ r.2.mem (((0 : Dev Cert.ExchangeRef.nD).tc : Thread Cert.ExchangeRef.nD Cert.ExchangeRef.τ).loc Cert.ExchangeRef.main_v8) = v2
          ∧ r.2.mem (((0 : Dev Cert.ExchangeRef.nD).tc : Thread Cert.ExchangeRef.nD Cert.ExchangeRef.τ).loc Cert.ExchangeRef.main_v11) = v3
          ∧ r.2.mem (((0 : Dev Cert.ExchangeRef.nD).tc : Thread Cert.ExchangeRef.nD Cert.ExchangeRef.τ).loc Cert.ExchangeRef.main_v14) = v4
          ∧ r.2.mem (((0 : Dev Cert.ExchangeRef.nD).tc : Thread Cert.ExchangeRef.nD Cert.ExchangeRef.τ).loc Cert.ExchangeRef.main_v17) = v5
          ∧ r.2.mem (((0 : Dev Cert.ExchangeRef.nD).tc : Thread Cert.ExchangeRef.nD Cert.ExchangeRef.τ).loc Cert.ExchangeRef.main_v20) = v6
          ∧ r.2.mem (((0 : Dev Cert.ExchangeRef.nD).tc : Thread Cert.ExchangeRef.nD Cert.ExchangeRef.τ).loc Cert.ExchangeRef.main_v21) = v7
          ∧ r.2.mem (((0 : Dev Cert.ExchangeRef.nD).tc : Thread Cert.ExchangeRef.nD Cert.ExchangeRef.τ).loc Cert.ExchangeRef.main_arg0) = m' (((0 : Dev Cert.ExchangeRef.nD).tc : Thread Cert.ExchangeRef.nD Cert.ExchangeRef.τ).loc Cert.ExchangeRef.main_arg0)
          ∧ r.2.mem (((0 : Dev Cert.ExchangeRef.nD).tc : Thread Cert.ExchangeRef.nD Cert.ExchangeRef.τ).loc Cert.ExchangeRef.main_arg1) = m' (((0 : Dev Cert.ExchangeRef.nD).tc : Thread Cert.ExchangeRef.nD Cert.ExchangeRef.τ).loc Cert.ExchangeRef.main_arg1)
          ∧ r.2.mem (((0 : Dev Cert.ExchangeRef.nD).tc : Thread Cert.ExchangeRef.nD Cert.ExchangeRef.τ).loc Cert.ExchangeRef.main_arg2) = m' (((0 : Dev Cert.ExchangeRef.nD).tc : Thread Cert.ExchangeRef.nD Cert.ExchangeRef.τ).loc Cert.ExchangeRef.main_arg2)
          ∧ r.2.mem (((0 : Dev Cert.ExchangeRef.nD).tc : Thread Cert.ExchangeRef.nD Cert.ExchangeRef.τ).loc Cert.ExchangeRef.main_arg3) = m' (((0 : Dev Cert.ExchangeRef.nD).tc : Thread Cert.ExchangeRef.nD Cert.ExchangeRef.τ).loc Cert.ExchangeRef.main_arg3)
          ∧ r.2.mem (((0 : Dev Cert.ExchangeRef.nD).tc : Thread Cert.ExchangeRef.nD Cert.ExchangeRef.τ).loc Cert.ExchangeRef.main_arg4) = m' (((0 : Dev Cert.ExchangeRef.nD).tc : Thread Cert.ExchangeRef.nD Cert.ExchangeRef.τ).loc Cert.ExchangeRef.main_arg4)
          ∧ r.2.mem (((0 : Dev Cert.ExchangeRef.nD).tc : Thread Cert.ExchangeRef.nD Cert.ExchangeRef.τ).loc Cert.ExchangeRef.main_arg5) = m' (((0 : Dev Cert.ExchangeRef.nD).tc : Thread Cert.ExchangeRef.nD Cert.ExchangeRef.τ).loc Cert.ExchangeRef.main_arg5)
          ∧ r.2.mem (((0 : Dev Cert.ExchangeRef.nD).tc : Thread Cert.ExchangeRef.nD Cert.ExchangeRef.τ).loc Cert.ExchangeRef.main_arg6) = m' (((0 : Dev Cert.ExchangeRef.nD).tc : Thread Cert.ExchangeRef.nD Cert.ExchangeRef.τ).loc Cert.ExchangeRef.main_arg6)
          ∧ r.2.mem (((0 : Dev Cert.ExchangeRef.nD).tc : Thread Cert.ExchangeRef.nD Cert.ExchangeRef.τ).loc Cert.ExchangeRef.main_arg7) = m' (((0 : Dev Cert.ExchangeRef.nD).tc : Thread Cert.ExchangeRef.nD Cert.ExchangeRef.τ).loc Cert.ExchangeRef.main_arg7))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m ((c.tc : Thread Cert.JoinIdeal.nD Cert.JoinIdeal.τ).loc Cert.JoinIdeal.main_arg0) = Layout.blockN ⟨2, ![512, 1792]⟩ ⟨2, ![1024, 7168]⟩ (Layout.meshBlock [2, 2, 2] ![[2], [0, 1]] c) (m' (((0 : Dev Cert.JoinRefIdeal.nD).tc : Thread Cert.JoinRefIdeal.nD Cert.JoinRefIdeal.τ).loc Cert.JoinRefIdeal.main_arg0))
      ∧ m ((c.tc : Thread Cert.JoinIdeal.nD Cert.JoinIdeal.τ).loc Cert.JoinIdeal.main_arg1) = Layout.blockN ⟨2, ![512, 1536]⟩ ⟨2, ![1024, 6144]⟩ (Layout.meshBlock [2, 2, 2] ![[2], [0, 1]] c) (m' (((0 : Dev Cert.JoinRefIdeal.nD).tc : Thread Cert.JoinRefIdeal.nD Cert.JoinRefIdeal.τ).loc Cert.JoinRefIdeal.main_arg1))
      ∧ m ((c.tc : Thread Cert.JoinIdeal.nD Cert.JoinIdeal.τ).loc Cert.JoinIdeal.main_arg2) = Layout.block ⟨2, ![128, 1024]⟩ ⟨2, ![1024, 1024]⟩ 0 8 c (m' (((0 : Dev Cert.JoinRefIdeal.nD).tc : Thread Cert.JoinRefIdeal.nD Cert.JoinRefIdeal.τ).loc Cert.JoinRefIdeal.main_arg2))
      ∧ m ((c.tc : Thread Cert.JoinIdeal.nD Cert.JoinIdeal.τ).loc Cert.JoinIdeal.main_arg3) = Layout.block ⟨2, ![128, 1024]⟩ ⟨2, ![1024, 1024]⟩ 0 8 c (m' (((0 : Dev Cert.JoinRefIdeal.nD).tc : Thread Cert.JoinRefIdeal.nD Cert.JoinRefIdeal.τ).loc Cert.JoinRefIdeal.main_arg3))
      ∧ m ((c.tc : Thread Cert.JoinIdeal.nD Cert.JoinIdeal.τ).loc Cert.JoinIdeal.main_arg4) = Layout.block ⟨2, ![128, 1024]⟩ ⟨2, ![1024, 1024]⟩ 0 8 c (m' (((0 : Dev Cert.JoinRefIdeal.nD).tc : Thread Cert.JoinRefIdeal.nD Cert.JoinRefIdeal.τ).loc Cert.JoinRefIdeal.main_arg4))
      ∧ m ((c.tc : Thread Cert.JoinIdeal.nD Cert.JoinIdeal.τ).loc Cert.JoinIdeal.main_arg5) = Layout.block ⟨2, ![384, 1024]⟩ ⟨2, ![3072, 1024]⟩ 0 8 c (m' (((0 : Dev Cert.JoinRefIdeal.nD).tc : Thread Cert.JoinRefIdeal.nD Cert.JoinRefIdeal.τ).loc Cert.JoinRefIdeal.main_arg5))
      ∧ m ((c.tc : Thread Cert.JoinIdeal.nD Cert.JoinIdeal.τ).loc Cert.JoinIdeal.main_arg6) = Layout.block ⟨2, ![272, 256]⟩ ⟨2, ![2176, 256]⟩ 0 8 c (m' (((0 : Dev Cert.JoinRefIdeal.nD).tc : Thread Cert.JoinRefIdeal.nD Cert.JoinRefIdeal.τ).loc Cert.JoinRefIdeal.main_arg6))) →
    ∃ (v0 : Buf (Elt Ideal) (((0 : Dev Cert.JoinRefIdeal.nD).tc : Thread Cert.JoinRefIdeal.nD Cert.JoinRefIdeal.τ).loc Cert.JoinRefIdeal.main_arg0)) (v1 : Buf (Elt Ideal) (((0 : Dev Cert.JoinRefIdeal.nD).tc : Thread Cert.JoinRefIdeal.nD Cert.JoinRefIdeal.τ).loc Cert.JoinRefIdeal.main_arg1)) (v2 : Buf (Elt Ideal) (((0 : Dev Cert.JoinRefIdeal.nD).tc : Thread Cert.JoinRefIdeal.nD Cert.JoinRefIdeal.τ).loc Cert.JoinRefIdeal.main_arg2)) (v3 : Buf (Elt Ideal) (((0 : Dev Cert.JoinRefIdeal.nD).tc : Thread Cert.JoinRefIdeal.nD Cert.JoinRefIdeal.τ).loc Cert.JoinRefIdeal.main_arg3)) (v4 : Buf (Elt Ideal) (((0 : Dev Cert.JoinRefIdeal.nD).tc : Thread Cert.JoinRefIdeal.nD Cert.JoinRefIdeal.τ).loc Cert.JoinRefIdeal.main_arg4)) (v5 : Buf (Elt Ideal) (((0 : Dev Cert.JoinRefIdeal.nD).tc : Thread Cert.JoinRefIdeal.nD Cert.JoinRefIdeal.τ).loc Cert.JoinRefIdeal.main_arg5)) (v6 : Buf (Elt Ideal) (((0 : Dev Cert.JoinRefIdeal.nD).tc : Thread Cert.JoinRefIdeal.nD Cert.JoinRefIdeal.τ).loc Cert.JoinRefIdeal.main_arg6)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v1_0) = Layout.blockN ⟨2, ![1024, 1792]⟩ ⟨2, ![1024, 7168]⟩ (Layout.meshBlock [2, 2, 2] ![[], [0, 1]] c) v0
          ∧ r.2.mem ((c.tc : Thread Cert.JoinIdeal.nD Cert.JoinIdeal.τ).loc Cert.JoinIdeal.main_v1_1) = Layout.blockN ⟨2, ![1024, 1536]⟩ ⟨2, ![1024, 6144]⟩ (Layout.meshBlock [2, 2, 2] ![[], [0, 1]] c) v1
          ∧ r.2.mem ((c.tc : Thread Cert.JoinIdeal.nD Cert.JoinIdeal.τ).loc Cert.JoinIdeal.main_v1_2) = Layout.blockN ⟨2, ![256, 1024]⟩ ⟨2, ![1024, 1024]⟩ (Layout.meshBlock [2, 2, 2] ![[0, 1], []] c) v2
          ∧ r.2.mem ((c.tc : Thread Cert.JoinIdeal.nD Cert.JoinIdeal.τ).loc Cert.JoinIdeal.main_v1_3) = Layout.blockN ⟨2, ![256, 1024]⟩ ⟨2, ![1024, 1024]⟩ (Layout.meshBlock [2, 2, 2] ![[0, 1], []] c) v3
          ∧ r.2.mem ((c.tc : Thread Cert.JoinIdeal.nD Cert.JoinIdeal.τ).loc Cert.JoinIdeal.main_v1_4) = Layout.blockN ⟨2, ![256, 1024]⟩ ⟨2, ![1024, 1024]⟩ (Layout.meshBlock [2, 2, 2] ![[0, 1], []] c) v4
          ∧ r.2.mem ((c.tc : Thread Cert.JoinIdeal.nD Cert.JoinIdeal.τ).loc Cert.JoinIdeal.main_v1_5) = Layout.blockN ⟨2, ![768, 1024]⟩ ⟨2, ![3072, 1024]⟩ (Layout.meshBlock [2, 2, 2] ![[0, 1], []] c) v5
          ∧ r.2.mem ((c.tc : Thread Cert.JoinIdeal.nD Cert.JoinIdeal.τ).loc Cert.JoinIdeal.main_v1_6) = Layout.blockN ⟨2, ![544, 256]⟩ ⟨2, ![2176, 256]⟩ (Layout.meshBlock [2, 2, 2] ![[0, 1], []] c) v6
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
          ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
          ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
          ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6))
      ∧ θ_run (Cert.JoinRefIdeal.defs (F := Ideal)) (onTc (τ := Cert.JoinRefIdeal.τ) (Cert.JoinRefIdeal.main (F := Ideal))) ⟨m', fun _ => 0, g'⟩ (fun r =>
          r.2.mem (((0 : Dev Cert.JoinRefIdeal.nD).tc : Thread Cert.JoinRefIdeal.nD Cert.JoinRefIdeal.τ).loc Cert.JoinRefIdeal.main_arg0) = v0
          ∧ r.2.mem (((0 : Dev Cert.JoinRefIdeal.nD).tc : Thread Cert.JoinRefIdeal.nD Cert.JoinRefIdeal.τ).loc Cert.JoinRefIdeal.main_arg1) = v1
          ∧ r.2.mem (((0 : Dev Cert.JoinRefIdeal.nD).tc : Thread Cert.JoinRefIdeal.nD Cert.JoinRefIdeal.τ).loc Cert.JoinRefIdeal.main_arg2) = v2
          ∧ r.2.mem (((0 : Dev Cert.JoinRefIdeal.nD).tc : Thread Cert.JoinRefIdeal.nD Cert.JoinRefIdeal.τ).loc Cert.JoinRefIdeal.main_arg3) = v3
          ∧ r.2.mem (((0 : Dev Cert.JoinRefIdeal.nD).tc : Thread Cert.JoinRefIdeal.nD Cert.JoinRefIdeal.τ).loc Cert.JoinRefIdeal.main_arg4) = v4
          ∧ r.2.mem (((0 : Dev Cert.JoinRefIdeal.nD).tc : Thread Cert.JoinRefIdeal.nD Cert.JoinRefIdeal.τ).loc Cert.JoinRefIdeal.main_arg5) = v5
          ∧ r.2.mem (((0 : Dev Cert.JoinRefIdeal.nD).tc : Thread Cert.JoinRefIdeal.nD Cert.JoinRefIdeal.τ).loc Cert.JoinRefIdeal.main_arg6) = v6
          ∧ r.2.mem (((0 : Dev Cert.JoinRefIdeal.nD).tc : Thread Cert.JoinRefIdeal.nD Cert.JoinRefIdeal.τ).loc Cert.JoinRefIdeal.main_arg0) = m' (((0 : Dev Cert.JoinRefIdeal.nD).tc : Thread Cert.JoinRefIdeal.nD Cert.JoinRefIdeal.τ).loc Cert.JoinRefIdeal.main_arg0)
          ∧ r.2.mem (((0 : Dev Cert.JoinRefIdeal.nD).tc : Thread Cert.JoinRefIdeal.nD Cert.JoinRefIdeal.τ).loc Cert.JoinRefIdeal.main_arg1) = m' (((0 : Dev Cert.JoinRefIdeal.nD).tc : Thread Cert.JoinRefIdeal.nD Cert.JoinRefIdeal.τ).loc Cert.JoinRefIdeal.main_arg1)
          ∧ r.2.mem (((0 : Dev Cert.JoinRefIdeal.nD).tc : Thread Cert.JoinRefIdeal.nD Cert.JoinRefIdeal.τ).loc Cert.JoinRefIdeal.main_arg2) = m' (((0 : Dev Cert.JoinRefIdeal.nD).tc : Thread Cert.JoinRefIdeal.nD Cert.JoinRefIdeal.τ).loc Cert.JoinRefIdeal.main_arg2)
          ∧ r.2.mem (((0 : Dev Cert.JoinRefIdeal.nD).tc : Thread Cert.JoinRefIdeal.nD Cert.JoinRefIdeal.τ).loc Cert.JoinRefIdeal.main_arg3) = m' (((0 : Dev Cert.JoinRefIdeal.nD).tc : Thread Cert.JoinRefIdeal.nD Cert.JoinRefIdeal.τ).loc Cert.JoinRefIdeal.main_arg3)
          ∧ r.2.mem (((0 : Dev Cert.JoinRefIdeal.nD).tc : Thread Cert.JoinRefIdeal.nD Cert.JoinRefIdeal.τ).loc Cert.JoinRefIdeal.main_arg4) = m' (((0 : Dev Cert.JoinRefIdeal.nD).tc : Thread Cert.JoinRefIdeal.nD Cert.JoinRefIdeal.τ).loc Cert.JoinRefIdeal.main_arg4)
          ∧ r.2.mem (((0 : Dev Cert.JoinRefIdeal.nD).tc : Thread Cert.JoinRefIdeal.nD Cert.JoinRefIdeal.τ).loc Cert.JoinRefIdeal.main_arg5) = m' (((0 : Dev Cert.JoinRefIdeal.nD).tc : Thread Cert.JoinRefIdeal.nD Cert.JoinRefIdeal.τ).loc Cert.JoinRefIdeal.main_arg5)
          ∧ r.2.mem (((0 : Dev Cert.JoinRefIdeal.nD).tc : Thread Cert.JoinRefIdeal.nD Cert.JoinRefIdeal.τ).loc Cert.JoinRefIdeal.main_arg6) = m' (((0 : Dev Cert.JoinRefIdeal.nD).tc : Thread Cert.JoinRefIdeal.nD Cert.JoinRefIdeal.τ).loc Cert.JoinRefIdeal.main_arg6))

def bitexact_Join_JoinRef [hJoin : Cert.Join.Facts] [hJoinRef : Cert.JoinRef.Facts] : Prop :=
  ∀ (m : (ℓ : Loc Cert.Join.nD Cert.Join.τ Cert.Join.sig) → Buf (Elt Bits) ℓ) (g : Dev Cert.Join.nD → PrngReg)
    (m' : (ℓ : Loc Cert.JoinRef.nD Cert.JoinRef.τ Cert.JoinRef.sig) → Buf (Elt Bits) ℓ) (g' : Dev Cert.JoinRef.nD → PrngReg), Pre_Join m →
    (∀ c : Dev Cert.Join.nD,
      m ((c.tc : Thread Cert.Join.nD Cert.Join.τ).loc Cert.Join.main_arg0) = Layout.blockN ⟨2, ![512, 1792]⟩ ⟨2, ![1024, 7168]⟩ (Layout.meshBlock [2, 2, 2] ![[2], [0, 1]] c) (m' (((0 : Dev Cert.JoinRef.nD).tc : Thread Cert.JoinRef.nD Cert.JoinRef.τ).loc Cert.JoinRef.main_arg0))
      ∧ m ((c.tc : Thread Cert.Join.nD Cert.Join.τ).loc Cert.Join.main_arg1) = Layout.blockN ⟨2, ![512, 1536]⟩ ⟨2, ![1024, 6144]⟩ (Layout.meshBlock [2, 2, 2] ![[2], [0, 1]] c) (m' (((0 : Dev Cert.JoinRef.nD).tc : Thread Cert.JoinRef.nD Cert.JoinRef.τ).loc Cert.JoinRef.main_arg1))
      ∧ m ((c.tc : Thread Cert.Join.nD Cert.Join.τ).loc Cert.Join.main_arg2) = Layout.block ⟨2, ![128, 1024]⟩ ⟨2, ![1024, 1024]⟩ 0 8 c (m' (((0 : Dev Cert.JoinRef.nD).tc : Thread Cert.JoinRef.nD Cert.JoinRef.τ).loc Cert.JoinRef.main_arg2))
      ∧ m ((c.tc : Thread Cert.Join.nD Cert.Join.τ).loc Cert.Join.main_arg3) = Layout.block ⟨2, ![128, 1024]⟩ ⟨2, ![1024, 1024]⟩ 0 8 c (m' (((0 : Dev Cert.JoinRef.nD).tc : Thread Cert.JoinRef.nD Cert.JoinRef.τ).loc Cert.JoinRef.main_arg3))
      ∧ m ((c.tc : Thread Cert.Join.nD Cert.Join.τ).loc Cert.Join.main_arg4) = Layout.block ⟨2, ![128, 1024]⟩ ⟨2, ![1024, 1024]⟩ 0 8 c (m' (((0 : Dev Cert.JoinRef.nD).tc : Thread Cert.JoinRef.nD Cert.JoinRef.τ).loc Cert.JoinRef.main_arg4))
      ∧ m ((c.tc : Thread Cert.Join.nD Cert.Join.τ).loc Cert.Join.main_arg5) = Layout.block ⟨2, ![384, 1024]⟩ ⟨2, ![3072, 1024]⟩ 0 8 c (m' (((0 : Dev Cert.JoinRef.nD).tc : Thread Cert.JoinRef.nD Cert.JoinRef.τ).loc Cert.JoinRef.main_arg5))
      ∧ m ((c.tc : Thread Cert.Join.nD Cert.Join.τ).loc Cert.Join.main_arg6) = Layout.block ⟨2, ![272, 256]⟩ ⟨2, ![2176, 256]⟩ 0 8 c (m' (((0 : Dev Cert.JoinRef.nD).tc : Thread Cert.JoinRef.nD Cert.JoinRef.τ).loc Cert.JoinRef.main_arg6))) →
    ∃ (v0 : Buf (Elt Bits) (((0 : Dev Cert.JoinRef.nD).tc : Thread Cert.JoinRef.nD Cert.JoinRef.τ).loc Cert.JoinRef.main_arg0)) (v1 : Buf (Elt Bits) (((0 : Dev Cert.JoinRef.nD).tc : Thread Cert.JoinRef.nD Cert.JoinRef.τ).loc Cert.JoinRef.main_arg1)) (v2 : Buf (Elt Bits) (((0 : Dev Cert.JoinRef.nD).tc : Thread Cert.JoinRef.nD Cert.JoinRef.τ).loc Cert.JoinRef.main_arg2)) (v3 : Buf (Elt Bits) (((0 : Dev Cert.JoinRef.nD).tc : Thread Cert.JoinRef.nD Cert.JoinRef.τ).loc Cert.JoinRef.main_arg3)) (v4 : Buf (Elt Bits) (((0 : Dev Cert.JoinRef.nD).tc : Thread Cert.JoinRef.nD Cert.JoinRef.τ).loc Cert.JoinRef.main_arg4)) (v5 : Buf (Elt Bits) (((0 : Dev Cert.JoinRef.nD).tc : Thread Cert.JoinRef.nD Cert.JoinRef.τ).loc Cert.JoinRef.main_arg5)) (v6 : Buf (Elt Bits) (((0 : Dev Cert.JoinRef.nD).tc : Thread Cert.JoinRef.nD Cert.JoinRef.τ).loc Cert.JoinRef.main_arg6)),
      θ_run (Cert.Join.defs (F := Bits)) (onTc (τ := Cert.Join.τ) (Cert.Join.main (F := Bits))) ⟨m, fun _ => 0, g⟩ (fun r => ∀ c : Dev Cert.Join.nD,
          r.2.mem ((c.tc : Thread Cert.Join.nD Cert.Join.τ).loc Cert.Join.main_v1_0) = Layout.blockN ⟨2, ![1024, 1792]⟩ ⟨2, ![1024, 7168]⟩ (Layout.meshBlock [2, 2, 2] ![[], [0, 1]] c) v0
          ∧ r.2.mem ((c.tc : Thread Cert.Join.nD Cert.Join.τ).loc Cert.Join.main_v1_1) = Layout.blockN ⟨2, ![1024, 1536]⟩ ⟨2, ![1024, 6144]⟩ (Layout.meshBlock [2, 2, 2] ![[], [0, 1]] c) v1
          ∧ r.2.mem ((c.tc : Thread Cert.Join.nD Cert.Join.τ).loc Cert.Join.main_v1_2) = Layout.blockN ⟨2, ![256, 1024]⟩ ⟨2, ![1024, 1024]⟩ (Layout.meshBlock [2, 2, 2] ![[0, 1], []] c) v2
          ∧ r.2.mem ((c.tc : Thread Cert.Join.nD Cert.Join.τ).loc Cert.Join.main_v1_3) = Layout.blockN ⟨2, ![256, 1024]⟩ ⟨2, ![1024, 1024]⟩ (Layout.meshBlock [2, 2, 2] ![[0, 1], []] c) v3
          ∧ r.2.mem ((c.tc : Thread Cert.Join.nD Cert.Join.τ).loc Cert.Join.main_v1_4) = Layout.blockN ⟨2, ![256, 1024]⟩ ⟨2, ![1024, 1024]⟩ (Layout.meshBlock [2, 2, 2] ![[0, 1], []] c) v4
          ∧ r.2.mem ((c.tc : Thread Cert.Join.nD Cert.Join.τ).loc Cert.Join.main_v1_5) = Layout.blockN ⟨2, ![768, 1024]⟩ ⟨2, ![3072, 1024]⟩ (Layout.meshBlock [2, 2, 2] ![[0, 1], []] c) v5
          ∧ r.2.mem ((c.tc : Thread Cert.Join.nD Cert.Join.τ).loc Cert.Join.main_v1_6) = Layout.blockN ⟨2, ![544, 256]⟩ ⟨2, ![2176, 256]⟩ (Layout.meshBlock [2, 2, 2] ![[0, 1], []] c) v6
          ∧ r.2.mem ((c.tc : Thread Cert.Join.nD Cert.Join.τ).loc Cert.Join.main_arg0) = m ((c.tc : Thread Cert.Join.nD Cert.Join.τ).loc Cert.Join.main_arg0)
          ∧ r.2.mem ((c.tc : Thread Cert.Join.nD Cert.Join.τ).loc Cert.Join.main_arg1) = m ((c.tc : Thread Cert.Join.nD Cert.Join.τ).loc Cert.Join.main_arg1)
          ∧ r.2.mem ((c.tc : Thread Cert.Join.nD Cert.Join.τ).loc Cert.Join.main_arg2) = m ((c.tc : Thread Cert.Join.nD Cert.Join.τ).loc Cert.Join.main_arg2)
          ∧ r.2.mem ((c.tc : Thread Cert.Join.nD Cert.Join.τ).loc Cert.Join.main_arg3) = m ((c.tc : Thread Cert.Join.nD Cert.Join.τ).loc Cert.Join.main_arg3)
          ∧ r.2.mem ((c.tc : Thread Cert.Join.nD Cert.Join.τ).loc Cert.Join.main_arg4) = m ((c.tc : Thread Cert.Join.nD Cert.Join.τ).loc Cert.Join.main_arg4)
          ∧ r.2.mem ((c.tc : Thread Cert.Join.nD Cert.Join.τ).loc Cert.Join.main_arg5) = m ((c.tc : Thread Cert.Join.nD Cert.Join.τ).loc Cert.Join.main_arg5)
          ∧ r.2.mem ((c.tc : Thread Cert.Join.nD Cert.Join.τ).loc Cert.Join.main_arg6) = m ((c.tc : Thread Cert.Join.nD Cert.Join.τ).loc Cert.Join.main_arg6))
      ∧ θ_run (Cert.JoinRef.defs (F := Bits)) (onTc (τ := Cert.JoinRef.τ) (Cert.JoinRef.main (F := Bits))) ⟨m', fun _ => 0, g'⟩ (fun r =>
          r.2.mem (((0 : Dev Cert.JoinRef.nD).tc : Thread Cert.JoinRef.nD Cert.JoinRef.τ).loc Cert.JoinRef.main_arg0) = v0
          ∧ r.2.mem (((0 : Dev Cert.JoinRef.nD).tc : Thread Cert.JoinRef.nD Cert.JoinRef.τ).loc Cert.JoinRef.main_arg1) = v1
          ∧ r.2.mem (((0 : Dev Cert.JoinRef.nD).tc : Thread Cert.JoinRef.nD Cert.JoinRef.τ).loc Cert.JoinRef.main_arg2) = v2
          ∧ r.2.mem (((0 : Dev Cert.JoinRef.nD).tc : Thread Cert.JoinRef.nD Cert.JoinRef.τ).loc Cert.JoinRef.main_arg3) = v3
          ∧ r.2.mem (((0 : Dev Cert.JoinRef.nD).tc : Thread Cert.JoinRef.nD Cert.JoinRef.τ).loc Cert.JoinRef.main_arg4) = v4
          ∧ r.2.mem (((0 : Dev Cert.JoinRef.nD).tc : Thread Cert.JoinRef.nD Cert.JoinRef.τ).loc Cert.JoinRef.main_arg5) = v5
          ∧ r.2.mem (((0 : Dev Cert.JoinRef.nD).tc : Thread Cert.JoinRef.nD Cert.JoinRef.τ).loc Cert.JoinRef.main_arg6) = v6
          ∧ r.2.mem (((0 : Dev Cert.JoinRef.nD).tc : Thread Cert.JoinRef.nD Cert.JoinRef.τ).loc Cert.JoinRef.main_arg0) = m' (((0 : Dev Cert.JoinRef.nD).tc : Thread Cert.JoinRef.nD Cert.JoinRef.τ).loc Cert.JoinRef.main_arg0)
          ∧ r.2.mem (((0 : Dev Cert.JoinRef.nD).tc : Thread Cert.JoinRef.nD Cert.JoinRef.τ).loc Cert.JoinRef.main_arg1) = m' (((0 : Dev Cert.JoinRef.nD).tc : Thread Cert.JoinRef.nD Cert.JoinRef.τ).loc Cert.JoinRef.main_arg1)
          ∧ r.2.mem (((0 : Dev Cert.JoinRef.nD).tc : Thread Cert.JoinRef.nD Cert.JoinRef.τ).loc Cert.JoinRef.main_arg2) = m' (((0 : Dev Cert.JoinRef.nD).tc : Thread Cert.JoinRef.nD Cert.JoinRef.τ).loc Cert.JoinRef.main_arg2)
          ∧ r.2.mem (((0 : Dev Cert.JoinRef.nD).tc : Thread Cert.JoinRef.nD Cert.JoinRef.τ).loc Cert.JoinRef.main_arg3) = m' (((0 : Dev Cert.JoinRef.nD).tc : Thread Cert.JoinRef.nD Cert.JoinRef.τ).loc Cert.JoinRef.main_arg3)
          ∧ r.2.mem (((0 : Dev Cert.JoinRef.nD).tc : Thread Cert.JoinRef.nD Cert.JoinRef.τ).loc Cert.JoinRef.main_arg4) = m' (((0 : Dev Cert.JoinRef.nD).tc : Thread Cert.JoinRef.nD Cert.JoinRef.τ).loc Cert.JoinRef.main_arg4)
          ∧ r.2.mem (((0 : Dev Cert.JoinRef.nD).tc : Thread Cert.JoinRef.nD Cert.JoinRef.τ).loc Cert.JoinRef.main_arg5) = m' (((0 : Dev Cert.JoinRef.nD).tc : Thread Cert.JoinRef.nD Cert.JoinRef.τ).loc Cert.JoinRef.main_arg5)
          ∧ r.2.mem (((0 : Dev Cert.JoinRef.nD).tc : Thread Cert.JoinRef.nD Cert.JoinRef.τ).loc Cert.JoinRef.main_arg6) = m' (((0 : Dev Cert.JoinRef.nD).tc : Thread Cert.JoinRef.nD Cert.JoinRef.τ).loc Cert.JoinRef.main_arg6))

def preserves_AdamWin_AdamWinIdeal : Prop :=
  IdealRules.named_const.Statement Cert.AdamWinIdeal.κ "c1" .f32 0x3FC48605#32 ((8388608 / 5463681 : ℝ) : EReal)
  ∧ IdealRules.named_const.Statement Cert.AdamWinIdeal.κ "c2" .f32 0x42C8E6D3#32 ((268435456 / 2672307 : ℝ) : EReal)

def algebraic_AdamWinIdeal_AdamWinRefIdeal [hAdamWinIdeal : Cert.AdamWinIdeal.Facts] [hAdamWinRefIdeal : Cert.AdamWinRefIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg)
    (m' : (ℓ : Loc Cert.AdamWinRefIdeal.nD Cert.AdamWinRefIdeal.τ Cert.AdamWinRefIdeal.sig) → Buf (Elt Ideal) ℓ) (g' : Dev Cert.AdamWinRefIdeal.nD → PrngReg), Pre_AdamWinIdeal m →
    (∀ c : Dev Cert.AdamWinIdeal.nD,
      m' ((c.tc : Thread Cert.AdamWinRefIdeal.nD Cert.AdamWinRefIdeal.τ).loc Cert.AdamWinRefIdeal.main_arg0) = m ((c.tc : Thread Cert.AdamWinIdeal.nD Cert.AdamWinIdeal.τ).loc Cert.AdamWinIdeal.main_arg0)
      ∧ m' ((c.tc : Thread Cert.AdamWinRefIdeal.nD Cert.AdamWinRefIdeal.τ).loc Cert.AdamWinRefIdeal.main_arg1) = m ((c.tc : Thread Cert.AdamWinIdeal.nD Cert.AdamWinIdeal.τ).loc Cert.AdamWinIdeal.main_arg1)
      ∧ m' ((c.tc : Thread Cert.AdamWinRefIdeal.nD Cert.AdamWinRefIdeal.τ).loc Cert.AdamWinRefIdeal.main_arg2) = m ((c.tc : Thread Cert.AdamWinIdeal.nD Cert.AdamWinIdeal.τ).loc Cert.AdamWinIdeal.main_arg2)
      ∧ m' ((c.tc : Thread Cert.AdamWinRefIdeal.nD Cert.AdamWinRefIdeal.τ).loc Cert.AdamWinRefIdeal.main_arg3) = m ((c.tc : Thread Cert.AdamWinIdeal.nD Cert.AdamWinIdeal.τ).loc Cert.AdamWinIdeal.main_arg3)) →
    ∃ (v0 : (c : Dev Cert.AdamWinIdeal.nD) → Buf (Elt Ideal) ((c.tc : Thread Cert.AdamWinIdeal.nD Cert.AdamWinIdeal.τ).loc Cert.AdamWinIdeal.main_v0_0)) (v1 : (c : Dev Cert.AdamWinIdeal.nD) → Buf (Elt Ideal) ((c.tc : Thread Cert.AdamWinIdeal.nD Cert.AdamWinIdeal.τ).loc Cert.AdamWinIdeal.main_v0_1)) (v2 : (c : Dev Cert.AdamWinIdeal.nD) → Buf (Elt Ideal) ((c.tc : Thread Cert.AdamWinIdeal.nD Cert.AdamWinIdeal.τ).loc Cert.AdamWinIdeal.main_v0_2)),
      θ_run (Cert.AdamWinIdeal.defs (F := Ideal)) (onTc (τ := Cert.AdamWinIdeal.τ) (Cert.AdamWinIdeal.main (F := Ideal))) ⟨m, fun _ => 0, g⟩ (fun r => ∀ c : Dev Cert.AdamWinIdeal.nD,
          r.2.mem ((c.tc : Thread Cert.AdamWinIdeal.nD Cert.AdamWinIdeal.τ).loc Cert.AdamWinIdeal.main_v0_0) = v0 c
          ∧ r.2.mem ((c.tc : Thread Cert.AdamWinIdeal.nD Cert.AdamWinIdeal.τ).loc Cert.AdamWinIdeal.main_v0_1) = v1 c
          ∧ r.2.mem ((c.tc : Thread Cert.AdamWinIdeal.nD Cert.AdamWinIdeal.τ).loc Cert.AdamWinIdeal.main_v0_2) = v2 c
          ∧ r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
          ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
          ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
          ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3))
      ∧ θ_run (Cert.AdamWinRefIdeal.defs (F := Ideal)) (onTc (τ := Cert.AdamWinRefIdeal.τ) (Cert.AdamWinRefIdeal.main (F := Ideal))) ⟨m', fun _ => 0, g'⟩ (fun r => ∀ c : Dev Cert.AdamWinRefIdeal.nD,
          r.2.mem ((c.tc : Thread Cert.AdamWinRefIdeal.nD Cert.AdamWinRefIdeal.τ).loc Cert.AdamWinRefIdeal.main_v23) = v0 c
          ∧ r.2.mem ((c.tc : Thread Cert.AdamWinRefIdeal.nD Cert.AdamWinRefIdeal.τ).loc Cert.AdamWinRefIdeal.main_v4) = v1 c
          ∧ r.2.mem ((c.tc : Thread Cert.AdamWinRefIdeal.nD Cert.AdamWinRefIdeal.τ).loc Cert.AdamWinRefIdeal.main_v10) = v2 c
          ∧ r.2.mem ((c.tc : Thread Cert.AdamWinRefIdeal.nD Cert.AdamWinRefIdeal.τ).loc Cert.AdamWinRefIdeal.main_arg0) = m' ((c.tc : Thread Cert.AdamWinRefIdeal.nD Cert.AdamWinRefIdeal.τ).loc Cert.AdamWinRefIdeal.main_arg0)
          ∧ r.2.mem ((c.tc : Thread Cert.AdamWinRefIdeal.nD Cert.AdamWinRefIdeal.τ).loc Cert.AdamWinRefIdeal.main_arg1) = m' ((c.tc : Thread Cert.AdamWinRefIdeal.nD Cert.AdamWinRefIdeal.τ).loc Cert.AdamWinRefIdeal.main_arg1)
          ∧ r.2.mem ((c.tc : Thread Cert.AdamWinRefIdeal.nD Cert.AdamWinRefIdeal.τ).loc Cert.AdamWinRefIdeal.main_arg2) = m' ((c.tc : Thread Cert.AdamWinRefIdeal.nD Cert.AdamWinRefIdeal.τ).loc Cert.AdamWinRefIdeal.main_arg2)
          ∧ r.2.mem ((c.tc : Thread Cert.AdamWinRefIdeal.nD Cert.AdamWinRefIdeal.τ).loc Cert.AdamWinRefIdeal.main_arg3) = m' ((c.tc : Thread Cert.AdamWinRefIdeal.nD Cert.AdamWinRefIdeal.τ).loc Cert.AdamWinRefIdeal.main_arg3))

def preserves_AdamUp_AdamUpIdeal : Prop :=
  IdealRules.named_const.Statement Cert.AdamUpIdeal.κ "c1" .f32 0x3FC48605#32 ((8388608 / 5463681 : ℝ) : EReal)
  ∧ IdealRules.named_const.Statement Cert.AdamUpIdeal.κ "c2" .f32 0x42C8E6D3#32 ((268435456 / 2672307 : ℝ) : EReal)

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamRow_AdamRowIdeal : Prop :=
  IdealRules.named_const.Statement Cert.AdamRowIdeal.κ "c1" .f32 0x3FC48605#32 ((8388608 / 5463681 : ℝ) : EReal)
  ∧ IdealRules.named_const.Statement Cert.AdamRowIdeal.κ "c2" .f32 0x42C8E6D3#32 ((268435456 / 2672307 : ℝ) : EReal)

def algebraic_AdamRowIdeal_AdamRowRefIdeal [hAdamRowIdeal : Cert.AdamRowIdeal.Facts] [hAdamRowRefIdeal : Cert.AdamRowRefIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg)
    (m' : (ℓ : Loc Cert.AdamRowRefIdeal.nD Cert.AdamRowRefIdeal.τ Cert.AdamRowRefIdeal.sig) → Buf (Elt Ideal) ℓ) (g' : Dev Cert.AdamRowRefIdeal.nD → PrngReg), Pre_AdamRowIdeal m →
    (∀ c : Dev Cert.AdamRowIdeal.nD,
      m' ((c.tc : Thread Cert.AdamRowRefIdeal.nD Cert.AdamRowRefIdeal.τ).loc Cert.AdamRowRefIdeal.main_arg0) = m ((c.tc : Thread Cert.AdamRowIdeal.nD Cert.AdamRowIdeal.τ).loc Cert.AdamRowIdeal.main_arg0)
      ∧ m' ((c.tc : Thread Cert.AdamRowRefIdeal.nD Cert.AdamRowRefIdeal.τ).loc Cert.AdamRowRefIdeal.main_arg1) = m ((c.tc : Thread Cert.AdamRowIdeal.nD Cert.AdamRowIdeal.τ).loc Cert.AdamRowIdeal.main_arg1)
      ∧ m' ((c.tc : Thread Cert.AdamRowRefIdeal.nD Cert.AdamRowRefIdeal.τ).loc Cert.AdamRowRefIdeal.main_arg2) = m ((c.tc : Thread Cert.AdamRowIdeal.nD Cert.AdamRowIdeal.τ).loc Cert.AdamRowIdeal.main_arg2)
      ∧ m' ((c.tc : Thread Cert.AdamRowRefIdeal.nD Cert.AdamRowRefIdeal.τ).loc Cert.AdamRowRefIdeal.main_arg3) = m ((c.tc : Thread Cert.AdamRowIdeal.nD Cert.AdamRowIdeal.τ).loc Cert.AdamRowIdeal.main_arg3)) →
    ∃ (v0 : (c : Dev Cert.AdamRowIdeal.nD) → Buf (Elt Ideal) ((c.tc : Thread Cert.AdamRowIdeal.nD Cert.AdamRowIdeal.τ).loc Cert.AdamRowIdeal.main_v0_0)) (v1 : (c : Dev Cert.AdamRowIdeal.nD) → Buf (Elt Ideal) ((c.tc : Thread Cert.AdamRowIdeal.nD Cert.AdamRowIdeal.τ).loc Cert.AdamRowIdeal.main_v0_1)) (v2 : (c : Dev Cert.AdamRowIdeal.nD) → Buf (Elt Ideal) ((c.tc : Thread Cert.AdamRowIdeal.nD Cert.AdamRowIdeal.τ).loc Cert.AdamRowIdeal.main_v0_2)),
      θ_run (Cert.AdamRowIdeal.defs (F := Ideal)) (onTc (τ := Cert.AdamRowIdeal.τ) (Cert.AdamRowIdeal.main (F := Ideal))) ⟨m, fun _ => 0, g⟩ (fun r => ∀ c : Dev Cert.AdamRowIdeal.nD,
          r.2.mem ((c.tc : Thread Cert.AdamRowIdeal.nD Cert.AdamRowIdeal.τ).loc Cert.AdamRowIdeal.main_v0_0) = v0 c
          ∧ r.2.mem ((c.tc : Thread Cert.AdamRowIdeal.nD Cert.AdamRowIdeal.τ).loc Cert.AdamRowIdeal.main_v0_1) = v1 c
          ∧ r.2.mem ((c.tc : Thread Cert.AdamRowIdeal.nD Cert.AdamRowIdeal.τ).loc Cert.AdamRowIdeal.main_v0_2) = v2 c
          ∧ r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
          ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
          ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
          ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ θ_run (Cert.AdamRowRefIdeal.defs (F := Ideal)) (onTc (τ := Cert.AdamRowRefIdeal.τ) (Cert.AdamRowRefIdeal.main (F := Ideal))) ⟨m', fun _ => 0, g'⟩ (fun r => ∀ c : Dev Cert.AdamRowRefIdeal.nD,
          r.2.mem ((c.tc : Thread Cert.AdamRowRefIdeal.nD Cert.AdamRowRefIdeal.τ).loc Cert.AdamRowRefIdeal.main_v23) = v0 c
          ∧ r.2.mem ((c.tc : Thread Cert.AdamRowRefIdeal.nD Cert.AdamRowRefIdeal.τ).loc Cert.AdamRowRefIdeal.main_v4) = v1 c
          ∧ r.2.mem ((c.tc : Thread Cert.AdamRowRefIdeal.nD Cert.AdamRowRefIdeal.τ).loc Cert.AdamRowRefIdeal.main_v10) = v2 c
          ∧ r.2.mem ((c.tc : Thread Cert.AdamRowRefIdeal.nD Cert.AdamRowRefIdeal.τ).loc Cert.AdamRowRefIdeal.main_arg0) = m' ((c.tc : Thread Cert.AdamRowRefIdeal.nD Cert.AdamRowRefIdeal.τ).loc Cert.AdamRowRefIdeal.main_arg0)
          ∧ r.2.mem ((c.tc : Thread Cert.AdamRowRefIdeal.nD Cert.AdamRowRefIdeal.τ).loc Cert.AdamRowRefIdeal.main_arg1) = m' ((c.tc : Thread Cert.AdamRowRefIdeal.nD Cert.AdamRowRefIdeal.τ).loc Cert.AdamRowRefIdeal.main_arg1)
          ∧ r.2.mem ((c.tc : Thread Cert.AdamRowRefIdeal.nD Cert.AdamRowRefIdeal.τ).loc Cert.AdamRowRefIdeal.main_arg2) = m' ((c.tc : Thread Cert.AdamRowRefIdeal.nD Cert.AdamRowRefIdeal.τ).loc Cert.AdamRowRefIdeal.main_arg2)
          ∧ r.2.mem ((c.tc : Thread Cert.AdamRowRefIdeal.nD Cert.AdamRowRefIdeal.τ).loc Cert.AdamRowRefIdeal.main_arg3) = m' ((c.tc : Thread Cert.AdamRowRefIdeal.nD Cert.AdamRowRefIdeal.τ).loc Cert.AdamRowRefIdeal.main_arg3))

def preserves_AdamDown_AdamDownIdeal : Prop :=
  IdealRules.named_const.Statement Cert.AdamDownIdeal.κ "c1" .f32 0x3FC48605#32 ((8388608 / 5463681 : ℝ) : EReal)
  ∧ IdealRules.named_const.Statement Cert.AdamDownIdeal.κ "c2" .f32 0x42C8E6D3#32 ((268435456 / 2672307 : ℝ) : EReal)

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  IdealRules.named_const.Statement Cert.AdamSmallIdeal.κ "c1" .f32 0x3FC48605#32 ((8388608 / 5463681 : ℝ) : EReal)
  ∧ IdealRules.named_const.Statement Cert.AdamSmallIdeal.κ "c2" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamRepl_AdamReplIdeal : Prop :=
  IdealRules.named_const.Statement Cert.AdamReplIdeal.κ "c1" .f32 0x3FC48605#32 ((8388608 / 5463681 : ℝ) : EReal)
  ∧ IdealRules.named_const.Statement Cert.AdamReplIdeal.κ "c2" .f32 0x42C8E6D3#32 ((268435456 / 2672307 : ℝ) : EReal)

def algebraic_AdamReplIdeal_AdamReplRefIdeal [hAdamReplIdeal : Cert.AdamReplIdeal.Facts] [hAdamReplRefIdeal : Cert.AdamReplRefIdeal.Facts] : Prop :=
  ∀ (m : (ℓ : Loc Cert.AdamReplIdeal.nD Cert.AdamReplIdeal.τ Cert.AdamReplIdeal.sig) → Buf (Elt Ideal) ℓ) (g : Dev Cert.AdamReplIdeal.nD → PrngReg)
    (m' : (ℓ : Loc Cert.AdamReplRefIdeal.nD Cert.AdamReplRefIdeal.τ Cert.AdamReplRefIdeal.sig) → Buf (Elt Ideal) ℓ) (g' : Dev Cert.AdamReplRefIdeal.nD → PrngReg), Pre_AdamReplIdeal m →
    (∀ c : Dev Cert.AdamReplIdeal.nD,
      m' ((c.tc : Thread Cert.AdamReplRefIdeal.nD Cert.AdamReplRefIdeal.τ).loc Cert.AdamReplRefIdeal.main_arg0) = m ((c.tc : Thread Cert.AdamReplIdeal.nD Cert.AdamReplIdeal.τ).loc Cert.AdamReplIdeal.main_arg0)
      ∧ m' ((c.tc : Thread Cert.AdamReplRefIdeal.nD Cert.AdamReplRefIdeal.τ).loc Cert.AdamReplRefIdeal.main_arg1) = m ((c.tc : Thread Cert.AdamReplIdeal.nD Cert.AdamReplIdeal.τ).loc Cert.AdamReplIdeal.main_arg1)
      ∧ m' ((c.tc : Thread Cert.AdamReplRefIdeal.nD Cert.AdamReplRefIdeal.τ).loc Cert.AdamReplRefIdeal.main_arg2) = m ((c.tc : Thread Cert.AdamReplIdeal.nD Cert.AdamReplIdeal.τ).loc Cert.AdamReplIdeal.main_arg2)
      ∧ m' ((c.tc : Thread Cert.AdamReplRefIdeal.nD Cert.AdamReplRefIdeal.τ).loc Cert.AdamReplRefIdeal.main_arg3) = m ((c.tc : Thread Cert.AdamReplIdeal.nD Cert.AdamReplIdeal.τ).loc Cert.AdamReplIdeal.main_arg3)) →
    ∃ (v0 : (c : Dev Cert.AdamReplIdeal.nD) → Buf (Elt Ideal) ((c.tc : Thread Cert.AdamReplIdeal.nD Cert.AdamReplIdeal.τ).loc Cert.AdamReplIdeal.main_v0_0)) (v1 : (c : Dev Cert.AdamReplIdeal.nD) → Buf (Elt Ideal) ((c.tc : Thread Cert.AdamReplIdeal.nD Cert.AdamReplIdeal.τ).loc Cert.AdamReplIdeal.main_v0_1)) (v2 : (c : Dev Cert.AdamReplIdeal.nD) → Buf (Elt Ideal) ((c.tc : Thread Cert.AdamReplIdeal.nD Cert.AdamReplIdeal.τ).loc Cert.AdamReplIdeal.main_v0_2)),
      θ_run (Cert.AdamReplIdeal.defs (F := Ideal)) (onTc (τ := Cert.AdamReplIdeal.τ) (Cert.AdamReplIdeal.main (F := Ideal))) ⟨m, fun _ => 0, g⟩ (fun r => ∀ c : Dev Cert.AdamReplIdeal.nD,
          r.2.mem ((c.tc : Thread Cert.AdamReplIdeal.nD Cert.AdamReplIdeal.τ).loc Cert.AdamReplIdeal.main_v0_0) = v0 c
          ∧ r.2.mem ((c.tc : Thread Cert.AdamReplIdeal.nD Cert.AdamReplIdeal.τ).loc Cert.AdamReplIdeal.main_v0_1) = v1 c
          ∧ r.2.mem ((c.tc : Thread Cert.AdamReplIdeal.nD Cert.AdamReplIdeal.τ).loc Cert.AdamReplIdeal.main_v0_2) = v2 c
          ∧ r.2.mem ((c.tc : Thread Cert.AdamReplIdeal.nD Cert.AdamReplIdeal.τ).loc Cert.AdamReplIdeal.main_arg0) = m ((c.tc : Thread Cert.AdamReplIdeal.nD Cert.AdamReplIdeal.τ).loc Cert.AdamReplIdeal.main_arg0)
          ∧ r.2.mem ((c.tc : Thread Cert.AdamReplIdeal.nD Cert.AdamReplIdeal.τ).loc Cert.AdamReplIdeal.main_arg1) = m ((c.tc : Thread Cert.AdamReplIdeal.nD Cert.AdamReplIdeal.τ).loc Cert.AdamReplIdeal.main_arg1)
          ∧ r.2.mem ((c.tc : Thread Cert.AdamReplIdeal.nD Cert.AdamReplIdeal.τ).loc Cert.AdamReplIdeal.main_arg2) = m ((c.tc : Thread Cert.AdamReplIdeal.nD Cert.AdamReplIdeal.τ).loc Cert.AdamReplIdeal.main_arg2)
          ∧ r.2.mem ((c.tc : Thread Cert.AdamReplIdeal.nD Cert.AdamReplIdeal.τ).loc Cert.AdamReplIdeal.main_arg3) = m ((c.tc : Thread Cert.AdamReplIdeal.nD Cert.AdamReplIdeal.τ).loc Cert.AdamReplIdeal.main_arg3))
      ∧ θ_run (Cert.AdamReplRefIdeal.defs (F := Ideal)) (onTc (τ := Cert.AdamReplRefIdeal.τ) (Cert.AdamReplRefIdeal.main (F := Ideal))) ⟨m', fun _ => 0, g'⟩ (fun r => ∀ c : Dev Cert.AdamReplRefIdeal.nD,
          r.2.mem ((c.tc : Thread Cert.AdamReplRefIdeal.nD Cert.AdamReplRefIdeal.τ).loc Cert.AdamReplRefIdeal.main_v23) = v0 c
          ∧ r.2.mem ((c.tc : Thread Cert.AdamReplRefIdeal.nD Cert.AdamReplRefIdeal.τ).loc Cert.AdamReplRefIdeal.main_v4) = v1 c
          ∧ r.2.mem ((c.tc : Thread Cert.AdamReplRefIdeal.nD Cert.AdamReplRefIdeal.τ).loc Cert.AdamReplRefIdeal.main_v10) = v2 c
          ∧ r.2.mem ((c.tc : Thread Cert.AdamReplRefIdeal.nD Cert.AdamReplRefIdeal.τ).loc Cert.AdamReplRefIdeal.main_arg0) = m' ((c.tc : Thread Cert.AdamReplRefIdeal.nD Cert.AdamReplRefIdeal.τ).loc Cert.AdamReplRefIdeal.main_arg0)
          ∧ r.2.mem ((c.tc : Thread Cert.AdamReplRefIdeal.nD Cert.AdamReplRefIdeal.τ).loc Cert.AdamReplRefIdeal.main_arg1) = m' ((c.tc : Thread Cert.AdamReplRefIdeal.nD Cert.AdamReplRefIdeal.τ).loc Cert.AdamReplRefIdeal.main_arg1)
          ∧ r.2.mem ((c.tc : Thread Cert.AdamReplRefIdeal.nD Cert.AdamReplRefIdeal.τ).loc Cert.AdamReplRefIdeal.main_arg2) = m' ((c.tc : Thread Cert.AdamReplRefIdeal.nD Cert.AdamReplRefIdeal.τ).loc Cert.AdamReplRefIdeal.main_arg2)
          ∧ r.2.mem ((c.tc : Thread Cert.AdamReplRefIdeal.nD Cert.AdamReplRefIdeal.τ).loc Cert.AdamReplRefIdeal.main_arg3) = m' ((c.tc : Thread Cert.AdamReplRefIdeal.nD Cert.AdamReplRefIdeal.τ).loc Cert.AdamReplRefIdeal.main_arg3))

def preserves_PackSmall_PackSmallIdeal : Prop :=
  IdealRules.named_const.Statement Cert.PackSmallIdeal.κ "c1" .f32 0x3FC48605#32 ((8388608 / 5463681 : ℝ) : EReal)
  ∧ IdealRules.named_const.Statement Cert.PackSmallIdeal.κ "c2" .f32 0x42C8E6D3#32 ((268435456 / 2672307 : ℝ) : EReal)

def algebraic_PackSmallIdeal_PackSmallRefIdeal [hPackSmallIdeal : Cert.PackSmallIdeal.Facts] [hPackSmallRefIdeal : Cert.PackSmallRefIdeal.Facts] : Prop :=
  ∀ (m : (ℓ : Loc Cert.PackSmallIdeal.nD Cert.PackSmallIdeal.τ Cert.PackSmallIdeal.sig) → Buf (Elt Ideal) ℓ) (g : Dev Cert.PackSmallIdeal.nD → PrngReg)
    (m' : (ℓ : Loc Cert.PackSmallRefIdeal.nD Cert.PackSmallRefIdeal.τ Cert.PackSmallRefIdeal.sig) → Buf (Elt Ideal) ℓ) (g' : Dev Cert.PackSmallRefIdeal.nD → PrngReg), Pre_PackSmallIdeal m →
    (∀ c : Dev Cert.PackSmallIdeal.nD,
      m' ((c.tc : Thread Cert.PackSmallRefIdeal.nD Cert.PackSmallRefIdeal.τ).loc Cert.PackSmallRefIdeal.main_arg0) = m ((c.tc : Thread Cert.PackSmallIdeal.nD Cert.PackSmallIdeal.τ).loc Cert.PackSmallIdeal.main_arg0)
      ∧ m' ((c.tc : Thread Cert.PackSmallRefIdeal.nD Cert.PackSmallRefIdeal.τ).loc Cert.PackSmallRefIdeal.main_arg1) = m ((c.tc : Thread Cert.PackSmallIdeal.nD Cert.PackSmallIdeal.τ).loc Cert.PackSmallIdeal.main_arg1)
      ∧ m' ((c.tc : Thread Cert.PackSmallRefIdeal.nD Cert.PackSmallRefIdeal.τ).loc Cert.PackSmallRefIdeal.main_arg2) = m ((c.tc : Thread Cert.PackSmallIdeal.nD Cert.PackSmallIdeal.τ).loc Cert.PackSmallIdeal.main_arg2)
      ∧ m' ((c.tc : Thread Cert.PackSmallRefIdeal.nD Cert.PackSmallRefIdeal.τ).loc Cert.PackSmallRefIdeal.main_arg3) = m ((c.tc : Thread Cert.PackSmallIdeal.nD Cert.PackSmallIdeal.τ).loc Cert.PackSmallIdeal.main_arg3)
      ∧ m' ((c.tc : Thread Cert.PackSmallRefIdeal.nD Cert.PackSmallRefIdeal.τ).loc Cert.PackSmallRefIdeal.main_arg4) = m ((c.tc : Thread Cert.PackSmallIdeal.nD Cert.PackSmallIdeal.τ).loc Cert.PackSmallIdeal.main_arg4)
      ∧ m' ((c.tc : Thread Cert.PackSmallRefIdeal.nD Cert.PackSmallRefIdeal.τ).loc Cert.PackSmallRefIdeal.main_arg5) = m ((c.tc : Thread Cert.PackSmallIdeal.nD Cert.PackSmallIdeal.τ).loc Cert.PackSmallIdeal.main_arg5)
      ∧ m' ((c.tc : Thread Cert.PackSmallRefIdeal.nD Cert.PackSmallRefIdeal.τ).loc Cert.PackSmallRefIdeal.main_arg6) = m ((c.tc : Thread Cert.PackSmallIdeal.nD Cert.PackSmallIdeal.τ).loc Cert.PackSmallIdeal.main_arg6)
      ∧ m' ((c.tc : Thread Cert.PackSmallRefIdeal.nD Cert.PackSmallRefIdeal.τ).loc Cert.PackSmallRefIdeal.main_arg7) = m ((c.tc : Thread Cert.PackSmallIdeal.nD Cert.PackSmallIdeal.τ).loc Cert.PackSmallIdeal.main_arg7)
      ∧ m' ((c.tc : Thread Cert.PackSmallRefIdeal.nD Cert.PackSmallRefIdeal.τ).loc Cert.PackSmallRefIdeal.main_arg8) = m ((c.tc : Thread Cert.PackSmallIdeal.nD Cert.PackSmallIdeal.τ).loc Cert.PackSmallIdeal.main_arg8)
      ∧ m' ((c.tc : Thread Cert.PackSmallRefIdeal.nD Cert.PackSmallRefIdeal.τ).loc Cert.PackSmallRefIdeal.main_arg9) = m ((c.tc : Thread Cert.PackSmallIdeal.nD Cert.PackSmallIdeal.τ).loc Cert.PackSmallIdeal.main_arg9)
      ∧ m' ((c.tc : Thread Cert.PackSmallRefIdeal.nD Cert.PackSmallRefIdeal.τ).loc Cert.PackSmallRefIdeal.main_arg10) = m ((c.tc : Thread Cert.PackSmallIdeal.nD Cert.PackSmallIdeal.τ).loc Cert.PackSmallIdeal.main_arg10)
      ∧ m' ((c.tc : Thread Cert.PackSmallRefIdeal.nD Cert.PackSmallRefIdeal.τ).loc Cert.PackSmallRefIdeal.main_arg11) = m ((c.tc : Thread Cert.PackSmallIdeal.nD Cert.PackSmallIdeal.τ).loc Cert.PackSmallIdeal.main_arg11)
      ∧ m' ((c.tc : Thread Cert.PackSmallRefIdeal.nD Cert.PackSmallRefIdeal.τ).loc Cert.PackSmallRefIdeal.main_arg12) = m ((c.tc : Thread Cert.PackSmallIdeal.nD Cert.PackSmallIdeal.τ).loc Cert.PackSmallIdeal.main_arg12)
      ∧ m' ((c.tc : Thread Cert.PackSmallRefIdeal.nD Cert.PackSmallRefIdeal.τ).loc Cert.PackSmallRefIdeal.main_arg13) = m ((c.tc : Thread Cert.PackSmallIdeal.nD Cert.PackSmallIdeal.τ).loc Cert.PackSmallIdeal.main_arg13)
      ∧ m' ((c.tc : Thread Cert.PackSmallRefIdeal.nD Cert.PackSmallRefIdeal.τ).loc Cert.PackSmallRefIdeal.main_arg14) = m ((c.tc : Thread Cert.PackSmallIdeal.nD Cert.PackSmallIdeal.τ).loc Cert.PackSmallIdeal.main_arg14)
      ∧ m' ((c.tc : Thread Cert.PackSmallRefIdeal.nD Cert.PackSmallRefIdeal.τ).loc Cert.PackSmallRefIdeal.main_arg15) = m ((c.tc : Thread Cert.PackSmallIdeal.nD Cert.PackSmallIdeal.τ).loc Cert.PackSmallIdeal.main_arg15)
      ∧ m' ((c.tc : Thread Cert.PackSmallRefIdeal.nD Cert.PackSmallRefIdeal.τ).loc Cert.PackSmallRefIdeal.main_arg16) = m ((c.tc : Thread Cert.PackSmallIdeal.nD Cert.PackSmallIdeal.τ).loc Cert.PackSmallIdeal.main_arg16)
      ∧ m' ((c.tc : Thread Cert.PackSmallRefIdeal.nD Cert.PackSmallRefIdeal.τ).loc Cert.PackSmallRefIdeal.main_arg17) = m ((c.tc : Thread Cert.PackSmallIdeal.nD Cert.PackSmallIdeal.τ).loc Cert.PackSmallIdeal.main_arg17)
      ∧ m' ((c.tc : Thread Cert.PackSmallRefIdeal.nD Cert.PackSmallRefIdeal.τ).loc Cert.PackSmallRefIdeal.main_arg18) = m ((c.tc : Thread Cert.PackSmallIdeal.nD Cert.PackSmallIdeal.τ).loc Cert.PackSmallIdeal.main_arg18)
      ∧ m' ((c.tc : Thread Cert.PackSmallRefIdeal.nD Cert.PackSmallRefIdeal.τ).loc Cert.PackSmallRefIdeal.main_arg19) = m ((c.tc : Thread Cert.PackSmallIdeal.nD Cert.PackSmallIdeal.τ).loc Cert.PackSmallIdeal.main_arg19)
      ∧ m' ((c.tc : Thread Cert.PackSmallRefIdeal.nD Cert.PackSmallRefIdeal.τ).loc Cert.PackSmallRefIdeal.main_arg20) = m ((c.tc : Thread Cert.PackSmallIdeal.nD Cert.PackSmallIdeal.τ).loc Cert.PackSmallIdeal.main_arg20)
      ∧ m' ((c.tc : Thread Cert.PackSmallRefIdeal.nD Cert.PackSmallRefIdeal.τ).loc Cert.PackSmallRefIdeal.main_arg21) = m ((c.tc : Thread Cert.PackSmallIdeal.nD Cert.PackSmallIdeal.τ).loc Cert.PackSmallIdeal.main_arg21)
      ∧ m' ((c.tc : Thread Cert.PackSmallRefIdeal.nD Cert.PackSmallRefIdeal.τ).loc Cert.PackSmallRefIdeal.main_arg22) = m ((c.tc : Thread Cert.PackSmallIdeal.nD Cert.PackSmallIdeal.τ).loc Cert.PackSmallIdeal.main_arg22)
      ∧ m' ((c.tc : Thread Cert.PackSmallRefIdeal.nD Cert.PackSmallRefIdeal.τ).loc Cert.PackSmallRefIdeal.main_arg23) = m ((c.tc : Thread Cert.PackSmallIdeal.nD Cert.PackSmallIdeal.τ).loc Cert.PackSmallIdeal.main_arg23)
      ∧ m' ((c.tc : Thread Cert.PackSmallRefIdeal.nD Cert.PackSmallRefIdeal.τ).loc Cert.PackSmallRefIdeal.main_arg24) = m ((c.tc : Thread Cert.PackSmallIdeal.nD Cert.PackSmallIdeal.τ).loc Cert.PackSmallIdeal.main_arg24)
      ∧ m' ((c.tc : Thread Cert.PackSmallRefIdeal.nD Cert.PackSmallRefIdeal.τ).loc Cert.PackSmallRefIdeal.main_arg25) = m ((c.tc : Thread Cert.PackSmallIdeal.nD Cert.PackSmallIdeal.τ).loc Cert.PackSmallIdeal.main_arg25)
      ∧ m' ((c.tc : Thread Cert.PackSmallRefIdeal.nD Cert.PackSmallRefIdeal.τ).loc Cert.PackSmallRefIdeal.main_arg26) = m ((c.tc : Thread Cert.PackSmallIdeal.nD Cert.PackSmallIdeal.τ).loc Cert.PackSmallIdeal.main_arg26)
      ∧ m' ((c.tc : Thread Cert.PackSmallRefIdeal.nD Cert.PackSmallRefIdeal.τ).loc Cert.PackSmallRefIdeal.main_arg27) = m ((c.tc : Thread Cert.PackSmallIdeal.nD Cert.PackSmallIdeal.τ).loc Cert.PackSmallIdeal.main_arg27)) →
    ∃ (v0 : (c : Dev Cert.PackSmallIdeal.nD) → Buf (Elt Ideal) ((c.tc : Thread Cert.PackSmallIdeal.nD Cert.PackSmallIdeal.τ).loc Cert.PackSmallIdeal.main_v38)) (v1 : (c : Dev Cert.PackSmallIdeal.nD) → Buf (Elt Ideal) ((c.tc : Thread Cert.PackSmallIdeal.nD Cert.PackSmallIdeal.τ).loc Cert.PackSmallIdeal.main_v40)) (v2 : (c : Dev Cert.PackSmallIdeal.nD) → Buf (Elt Ideal) ((c.tc : Thread Cert.PackSmallIdeal.nD Cert.PackSmallIdeal.τ).loc Cert.PackSmallIdeal.main_v42)) (v3 : (c : Dev Cert.PackSmallIdeal.nD) → Buf (Elt Ideal) ((c.tc : Thread Cert.PackSmallIdeal.nD Cert.PackSmallIdeal.τ).loc Cert.PackSmallIdeal.main_v44)) (v4 : (c : Dev Cert.PackSmallIdeal.nD) → Buf (Elt Ideal) ((c.tc : Thread Cert.PackSmallIdeal.nD Cert.PackSmallIdeal.τ).loc Cert.PackSmallIdeal.main_v46)) (v5 : (c : Dev Cert.PackSmallIdeal.nD) → Buf (Elt Ideal) ((c.tc : Thread Cert.PackSmallIdeal.nD Cert.PackSmallIdeal.τ).loc Cert.PackSmallIdeal.main_v48)) (v6 : (c : Dev Cert.PackSmallIdeal.nD) → Buf (Elt Ideal) ((c.tc : Thread Cert.PackSmallIdeal.nD Cert.PackSmallIdeal.τ).loc Cert.PackSmallIdeal.main_v50)) (v7 : (c : Dev Cert.PackSmallIdeal.nD) → Buf (Elt Ideal) ((c.tc : Thread Cert.PackSmallIdeal.nD Cert.PackSmallIdeal.τ).loc Cert.PackSmallIdeal.main_v52)) (v8 : (c : Dev Cert.PackSmallIdeal.nD) → Buf (Elt Ideal) ((c.tc : Thread Cert.PackSmallIdeal.nD Cert.PackSmallIdeal.τ).loc Cert.PackSmallIdeal.main_v54)) (v9 : (c : Dev Cert.PackSmallIdeal.nD) → Buf (Elt Ideal) ((c.tc : Thread Cert.PackSmallIdeal.nD Cert.PackSmallIdeal.τ).loc Cert.PackSmallIdeal.main_v56)) (v10 : (c : Dev Cert.PackSmallIdeal.nD) → Buf (Elt Ideal) ((c.tc : Thread Cert.PackSmallIdeal.nD Cert.PackSmallIdeal.τ).loc Cert.PackSmallIdeal.main_v58)) (v11 : (c : Dev Cert.PackSmallIdeal.nD) → Buf (Elt Ideal) ((c.tc : Thread Cert.PackSmallIdeal.nD Cert.PackSmallIdeal.τ).loc Cert.PackSmallIdeal.main_v60)) (v12 : (c : Dev Cert.PackSmallIdeal.nD) → Buf (Elt Ideal) ((c.tc : Thread Cert.PackSmallIdeal.nD Cert.PackSmallIdeal.τ).loc Cert.PackSmallIdeal.main_v62)) (v13 : (c : Dev Cert.PackSmallIdeal.nD) → Buf (Elt Ideal) ((c.tc : Thread Cert.PackSmallIdeal.nD Cert.PackSmallIdeal.τ).loc Cert.PackSmallIdeal.main_v64)) (v14 : (c : Dev Cert.PackSmallIdeal.nD) → Buf (Elt Ideal) ((c.tc : Thread Cert.PackSmallIdeal.nD Cert.PackSmallIdeal.τ).loc Cert.PackSmallIdeal.main_v66)) (v15 : (c : Dev Cert.PackSmallIdeal.nD) → Buf (Elt Ideal) ((c.tc : Thread Cert.PackSmallIdeal.nD Cert.PackSmallIdeal.τ).loc Cert.PackSmallIdeal.main_v68)) (v16 : (c : Dev Cert.PackSmallIdeal.nD) → Buf (Elt Ideal) ((c.tc : Thread Cert.PackSmallIdeal.nD Cert.PackSmallIdeal.τ).loc Cert.PackSmallIdeal.main_v70)) (v17 : (c : Dev Cert.PackSmallIdeal.nD) → Buf (Elt Ideal) ((c.tc : Thread Cert.PackSmallIdeal.nD Cert.PackSmallIdeal.τ).loc Cert.PackSmallIdeal.main_v72)) (v18 : (c : Dev Cert.PackSmallIdeal.nD) → Buf (Elt Ideal) ((c.tc : Thread Cert.PackSmallIdeal.nD Cert.PackSmallIdeal.τ).loc Cert.PackSmallIdeal.main_v74)) (v19 : (c : Dev Cert.PackSmallIdeal.nD) → Buf (Elt Ideal) ((c.tc : Thread Cert.PackSmallIdeal.nD Cert.PackSmallIdeal.τ).loc Cert.PackSmallIdeal.main_v76)) (v20 : (c : Dev Cert.PackSmallIdeal.nD) → Buf (Elt Ideal) ((c.tc : Thread Cert.PackSmallIdeal.nD Cert.PackSmallIdeal.τ).loc Cert.PackSmallIdeal.main_v78)),
      θ_run (Cert.PackSmallIdeal.defs (F := Ideal)) (onTc (τ := Cert.PackSmallIdeal.τ) (Cert.PackSmallIdeal.main (F := Ideal))) ⟨m, fun _ => 0, g⟩ (fun r => ∀ c : Dev Cert.PackSmallIdeal.nD,
          r.2.mem ((c.tc : Thread Cert.PackSmallIdeal.nD Cert.PackSmallIdeal.τ).loc Cert.PackSmallIdeal.main_v38) = v0 c
          ∧ r.2.mem ((c.tc : Thread Cert.PackSmallIdeal.nD Cert.PackSmallIdeal.τ).loc Cert.PackSmallIdeal.main_v40) = v1 c
          ∧ r.2.mem ((c.tc : Thread Cert.PackSmallIdeal.nD Cert.PackSmallIdeal.τ).loc Cert.PackSmallIdeal.main_v42) = v2 c
          ∧ r.2.mem ((c.tc : Thread Cert.PackSmallIdeal.nD Cert.PackSmallIdeal.τ).loc Cert.PackSmallIdeal.main_v44) = v3 c
          ∧ r.2.mem ((c.tc : Thread Cert.PackSmallIdeal.nD Cert.PackSmallIdeal.τ).loc Cert.PackSmallIdeal.main_v46) = v4 c
          ∧ r.2.mem ((c.tc : Thread Cert.PackSmallIdeal.nD Cert.PackSmallIdeal.τ).loc Cert.PackSmallIdeal.main_v48) = v5 c
          ∧ r.2.mem ((c.tc : Thread Cert.PackSmallIdeal.nD Cert.PackSmallIdeal.τ).loc Cert.PackSmallIdeal.main_v50) = v6 c
          ∧ r.2.mem ((c.tc : Thread Cert.PackSmallIdeal.nD Cert.PackSmallIdeal.τ).loc Cert.PackSmallIdeal.main_v52) = v7 c
          ∧ r.2.mem ((c.tc : Thread Cert.PackSmallIdeal.nD Cert.PackSmallIdeal.τ).loc Cert.PackSmallIdeal.main_v54) = v8 c
          ∧ r.2.mem ((c.tc : Thread Cert.PackSmallIdeal.nD Cert.PackSmallIdeal.τ).loc Cert.PackSmallIdeal.main_v56) = v9 c
          ∧ r.2.mem ((c.tc : Thread Cert.PackSmallIdeal.nD Cert.PackSmallIdeal.τ).loc Cert.PackSmallIdeal.main_v58) = v10 c
          ∧ r.2.mem ((c.tc : Thread Cert.PackSmallIdeal.nD Cert.PackSmallIdeal.τ).loc Cert.PackSmallIdeal.main_v60) = v11 c
          ∧ r.2.mem ((c.tc : Thread Cert.PackSmallIdeal.nD Cert.PackSmallIdeal.τ).loc Cert.PackSmallIdeal.main_v62) = v12 c
          ∧ r.2.mem ((c.tc : Thread Cert.PackSmallIdeal.nD Cert.PackSmallIdeal.τ).loc Cert.PackSmallIdeal.main_v64) = v13 c
          ∧ r.2.mem ((c.tc : Thread Cert.PackSmallIdeal.nD Cert.PackSmallIdeal.τ).loc Cert.PackSmallIdeal.main_v66) = v14 c
          ∧ r.2.mem ((c.tc : Thread Cert.PackSmallIdeal.nD Cert.PackSmallIdeal.τ).loc Cert.PackSmallIdeal.main_v68) = v15 c
          ∧ r.2.mem ((c.tc : Thread Cert.PackSmallIdeal.nD Cert.PackSmallIdeal.τ).loc Cert.PackSmallIdeal.main_v70) = v16 c
          ∧ r.2.mem ((c.tc : Thread Cert.PackSmallIdeal.nD Cert.PackSmallIdeal.τ).loc Cert.PackSmallIdeal.main_v72) = v17 c
          ∧ r.2.mem ((c.tc : Thread Cert.PackSmallIdeal.nD Cert.PackSmallIdeal.τ).loc Cert.PackSmallIdeal.main_v74) = v18 c
          ∧ r.2.mem ((c.tc : Thread Cert.PackSmallIdeal.nD Cert.PackSmallIdeal.τ).loc Cert.PackSmallIdeal.main_v76) = v19 c
          ∧ r.2.mem ((c.tc : Thread Cert.PackSmallIdeal.nD Cert.PackSmallIdeal.τ).loc Cert.PackSmallIdeal.main_v78) = v20 c
          ∧ r.2.mem ((c.tc : Thread Cert.PackSmallIdeal.nD Cert.PackSmallIdeal.τ).loc Cert.PackSmallIdeal.main_arg0) = m ((c.tc : Thread Cert.PackSmallIdeal.nD Cert.PackSmallIdeal.τ).loc Cert.PackSmallIdeal.main_arg0)
          ∧ r.2.mem ((c.tc : Thread Cert.PackSmallIdeal.nD Cert.PackSmallIdeal.τ).loc Cert.PackSmallIdeal.main_arg1) = m ((c.tc : Thread Cert.PackSmallIdeal.nD Cert.PackSmallIdeal.τ).loc Cert.PackSmallIdeal.main_arg1)
          ∧ r.2.mem ((c.tc : Thread Cert.PackSmallIdeal.nD Cert.PackSmallIdeal.τ).loc Cert.PackSmallIdeal.main_arg2) = m ((c.tc : Thread Cert.PackSmallIdeal.nD Cert.PackSmallIdeal.τ).loc Cert.PackSmallIdeal.main_arg2)
          ∧ r.2.mem ((c.tc : Thread Cert.PackSmallIdeal.nD Cert.PackSmallIdeal.τ).loc Cert.PackSmallIdeal.main_arg3) = m ((c.tc : Thread Cert.PackSmallIdeal.nD Cert.PackSmallIdeal.τ).loc Cert.PackSmallIdeal.main_arg3)
          ∧ r.2.mem ((c.tc : Thread Cert.PackSmallIdeal.nD Cert.PackSmallIdeal.τ).loc Cert.PackSmallIdeal.main_arg4) = m ((c.tc : Thread Cert.PackSmallIdeal.nD Cert.PackSmallIdeal.τ).loc Cert.PackSmallIdeal.main_arg4)
          ∧ r.2.mem ((c.tc : Thread Cert.PackSmallIdeal.nD Cert.PackSmallIdeal.τ).loc Cert.PackSmallIdeal.main_arg5) = m ((c.tc : Thread Cert.PackSmallIdeal.nD Cert.PackSmallIdeal.τ).loc Cert.PackSmallIdeal.main_arg5)
          ∧ r.2.mem ((c.tc : Thread Cert.PackSmallIdeal.nD Cert.PackSmallIdeal.τ).loc Cert.PackSmallIdeal.main_arg6) = m ((c.tc : Thread Cert.PackSmallIdeal.nD Cert.PackSmallIdeal.τ).loc Cert.PackSmallIdeal.main_arg6)
          ∧ r.2.mem ((c.tc : Thread Cert.PackSmallIdeal.nD Cert.PackSmallIdeal.τ).loc Cert.PackSmallIdeal.main_arg7) = m ((c.tc : Thread Cert.PackSmallIdeal.nD Cert.PackSmallIdeal.τ).loc Cert.PackSmallIdeal.main_arg7)
          ∧ r.2.mem ((c.tc : Thread Cert.PackSmallIdeal.nD Cert.PackSmallIdeal.τ).loc Cert.PackSmallIdeal.main_arg8) = m ((c.tc : Thread Cert.PackSmallIdeal.nD Cert.PackSmallIdeal.τ).loc Cert.PackSmallIdeal.main_arg8)
          ∧ r.2.mem ((c.tc : Thread Cert.PackSmallIdeal.nD Cert.PackSmallIdeal.τ).loc Cert.PackSmallIdeal.main_arg9) = m ((c.tc : Thread Cert.PackSmallIdeal.nD Cert.PackSmallIdeal.τ).loc Cert.PackSmallIdeal.main_arg9)
          ∧ r.2.mem ((c.tc : Thread Cert.PackSmallIdeal.nD Cert.PackSmallIdeal.τ).loc Cert.PackSmallIdeal.main_arg10) = m ((c.tc : Thread Cert.PackSmallIdeal.nD Cert.PackSmallIdeal.τ).loc Cert.PackSmallIdeal.main_arg10)
          ∧ r.2.mem ((c.tc : Thread Cert.PackSmallIdeal.nD Cert.PackSmallIdeal.τ).loc Cert.PackSmallIdeal.main_arg11) = m ((c.tc : Thread Cert.PackSmallIdeal.nD Cert.PackSmallIdeal.τ).loc Cert.PackSmallIdeal.main_arg11)
          ∧ r.2.mem ((c.tc : Thread Cert.PackSmallIdeal.nD Cert.PackSmallIdeal.τ).loc Cert.PackSmallIdeal.main_arg12) = m ((c.tc : Thread Cert.PackSmallIdeal.nD Cert.PackSmallIdeal.τ).loc Cert.PackSmallIdeal.main_arg12)
          ∧ r.2.mem ((c.tc : Thread Cert.PackSmallIdeal.nD Cert.PackSmallIdeal.τ).loc Cert.PackSmallIdeal.main_arg13) = m ((c.tc : Thread Cert.PackSmallIdeal.nD Cert.PackSmallIdeal.τ).loc Cert.PackSmallIdeal.main_arg13)
          ∧ r.2.mem ((c.tc : Thread Cert.PackSmallIdeal.nD Cert.PackSmallIdeal.τ).loc Cert.PackSmallIdeal.main_arg14) = m ((c.tc : Thread Cert.PackSmallIdeal.nD Cert.PackSmallIdeal.τ).loc Cert.PackSmallIdeal.main_arg14)
          ∧ r.2.mem ((c.tc : Thread Cert.PackSmallIdeal.nD Cert.PackSmallIdeal.τ).loc Cert.PackSmallIdeal.main_arg15) = m ((c.tc : Thread Cert.PackSmallIdeal.nD Cert.PackSmallIdeal.τ).loc Cert.PackSmallIdeal.main_arg15)
          ∧ r.2.mem ((c.tc : Thread Cert.PackSmallIdeal.nD Cert.PackSmallIdeal.τ).loc Cert.PackSmallIdeal.main_arg16) = m ((c.tc : Thread Cert.PackSmallIdeal.nD Cert.PackSmallIdeal.τ).loc Cert.PackSmallIdeal.main_arg16)
          ∧ r.2.mem ((c.tc : Thread Cert.PackSmallIdeal.nD Cert.PackSmallIdeal.τ).loc Cert.PackSmallIdeal.main_arg17) = m ((c.tc : Thread Cert.PackSmallIdeal.nD Cert.PackSmallIdeal.τ).loc Cert.PackSmallIdeal.main_arg17)
          ∧ r.2.mem ((c.tc : Thread Cert.PackSmallIdeal.nD Cert.PackSmallIdeal.τ).loc Cert.PackSmallIdeal.main_arg18) = m ((c.tc : Thread Cert.PackSmallIdeal.nD Cert.PackSmallIdeal.τ).loc Cert.PackSmallIdeal.main_arg18)
          ∧ r.2.mem ((c.tc : Thread Cert.PackSmallIdeal.nD Cert.PackSmallIdeal.τ).loc Cert.PackSmallIdeal.main_arg19) = m ((c.tc : Thread Cert.PackSmallIdeal.nD Cert.PackSmallIdeal.τ).loc Cert.PackSmallIdeal.main_arg19)
          ∧ r.2.mem ((c.tc : Thread Cert.PackSmallIdeal.nD Cert.PackSmallIdeal.τ).loc Cert.PackSmallIdeal.main_arg20) = m ((c.tc : Thread Cert.PackSmallIdeal.nD Cert.PackSmallIdeal.τ).loc Cert.PackSmallIdeal.main_arg20)
          ∧ r.2.mem ((c.tc : Thread Cert.PackSmallIdeal.nD Cert.PackSmallIdeal.τ).loc Cert.PackSmallIdeal.main_arg21) = m ((c.tc : Thread Cert.PackSmallIdeal.nD Cert.PackSmallIdeal.τ).loc Cert.PackSmallIdeal.main_arg21)
          ∧ r.2.mem ((c.tc : Thread Cert.PackSmallIdeal.nD Cert.PackSmallIdeal.τ).loc Cert.PackSmallIdeal.main_arg22) = m ((c.tc : Thread Cert.PackSmallIdeal.nD Cert.PackSmallIdeal.τ).loc Cert.PackSmallIdeal.main_arg22)
          ∧ r.2.mem ((c.tc : Thread Cert.PackSmallIdeal.nD Cert.PackSmallIdeal.τ).loc Cert.PackSmallIdeal.main_arg23) = m ((c.tc : Thread Cert.PackSmallIdeal.nD Cert.PackSmallIdeal.τ).loc Cert.PackSmallIdeal.main_arg23)
          ∧ r.2.mem ((c.tc : Thread Cert.PackSmallIdeal.nD Cert.PackSmallIdeal.τ).loc Cert.PackSmallIdeal.main_arg24) = m ((c.tc : Thread Cert.PackSmallIdeal.nD Cert.PackSmallIdeal.τ).loc Cert.PackSmallIdeal.main_arg24)
          ∧ r.2.mem ((c.tc : Thread Cert.PackSmallIdeal.nD Cert.PackSmallIdeal.τ).loc Cert.PackSmallIdeal.main_arg25) = m ((c.tc : Thread Cert.PackSmallIdeal.nD Cert.PackSmallIdeal.τ).loc Cert.PackSmallIdeal.main_arg25)
          ∧ r.2.mem ((c.tc : Thread Cert.PackSmallIdeal.nD Cert.PackSmallIdeal.τ).loc Cert.PackSmallIdeal.main_arg26) = m ((c.tc : Thread Cert.PackSmallIdeal.nD Cert.PackSmallIdeal.τ).loc Cert.PackSmallIdeal.main_arg26)
          ∧ r.2.mem ((c.tc : Thread Cert.PackSmallIdeal.nD Cert.PackSmallIdeal.τ).loc Cert.PackSmallIdeal.main_arg27) = m ((c.tc : Thread Cert.PackSmallIdeal.nD Cert.PackSmallIdeal.τ).loc Cert.PackSmallIdeal.main_arg27))
      ∧ θ_run (Cert.PackSmallRefIdeal.defs (F := Ideal)) (onTc (τ := Cert.PackSmallRefIdeal.τ) (Cert.PackSmallRefIdeal.main (F := Ideal))) ⟨m', fun _ => 0, g'⟩ (fun r => ∀ c : Dev Cert.PackSmallRefIdeal.nD,
          r.2.mem ((c.tc : Thread Cert.PackSmallRefIdeal.nD Cert.PackSmallRefIdeal.τ).loc Cert.PackSmallRefIdeal.main_v23) = v0 c
          ∧ r.2.mem ((c.tc : Thread Cert.PackSmallRefIdeal.nD Cert.PackSmallRefIdeal.τ).loc Cert.PackSmallRefIdeal.main_v47) = v1 c
          ∧ r.2.mem ((c.tc : Thread Cert.PackSmallRefIdeal.nD Cert.PackSmallRefIdeal.τ).loc Cert.PackSmallRefIdeal.main_v71) = v2 c
          ∧ r.2.mem ((c.tc : Thread Cert.PackSmallRefIdeal.nD Cert.PackSmallRefIdeal.τ).loc Cert.PackSmallRefIdeal.main_v95) = v3 c
          ∧ r.2.mem ((c.tc : Thread Cert.PackSmallRefIdeal.nD Cert.PackSmallRefIdeal.τ).loc Cert.PackSmallRefIdeal.main_v119) = v4 c
          ∧ r.2.mem ((c.tc : Thread Cert.PackSmallRefIdeal.nD Cert.PackSmallRefIdeal.τ).loc Cert.PackSmallRefIdeal.main_v143) = v5 c
          ∧ r.2.mem ((c.tc : Thread Cert.PackSmallRefIdeal.nD Cert.PackSmallRefIdeal.τ).loc Cert.PackSmallRefIdeal.main_v167) = v6 c
          ∧ r.2.mem ((c.tc : Thread Cert.PackSmallRefIdeal.nD Cert.PackSmallRefIdeal.τ).loc Cert.PackSmallRefIdeal.main_v4) = v7 c
          ∧ r.2.mem ((c.tc : Thread Cert.PackSmallRefIdeal.nD Cert.PackSmallRefIdeal.τ).loc Cert.PackSmallRefIdeal.main_v28) = v8 c
          ∧ r.2.mem ((c.tc : Thread Cert.PackSmallRefIdeal.nD Cert.PackSmallRefIdeal.τ).loc Cert.PackSmallRefIdeal.main_v52) = v9 c
          ∧ r.2.mem ((c.tc : Thread Cert.PackSmallRefIdeal.nD Cert.PackSmallRefIdeal.τ).loc Cert.PackSmallRefIdeal.main_v76) = v10 c
          ∧ r.2.mem ((c.tc : Thread Cert.PackSmallRefIdeal.nD Cert.PackSmallRefIdeal.τ).loc Cert.PackSmallRefIdeal.main_v100) = v11 c
          ∧ r.2.mem ((c.tc : Thread Cert.PackSmallRefIdeal.nD Cert.PackSmallRefIdeal.τ).loc Cert.PackSmallRefIdeal.main_v124) = v12 c
          ∧ r.2.mem ((c.tc : Thread Cert.PackSmallRefIdeal.nD Cert.PackSmallRefIdeal.τ).loc Cert.PackSmallRefIdeal.main_v148) = v13 c
          ∧ r.2.mem ((c.tc : Thread Cert.PackSmallRefIdeal.nD Cert.PackSmallRefIdeal.τ).loc Cert.PackSmallRefIdeal.main_v10) = v14 c
          ∧ r.2.mem ((c.tc : Thread Cert.PackSmallRefIdeal.nD Cert.PackSmallRefIdeal.τ).loc Cert.PackSmallRefIdeal.main_v34) = v15 c
          ∧ r.2.mem ((c.tc : Thread Cert.PackSmallRefIdeal.nD Cert.PackSmallRefIdeal.τ).loc Cert.PackSmallRefIdeal.main_v58) = v16 c
          ∧ r.2.mem ((c.tc : Thread Cert.PackSmallRefIdeal.nD Cert.PackSmallRefIdeal.τ).loc Cert.PackSmallRefIdeal.main_v82) = v17 c
          ∧ r.2.mem ((c.tc : Thread Cert.PackSmallRefIdeal.nD Cert.PackSmallRefIdeal.τ).loc Cert.PackSmallRefIdeal.main_v106) = v18 c
          ∧ r.2.mem ((c.tc : Thread Cert.PackSmallRefIdeal.nD Cert.PackSmallRefIdeal.τ).loc Cert.PackSmallRefIdeal.main_v130) = v19 c
          ∧ r.2.mem ((c.tc : Thread Cert.PackSmallRefIdeal.nD Cert.PackSmallRefIdeal.τ).loc Cert.PackSmallRefIdeal.main_v154) = v20 c
          ∧ r.2.mem ((c.tc : Thread Cert.PackSmallRefIdeal.nD Cert.PackSmallRefIdeal.τ).loc Cert.PackSmallRefIdeal.main_arg0) = m' ((c.tc : Thread Cert.PackSmallRefIdeal.nD Cert.PackSmallRefIdeal.τ).loc Cert.PackSmallRefIdeal.main_arg0)
          ∧ r.2.mem ((c.tc : Thread Cert.PackSmallRefIdeal.nD Cert.PackSmallRefIdeal.τ).loc Cert.PackSmallRefIdeal.main_arg1) = m' ((c.tc : Thread Cert.PackSmallRefIdeal.nD Cert.PackSmallRefIdeal.τ).loc Cert.PackSmallRefIdeal.main_arg1)
          ∧ r.2.mem ((c.tc : Thread Cert.PackSmallRefIdeal.nD Cert.PackSmallRefIdeal.τ).loc Cert.PackSmallRefIdeal.main_arg2) = m' ((c.tc : Thread Cert.PackSmallRefIdeal.nD Cert.PackSmallRefIdeal.τ).loc Cert.PackSmallRefIdeal.main_arg2)
          ∧ r.2.mem ((c.tc : Thread Cert.PackSmallRefIdeal.nD Cert.PackSmallRefIdeal.τ).loc Cert.PackSmallRefIdeal.main_arg3) = m' ((c.tc : Thread Cert.PackSmallRefIdeal.nD Cert.PackSmallRefIdeal.τ).loc Cert.PackSmallRefIdeal.main_arg3)
          ∧ r.2.mem ((c.tc : Thread Cert.PackSmallRefIdeal.nD Cert.PackSmallRefIdeal.τ).loc Cert.PackSmallRefIdeal.main_arg4) = m' ((c.tc : Thread Cert.PackSmallRefIdeal.nD Cert.PackSmallRefIdeal.τ).loc Cert.PackSmallRefIdeal.main_arg4)
          ∧ r.2.mem ((c.tc : Thread Cert.PackSmallRefIdeal.nD Cert.PackSmallRefIdeal.τ).loc Cert.PackSmallRefIdeal.main_arg5) = m' ((c.tc : Thread Cert.PackSmallRefIdeal.nD Cert.PackSmallRefIdeal.τ).loc Cert.PackSmallRefIdeal.main_arg5)
          ∧ r.2.mem ((c.tc : Thread Cert.PackSmallRefIdeal.nD Cert.PackSmallRefIdeal.τ).loc Cert.PackSmallRefIdeal.main_arg6) = m' ((c.tc : Thread Cert.PackSmallRefIdeal.nD Cert.PackSmallRefIdeal.τ).loc Cert.PackSmallRefIdeal.main_arg6)
          ∧ r.2.mem ((c.tc : Thread Cert.PackSmallRefIdeal.nD Cert.PackSmallRefIdeal.τ).loc Cert.PackSmallRefIdeal.main_arg7) = m' ((c.tc : Thread Cert.PackSmallRefIdeal.nD Cert.PackSmallRefIdeal.τ).loc Cert.PackSmallRefIdeal.main_arg7)
          ∧ r.2.mem ((c.tc : Thread Cert.PackSmallRefIdeal.nD Cert.PackSmallRefIdeal.τ).loc Cert.PackSmallRefIdeal.main_arg8) = m' ((c.tc : Thread Cert.PackSmallRefIdeal.nD Cert.PackSmallRefIdeal.τ).loc Cert.PackSmallRefIdeal.main_arg8)
          ∧ r.2.mem ((c.tc : Thread Cert.PackSmallRefIdeal.nD Cert.PackSmallRefIdeal.τ).loc Cert.PackSmallRefIdeal.main_arg9) = m' ((c.tc : Thread Cert.PackSmallRefIdeal.nD Cert.PackSmallRefIdeal.τ).loc Cert.PackSmallRefIdeal.main_arg9)
          ∧ r.2.mem ((c.tc : Thread Cert.PackSmallRefIdeal.nD Cert.PackSmallRefIdeal.τ).loc Cert.PackSmallRefIdeal.main_arg10) = m' ((c.tc : Thread Cert.PackSmallRefIdeal.nD Cert.PackSmallRefIdeal.τ).loc Cert.PackSmallRefIdeal.main_arg10)
          ∧ r.2.mem ((c.tc : Thread Cert.PackSmallRefIdeal.nD Cert.PackSmallRefIdeal.τ).loc Cert.PackSmallRefIdeal.main_arg11) = m' ((c.tc : Thread Cert.PackSmallRefIdeal.nD Cert.PackSmallRefIdeal.τ).loc Cert.PackSmallRefIdeal.main_arg11)
          ∧ r.2.mem ((c.tc : Thread Cert.PackSmallRefIdeal.nD Cert.PackSmallRefIdeal.τ).loc Cert.PackSmallRefIdeal.main_arg12) = m' ((c.tc : Thread Cert.PackSmallRefIdeal.nD Cert.PackSmallRefIdeal.τ).loc Cert.PackSmallRefIdeal.main_arg12)
          ∧ r.2.mem ((c.tc : Thread Cert.PackSmallRefIdeal.nD Cert.PackSmallRefIdeal.τ).loc Cert.PackSmallRefIdeal.main_arg13) = m' ((c.tc : Thread Cert.PackSmallRefIdeal.nD Cert.PackSmallRefIdeal.τ).loc Cert.PackSmallRefIdeal.main_arg13)
          ∧ r.2.mem ((c.tc : Thread Cert.PackSmallRefIdeal.nD Cert.PackSmallRefIdeal.τ).loc Cert.PackSmallRefIdeal.main_arg14) = m' ((c.tc : Thread Cert.PackSmallRefIdeal.nD Cert.PackSmallRefIdeal.τ).loc Cert.PackSmallRefIdeal.main_arg14)
          ∧ r.2.mem ((c.tc : Thread Cert.PackSmallRefIdeal.nD Cert.PackSmallRefIdeal.τ).loc Cert.PackSmallRefIdeal.main_arg15) = m' ((c.tc : Thread Cert.PackSmallRefIdeal.nD Cert.PackSmallRefIdeal.τ).loc Cert.PackSmallRefIdeal.main_arg15)
          ∧ r.2.mem ((c.tc : Thread Cert.PackSmallRefIdeal.nD Cert.PackSmallRefIdeal.τ).loc Cert.PackSmallRefIdeal.main_arg16) = m' ((c.tc : Thread Cert.PackSmallRefIdeal.nD Cert.PackSmallRefIdeal.τ).loc Cert.PackSmallRefIdeal.main_arg16)
          ∧ r.2.mem ((c.tc : Thread Cert.PackSmallRefIdeal.nD Cert.PackSmallRefIdeal.τ).loc Cert.PackSmallRefIdeal.main_arg17) = m' ((c.tc : Thread Cert.PackSmallRefIdeal.nD Cert.PackSmallRefIdeal.τ).loc Cert.PackSmallRefIdeal.main_arg17)
          ∧ r.2.mem ((c.tc : Thread Cert.PackSmallRefIdeal.nD Cert.PackSmallRefIdeal.τ).loc Cert.PackSmallRefIdeal.main_arg18) = m' ((c.tc : Thread Cert.PackSmallRefIdeal.nD Cert.PackSmallRefIdeal.τ).loc Cert.PackSmallRefIdeal.main_arg18)
          ∧ r.2.mem ((c.tc : Thread Cert.PackSmallRefIdeal.nD Cert.PackSmallRefIdeal.τ).loc Cert.PackSmallRefIdeal.main_arg19) = m' ((c.tc : Thread Cert.PackSmallRefIdeal.nD Cert.PackSmallRefIdeal.τ).loc Cert.PackSmallRefIdeal.main_arg19)
          ∧ r.2.mem ((c.tc : Thread Cert.PackSmallRefIdeal.nD Cert.PackSmallRefIdeal.τ).loc Cert.PackSmallRefIdeal.main_arg20) = m' ((c.tc : Thread Cert.PackSmallRefIdeal.nD Cert.PackSmallRefIdeal.τ).loc Cert.PackSmallRefIdeal.main_arg20)
          ∧ r.2.mem ((c.tc : Thread Cert.PackSmallRefIdeal.nD Cert.PackSmallRefIdeal.τ).loc Cert.PackSmallRefIdeal.main_arg21) = m' ((c.tc : Thread Cert.PackSmallRefIdeal.nD Cert.PackSmallRefIdeal.τ).loc Cert.PackSmallRefIdeal.main_arg21)
          ∧ r.2.mem ((c.tc : Thread Cert.PackSmallRefIdeal.nD Cert.PackSmallRefIdeal.τ).loc Cert.PackSmallRefIdeal.main_arg22) = m' ((c.tc : Thread Cert.PackSmallRefIdeal.nD Cert.PackSmallRefIdeal.τ).loc Cert.PackSmallRefIdeal.main_arg22)
          ∧ r.2.mem ((c.tc : Thread Cert.PackSmallRefIdeal.nD Cert.PackSmallRefIdeal.τ).loc Cert.PackSmallRefIdeal.main_arg23) = m' ((c.tc : Thread Cert.PackSmallRefIdeal.nD Cert.PackSmallRefIdeal.τ).loc Cert.PackSmallRefIdeal.main_arg23)
          ∧ r.2.mem ((c.tc : Thread Cert.PackSmallRefIdeal.nD Cert.PackSmallRefIdeal.τ).loc Cert.PackSmallRefIdeal.main_arg24) = m' ((c.tc : Thread Cert.PackSmallRefIdeal.nD Cert.PackSmallRefIdeal.τ).loc Cert.PackSmallRefIdeal.main_arg24)
          ∧ r.2.mem ((c.tc : Thread Cert.PackSmallRefIdeal.nD Cert.PackSmallRefIdeal.τ).loc Cert.PackSmallRefIdeal.main_arg25) = m' ((c.tc : Thread Cert.PackSmallRefIdeal.nD Cert.PackSmallRefIdeal.τ).loc Cert.PackSmallRefIdeal.main_arg25)
          ∧ r.2.mem ((c.tc : Thread Cert.PackSmallRefIdeal.nD Cert.PackSmallRefIdeal.τ).loc Cert.PackSmallRefIdeal.main_arg26) = m' ((c.tc : Thread Cert.PackSmallRefIdeal.nD Cert.PackSmallRefIdeal.τ).loc Cert.PackSmallRefIdeal.main_arg26)
          ∧ r.2.mem ((c.tc : Thread Cert.PackSmallRefIdeal.nD Cert.PackSmallRefIdeal.τ).loc Cert.PackSmallRefIdeal.main_arg27) = m' ((c.tc : Thread Cert.PackSmallRefIdeal.nD Cert.PackSmallRefIdeal.τ).loc Cert.PackSmallRefIdeal.main_arg27))

def preserves_PackRepl_PackReplIdeal : Prop :=
  IdealRules.named_const.Statement Cert.PackReplIdeal.κ "c1" .f32 0x3FC48605#32 ((8388608 / 5463681 : ℝ) : EReal)
  ∧ IdealRules.named_const.Statement Cert.PackReplIdeal.κ "c2" .f32 0x42C8E6D3#32 ((268435456 / 2672307 : ℝ) : EReal)

def algebraic_PackReplIdeal_PackReplRefIdeal [hPackReplIdeal : Cert.PackReplIdeal.Facts] [hPackReplRefIdeal : Cert.PackReplRefIdeal.Facts] : Prop :=
  ∀ (m : (ℓ : Loc Cert.PackReplIdeal.nD Cert.PackReplIdeal.τ Cert.PackReplIdeal.sig) → Buf (Elt Ideal) ℓ) (g : Dev Cert.PackReplIdeal.nD → PrngReg)
    (m' : (ℓ : Loc Cert.PackReplRefIdeal.nD Cert.PackReplRefIdeal.τ Cert.PackReplRefIdeal.sig) → Buf (Elt Ideal) ℓ) (g' : Dev Cert.PackReplRefIdeal.nD → PrngReg), Pre_PackReplIdeal m →
    (∀ c : Dev Cert.PackReplIdeal.nD,
      m' ((c.tc : Thread Cert.PackReplRefIdeal.nD Cert.PackReplRefIdeal.τ).loc Cert.PackReplRefIdeal.main_arg0) = m ((c.tc : Thread Cert.PackReplIdeal.nD Cert.PackReplIdeal.τ).loc Cert.PackReplIdeal.main_arg0)
      ∧ m' ((c.tc : Thread Cert.PackReplRefIdeal.nD Cert.PackReplRefIdeal.τ).loc Cert.PackReplRefIdeal.main_arg1) = m ((c.tc : Thread Cert.PackReplIdeal.nD Cert.PackReplIdeal.τ).loc Cert.PackReplIdeal.main_arg1)
      ∧ m' ((c.tc : Thread Cert.PackReplRefIdeal.nD Cert.PackReplRefIdeal.τ).loc Cert.PackReplRefIdeal.main_arg2) = m ((c.tc : Thread Cert.PackReplIdeal.nD Cert.PackReplIdeal.τ).loc Cert.PackReplIdeal.main_arg2)
      ∧ m' ((c.tc : Thread Cert.PackReplRefIdeal.nD Cert.PackReplRefIdeal.τ).loc Cert.PackReplRefIdeal.main_arg3) = m ((c.tc : Thread Cert.PackReplIdeal.nD Cert.PackReplIdeal.τ).loc Cert.PackReplIdeal.main_arg3)
      ∧ m' ((c.tc : Thread Cert.PackReplRefIdeal.nD Cert.PackReplRefIdeal.τ).loc Cert.PackReplRefIdeal.main_arg4) = m ((c.tc : Thread Cert.PackReplIdeal.nD Cert.PackReplIdeal.τ).loc Cert.PackReplIdeal.main_arg4)
      ∧ m' ((c.tc : Thread Cert.PackReplRefIdeal.nD Cert.PackReplRefIdeal.τ).loc Cert.PackReplRefIdeal.main_arg5) = m ((c.tc : Thread Cert.PackReplIdeal.nD Cert.PackReplIdeal.τ).loc Cert.PackReplIdeal.main_arg5)
      ∧ m' ((c.tc : Thread Cert.PackReplRefIdeal.nD Cert.PackReplRefIdeal.τ).loc Cert.PackReplRefIdeal.main_arg6) = m ((c.tc : Thread Cert.PackReplIdeal.nD Cert.PackReplIdeal.τ).loc Cert.PackReplIdeal.main_arg6)
      ∧ m' ((c.tc : Thread Cert.PackReplRefIdeal.nD Cert.PackReplRefIdeal.τ).loc Cert.PackReplRefIdeal.main_arg7) = m ((c.tc : Thread Cert.PackReplIdeal.nD Cert.PackReplIdeal.τ).loc Cert.PackReplIdeal.main_arg7)
      ∧ m' ((c.tc : Thread Cert.PackReplRefIdeal.nD Cert.PackReplRefIdeal.τ).loc Cert.PackReplRefIdeal.main_arg8) = m ((c.tc : Thread Cert.PackReplIdeal.nD Cert.PackReplIdeal.τ).loc Cert.PackReplIdeal.main_arg8)
      ∧ m' ((c.tc : Thread Cert.PackReplRefIdeal.nD Cert.PackReplRefIdeal.τ).loc Cert.PackReplRefIdeal.main_arg9) = m ((c.tc : Thread Cert.PackReplIdeal.nD Cert.PackReplIdeal.τ).loc Cert.PackReplIdeal.main_arg9)
      ∧ m' ((c.tc : Thread Cert.PackReplRefIdeal.nD Cert.PackReplRefIdeal.τ).loc Cert.PackReplRefIdeal.main_arg10) = m ((c.tc : Thread Cert.PackReplIdeal.nD Cert.PackReplIdeal.τ).loc Cert.PackReplIdeal.main_arg10)
      ∧ m' ((c.tc : Thread Cert.PackReplRefIdeal.nD Cert.PackReplRefIdeal.τ).loc Cert.PackReplRefIdeal.main_arg11) = m ((c.tc : Thread Cert.PackReplIdeal.nD Cert.PackReplIdeal.τ).loc Cert.PackReplIdeal.main_arg11)
      ∧ m' ((c.tc : Thread Cert.PackReplRefIdeal.nD Cert.PackReplRefIdeal.τ).loc Cert.PackReplRefIdeal.main_arg12) = m ((c.tc : Thread Cert.PackReplIdeal.nD Cert.PackReplIdeal.τ).loc Cert.PackReplIdeal.main_arg12)
      ∧ m' ((c.tc : Thread Cert.PackReplRefIdeal.nD Cert.PackReplRefIdeal.τ).loc Cert.PackReplRefIdeal.main_arg13) = m ((c.tc : Thread Cert.PackReplIdeal.nD Cert.PackReplIdeal.τ).loc Cert.PackReplIdeal.main_arg13)
      ∧ m' ((c.tc : Thread Cert.PackReplRefIdeal.nD Cert.PackReplRefIdeal.τ).loc Cert.PackReplRefIdeal.main_arg14) = m ((c.tc : Thread Cert.PackReplIdeal.nD Cert.PackReplIdeal.τ).loc Cert.PackReplIdeal.main_arg14)
      ∧ m' ((c.tc : Thread Cert.PackReplRefIdeal.nD Cert.PackReplRefIdeal.τ).loc Cert.PackReplRefIdeal.main_arg15) = m ((c.tc : Thread Cert.PackReplIdeal.nD Cert.PackReplIdeal.τ).loc Cert.PackReplIdeal.main_arg15)
      ∧ m' ((c.tc : Thread Cert.PackReplRefIdeal.nD Cert.PackReplRefIdeal.τ).loc Cert.PackReplRefIdeal.main_arg16) = m ((c.tc : Thread Cert.PackReplIdeal.nD Cert.PackReplIdeal.τ).loc Cert.PackReplIdeal.main_arg16)
      ∧ m' ((c.tc : Thread Cert.PackReplRefIdeal.nD Cert.PackReplRefIdeal.τ).loc Cert.PackReplRefIdeal.main_arg17) = m ((c.tc : Thread Cert.PackReplIdeal.nD Cert.PackReplIdeal.τ).loc Cert.PackReplIdeal.main_arg17)
      ∧ m' ((c.tc : Thread Cert.PackReplRefIdeal.nD Cert.PackReplRefIdeal.τ).loc Cert.PackReplRefIdeal.main_arg18) = m ((c.tc : Thread Cert.PackReplIdeal.nD Cert.PackReplIdeal.τ).loc Cert.PackReplIdeal.main_arg18)
      ∧ m' ((c.tc : Thread Cert.PackReplRefIdeal.nD Cert.PackReplRefIdeal.τ).loc Cert.PackReplRefIdeal.main_arg19) = m ((c.tc : Thread Cert.PackReplIdeal.nD Cert.PackReplIdeal.τ).loc Cert.PackReplIdeal.main_arg19)
      ∧ m' ((c.tc : Thread Cert.PackReplRefIdeal.nD Cert.PackReplRefIdeal.τ).loc Cert.PackReplRefIdeal.main_arg20) = m ((c.tc : Thread Cert.PackReplIdeal.nD Cert.PackReplIdeal.τ).loc Cert.PackReplIdeal.main_arg20)
      ∧ m' ((c.tc : Thread Cert.PackReplRefIdeal.nD Cert.PackReplRefIdeal.τ).loc Cert.PackReplRefIdeal.main_arg21) = m ((c.tc : Thread Cert.PackReplIdeal.nD Cert.PackReplIdeal.τ).loc Cert.PackReplIdeal.main_arg21)
      ∧ m' ((c.tc : Thread Cert.PackReplRefIdeal.nD Cert.PackReplRefIdeal.τ).loc Cert.PackReplRefIdeal.main_arg22) = m ((c.tc : Thread Cert.PackReplIdeal.nD Cert.PackReplIdeal.τ).loc Cert.PackReplIdeal.main_arg22)
      ∧ m' ((c.tc : Thread Cert.PackReplRefIdeal.nD Cert.PackReplRefIdeal.τ).loc Cert.PackReplRefIdeal.main_arg23) = m ((c.tc : Thread Cert.PackReplIdeal.nD Cert.PackReplIdeal.τ).loc Cert.PackReplIdeal.main_arg23)
      ∧ m' ((c.tc : Thread Cert.PackReplRefIdeal.nD Cert.PackReplRefIdeal.τ).loc Cert.PackReplRefIdeal.main_arg24) = m ((c.tc : Thread Cert.PackReplIdeal.nD Cert.PackReplIdeal.τ).loc Cert.PackReplIdeal.main_arg24)
      ∧ m' ((c.tc : Thread Cert.PackReplRefIdeal.nD Cert.PackReplRefIdeal.τ).loc Cert.PackReplRefIdeal.main_arg25) = m ((c.tc : Thread Cert.PackReplIdeal.nD Cert.PackReplIdeal.τ).loc Cert.PackReplIdeal.main_arg25)
      ∧ m' ((c.tc : Thread Cert.PackReplRefIdeal.nD Cert.PackReplRefIdeal.τ).loc Cert.PackReplRefIdeal.main_arg26) = m ((c.tc : Thread Cert.PackReplIdeal.nD Cert.PackReplIdeal.τ).loc Cert.PackReplIdeal.main_arg26)
      ∧ m' ((c.tc : Thread Cert.PackReplRefIdeal.nD Cert.PackReplRefIdeal.τ).loc Cert.PackReplRefIdeal.main_arg27) = m ((c.tc : Thread Cert.PackReplIdeal.nD Cert.PackReplIdeal.τ).loc Cert.PackReplIdeal.main_arg27)) →
    ∃ (v0 : (c : Dev Cert.PackReplIdeal.nD) → Buf (Elt Ideal) ((c.tc : Thread Cert.PackReplIdeal.nD Cert.PackReplIdeal.τ).loc Cert.PackReplIdeal.main_v13)) (v1 : (c : Dev Cert.PackReplIdeal.nD) → Buf (Elt Ideal) ((c.tc : Thread Cert.PackReplIdeal.nD Cert.PackReplIdeal.τ).loc Cert.PackReplIdeal.main_v14)) (v2 : (c : Dev Cert.PackReplIdeal.nD) → Buf (Elt Ideal) ((c.tc : Thread Cert.PackReplIdeal.nD Cert.PackReplIdeal.τ).loc Cert.PackReplIdeal.main_v15)) (v3 : (c : Dev Cert.PackReplIdeal.nD) → Buf (Elt Ideal) ((c.tc : Thread Cert.PackReplIdeal.nD Cert.PackReplIdeal.τ).loc Cert.PackReplIdeal.main_v16)) (v4 : (c : Dev Cert.PackReplIdeal.nD) → Buf (Elt Ideal) ((c.tc : Thread Cert.PackReplIdeal.nD Cert.PackReplIdeal.τ).loc Cert.PackReplIdeal.main_v17)) (v5 : (c : Dev Cert.PackReplIdeal.nD) → Buf (Elt Ideal) ((c.tc : Thread Cert.PackReplIdeal.nD Cert.PackReplIdeal.τ).loc Cert.PackReplIdeal.main_v18)) (v6 : (c : Dev Cert.PackReplIdeal.nD) → Buf (Elt Ideal) ((c.tc : Thread Cert.PackReplIdeal.nD Cert.PackReplIdeal.τ).loc Cert.PackReplIdeal.main_v20)) (v7 : (c : Dev Cert.PackReplIdeal.nD) → Buf (Elt Ideal) ((c.tc : Thread Cert.PackReplIdeal.nD Cert.PackReplIdeal.τ).loc Cert.PackReplIdeal.main_v21)) (v8 : (c : Dev Cert.PackReplIdeal.nD) → Buf (Elt Ideal) ((c.tc : Thread Cert.PackReplIdeal.nD Cert.PackReplIdeal.τ).loc Cert.PackReplIdeal.main_v22)) (v9 : (c : Dev Cert.PackReplIdeal.nD) → Buf (Elt Ideal) ((c.tc : Thread Cert.PackReplIdeal.nD Cert.PackReplIdeal.τ).loc Cert.PackReplIdeal.main_v23)) (v10 : (c : Dev Cert.PackReplIdeal.nD) → Buf (Elt Ideal) ((c.tc : Thread Cert.PackReplIdeal.nD Cert.PackReplIdeal.τ).loc Cert.PackReplIdeal.main_v24)) (v11 : (c : Dev Cert.PackReplIdeal.nD) → Buf (Elt Ideal) ((c.tc : Thread Cert.PackReplIdeal.nD Cert.PackReplIdeal.τ).loc Cert.PackReplIdeal.main_v25)) (v12 : (c : Dev Cert.PackReplIdeal.nD) → Buf (Elt Ideal) ((c.tc : Thread Cert.PackReplIdeal.nD Cert.PackReplIdeal.τ).loc Cert.PackReplIdeal.main_v26)) (v13 : (c : Dev Cert.PackReplIdeal.nD) → Buf (Elt Ideal) ((c.tc : Thread Cert.PackReplIdeal.nD Cert.PackReplIdeal.τ).loc Cert.PackReplIdeal.main_v28)) (v14 : (c : Dev Cert.PackReplIdeal.nD) → Buf (Elt Ideal) ((c.tc : Thread Cert.PackReplIdeal.nD Cert.PackReplIdeal.τ).loc Cert.PackReplIdeal.main_v29)) (v15 : (c : Dev Cert.PackReplIdeal.nD) → Buf (Elt Ideal) ((c.tc : Thread Cert.PackReplIdeal.nD Cert.PackReplIdeal.τ).loc Cert.PackReplIdeal.main_v30)) (v16 : (c : Dev Cert.PackReplIdeal.nD) → Buf (Elt Ideal) ((c.tc : Thread Cert.PackReplIdeal.nD Cert.PackReplIdeal.τ).loc Cert.PackReplIdeal.main_v31)) (v17 : (c : Dev Cert.PackReplIdeal.nD) → Buf (Elt Ideal) ((c.tc : Thread Cert.PackReplIdeal.nD Cert.PackReplIdeal.τ).loc Cert.PackReplIdeal.main_v32)) (v18 : (c : Dev Cert.PackReplIdeal.nD) → Buf (Elt Ideal) ((c.tc : Thread Cert.PackReplIdeal.nD Cert.PackReplIdeal.τ).loc Cert.PackReplIdeal.main_v33)) (v19 : (c : Dev Cert.PackReplIdeal.nD) → Buf (Elt Ideal) ((c.tc : Thread Cert.PackReplIdeal.nD Cert.PackReplIdeal.τ).loc Cert.PackReplIdeal.main_v34)) (v20 : (c : Dev Cert.PackReplIdeal.nD) → Buf (Elt Ideal) ((c.tc : Thread Cert.PackReplIdeal.nD Cert.PackReplIdeal.τ).loc Cert.PackReplIdeal.main_v36)),
      θ_run (Cert.PackReplIdeal.defs (F := Ideal)) (onTc (τ := Cert.PackReplIdeal.τ) (Cert.PackReplIdeal.main (F := Ideal))) ⟨m, fun _ => 0, g⟩ (fun r => ∀ c : Dev Cert.PackReplIdeal.nD,
          r.2.mem ((c.tc : Thread Cert.PackReplIdeal.nD Cert.PackReplIdeal.τ).loc Cert.PackReplIdeal.main_v13) = v0 c
          ∧ r.2.mem ((c.tc : Thread Cert.PackReplIdeal.nD Cert.PackReplIdeal.τ).loc Cert.PackReplIdeal.main_v14) = v1 c
          ∧ r.2.mem ((c.tc : Thread Cert.PackReplIdeal.nD Cert.PackReplIdeal.τ).loc Cert.PackReplIdeal.main_v15) = v2 c
          ∧ r.2.mem ((c.tc : Thread Cert.PackReplIdeal.nD Cert.PackReplIdeal.τ).loc Cert.PackReplIdeal.main_v16) = v3 c
          ∧ r.2.mem ((c.tc : Thread Cert.PackReplIdeal.nD Cert.PackReplIdeal.τ).loc Cert.PackReplIdeal.main_v17) = v4 c
          ∧ r.2.mem ((c.tc : Thread Cert.PackReplIdeal.nD Cert.PackReplIdeal.τ).loc Cert.PackReplIdeal.main_v18) = v5 c
          ∧ r.2.mem ((c.tc : Thread Cert.PackReplIdeal.nD Cert.PackReplIdeal.τ).loc Cert.PackReplIdeal.main_v20) = v6 c
          ∧ r.2.mem ((c.tc : Thread Cert.PackReplIdeal.nD Cert.PackReplIdeal.τ).loc Cert.PackReplIdeal.main_v21) = v7 c
          ∧ r.2.mem ((c.tc : Thread Cert.PackReplIdeal.nD Cert.PackReplIdeal.τ).loc Cert.PackReplIdeal.main_v22) = v8 c
          ∧ r.2.mem ((c.tc : Thread Cert.PackReplIdeal.nD Cert.PackReplIdeal.τ).loc Cert.PackReplIdeal.main_v23) = v9 c
          ∧ r.2.mem ((c.tc : Thread Cert.PackReplIdeal.nD Cert.PackReplIdeal.τ).loc Cert.PackReplIdeal.main_v24) = v10 c
          ∧ r.2.mem ((c.tc : Thread Cert.PackReplIdeal.nD Cert.PackReplIdeal.τ).loc Cert.PackReplIdeal.main_v25) = v11 c
          ∧ r.2.mem ((c.tc : Thread Cert.PackReplIdeal.nD Cert.PackReplIdeal.τ).loc Cert.PackReplIdeal.main_v26) = v12 c
          ∧ r.2.mem ((c.tc : Thread Cert.PackReplIdeal.nD Cert.PackReplIdeal.τ).loc Cert.PackReplIdeal.main_v28) = v13 c
          ∧ r.2.mem ((c.tc : Thread Cert.PackReplIdeal.nD Cert.PackReplIdeal.τ).loc Cert.PackReplIdeal.main_v29) = v14 c
          ∧ r.2.mem ((c.tc : Thread Cert.PackReplIdeal.nD Cert.PackReplIdeal.τ).loc Cert.PackReplIdeal.main_v30) = v15 c
          ∧ r.2.mem ((c.tc : Thread Cert.PackReplIdeal.nD Cert.PackReplIdeal.τ).loc Cert.PackReplIdeal.main_v31) = v16 c
          ∧ r.2.mem ((c.tc : Thread Cert.PackReplIdeal.nD Cert.PackReplIdeal.τ).loc Cert.PackReplIdeal.main_v32) = v17 c
          ∧ r.2.mem ((c.tc : Thread Cert.PackReplIdeal.nD Cert.PackReplIdeal.τ).loc Cert.PackReplIdeal.main_v33) = v18 c
          ∧ r.2.mem ((c.tc : Thread Cert.PackReplIdeal.nD Cert.PackReplIdeal.τ).loc Cert.PackReplIdeal.main_v34) = v19 c
          ∧ r.2.mem ((c.tc : Thread Cert.PackReplIdeal.nD Cert.PackReplIdeal.τ).loc Cert.PackReplIdeal.main_v36) = v20 c
          ∧ r.2.mem ((c.tc : Thread Cert.PackReplIdeal.nD Cert.PackReplIdeal.τ).loc Cert.PackReplIdeal.main_arg0) = m ((c.tc : Thread Cert.PackReplIdeal.nD Cert.PackReplIdeal.τ).loc Cert.PackReplIdeal.main_arg0)
          ∧ r.2.mem ((c.tc : Thread Cert.PackReplIdeal.nD Cert.PackReplIdeal.τ).loc Cert.PackReplIdeal.main_arg1) = m ((c.tc : Thread Cert.PackReplIdeal.nD Cert.PackReplIdeal.τ).loc Cert.PackReplIdeal.main_arg1)
          ∧ r.2.mem ((c.tc : Thread Cert.PackReplIdeal.nD Cert.PackReplIdeal.τ).loc Cert.PackReplIdeal.main_arg2) = m ((c.tc : Thread Cert.PackReplIdeal.nD Cert.PackReplIdeal.τ).loc Cert.PackReplIdeal.main_arg2)
          ∧ r.2.mem ((c.tc : Thread Cert.PackReplIdeal.nD Cert.PackReplIdeal.τ).loc Cert.PackReplIdeal.main_arg3) = m ((c.tc : Thread Cert.PackReplIdeal.nD Cert.PackReplIdeal.τ).loc Cert.PackReplIdeal.main_arg3)
          ∧ r.2.mem ((c.tc : Thread Cert.PackReplIdeal.nD Cert.PackReplIdeal.τ).loc Cert.PackReplIdeal.main_arg4) = m ((c.tc : Thread Cert.PackReplIdeal.nD Cert.PackReplIdeal.τ).loc Cert.PackReplIdeal.main_arg4)
          ∧ r.2.mem ((c.tc : Thread Cert.PackReplIdeal.nD Cert.PackReplIdeal.τ).loc Cert.PackReplIdeal.main_arg5) = m ((c.tc : Thread Cert.PackReplIdeal.nD Cert.PackReplIdeal.τ).loc Cert.PackReplIdeal.main_arg5)
          ∧ r.2.mem ((c.tc : Thread Cert.PackReplIdeal.nD Cert.PackReplIdeal.τ).loc Cert.PackReplIdeal.main_arg6) = m ((c.tc : Thread Cert.PackReplIdeal.nD Cert.PackReplIdeal.τ).loc Cert.PackReplIdeal.main_arg6)
          ∧ r.2.mem ((c.tc : Thread Cert.PackReplIdeal.nD Cert.PackReplIdeal.τ).loc Cert.PackReplIdeal.main_arg7) = m ((c.tc : Thread Cert.PackReplIdeal.nD Cert.PackReplIdeal.τ).loc Cert.PackReplIdeal.main_arg7)
          ∧ r.2.mem ((c.tc : Thread Cert.PackReplIdeal.nD Cert.PackReplIdeal.τ).loc Cert.PackReplIdeal.main_arg8) = m ((c.tc : Thread Cert.PackReplIdeal.nD Cert.PackReplIdeal.τ).loc Cert.PackReplIdeal.main_arg8)
          ∧ r.2.mem ((c.tc : Thread Cert.PackReplIdeal.nD Cert.PackReplIdeal.τ).loc Cert.PackReplIdeal.main_arg9) = m ((c.tc : Thread Cert.PackReplIdeal.nD Cert.PackReplIdeal.τ).loc Cert.PackReplIdeal.main_arg9)
          ∧ r.2.mem ((c.tc : Thread Cert.PackReplIdeal.nD Cert.PackReplIdeal.τ).loc Cert.PackReplIdeal.main_arg10) = m ((c.tc : Thread Cert.PackReplIdeal.nD Cert.PackReplIdeal.τ).loc Cert.PackReplIdeal.main_arg10)
          ∧ r.2.mem ((c.tc : Thread Cert.PackReplIdeal.nD Cert.PackReplIdeal.τ).loc Cert.PackReplIdeal.main_arg11) = m ((c.tc : Thread Cert.PackReplIdeal.nD Cert.PackReplIdeal.τ).loc Cert.PackReplIdeal.main_arg11)
          ∧ r.2.mem ((c.tc : Thread Cert.PackReplIdeal.nD Cert.PackReplIdeal.τ).loc Cert.PackReplIdeal.main_arg12) = m ((c.tc : Thread Cert.PackReplIdeal.nD Cert.PackReplIdeal.τ).loc Cert.PackReplIdeal.main_arg12)
          ∧ r.2.mem ((c.tc : Thread Cert.PackReplIdeal.nD Cert.PackReplIdeal.τ).loc Cert.PackReplIdeal.main_arg13) = m ((c.tc : Thread Cert.PackReplIdeal.nD Cert.PackReplIdeal.τ).loc Cert.PackReplIdeal.main_arg13)
          ∧ r.2.mem ((c.tc : Thread Cert.PackReplIdeal.nD Cert.PackReplIdeal.τ).loc Cert.PackReplIdeal.main_arg14) = m ((c.tc : Thread Cert.PackReplIdeal.nD Cert.PackReplIdeal.τ).loc Cert.PackReplIdeal.main_arg14)
          ∧ r.2.mem ((c.tc : Thread Cert.PackReplIdeal.nD Cert.PackReplIdeal.τ).loc Cert.PackReplIdeal.main_arg15) = m ((c.tc : Thread Cert.PackReplIdeal.nD Cert.PackReplIdeal.τ).loc Cert.PackReplIdeal.main_arg15)
          ∧ r.2.mem ((c.tc : Thread Cert.PackReplIdeal.nD Cert.PackReplIdeal.τ).loc Cert.PackReplIdeal.main_arg16) = m ((c.tc : Thread Cert.PackReplIdeal.nD Cert.PackReplIdeal.τ).loc Cert.PackReplIdeal.main_arg16)
          ∧ r.2.mem ((c.tc : Thread Cert.PackReplIdeal.nD Cert.PackReplIdeal.τ).loc Cert.PackReplIdeal.main_arg17) = m ((c.tc : Thread Cert.PackReplIdeal.nD Cert.PackReplIdeal.τ).loc Cert.PackReplIdeal.main_arg17)
          ∧ r.2.mem ((c.tc : Thread Cert.PackReplIdeal.nD Cert.PackReplIdeal.τ).loc Cert.PackReplIdeal.main_arg18) = m ((c.tc : Thread Cert.PackReplIdeal.nD Cert.PackReplIdeal.τ).loc Cert.PackReplIdeal.main_arg18)
          ∧ r.2.mem ((c.tc : Thread Cert.PackReplIdeal.nD Cert.PackReplIdeal.τ).loc Cert.PackReplIdeal.main_arg19) = m ((c.tc : Thread Cert.PackReplIdeal.nD Cert.PackReplIdeal.τ).loc Cert.PackReplIdeal.main_arg19)
          ∧ r.2.mem ((c.tc : Thread Cert.PackReplIdeal.nD Cert.PackReplIdeal.τ).loc Cert.PackReplIdeal.main_arg20) = m ((c.tc : Thread Cert.PackReplIdeal.nD Cert.PackReplIdeal.τ).loc Cert.PackReplIdeal.main_arg20)
          ∧ r.2.mem ((c.tc : Thread Cert.PackReplIdeal.nD Cert.PackReplIdeal.τ).loc Cert.PackReplIdeal.main_arg21) = m ((c.tc : Thread Cert.PackReplIdeal.nD Cert.PackReplIdeal.τ).loc Cert.PackReplIdeal.main_arg21)
          ∧ r.2.mem ((c.tc : Thread Cert.PackReplIdeal.nD Cert.PackReplIdeal.τ).loc Cert.PackReplIdeal.main_arg22) = m ((c.tc : Thread Cert.PackReplIdeal.nD Cert.PackReplIdeal.τ).loc Cert.PackReplIdeal.main_arg22)
          ∧ r.2.mem ((c.tc : Thread Cert.PackReplIdeal.nD Cert.PackReplIdeal.τ).loc Cert.PackReplIdeal.main_arg23) = m ((c.tc : Thread Cert.PackReplIdeal.nD Cert.PackReplIdeal.τ).loc Cert.PackReplIdeal.main_arg23)
          ∧ r.2.mem ((c.tc : Thread Cert.PackReplIdeal.nD Cert.PackReplIdeal.τ).loc Cert.PackReplIdeal.main_arg24) = m ((c.tc : Thread Cert.PackReplIdeal.nD Cert.PackReplIdeal.τ).loc Cert.PackReplIdeal.main_arg24)
          ∧ r.2.mem ((c.tc : Thread Cert.PackReplIdeal.nD Cert.PackReplIdeal.τ).loc Cert.PackReplIdeal.main_arg25) = m ((c.tc : Thread Cert.PackReplIdeal.nD Cert.PackReplIdeal.τ).loc Cert.PackReplIdeal.main_arg25)
          ∧ r.2.mem ((c.tc : Thread Cert.PackReplIdeal.nD Cert.PackReplIdeal.τ).loc Cert.PackReplIdeal.main_arg26) = m ((c.tc : Thread Cert.PackReplIdeal.nD Cert.PackReplIdeal.τ).loc Cert.PackReplIdeal.main_arg26)
          ∧ r.2.mem ((c.tc : Thread Cert.PackReplIdeal.nD Cert.PackReplIdeal.τ).loc Cert.PackReplIdeal.main_arg27) = m ((c.tc : Thread Cert.PackReplIdeal.nD Cert.PackReplIdeal.τ).loc Cert.PackReplIdeal.main_arg27))
      ∧ θ_run (Cert.PackReplRefIdeal.defs (F := Ideal)) (onTc (τ := Cert.PackReplRefIdeal.τ) (Cert.PackReplRefIdeal.main (F := Ideal))) ⟨m', fun _ => 0, g'⟩ (fun r => ∀ c : Dev Cert.PackReplRefIdeal.nD,
          r.2.mem ((c.tc : Thread Cert.PackReplRefIdeal.nD Cert.PackReplRefIdeal.τ).loc Cert.PackReplRefIdeal.main_v23) = v0 c
          ∧ r.2.mem ((c.tc : Thread Cert.PackReplRefIdeal.nD Cert.PackReplRefIdeal.τ).loc Cert.PackReplRefIdeal.main_v47) = v1 c
          ∧ r.2.mem ((c.tc : Thread Cert.PackReplRefIdeal.nD Cert.PackReplRefIdeal.τ).loc Cert.PackReplRefIdeal.main_v71) = v2 c
          ∧ r.2.mem ((c.tc : Thread Cert.PackReplRefIdeal.nD Cert.PackReplRefIdeal.τ).loc Cert.PackReplRefIdeal.main_v95) = v3 c
          ∧ r.2.mem ((c.tc : Thread Cert.PackReplRefIdeal.nD Cert.PackReplRefIdeal.τ).loc Cert.PackReplRefIdeal.main_v119) = v4 c
          ∧ r.2.mem ((c.tc : Thread Cert.PackReplRefIdeal.nD Cert.PackReplRefIdeal.τ).loc Cert.PackReplRefIdeal.main_v143) = v5 c
          ∧ r.2.mem ((c.tc : Thread Cert.PackReplRefIdeal.nD Cert.PackReplRefIdeal.τ).loc Cert.PackReplRefIdeal.main_v167) = v6 c
          ∧ r.2.mem ((c.tc : Thread Cert.PackReplRefIdeal.nD Cert.PackReplRefIdeal.τ).loc Cert.PackReplRefIdeal.main_v4) = v7 c
          ∧ r.2.mem ((c.tc : Thread Cert.PackReplRefIdeal.nD Cert.PackReplRefIdeal.τ).loc Cert.PackReplRefIdeal.main_v28) = v8 c
          ∧ r.2.mem ((c.tc : Thread Cert.PackReplRefIdeal.nD Cert.PackReplRefIdeal.τ).loc Cert.PackReplRefIdeal.main_v52) = v9 c
          ∧ r.2.mem ((c.tc : Thread Cert.PackReplRefIdeal.nD Cert.PackReplRefIdeal.τ).loc Cert.PackReplRefIdeal.main_v76) = v10 c
          ∧ r.2.mem ((c.tc : Thread Cert.PackReplRefIdeal.nD Cert.PackReplRefIdeal.τ).loc Cert.PackReplRefIdeal.main_v100) = v11 c
          ∧ r.2.mem ((c.tc : Thread Cert.PackReplRefIdeal.nD Cert.PackReplRefIdeal.τ).loc Cert.PackReplRefIdeal.main_v124) = v12 c
          ∧ r.2.mem ((c.tc : Thread Cert.PackReplRefIdeal.nD Cert.PackReplRefIdeal.τ).loc Cert.PackReplRefIdeal.main_v148) = v13 c
          ∧ r.2.mem ((c.tc : Thread Cert.PackReplRefIdeal.nD Cert.PackReplRefIdeal.τ).loc Cert.PackReplRefIdeal.main_v10) = v14 c
          ∧ r.2.mem ((c.tc : Thread Cert.PackReplRefIdeal.nD Cert.PackReplRefIdeal.τ).loc Cert.PackReplRefIdeal.main_v34) = v15 c
          ∧ r.2.mem ((c.tc : Thread Cert.PackReplRefIdeal.nD Cert.PackReplRefIdeal.τ).loc Cert.PackReplRefIdeal.main_v58) = v16 c
          ∧ r.2.mem ((c.tc : Thread Cert.PackReplRefIdeal.nD Cert.PackReplRefIdeal.τ).loc Cert.PackReplRefIdeal.main_v82) = v17 c
          ∧ r.2.mem ((c.tc : Thread Cert.PackReplRefIdeal.nD Cert.PackReplRefIdeal.τ).loc Cert.PackReplRefIdeal.main_v106) = v18 c
          ∧ r.2.mem ((c.tc : Thread Cert.PackReplRefIdeal.nD Cert.PackReplRefIdeal.τ).loc Cert.PackReplRefIdeal.main_v130) = v19 c
          ∧ r.2.mem ((c.tc : Thread Cert.PackReplRefIdeal.nD Cert.PackReplRefIdeal.τ).loc Cert.PackReplRefIdeal.main_v154) = v20 c
          ∧ r.2.mem ((c.tc : Thread Cert.PackReplRefIdeal.nD Cert.PackReplRefIdeal.τ).loc Cert.PackReplRefIdeal.main_arg0) = m' ((c.tc : Thread Cert.PackReplRefIdeal.nD Cert.PackReplRefIdeal.τ).loc Cert.PackReplRefIdeal.main_arg0)
          ∧ r.2.mem ((c.tc : Thread Cert.PackReplRefIdeal.nD Cert.PackReplRefIdeal.τ).loc Cert.PackReplRefIdeal.main_arg1) = m' ((c.tc : Thread Cert.PackReplRefIdeal.nD Cert.PackReplRefIdeal.τ).loc Cert.PackReplRefIdeal.main_arg1)
          ∧ r.2.mem ((c.tc : Thread Cert.PackReplRefIdeal.nD Cert.PackReplRefIdeal.τ).loc Cert.PackReplRefIdeal.main_arg2) = m' ((c.tc : Thread Cert.PackReplRefIdeal.nD Cert.PackReplRefIdeal.τ).loc Cert.PackReplRefIdeal.main_arg2)
          ∧ r.2.mem ((c.tc : Thread Cert.PackReplRefIdeal.nD Cert.PackReplRefIdeal.τ).loc Cert.PackReplRefIdeal.main_arg3) = m' ((c.tc : Thread Cert.PackReplRefIdeal.nD Cert.PackReplRefIdeal.τ).loc Cert.PackReplRefIdeal.main_arg3)
          ∧ r.2.mem ((c.tc : Thread Cert.PackReplRefIdeal.nD Cert.PackReplRefIdeal.τ).loc Cert.PackReplRefIdeal.main_arg4) = m' ((c.tc : Thread Cert.PackReplRefIdeal.nD Cert.PackReplRefIdeal.τ).loc Cert.PackReplRefIdeal.main_arg4)
          ∧ r.2.mem ((c.tc : Thread Cert.PackReplRefIdeal.nD Cert.PackReplRefIdeal.τ).loc Cert.PackReplRefIdeal.main_arg5) = m' ((c.tc : Thread Cert.PackReplRefIdeal.nD Cert.PackReplRefIdeal.τ).loc Cert.PackReplRefIdeal.main_arg5)
          ∧ r.2.mem ((c.tc : Thread Cert.PackReplRefIdeal.nD Cert.PackReplRefIdeal.τ).loc Cert.PackReplRefIdeal.main_arg6) = m' ((c.tc : Thread Cert.PackReplRefIdeal.nD Cert.PackReplRefIdeal.τ).loc Cert.PackReplRefIdeal.main_arg6)
          ∧ r.2.mem ((c.tc : Thread Cert.PackReplRefIdeal.nD Cert.PackReplRefIdeal.τ).loc Cert.PackReplRefIdeal.main_arg7) = m' ((c.tc : Thread Cert.PackReplRefIdeal.nD Cert.PackReplRefIdeal.τ).loc Cert.PackReplRefIdeal.main_arg7)
          ∧ r.2.mem ((c.tc : Thread Cert.PackReplRefIdeal.nD Cert.PackReplRefIdeal.τ).loc Cert.PackReplRefIdeal.main_arg8) = m' ((c.tc : Thread Cert.PackReplRefIdeal.nD Cert.PackReplRefIdeal.τ).loc Cert.PackReplRefIdeal.main_arg8)
          ∧ r.2.mem ((c.tc : Thread Cert.PackReplRefIdeal.nD Cert.PackReplRefIdeal.τ).loc Cert.PackReplRefIdeal.main_arg9) = m' ((c.tc : Thread Cert.PackReplRefIdeal.nD Cert.PackReplRefIdeal.τ).loc Cert.PackReplRefIdeal.main_arg9)
          ∧ r.2.mem ((c.tc : Thread Cert.PackReplRefIdeal.nD Cert.PackReplRefIdeal.τ).loc Cert.PackReplRefIdeal.main_arg10) = m' ((c.tc : Thread Cert.PackReplRefIdeal.nD Cert.PackReplRefIdeal.τ).loc Cert.PackReplRefIdeal.main_arg10)
          ∧ r.2.mem ((c.tc : Thread Cert.PackReplRefIdeal.nD Cert.PackReplRefIdeal.τ).loc Cert.PackReplRefIdeal.main_arg11) = m' ((c.tc : Thread Cert.PackReplRefIdeal.nD Cert.PackReplRefIdeal.τ).loc Cert.PackReplRefIdeal.main_arg11)
          ∧ r.2.mem ((c.tc : Thread Cert.PackReplRefIdeal.nD Cert.PackReplRefIdeal.τ).loc Cert.PackReplRefIdeal.main_arg12) = m' ((c.tc : Thread Cert.PackReplRefIdeal.nD Cert.PackReplRefIdeal.τ).loc Cert.PackReplRefIdeal.main_arg12)
          ∧ r.2.mem ((c.tc : Thread Cert.PackReplRefIdeal.nD Cert.PackReplRefIdeal.τ).loc Cert.PackReplRefIdeal.main_arg13) = m' ((c.tc : Thread Cert.PackReplRefIdeal.nD Cert.PackReplRefIdeal.τ).loc Cert.PackReplRefIdeal.main_arg13)
          ∧ r.2.mem ((c.tc : Thread Cert.PackReplRefIdeal.nD Cert.PackReplRefIdeal.τ).loc Cert.PackReplRefIdeal.main_arg14) = m' ((c.tc : Thread Cert.PackReplRefIdeal.nD Cert.PackReplRefIdeal.τ).loc Cert.PackReplRefIdeal.main_arg14)
          ∧ r.2.mem ((c.tc : Thread Cert.PackReplRefIdeal.nD Cert.PackReplRefIdeal.τ).loc Cert.PackReplRefIdeal.main_arg15) = m' ((c.tc : Thread Cert.PackReplRefIdeal.nD Cert.PackReplRefIdeal.τ).loc Cert.PackReplRefIdeal.main_arg15)
          ∧ r.2.mem ((c.tc : Thread Cert.PackReplRefIdeal.nD Cert.PackReplRefIdeal.τ).loc Cert.PackReplRefIdeal.main_arg16) = m' ((c.tc : Thread Cert.PackReplRefIdeal.nD Cert.PackReplRefIdeal.τ).loc Cert.PackReplRefIdeal.main_arg16)
          ∧ r.2.mem ((c.tc : Thread Cert.PackReplRefIdeal.nD Cert.PackReplRefIdeal.τ).loc Cert.PackReplRefIdeal.main_arg17) = m' ((c.tc : Thread Cert.PackReplRefIdeal.nD Cert.PackReplRefIdeal.τ).loc Cert.PackReplRefIdeal.main_arg17)
          ∧ r.2.mem ((c.tc : Thread Cert.PackReplRefIdeal.nD Cert.PackReplRefIdeal.τ).loc Cert.PackReplRefIdeal.main_arg18) = m' ((c.tc : Thread Cert.PackReplRefIdeal.nD Cert.PackReplRefIdeal.τ).loc Cert.PackReplRefIdeal.main_arg18)
          ∧ r.2.mem ((c.tc : Thread Cert.PackReplRefIdeal.nD Cert.PackReplRefIdeal.τ).loc Cert.PackReplRefIdeal.main_arg19) = m' ((c.tc : Thread Cert.PackReplRefIdeal.nD Cert.PackReplRefIdeal.τ).loc Cert.PackReplRefIdeal.main_arg19)
          ∧ r.2.mem ((c.tc : Thread Cert.PackReplRefIdeal.nD Cert.PackReplRefIdeal.τ).loc Cert.PackReplRefIdeal.main_arg20) = m' ((c.tc : Thread Cert.PackReplRefIdeal.nD Cert.PackReplRefIdeal.τ).loc Cert.PackReplRefIdeal.main_arg20)
          ∧ r.2.mem ((c.tc : Thread Cert.PackReplRefIdeal.nD Cert.PackReplRefIdeal.τ).loc Cert.PackReplRefIdeal.main_arg21) = m' ((c.tc : Thread Cert.PackReplRefIdeal.nD Cert.PackReplRefIdeal.τ).loc Cert.PackReplRefIdeal.main_arg21)
          ∧ r.2.mem ((c.tc : Thread Cert.PackReplRefIdeal.nD Cert.PackReplRefIdeal.τ).loc Cert.PackReplRefIdeal.main_arg22) = m' ((c.tc : Thread Cert.PackReplRefIdeal.nD Cert.PackReplRefIdeal.τ).loc Cert.PackReplRefIdeal.main_arg22)
          ∧ r.2.mem ((c.tc : Thread Cert.PackReplRefIdeal.nD Cert.PackReplRefIdeal.τ).loc Cert.PackReplRefIdeal.main_arg23) = m' ((c.tc : Thread Cert.PackReplRefIdeal.nD Cert.PackReplRefIdeal.τ).loc Cert.PackReplRefIdeal.main_arg23)
          ∧ r.2.mem ((c.tc : Thread Cert.PackReplRefIdeal.nD Cert.PackReplRefIdeal.τ).loc Cert.PackReplRefIdeal.main_arg24) = m' ((c.tc : Thread Cert.PackReplRefIdeal.nD Cert.PackReplRefIdeal.τ).loc Cert.PackReplRefIdeal.main_arg24)
          ∧ r.2.mem ((c.tc : Thread Cert.PackReplRefIdeal.nD Cert.PackReplRefIdeal.τ).loc Cert.PackReplRefIdeal.main_arg25) = m' ((c.tc : Thread Cert.PackReplRefIdeal.nD Cert.PackReplRefIdeal.τ).loc Cert.PackReplRefIdeal.main_arg25)
          ∧ r.2.mem ((c.tc : Thread Cert.PackReplRefIdeal.nD Cert.PackReplRefIdeal.τ).loc Cert.PackReplRefIdeal.main_arg26) = m' ((c.tc : Thread Cert.PackReplRefIdeal.nD Cert.PackReplRefIdeal.τ).loc Cert.PackReplRefIdeal.main_arg26)
          ∧ r.2.mem ((c.tc : Thread Cert.PackReplRefIdeal.nD Cert.PackReplRefIdeal.τ).loc Cert.PackReplRefIdeal.main_arg27) = m' ((c.tc : Thread Cert.PackReplRefIdeal.nD Cert.PackReplRefIdeal.τ).loc Cert.PackReplRefIdeal.main_arg27))

def preserves_AddWin_AddWinIdeal : Prop :=
  True

def algebraic_AddWinIdeal_AddWinRefIdeal [hAddWinIdeal : Cert.AddWinIdeal.Facts] [hAddWinRefIdeal : Cert.AddWinRefIdeal.Facts] : Prop :=
  ∀ (m : (ℓ : Loc Cert.AddWinIdeal.nD Cert.AddWinIdeal.τ Cert.AddWinIdeal.sig) → Buf (Elt Ideal) ℓ) (g : Dev Cert.AddWinIdeal.nD → PrngReg)
    (m' : (ℓ : Loc Cert.AddWinRefIdeal.nD Cert.AddWinRefIdeal.τ Cert.AddWinRefIdeal.sig) → Buf (Elt Ideal) ℓ) (g' : Dev Cert.AddWinRefIdeal.nD → PrngReg), Pre_AddWinIdeal m →
    (∀ c : Dev Cert.AddWinIdeal.nD,
      m' ((c.tc : Thread Cert.AddWinRefIdeal.nD Cert.AddWinRefIdeal.τ).loc Cert.AddWinRefIdeal.main_arg0) = m ((c.tc : Thread Cert.AddWinIdeal.nD Cert.AddWinIdeal.τ).loc Cert.AddWinIdeal.main_arg0)
      ∧ m' ((c.tc : Thread Cert.AddWinRefIdeal.nD Cert.AddWinRefIdeal.τ).loc Cert.AddWinRefIdeal.main_arg1) = m ((c.tc : Thread Cert.AddWinIdeal.nD Cert.AddWinIdeal.τ).loc Cert.AddWinIdeal.main_arg1)) →
    ∃ (v0 : (c : Dev Cert.AddWinIdeal.nD) → Buf (Elt Ideal) ((c.tc : Thread Cert.AddWinIdeal.nD Cert.AddWinIdeal.τ).loc Cert.AddWinIdeal.main_v0)),
      θ_run (Cert.AddWinIdeal.defs (F := Ideal)) (onTc (τ := Cert.AddWinIdeal.τ) (Cert.AddWinIdeal.main (F := Ideal))) ⟨m, fun _ => 0, g⟩ (fun r => ∀ c : Dev Cert.AddWinIdeal.nD,
          r.2.mem ((c.tc : Thread Cert.AddWinIdeal.nD Cert.AddWinIdeal.τ).loc Cert.AddWinIdeal.main_v0) = v0 c
          ∧ r.2.mem ((c.tc : Thread Cert.AddWinIdeal.nD Cert.AddWinIdeal.τ).loc Cert.AddWinIdeal.main_arg0) = m ((c.tc : Thread Cert.AddWinIdeal.nD Cert.AddWinIdeal.τ).loc Cert.AddWinIdeal.main_arg0)
          ∧ r.2.mem ((c.tc : Thread Cert.AddWinIdeal.nD Cert.AddWinIdeal.τ).loc Cert.AddWinIdeal.main_arg1) = m ((c.tc : Thread Cert.AddWinIdeal.nD Cert.AddWinIdeal.τ).loc Cert.AddWinIdeal.main_arg1))
      ∧ θ_run (Cert.AddWinRefIdeal.defs (F := Ideal)) (onTc (τ := Cert.AddWinRefIdeal.τ) (Cert.AddWinRefIdeal.main (F := Ideal))) ⟨m', fun _ => 0, g'⟩ (fun r => ∀ c : Dev Cert.AddWinRefIdeal.nD,
          r.2.mem ((c.tc : Thread Cert.AddWinRefIdeal.nD Cert.AddWinRefIdeal.τ).loc Cert.AddWinRefIdeal.main_v3) = v0 c
          ∧ r.2.mem ((c.tc : Thread Cert.AddWinRefIdeal.nD Cert.AddWinRefIdeal.τ).loc Cert.AddWinRefIdeal.main_arg0) = m' ((c.tc : Thread Cert.AddWinRefIdeal.nD Cert.AddWinRefIdeal.τ).loc Cert.AddWinRefIdeal.main_arg0)
          ∧ r.2.mem ((c.tc : Thread Cert.AddWinRefIdeal.nD Cert.AddWinRefIdeal.τ).loc Cert.AddWinRefIdeal.main_arg1) = m' ((c.tc : Thread Cert.AddWinRefIdeal.nD Cert.AddWinRefIdeal.τ).loc Cert.AddWinRefIdeal.main_arg1))

def preserves_AddUp_AddUpIdeal : Prop :=
  True

def algebraic_AddUpIdeal_AddUpRefIdeal [hAddUpIdeal : Cert.AddUpIdeal.Facts] [hAddUpRefIdeal : Cert.AddUpRefIdeal.Facts] : Prop :=
  ∀ (m : (ℓ : Loc Cert.AddUpIdeal.nD Cert.AddUpIdeal.τ Cert.AddUpIdeal.sig) → Buf (Elt Ideal) ℓ) (g : Dev Cert.AddUpIdeal.nD → PrngReg)
    (m' : (ℓ : Loc Cert.AddUpRefIdeal.nD Cert.AddUpRefIdeal.τ Cert.AddUpRefIdeal.sig) → Buf (Elt Ideal) ℓ) (g' : Dev Cert.AddUpRefIdeal.nD → PrngReg), Pre_AddUpIdeal m →
    (∀ c : Dev Cert.AddUpIdeal.nD,
      m' ((c.tc : Thread Cert.AddUpRefIdeal.nD Cert.AddUpRefIdeal.τ).loc Cert.AddUpRefIdeal.main_arg0) = m ((c.tc : Thread Cert.AddUpIdeal.nD Cert.AddUpIdeal.τ).loc Cert.AddUpIdeal.main_arg0)
      ∧ m' ((c.tc : Thread Cert.AddUpRefIdeal.nD Cert.AddUpRefIdeal.τ).loc Cert.AddUpRefIdeal.main_arg1) = m ((c.tc : Thread Cert.AddUpIdeal.nD Cert.AddUpIdeal.τ).loc Cert.AddUpIdeal.main_arg1)) →
    ∃ (v0 : (c : Dev Cert.AddUpIdeal.nD) → Buf (Elt Ideal) ((c.tc : Thread Cert.AddUpIdeal.nD Cert.AddUpIdeal.τ).loc Cert.AddUpIdeal.main_v0)),
      θ_run (Cert.AddUpIdeal.defs (F := Ideal)) (onTc (τ := Cert.AddUpIdeal.τ) (Cert.AddUpIdeal.main (F := Ideal))) ⟨m, fun _ => 0, g⟩ (fun r => ∀ c : Dev Cert.AddUpIdeal.nD,
          r.2.mem ((c.tc : Thread Cert.AddUpIdeal.nD Cert.AddUpIdeal.τ).loc Cert.AddUpIdeal.main_v0) = v0 c
          ∧ r.2.mem ((c.tc : Thread Cert.AddUpIdeal.nD Cert.AddUpIdeal.τ).loc Cert.AddUpIdeal.main_arg0) = m ((c.tc : Thread Cert.AddUpIdeal.nD Cert.AddUpIdeal.τ).loc Cert.AddUpIdeal.main_arg0)
          ∧ r.2.mem ((c.tc : Thread Cert.AddUpIdeal.nD Cert.AddUpIdeal.τ).loc Cert.AddUpIdeal.main_arg1) = m ((c.tc : Thread Cert.AddUpIdeal.nD Cert.AddUpIdeal.τ).loc Cert.AddUpIdeal.main_arg1))
      ∧ θ_run (Cert.AddUpRefIdeal.defs (F := Ideal)) (onTc (τ := Cert.AddUpRefIdeal.τ) (Cert.AddUpRefIdeal.main (F := Ideal))) ⟨m', fun _ => 0, g'⟩ (fun r => ∀ c : Dev Cert.AddUpRefIdeal.nD,
          r.2.mem ((c.tc : Thread Cert.AddUpRefIdeal.nD Cert.AddUpRefIdeal.τ).loc Cert.AddUpRefIdeal.main_v3) = v0 c
          ∧ r.2.mem ((c.tc : Thread Cert.AddUpRefIdeal.nD Cert.AddUpRefIdeal.τ).loc Cert.AddUpRefIdeal.main_arg0) = m' ((c.tc : Thread Cert.AddUpRefIdeal.nD Cert.AddUpRefIdeal.τ).loc Cert.AddUpRefIdeal.main_arg0)
          ∧ r.2.mem ((c.tc : Thread Cert.AddUpRefIdeal.nD Cert.AddUpRefIdeal.τ).loc Cert.AddUpRefIdeal.main_arg1) = m' ((c.tc : Thread Cert.AddUpRefIdeal.nD Cert.AddUpRefIdeal.τ).loc Cert.AddUpRefIdeal.main_arg1))

def preserves_AddRow_AddRowIdeal : Prop :=
  True

def algebraic_AddRowIdeal_AddRowRefIdeal [hAddRowIdeal : Cert.AddRowIdeal.Facts] [hAddRowRefIdeal : Cert.AddRowRefIdeal.Facts] : Prop :=
  ∀ (m : (ℓ : Loc Cert.AddRowIdeal.nD Cert.AddRowIdeal.τ Cert.AddRowIdeal.sig) → Buf (Elt Ideal) ℓ) (g : Dev Cert.AddRowIdeal.nD → PrngReg)
    (m' : (ℓ : Loc Cert.AddRowRefIdeal.nD Cert.AddRowRefIdeal.τ Cert.AddRowRefIdeal.sig) → Buf (Elt Ideal) ℓ) (g' : Dev Cert.AddRowRefIdeal.nD → PrngReg), Pre_AddRowIdeal m →
    (∀ c : Dev Cert.AddRowIdeal.nD,
      m' ((c.tc : Thread Cert.AddRowRefIdeal.nD Cert.AddRowRefIdeal.τ).loc Cert.AddRowRefIdeal.main_arg0) = m ((c.tc : Thread Cert.AddRowIdeal.nD Cert.AddRowIdeal.τ).loc Cert.AddRowIdeal.main_arg0)
      ∧ m' ((c.tc : Thread Cert.AddRowRefIdeal.nD Cert.AddRowRefIdeal.τ).loc Cert.AddRowRefIdeal.main_arg1) = m ((c.tc : Thread Cert.AddRowIdeal.nD Cert.AddRowIdeal.τ).loc Cert.AddRowIdeal.main_arg1)) →
    ∃ (v0 : (c : Dev Cert.AddRowIdeal.nD) → Buf (Elt Ideal) ((c.tc : Thread Cert.AddRowIdeal.nD Cert.AddRowIdeal.τ).loc Cert.AddRowIdeal.main_v0)),
      θ_run (Cert.AddRowIdeal.defs (F := Ideal)) (onTc (τ := Cert.AddRowIdeal.τ) (Cert.AddRowIdeal.main (F := Ideal))) ⟨m, fun _ => 0, g⟩ (fun r => ∀ c : Dev Cert.AddRowIdeal.nD,
          r.2.mem ((c.tc : Thread Cert.AddRowIdeal.nD Cert.AddRowIdeal.τ).loc Cert.AddRowIdeal.main_v0) = v0 c
          ∧ r.2.mem ((c.tc : Thread Cert.AddRowIdeal.nD Cert.AddRowIdeal.τ).loc Cert.AddRowIdeal.main_arg0) = m ((c.tc : Thread Cert.AddRowIdeal.nD Cert.AddRowIdeal.τ).loc Cert.AddRowIdeal.main_arg0)
          ∧ r.2.mem ((c.tc : Thread Cert.AddRowIdeal.nD Cert.AddRowIdeal.τ).loc Cert.AddRowIdeal.main_arg1) = m ((c.tc : Thread Cert.AddRowIdeal.nD Cert.AddRowIdeal.τ).loc Cert.AddRowIdeal.main_arg1))
      ∧ θ_run (Cert.AddRowRefIdeal.defs (F := Ideal)) (onTc (τ := Cert.AddRowRefIdeal.τ) (Cert.AddRowRefIdeal.main (F := Ideal))) ⟨m', fun _ => 0, g'⟩ (fun r => ∀ c : Dev Cert.AddRowRefIdeal.nD,
          r.2.mem ((c.tc : Thread Cert.AddRowRefIdeal.nD Cert.AddRowRefIdeal.τ).loc Cert.AddRowRefIdeal.main_v3) = v0 c
          ∧ r.2.mem ((c.tc : Thread Cert.AddRowRefIdeal.nD Cert.AddRowRefIdeal.τ).loc Cert.AddRowRefIdeal.main_arg0) = m' ((c.tc : Thread Cert.AddRowRefIdeal.nD Cert.AddRowRefIdeal.τ).loc Cert.AddRowRefIdeal.main_arg0)
          ∧ r.2.mem ((c.tc : Thread Cert.AddRowRefIdeal.nD Cert.AddRowRefIdeal.τ).loc Cert.AddRowRefIdeal.main_arg1) = m' ((c.tc : Thread Cert.AddRowRefIdeal.nD Cert.AddRowRefIdeal.τ).loc Cert.AddRowRefIdeal.main_arg1))

def preserves_AddDown_AddDownIdeal : Prop :=
  True

def algebraic_AddDownIdeal_AddDownRefIdeal [hAddDownIdeal : Cert.AddDownIdeal.Facts] [hAddDownRefIdeal : Cert.AddDownRefIdeal.Facts] : Prop :=
  ∀ (m : (ℓ : Loc Cert.AddDownIdeal.nD Cert.AddDownIdeal.τ Cert.AddDownIdeal.sig) → Buf (Elt Ideal) ℓ) (g : Dev Cert.AddDownIdeal.nD → PrngReg)
    (m' : (ℓ : Loc Cert.AddDownRefIdeal.nD Cert.AddDownRefIdeal.τ Cert.AddDownRefIdeal.sig) → Buf (Elt Ideal) ℓ) (g' : Dev Cert.AddDownRefIdeal.nD → PrngReg), Pre_AddDownIdeal m →
    (∀ c : Dev Cert.AddDownIdeal.nD,
      m' ((c.tc : Thread Cert.AddDownRefIdeal.nD Cert.AddDownRefIdeal.τ).loc Cert.AddDownRefIdeal.main_arg0) = m ((c.tc : Thread Cert.AddDownIdeal.nD Cert.AddDownIdeal.τ).loc Cert.AddDownIdeal.main_arg0)
      ∧ m' ((c.tc : Thread Cert.AddDownRefIdeal.nD Cert.AddDownRefIdeal.τ).loc Cert.AddDownRefIdeal.main_arg1) = m ((c.tc : Thread Cert.AddDownIdeal.nD Cert.AddDownIdeal.τ).loc Cert.AddDownIdeal.main_arg1)) →
    ∃ (v0 : (c : Dev Cert.AddDownIdeal.nD) → Buf (Elt Ideal) ((c.tc : Thread Cert.AddDownIdeal.nD Cert.AddDownIdeal.τ).loc Cert.AddDownIdeal.main_v0)),
      θ_run (Cert.AddDownIdeal.defs (F := Ideal)) (onTc (τ := Cert.AddDownIdeal.τ) (Cert.AddDownIdeal.main (F := Ideal))) ⟨m, fun _ => 0, g⟩ (fun r => ∀ c : Dev Cert.AddDownIdeal.nD,
          r.2.mem ((c.tc : Thread Cert.AddDownIdeal.nD Cert.AddDownIdeal.τ).loc Cert.AddDownIdeal.main_v0) = v0 c
          ∧ r.2.mem ((c.tc : Thread Cert.AddDownIdeal.nD Cert.AddDownIdeal.τ).loc Cert.AddDownIdeal.main_arg0) = m ((c.tc : Thread Cert.AddDownIdeal.nD Cert.AddDownIdeal.τ).loc Cert.AddDownIdeal.main_arg0)
          ∧ r.2.mem ((c.tc : Thread Cert.AddDownIdeal.nD Cert.AddDownIdeal.τ).loc Cert.AddDownIdeal.main_arg1) = m ((c.tc : Thread Cert.AddDownIdeal.nD Cert.AddDownIdeal.τ).loc Cert.AddDownIdeal.main_arg1))
      ∧ θ_run (Cert.AddDownRefIdeal.defs (F := Ideal)) (onTc (τ := Cert.AddDownRefIdeal.τ) (Cert.AddDownRefIdeal.main (F := Ideal))) ⟨m', fun _ => 0, g'⟩ (fun r => ∀ c : Dev Cert.AddDownRefIdeal.nD,
          r.2.mem ((c.tc : Thread Cert.AddDownRefIdeal.nD Cert.AddDownRefIdeal.τ).loc Cert.AddDownRefIdeal.main_v3) = v0 c
          ∧ r.2.mem ((c.tc : Thread Cert.AddDownRefIdeal.nD Cert.AddDownRefIdeal.τ).loc Cert.AddDownRefIdeal.main_arg0) = m' ((c.tc : Thread Cert.AddDownRefIdeal.nD Cert.AddDownRefIdeal.τ).loc Cert.AddDownRefIdeal.main_arg0)
          ∧ r.2.mem ((c.tc : Thread Cert.AddDownRefIdeal.nD Cert.AddDownRefIdeal.τ).loc Cert.AddDownRefIdeal.main_arg1) = m' ((c.tc : Thread Cert.AddDownRefIdeal.nD Cert.AddDownRefIdeal.τ).loc Cert.AddDownRefIdeal.main_arg1))

def preserves_AddSmall_AddSmallIdeal : Prop :=
  True

def algebraic_AddSmallIdeal_AddSmallRefIdeal [hAddSmallIdeal : Cert.AddSmallIdeal.Facts] [hAddSmallRefIdeal : Cert.AddSmallRefIdeal.Facts] : Prop :=
  ∀ (m : (ℓ : Loc Cert.AddSmallIdeal.nD Cert.AddSmallIdeal.τ Cert.AddSmallIdeal.sig) → Buf (Elt Ideal) ℓ) (g : Dev Cert.AddSmallIdeal.nD → PrngReg)
    (m' : (ℓ : Loc Cert.AddSmallRefIdeal.nD Cert.AddSmallRefIdeal.τ Cert.AddSmallRefIdeal.sig) → Buf (Elt Ideal) ℓ) (g' : Dev Cert.AddSmallRefIdeal.nD → PrngReg), Pre_AddSmallIdeal m →
    (∀ c : Dev Cert.AddSmallIdeal.nD,
      m' ((c.tc : Thread Cert.AddSmallRefIdeal.nD Cert.AddSmallRefIdeal.τ).loc Cert.AddSmallRefIdeal.main_arg0) = m ((c.tc : Thread Cert.AddSmallIdeal.nD Cert.AddSmallIdeal.τ).loc Cert.AddSmallIdeal.main_arg0)
      ∧ m' ((c.tc : Thread Cert.AddSmallRefIdeal.nD Cert.AddSmallRefIdeal.τ).loc Cert.AddSmallRefIdeal.main_arg1) = m ((c.tc : Thread Cert.AddSmallIdeal.nD Cert.AddSmallIdeal.τ).loc Cert.AddSmallIdeal.main_arg1)) →
    ∃ (v0 : (c : Dev Cert.AddSmallIdeal.nD) → Buf (Elt Ideal) ((c.tc : Thread Cert.AddSmallIdeal.nD Cert.AddSmallIdeal.τ).loc Cert.AddSmallIdeal.main_v0)),
      θ_run (Cert.AddSmallIdeal.defs (F := Ideal)) (onTc (τ := Cert.AddSmallIdeal.τ) (Cert.AddSmallIdeal.main (F := Ideal))) ⟨m, fun _ => 0, g⟩ (fun r => ∀ c : Dev Cert.AddSmallIdeal.nD,
          r.2.mem ((c.tc : Thread Cert.AddSmallIdeal.nD Cert.AddSmallIdeal.τ).loc Cert.AddSmallIdeal.main_v0) = v0 c
          ∧ r.2.mem ((c.tc : Thread Cert.AddSmallIdeal.nD Cert.AddSmallIdeal.τ).loc Cert.AddSmallIdeal.main_arg0) = m ((c.tc : Thread Cert.AddSmallIdeal.nD Cert.AddSmallIdeal.τ).loc Cert.AddSmallIdeal.main_arg0)
          ∧ r.2.mem ((c.tc : Thread Cert.AddSmallIdeal.nD Cert.AddSmallIdeal.τ).loc Cert.AddSmallIdeal.main_arg1) = m ((c.tc : Thread Cert.AddSmallIdeal.nD Cert.AddSmallIdeal.τ).loc Cert.AddSmallIdeal.main_arg1))
      ∧ θ_run (Cert.AddSmallRefIdeal.defs (F := Ideal)) (onTc (τ := Cert.AddSmallRefIdeal.τ) (Cert.AddSmallRefIdeal.main (F := Ideal))) ⟨m', fun _ => 0, g'⟩ (fun r => ∀ c : Dev Cert.AddSmallRefIdeal.nD,
          r.2.mem ((c.tc : Thread Cert.AddSmallRefIdeal.nD Cert.AddSmallRefIdeal.τ).loc Cert.AddSmallRefIdeal.main_v0) = v0 c
          ∧ r.2.mem ((c.tc : Thread Cert.AddSmallRefIdeal.nD Cert.AddSmallRefIdeal.τ).loc Cert.AddSmallRefIdeal.main_arg0) = m' ((c.tc : Thread Cert.AddSmallRefIdeal.nD Cert.AddSmallRefIdeal.τ).loc Cert.AddSmallRefIdeal.main_arg0)
          ∧ r.2.mem ((c.tc : Thread Cert.AddSmallRefIdeal.nD Cert.AddSmallRefIdeal.τ).loc Cert.AddSmallRefIdeal.main_arg1) = m' ((c.tc : Thread Cert.AddSmallRefIdeal.nD Cert.AddSmallRefIdeal.τ).loc Cert.AddSmallRefIdeal.main_arg1))

def preserves_SumWin_SumWinIdeal : Prop :=
  True

def algebraic_SumWinIdeal_SumWinRefIdeal [hSumWinIdeal : Cert.SumWinIdeal.Facts] [hSumWinRefIdeal : Cert.SumWinRefIdeal.Facts] : Prop :=
  ∀ (m : (ℓ : Loc Cert.SumWinIdeal.nD Cert.SumWinIdeal.τ Cert.SumWinIdeal.sig) → Buf (Elt Ideal) ℓ) (g : Dev Cert.SumWinIdeal.nD → PrngReg)
    (m' : (ℓ : Loc Cert.SumWinRefIdeal.nD Cert.SumWinRefIdeal.τ Cert.SumWinRefIdeal.sig) → Buf (Elt Ideal) ℓ) (g' : Dev Cert.SumWinRefIdeal.nD → PrngReg), Pre_SumWinIdeal m →
    (∀ c : Dev Cert.SumWinIdeal.nD,
      m' ((c.tc : Thread Cert.SumWinRefIdeal.nD Cert.SumWinRefIdeal.τ).loc Cert.SumWinRefIdeal.main_arg0) = m ((c.tc : Thread Cert.SumWinIdeal.nD Cert.SumWinIdeal.τ).loc Cert.SumWinIdeal.main_arg0)) →
    ∃ (v0 : (c : Dev Cert.SumWinIdeal.nD) → Buf (Elt Ideal) ((c.tc : Thread Cert.SumWinIdeal.nD Cert.SumWinIdeal.τ).loc Cert.SumWinIdeal.main_v0)),
      θ_run (Cert.SumWinIdeal.defs (F := Ideal)) (onTc (τ := Cert.SumWinIdeal.τ) (Cert.SumWinIdeal.main (F := Ideal))) ⟨m, fun _ => 0, g⟩ (fun r => ∀ c : Dev Cert.SumWinIdeal.nD,
          r.2.mem ((c.tc : Thread Cert.SumWinIdeal.nD Cert.SumWinIdeal.τ).loc Cert.SumWinIdeal.main_v0) = v0 c
          ∧ r.2.mem ((c.tc : Thread Cert.SumWinIdeal.nD Cert.SumWinIdeal.τ).loc Cert.SumWinIdeal.main_arg0) = m ((c.tc : Thread Cert.SumWinIdeal.nD Cert.SumWinIdeal.τ).loc Cert.SumWinIdeal.main_arg0))
      ∧ θ_run (Cert.SumWinRefIdeal.defs (F := Ideal)) (onTc (τ := Cert.SumWinRefIdeal.τ) (Cert.SumWinRefIdeal.main (F := Ideal))) ⟨m', fun _ => 0, g'⟩ (fun r => ∀ c : Dev Cert.SumWinRefIdeal.nD,
          r.2.mem ((c.tc : Thread Cert.SumWinRefIdeal.nD Cert.SumWinRefIdeal.τ).loc Cert.SumWinRefIdeal.main_v1) = v0 c
          ∧ r.2.mem ((c.tc : Thread Cert.SumWinRefIdeal.nD Cert.SumWinRefIdeal.τ).loc Cert.SumWinRefIdeal.main_arg0) = m' ((c.tc : Thread Cert.SumWinRefIdeal.nD Cert.SumWinRefIdeal.τ).loc Cert.SumWinRefIdeal.main_arg0))

def preserves_SumUp_SumUpIdeal : Prop :=
  True

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)) →
    ∃ (v0 : (c : Dev Cert.SumUpIdeal.nD) → Buf (Elt Ideal) ((c.tc : Thread Cert.SumUpIdeal.nD Cert.SumUpIdeal.τ).loc Cert.SumUpIdeal.main_v0)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v0) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v1) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0))

def preserves_SumRow_SumRowIdeal : Prop :=
  True

def algebraic_SumRowIdeal_SumRowRefIdeal [hSumRowIdeal : Cert.SumRowIdeal.Facts] [hSumRowRefIdeal : Cert.SumRowRefIdeal.Facts] : Prop :=
  ∀ (m : (ℓ : Loc Cert.SumRowIdeal.nD Cert.SumRowIdeal.τ Cert.SumRowIdeal.sig) → Buf (Elt Ideal) ℓ) (g : Dev Cert.SumRowIdeal.nD → PrngReg)
    (m' : (ℓ : Loc Cert.SumRowRefIdeal.nD Cert.SumRowRefIdeal.τ Cert.SumRowRefIdeal.sig) → Buf (Elt Ideal) ℓ) (g' : Dev Cert.SumRowRefIdeal.nD → PrngReg), Pre_SumRowIdeal m →
    (∀ c : Dev Cert.SumRowIdeal.nD,
      m' ((c.tc : Thread Cert.SumRowRefIdeal.nD Cert.SumRowRefIdeal.τ).loc Cert.SumRowRefIdeal.main_arg0) = m ((c.tc : Thread Cert.SumRowIdeal.nD Cert.SumRowIdeal.τ).loc Cert.SumRowIdeal.main_arg0)) →
    ∃ (v0 : (c : Dev Cert.SumRowIdeal.nD) → Buf (Elt Ideal) ((c.tc : Thread Cert.SumRowIdeal.nD Cert.SumRowIdeal.τ).loc Cert.SumRowIdeal.main_v0)),
      θ_run (Cert.SumRowIdeal.defs (F := Ideal)) (onTc (τ := Cert.SumRowIdeal.τ) (Cert.SumRowIdeal.main (F := Ideal))) ⟨m, fun _ => 0, g⟩ (fun r => ∀ c : Dev Cert.SumRowIdeal.nD,
          r.2.mem ((c.tc : Thread Cert.SumRowIdeal.nD Cert.SumRowIdeal.τ).loc Cert.SumRowIdeal.main_v0) = v0 c
          ∧ r.2.mem ((c.tc : Thread Cert.SumRowIdeal.nD Cert.SumRowIdeal.τ).loc Cert.SumRowIdeal.main_arg0) = m ((c.tc : Thread Cert.SumRowIdeal.nD Cert.SumRowIdeal.τ).loc Cert.SumRowIdeal.main_arg0))
      ∧ θ_run (Cert.SumRowRefIdeal.defs (F := Ideal)) (onTc (τ := Cert.SumRowRefIdeal.τ) (Cert.SumRowRefIdeal.main (F := Ideal))) ⟨m', fun _ => 0, g'⟩ (fun r => ∀ c : Dev Cert.SumRowRefIdeal.nD,
          r.2.mem ((c.tc : Thread Cert.SumRowRefIdeal.nD Cert.SumRowRefIdeal.τ).loc Cert.SumRowRefIdeal.main_v1) = v0 c
          ∧ r.2.mem ((c.tc : Thread Cert.SumRowRefIdeal.nD Cert.SumRowRefIdeal.τ).loc Cert.SumRowRefIdeal.main_arg0) = m' ((c.tc : Thread Cert.SumRowRefIdeal.nD Cert.SumRowRefIdeal.τ).loc Cert.SumRowRefIdeal.main_arg0))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)) →
    ∃ (v0 : (c : Dev Cert.SumDownIdeal.nD) → Buf (Elt Ideal) ((c.tc : Thread Cert.SumDownIdeal.nD Cert.SumDownIdeal.τ).loc Cert.SumDownIdeal.main_v0)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v0) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v1) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumRepl_SumReplIdeal : Prop :=
  True

def algebraic_SumReplIdeal_SumReplRefIdeal [hSumReplIdeal : Cert.SumReplIdeal.Facts] [hSumReplRefIdeal : Cert.SumReplRefIdeal.Facts] : Prop :=
  ∀ (m : (ℓ : Loc Cert.SumReplIdeal.nD Cert.SumReplIdeal.τ Cert.SumReplIdeal.sig) → Buf (Elt Ideal) ℓ) (g : Dev Cert.SumReplIdeal.nD → PrngReg)
    (m' : (ℓ : Loc Cert.SumReplRefIdeal.nD Cert.SumReplRefIdeal.τ Cert.SumReplRefIdeal.sig) → Buf (Elt Ideal) ℓ) (g' : Dev Cert.SumReplRefIdeal.nD → PrngReg), Pre_SumReplIdeal m →
    (∀ c : Dev Cert.SumReplIdeal.nD,
      m' ((c.tc : Thread Cert.SumReplRefIdeal.nD Cert.SumReplRefIdeal.τ).loc Cert.SumReplRefIdeal.main_arg0) = m ((c.tc : Thread Cert.SumReplIdeal.nD Cert.SumReplIdeal.τ).loc Cert.SumReplIdeal.main_arg0)) →
    ∃ (v0 : (c : Dev Cert.SumReplIdeal.nD) → Buf (Elt Ideal) ((c.tc : Thread Cert.SumReplIdeal.nD Cert.SumReplIdeal.τ).loc Cert.SumReplIdeal.main_v0)),
      θ_run (Cert.SumReplIdeal.defs (F := Ideal)) (onTc (τ := Cert.SumReplIdeal.τ) (Cert.SumReplIdeal.main (F := Ideal))) ⟨m, fun _ => 0, g⟩ (fun r => ∀ c : Dev Cert.SumReplIdeal.nD,
          r.2.mem ((c.tc : Thread Cert.SumReplIdeal.nD Cert.SumReplIdeal.τ).loc Cert.SumReplIdeal.main_v0) = v0 c
          ∧ r.2.mem ((c.tc : Thread Cert.SumReplIdeal.nD Cert.SumReplIdeal.τ).loc Cert.SumReplIdeal.main_arg0) = m ((c.tc : Thread Cert.SumReplIdeal.nD Cert.SumReplIdeal.τ).loc Cert.SumReplIdeal.main_arg0))
      ∧ θ_run (Cert.SumReplRefIdeal.defs (F := Ideal)) (onTc (τ := Cert.SumReplRefIdeal.τ) (Cert.SumReplRefIdeal.main (F := Ideal))) ⟨m', fun _ => 0, g'⟩ (fun r => ∀ c : Dev Cert.SumReplRefIdeal.nD,
          r.2.mem ((c.tc : Thread Cert.SumReplRefIdeal.nD Cert.SumReplRefIdeal.τ).loc Cert.SumReplRefIdeal.main_v0) = v0 c
          ∧ r.2.mem ((c.tc : Thread Cert.SumReplRefIdeal.nD Cert.SumReplRefIdeal.τ).loc Cert.SumReplRefIdeal.main_arg0) = m' ((c.tc : Thread Cert.SumReplRefIdeal.nD Cert.SumReplRefIdeal.τ).loc Cert.SumReplRefIdeal.main_arg0))

def preserves_NormBack_NormBackIdeal : Prop :=
  True

def algebraic_NormBackIdeal_NormBackRefIdeal [hNormBackIdeal : Cert.NormBackIdeal.Facts] [hNormBackRefIdeal : Cert.NormBackRefIdeal.Facts] : Prop :=
  ∀ (m : (ℓ : Loc Cert.NormBackIdeal.nD Cert.NormBackIdeal.τ Cert.NormBackIdeal.sig) → Buf (Elt Ideal) ℓ) (g : Dev Cert.NormBackIdeal.nD → PrngReg)
    (m' : (ℓ : Loc Cert.NormBackRefIdeal.nD Cert.NormBackRefIdeal.τ Cert.NormBackRefIdeal.sig) → Buf (Elt Ideal) ℓ) (g' : Dev Cert.NormBackRefIdeal.nD → PrngReg), Pre_NormBackIdeal m →
    (∀ c : Dev Cert.NormBackIdeal.nD,
      m' ((c.tc : Thread Cert.NormBackRefIdeal.nD Cert.NormBackRefIdeal.τ).loc Cert.NormBackRefIdeal.main_arg0) = m ((c.tc : Thread Cert.NormBackIdeal.nD Cert.NormBackIdeal.τ).loc Cert.NormBackIdeal.main_arg0)
      ∧ m' ((c.tc : Thread Cert.NormBackRefIdeal.nD Cert.NormBackRefIdeal.τ).loc Cert.NormBackRefIdeal.main_arg1) = m ((c.tc : Thread Cert.NormBackIdeal.nD Cert.NormBackIdeal.τ).loc Cert.NormBackIdeal.main_arg1)
      ∧ m' ((c.tc : Thread Cert.NormBackRefIdeal.nD Cert.NormBackRefIdeal.τ).loc Cert.NormBackRefIdeal.main_arg2) = m ((c.tc : Thread Cert.NormBackIdeal.nD Cert.NormBackIdeal.τ).loc Cert.NormBackIdeal.main_arg2)
      ∧ m' ((c.tc : Thread Cert.NormBackRefIdeal.nD Cert.NormBackRefIdeal.τ).loc Cert.NormBackRefIdeal.main_arg3) = m ((c.tc : Thread Cert.NormBackIdeal.nD Cert.NormBackIdeal.τ).loc Cert.NormBackIdeal.main_arg3)) →
    ∃ (v0 : (c : Dev Cert.NormBackIdeal.nD) → Buf (Elt Ideal) ((c.tc : Thread Cert.NormBackIdeal.nD Cert.NormBackIdeal.τ).loc Cert.NormBackIdeal.main_v0_0)) (v1 : (c : Dev Cert.NormBackIdeal.nD) → Buf (Elt Ideal) ((c.tc : Thread Cert.NormBackIdeal.nD Cert.NormBackIdeal.τ).loc Cert.NormBackIdeal.main_v0_1)),
      θ_run (Cert.NormBackIdeal.defs (F := Ideal)) (onTc (τ := Cert.NormBackIdeal.τ) (Cert.NormBackIdeal.main (F := Ideal))) ⟨m, fun _ => 0, g⟩ (fun r => ∀ c : Dev Cert.NormBackIdeal.nD,
          r.2.mem ((c.tc : Thread Cert.NormBackIdeal.nD Cert.NormBackIdeal.τ).loc Cert.NormBackIdeal.main_v0_0) = v0 c
          ∧ r.2.mem ((c.tc : Thread Cert.NormBackIdeal.nD Cert.NormBackIdeal.τ).loc Cert.NormBackIdeal.main_v0_1) = v1 c
          ∧ r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
          ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
          ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
          ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ θ_run (Cert.NormBackRefIdeal.defs (F := Ideal)) (onTc (τ := Cert.NormBackRefIdeal.τ) (Cert.NormBackRefIdeal.main (F := Ideal))) ⟨m', fun _ => 0, g'⟩ (fun r => ∀ c : Dev Cert.NormBackRefIdeal.nD,
          r.2.mem ((c.tc : Thread Cert.NormBackRefIdeal.nD Cert.NormBackRefIdeal.τ).loc Cert.NormBackRefIdeal.main_v34) = v0 c
          ∧ r.2.mem ((c.tc : Thread Cert.NormBackRefIdeal.nD Cert.NormBackRefIdeal.τ).loc Cert.NormBackRefIdeal.main_v17) = v1 c
          ∧ r.2.mem ((c.tc : Thread Cert.NormBackRefIdeal.nD Cert.NormBackRefIdeal.τ).loc Cert.NormBackRefIdeal.main_arg0) = m' ((c.tc : Thread Cert.NormBackRefIdeal.nD Cert.NormBackRefIdeal.τ).loc Cert.NormBackRefIdeal.main_arg0)
          ∧ r.2.mem ((c.tc : Thread Cert.NormBackRefIdeal.nD Cert.NormBackRefIdeal.τ).loc Cert.NormBackRefIdeal.main_arg1) = m' ((c.tc : Thread Cert.NormBackRefIdeal.nD Cert.NormBackRefIdeal.τ).loc Cert.NormBackRefIdeal.main_arg1)
          ∧ r.2.mem ((c.tc : Thread Cert.NormBackRefIdeal.nD Cert.NormBackRefIdeal.τ).loc Cert.NormBackRefIdeal.main_arg2) = m' ((c.tc : Thread Cert.NormBackRefIdeal.nD Cert.NormBackRefIdeal.τ).loc Cert.NormBackRefIdeal.main_arg2)
          ∧ r.2.mem ((c.tc : Thread Cert.NormBackRefIdeal.nD Cert.NormBackRefIdeal.τ).loc Cert.NormBackRefIdeal.main_arg3) = m' ((c.tc : Thread Cert.NormBackRefIdeal.nD Cert.NormBackRefIdeal.τ).loc Cert.NormBackRefIdeal.main_arg3))

def preserves_LastStep_LastStepIdeal : Prop :=
  True

def algebraic_LastStepIdeal_LastStepRefIdeal [hLastStepIdeal : Cert.LastStepIdeal.Facts] [hLastStepRefIdeal : Cert.LastStepRefIdeal.Facts] : Prop :=
  ∀ (m : (ℓ : Loc Cert.LastStepIdeal.nD Cert.LastStepIdeal.τ Cert.LastStepIdeal.sig) → Buf (Elt Ideal) ℓ) (g : Dev Cert.LastStepIdeal.nD → PrngReg)
    (m' : (ℓ : Loc Cert.LastStepRefIdeal.nD Cert.LastStepRefIdeal.τ Cert.LastStepRefIdeal.sig) → Buf (Elt Ideal) ℓ) (g' : Dev Cert.LastStepRefIdeal.nD → PrngReg), Pre_LastStepIdeal m →
    (∀ c : Dev Cert.LastStepIdeal.nD,
      m' ((c.tc : Thread Cert.LastStepRefIdeal.nD Cert.LastStepRefIdeal.τ).loc Cert.LastStepRefIdeal.main_arg0) = m ((c.tc : Thread Cert.LastStepIdeal.nD Cert.LastStepIdeal.τ).loc Cert.LastStepIdeal.main_arg0)
      ∧ m' ((c.tc : Thread Cert.LastStepRefIdeal.nD Cert.LastStepRefIdeal.τ).loc Cert.LastStepRefIdeal.main_arg1) = m ((c.tc : Thread Cert.LastStepIdeal.nD Cert.LastStepIdeal.τ).loc Cert.LastStepIdeal.main_arg1)
      ∧ m' ((c.tc : Thread Cert.LastStepRefIdeal.nD Cert.LastStepRefIdeal.τ).loc Cert.LastStepRefIdeal.main_arg2) = m ((c.tc : Thread Cert.LastStepIdeal.nD Cert.LastStepIdeal.τ).loc Cert.LastStepIdeal.main_arg2)
      ∧ m' ((c.tc : Thread Cert.LastStepRefIdeal.nD Cert.LastStepRefIdeal.τ).loc Cert.LastStepRefIdeal.main_arg3) = m ((c.tc : Thread Cert.LastStepIdeal.nD Cert.LastStepIdeal.τ).loc Cert.LastStepIdeal.main_arg3)
      ∧ m' ((c.tc : Thread Cert.LastStepRefIdeal.nD Cert.LastStepRefIdeal.τ).loc Cert.LastStepRefIdeal.main_arg4) = m ((c.tc : Thread Cert.LastStepIdeal.nD Cert.LastStepIdeal.τ).loc Cert.LastStepIdeal.main_arg4)) →
    ∃ (v0 : (c : Dev Cert.LastStepIdeal.nD) → Buf (Elt Ideal) ((c.tc : Thread Cert.LastStepIdeal.nD Cert.LastStepIdeal.τ).loc Cert.LastStepIdeal.main_v0_0)) (v1 : (c : Dev Cert.LastStepIdeal.nD) → Buf (Elt Ideal) ((c.tc : Thread Cert.LastStepIdeal.nD Cert.LastStepIdeal.τ).loc Cert.LastStepIdeal.main_v0_1)) (v2 : (c : Dev Cert.LastStepIdeal.nD) → Buf (Elt Ideal) ((c.tc : Thread Cert.LastStepIdeal.nD Cert.LastStepIdeal.τ).loc Cert.LastStepIdeal.main_v0_2)) (v3 : (c : Dev Cert.LastStepIdeal.nD) → Buf (Elt Ideal) ((c.tc : Thread Cert.LastStepIdeal.nD Cert.LastStepIdeal.τ).loc Cert.LastStepIdeal.main_v0_3)),
      θ_run (Cert.LastStepIdeal.defs (F := Ideal)) (onTc (τ := Cert.LastStepIdeal.τ) (Cert.LastStepIdeal.main (F := Ideal))) ⟨m, fun _ => 0, g⟩ (fun r => ∀ c : Dev Cert.LastStepIdeal.nD,
          r.2.mem ((c.tc : Thread Cert.LastStepIdeal.nD Cert.LastStepIdeal.τ).loc Cert.LastStepIdeal.main_v0_0) = v0 c
          ∧ r.2.mem ((c.tc : Thread Cert.LastStepIdeal.nD Cert.LastStepIdeal.τ).loc Cert.LastStepIdeal.main_v0_1) = v1 c
          ∧ r.2.mem ((c.tc : Thread Cert.LastStepIdeal.nD Cert.LastStepIdeal.τ).loc Cert.LastStepIdeal.main_v0_2) = v2 c
          ∧ r.2.mem ((c.tc : Thread Cert.LastStepIdeal.nD Cert.LastStepIdeal.τ).loc Cert.LastStepIdeal.main_v0_3) = v3 c
          ∧ r.2.mem ((c.tc : Thread Cert.LastStepIdeal.nD Cert.LastStepIdeal.τ).loc Cert.LastStepIdeal.main_arg0) = m ((c.tc : Thread Cert.LastStepIdeal.nD Cert.LastStepIdeal.τ).loc Cert.LastStepIdeal.main_arg0)
          ∧ r.2.mem ((c.tc : Thread Cert.LastStepIdeal.nD Cert.LastStepIdeal.τ).loc Cert.LastStepIdeal.main_arg1) = m ((c.tc : Thread Cert.LastStepIdeal.nD Cert.LastStepIdeal.τ).loc Cert.LastStepIdeal.main_arg1)
          ∧ r.2.mem ((c.tc : Thread Cert.LastStepIdeal.nD Cert.LastStepIdeal.τ).loc Cert.LastStepIdeal.main_arg2) = m ((c.tc : Thread Cert.LastStepIdeal.nD Cert.LastStepIdeal.τ).loc Cert.LastStepIdeal.main_arg2)
          ∧ r.2.mem ((c.tc : Thread Cert.LastStepIdeal.nD Cert.LastStepIdeal.τ).loc Cert.LastStepIdeal.main_arg3) = m ((c.tc : Thread Cert.LastStepIdeal.nD Cert.LastStepIdeal.τ).loc Cert.LastStepIdeal.main_arg3)
          ∧ r.2.mem ((c.tc : Thread Cert.LastStepIdeal.nD Cert.LastStepIdeal.τ).loc Cert.LastStepIdeal.main_arg4) = m ((c.tc : Thread Cert.LastStepIdeal.nD Cert.LastStepIdeal.τ).loc Cert.LastStepIdeal.main_arg4))
      ∧ θ_run (Cert.LastStepRefIdeal.defs (F := Ideal)) (onTc (τ := Cert.LastStepRefIdeal.τ) (Cert.LastStepRefIdeal.main (F := Ideal))) ⟨m', fun _ => 0, g'⟩ (fun r => ∀ c : Dev Cert.LastStepRefIdeal.nD,
          r.2.mem ((c.tc : Thread Cert.LastStepRefIdeal.nD Cert.LastStepRefIdeal.τ).loc Cert.LastStepRefIdeal.main_v33) = v0 c
          ∧ r.2.mem ((c.tc : Thread Cert.LastStepRefIdeal.nD Cert.LastStepRefIdeal.τ).loc Cert.LastStepRefIdeal.main_v53) = v1 c
          ∧ r.2.mem ((c.tc : Thread Cert.LastStepRefIdeal.nD Cert.LastStepRefIdeal.τ).loc Cert.LastStepRefIdeal.main_v54) = v2 c
          ∧ r.2.mem ((c.tc : Thread Cert.LastStepRefIdeal.nD Cert.LastStepRefIdeal.τ).loc Cert.LastStepRefIdeal.main_v36) = v3 c
          ∧ r.2.mem ((c.tc : Thread Cert.LastStepRefIdeal.nD Cert.LastStepRefIdeal.τ).loc Cert.LastStepRefIdeal.main_arg0) = m' ((c.tc : Thread Cert.LastStepRefIdeal.nD Cert.LastStepRefIdeal.τ).loc Cert.LastStepRefIdeal.main_arg0)
          ∧ r.2.mem ((c.tc : Thread Cert.LastStepRefIdeal.nD Cert.LastStepRefIdeal.τ).loc Cert.LastStepRefIdeal.main_arg1) = m' ((c.tc : Thread Cert.LastStepRefIdeal.nD Cert.LastStepRefIdeal.τ).loc Cert.LastStepRefIdeal.main_arg1)
          ∧ r.2.mem ((c.tc : Thread Cert.LastStepRefIdeal.nD Cert.LastStepRefIdeal.τ).loc Cert.LastStepRefIdeal.main_arg2) = m' ((c.tc : Thread Cert.LastStepRefIdeal.nD Cert.LastStepRefIdeal.τ).loc Cert.LastStepRefIdeal.main_arg2)
          ∧ r.2.mem ((c.tc : Thread Cert.LastStepRefIdeal.nD Cert.LastStepRefIdeal.τ).loc Cert.LastStepRefIdeal.main_arg3) = m' ((c.tc : Thread Cert.LastStepRefIdeal.nD Cert.LastStepRefIdeal.τ).loc Cert.LastStepRefIdeal.main_arg3)
          ∧ r.2.mem ((c.tc : Thread Cert.LastStepRefIdeal.nD Cert.LastStepRefIdeal.τ).loc Cert.LastStepRefIdeal.main_arg4) = m' ((c.tc : Thread Cert.LastStepRefIdeal.nD Cert.LastStepRefIdeal.τ).loc Cert.LastStepRefIdeal.main_arg4))

def preserves_MidNorms_MidNormsIdeal : Prop :=
  True

def algebraic_MidNormsIdeal_MidNormsRefIdeal [hMidNormsIdeal : Cert.MidNormsIdeal.Facts] [hMidNormsRefIdeal : Cert.MidNormsRefIdeal.Facts] : Prop :=
  ∀ (m : (ℓ : Loc Cert.MidNormsIdeal.nD Cert.MidNormsIdeal.τ Cert.MidNormsIdeal.sig) → Buf (Elt Ideal) ℓ) (g : Dev Cert.MidNormsIdeal.nD → PrngReg)
    (m' : (ℓ : Loc Cert.MidNormsRefIdeal.nD Cert.MidNormsRefIdeal.τ Cert.MidNormsRefIdeal.sig) → Buf (Elt Ideal) ℓ) (g' : Dev Cert.MidNormsRefIdeal.nD → PrngReg), Pre_MidNormsIdeal m →
    (∀ c : Dev Cert.MidNormsIdeal.nD,
      m' ((c.tc : Thread Cert.MidNormsRefIdeal.nD Cert.MidNormsRefIdeal.τ).loc Cert.MidNormsRefIdeal.main_arg0) = m ((c.tc : Thread Cert.MidNormsIdeal.nD Cert.MidNormsIdeal.τ).loc Cert.MidNormsIdeal.main_arg0)
      ∧ m' ((c.tc : Thread Cert.MidNormsRefIdeal.nD Cert.MidNormsRefIdeal.τ).loc Cert.MidNormsRefIdeal.main_arg1) = m ((c.tc : Thread Cert.MidNormsIdeal.nD Cert.MidNormsIdeal.τ).loc Cert.MidNormsIdeal.main_arg1)
      ∧ m' ((c.tc : Thread Cert.MidNormsRefIdeal.nD Cert.MidNormsRefIdeal.τ).loc Cert.MidNormsRefIdeal.main_arg2) = m ((c.tc : Thread Cert.MidNormsIdeal.nD Cert.MidNormsIdeal.τ).loc Cert.MidNormsIdeal.main_arg2)
      ∧ m' ((c.tc : Thread Cert.MidNormsRefIdeal.nD Cert.MidNormsRefIdeal.τ).loc Cert.MidNormsRefIdeal.main_arg3) = m ((c.tc : Thread Cert.MidNormsIdeal.nD Cert.MidNormsIdeal.τ).loc Cert.MidNormsIdeal.main_arg3)
      ∧ m' ((c.tc : Thread Cert.MidNormsRefIdeal.nD Cert.MidNormsRefIdeal.τ).loc Cert.MidNormsRefIdeal.main_arg4) = m ((c.tc : Thread Cert.MidNormsIdeal.nD Cert.MidNormsIdeal.τ).loc Cert.MidNormsIdeal.main_arg4)
      ∧ m' ((c.tc : Thread Cert.MidNormsRefIdeal.nD Cert.MidNormsRefIdeal.τ).loc Cert.MidNormsRefIdeal.main_arg5) = m ((c.tc : Thread Cert.MidNormsIdeal.nD Cert.MidNormsIdeal.τ).loc Cert.MidNormsIdeal.main_arg5)) →
    ∃ (v0 : (c : Dev Cert.MidNormsIdeal.nD) → Buf (Elt Ideal) ((c.tc : Thread Cert.MidNormsIdeal.nD Cert.MidNormsIdeal.τ).loc Cert.MidNormsIdeal.main_v0_0)) (v1 : (c : Dev Cert.MidNormsIdeal.nD) → Buf (Elt Ideal) ((c.tc : Thread Cert.MidNormsIdeal.nD Cert.MidNormsIdeal.τ).loc Cert.MidNormsIdeal.main_v0_1)) (v2 : (c : Dev Cert.MidNormsIdeal.nD) → Buf (Elt Ideal) ((c.tc : Thread Cert.MidNormsIdeal.nD Cert.MidNormsIdeal.τ).loc Cert.MidNormsIdeal.main_v0_2)) (v3 : (c : Dev Cert.MidNormsIdeal.nD) → Buf (Elt Ideal) ((c.tc : Thread Cert.MidNormsIdeal.nD Cert.MidNormsIdeal.τ).loc Cert.MidNormsIdeal.main_v0_3)),
      θ_run (Cert.MidNormsIdeal.defs (F := Ideal)) (onTc (τ := Cert.MidNormsIdeal.τ) (Cert.MidNormsIdeal.main (F := Ideal))) ⟨m, fun _ => 0, g⟩ (fun r => ∀ c : Dev Cert.MidNormsIdeal.nD,
          r.2.mem ((c.tc : Thread Cert.MidNormsIdeal.nD Cert.MidNormsIdeal.τ).loc Cert.MidNormsIdeal.main_v0_0) = v0 c
          ∧ r.2.mem ((c.tc : Thread Cert.MidNormsIdeal.nD Cert.MidNormsIdeal.τ).loc Cert.MidNormsIdeal.main_v0_1) = v1 c
          ∧ r.2.mem ((c.tc : Thread Cert.MidNormsIdeal.nD Cert.MidNormsIdeal.τ).loc Cert.MidNormsIdeal.main_v0_2) = v2 c
          ∧ r.2.mem ((c.tc : Thread Cert.MidNormsIdeal.nD Cert.MidNormsIdeal.τ).loc Cert.MidNormsIdeal.main_v0_3) = v3 c
          ∧ r.2.mem ((c.tc : Thread Cert.MidNormsIdeal.nD Cert.MidNormsIdeal.τ).loc Cert.MidNormsIdeal.main_arg0) = m ((c.tc : Thread Cert.MidNormsIdeal.nD Cert.MidNormsIdeal.τ).loc Cert.MidNormsIdeal.main_arg0)
          ∧ r.2.mem ((c.tc : Thread Cert.MidNormsIdeal.nD Cert.MidNormsIdeal.τ).loc Cert.MidNormsIdeal.main_arg1) = m ((c.tc : Thread Cert.MidNormsIdeal.nD Cert.MidNormsIdeal.τ).loc Cert.MidNormsIdeal.main_arg1)
          ∧ r.2.mem ((c.tc : Thread Cert.MidNormsIdeal.nD Cert.MidNormsIdeal.τ).loc Cert.MidNormsIdeal.main_arg2) = m ((c.tc : Thread Cert.MidNormsIdeal.nD Cert.MidNormsIdeal.τ).loc Cert.MidNormsIdeal.main_arg2)
          ∧ r.2.mem ((c.tc : Thread Cert.MidNormsIdeal.nD Cert.MidNormsIdeal.τ).loc Cert.MidNormsIdeal.main_arg3) = m ((c.tc : Thread Cert.MidNormsIdeal.nD Cert.MidNormsIdeal.τ).loc Cert.MidNormsIdeal.main_arg3)
          ∧ r.2.mem ((c.tc : Thread Cert.MidNormsIdeal.nD Cert.MidNormsIdeal.τ).loc Cert.MidNormsIdeal.main_arg4) = m ((c.tc : Thread Cert.MidNormsIdeal.nD Cert.MidNormsIdeal.τ).loc Cert.MidNormsIdeal.main_arg4)
          ∧ r.2.mem ((c.tc : Thread Cert.MidNormsIdeal.nD Cert.MidNormsIdeal.τ).loc Cert.MidNormsIdeal.main_arg5) = m ((c.tc : Thread Cert.MidNormsIdeal.nD Cert.MidNormsIdeal.τ).loc Cert.MidNormsIdeal.main_arg5))
      ∧ θ_run (Cert.MidNormsRefIdeal.defs (F := Ideal)) (onTc (τ := Cert.MidNormsRefIdeal.τ) (Cert.MidNormsRefIdeal.main (F := Ideal))) ⟨m', fun _ => 0, g'⟩ (fun r => ∀ c : Dev Cert.MidNormsRefIdeal.nD,
          r.2.mem ((c.tc : Thread Cert.MidNormsRefIdeal.nD Cert.MidNormsRefIdeal.τ).loc Cert.MidNormsRefIdeal.main_v34) = v0 c
          ∧ r.2.mem ((c.tc : Thread Cert.MidNormsRefIdeal.nD Cert.MidNormsRefIdeal.τ).loc Cert.MidNormsRefIdeal.main_v69) = v1 c
          ∧ r.2.mem ((c.tc : Thread Cert.MidNormsRefIdeal.nD Cert.MidNormsRefIdeal.τ).loc Cert.MidNormsRefIdeal.main_v17) = v2 c
          ∧ r.2.mem ((c.tc : Thread Cert.MidNormsRefIdeal.nD Cert.MidNormsRefIdeal.τ).loc Cert.MidNormsRefIdeal.main_v52) = v3 c
          ∧ r.2.mem ((c.tc : Thread Cert.MidNormsRefIdeal.nD Cert.MidNormsRefIdeal.τ).loc Cert.MidNormsRefIdeal.main_arg0) = m' ((c.tc : Thread Cert.MidNormsRefIdeal.nD Cert.MidNormsRefIdeal.τ).loc Cert.MidNormsRefIdeal.main_arg0)
          ∧ r.2.mem ((c.tc : Thread Cert.MidNormsRefIdeal.nD Cert.MidNormsRefIdeal.τ).loc Cert.MidNormsRefIdeal.main_arg1) = m' ((c.tc : Thread Cert.MidNormsRefIdeal.nD Cert.MidNormsRefIdeal.τ).loc Cert.MidNormsRefIdeal.main_arg1)
          ∧ r.2.mem ((c.tc : Thread Cert.MidNormsRefIdeal.nD Cert.MidNormsRefIdeal.τ).loc Cert.MidNormsRefIdeal.main_arg2) = m' ((c.tc : Thread Cert.MidNormsRefIdeal.nD Cert.MidNormsRefIdeal.τ).loc Cert.MidNormsRefIdeal.main_arg2)
          ∧ r.2.mem ((c.tc : Thread Cert.MidNormsRefIdeal.nD Cert.MidNormsRefIdeal.τ).loc Cert.MidNormsRefIdeal.main_arg3) = m' ((c.tc : Thread Cert.MidNormsRefIdeal.nD Cert.MidNormsRefIdeal.τ).loc Cert.MidNormsRefIdeal.main_arg3)
          ∧ r.2.mem ((c.tc : Thread Cert.MidNormsRefIdeal.nD Cert.MidNormsRefIdeal.τ).loc Cert.MidNormsRefIdeal.main_arg4) = m' ((c.tc : Thread Cert.MidNormsRefIdeal.nD Cert.MidNormsRefIdeal.τ).loc Cert.MidNormsRefIdeal.main_arg4)
          ∧ r.2.mem ((c.tc : Thread Cert.MidNormsRefIdeal.nD Cert.MidNormsRefIdeal.τ).loc Cert.MidNormsRefIdeal.main_arg5) = m' ((c.tc : Thread Cert.MidNormsRefIdeal.nD Cert.MidNormsRefIdeal.τ).loc Cert.MidNormsRefIdeal.main_arg5))

def preserves_BackWin_BackWinIdeal : Prop :=
  True

def algebraic_BackWinIdeal_BackWinRefIdeal [hBackWinIdeal : Cert.BackWinIdeal.Facts] [hBackWinRefIdeal : Cert.BackWinRefIdeal.Facts] : Prop :=
  ∀ (m : (ℓ : Loc Cert.BackWinIdeal.nD Cert.BackWinIdeal.τ Cert.BackWinIdeal.sig) → Buf (Elt Ideal) ℓ) (g : Dev Cert.BackWinIdeal.nD → PrngReg)
    (m' : (ℓ : Loc Cert.BackWinRefIdeal.nD Cert.BackWinRefIdeal.τ Cert.BackWinRefIdeal.sig) → Buf (Elt Ideal) ℓ) (g' : Dev Cert.BackWinRefIdeal.nD → PrngReg), Pre_BackWinIdeal m →
    (∀ c : Dev Cert.BackWinIdeal.nD,
      m' ((c.tc : Thread Cert.BackWinRefIdeal.nD Cert.BackWinRefIdeal.τ).loc Cert.BackWinRefIdeal.main_arg0) = m ((c.tc : Thread Cert.BackWinIdeal.nD Cert.BackWinIdeal.τ).loc Cert.BackWinIdeal.main_arg0)
      ∧ m' ((c.tc : Thread Cert.BackWinRefIdeal.nD Cert.BackWinRefIdeal.τ).loc Cert.BackWinRefIdeal.main_arg1) = m ((c.tc : Thread Cert.BackWinIdeal.nD Cert.BackWinIdeal.τ).loc Cert.BackWinIdeal.main_arg1)
      ∧ m' ((c.tc : Thread Cert.BackWinRefIdeal.nD Cert.BackWinRefIdeal.τ).loc Cert.BackWinRefIdeal.main_arg2) = m ((c.tc : Thread Cert.BackWinIdeal.nD Cert.BackWinIdeal.τ).loc Cert.BackWinIdeal.main_arg2)) →
    ∃ (v0 : (c : Dev Cert.BackWinIdeal.nD) → Buf (Elt Ideal) ((c.tc : Thread Cert.BackWinIdeal.nD Cert.BackWinIdeal.τ).loc Cert.BackWinIdeal.main_v0_0)) (v1 : (c : Dev Cert.BackWinIdeal.nD) → Buf (Elt Ideal) ((c.tc : Thread Cert.BackWinIdeal.nD Cert.BackWinIdeal.τ).loc Cert.BackWinIdeal.main_v0_1)),
      θ_run (Cert.BackWinIdeal.defs (F := Ideal)) (onTc (τ := Cert.BackWinIdeal.τ) (Cert.BackWinIdeal.main (F := Ideal))) ⟨m, fun _ => 0, g⟩ (fun r => ∀ c : Dev Cert.BackWinIdeal.nD,
          r.2.mem ((c.tc : Thread Cert.BackWinIdeal.nD Cert.BackWinIdeal.τ).loc Cert.BackWinIdeal.main_v0_0) = v0 c
          ∧ r.2.mem ((c.tc : Thread Cert.BackWinIdeal.nD Cert.BackWinIdeal.τ).loc Cert.BackWinIdeal.main_v0_1) = v1 c
          ∧ r.2.mem ((c.tc : Thread Cert.BackWinIdeal.nD Cert.BackWinIdeal.τ).loc Cert.BackWinIdeal.main_arg0) = m ((c.tc : Thread Cert.BackWinIdeal.nD Cert.BackWinIdeal.τ).loc Cert.BackWinIdeal.main_arg0)
          ∧ r.2.mem ((c.tc : Thread Cert.BackWinIdeal.nD Cert.BackWinIdeal.τ).loc Cert.BackWinIdeal.main_arg1) = m ((c.tc : Thread Cert.BackWinIdeal.nD Cert.BackWinIdeal.τ).loc Cert.BackWinIdeal.main_arg1)
          ∧ r.2.mem ((c.tc : Thread Cert.BackWinIdeal.nD Cert.BackWinIdeal.τ).loc Cert.BackWinIdeal.main_arg2) = m ((c.tc : Thread Cert.BackWinIdeal.nD Cert.BackWinIdeal.τ).loc Cert.BackWinIdeal.main_arg2))
      ∧ θ_run (Cert.BackWinRefIdeal.defs (F := Ideal)) (onTc (τ := Cert.BackWinRefIdeal.τ) (Cert.BackWinRefIdeal.main (F := Ideal))) ⟨m', fun _ => 0, g'⟩ (fun r => ∀ c : Dev Cert.BackWinRefIdeal.nD,
          r.2.mem ((c.tc : Thread Cert.BackWinRefIdeal.nD Cert.BackWinRefIdeal.τ).loc Cert.BackWinRefIdeal.main_v8) = v0 c
          ∧ r.2.mem ((c.tc : Thread Cert.BackWinRefIdeal.nD Cert.BackWinRefIdeal.τ).loc Cert.BackWinRefIdeal.main_v9) = v1 c
          ∧ r.2.mem ((c.tc : Thread Cert.BackWinRefIdeal.nD Cert.BackWinRefIdeal.τ).loc Cert.BackWinRefIdeal.main_arg0) = m' ((c.tc : Thread Cert.BackWinRefIdeal.nD Cert.BackWinRefIdeal.τ).loc Cert.BackWinRefIdeal.main_arg0)
          ∧ r.2.mem ((c.tc : Thread Cert.BackWinRefIdeal.nD Cert.BackWinRefIdeal.τ).loc Cert.BackWinRefIdeal.main_arg1) = m' ((c.tc : Thread Cert.BackWinRefIdeal.nD Cert.BackWinRefIdeal.τ).loc Cert.BackWinRefIdeal.main_arg1)
          ∧ r.2.mem ((c.tc : Thread Cert.BackWinRefIdeal.nD Cert.BackWinRefIdeal.τ).loc Cert.BackWinRefIdeal.main_arg2) = m' ((c.tc : Thread Cert.BackWinRefIdeal.nD Cert.BackWinRefIdeal.τ).loc Cert.BackWinRefIdeal.main_arg2))

def preserves_BackUp_BackUpIdeal : Prop :=
  True

def algebraic_BackUpIdeal_BackUpRefIdeal [hBackUpIdeal : Cert.BackUpIdeal.Facts] [hBackUpRefIdeal : Cert.BackUpRefIdeal.Facts] : Prop :=
  ∀ (m : (ℓ : Loc Cert.BackUpIdeal.nD Cert.BackUpIdeal.τ Cert.BackUpIdeal.sig) → Buf (Elt Ideal) ℓ) (g : Dev Cert.BackUpIdeal.nD → PrngReg)
    (m' : (ℓ : Loc Cert.BackUpRefIdeal.nD Cert.BackUpRefIdeal.τ Cert.BackUpRefIdeal.sig) → Buf (Elt Ideal) ℓ) (g' : Dev Cert.BackUpRefIdeal.nD → PrngReg), Pre_BackUpIdeal m →
    (∀ c : Dev Cert.BackUpIdeal.nD,
      m' ((c.tc : Thread Cert.BackUpRefIdeal.nD Cert.BackUpRefIdeal.τ).loc Cert.BackUpRefIdeal.main_arg0) = m ((c.tc : Thread Cert.BackUpIdeal.nD Cert.BackUpIdeal.τ).loc Cert.BackUpIdeal.main_arg0)
      ∧ m' ((c.tc : Thread Cert.BackUpRefIdeal.nD Cert.BackUpRefIdeal.τ).loc Cert.BackUpRefIdeal.main_arg1) = m ((c.tc : Thread Cert.BackUpIdeal.nD Cert.BackUpIdeal.τ).loc Cert.BackUpIdeal.main_arg1)
      ∧ m' ((c.tc : Thread Cert.BackUpRefIdeal.nD Cert.BackUpRefIdeal.τ).loc Cert.BackUpRefIdeal.main_arg2) = m ((c.tc : Thread Cert.BackUpIdeal.nD Cert.BackUpIdeal.τ).loc Cert.BackUpIdeal.main_arg2)) →
    ∃ (v0 : (c : Dev Cert.BackUpIdeal.nD) → Buf (Elt Ideal) ((c.tc : Thread Cert.BackUpIdeal.nD Cert.BackUpIdeal.τ).loc Cert.BackUpIdeal.main_v0_0)) (v1 : (c : Dev Cert.BackUpIdeal.nD) → Buf (Elt Ideal) ((c.tc : Thread Cert.BackUpIdeal.nD Cert.BackUpIdeal.τ).loc Cert.BackUpIdeal.main_v0_1)),
      θ_run (Cert.BackUpIdeal.defs (F := Ideal)) (onTc (τ := Cert.BackUpIdeal.τ) (Cert.BackUpIdeal.main (F := Ideal))) ⟨m, fun _ => 0, g⟩ (fun r => ∀ c : Dev Cert.BackUpIdeal.nD,
          r.2.mem ((c.tc : Thread Cert.BackUpIdeal.nD Cert.BackUpIdeal.τ).loc Cert.BackUpIdeal.main_v0_0) = v0 c
          ∧ r.2.mem ((c.tc : Thread Cert.BackUpIdeal.nD Cert.BackUpIdeal.τ).loc Cert.BackUpIdeal.main_v0_1) = v1 c
          ∧ r.2.mem ((c.tc : Thread Cert.BackUpIdeal.nD Cert.BackUpIdeal.τ).loc Cert.BackUpIdeal.main_arg0) = m ((c.tc : Thread Cert.BackUpIdeal.nD Cert.BackUpIdeal.τ).loc Cert.BackUpIdeal.main_arg0)
          ∧ r.2.mem ((c.tc : Thread Cert.BackUpIdeal.nD Cert.BackUpIdeal.τ).loc Cert.BackUpIdeal.main_arg1) = m ((c.tc : Thread Cert.BackUpIdeal.nD Cert.BackUpIdeal.τ).loc Cert.BackUpIdeal.main_arg1)
          ∧ r.2.mem ((c.tc : Thread Cert.BackUpIdeal.nD Cert.BackUpIdeal.τ).loc Cert.BackUpIdeal.main_arg2) = m ((c.tc : Thread Cert.BackUpIdeal.nD Cert.BackUpIdeal.τ).loc Cert.BackUpIdeal.main_arg2))
      ∧ θ_run (Cert.BackUpRefIdeal.defs (F := Ideal)) (onTc (τ := Cert.BackUpRefIdeal.τ) (Cert.BackUpRefIdeal.main (F := Ideal))) ⟨m', fun _ => 0, g'⟩ (fun r => ∀ c : Dev Cert.BackUpRefIdeal.nD,
          r.2.mem ((c.tc : Thread Cert.BackUpRefIdeal.nD Cert.BackUpRefIdeal.τ).loc Cert.BackUpRefIdeal.main_v8) = v0 c
          ∧ r.2.mem ((c.tc : Thread Cert.BackUpRefIdeal.nD Cert.BackUpRefIdeal.τ).loc Cert.BackUpRefIdeal.main_v9) = v1 c
          ∧ r.2.mem ((c.tc : Thread Cert.BackUpRefIdeal.nD Cert.BackUpRefIdeal.τ).loc Cert.BackUpRefIdeal.main_arg0) = m' ((c.tc : Thread Cert.BackUpRefIdeal.nD Cert.BackUpRefIdeal.τ).loc Cert.BackUpRefIdeal.main_arg0)
          ∧ r.2.mem ((c.tc : Thread Cert.BackUpRefIdeal.nD Cert.BackUpRefIdeal.τ).loc Cert.BackUpRefIdeal.main_arg1) = m' ((c.tc : Thread Cert.BackUpRefIdeal.nD Cert.BackUpRefIdeal.τ).loc Cert.BackUpRefIdeal.main_arg1)
          ∧ r.2.mem ((c.tc : Thread Cert.BackUpRefIdeal.nD Cert.BackUpRefIdeal.τ).loc Cert.BackUpRefIdeal.main_arg2) = m' ((c.tc : Thread Cert.BackUpRefIdeal.nD Cert.BackUpRefIdeal.τ).loc Cert.BackUpRefIdeal.main_arg2))

def preserves_BackOut_BackOutIdeal : Prop :=
  True

def algebraic_BackOutIdeal_BackOutRefIdeal [hBackOutIdeal : Cert.BackOutIdeal.Facts] [hBackOutRefIdeal : Cert.BackOutRefIdeal.Facts] : Prop :=
  ∀ (m : (ℓ : Loc Cert.BackOutIdeal.nD Cert.BackOutIdeal.τ Cert.BackOutIdeal.sig) → Buf (Elt Ideal) ℓ) (g : Dev Cert.BackOutIdeal.nD → PrngReg)
    (m' : (ℓ : Loc Cert.BackOutRefIdeal.nD Cert.BackOutRefIdeal.τ Cert.BackOutRefIdeal.sig) → Buf (Elt Ideal) ℓ) (g' : Dev Cert.BackOutRefIdeal.nD → PrngReg), Pre_BackOutIdeal m →
    (∀ c : Dev Cert.BackOutIdeal.nD,
      m' ((c.tc : Thread Cert.BackOutRefIdeal.nD Cert.BackOutRefIdeal.τ).loc Cert.BackOutRefIdeal.main_arg0) = m ((c.tc : Thread Cert.BackOutIdeal.nD Cert.BackOutIdeal.τ).loc Cert.BackOutIdeal.main_arg0)
      ∧ m' ((c.tc : Thread Cert.BackOutRefIdeal.nD Cert.BackOutRefIdeal.τ).loc Cert.BackOutRefIdeal.main_arg1) = m ((c.tc : Thread Cert.BackOutIdeal.nD Cert.BackOutIdeal.τ).loc Cert.BackOutIdeal.main_arg1)
      ∧ m' ((c.tc : Thread Cert.BackOutRefIdeal.nD Cert.BackOutRefIdeal.τ).loc Cert.BackOutRefIdeal.main_arg2) = m ((c.tc : Thread Cert.BackOutIdeal.nD Cert.BackOutIdeal.τ).loc Cert.BackOutIdeal.main_arg2)
      ∧ m' ((c.tc : Thread Cert.BackOutRefIdeal.nD Cert.BackOutRefIdeal.τ).loc Cert.BackOutRefIdeal.main_arg3) = m ((c.tc : Thread Cert.BackOutIdeal.nD Cert.BackOutIdeal.τ).loc Cert.BackOutIdeal.main_arg3)
      ∧ m' ((c.tc : Thread Cert.BackOutRefIdeal.nD Cert.BackOutRefIdeal.τ).loc Cert.BackOutRefIdeal.main_arg4) = m ((c.tc : Thread Cert.BackOutIdeal.nD Cert.BackOutIdeal.τ).loc Cert.BackOutIdeal.main_arg4)
      ∧ m' ((c.tc : Thread Cert.BackOutRefIdeal.nD Cert.BackOutRefIdeal.τ).loc Cert.BackOutRefIdeal.main_arg5) = m ((c.tc : Thread Cert.BackOutIdeal.nD Cert.BackOutIdeal.τ).loc Cert.BackOutIdeal.main_arg5)) →
    ∃ (v0 : (c : Dev Cert.BackOutIdeal.nD) → Buf (Elt Ideal) ((c.tc : Thread Cert.BackOutIdeal.nD Cert.BackOutIdeal.τ).loc Cert.BackOutIdeal.main_v0_0)) (v1 : (c : Dev Cert.BackOutIdeal.nD) → Buf (Elt Ideal) ((c.tc : Thread Cert.BackOutIdeal.nD Cert.BackOutIdeal.τ).loc Cert.BackOutIdeal.main_v0_1)) (v2 : (c : Dev Cert.BackOutIdeal.nD) → Buf (Elt Ideal) ((c.tc : Thread Cert.BackOutIdeal.nD Cert.BackOutIdeal.τ).loc Cert.BackOutIdeal.main_v0_2)) (v3 : (c : Dev Cert.BackOutIdeal.nD) → Buf (Elt Ideal) ((c.tc : Thread Cert.BackOutIdeal.nD Cert.BackOutIdeal.τ).loc Cert.BackOutIdeal.main_v1)) (v4 : (c : Dev Cert.BackOutIdeal.nD) → Buf (Elt Ideal) ((c.tc : Thread Cert.BackOutIdeal.nD Cert.BackOutIdeal.τ).loc Cert.BackOutIdeal.main_v2)),
      θ_run (Cert.BackOutIdeal.defs (F := Ideal)) (onTc (τ := Cert.BackOutIdeal.τ) (Cert.BackOutIdeal.main (F := Ideal))) ⟨m, fun _ => 0, g⟩ (fun r => ∀ c : Dev Cert.BackOutIdeal.nD,
          r.2.mem ((c.tc : Thread Cert.BackOutIdeal.nD Cert.BackOutIdeal.τ).loc Cert.BackOutIdeal.main_v0_0) = v0 c
          ∧ r.2.mem ((c.tc : Thread Cert.BackOutIdeal.nD Cert.BackOutIdeal.τ).loc Cert.BackOutIdeal.main_v0_1) = v1 c
          ∧ r.2.mem ((c.tc : Thread Cert.BackOutIdeal.nD Cert.BackOutIdeal.τ).loc Cert.BackOutIdeal.main_v0_2) = v2 c
          ∧ r.2.mem ((c.tc : Thread Cert.BackOutIdeal.nD Cert.BackOutIdeal.τ).loc Cert.BackOutIdeal.main_v1) = v3 c
          ∧ r.2.mem ((c.tc : Thread Cert.BackOutIdeal.nD Cert.BackOutIdeal.τ).loc Cert.BackOutIdeal.main_v2) = v4 c
          ∧ r.2.mem ((c.tc : Thread Cert.BackOutIdeal.nD Cert.BackOutIdeal.τ).loc Cert.BackOutIdeal.main_arg0) = m ((c.tc : Thread Cert.BackOutIdeal.nD Cert.BackOutIdeal.τ).loc Cert.BackOutIdeal.main_arg0)
          ∧ r.2.mem ((c.tc : Thread Cert.BackOutIdeal.nD Cert.BackOutIdeal.τ).loc Cert.BackOutIdeal.main_arg1) = m ((c.tc : Thread Cert.BackOutIdeal.nD Cert.BackOutIdeal.τ).loc Cert.BackOutIdeal.main_arg1)
          ∧ r.2.mem ((c.tc : Thread Cert.BackOutIdeal.nD Cert.BackOutIdeal.τ).loc Cert.BackOutIdeal.main_arg2) = m ((c.tc : Thread Cert.BackOutIdeal.nD Cert.BackOutIdeal.τ).loc Cert.BackOutIdeal.main_arg2)
          ∧ r.2.mem ((c.tc : Thread Cert.BackOutIdeal.nD Cert.BackOutIdeal.τ).loc Cert.BackOutIdeal.main_arg3) = m ((c.tc : Thread Cert.BackOutIdeal.nD Cert.BackOutIdeal.τ).loc Cert.BackOutIdeal.main_arg3)
          ∧ r.2.mem ((c.tc : Thread Cert.BackOutIdeal.nD Cert.BackOutIdeal.τ).loc Cert.BackOutIdeal.main_arg4) = m ((c.tc : Thread Cert.BackOutIdeal.nD Cert.BackOutIdeal.τ).loc Cert.BackOutIdeal.main_arg4)
          ∧ r.2.mem ((c.tc : Thread Cert.BackOutIdeal.nD Cert.BackOutIdeal.τ).loc Cert.BackOutIdeal.main_arg5) = m ((c.tc : Thread Cert.BackOutIdeal.nD Cert.BackOutIdeal.τ).loc Cert.BackOutIdeal.main_arg5))
      ∧ θ_run (Cert.BackOutRefIdeal.defs (F := Ideal)) (onTc (τ := Cert.BackOutRefIdeal.τ) (Cert.BackOutRefIdeal.main (F := Ideal))) ⟨m', fun _ => 0, g'⟩ (fun r => ∀ c : Dev Cert.BackOutRefIdeal.nD,
          r.2.mem ((c.tc : Thread Cert.BackOutRefIdeal.nD Cert.BackOutRefIdeal.τ).loc Cert.BackOutRefIdeal.main_v36) = v0 c
          ∧ r.2.mem ((c.tc : Thread Cert.BackOutRefIdeal.nD Cert.BackOutRefIdeal.τ).loc Cert.BackOutRefIdeal.main_v37) = v1 c
          ∧ r.2.mem ((c.tc : Thread Cert.BackOutRefIdeal.nD Cert.BackOutRefIdeal.τ).loc Cert.BackOutRefIdeal.main_v38) = v2 c
          ∧ r.2.mem ((c.tc : Thread Cert.BackOutRefIdeal.nD Cert.BackOutRefIdeal.τ).loc Cert.BackOutRefIdeal.main_v39) = v3 c
          ∧ r.2.mem ((c.tc : Thread Cert.BackOutRefIdeal.nD Cert.BackOutRefIdeal.τ).loc Cert.BackOutRefIdeal.main_v40) = v4 c
          ∧ r.2.mem ((c.tc : Thread Cert.BackOutRefIdeal.nD Cert.BackOutRefIdeal.τ).loc Cert.BackOutRefIdeal.main_arg0) = m' ((c.tc : Thread Cert.BackOutRefIdeal.nD Cert.BackOutRefIdeal.τ).loc Cert.BackOutRefIdeal.main_arg0)
          ∧ r.2.mem ((c.tc : Thread Cert.BackOutRefIdeal.nD Cert.BackOutRefIdeal.τ).loc Cert.BackOutRefIdeal.main_arg1) = m' ((c.tc : Thread Cert.BackOutRefIdeal.nD Cert.BackOutRefIdeal.τ).loc Cert.BackOutRefIdeal.main_arg1)
          ∧ r.2.mem ((c.tc : Thread Cert.BackOutRefIdeal.nD Cert.BackOutRefIdeal.τ).loc Cert.BackOutRefIdeal.main_arg2) = m' ((c.tc : Thread Cert.BackOutRefIdeal.nD Cert.BackOutRefIdeal.τ).loc Cert.BackOutRefIdeal.main_arg2)
          ∧ r.2.mem ((c.tc : Thread Cert.BackOutRefIdeal.nD Cert.BackOutRefIdeal.τ).loc Cert.BackOutRefIdeal.main_arg3) = m' ((c.tc : Thread Cert.BackOutRefIdeal.nD Cert.BackOutRefIdeal.τ).loc Cert.BackOutRefIdeal.main_arg3)
          ∧ r.2.mem ((c.tc : Thread Cert.BackOutRefIdeal.nD Cert.BackOutRefIdeal.τ).loc Cert.BackOutRefIdeal.main_arg4) = m' ((c.tc : Thread Cert.BackOutRefIdeal.nD Cert.BackOutRefIdeal.τ).loc Cert.BackOutRefIdeal.main_arg4)
          ∧ r.2.mem ((c.tc : Thread Cert.BackOutRefIdeal.nD Cert.BackOutRefIdeal.τ).loc Cert.BackOutRefIdeal.main_arg5) = m' ((c.tc : Thread Cert.BackOutRefIdeal.nD Cert.BackOutRefIdeal.τ).loc Cert.BackOutRefIdeal.main_arg5))

def preserves_BackConv_BackConvIdeal : Prop :=
  True

def algebraic_BackConvIdeal_BackConvRefIdeal [hBackConvIdeal : Cert.BackConvIdeal.Facts] [hBackConvRefIdeal : Cert.BackConvRefIdeal.Facts] : Prop :=
  ∀ (m : (ℓ : Loc Cert.BackConvIdeal.nD Cert.BackConvIdeal.τ Cert.BackConvIdeal.sig) → Buf (Elt Ideal) ℓ) (g : Dev Cert.BackConvIdeal.nD → PrngReg)
    (m' : (ℓ : Loc Cert.BackConvRefIdeal.nD Cert.BackConvRefIdeal.τ Cert.BackConvRefIdeal.sig) → Buf (Elt Ideal) ℓ) (g' : Dev Cert.BackConvRefIdeal.nD → PrngReg), Pre_BackConvIdeal m →
    (∀ c : Dev Cert.BackConvIdeal.nD,
      m' ((c.tc : Thread Cert.BackConvRefIdeal.nD Cert.BackConvRefIdeal.τ).loc Cert.BackConvRefIdeal.main_arg0) = m ((c.tc : Thread Cert.BackConvIdeal.nD Cert.BackConvIdeal.τ).loc Cert.BackConvIdeal.main_arg0)
      ∧ m' ((c.tc : Thread Cert.BackConvRefIdeal.nD Cert.BackConvRefIdeal.τ).loc Cert.BackConvRefIdeal.main_arg1) = m ((c.tc : Thread Cert.BackConvIdeal.nD Cert.BackConvIdeal.τ).loc Cert.BackConvIdeal.main_arg1)
      ∧ m' ((c.tc : Thread Cert.BackConvRefIdeal.nD Cert.BackConvRefIdeal.τ).loc Cert.BackConvRefIdeal.main_arg2) = m ((c.tc : Thread Cert.BackConvIdeal.nD Cert.BackConvIdeal.τ).loc Cert.BackConvIdeal.main_arg2)
      ∧ m' ((c.tc : Thread Cert.BackConvRefIdeal.nD Cert.BackConvRefIdeal.τ).loc Cert.BackConvRefIdeal.main_arg3) = m ((c.tc : Thread Cert.BackConvIdeal.nD Cert.BackConvIdeal.τ).loc Cert.BackConvIdeal.main_arg3)
      ∧ m' ((c.tc : Thread Cert.BackConvRefIdeal.nD Cert.BackConvRefIdeal.τ).loc Cert.BackConvRefIdeal.main_arg4) = m ((c.tc : Thread Cert.BackConvIdeal.nD Cert.BackConvIdeal.τ).loc Cert.BackConvIdeal.main_arg4)) →
    ∃ (v0 : (c : Dev Cert.BackConvIdeal.nD) → Buf (Elt Ideal) ((c.tc : Thread Cert.BackConvIdeal.nD Cert.BackConvIdeal.τ).loc Cert.BackConvIdeal.main_v0_0)) (v1 : (c : Dev Cert.BackConvIdeal.nD) → Buf (Elt Ideal) ((c.tc : Thread Cert.BackConvIdeal.nD Cert.BackConvIdeal.τ).loc Cert.BackConvIdeal.main_v0_1)) (v2 : (c : Dev Cert.BackConvIdeal.nD) → Buf (Elt Ideal) ((c.tc : Thread Cert.BackConvIdeal.nD Cert.BackConvIdeal.τ).loc Cert.BackConvIdeal.main_v0_2)) (v3 : (c : Dev Cert.BackConvIdeal.nD) → Buf (Elt Ideal) ((c.tc : Thread Cert.BackConvIdeal.nD Cert.BackConvIdeal.τ).loc Cert.BackConvIdeal.main_v0_3)) (v4 : (c : Dev Cert.BackConvIdeal.nD) → Buf (Elt Ideal) ((c.tc : Thread Cert.BackConvIdeal.nD Cert.BackConvIdeal.τ).loc Cert.BackConvIdeal.main_v0_4)),
      θ_run (Cert.BackConvIdeal.defs (F := Ideal)) (onTc (τ := Cert.BackConvIdeal.τ) (Cert.BackConvIdeal.main (F := Ideal))) ⟨m, fun _ => 0, g⟩ (fun r => ∀ c : Dev Cert.BackConvIdeal.nD,
          r.2.mem ((c.tc : Thread Cert.BackConvIdeal.nD Cert.BackConvIdeal.τ).loc Cert.BackConvIdeal.main_v0_0) = v0 c
          ∧ r.2.mem ((c.tc : Thread Cert.BackConvIdeal.nD Cert.BackConvIdeal.τ).loc Cert.BackConvIdeal.main_v0_1) = v1 c
          ∧ r.2.mem ((c.tc : Thread Cert.BackConvIdeal.nD Cert.BackConvIdeal.τ).loc Cert.BackConvIdeal.main_v0_2) = v2 c
          ∧ r.2.mem ((c.tc : Thread Cert.BackConvIdeal.nD Cert.BackConvIdeal.τ).loc Cert.BackConvIdeal.main_v0_3) = v3 c
          ∧ r.2.mem ((c.tc : Thread Cert.BackConvIdeal.nD Cert.BackConvIdeal.τ).loc Cert.BackConvIdeal.main_v0_4) = v4 c
          ∧ r.2.mem ((c.tc : Thread Cert.BackConvIdeal.nD Cert.BackConvIdeal.τ).loc Cert.BackConvIdeal.main_arg0) = m ((c.tc : Thread Cert.BackConvIdeal.nD Cert.BackConvIdeal.τ).loc Cert.BackConvIdeal.main_arg0)
          ∧ r.2.mem ((c.tc : Thread Cert.BackConvIdeal.nD Cert.BackConvIdeal.τ).loc Cert.BackConvIdeal.main_arg1) = m ((c.tc : Thread Cert.BackConvIdeal.nD Cert.BackConvIdeal.τ).loc Cert.BackConvIdeal.main_arg1)
          ∧ r.2.mem ((c.tc : Thread Cert.BackConvIdeal.nD Cert.BackConvIdeal.τ).loc Cert.BackConvIdeal.main_arg2) = m ((c.tc : Thread Cert.BackConvIdeal.nD Cert.BackConvIdeal.τ).loc Cert.BackConvIdeal.main_arg2)
          ∧ r.2.mem ((c.tc : Thread Cert.BackConvIdeal.nD Cert.BackConvIdeal.τ).loc Cert.BackConvIdeal.main_arg3) = m ((c.tc : Thread Cert.BackConvIdeal.nD Cert.BackConvIdeal.τ).loc Cert.BackConvIdeal.main_arg3)
          ∧ r.2.mem ((c.tc : Thread Cert.BackConvIdeal.nD Cert.BackConvIdeal.τ).loc Cert.BackConvIdeal.main_arg4) = m ((c.tc : Thread Cert.BackConvIdeal.nD Cert.BackConvIdeal.τ).loc Cert.BackConvIdeal.main_arg4))
      ∧ θ_run (Cert.BackConvRefIdeal.defs (F := Ideal)) (onTc (τ := Cert.BackConvRefIdeal.τ) (Cert.BackConvRefIdeal.main (F := Ideal))) ⟨m', fun _ => 0, g'⟩ (fun r => ∀ c : Dev Cert.BackConvRefIdeal.nD,
          r.2.mem ((c.tc : Thread Cert.BackConvRefIdeal.nD Cert.BackConvRefIdeal.τ).loc Cert.BackConvRefIdeal.main_v72) = v0 c
          ∧ r.2.mem ((c.tc : Thread Cert.BackConvRefIdeal.nD Cert.BackConvRefIdeal.τ).loc Cert.BackConvRefIdeal.main_v73) = v1 c
          ∧ r.2.mem ((c.tc : Thread Cert.BackConvRefIdeal.nD Cert.BackConvRefIdeal.τ).loc Cert.BackConvRefIdeal.main_v74) = v2 c
          ∧ r.2.mem ((c.tc : Thread Cert.BackConvRefIdeal.nD Cert.BackConvRefIdeal.τ).loc Cert.BackConvRefIdeal.main_v75) = v3 c
          ∧ r.2.mem ((c.tc : Thread Cert.BackConvRefIdeal.nD Cert.BackConvRefIdeal.τ).loc Cert.BackConvRefIdeal.main_v65) = v4 c
          ∧ r.2.mem ((c.tc : Thread Cert.BackConvRefIdeal.nD Cert.BackConvRefIdeal.τ).loc Cert.BackConvRefIdeal.main_arg0) = m' ((c.tc : Thread Cert.BackConvRefIdeal.nD Cert.BackConvRefIdeal.τ).loc Cert.BackConvRefIdeal.main_arg0)
          ∧ r.2.mem ((c.tc : Thread Cert.BackConvRefIdeal.nD Cert.BackConvRefIdeal.τ).loc Cert.BackConvRefIdeal.main_arg1) = m' ((c.tc : Thread Cert.BackConvRefIdeal.nD Cert.BackConvRefIdeal.τ).loc Cert.BackConvRefIdeal.main_arg1)
          ∧ r.2.mem ((c.tc : Thread Cert.BackConvRefIdeal.nD Cert.BackConvRefIdeal.τ).loc Cert.BackConvRefIdeal.main_arg2) = m' ((c.tc : Thread Cert.BackConvRefIdeal.nD Cert.BackConvRefIdeal.τ).loc Cert.BackConvRefIdeal.main_arg2)
          ∧ r.2.mem ((c.tc : Thread Cert.BackConvRefIdeal.nD Cert.BackConvRefIdeal.τ).loc Cert.BackConvRefIdeal.main_arg3) = m' ((c.tc : Thread Cert.BackConvRefIdeal.nD Cert.BackConvRefIdeal.τ).loc Cert.BackConvRefIdeal.main_arg3)
          ∧ r.2.mem ((c.tc : Thread Cert.BackConvRefIdeal.nD Cert.BackConvRefIdeal.τ).loc Cert.BackConvRefIdeal.main_arg4) = m' ((c.tc : Thread Cert.BackConvRefIdeal.nD Cert.BackConvRefIdeal.τ).loc Cert.BackConvRefIdeal.main_arg4))

def preserves_BackFfn_BackFfnIdeal : Prop :=
  IdealRules.named_const.Statement Cert.BackFfnIdeal.κ "k" .f32 0x3D372713#32 ((8943 / 200000 : ℝ) : EReal)
  ∧ IdealRules.named_const.Statement Cert.BackFfnIdeal.κ "k3" .f32 0x3E095D4F#32 ((26829 / 200000 : ℝ) : EReal)

def algebraic_BackFfnIdeal_BackFfnRefIdeal_pre_finite [hBackFfnIdeal : Cert.BackFfnIdeal.Facts] [hBackFfnRefIdeal : Cert.BackFfnRefIdeal.Facts] [hPre_finite : Cert.Pre_finite.Facts] : Prop :=
  ∀ (m : (ℓ : Loc Cert.BackFfnIdeal.nD Cert.BackFfnIdeal.τ Cert.BackFfnIdeal.sig) → Buf (Elt Ideal) ℓ) (g : Dev Cert.BackFfnIdeal.nD → PrngReg)
    (m' : (ℓ : Loc Cert.BackFfnRefIdeal.nD Cert.BackFfnRefIdeal.τ Cert.BackFfnRefIdeal.sig) → Buf (Elt Ideal) ℓ) (g' : Dev Cert.BackFfnRefIdeal.nD → PrngReg), Pre_BackFfnIdeal_finite m →
    (∀ c : Dev Cert.BackFfnIdeal.nD,
      m' ((c.tc : Thread Cert.BackFfnRefIdeal.nD Cert.BackFfnRefIdeal.τ).loc Cert.BackFfnRefIdeal.main_arg0) = m ((c.tc : Thread Cert.BackFfnIdeal.nD Cert.BackFfnIdeal.τ).loc Cert.BackFfnIdeal.main_arg0)
      ∧ m' ((c.tc : Thread Cert.BackFfnRefIdeal.nD Cert.BackFfnRefIdeal.τ).loc Cert.BackFfnRefIdeal.main_arg1) = m ((c.tc : Thread Cert.BackFfnIdeal.nD Cert.BackFfnIdeal.τ).loc Cert.BackFfnIdeal.main_arg1)
      ∧ m' ((c.tc : Thread Cert.BackFfnRefIdeal.nD Cert.BackFfnRefIdeal.τ).loc Cert.BackFfnRefIdeal.main_arg2) = m ((c.tc : Thread Cert.BackFfnIdeal.nD Cert.BackFfnIdeal.τ).loc Cert.BackFfnIdeal.main_arg2)
      ∧ m' ((c.tc : Thread Cert.BackFfnRefIdeal.nD Cert.BackFfnRefIdeal.τ).loc Cert.BackFfnRefIdeal.main_arg3) = m ((c.tc : Thread Cert.BackFfnIdeal.nD Cert.BackFfnIdeal.τ).loc Cert.BackFfnIdeal.main_arg3)
      ∧ m' ((c.tc : Thread Cert.BackFfnRefIdeal.nD Cert.BackFfnRefIdeal.τ).loc Cert.BackFfnRefIdeal.main_arg4) = m ((c.tc : Thread Cert.BackFfnIdeal.nD Cert.BackFfnIdeal.τ).loc Cert.BackFfnIdeal.main_arg4)) →
    ∃ (v0 : (c : Dev Cert.BackFfnIdeal.nD) → Buf (Elt Ideal) ((c.tc : Thread Cert.BackFfnIdeal.nD Cert.BackFfnIdeal.τ).loc Cert.BackFfnIdeal.main_v0_0)) (v1 : (c : Dev Cert.BackFfnIdeal.nD) → Buf (Elt Ideal) ((c.tc : Thread Cert.BackFfnIdeal.nD Cert.BackFfnIdeal.τ).loc Cert.BackFfnIdeal.main_v0_1)) (v2 : (c : Dev Cert.BackFfnIdeal.nD) → Buf (Elt Ideal) ((c.tc : Thread Cert.BackFfnIdeal.nD Cert.BackFfnIdeal.τ).loc Cert.BackFfnIdeal.main_v0_2)) (v3 : (c : Dev Cert.BackFfnIdeal.nD) → Buf (Elt Ideal) ((c.tc : Thread Cert.BackFfnIdeal.nD Cert.BackFfnIdeal.τ).loc Cert.BackFfnIdeal.main_v0_3)) (v4 : (c : Dev Cert.BackFfnIdeal.nD) → Buf (Elt Ideal) ((c.tc : Thread Cert.BackFfnIdeal.nD Cert.BackFfnIdeal.τ).loc Cert.BackFfnIdeal.main_v0_4)) (v5 : (c : Dev Cert.BackFfnIdeal.nD) → Buf (Elt Ideal) ((c.tc : Thread Cert.BackFfnIdeal.nD Cert.BackFfnIdeal.τ).loc Cert.BackFfnIdeal.main_v0_5)) (v6 : (c : Dev Cert.BackFfnIdeal.nD) → Buf (Elt Ideal) ((c.tc : Thread Cert.BackFfnIdeal.nD Cert.BackFfnIdeal.τ).loc Cert.BackFfnIdeal.main_v0_6)),
      θ_run (Cert.BackFfnIdeal.defs (F := Ideal)) (onTc (τ := Cert.BackFfnIdeal.τ) (Cert.BackFfnIdeal.main (F := Ideal))) ⟨m, fun _ => 0, g⟩ (fun r => ∀ c : Dev Cert.BackFfnIdeal.nD,
          r.2.mem ((c.tc : Thread Cert.BackFfnIdeal.nD Cert.BackFfnIdeal.τ).loc Cert.BackFfnIdeal.main_v0_0) = v0 c
          ∧ r.2.mem ((c.tc : Thread Cert.BackFfnIdeal.nD Cert.BackFfnIdeal.τ).loc Cert.BackFfnIdeal.main_v0_1) = v1 c
          ∧ r.2.mem ((c.tc : Thread Cert.BackFfnIdeal.nD Cert.BackFfnIdeal.τ).loc Cert.BackFfnIdeal.main_v0_2) = v2 c
          ∧ r.2.mem ((c.tc : Thread Cert.BackFfnIdeal.nD Cert.BackFfnIdeal.τ).loc Cert.BackFfnIdeal.main_v0_3) = v3 c
          ∧ r.2.mem ((c.tc : Thread Cert.BackFfnIdeal.nD Cert.BackFfnIdeal.τ).loc Cert.BackFfnIdeal.main_v0_4) = v4 c
          ∧ r.2.mem ((c.tc : Thread Cert.BackFfnIdeal.nD Cert.BackFfnIdeal.τ).loc Cert.BackFfnIdeal.main_v0_5) = v5 c
          ∧ r.2.mem ((c.tc : Thread Cert.BackFfnIdeal.nD Cert.BackFfnIdeal.τ).loc Cert.BackFfnIdeal.main_v0_6) = v6 c
          ∧ r.2.mem ((c.tc : Thread Cert.BackFfnIdeal.nD Cert.BackFfnIdeal.τ).loc Cert.BackFfnIdeal.main_arg0) = m ((c.tc : Thread Cert.BackFfnIdeal.nD Cert.BackFfnIdeal.τ).loc Cert.BackFfnIdeal.main_arg0)
          ∧ r.2.mem ((c.tc : Thread Cert.BackFfnIdeal.nD Cert.BackFfnIdeal.τ).loc Cert.BackFfnIdeal.main_arg1) = m ((c.tc : Thread Cert.BackFfnIdeal.nD Cert.BackFfnIdeal.τ).loc Cert.BackFfnIdeal.main_arg1)
          ∧ r.2.mem ((c.tc : Thread Cert.BackFfnIdeal.nD Cert.BackFfnIdeal.τ).loc Cert.BackFfnIdeal.main_arg2) = m ((c.tc : Thread Cert.BackFfnIdeal.nD Cert.BackFfnIdeal.τ).loc Cert.BackFfnIdeal.main_arg2)
          ∧ r.2.mem ((c.tc : Thread Cert.BackFfnIdeal.nD Cert.BackFfnIdeal.τ).loc Cert.BackFfnIdeal.main_arg3) = m ((c.tc : Thread Cert.BackFfnIdeal.nD Cert.BackFfnIdeal.τ).loc Cert.BackFfnIdeal.main_arg3)
          ∧ r.2.mem ((c.tc : Thread Cert.BackFfnIdeal.nD Cert.BackFfnIdeal.τ).loc Cert.BackFfnIdeal.main_arg4) = m ((c.tc : Thread Cert.BackFfnIdeal.nD Cert.BackFfnIdeal.τ).loc Cert.BackFfnIdeal.main_arg4))
      ∧ θ_run (Cert.BackFfnRefIdeal.defs (F := Ideal)) (onTc (τ := Cert.BackFfnRefIdeal.τ) (Cert.BackFfnRefIdeal.main (F := Ideal))) ⟨m', fun _ => 0, g'⟩ (fun r => ∀ c : Dev Cert.BackFfnRefIdeal.nD,
          r.2.mem ((c.tc : Thread Cert.BackFfnRefIdeal.nD Cert.BackFfnRefIdeal.τ).loc Cert.BackFfnRefIdeal.main_v172) = v0 c
          ∧ r.2.mem ((c.tc : Thread Cert.BackFfnRefIdeal.nD Cert.BackFfnRefIdeal.τ).loc Cert.BackFfnRefIdeal.main_v173) = v1 c
          ∧ r.2.mem ((c.tc : Thread Cert.BackFfnRefIdeal.nD Cert.BackFfnRefIdeal.τ).loc Cert.BackFfnRefIdeal.main_v174) = v2 c
          ∧ r.2.mem ((c.tc : Thread Cert.BackFfnRefIdeal.nD Cert.BackFfnRefIdeal.τ).loc Cert.BackFfnRefIdeal.main_v132) = v3 c
          ∧ r.2.mem ((c.tc : Thread Cert.BackFfnRefIdeal.nD Cert.BackFfnRefIdeal.τ).loc Cert.BackFfnRefIdeal.main_v167) = v4 c
          ∧ r.2.mem ((c.tc : Thread Cert.BackFfnRefIdeal.nD Cert.BackFfnRefIdeal.τ).loc Cert.BackFfnRefIdeal.main_v103) = v5 c
          ∧ r.2.mem ((c.tc : Thread Cert.BackFfnRefIdeal.nD Cert.BackFfnRefIdeal.τ).loc Cert.BackFfnRefIdeal.main_v138) = v6 c
          ∧ r.2.mem ((c.tc : Thread Cert.BackFfnRefIdeal.nD Cert.BackFfnRefIdeal.τ).loc Cert.BackFfnRefIdeal.main_arg0) = m' ((c.tc : Thread Cert.BackFfnRefIdeal.nD Cert.BackFfnRefIdeal.τ).loc Cert.BackFfnRefIdeal.main_arg0)
          ∧ r.2.mem ((c.tc : Thread Cert.BackFfnRefIdeal.nD Cert.BackFfnRefIdeal.τ).loc Cert.BackFfnRefIdeal.main_arg1) = m' ((c.tc : Thread Cert.BackFfnRefIdeal.nD Cert.BackFfnRefIdeal.τ).loc Cert.BackFfnRefIdeal.main_arg1)
          ∧ r.2.mem ((c.tc : Thread Cert.BackFfnRefIdeal.nD Cert.BackFfnRefIdeal.τ).loc Cert.BackFfnRefIdeal.main_arg2) = m' ((c.tc : Thread Cert.BackFfnRefIdeal.nD Cert.BackFfnRefIdeal.τ).loc Cert.BackFfnRefIdeal.main_arg2)
          ∧ r.2.mem ((c.tc : Thread Cert.BackFfnRefIdeal.nD Cert.BackFfnRefIdeal.τ).loc Cert.BackFfnRefIdeal.main_arg3) = m' ((c.tc : Thread Cert.BackFfnRefIdeal.nD Cert.BackFfnRefIdeal.τ).loc Cert.BackFfnRefIdeal.main_arg3)
          ∧ r.2.mem ((c.tc : Thread Cert.BackFfnRefIdeal.nD Cert.BackFfnRefIdeal.τ).loc Cert.BackFfnRefIdeal.main_arg4) = m' ((c.tc : Thread Cert.BackFfnRefIdeal.nD Cert.BackFfnRefIdeal.τ).loc Cert.BackFfnRefIdeal.main_arg4))

def Claim : Prop :=
  ∃ (hGather : Cert.Gather.Facts) (hGatherIdeal : Cert.GatherIdeal.Facts) (hGatherRefIdeal : Cert.GatherRefIdeal.Facts) (hGatherRef : Cert.GatherRef.Facts) (hSplit : Cert.Split.Facts) (hSplitIdeal : Cert.SplitIdeal.Facts) (hSplitRefIdeal : Cert.SplitRefIdeal.Facts) (hSplitRef : Cert.SplitRef.Facts) (hExchange : Cert.Exchange.Facts) (hExchangeIdeal : Cert.ExchangeIdeal.Facts) (hExchangeRefIdeal : Cert.ExchangeRefIdeal.Facts) (hExchangeRef : Cert.ExchangeRef.Facts) (hJoin : Cert.Join.Facts) (hJoinIdeal : Cert.JoinIdeal.Facts) (hJoinRefIdeal : Cert.JoinRefIdeal.Facts) (hJoinRef : Cert.JoinRef.Facts) (hAdamWin : Cert.AdamWin.Facts) (hAdamWinIdeal : Cert.AdamWinIdeal.Facts) (hAdamWinRefIdeal : Cert.AdamWinRefIdeal.Facts) (hAdamUp : Cert.AdamUp.Facts) (hAdamUpIdeal : Cert.AdamUpIdeal.Facts) (hAdamUpRefIdeal : Cert.AdamUpRefIdeal.Facts) (hAdamRow : Cert.AdamRow.Facts) (hAdamRowIdeal : Cert.AdamRowIdeal.Facts) (hAdamRowRefIdeal : Cert.AdamRowRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hAdamRepl : Cert.AdamRepl.Facts) (hAdamReplIdeal : Cert.AdamReplIdeal.Facts) (hAdamReplRefIdeal : Cert.AdamReplRefIdeal.Facts) (hPackSmall : Cert.PackSmall.Facts) (hPackSmallIdeal : Cert.PackSmallIdeal.Facts) (hPackSmallRefIdeal : Cert.PackSmallRefIdeal.Facts) (hPackRepl : Cert.PackRepl.Facts) (hPackReplIdeal : Cert.PackReplIdeal.Facts) (hPackReplRefIdeal : Cert.PackReplRefIdeal.Facts) (hAddWin : Cert.AddWin.Facts) (hAddWinIdeal : Cert.AddWinIdeal.Facts) (hAddWinRefIdeal : Cert.AddWinRefIdeal.Facts) (hAddUp : Cert.AddUp.Facts) (hAddUpIdeal : Cert.AddUpIdeal.Facts) (hAddUpRefIdeal : Cert.AddUpRefIdeal.Facts) (hAddRow : Cert.AddRow.Facts) (hAddRowIdeal : Cert.AddRowIdeal.Facts) (hAddRowRefIdeal : Cert.AddRowRefIdeal.Facts) (hAddDown : Cert.AddDown.Facts) (hAddDownIdeal : Cert.AddDownIdeal.Facts) (hAddDownRefIdeal : Cert.AddDownRefIdeal.Facts) (hAddSmall : Cert.AddSmall.Facts) (hAddSmallIdeal : Cert.AddSmallIdeal.Facts) (hAddSmallRefIdeal : Cert.AddSmallRefIdeal.Facts) (hSumWin : Cert.SumWin.Facts) (hSumWinIdeal : Cert.SumWinIdeal.Facts) (hSumWinRefIdeal : Cert.SumWinRefIdeal.Facts) (hSumUp : Cert.SumUp.Facts) (hSumUpIdeal : Cert.SumUpIdeal.Facts) (hSumUpRefIdeal : Cert.SumUpRefIdeal.Facts) (hSumRow : Cert.SumRow.Facts) (hSumRowIdeal : Cert.SumRowIdeal.Facts) (hSumRowRefIdeal : Cert.SumRowRefIdeal.Facts) (hSumDown : Cert.SumDown.Facts) (hSumDownIdeal : Cert.SumDownIdeal.Facts) (hSumDownRefIdeal : Cert.SumDownRefIdeal.Facts) (hSumSmall : Cert.SumSmall.Facts) (hSumSmallIdeal : Cert.SumSmallIdeal.Facts) (hSumSmallRefIdeal : Cert.SumSmallRefIdeal.Facts) (hSumRepl : Cert.SumRepl.Facts) (hSumReplIdeal : Cert.SumReplIdeal.Facts) (hSumReplRefIdeal : Cert.SumReplRefIdeal.Facts) (hNormBack : Cert.NormBack.Facts) (hNormBackIdeal : Cert.NormBackIdeal.Facts) (hNormBackRefIdeal : Cert.NormBackRefIdeal.Facts) (hLastStep : Cert.LastStep.Facts) (hLastStepIdeal : Cert.LastStepIdeal.Facts) (hLastStepRefIdeal : Cert.LastStepRefIdeal.Facts) (hMidNorms : Cert.MidNorms.Facts) (hMidNormsIdeal : Cert.MidNormsIdeal.Facts) (hMidNormsRefIdeal : Cert.MidNormsRefIdeal.Facts) (hBackWin : Cert.BackWin.Facts) (hBackWinIdeal : Cert.BackWinIdeal.Facts) (hBackWinRefIdeal : Cert.BackWinRefIdeal.Facts) (hBackUp : Cert.BackUp.Facts) (hBackUpIdeal : Cert.BackUpIdeal.Facts) (hBackUpRefIdeal : Cert.BackUpRefIdeal.Facts) (hBackOut : Cert.BackOut.Facts) (hBackOutIdeal : Cert.BackOutIdeal.Facts) (hBackOutRefIdeal : Cert.BackOutRefIdeal.Facts) (hBackConv : Cert.BackConv.Facts) (hBackConvIdeal : Cert.BackConvIdeal.Facts) (hBackConvRefIdeal : Cert.BackConvRefIdeal.Facts) (hBackFfn : Cert.BackFfn.Facts) (hBackFfnIdeal : Cert.BackFfnIdeal.Facts) (hBackFfnRefIdeal : Cert.BackFfnRefIdeal.Facts) (hPre_finite : Cert.Pre_finite.Facts),
    quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Split (hSplit := hSplit)
    ∧ quiescent_SplitIdeal (hSplitIdeal := hSplitIdeal)
    ∧ quiescent_SplitRefIdeal (hSplitRefIdeal := hSplitRefIdeal)
    ∧ quiescent_SplitRef (hSplitRef := hSplitRef)
    ∧ quiescent_Exchange (hExchange := hExchange)
    ∧ quiescent_ExchangeIdeal (hExchangeIdeal := hExchangeIdeal)
    ∧ quiescent_ExchangeRefIdeal (hExchangeRefIdeal := hExchangeRefIdeal)
    ∧ quiescent_ExchangeRef (hExchangeRef := hExchangeRef)
    ∧ quiescent_Join (hJoin := hJoin)
    ∧ quiescent_JoinIdeal (hJoinIdeal := hJoinIdeal)
    ∧ quiescent_JoinRefIdeal (hJoinRefIdeal := hJoinRefIdeal)
    ∧ quiescent_JoinRef (hJoinRef := hJoinRef)
    ∧ quiescent_AdamWin (hAdamWin := hAdamWin)
    ∧ quiescent_AdamWinIdeal (hAdamWinIdeal := hAdamWinIdeal)
    ∧ quiescent_AdamWinRefIdeal (hAdamWinRefIdeal := hAdamWinRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamRow (hAdamRow := hAdamRow)
    ∧ quiescent_AdamRowIdeal (hAdamRowIdeal := hAdamRowIdeal)
    ∧ quiescent_AdamRowRefIdeal (hAdamRowRefIdeal := hAdamRowRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamRepl (hAdamRepl := hAdamRepl)
    ∧ quiescent_AdamReplIdeal (hAdamReplIdeal := hAdamReplIdeal)
    ∧ quiescent_AdamReplRefIdeal (hAdamReplRefIdeal := hAdamReplRefIdeal)
    ∧ quiescent_PackSmall (hPackSmall := hPackSmall)
    ∧ quiescent_PackSmallIdeal (hPackSmallIdeal := hPackSmallIdeal)
    ∧ quiescent_PackSmallRefIdeal (hPackSmallRefIdeal := hPackSmallRefIdeal)
    ∧ quiescent_PackRepl (hPackRepl := hPackRepl)
    ∧ quiescent_PackReplIdeal (hPackReplIdeal := hPackReplIdeal)
    ∧ quiescent_PackReplRefIdeal (hPackReplRefIdeal := hPackReplRefIdeal)
    ∧ quiescent_AddWin (hAddWin := hAddWin)
    ∧ quiescent_AddWinIdeal (hAddWinIdeal := hAddWinIdeal)
    ∧ quiescent_AddWinRefIdeal (hAddWinRefIdeal := hAddWinRefIdeal)
    ∧ quiescent_AddUp (hAddUp := hAddUp)
    ∧ quiescent_AddUpIdeal (hAddUpIdeal := hAddUpIdeal)
    ∧ quiescent_AddUpRefIdeal (hAddUpRefIdeal := hAddUpRefIdeal)
    ∧ quiescent_AddRow (hAddRow := hAddRow)
    ∧ quiescent_AddRowIdeal (hAddRowIdeal := hAddRowIdeal)
    ∧ quiescent_AddRowRefIdeal (hAddRowRefIdeal := hAddRowRefIdeal)
    ∧ quiescent_AddDown (hAddDown := hAddDown)
    ∧ quiescent_AddDownIdeal (hAddDownIdeal := hAddDownIdeal)
    ∧ quiescent_AddDownRefIdeal (hAddDownRefIdeal := hAddDownRefIdeal)
    ∧ quiescent_AddSmall (hAddSmall := hAddSmall)
    ∧ quiescent_AddSmallIdeal (hAddSmallIdeal := hAddSmallIdeal)
    ∧ quiescent_AddSmallRefIdeal (hAddSmallRefIdeal := hAddSmallRefIdeal)
    ∧ quiescent_SumWin (hSumWin := hSumWin)
    ∧ quiescent_SumWinIdeal (hSumWinIdeal := hSumWinIdeal)
    ∧ quiescent_SumWinRefIdeal (hSumWinRefIdeal := hSumWinRefIdeal)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_SumRow (hSumRow := hSumRow)
    ∧ quiescent_SumRowIdeal (hSumRowIdeal := hSumRowIdeal)
    ∧ quiescent_SumRowRefIdeal (hSumRowRefIdeal := hSumRowRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumRepl (hSumRepl := hSumRepl)
    ∧ quiescent_SumReplIdeal (hSumReplIdeal := hSumReplIdeal)
    ∧ quiescent_SumReplRefIdeal (hSumReplRefIdeal := hSumReplRefIdeal)
    ∧ quiescent_NormBack (hNormBack := hNormBack)
    ∧ quiescent_NormBackIdeal (hNormBackIdeal := hNormBackIdeal)
    ∧ quiescent_NormBackRefIdeal (hNormBackRefIdeal := hNormBackRefIdeal)
    ∧ quiescent_LastStep (hLastStep := hLastStep)
    ∧ quiescent_LastStepIdeal (hLastStepIdeal := hLastStepIdeal)
    ∧ quiescent_LastStepRefIdeal (hLastStepRefIdeal := hLastStepRefIdeal)
    ∧ quiescent_MidNorms (hMidNorms := hMidNorms)
    ∧ quiescent_MidNormsIdeal (hMidNormsIdeal := hMidNormsIdeal)
    ∧ quiescent_MidNormsRefIdeal (hMidNormsRefIdeal := hMidNormsRefIdeal)
    ∧ quiescent_BackWin (hBackWin := hBackWin)
    ∧ quiescent_BackWinIdeal (hBackWinIdeal := hBackWinIdeal)
    ∧ quiescent_BackWinRefIdeal (hBackWinRefIdeal := hBackWinRefIdeal)
    ∧ quiescent_BackUp (hBackUp := hBackUp)
    ∧ quiescent_BackUpIdeal (hBackUpIdeal := hBackUpIdeal)
    ∧ quiescent_BackUpRefIdeal (hBackUpRefIdeal := hBackUpRefIdeal)
    ∧ quiescent_BackOut (hBackOut := hBackOut)
    ∧ quiescent_BackOutIdeal (hBackOutIdeal := hBackOutIdeal)
    ∧ quiescent_BackOutRefIdeal (hBackOutRefIdeal := hBackOutRefIdeal)
    ∧ quiescent_BackConv (hBackConv := hBackConv)
    ∧ quiescent_BackConvIdeal (hBackConvIdeal := hBackConvIdeal)
    ∧ quiescent_BackConvRefIdeal (hBackConvRefIdeal := hBackConvRefIdeal)
    ∧ quiescent_BackFfn (hBackFfn := hBackFfn)
    ∧ quiescent_BackFfnIdeal (hBackFfnIdeal := hBackFfnIdeal)
    ∧ quiescent_BackFfnIdeal_pre_finite (hBackFfnIdeal := hBackFfnIdeal) (hPre_finite := hPre_finite)
    ∧ quiescent_BackFfnRefIdeal (hBackFfnRefIdeal := hBackFfnRefIdeal)
    ∧ quiescent_BackFfnRefIdeal_pre_finite (hBackFfnRefIdeal := hBackFfnRefIdeal) (hPre_finite := hPre_finite)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Split_SplitIdeal
    ∧ algebraic_SplitIdeal_SplitRefIdeal (hSplitIdeal := hSplitIdeal) (hSplitRefIdeal := hSplitRefIdeal)
    ∧ bitexact_Split_SplitRef (hSplit := hSplit) (hSplitRef := hSplitRef)
    ∧ preserves_Exchange_ExchangeIdeal
    ∧ algebraic_ExchangeIdeal_ExchangeRefIdeal (hExchangeIdeal := hExchangeIdeal) (hExchangeRefIdeal := hExchangeRefIdeal)
    ∧ bitexact_Exchange_ExchangeRef (hExchange := hExchange) (hExchangeRef := hExchangeRef)
    ∧ preserves_Join_JoinIdeal
    ∧ algebraic_JoinIdeal_JoinRefIdeal (hJoinIdeal := hJoinIdeal) (hJoinRefIdeal := hJoinRefIdeal)
    ∧ bitexact_Join_JoinRef (hJoin := hJoin) (hJoinRef := hJoinRef)
    ∧ preserves_AdamWin_AdamWinIdeal
    ∧ algebraic_AdamWinIdeal_AdamWinRefIdeal (hAdamWinIdeal := hAdamWinIdeal) (hAdamWinRefIdeal := hAdamWinRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamRow_AdamRowIdeal
    ∧ algebraic_AdamRowIdeal_AdamRowRefIdeal (hAdamRowIdeal := hAdamRowIdeal) (hAdamRowRefIdeal := hAdamRowRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamRepl_AdamReplIdeal
    ∧ algebraic_AdamReplIdeal_AdamReplRefIdeal (hAdamReplIdeal := hAdamReplIdeal) (hAdamReplRefIdeal := hAdamReplRefIdeal)
    ∧ preserves_PackSmall_PackSmallIdeal
    ∧ algebraic_PackSmallIdeal_PackSmallRefIdeal (hPackSmallIdeal := hPackSmallIdeal) (hPackSmallRefIdeal := hPackSmallRefIdeal)
    ∧ preserves_PackRepl_PackReplIdeal
    ∧ algebraic_PackReplIdeal_PackReplRefIdeal (hPackReplIdeal := hPackReplIdeal) (hPackReplRefIdeal := hPackReplRefIdeal)
    ∧ preserves_AddWin_AddWinIdeal
    ∧ algebraic_AddWinIdeal_AddWinRefIdeal (hAddWinIdeal := hAddWinIdeal) (hAddWinRefIdeal := hAddWinRefIdeal)
    ∧ preserves_AddUp_AddUpIdeal
    ∧ algebraic_AddUpIdeal_AddUpRefIdeal (hAddUpIdeal := hAddUpIdeal) (hAddUpRefIdeal := hAddUpRefIdeal)
    ∧ preserves_AddRow_AddRowIdeal
    ∧ algebraic_AddRowIdeal_AddRowRefIdeal (hAddRowIdeal := hAddRowIdeal) (hAddRowRefIdeal := hAddRowRefIdeal)
    ∧ preserves_AddDown_AddDownIdeal
    ∧ algebraic_AddDownIdeal_AddDownRefIdeal (hAddDownIdeal := hAddDownIdeal) (hAddDownRefIdeal := hAddDownRefIdeal)
    ∧ preserves_AddSmall_AddSmallIdeal
    ∧ algebraic_AddSmallIdeal_AddSmallRefIdeal (hAddSmallIdeal := hAddSmallIdeal) (hAddSmallRefIdeal := hAddSmallRefIdeal)
    ∧ preserves_SumWin_SumWinIdeal
    ∧ algebraic_SumWinIdeal_SumWinRefIdeal (hSumWinIdeal := hSumWinIdeal) (hSumWinRefIdeal := hSumWinRefIdeal)
    ∧ preserves_SumUp_SumUpIdeal
    ∧ algebraic_SumUpIdeal_SumUpRefIdeal (hSumUpIdeal := hSumUpIdeal) (hSumUpRefIdeal := hSumUpRefIdeal)
    ∧ preserves_SumRow_SumRowIdeal
    ∧ algebraic_SumRowIdeal_SumRowRefIdeal (hSumRowIdeal := hSumRowIdeal) (hSumRowRefIdeal := hSumRowRefIdeal)
    ∧ preserves_SumDown_SumDownIdeal
    ∧ algebraic_SumDownIdeal_SumDownRefIdeal (hSumDownIdeal := hSumDownIdeal) (hSumDownRefIdeal := hSumDownRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SumRepl_SumReplIdeal
    ∧ algebraic_SumReplIdeal_SumReplRefIdeal (hSumReplIdeal := hSumReplIdeal) (hSumReplRefIdeal := hSumReplRefIdeal)
    ∧ preserves_NormBack_NormBackIdeal
    ∧ algebraic_NormBackIdeal_NormBackRefIdeal (hNormBackIdeal := hNormBackIdeal) (hNormBackRefIdeal := hNormBackRefIdeal)
    ∧ preserves_LastStep_LastStepIdeal
    ∧ algebraic_LastStepIdeal_LastStepRefIdeal (hLastStepIdeal := hLastStepIdeal) (hLastStepRefIdeal := hLastStepRefIdeal)
    ∧ preserves_MidNorms_MidNormsIdeal
    ∧ algebraic_MidNormsIdeal_MidNormsRefIdeal (hMidNormsIdeal := hMidNormsIdeal) (hMidNormsRefIdeal := hMidNormsRefIdeal)
    ∧ preserves_BackWin_BackWinIdeal
    ∧ algebraic_BackWinIdeal_BackWinRefIdeal (hBackWinIdeal := hBackWinIdeal) (hBackWinRefIdeal := hBackWinRefIdeal)
    ∧ preserves_BackUp_BackUpIdeal
    ∧ algebraic_BackUpIdeal_BackUpRefIdeal (hBackUpIdeal := hBackUpIdeal) (hBackUpRefIdeal := hBackUpRefIdeal)
    ∧ preserves_BackOut_BackOutIdeal
    ∧ algebraic_BackOutIdeal_BackOutRefIdeal (hBackOutIdeal := hBackOutIdeal) (hBackOutRefIdeal := hBackOutRefIdeal)
    ∧ preserves_BackConv_BackConvIdeal
    ∧ algebraic_BackConvIdeal_BackConvRefIdeal (hBackConvIdeal := hBackConvIdeal) (hBackConvRefIdeal := hBackConvRefIdeal)
    ∧ preserves_BackFfn_BackFfnIdeal
    ∧ algebraic_BackFfnIdeal_BackFfnRefIdeal_pre_finite (hBackFfnIdeal := hBackFfnIdeal) (hBackFfnRefIdeal := hBackFfnRefIdeal) (hPre_finite := hPre_finite)
-- ==== Pre_finite.lean ====
abbrev S2048x1024 : Shape := ⟨2, ![2048, 1024]⟩
abbrev S3072x1024 : Shape := ⟨2, ![3072, 1024]⟩
abbrev S2048x6144 : Shape := ⟨2, ![2048, 6144]⟩
abbrev S3x6144 : Shape := ⟨2, ![3, 6144]⟩
abbrev S1x6144 : Shape := ⟨2, ![1, 6144]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S3072x1024 : S_.BroadcastsInDim S3072x1024 (![] : Fin 0 → Fin S3072x1024.rank)
  bcast_S_S2048x6144 : S_.BroadcastsInDim S2048x6144 (![] : Fin 0 → Fin S2048x6144.rank)
  bcast_S_S3x6144 : S_.BroadcastsInDim S3x6144 (![] : Fin 0 → Fin S3x6144.rank)
  bcast_S_S1x6144 : S_.BroadcastsInDim S1x6144 (![] : Fin 0 → Fin S1x6144.rank)

variable [Facts]

def fn {F : FTy → Type} [FloatOps F] (main_arg0 : FVec F S2048x1024 .bf16) (main_arg1 : FVec F S3072x1024 .bf16) (main_arg2 : FVec F S2048x6144 .f32) (main_arg3 : FVec F S3x6144 .f32) (main_arg4 : FVec F S1x6144 .f32) : IVec S2048x1024 1 × IVec S3072x1024 1 × IVec S2048x6144 1 × IVec S3x6144 1 × IVec S1x6144 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S3072x1024 .f32 := (extf .f32 · bitsLt_bf16_f32) main_arg1
  let main_v5 : FVec F S3072x1024 .f32 := Host.absf main_v4
  let main_cst_0 : FVec F S_ .f32 := constant S_ .f32 0x7F800000#32
  let main_v6 : FVec F S3072x1024 .f32 := broadcastInDim S3072x1024 ![] bcast_S_S3072x1024 main_cst_0
  let main_v7 : IVec S3072x1024 1 := cmpf .olt main_v5 main_v6
  let main_v8 : FVec F S2048x6144 .f32 := Host.absf main_arg2
  let main_cst_1 : FVec F S_ .f32 := constant S_ .f32 0x7F800000#32
  let main_v9 : FVec F S2048x6144 .f32 := broadcastInDim S2048x6144 ![] bcast_S_S2048x6144 main_cst_1
  let main_v10 : IVec S2048x6144 1 := cmpf .olt main_v8 main_v9
  let main_v11 : FVec F S3x6144 .f32 := Host.absf main_arg3
  let main_cst_2 : FVec F S_ .f32 := constant S_ .f32 0x7F800000#32
  let main_v12 : FVec F S3x6144 .f32 := broadcastInDim S3x6144 ![] bcast_S_S3x6144 main_cst_2
  let main_v13 : IVec S3x6144 1 := cmpf .olt main_v11 main_v12
  let main_v14 : FVec F S1x6144 .f32 := Host.absf main_arg4
  let main_cst_3 : FVec F S_ .f32 := constant S_ .f32 0x7F800000#32
  let main_v15 : FVec F S1x6144 .f32 := broadcastInDim S1x6144 ![] bcast_S_S1x6144 main_cst_3
  let main_v16 : IVec S1x6144 1 := cmpf .olt main_v14 main_v15
  (main_v3, main_v7, main_v10, main_v13, main_v16)
-- ==== Gather.lean ====
abbrev S1024x1792 : Shape := ⟨2, ![1024, 1792]⟩
abbrev S1024x1536 : Shape := ⟨2, ![1024, 1536]⟩
abbrev S256x1024 : Shape := ⟨2, ![256, 1024]⟩
abbrev S768x1024 : Shape := ⟨2, ![768, 1024]⟩
abbrev S544x256 : Shape := ⟨2, ![544, 256]⟩
abbrev S4x1024x1792 : Shape := ⟨3, ![4, 1024, 1792]⟩
abbrev S4x1024x1536 : Shape := ⟨3, ![4, 1024, 1536]⟩
abbrev S4x256x1024 : Shape := ⟨3, ![4, 256, 1024]⟩
abbrev S4x768x1024 : Shape := ⟨3, ![4, 768, 1024]⟩
abbrev S4x544x256 : Shape := ⟨3, ![4, 544, 256]⟩
abbrev S7 : Shape := ⟨1, ![7]⟩
abbrev S21 : Shape := ⟨1, ![21]⟩
abbrev S1 : Shape := ⟨1, ![1]⟩
abbrev S_ : Shape := ⟨0, ![]⟩
abbrev S1x1024x1792 : Shape := ⟨3, ![1, 1024, 1792]⟩
abbrev S1x1024x1536 : Shape := ⟨3, ![1, 1024, 1536]⟩
abbrev S1x256x1024 : Shape := ⟨3, ![1, 256, 1024]⟩
abbrev S1x768x1024 : Shape := ⟨3, ![1, 768, 1024]⟩
abbrev S1x544x256 : Shape := ⟨3, ![1, 544, 256]⟩
abbrev S512x1792 : Shape := ⟨2, ![512, 1792]⟩
abbrev S1x512x1792 : Shape := ⟨3, ![1, 512, 1792]⟩
abbrev S512x1536 : Shape := ⟨2, ![512, 1536]⟩
abbrev S1x512x1536 : Shape := ⟨3, ![1, 512, 1536]⟩
abbrev S128x1024 : Shape := ⟨2, ![128, 1024]⟩
abbrev S1x128x1024 : Shape := ⟨3, ![1, 128, 1024]⟩
abbrev S384x1024 : Shape := ⟨2, ![384, 1024]⟩
abbrev S1x384x1024 : Shape := ⟨3, ![1, 384, 1024]⟩
abbrev S272x256 : Shape := ⟨2, ![272, 256]⟩

abbrev nBuf : Space → Nat
  | .hbm => 14
  | .vmem => 0
  | .smem => 0
  | _ => 0

abbrev bufTy : (tb : Table) → Fin (tcTables nBuf tb) → BufTy
  | .hbm, ⟨0, _⟩ => ⟨S1024x1792, .bf16⟩
  | .hbm, ⟨1, _⟩ => ⟨S1024x1536, .bf16⟩
  | .hbm, ⟨2, _⟩ => ⟨S256x1024, .bf16⟩
  | .hbm, ⟨3, _⟩ => ⟨S256x1024, .bf16⟩
  | .hbm, ⟨4, _⟩ => ⟨S256x1024, .bf16⟩
  | .hbm, ⟨5, _⟩ => ⟨S768x1024, .bf16⟩
  | .hbm, ⟨6, _⟩ => ⟨S544x256, .f32⟩
  | .hbm, ⟨7, _⟩ => ⟨S4x1024x1792, .bf16⟩
  | .hbm, ⟨8, _⟩ => ⟨S4x1024x1536, .bf16⟩
  | .hbm, ⟨9, _⟩ => ⟨S4x256x1024, .bf16⟩
  | .hbm, ⟨10, _⟩ => ⟨S4x256x1024, .bf16⟩
  | .hbm, ⟨11, _⟩ => ⟨S4x256x1024, .bf16⟩
  | .hbm, ⟨12, _⟩ => ⟨S4x768x1024, .bf16⟩
  | .hbm, ⟨13, _⟩ => ⟨S4x544x256, .f32⟩
  | _, _ => ⟨S1024x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_4 : BitVec 32 := 0#32
  let c0_i32_5 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_7 : BitVec 32 := 0#32
  let c0_i32_8 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_10 : BitVec 32 := 0#32
  let c0_i32_11 : BitVec 32 := 0#32
  ![v10.toNat, 0, 0]
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_17 : BitVec 32 := 0#32
  let c0_i32_18 : BitVec 32 := 0#32
  ![v10.toNat, 0, 0]
def k0_off5 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_19 : BitVec 32 := 0#32
  let c0_i32_20 : BitVec 32 := 0#32
  ![v10.toNat, 0, 0]
def k0_off6 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_22 : BitVec 32 := 512#32
  let v41 : BitVec 32 := Scalar.muli v8 c512_i32_22
  let c0_i32_31 : BitVec 32 := 0#32
  ![v41.toNat, 0]
def k0_off7 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_22 : BitVec 32 := 512#32
  let v41 : BitVec 32 := Scalar.muli v8 c512_i32_22
  let c0_i32_30 : BitVec 32 := 0#32
  ![v10.toNat, v41.toNat, 0]
def k0_dev1 (d0 : Dev nD) : Nat :=
  let c0_i32_26 : BitVec 32 := 0#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_21 v2
  let c4_i32_25 : BitVec 32 := 4#32
  let v42 : BitVec 32 := Scalar.muli v39 c4_i32_25
  let v43 : BitVec 32 := Scalar.addi c0_i32_26 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v44 : BitVec 32 := Scalar.muli v5 c2_i32_27
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v46 : BitVec 32 := Scalar.muli v8 c1_i32_28
  let v47 : BitVec 32 := Scalar.addi v45 v46
  v47.toNat
def k0_dev2 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v59 : BitVec 32 := Scalar.muli v2 c4_i32_38
  let v60 : BitVec 32 := Scalar.addi c0_i32_39 v59
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.subi c1_i32_33 v5
  let c2_i32_40 : BitVec 32 := 2#32
  let v61 : BitVec 32 := Scalar.muli v56 c2_i32_40
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v63 : BitVec 32 := Scalar.muli v8 c1_i32_41
  let v64 : BitVec 32 := Scalar.addi v62 v63
  v64.toNat
def k0_dev3 (d0 : Dev nD) : Nat :=
  let c0_i32_53 : BitVec 32 := 0#32
  let c1_i32_46 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v73 : BitVec 32 := Scalar.subi c1_i32_46 v2
  let c4_i32_52 : BitVec 32 := 4#32
  let v77 : BitVec 32 := Scalar.muli v73 c4_i32_52
  let v78 : BitVec 32 := Scalar.addi c0_i32_53 v77
  let c1_i32_47 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v74 : BitVec 32 := Scalar.subi c1_i32_47 v5
  let c2_i32_54 : BitVec 32 := 2#32
  let v79 : BitVec 32 := Scalar.muli v74 c2_i32_54
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v81 : BitVec 32 := Scalar.muli v8 c1_i32_55
  let v82 : BitVec 32 := Scalar.addi v80 v81
  v82.toNat
def k0_off8 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_62 : BitVec 32 := 512#32
  let v93 : BitVec 32 := Scalar.muli v8 c512_i32_62
  let c0_i32_71 : BitVec 32 := 0#32
  ![v93.toNat, 0]
def k0_off9 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_62 : BitVec 32 := 512#32
  let v93 : BitVec 32 := Scalar.muli v8 c512_i32_62
  let c0_i32_70 : BitVec 32 := 0#32
  ![v10.toNat, v93.toNat, 0]
def k0_dev4 (d0 : Dev nD) : Nat :=
  let c0_i32_66 : BitVec 32 := 0#32
  let c1_i32_60 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v91 : BitVec 32 := Scalar.subi c1_i32_60 v2
  let c4_i32_65 : BitVec 32 := 4#32
  let v94 : BitVec 32 := Scalar.muli v91 c4_i32_65
  let v95 : BitVec 32 := Scalar.addi c0_i32_66 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v96 : BitVec 32 := Scalar.muli v5 c2_i32_67
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v98 : BitVec 32 := Scalar.muli v8 c1_i32_68
  let v99 : BitVec 32 := Scalar.addi v97 v98
  v99.toNat
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v111 : BitVec 32 := Scalar.muli v2 c4_i32_78
  let v112 : BitVec 32 := Scalar.addi c0_i32_79 v111
  let c1_i32_73 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v108 : BitVec 32 := Scalar.subi c1_i32_73 v5
  let c2_i32_80 : BitVec 32 := 2#32
  let v113 : BitVec 32 := Scalar.muli v108 c2_i32_80
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v115 : BitVec 32 := Scalar.muli v8 c1_i32_81
  let v116 : BitVec 32 := Scalar.addi v114 v115
  v116.toNat
def k0_dev6 (d0 : Dev nD) : Nat :=
  let c0_i32_93 : BitVec 32 := 0#32
  let c1_i32_86 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_86 v2
  let c4_i32_92 : BitVec 32 := 4#32
  let v129 : BitVec 32 := Scalar.muli v125 c4_i32_92
  let v130 : BitVec 32 := Scalar.addi c0_i32_93 v129
  let c1_i32_87 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v126 : BitVec 32 := Scalar.subi c1_i32_87 v5
  let c2_i32_94 : BitVec 32 := 2#32
  let v131 : BitVec 32 := Scalar.muli v126 c2_i32_94
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_95 : BitVec 32 := 1#32
  let v133 : BitVec 32 := Scalar.muli v8 c1_i32_95
  let v134 : BitVec 32 := Scalar.addi v132 v133
  v134.toNat
def k0_off10 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_101 : BitVec 32 := 128#32
  let v145 : BitVec 32 := Scalar.muli v8 c128_i32_101
  let c0_i32_110 : BitVec 32 := 0#32
  ![v145.toNat, 0]
def k0_off11 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_101 : BitVec 32 := 128#32
  let v145 : BitVec 32 := Scalar.muli v8 c128_i32_101
  let c0_i32_109 : BitVec 32 := 0#32
  ![v10.toNat, v145.toNat, 0]
def k0_dev7 (d0 : Dev nD) : Nat :=
  let c0_i32_105 : BitVec 32 := 0#32
  let c1_i32_100 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v143 : BitVec 32 := Scalar.subi c1_i32_100 v2
  let c4_i32_104 : BitVec 32 := 4#32
  let v146 : BitVec 32 := Scalar.muli v143 c4_i32_104
  let v147 : BitVec 32 := Scalar.addi c0_i32_105 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v148 : BitVec 32 := Scalar.muli v5 c2_i32_106
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v150 : BitVec 32 := Scalar.muli v8 c1_i32_107
  let v151 : BitVec 32 := Scalar.addi v149 v150
  v151.toNat
def k0_dev8 (d0 : Dev nD) : Nat :=
  let c0_i32_117 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_116 : BitVec 32 := 4#32
  let v163 : BitVec 32 := Scalar.muli v2 c4_i32_116
  let v164 : BitVec 32 := Scalar.addi c0_i32_117 v163
  let c1_i32_112 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v160 : BitVec 32 := Scalar.subi c1_i32_112 v5
  let c2_i32_118 : BitVec 32 := 2#32
  let v165 : BitVec 32 := Scalar.muli v160 c2_i32_118
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_119 : BitVec 32 := 1#32
  let v167 : BitVec 32 := Scalar.muli v8 c1_i32_119
  let v168 : BitVec 32 := Scalar.addi v166 v167
  v168.toNat
def k0_dev9 (d0 : Dev nD) : Nat :=
  let c0_i32_130 : BitVec 32 := 0#32
  let c1_i32_124 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v177 : BitVec 32 := Scalar.subi c1_i32_124 v2
  let c4_i32_129 : BitVec 32 := 4#32
  let v181 : BitVec 32 := Scalar.muli v177 c4_i32_129
  let v182 : BitVec 32 := Scalar.addi c0_i32_130 v181
  let c1_i32_125 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v178 : BitVec 32 := Scalar.subi c1_i32_125 v5
  let c2_i32_131 : BitVec 32 := 2#32
  let v183 : BitVec 32 := Scalar.muli v178 c2_i32_131
  let v184 : BitVec 32 := Scalar.addi v182 v183
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_132 : BitVec 32 := 1#32
  let v185 : BitVec 32 := Scalar.muli v8 c1_i32_132
  let v186 : BitVec 32 := Scalar.addi v184 v185
  v186.toNat
def k0_dev10 (d0 : Dev nD) : Nat :=
  let c0_i32_142 : BitVec 32 := 0#32
  let c1_i32_137 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v195 : BitVec 32 := Scalar.subi c1_i32_137 v2
  let c4_i32_141 : BitVec 32 := 4#32
  let v198 : BitVec 32 := Scalar.muli v195 c4_i32_141
  let v199 : BitVec 32 := Scalar.addi c0_i32_142 v198
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v200 : BitVec 32 := Scalar.muli v5 c2_i32_143
  let v201 : BitVec 32 := Scalar.addi v199 v200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v202 : BitVec 32 := Scalar.muli v8 c1_i32_144
  let v203 : BitVec 32 := Scalar.addi v201 v202
  v203.toNat
def k0_dev11 (d0 : Dev nD) : Nat :=
  let c0_i32_154 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_153 : BitVec 32 := 4#32
  let v215 : BitVec 32 := Scalar.muli v2 c4_i32_153
  let v216 : BitVec 32 := Scalar.addi c0_i32_154 v215
  let c1_i32_149 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v212 : BitVec 32 := Scalar.subi c1_i32_149 v5
  let c2_i32_155 : BitVec 32 := 2#32
  let v217 : BitVec 32 := Scalar.muli v212 c2_i32_155
  let v218 : BitVec 32 := Scalar.addi v216 v217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v219 : BitVec 32 := Scalar.muli v8 c1_i32_156
  let v220 : BitVec 32 := Scalar.addi v218 v219
  v220.toNat
def k0_dev12 (d0 : Dev nD) : Nat :=
  let c0_i32_167 : BitVec 32 := 0#32
  let c1_i32_161 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v229 : BitVec 32 := Scalar.subi c1_i32_161 v2
  let c4_i32_166 : BitVec 32 := 4#32
  let v233 : BitVec 32 := Scalar.muli v229 c4_i32_166
  let v234 : BitVec 32 := Scalar.addi c0_i32_167 v233
  let c1_i32_162 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v230 : BitVec 32 := Scalar.subi c1_i32_162 v5
  let c2_i32_168 : BitVec 32 := 2#32
  let v235 : BitVec 32 := Scalar.muli v230 c2_i32_168
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_169 : BitVec 32 := 1#32
  let v237 : BitVec 32 := Scalar.muli v8 c1_i32_169
  let v238 : BitVec 32 := Scalar.addi v236 v237
  v238.toNat
def k0_dev13 (d0 : Dev nD) : Nat :=
  let c0_i32_179 : BitVec 32 := 0#32
  let c1_i32_174 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v247 : BitVec 32 := Scalar.subi c1_i32_174 v2
  let c4_i32_178 : BitVec 32 := 4#32
  let v250 : BitVec 32 := Scalar.muli v247 c4_i32_178
  let v251 : BitVec 32 := Scalar.addi c0_i32_179 v250
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_180 : BitVec 32 := 2#32
  let v252 : BitVec 32 := Scalar.muli v5 c2_i32_180
  let v253 : BitVec 32 := Scalar.addi v251 v252
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_181 : BitVec 32 := 1#32
  let v254 : BitVec 32 := Scalar.muli v8 c1_i32_181
  let v255 : BitVec 32 := Scalar.addi v253 v254
  v255.toNat
def k0_dev14 (d0 : Dev nD) : Nat :=
  let c0_i32_191 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_190 : BitVec 32 := 4#32
  let v267 : BitVec 32 := Scalar.muli v2 c4_i32_190
  let v268 : BitVec 32 := Scalar.addi c0_i32_191 v267
  let c1_i32_186 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v264 : BitVec 32 := Scalar.subi c1_i32_186 v5
  let c2_i32_192 : BitVec 32 := 2#32
  let v269 : BitVec 32 := Scalar.muli v264 c2_i32_192
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_193 : BitVec 32 := 1#32
  let v271 : BitVec 32 := Scalar.muli v8 c1_i32_193
  let v272 : BitVec 32 := Scalar.addi v270 v271
  v272.toNat
def k0_dev15 (d0 : Dev nD) : Nat :=
  let c0_i32_204 : BitVec 32 := 0#32
  let c1_i32_198 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v281 : BitVec 32 := Scalar.subi c1_i32_198 v2
  let c4_i32_203 : BitVec 32 := 4#32
  let v285 : BitVec 32 := Scalar.muli v281 c4_i32_203
  let v286 : BitVec 32 := Scalar.addi c0_i32_204 v285
  let c1_i32_199 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v282 : BitVec 32 := Scalar.subi c1_i32_199 v5
  let c2_i32_205 : BitVec 32 := 2#32
  let v287 : BitVec 32 := Scalar.muli v282 c2_i32_205
  let v288 : BitVec 32 := Scalar.addi v286 v287
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_206 : BitVec 32 := 1#32
  let v289 : BitVec 32 := Scalar.muli v8 c1_i32_206
  let v290 : BitVec 32 := Scalar.addi v288 v289
  v290.toNat
def k0_off12 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c384_i32_212 : BitVec 32 := 384#32
  let v301 : BitVec 32 := Scalar.muli v8 c384_i32_212
  let c0_i32_220 : BitVec 32 := 0#32
  ![v301.toNat, 0]
def k0_off13 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c384_i32_212 : BitVec 32 := 384#32
  let v301 : BitVec 32 := Scalar.muli v8 c384_i32_212
  let c0_i32_219 : BitVec 32 := 0#32
  ![v10.toNat, v301.toNat, 0]
def k0_dev16 (d0 : Dev nD) : Nat :=
  let c0_i32_215 : BitVec 32 := 0#32
  let c1_i32_211 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v299 : BitVec 32 := Scalar.subi c1_i32_211 v2
  let c4_i32_214 : BitVec 32 := 4#32
  let v302 : BitVec 32 := Scalar.muli v299 c4_i32_214
  let v303 : BitVec 32 := Scalar.addi c0_i32_215 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_216 : BitVec 32 := 2#32
  let v304 : BitVec 32 := Scalar.muli v5 c2_i32_216
  let v305 : BitVec 32 := Scalar.addi v303 v304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_217 : BitVec 32 := 1#32
  let v306 : BitVec 32 := Scalar.muli v8 c1_i32_217
  let v307 : BitVec 32 := Scalar.addi v305 v306
  v307.toNat
def k0_dev17 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v319 : BitVec 32 := Scalar.muli v2 c4_i32_226
  let v320 : BitVec 32 := Scalar.addi c0_i32_227 v319
  let c1_i32_222 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v316 : BitVec 32 := Scalar.subi c1_i32_222 v5
  let c2_i32_228 : BitVec 32 := 2#32
  let v321 : BitVec 32 := Scalar.muli v316 c2_i32_228
  let v322 : BitVec 32 := Scalar.addi v320 v321
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v323 : BitVec 32 := Scalar.muli v8 c1_i32_229
  let v324 : BitVec 32 := Scalar.addi v322 v323
  v324.toNat
def k0_dev18 (d0 : Dev nD) : Nat :=
  let c0_i32_240 : BitVec 32 := 0#32
  let c1_i32_234 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v333 : BitVec 32 := Scalar.subi c1_i32_234 v2
  let c4_i32_239 : BitVec 32 := 4#32
  let v337 : BitVec 32 := Scalar.muli v333 c4_i32_239
  let v338 : BitVec 32 := Scalar.addi c0_i32_240 v337
  let c1_i32_235 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v334 : BitVec 32 := Scalar.subi c1_i32_235 v5
  let c2_i32_241 : BitVec 32 := 2#32
  let v339 : BitVec 32 := Scalar.muli v334 c2_i32_241
  let v340 : BitVec 32 := Scalar.addi v338 v339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_242 : BitVec 32 := 1#32
  let v341 : BitVec 32 := Scalar.muli v8 c1_i32_242
  let v342 : BitVec 32 := Scalar.addi v340 v341
  v342.toNat
def k0_off14 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c272_i32_248 : BitVec 32 := 272#32
  let v353 : BitVec 32 := Scalar.muli v8 c272_i32_248
  let c0_i32_256 : BitVec 32 := 0#32
  ![v353.toNat, 0]
def k0_dev19 (d0 : Dev nD) : Nat :=
  let c0_i32_251 : BitVec 32 := 0#32
  let c1_i32_247 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v351 : BitVec 32 := Scalar.subi c1_i32_247 v2
  let c4_i32_250 : BitVec 32 := 4#32
  let v354 : BitVec 32 := Scalar.muli v351 c4_i32_250
  let v355 : BitVec 32 := Scalar.addi c0_i32_251 v354
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_252 : BitVec 32 := 2#32
  let v356 : BitVec 32 := Scalar.muli v5 c2_i32_252
  let v357 : BitVec 32 := Scalar.addi v355 v356
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_253 : BitVec 32 := 1#32
  let v358 : BitVec 32 := Scalar.muli v8 c1_i32_253
  let v359 : BitVec 32 := Scalar.addi v357 v358
  v359.toNat
def k0_dev20 (d0 : Dev nD) : Nat :=
  let c0_i32_263 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_262 : BitVec 32 := 4#32
  let v371 : BitVec 32 := Scalar.muli v2 c4_i32_262
  let v372 : BitVec 32 := Scalar.addi c0_i32_263 v371
  let c1_i32_258 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v368 : BitVec 32 := Scalar.subi c1_i32_258 v5
  let c2_i32_264 : BitVec 32 := 2#32
  let v373 : BitVec 32 := Scalar.muli v368 c2_i32_264
  let v374 : BitVec 32 := Scalar.addi v372 v373
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_265 : BitVec 32 := 1#32
  let v375 : BitVec 32 := Scalar.muli v8 c1_i32_265
  let v376 : BitVec 32 := Scalar.addi v374 v375
  v376.toNat
def k0_dev21 (d0 : Dev nD) : Nat :=
  let c0_i32_276 : BitVec 32 := 0#32
  let c1_i32_270 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v385 : BitVec 32 := Scalar.subi c1_i32_270 v2
  let c4_i32_275 : BitVec 32 := 4#32
  let v389 : BitVec 32 := Scalar.muli v385 c4_i32_275
  let v390 : BitVec 32 := Scalar.addi c0_i32_276 v389
  let c1_i32_271 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v386 : BitVec 32 := Scalar.subi c1_i32_271 v5
  let c2_i32_277 : BitVec 32 := 2#32
  let v391 : BitVec 32 := Scalar.muli v386 c2_i32_277
  let v392 : BitVec 32 := Scalar.addi v390 v391
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_278 : BitVec 32 := 1#32
  let v393 : BitVec 32 := Scalar.muli v8 c1_i32_278
  let v394 : BitVec 32 := Scalar.addi v392 v393
  v394.toNat
def k0_off15 (d0 : Dev nD) : Fin 3 → Nat :=
  let c2_i32_284 : BitVec 32 := 2#32
  let c1_i32_283 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v403 : BitVec 32 := Scalar.subi c1_i32_283 v2
  let v404 : BitVec 32 := Scalar.muli c2_i32_284 v403
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v405 : BitVec 32 := Scalar.addi v404 v5
  let c0_i32_294 : BitVec 32 := 0#32
  let c0_i32_295 : BitVec 32 := 0#32
  ![v405.toNat, 0, 0]
def k0_off16 (d0 : Dev nD) : Fin 3 → Nat :=
  let c2_i32_284 : BitVec 32 := 2#32
  let c1_i32_283 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v403 : BitVec 32 := Scalar.subi c1_i32_283 v2
  let v404 : BitVec 32 := Scalar.muli c2_i32_284 v403
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v405 : BitVec 32 := Scalar.addi v404 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_287 : BitVec 32 := 512#32
  let v408 : BitVec 32 := Scalar.muli v8 c512_i32_287
  let c0_i32_295 : BitVec 32 := 0#32
  ![v405.toNat, v408.toNat, 0]
def k0_dev22 (d0 : Dev nD) : Nat :=
  let c0_i32_305 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_304 : BitVec 32 := 4#32
  let v426 : BitVec 32 := Scalar.muli v2 c4_i32_304
  let v427 : BitVec 32 := Scalar.addi c0_i32_305 v426
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_306 : BitVec 32 := 2#32
  let v428 : BitVec 32 := Scalar.muli v5 c2_i32_306
  let v429 : BitVec 32 := Scalar.addi v427 v428
  let c1_i32_301 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v425 : BitVec 32 := Scalar.subi c1_i32_301 v8
  let c1_i32_307 : BitVec 32 := 1#32
  let v430 : BitVec 32 := Scalar.muli v425 c1_i32_307
  let v431 : BitVec 32 := Scalar.addi v429 v430
  v431.toNat
def k0_off17 (d0 : Dev nD) : Fin 3 → Nat :=
  let c2_i32_315 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v443 : BitVec 32 := Scalar.muli c2_i32_315 v2
  let c1_i32_314 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v442 : BitVec 32 := Scalar.subi c1_i32_314 v5
  let v444 : BitVec 32 := Scalar.addi v443 v442
  let c0_i32_325 : BitVec 32 := 0#32
  let c0_i32_326 : BitVec 32 := 0#32
  ![v444.toNat, 0, 0]
def k0_off18 (d0 : Dev nD) : Fin 3 → Nat :=
  let c2_i32_315 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v443 : BitVec 32 := Scalar.muli c2_i32_315 v2
  let c1_i32_314 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v442 : BitVec 32 := Scalar.subi c1_i32_314 v5
  let v444 : BitVec 32 := Scalar.addi v443 v442
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_318 : BitVec 32 := 512#32
  let v447 : BitVec 32 := Scalar.muli v8 c512_i32_318
  let c0_i32_326 : BitVec 32 := 0#32
  ![v444.toNat, v447.toNat, 0]
def k0_dev23 (d0 : Dev nD) : Nat :=
  let c0_i32_336 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_335 : BitVec 32 := 4#32
  let v465 : BitVec 32 := Scalar.muli v2 c4_i32_335
  let v466 : BitVec 32 := Scalar.addi c0_i32_336 v465
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_337 : BitVec 32 := 2#32
  let v467 : BitVec 32 := Scalar.muli v5 c2_i32_337
  let v468 : BitVec 32 := Scalar.addi v466 v467
  let c1_i32_332 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v464 : BitVec 32 := Scalar.subi c1_i32_332 v8
  let c1_i32_338 : BitVec 32 := 1#32
  let v469 : BitVec 32 := Scalar.muli v464 c1_i32_338
  let v470 : BitVec 32 := Scalar.addi v468 v469
  v470.toNat
def k0_off19 (d0 : Dev nD) : Fin 3 → Nat :=
  let c2_i32_347 : BitVec 32 := 2#32
  let c1_i32_345 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v481 : BitVec 32 := Scalar.subi c1_i32_345 v2
  let v483 : BitVec 32 := Scalar.muli c2_i32_347 v481
  let c1_i32_346 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v482 : BitVec 32 := Scalar.subi c1_i32_346 v5
  let v484 : BitVec 32 := Scalar.addi v483 v482
  let c0_i32_358 : BitVec 32 := 0#32
  let c0_i32_359 : BitVec 32 := 0#32
  ![v484.toNat, 0, 0]
def k0_off20 (d0 : Dev nD) : Fin 3 → Nat :=
  let c2_i32_347 : BitVec 32 := 2#32
  let c1_i32_345 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v481 : BitVec 32 := Scalar.subi c1_i32_345 v2
  let v483 : BitVec 32 := Scalar.muli c2_i32_347 v481
  let c1_i32_346 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v482 : BitVec 32 := Scalar.subi c1_i32_346 v5
  let v484 : BitVec 32 := Scalar.addi v483 v482
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_351 : BitVec 32 := 512#32
  let v488 : BitVec 32 := Scalar.muli v8 c512_i32_351
  let c0_i32_359 : BitVec 32 := 0#32
  ![v484.toNat, v488.toNat, 0]
def k0_dev24 (d0 : Dev nD) : Nat :=
  let c0_i32_370 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_369 : BitVec 32 := 4#32
  let v507 : BitVec 32 := Scalar.muli v2 c4_i32_369
  let v508 : BitVec 32 := Scalar.addi c0_i32_370 v507
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_371 : BitVec 32 := 2#32
  let v509 : BitVec 32 := Scalar.muli v5 c2_i32_371
  let v510 : BitVec 32 := Scalar.addi v508 v509
  let c1_i32_366 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v506 : BitVec 32 := Scalar.subi c1_i32_366 v8
  let c1_i32_372 : BitVec 32 := 1#32
  let v511 : BitVec 32 := Scalar.muli v506 c1_i32_372
  let v512 : BitVec 32 := Scalar.addi v510 v511
  v512.toNat
def k0_off21 (d0 : Dev nD) : Fin 3 → Nat :=
  let c2_i32_380 : BitVec 32 := 2#32
  let c1_i32_379 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v523 : BitVec 32 := Scalar.subi c1_i32_379 v2
  let v524 : BitVec 32 := Scalar.muli c2_i32_380 v523
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v525 : BitVec 32 := Scalar.addi v524 v5
  let c0_i32_390 : BitVec 32 := 0#32
  let c0_i32_391 : BitVec 32 := 0#32
  ![v525.toNat, 0, 0]
def k0_off22 (d0 : Dev nD) : Fin 3 → Nat :=
  let c2_i32_380 : BitVec 32 := 2#32
  let c1_i32_379 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v523 : BitVec 32 := Scalar.subi c1_i32_379 v2
  let v524 : BitVec 32 := Scalar.muli c2_i32_380 v523
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v525 : BitVec 32 := Scalar.addi v524 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_383 : BitVec 32 := 512#32
  let v528 : BitVec 32 := Scalar.muli v8 c512_i32_383
  let c0_i32_391 : BitVec 32 := 0#32
  ![v525.toNat, v528.toNat, 0]
def k0_dev25 (d0 : Dev nD) : Nat :=
  let c0_i32_401 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_400 : BitVec 32 := 4#32
  let v546 : BitVec 32 := Scalar.muli v2 c4_i32_400
  let v547 : BitVec 32 := Scalar.addi c0_i32_401 v546
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_402 : BitVec 32 := 2#32
  let v548 : BitVec 32 := Scalar.muli v5 c2_i32_402
  let v549 : BitVec 32 := Scalar.addi v547 v548
  let c1_i32_397 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v545 : BitVec 32 := Scalar.subi c1_i32_397 v8
  let c1_i32_403 : BitVec 32 := 1#32
  let v550 : BitVec 32 := Scalar.muli v545 c1_i32_403
  let v551 : BitVec 32 := Scalar.addi v549 v550
  v551.toNat
def k0_off23 (d0 : Dev nD) : Fin 3 → Nat :=
  let c2_i32_411 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v563 : BitVec 32 := Scalar.muli c2_i32_411 v2
  let c1_i32_410 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v562 : BitVec 32 := Scalar.subi c1_i32_410 v5
  let v564 : BitVec 32 := Scalar.addi v563 v562
  let c0_i32_421 : BitVec 32 := 0#32
  let c0_i32_422 : BitVec 32 := 0#32
  ![v564.toNat, 0, 0]
def k0_off24 (d0 : Dev nD) : Fin 3 → Nat :=
  let c2_i32_411 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v563 : BitVec 32 := Scalar.muli c2_i32_411 v2
  let c1_i32_410 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v562 : BitVec 32 := Scalar.subi c1_i32_410 v5
  let v564 : BitVec 32 := Scalar.addi v563 v562
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_414 : BitVec 32 := 512#32
  let v567 : BitVec 32 := Scalar.muli v8 c512_i32_414
  let c0_i32_422 : BitVec 32 := 0#32
  ![v564.toNat, v567.toNat, 0]
def k0_dev26 (d0 : Dev nD) : Nat :=
  let c0_i32_432 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_431 : BitVec 32 := 4#32
  let v585 : BitVec 32 := Scalar.muli v2 c4_i32_431
  let v586 : BitVec 32 := Scalar.addi c0_i32_432 v585
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_433 : BitVec 32 := 2#32
  let v587 : BitVec 32 := Scalar.muli v5 c2_i32_433
  let v588 : BitVec 32 := Scalar.addi v586 v587
  let c1_i32_428 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v584 : BitVec 32 := Scalar.subi c1_i32_428 v8
  let c1_i32_434 : BitVec 32 := 1#32
  let v589 : BitVec 32 := Scalar.muli v584 c1_i32_434
  let v590 : BitVec 32 := Scalar.addi v588 v589
  v590.toNat
def k0_off25 (d0 : Dev nD) : Fin 3 → Nat :=
  let c2_i32_443 : BitVec 32 := 2#32
  let c1_i32_441 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v601 : BitVec 32 := Scalar.subi c1_i32_441 v2
  let v603 : BitVec 32 := Scalar.muli c2_i32_443 v601
  let c1_i32_442 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v602 : BitVec 32 := Scalar.subi c1_i32_442 v5
  let v604 : BitVec 32 := Scalar.addi v603 v602
  let c0_i32_454 : BitVec 32 := 0#32
  let c0_i32_455 : BitVec 32 := 0#32
  ![v604.toNat, 0, 0]
def k0_off26 (d0 : Dev nD) : Fin 3 → Nat :=
  let c2_i32_443 : BitVec 32 := 2#32
  let c1_i32_441 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v601 : BitVec 32 := Scalar.subi c1_i32_441 v2
  let v603 : BitVec 32 := Scalar.muli c2_i32_443 v601
  let c1_i32_442 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v602 : BitVec 32 := Scalar.subi c1_i32_442 v5
  let v604 : BitVec 32 := Scalar.addi v603 v602
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_447 : BitVec 32 := 512#32
  let v608 : BitVec 32 := Scalar.muli v8 c512_i32_447
  let c0_i32_455 : BitVec 32 := 0#32
  ![v604.toNat, v608.toNat, 0]
def k0_dev27 (d0 : Dev nD) : Nat :=
  let c0_i32_466 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_465 : BitVec 32 := 4#32
  let v627 : BitVec 32 := Scalar.muli v2 c4_i32_465
  let v628 : BitVec 32 := Scalar.addi c0_i32_466 v627
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_467 : BitVec 32 := 2#32
  let v629 : BitVec 32 := Scalar.muli v5 c2_i32_467
  let v630 : BitVec 32 := Scalar.addi v628 v629
  let c1_i32_462 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v626 : BitVec 32 := Scalar.subi c1_i32_462 v8
  let c1_i32_468 : BitVec 32 := 1#32
  let v631 : BitVec 32 := Scalar.muli v626 c1_i32_468
  let v632 : BitVec 32 := Scalar.addi v630 v631
  v632.toNat
def k0_off27 (d0 : Dev nD) : Fin 3 → Nat :=
  let c2_i32_476 : BitVec 32 := 2#32
  let c1_i32_475 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v643 : BitVec 32 := Scalar.subi c1_i32_475 v2
  let v644 : BitVec 32 := Scalar.muli c2_i32_476 v643
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v645 : BitVec 32 := Scalar.addi v644 v5
  let c0_i32_486 : BitVec 32 := 0#32
  let c0_i32_487 : BitVec 32 := 0#32
  ![v645.toNat, 0, 0]
def k0_off28 (d0 : Dev nD) : Fin 3 → Nat :=
  let c2_i32_476 : BitVec 32 := 2#32
  let c1_i32_475 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v643 : BitVec 32 := Scalar.subi c1_i32_475 v2
  let v644 : BitVec 32 := Scalar.muli c2_i32_476 v643
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v645 : BitVec 32 := Scalar.addi v644 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_479 : BitVec 32 := 128#32
  let v648 : BitVec 32 := Scalar.muli v8 c128_i32_479
  let c0_i32_487 : BitVec 32 := 0#32
  ![v645.toNat, v648.toNat, 0]
def k0_dev28 (d0 : Dev nD) : Nat :=
  let c0_i32_497 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_496 : BitVec 32 := 4#32
  let v666 : BitVec 32 := Scalar.muli v2 c4_i32_496
  let v667 : BitVec 32 := Scalar.addi c0_i32_497 v666
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_498 : BitVec 32 := 2#32
  let v668 : BitVec 32 := Scalar.muli v5 c2_i32_498
  let v669 : BitVec 32 := Scalar.addi v667 v668
  let c1_i32_493 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v665 : BitVec 32 := Scalar.subi c1_i32_493 v8
  let c1_i32_499 : BitVec 32 := 1#32
  let v670 : BitVec 32 := Scalar.muli v665 c1_i32_499
  let v671 : BitVec 32 := Scalar.addi v669 v670
  v671.toNat
def k0_off29 (d0 : Dev nD) : Fin 3 → Nat :=
  let c2_i32_507 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v683 : BitVec 32 := Scalar.muli c2_i32_507 v2
  let c1_i32_506 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v682 : BitVec 32 := Scalar.subi c1_i32_506 v5
  let v684 : BitVec 32 := Scalar.addi v683 v682
  let c0_i32_517 : BitVec 32 := 0#32
  let c0_i32_518 : BitVec 32 := 0#32
  ![v684.toNat, 0, 0]
def k0_off30 (d0 : Dev nD) : Fin 3 → Nat :=
  let c2_i32_507 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v683 : BitVec 32 := Scalar.muli c2_i32_507 v2
  let c1_i32_506 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v682 : BitVec 32 := Scalar.subi c1_i32_506 v5
  let v684 : BitVec 32 := Scalar.addi v683 v682
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_510 : BitVec 32 := 128#32
  let v687 : BitVec 32 := Scalar.muli v8 c128_i32_510
  let c0_i32_518 : BitVec 32 := 0#32
  ![v684.toNat, v687.toNat, 0]
def k0_dev29 (d0 : Dev nD) : Nat :=
  let c0_i32_528 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_527 : BitVec 32 := 4#32
  let v705 : BitVec 32 := Scalar.muli v2 c4_i32_527
  let v706 : BitVec 32 := Scalar.addi c0_i32_528 v705
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_529 : BitVec 32 := 2#32
  let v707 : BitVec 32 := Scalar.muli v5 c2_i32_529
  let v708 : BitVec 32 := Scalar.addi v706 v707
  let c1_i32_524 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v704 : BitVec 32 := Scalar.subi c1_i32_524 v8
  let c1_i32_530 : BitVec 32 := 1#32
  let v709 : BitVec 32 := Scalar.muli v704 c1_i32_530
  let v710 : BitVec 32 := Scalar.addi v708 v709
  v710.toNat
def k0_off31 (d0 : Dev nD) : Fin 3 → Nat :=
  let c2_i32_539 : BitVec 32 := 2#32
  let c1_i32_537 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v721 : BitVec 32 := Scalar.subi c1_i32_537 v2
  let v723 : BitVec 32 := Scalar.muli c2_i32_539 v721
  let c1_i32_538 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v722 : BitVec 32 := Scalar.subi c1_i32_538 v5
  let v724 : BitVec 32 := Scalar.addi v723 v722
  let c0_i32_550 : BitVec 32 := 0#32
  let c0_i32_551 : BitVec 32 := 0#32
  ![v724.toNat, 0, 0]
def k0_off32 (d0 : Dev nD) : Fin 3 → Nat :=
  let c2_i32_539 : BitVec 32 := 2#32
  let c1_i32_537 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v721 : BitVec 32 := Scalar.subi c1_i32_537 v2
  let v723 : BitVec 32 := Scalar.muli c2_i32_539 v721
  let c1_i32_538 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v722 : BitVec 32 := Scalar.subi c1_i32_538 v5
  let v724 : BitVec 32 := Scalar.addi v723 v722
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_543 : BitVec 32 := 128#32
  let v728 : BitVec 32 := Scalar.muli v8 c128_i32_543
  let c0_i32_551 : BitVec 32 := 0#32
  ![v724.toNat, v728.toNat, 0]
def k0_dev30 (d0 : Dev nD) : Nat :=
  let c0_i32_562 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_561 : BitVec 32 := 4#32
  let v747 : BitVec 32 := Scalar.muli v2 c4_i32_561
  let v748 : BitVec 32 := Scalar.addi c0_i32_562 v747
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_563 : BitVec 32 := 2#32
  let v749 : BitVec 32 := Scalar.muli v5 c2_i32_563
  let v750 : BitVec 32 := Scalar.addi v748 v749
  let c1_i32_558 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v746 : BitVec 32 := Scalar.subi c1_i32_558 v8
  let c1_i32_564 : BitVec 32 := 1#32
  let v751 : BitVec 32 := Scalar.muli v746 c1_i32_564
  let v752 : BitVec 32 := Scalar.addi v750 v751
  v752.toNat
def k0_dev31 (d0 : Dev nD) : Nat :=
  let c0_i32_593 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_592 : BitVec 32 := 4#32
  let v786 : BitVec 32 := Scalar.muli v2 c4_i32_592
  let v787 : BitVec 32 := Scalar.addi c0_i32_593 v786
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_594 : BitVec 32 := 2#32
  let v788 : BitVec 32 := Scalar.muli v5 c2_i32_594
  let v789 : BitVec 32 := Scalar.addi v787 v788
  let c1_i32_589 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v785 : BitVec 32 := Scalar.subi c1_i32_589 v8
  let c1_i32_595 : BitVec 32 := 1#32
  let v790 : BitVec 32 := Scalar.muli v785 c1_i32_595
  let v791 : BitVec 32 := Scalar.addi v789 v790
  v791.toNat
def k0_dev32 (d0 : Dev nD) : Nat :=
  let c0_i32_624 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_623 : BitVec 32 := 4#32
  let v825 : BitVec 32 := Scalar.muli v2 c4_i32_623
  let v826 : BitVec 32 := Scalar.addi c0_i32_624 v825
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_625 : BitVec 32 := 2#32
  let v827 : BitVec 32 := Scalar.muli v5 c2_i32_625
  let v828 : BitVec 32 := Scalar.addi v826 v827
  let c1_i32_620 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v824 : BitVec 32 := Scalar.subi c1_i32_620 v8
  let c1_i32_626 : BitVec 32 := 1#32
  let v829 : BitVec 32 := Scalar.muli v824 c1_i32_626
  let v830 : BitVec 32 := Scalar.addi v828 v829
  v830.toNat
def k0_dev33 (d0 : Dev nD) : Nat :=
  let c0_i32_658 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_657 : BitVec 32 := 4#32
  let v867 : BitVec 32 := Scalar.muli v2 c4_i32_657
  let v868 : BitVec 32 := Scalar.addi c0_i32_658 v867
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_659 : BitVec 32 := 2#32
  let v869 : BitVec 32 := Scalar.muli v5 c2_i32_659
  let v870 : BitVec 32 := Scalar.addi v868 v869
  let c1_i32_654 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v866 : BitVec 32 := Scalar.subi c1_i32_654 v8
  let c1_i32_660 : BitVec 32 := 1#32
  let v871 : BitVec 32 := Scalar.muli v866 c1_i32_660
  let v872 : BitVec 32 := Scalar.addi v870 v871
  v872.toNat
def k0_dev34 (d0 : Dev nD) : Nat :=
  let c0_i32_689 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_688 : BitVec 32 := 4#32
  let v906 : BitVec 32 := Scalar.muli v2 c4_i32_688
  let v907 : BitVec 32 := Scalar.addi c0_i32_689 v906
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_690 : BitVec 32 := 2#32
  let v908 : BitVec 32 := Scalar.muli v5 c2_i32_690
  let v909 : BitVec 32 := Scalar.addi v907 v908
  let c1_i32_685 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v905 : BitVec 32 := Scalar.subi c1_i32_685 v8
  let c1_i32_691 : BitVec 32 := 1#32
  let v910 : BitVec 32 := Scalar.muli v905 c1_i32_691
  let v911 : BitVec 32 := Scalar.addi v909 v910
  v911.toNat
def k0_dev35 (d0 : Dev nD) : Nat :=
  let c0_i32_720 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_719 : BitVec 32 := 4#32
  let v945 : BitVec 32 := Scalar.muli v2 c4_i32_719
  let v946 : BitVec 32 := Scalar.addi c0_i32_720 v945
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_721 : BitVec 32 := 2#32
  let v947 : BitVec 32 := Scalar.muli v5 c2_i32_721
  let v948 : BitVec 32 := Scalar.addi v946 v947
  let c1_i32_716 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v944 : BitVec 32 := Scalar.subi c1_i32_716 v8
  let c1_i32_722 : BitVec 32 := 1#32
  let v949 : BitVec 32 := Scalar.muli v944 c1_i32_722
  let v950 : BitVec 32 := Scalar.addi v948 v949
  v950.toNat
def k0_dev36 (d0 : Dev nD) : Nat :=
  let c0_i32_754 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_753 : BitVec 32 := 4#32
  let v987 : BitVec 32 := Scalar.muli v2 c4_i32_753
  let v988 : BitVec 32 := Scalar.addi c0_i32_754 v987
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_755 : BitVec 32 := 2#32
  let v989 : BitVec 32 := Scalar.muli v5 c2_i32_755
  let v990 : BitVec 32 := Scalar.addi v988 v989
  let c1_i32_750 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v986 : BitVec 32 := Scalar.subi c1_i32_750 v8
  let c1_i32_756 : BitVec 32 := 1#32
  let v991 : BitVec 32 := Scalar.muli v986 c1_i32_756
  let v992 : BitVec 32 := Scalar.addi v990 v991
  v992.toNat
def k0_off33 (d0 : Dev nD) : Fin 3 → Nat :=
  let c2_i32_764 : BitVec 32 := 2#32
  let c1_i32_763 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1003 : BitVec 32 := Scalar.subi c1_i32_763 v2
  let v1004 : BitVec 32 := Scalar.muli c2_i32_764 v1003
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1005 : BitVec 32 := Scalar.addi v1004 v5
  let c0_i32_774 : BitVec 32 := 0#32
  let c0_i32_775 : BitVec 32 := 0#32
  ![v1005.toNat, 0, 0]
def k0_off34 (d0 : Dev nD) : Fin 3 → Nat :=
  let c2_i32_764 : BitVec 32 := 2#32
  let c1_i32_763 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1003 : BitVec 32 := Scalar.subi c1_i32_763 v2
  let v1004 : BitVec 32 := Scalar.muli c2_i32_764 v1003
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1005 : BitVec 32 := Scalar.addi v1004 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c384_i32_767 : BitVec 32 := 384#32
  let v1008 : BitVec 32 := Scalar.muli v8 c384_i32_767
  let c0_i32_775 : BitVec 32 := 0#32
  ![v1005.toNat, v1008.toNat, 0]
def k0_dev37 (d0 : Dev nD) : Nat :=
  let c0_i32_785 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_784 : BitVec 32 := 4#32
  let v1026 : BitVec 32 := Scalar.muli v2 c4_i32_784
  let v1027 : BitVec 32 := Scalar.addi c0_i32_785 v1026
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_786 : BitVec 32 := 2#32
  let v1028 : BitVec 32 := Scalar.muli v5 c2_i32_786
  let v1029 : BitVec 32 := Scalar.addi v1027 v1028
  let c1_i32_781 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1025 : BitVec 32 := Scalar.subi c1_i32_781 v8
  let c1_i32_787 : BitVec 32 := 1#32
  let v1030 : BitVec 32 := Scalar.muli v1025 c1_i32_787
  let v1031 : BitVec 32 := Scalar.addi v1029 v1030
  v1031.toNat
def k0_off35 (d0 : Dev nD) : Fin 3 → Nat :=
  let c2_i32_795 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1043 : BitVec 32 := Scalar.muli c2_i32_795 v2
  let c1_i32_794 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1042 : BitVec 32 := Scalar.subi c1_i32_794 v5
  let v1044 : BitVec 32 := Scalar.addi v1043 v1042
  let c0_i32_805 : BitVec 32 := 0#32
  let c0_i32_806 : BitVec 32 := 0#32
  ![v1044.toNat, 0, 0]
def k0_off36 (d0 : Dev nD) : Fin 3 → Nat :=
  let c2_i32_795 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1043 : BitVec 32 := Scalar.muli c2_i32_795 v2
  let c1_i32_794 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1042 : BitVec 32 := Scalar.subi c1_i32_794 v5
  let v1044 : BitVec 32 := Scalar.addi v1043 v1042
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c384_i32_798 : BitVec 32 := 384#32
  let v1047 : BitVec 32 := Scalar.muli v8 c384_i32_798
  let c0_i32_806 : BitVec 32 := 0#32
  ![v1044.toNat, v1047.toNat, 0]
def k0_dev38 (d0 : Dev nD) : Nat :=
  let c0_i32_816 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_815 : BitVec 32 := 4#32
  let v1065 : BitVec 32 := Scalar.muli v2 c4_i32_815
  let v1066 : BitVec 32 := Scalar.addi c0_i32_816 v1065
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_817 : BitVec 32 := 2#32
  let v1067 : BitVec 32 := Scalar.muli v5 c2_i32_817
  let v1068 : BitVec 32 := Scalar.addi v1066 v1067
  let c1_i32_812 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1064 : BitVec 32 := Scalar.subi c1_i32_812 v8
  let c1_i32_818 : BitVec 32 := 1#32
  let v1069 : BitVec 32 := Scalar.muli v1064 c1_i32_818
  let v1070 : BitVec 32 := Scalar.addi v1068 v1069
  v1070.toNat
def k0_off37 (d0 : Dev nD) : Fin 3 → Nat :=
  let c2_i32_827 : BitVec 32 := 2#32
  let c1_i32_825 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1081 : BitVec 32 := Scalar.subi c1_i32_825 v2
  let v1083 : BitVec 32 := Scalar.muli c2_i32_827 v1081
  let c1_i32_826 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1082 : BitVec 32 := Scalar.subi c1_i32_826 v5
  let v1084 : BitVec 32 := Scalar.addi v1083 v1082
  let c0_i32_838 : BitVec 32 := 0#32
  let c0_i32_839 : BitVec 32 := 0#32
  ![v1084.toNat, 0, 0]
def k0_off38 (d0 : Dev nD) : Fin 3 → Nat :=
  let c2_i32_827 : BitVec 32 := 2#32
  let c1_i32_825 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1081 : BitVec 32 := Scalar.subi c1_i32_825 v2
  let v1083 : BitVec 32 := Scalar.muli c2_i32_827 v1081
  let c1_i32_826 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1082 : BitVec 32 := Scalar.subi c1_i32_826 v5
  let v1084 : BitVec 32 := Scalar.addi v1083 v1082
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c384_i32_831 : BitVec 32 := 384#32
  let v1088 : BitVec 32 := Scalar.muli v8 c384_i32_831
  let c0_i32_839 : BitVec 32 := 0#32
  ![v1084.toNat, v1088.toNat, 0]
def k0_dev39 (d0 : Dev nD) : Nat :=
  let c0_i32_850 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_849 : BitVec 32 := 4#32
  let v1107 : BitVec 32 := Scalar.muli v2 c4_i32_849
  let v1108 : BitVec 32 := Scalar.addi c0_i32_850 v1107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_851 : BitVec 32 := 2#32
  let v1109 : BitVec 32 := Scalar.muli v5 c2_i32_851
  let v1110 : BitVec 32 := Scalar.addi v1108 v1109
  let c1_i32_846 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1106 : BitVec 32 := Scalar.subi c1_i32_846 v8
  let c1_i32_852 : BitVec 32 := 1#32
  let v1111 : BitVec 32 := Scalar.muli v1106 c1_i32_852
  let v1112 : BitVec 32 := Scalar.addi v1110 v1111
  v1112.toNat
def k0_off39 (d0 : Dev nD) : Fin 3 → Nat :=
  let c2_i32_860 : BitVec 32 := 2#32
  let c1_i32_859 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1123 : BitVec 32 := Scalar.subi c1_i32_859 v2
  let v1124 : BitVec 32 := Scalar.muli c2_i32_860 v1123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1125 : BitVec 32 := Scalar.addi v1124 v5
  let c0_i32_870 : BitVec 32 := 0#32
  let c0_i32_871 : BitVec 32 := 0#32
  ![v1125.toNat, 0, 0]
def k0_dev40 (d0 : Dev nD) : Nat :=
  let c0_i32_881 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_880 : BitVec 32 := 4#32
  let v1146 : BitVec 32 := Scalar.muli v2 c4_i32_880
  let v1147 : BitVec 32 := Scalar.addi c0_i32_881 v1146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_882 : BitVec 32 := 2#32
  let v1148 : BitVec 32 := Scalar.muli v5 c2_i32_882
  let v1149 : BitVec 32 := Scalar.addi v1147 v1148
  let c1_i32_877 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1145 : BitVec 32 := Scalar.subi c1_i32_877 v8
  let c1_i32_883 : BitVec 32 := 1#32
  let v1150 : BitVec 32 := Scalar.muli v1145 c1_i32_883
  let v1151 : BitVec 32 := Scalar.addi v1149 v1150
  v1151.toNat
def k0_off40 (d0 : Dev nD) : Fin 3 → Nat :=
  let c2_i32_891 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1163 : BitVec 32 := Scalar.muli c2_i32_891 v2
  let c1_i32_890 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1162 : BitVec 32 := Scalar.subi c1_i32_890 v5
  let v1164 : BitVec 32 := Scalar.addi v1163 v1162
  let c0_i32_901 : BitVec 32 := 0#32
  let c0_i32_902 : BitVec 32 := 0#32
  ![v1164.toNat, 0, 0]
def k0_dev41 (d0 : Dev nD) : Nat :=
  let c0_i32_912 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_911 : BitVec 32 := 4#32
  let v1185 : BitVec 32 := Scalar.muli v2 c4_i32_911
  let v1186 : BitVec 32 := Scalar.addi c0_i32_912 v1185
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_913 : BitVec 32 := 2#32
  let v1187 : BitVec 32 := Scalar.muli v5 c2_i32_913
  let v1188 : BitVec 32 := Scalar.addi v1186 v1187
  let c1_i32_908 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1184 : BitVec 32 := Scalar.subi c1_i32_908 v8
  let c1_i32_914 : BitVec 32 := 1#32
  let v1189 : BitVec 32 := Scalar.muli v1184 c1_i32_914
  let v1190 : BitVec 32 := Scalar.addi v1188 v1189
  v1190.toNat
def k0_off41 (d0 : Dev nD) : Fin 3 → Nat :=
  let c2_i32_923 : BitVec 32 := 2#32
  let c1_i32_921 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1201 : BitVec 32 := Scalar.subi c1_i32_921 v2
  let v1203 : BitVec 32 := Scalar.muli c2_i32_923 v1201
  let c1_i32_922 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1202 : BitVec 32 := Scalar.subi c1_i32_922 v5
  let v1204 : BitVec 32 := Scalar.addi v1203 v1202
  let c0_i32_934 : BitVec 32 := 0#32
  let c0_i32_935 : BitVec 32 := 0#32
  ![v1204.toNat, 0, 0]
def k0_dev42 (d0 : Dev nD) : Nat :=
  let c0_i32_946 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_945 : BitVec 32 := 4#32
  let v1227 : BitVec 32 := Scalar.muli v2 c4_i32_945
  let v1228 : BitVec 32 := Scalar.addi c0_i32_946 v1227
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_947 : BitVec 32 := 2#32
  let v1229 : BitVec 32 := Scalar.muli v5 c2_i32_947
  let v1230 : BitVec 32 := Scalar.addi v1228 v1229
  let c1_i32_942 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1226 : BitVec 32 := Scalar.subi c1_i32_942 v8
  let c1_i32_948 : BitVec 32 := 1#32
  let v1231 : BitVec 32 := Scalar.muli v1226 c1_i32_948
  let v1232 : BitVec 32 := Scalar.addi v1230 v1231
  v1232.toNat
def k0_off42 (d0 : Dev nD) : Fin 2 → Nat :=
  let c1_i32_955 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1243 : BitVec 32 := Scalar.subi c1_i32_955 v8
  let c512_i32_958 : BitVec 32 := 512#32
  let v1247 : BitVec 32 := Scalar.muli v1243 c512_i32_958
  let c0_i32_968 : BitVec 32 := 0#32
  ![v1247.toNat, 0]
def k0_off43 (d0 : Dev nD) : Fin 3 → Nat :=
  let c2_i32_957 : BitVec 32 := 2#32
  let c1_i32_956 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1244 : BitVec 32 := Scalar.subi c1_i32_956 v2
  let v1245 : BitVec 32 := Scalar.muli c2_i32_957 v1244
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1246 : BitVec 32 := Scalar.addi v1245 v5
  let c1_i32_955 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1243 : BitVec 32 := Scalar.subi c1_i32_955 v8
  let c512_i32_958 : BitVec 32 := 512#32
  let v1247 : BitVec 32 := Scalar.muli v1243 c512_i32_958
  let c0_i32_970 : BitVec 32 := 0#32
  ![v1246.toNat, v1247.toNat, 0]
def k0_off44 (d0 : Dev nD) : Fin 3 → Nat :=
  let c2_i32_974 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1265 : BitVec 32 := Scalar.muli c2_i32_974 v2
  let c1_i32_973 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1264 : BitVec 32 := Scalar.subi c1_i32_973 v5
  let v1266 : BitVec 32 := Scalar.addi v1265 v1264
  let c1_i32_972 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1263 : BitVec 32 := Scalar.subi c1_i32_972 v8
  let c512_i32_975 : BitVec 32 := 512#32
  let v1267 : BitVec 32 := Scalar.muli v1263 c512_i32_975
  let c0_i32_987 : BitVec 32 := 0#32
  ![v1266.toNat, v1267.toNat, 0]
def k0_off45 (d0 : Dev nD) : Fin 3 → Nat :=
  let c2_i32_992 : BitVec 32 := 2#32
  let c1_i32_990 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1284 : BitVec 32 := Scalar.subi c1_i32_990 v2
  let v1286 : BitVec 32 := Scalar.muli c2_i32_992 v1284
  let c1_i32_991 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1285 : BitVec 32 := Scalar.subi c1_i32_991 v5
  let v1287 : BitVec 32 := Scalar.addi v1286 v1285
  let c1_i32_989 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1283 : BitVec 32 := Scalar.subi c1_i32_989 v8
  let c512_i32_993 : BitVec 32 := 512#32
  let v1288 : BitVec 32 := Scalar.muli v1283 c512_i32_993
  let c0_i32_1005 : BitVec 32 := 0#32
  ![v1287.toNat, v1288.toNat, 0]
def k0_off46 (d0 : Dev nD) : Fin 2 → Nat :=
  let c1_i32_1007 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1304 : BitVec 32 := Scalar.subi c1_i32_1007 v8
  let c512_i32_1010 : BitVec 32 := 512#32
  let v1308 : BitVec 32 := Scalar.muli v1304 c512_i32_1010
  let c0_i32_1020 : BitVec 32 := 0#32
  ![v1308.toNat, 0]
def k0_off47 (d0 : Dev nD) : Fin 3 → Nat :=
  let c2_i32_1009 : BitVec 32 := 2#32
  let c1_i32_1008 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1305 : BitVec 32 := Scalar.subi c1_i32_1008 v2
  let v1306 : BitVec 32 := Scalar.muli c2_i32_1009 v1305
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1307 : BitVec 32 := Scalar.addi v1306 v5
  let c1_i32_1007 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1304 : BitVec 32 := Scalar.subi c1_i32_1007 v8
  let c512_i32_1010 : BitVec 32 := 512#32
  let v1308 : BitVec 32 := Scalar.muli v1304 c512_i32_1010
  let c0_i32_1022 : BitVec 32 := 0#32
  ![v1307.toNat, v1308.toNat, 0]
def k0_off48 (d0 : Dev nD) : Fin 3 → Nat :=
  let c2_i32_1026 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1326 : BitVec 32 := Scalar.muli c2_i32_1026 v2
  let c1_i32_1025 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1325 : BitVec 32 := Scalar.subi c1_i32_1025 v5
  let v1327 : BitVec 32 := Scalar.addi v1326 v1325
  let c1_i32_1024 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1324 : BitVec 32 := Scalar.subi c1_i32_1024 v8
  let c512_i32_1027 : BitVec 32 := 512#32
  let v1328 : BitVec 32 := Scalar.muli v1324 c512_i32_1027
  let c0_i32_1039 : BitVec 32 := 0#32
  ![v1327.toNat, v1328.toNat, 0]
def k0_off49 (d0 : Dev nD) : Fin 3 → Nat :=
  let c2_i32_1044 : BitVec 32 := 2#32
  let c1_i32_1042 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1345 : BitVec 32 := Scalar.subi c1_i32_1042 v2
  let v1347 : BitVec 32 := Scalar.muli c2_i32_1044 v1345
  let c1_i32_1043 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1346 : BitVec 32 := Scalar.subi c1_i32_1043 v5
  let v1348 : BitVec 32 := Scalar.addi v1347 v1346
  let c1_i32_1041 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1344 : BitVec 32 := Scalar.subi c1_i32_1041 v8
  let c512_i32_1045 : BitVec 32 := 512#32
  let v1349 : BitVec 32 := Scalar.muli v1344 c512_i32_1045
  let c0_i32_1057 : BitVec 32 := 0#32
  ![v1348.toNat, v1349.toNat, 0]
def k0_off50 (d0 : Dev nD) : Fin 2 → Nat :=
  let c1_i32_1059 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1365 : BitVec 32 := Scalar.subi c1_i32_1059 v8
  let c128_i32_1062 : BitVec 32 := 128#32
  let v1369 : BitVec 32 := Scalar.muli v1365 c128_i32_1062
  let c0_i32_1072 : BitVec 32 := 0#32
  ![v1369.toNat, 0]
def k0_off51 (d0 : Dev nD) : Fin 3 → Nat :=
  let c2_i32_1061 : BitVec 32 := 2#32
  let c1_i32_1060 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1366 : BitVec 32 := Scalar.subi c1_i32_1060 v2
  let v1367 : BitVec 32 := Scalar.muli c2_i32_1061 v1366
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1368 : BitVec 32 := Scalar.addi v1367 v5
  let c1_i32_1059 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1365 : BitVec 32 := Scalar.subi c1_i32_1059 v8
  let c128_i32_1062 : BitVec 32 := 128#32
  let v1369 : BitVec 32 := Scalar.muli v1365 c128_i32_1062
  let c0_i32_1074 : BitVec 32 := 0#32
  ![v1368.toNat, v1369.toNat, 0]
def k0_off52 (d0 : Dev nD) : Fin 3 → Nat :=
  let c2_i32_1078 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1387 : BitVec 32 := Scalar.muli c2_i32_1078 v2
  let c1_i32_1077 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1386 : BitVec 32 := Scalar.subi c1_i32_1077 v5
  let v1388 : BitVec 32 := Scalar.addi v1387 v1386
  let c1_i32_1076 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1385 : BitVec 32 := Scalar.subi c1_i32_1076 v8
  let c128_i32_1079 : BitVec 32 := 128#32
  let v1389 : BitVec 32 := Scalar.muli v1385 c128_i32_1079
  let c0_i32_1091 : BitVec 32 := 0#32
  ![v1388.toNat, v1389.toNat, 0]
def k0_off53 (d0 : Dev nD) : Fin 3 → Nat :=
  let c2_i32_1096 : BitVec 32 := 2#32
  let c1_i32_1094 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1406 : BitVec 32 := Scalar.subi c1_i32_1094 v2
  let v1408 : BitVec 32 := Scalar.muli c2_i32_1096 v1406
  let c1_i32_1095 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1407 : BitVec 32 := Scalar.subi c1_i32_1095 v5
  let v1409 : BitVec 32 := Scalar.addi v1408 v1407
  let c1_i32_1093 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1405 : BitVec 32 := Scalar.subi c1_i32_1093 v8
  let c128_i32_1097 : BitVec 32 := 128#32
  let v1410 : BitVec 32 := Scalar.muli v1405 c128_i32_1097
  let c0_i32_1109 : BitVec 32 := 0#32
  ![v1409.toNat, v1410.toNat, 0]
def k0_off54 (d0 : Dev nD) : Fin 2 → Nat :=
  let c1_i32_1215 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1548 : BitVec 32 := Scalar.subi c1_i32_1215 v8
  let c384_i32_1218 : BitVec 32 := 384#32
  let v1552 : BitVec 32 := Scalar.muli v1548 c384_i32_1218
  let c0_i32_1228 : BitVec 32 := 0#32
  ![v1552.toNat, 0]
def k0_off55 (d0 : Dev nD) : Fin 3 → Nat :=
  let c2_i32_1217 : BitVec 32 := 2#32
  let c1_i32_1216 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1549 : BitVec 32 := Scalar.subi c1_i32_1216 v2
  let v1550 : BitVec 32 := Scalar.muli c2_i32_1217 v1549
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1551 : BitVec 32 := Scalar.addi v1550 v5
  let c1_i32_1215 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1548 : BitVec 32 := Scalar.subi c1_i32_1215 v8
  let c384_i32_1218 : BitVec 32 := 384#32
  let v1552 : BitVec 32 := Scalar.muli v1548 c384_i32_1218
  let c0_i32_1230 : BitVec 32 := 0#32
  ![v1551.toNat, v1552.toNat, 0]
def k0_off56 (d0 : Dev nD) : Fin 3 → Nat :=
  let c2_i32_1234 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1570 : BitVec 32 := Scalar.muli c2_i32_1234 v2
  let c1_i32_1233 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1569 : BitVec 32 := Scalar.subi c1_i32_1233 v5
  let v1571 : BitVec 32 := Scalar.addi v1570 v1569
  let c1_i32_1232 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1568 : BitVec 32 := Scalar.subi c1_i32_1232 v8
  let c384_i32_1235 : BitVec 32 := 384#32
  let v1572 : BitVec 32 := Scalar.muli v1568 c384_i32_1235
  let c0_i32_1247 : BitVec 32 := 0#32
  ![v1571.toNat, v1572.toNat, 0]
def k0_off57 (d0 : Dev nD) : Fin 3 → Nat :=
  let c2_i32_1252 : BitVec 32 := 2#32
  let c1_i32_1250 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1589 : BitVec 32 := Scalar.subi c1_i32_1250 v2
  let v1591 : BitVec 32 := Scalar.muli c2_i32_1252 v1589
  let c1_i32_1251 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1590 : BitVec 32 := Scalar.subi c1_i32_1251 v5
  let v1592 : BitVec 32 := Scalar.addi v1591 v1590
  let c1_i32_1249 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1588 : BitVec 32 := Scalar.subi c1_i32_1249 v8
  let c384_i32_1253 : BitVec 32 := 384#32
  let v1593 : BitVec 32 := Scalar.muli v1588 c384_i32_1253
  let c0_i32_1265 : BitVec 32 := 0#32
  ![v1592.toNat, v1593.toNat, 0]
def k0_off58 (d0 : Dev nD) : Fin 2 → Nat :=
  let c1_i32_1267 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1609 : BitVec 32 := Scalar.subi c1_i32_1267 v8
  let c272_i32_1270 : BitVec 32 := 272#32
  let v1613 : BitVec 32 := Scalar.muli v1609 c272_i32_1270
  let c0_i32_1280 : BitVec 32 := 0#32
  ![v1613.toNat, 0]
-- ==== GatherRef.lean ====
abbrev S1024x7168 : Shape := ⟨2, ![1024, 7168]⟩
abbrev S1024x6144 : Shape := ⟨2, ![1024, 6144]⟩
abbrev S1024x1024 : Shape := ⟨2, ![1024, 1024]⟩
abbrev S3072x1024 : Shape := ⟨2, ![3072, 1024]⟩
abbrev S2176x256 : Shape := ⟨2, ![2176, 256]⟩
abbrev S1024x1792 : Shape := ⟨2, ![1024, 1792]⟩
abbrev S1x1024x1792 : Shape := ⟨3, ![1, 1024, 1792]⟩
abbrev S4x1024x1792 : Shape := ⟨3, ![4, 1024, 1792]⟩
abbrev S1024x1536 : Shape := ⟨2, ![1024, 1536]⟩
abbrev S1x1024x1536 : Shape := ⟨3, ![1, 1024, 1536]⟩
abbrev S4x1024x1536 : Shape := ⟨3, ![4, 1024, 1536]⟩
abbrev S4x256x1024 : Shape := ⟨3, ![4, 256, 1024]⟩
abbrev S4x768x1024 : Shape := ⟨3, ![4, 768, 1024]⟩
abbrev S4x544x256 : Shape := ⟨3, ![4, 544, 256]⟩

abbrev nBuf : Space → Nat
  | .hbm => 30
  | .vmem => 0
  | .smem => 0
  | _ => 0

abbrev bufTy : (tb : Table) → Fin (tcTables nBuf tb) → BufTy
  | .hbm, ⟨0, _⟩ => ⟨S1024x7168, .bf16⟩
  | .hbm, ⟨1, _⟩ => ⟨S1024x6144, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S3072x1024, .bf16⟩
  | .hbm, ⟨6, _⟩ => ⟨S2176x256, .f32⟩
  | .hbm, ⟨7, _⟩ => ⟨S1024x1792, .bf16⟩
  | .hbm, ⟨8, _⟩ => ⟨S1024x1792, .bf16⟩
  | .hbm, ⟨9, _⟩ => ⟨S1024x1792, .bf16⟩
  | .hbm, ⟨10, _⟩ => ⟨S1024x1792, .bf16⟩
  | .hbm, ⟨11, _⟩ => ⟨S1x1024x1792, .bf16⟩
  | .hbm, ⟨12, _⟩ => ⟨S1x1024x1792, .bf16⟩
  | .hbm, ⟨13, _⟩ => ⟨S1x1024x1792, .bf16⟩
  | .hbm, ⟨14, _⟩ => ⟨S1x1024x1792, .bf16⟩
  | .hbm, ⟨15, _⟩ => ⟨S4x1024x1792, .bf16⟩
  | .hbm, ⟨16, _⟩ => ⟨S1024x1536, .bf16⟩
  | .hbm, ⟨17, _⟩ => ⟨S1024x1536, .bf16⟩
  | .hbm, ⟨18, _⟩ => ⟨S1024x1536, .bf16⟩
  | .hbm, ⟨19, _⟩ => ⟨S1024x1536, .bf16⟩
  | .hbm, ⟨20, _⟩ => ⟨S1x1024x1536, .bf16⟩
  | .hbm, ⟨21, _⟩ => ⟨S1x1024x1536, .bf16⟩
  | .hbm, ⟨22, _⟩ => ⟨S1x1024x1536, .bf16⟩
  | .hbm, ⟨23, _⟩ => ⟨S1x1024x1536, .bf16⟩
  | .hbm, ⟨24, _⟩ => ⟨S4x1024x1536, .bf16⟩
  | .hbm, ⟨25, _⟩ => ⟨S4x256x1024, .bf16⟩
  | .hbm, ⟨26, _⟩ => ⟨S4x256x1024, .bf16⟩
  | .hbm, ⟨27, _⟩ => ⟨S4x256x1024, .bf16⟩
  | .hbm, ⟨28, _⟩ => ⟨S4x768x1024, .bf16⟩
  | .hbm, ⟨29, _⟩ => ⟨S4x544x256, .f32⟩
  | _, _ => ⟨S1024x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Split.lean ====
abbrev S1024x7168 : Shape := ⟨2, ![1024, 7168]⟩
abbrev S1024x6144 : Shape := ⟨2, ![1024, 6144]⟩
abbrev S1024x1024 : Shape := ⟨2, ![1024, 1024]⟩
abbrev S3072x1024 : Shape := ⟨2, ![3072, 1024]⟩
abbrev S4x544x256 : Shape := ⟨3, ![4, 544, 256]⟩
abbrev S4x512x1792 : Shape := ⟨3, ![4, 512, 1792]⟩
abbrev S4x512x1536 : Shape := ⟨3, ![4, 512, 1536]⟩
abbrev S4x128x1024 : Shape := ⟨3, ![4, 128, 1024]⟩
abbrev S4x384x1024 : Shape := ⟨3, ![4, 384, 1024]⟩
abbrev S4x272x256 : Shape := ⟨3, ![4, 272, 256]⟩
abbrev S28 : Shape := ⟨1, ![28]⟩
abbrev S1 : Shape := ⟨1, ![1]⟩
abbrev S_ : Shape := ⟨0, ![]⟩
abbrev S1x512x1792 : Shape := ⟨3, ![1, 512, 1792]⟩
abbrev S512x1792 : Shape := ⟨2, ![512, 1792]⟩
abbrev S1x512x1536 : Shape := ⟨3, ![1, 512, 1536]⟩
abbrev S512x1536 : Shape := ⟨2, ![512, 1536]⟩
abbrev S1x128x1024 : Shape := ⟨3, ![1, 128, 1024]⟩
abbrev S128x1024 : Shape := ⟨2, ![128, 1024]⟩
abbrev S1x384x1024 : Shape := ⟨3, ![1, 384, 1024]⟩
abbrev S384x1024 : Shape := ⟨2, ![384, 1024]⟩
abbrev S1x272x256 : Shape := ⟨3, ![1, 272, 256]⟩
abbrev S272x256 : Shape := ⟨2, ![272, 256]⟩

abbrev nBuf : Space → Nat
  | .hbm => 21
  | .vmem => 0
  | .smem => 0
  | _ => 0

abbrev bufTy : (tb : Table) → Fin (tcTables nBuf tb) → BufTy
  | .hbm, ⟨0, _⟩ => ⟨S1024x7168, .bf16⟩
  | .hbm, ⟨1, _⟩ => ⟨S1024x6144, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S3072x1024, .bf16⟩
  | .hbm, ⟨6, _⟩ => ⟨S4x544x256, .f32⟩
  | .hbm, ⟨7, _⟩ => ⟨S4x512x1792, .bf16⟩
  | .hbm, ⟨8, _⟩ => ⟨S4x512x1536, .bf16⟩
  | .hbm, ⟨9, _⟩ => ⟨S4x128x1024, .bf16⟩
  | .hbm, ⟨10, _⟩ => ⟨S4x128x1024, .bf16⟩
  | .hbm, ⟨11, _⟩ => ⟨S4x128x1024, .bf16⟩
  | .hbm, ⟨12, _⟩ => ⟨S4x384x1024, .bf16⟩
  | .hbm, ⟨13, _⟩ => ⟨S4x272x256, .f32⟩
  | .hbm, ⟨14, _⟩ => ⟨S4x512x1792, .bf16⟩
  | .hbm, ⟨15, _⟩ => ⟨S4x512x1536, .bf16⟩
  | .hbm, ⟨16, _⟩ => ⟨S4x128x1024, .bf16⟩
  | .hbm, ⟨17, _⟩ => ⟨S4x128x1024, .bf16⟩
  | .hbm, ⟨18, _⟩ => ⟨S4x128x1024, .bf16⟩
  | .hbm, ⟨19, _⟩ => ⟨S4x384x1024, .bf16⟩
  | .hbm, ⟨20, _⟩ => ⟨S4x272x256, .f32⟩
  | _, _ => ⟨S1024x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩
abbrev main_v1_7 : Ref sig .tc := ⟨.hbm, 14, rfl⟩
abbrev main_v1_8 : Ref sig .tc := ⟨.hbm, 15, rfl⟩
abbrev main_v1_9 : Ref sig .tc := ⟨.hbm, 16, rfl⟩
abbrev main_v1_10 : Ref sig .tc := ⟨.hbm, 17, rfl⟩
abbrev main_v1_11 : Ref sig .tc := ⟨.hbm, 18, rfl⟩
abbrev main_v1_12 : Ref sig .tc := ⟨.hbm, 19, rfl⟩
abbrev main_v1_13 : Ref sig .tc := ⟨.hbm, 20, rfl⟩

abbrev nD : Nat := 8
abbrev τ : Topo := Topo.v7x

variable {F : FTy → Type} [FloatOps F]

abbrev grid0 : Pipeline.Grid := .none

def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v9 : BitVec 32 := Scalar.muli v8 c512_i32
  let c0_i32_142 : BitVec 32 := 0#32
  ![v9.toNat, 0]
def k0_off2 (d0 : Dev nD) : Fin 2 → Nat :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_3 v8
  let c512_i32_4 : BitVec 32 := 512#32
  let v11 : BitVec 32 := Scalar.muli v10 c512_i32_4
  let c0_i32_152 : BitVec 32 := 0#32
  ![v11.toNat, 0]
def k0_dev1 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v158 : BitVec 32 := Scalar.muli v2 c4_i32_146
  let v159 : BitVec 32 := Scalar.addi c0_i32_147 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_148 : BitVec 32 := 2#32
  let v160 : BitVec 32 := Scalar.muli v5 c2_i32_148
  let v161 : BitVec 32 := Scalar.addi v159 v160
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let c1_i32_149 : BitVec 32 := 1#32
  let v162 : BitVec 32 := Scalar.muli v12 c1_i32_149
  let v163 : BitVec 32 := Scalar.addi v161 v162
  v163.toNat
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_6 : BitVec 32 := 512#32
  let v13 : BitVec 32 := Scalar.muli v8 c512_i32_6
  let c1792_i32 : BitVec 32 := 1792#32
  ![v13.toNat, 1792]
def k0_off4 (d0 : Dev nD) : Fin 2 → Nat :=
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_7 v8
  let c512_i32_8 : BitVec 32 := 512#32
  let v15 : BitVec 32 := Scalar.muli v14 c512_i32_8
  let c1792_i32_166 : BitVec 32 := 1792#32
  ![v15.toNat, 1792]
def k0_dev2 (d0 : Dev nD) : Nat :=
  let c0_i32_161 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_160 : BitVec 32 := 4#32
  let v176 : BitVec 32 := Scalar.muli v2 c4_i32_160
  let v177 : BitVec 32 := Scalar.addi c0_i32_161 v176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_162 : BitVec 32 := 2#32
  let v178 : BitVec 32 := Scalar.muli v5 c2_i32_162
  let v179 : BitVec 32 := Scalar.addi v177 v178
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_9 v8
  let c1_i32_163 : BitVec 32 := 1#32
  let v180 : BitVec 32 := Scalar.muli v16 c1_i32_163
  let v181 : BitVec 32 := Scalar.addi v179 v180
  v181.toNat
def k0_off5 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_10 : BitVec 32 := 512#32
  let v17 : BitVec 32 := Scalar.muli v8 c512_i32_10
  let c3584_i32 : BitVec 32 := 3584#32
  ![v17.toNat, 3584]
def k0_off6 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_11 v8
  let c512_i32_12 : BitVec 32 := 512#32
  let v19 : BitVec 32 := Scalar.muli v18 c512_i32_12
  let c3584_i32_180 : BitVec 32 := 3584#32
  ![v19.toNat, 3584]
def k0_dev3 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_174 : BitVec 32 := 4#32
  let v194 : BitVec 32 := Scalar.muli v2 c4_i32_174
  let v195 : BitVec 32 := Scalar.addi c0_i32_175 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_176 : BitVec 32 := 2#32
  let v196 : BitVec 32 := Scalar.muli v5 c2_i32_176
  let v197 : BitVec 32 := Scalar.addi v195 v196
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_13 v8
  let c1_i32_177 : BitVec 32 := 1#32
  let v198 : BitVec 32 := Scalar.muli v20 c1_i32_177
  let v199 : BitVec 32 := Scalar.addi v197 v198
  v199.toNat
def k0_off7 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_14 : BitVec 32 := 512#32
  let v21 : BitVec 32 := Scalar.muli v8 c512_i32_14
  let c5376_i32 : BitVec 32 := 5376#32
  ![v21.toNat, 5376]
def k0_off8 (d0 : Dev nD) : Fin 2 → Nat :=
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_15 v8
  let c512_i32_16 : BitVec 32 := 512#32
  let v23 : BitVec 32 := Scalar.muli v22 c512_i32_16
  let c5376_i32_193 : BitVec 32 := 5376#32
  ![v23.toNat, 5376]
def k0_dev4 (d0 : Dev nD) : Nat :=
  let c0_i32_188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_187 : BitVec 32 := 4#32
  let v212 : BitVec 32 := Scalar.muli v2 c4_i32_187
  let v213 : BitVec 32 := Scalar.addi c0_i32_188 v212
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_189 : BitVec 32 := 2#32
  let v214 : BitVec 32 := Scalar.muli v5 c2_i32_189
  let v215 : BitVec 32 := Scalar.addi v213 v214
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_17 v8
  let c1_i32_190 : BitVec 32 := 1#32
  let v216 : BitVec 32 := Scalar.muli v24 c1_i32_190
  let v217 : BitVec 32 := Scalar.addi v215 v216
  v217.toNat
def k0_off9 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_18 : BitVec 32 := 512#32
  let v25 : BitVec 32 := Scalar.muli v8 c512_i32_18
  let c0_i32_198 : BitVec 32 := 0#32
  ![v25.toNat, 0]
def k0_off10 (d0 : Dev nD) : Fin 2 → Nat :=
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_19 v8
  let c512_i32_20 : BitVec 32 := 512#32
  let v27 : BitVec 32 := Scalar.muli v26 c512_i32_20
  let c0_i32_208 : BitVec 32 := 0#32
  ![v27.toNat, 0]
def k0_dev5 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v230 : BitVec 32 := Scalar.muli v2 c4_i32_202
  let v231 : BitVec 32 := Scalar.addi c0_i32_203 v230
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_204 : BitVec 32 := 2#32
  let v232 : BitVec 32 := Scalar.muli v5 c2_i32_204
  let v233 : BitVec 32 := Scalar.addi v231 v232
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_21 v8
  let c1_i32_205 : BitVec 32 := 1#32
  let v234 : BitVec 32 := Scalar.muli v28 c1_i32_205
  let v235 : BitVec 32 := Scalar.addi v233 v234
  v235.toNat
def k0_off11 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_22 : BitVec 32 := 512#32
  let v29 : BitVec 32 := Scalar.muli v8 c512_i32_22
  let c1536_i32_212 : BitVec 32 := 1536#32
  ![v29.toNat, 1536]
def k0_off12 (d0 : Dev nD) : Fin 2 → Nat :=
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_23 v8
  let c512_i32_24 : BitVec 32 := 512#32
  let v31 : BitVec 32 := Scalar.muli v30 c512_i32_24
  let c1536_i32_222 : BitVec 32 := 1536#32
  ![v31.toNat, 1536]
def k0_dev6 (d0 : Dev nD) : Nat :=
  let c0_i32_217 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_216 : BitVec 32 := 4#32
  let v248 : BitVec 32 := Scalar.muli v2 c4_i32_216
  let v249 : BitVec 32 := Scalar.addi c0_i32_217 v248
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_218 : BitVec 32 := 2#32
  let v250 : BitVec 32 := Scalar.muli v5 c2_i32_218
  let v251 : BitVec 32 := Scalar.addi v249 v250
  let c1_i32_25 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.subi c1_i32_25 v8
  let c1_i32_219 : BitVec 32 := 1#32
  let v252 : BitVec 32 := Scalar.muli v32 c1_i32_219
  let v253 : BitVec 32 := Scalar.addi v251 v252
  v253.toNat
def k0_off13 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_26 : BitVec 32 := 512#32
  let v33 : BitVec 32 := Scalar.muli v8 c512_i32_26
  let c3072_i32 : BitVec 32 := 3072#32
  ![v33.toNat, 3072]
def k0_off14 (d0 : Dev nD) : Fin 2 → Nat :=
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v34 : BitVec 32 := Scalar.subi c1_i32_27 v8
  let c512_i32_28 : BitVec 32 := 512#32
  let v35 : BitVec 32 := Scalar.muli v34 c512_i32_28
  let c3072_i32_235 : BitVec 32 := 3072#32
  ![v35.toNat, 3072]
def k0_dev7 (d0 : Dev nD) : Nat :=
  let c0_i32_230 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_229 : BitVec 32 := 4#32
  let v266 : BitVec 32 := Scalar.muli v2 c4_i32_229
  let v267 : BitVec 32 := Scalar.addi c0_i32_230 v266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_231 : BitVec 32 := 2#32
  let v268 : BitVec 32 := Scalar.muli v5 c2_i32_231
  let v269 : BitVec 32 := Scalar.addi v267 v268
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.subi c1_i32_29 v8
  let c1_i32_232 : BitVec 32 := 1#32
  let v270 : BitVec 32 := Scalar.muli v36 c1_i32_232
  let v271 : BitVec 32 := Scalar.addi v269 v270
  v271.toNat
def k0_off15 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_30 : BitVec 32 := 512#32
  let v37 : BitVec 32 := Scalar.muli v8 c512_i32_30
  let c4608_i32 : BitVec 32 := 4608#32
  ![v37.toNat, 4608]
def k0_off16 (d0 : Dev nD) : Fin 2 → Nat :=
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_31 v8
  let c512_i32_32 : BitVec 32 := 512#32
  let v39 : BitVec 32 := Scalar.muli v38 c512_i32_32
  let c4608_i32_248 : BitVec 32 := 4608#32
  ![v39.toNat, 4608]
def k0_dev8 (d0 : Dev nD) : Nat :=
  let c0_i32_243 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_242 : BitVec 32 := 4#32
  let v284 : BitVec 32 := Scalar.muli v2 c4_i32_242
  let v285 : BitVec 32 := Scalar.addi c0_i32_243 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_244 : BitVec 32 := 2#32
  let v286 : BitVec 32 := Scalar.muli v5 c2_i32_244
  let v287 : BitVec 32 := Scalar.addi v285 v286
  let c1_i32_33 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.subi c1_i32_33 v8
  let c1_i32_245 : BitVec 32 := 1#32
  let v288 : BitVec 32 := Scalar.muli v40 c1_i32_245
  let v289 : BitVec 32 := Scalar.addi v287 v288
  v289.toNat
def k0_off17 (d0 : Dev nD) (c0_i32 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v41 : BitVec 32 := Scalar.muli v8 c128_i32
  let v42 : BitVec 32 := Scalar.addi c0_i32 v41
  let c0_i32_252 : BitVec 32 := 0#32
  ![v42.toNat, 0]
def k0_off18 (d0 : Dev nD) (c0_i32_36 : BitVec 32) : Fin 2 → Nat :=
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_34 v8
  let c128_i32_35 : BitVec 32 := 128#32
  let v44 : BitVec 32 := Scalar.muli v43 c128_i32_35
  let v45 : BitVec 32 := Scalar.addi c0_i32_36 v44
  let c0_i32_262 : BitVec 32 := 0#32
  ![v45.toNat, 0]
def k0_dev9 (d0 : Dev nD) : Nat :=
  let c0_i32_257 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_256 : BitVec 32 := 4#32
  let v302 : BitVec 32 := Scalar.muli v2 c4_i32_256
  let v303 : BitVec 32 := Scalar.addi c0_i32_257 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_258 : BitVec 32 := 2#32
  let v304 : BitVec 32 := Scalar.muli v5 c2_i32_258
  let v305 : BitVec 32 := Scalar.addi v303 v304
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v46 : BitVec 32 := Scalar.subi c1_i32_37 v8
  let c1_i32_259 : BitVec 32 := 1#32
  let v306 : BitVec 32 := Scalar.muli v46 c1_i32_259
  let v307 : BitVec 32 := Scalar.addi v305 v306
  v307.toNat
def k0_dev10 (d0 : Dev nD) : Nat :=
  let c0_i32_271 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_270 : BitVec 32 := 4#32
  let v320 : BitVec 32 := Scalar.muli v2 c4_i32_270
  let v321 : BitVec 32 := Scalar.addi c0_i32_271 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_272 : BitVec 32 := 2#32
  let v322 : BitVec 32 := Scalar.muli v5 c2_i32_272
  let v323 : BitVec 32 := Scalar.addi v321 v322
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_42 v8
  let c1_i32_273 : BitVec 32 := 1#32
  let v324 : BitVec 32 := Scalar.muli v52 c1_i32_273
  let v325 : BitVec 32 := Scalar.addi v323 v324
  v325.toNat
def k0_dev11 (d0 : Dev nD) : Nat :=
  let c0_i32_285 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_284 : BitVec 32 := 4#32
  let v338 : BitVec 32 := Scalar.muli v2 c4_i32_284
  let v339 : BitVec 32 := Scalar.addi c0_i32_285 v338
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_286 : BitVec 32 := 2#32
  let v340 : BitVec 32 := Scalar.muli v5 c2_i32_286
  let v341 : BitVec 32 := Scalar.addi v339 v340
  let c1_i32_48 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_48 v8
  let c1_i32_287 : BitVec 32 := 1#32
  let v342 : BitVec 32 := Scalar.muli v58 c1_i32_287
  let v343 : BitVec 32 := Scalar.addi v341 v342
  v343.toNat
def k0_dev12 (d0 : Dev nD) : Nat :=
  let c0_i32_299 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_298 : BitVec 32 := 4#32
  let v356 : BitVec 32 := Scalar.muli v2 c4_i32_298
  let v357 : BitVec 32 := Scalar.addi c0_i32_299 v356
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_300 : BitVec 32 := 2#32
  let v358 : BitVec 32 := Scalar.muli v5 c2_i32_300
  let v359 : BitVec 32 := Scalar.addi v357 v358
  let c1_i32_53 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.subi c1_i32_53 v8
  let c1_i32_301 : BitVec 32 := 1#32
  let v360 : BitVec 32 := Scalar.muli v64 c1_i32_301
  let v361 : BitVec 32 := Scalar.addi v359 v360
  v361.toNat
def k0_dev13 (d0 : Dev nD) : Nat :=
  let c0_i32_313 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_312 : BitVec 32 := 4#32
  let v374 : BitVec 32 := Scalar.muli v2 c4_i32_312
  let v375 : BitVec 32 := Scalar.addi c0_i32_313 v374
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_314 : BitVec 32 := 2#32
  let v376 : BitVec 32 := Scalar.muli v5 c2_i32_314
  let v377 : BitVec 32 := Scalar.addi v375 v376
  let c1_i32_59 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_59 v8
  let c1_i32_315 : BitVec 32 := 1#32
  let v378 : BitVec 32 := Scalar.muli v70 c1_i32_315
  let v379 : BitVec 32 := Scalar.addi v377 v378
  v379.toNat
def k0_dev14 (d0 : Dev nD) : Nat :=
  let c0_i32_327 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_326 : BitVec 32 := 4#32
  let v392 : BitVec 32 := Scalar.muli v2 c4_i32_326
  let v393 : BitVec 32 := Scalar.addi c0_i32_327 v392
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_328 : BitVec 32 := 2#32
  let v394 : BitVec 32 := Scalar.muli v5 c2_i32_328
  let v395 : BitVec 32 := Scalar.addi v393 v394
  let c1_i32_65 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v76 : BitVec 32 := Scalar.subi c1_i32_65 v8
  let c1_i32_329 : BitVec 32 := 1#32
  let v396 : BitVec 32 := Scalar.muli v76 c1_i32_329
  let v397 : BitVec 32 := Scalar.addi v395 v396
  v397.toNat
def k0_dev15 (d0 : Dev nD) : Nat :=
  let c0_i32_341 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_340 : BitVec 32 := 4#32
  let v410 : BitVec 32 := Scalar.muli v2 c4_i32_340
  let v411 : BitVec 32 := Scalar.addi c0_i32_341 v410
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_342 : BitVec 32 := 2#32
  let v412 : BitVec 32 := Scalar.muli v5 c2_i32_342
  let v413 : BitVec 32 := Scalar.addi v411 v412
  let c1_i32_71 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v82 : BitVec 32 := Scalar.subi c1_i32_71 v8
  let c1_i32_343 : BitVec 32 := 1#32
  let v414 : BitVec 32 := Scalar.muli v82 c1_i32_343
  let v415 : BitVec 32 := Scalar.addi v413 v414
  v415.toNat
def k0_dev16 (d0 : Dev nD) : Nat :=
  let c0_i32_355 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_354 : BitVec 32 := 4#32
  let v428 : BitVec 32 := Scalar.muli v2 c4_i32_354
  let v429 : BitVec 32 := Scalar.addi c0_i32_355 v428
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_356 : BitVec 32 := 2#32
  let v430 : BitVec 32 := Scalar.muli v5 c2_i32_356
  let v431 : BitVec 32 := Scalar.addi v429 v430
  let c1_i32_77 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v88 : BitVec 32 := Scalar.subi c1_i32_77 v8
  let c1_i32_357 : BitVec 32 := 1#32
  let v432 : BitVec 32 := Scalar.muli v88 c1_i32_357
  let v433 : BitVec 32 := Scalar.addi v431 v432
  v433.toNat
def k0_dev17 (d0 : Dev nD) : Nat :=
  let c0_i32_369 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_368 : BitVec 32 := 4#32
  let v446 : BitVec 32 := Scalar.muli v2 c4_i32_368
  let v447 : BitVec 32 := Scalar.addi c0_i32_369 v446
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_370 : BitVec 32 := 2#32
  let v448 : BitVec 32 := Scalar.muli v5 c2_i32_370
  let v449 : BitVec 32 := Scalar.addi v447 v448
  let c1_i32_83 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v94 : BitVec 32 := Scalar.subi c1_i32_83 v8
  let c1_i32_371 : BitVec 32 := 1#32
  let v450 : BitVec 32 := Scalar.muli v94 c1_i32_371
  let v451 : BitVec 32 := Scalar.addi v449 v450
  v451.toNat
def k0_dev18 (d0 : Dev nD) : Nat :=
  let c0_i32_383 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_382 : BitVec 32 := 4#32
  let v464 : BitVec 32 := Scalar.muli v2 c4_i32_382
  let v465 : BitVec 32 := Scalar.addi c0_i32_383 v464
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_384 : BitVec 32 := 2#32
  let v466 : BitVec 32 := Scalar.muli v5 c2_i32_384
  let v467 : BitVec 32 := Scalar.addi v465 v466
  let c1_i32_89 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_89 v8
  let c1_i32_385 : BitVec 32 := 1#32
  let v468 : BitVec 32 := Scalar.muli v100 c1_i32_385
  let v469 : BitVec 32 := Scalar.addi v467 v468
  v469.toNat
def k0_dev19 (d0 : Dev nD) : Nat :=
  let c0_i32_397 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_396 : BitVec 32 := 4#32
  let v482 : BitVec 32 := Scalar.muli v2 c4_i32_396
  let v483 : BitVec 32 := Scalar.addi c0_i32_397 v482
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_398 : BitVec 32 := 2#32
  let v484 : BitVec 32 := Scalar.muli v5 c2_i32_398
  let v485 : BitVec 32 := Scalar.addi v483 v484
  let c1_i32_95 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v106 : BitVec 32 := Scalar.subi c1_i32_95 v8
  let c1_i32_399 : BitVec 32 := 1#32
  let v486 : BitVec 32 := Scalar.muli v106 c1_i32_399
  let v487 : BitVec 32 := Scalar.addi v485 v486
  v487.toNat
def k0_dev20 (d0 : Dev nD) : Nat :=
  let c0_i32_411 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_410 : BitVec 32 := 4#32
  let v500 : BitVec 32 := Scalar.muli v2 c4_i32_410
  let v501 : BitVec 32 := Scalar.addi c0_i32_411 v500
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_412 : BitVec 32 := 2#32
  let v502 : BitVec 32 := Scalar.muli v5 c2_i32_412
  let v503 : BitVec 32 := Scalar.addi v501 v502
  let c1_i32_101 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v112 : BitVec 32 := Scalar.subi c1_i32_101 v8
  let c1_i32_413 : BitVec 32 := 1#32
  let v504 : BitVec 32 := Scalar.muli v112 c1_i32_413
  let v505 : BitVec 32 := Scalar.addi v503 v504
  v505.toNat
def k0_off19 (d0 : Dev nD) (c0_i32_102 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c384_i32 : BitVec 32 := 384#32
  let v113 : BitVec 32 := Scalar.muli v8 c384_i32
  let v114 : BitVec 32 := Scalar.addi c0_i32_102 v113
  let c0_i32_420 : BitVec 32 := 0#32
  ![v114.toNat, 0]
def k0_off20 (d0 : Dev nD) (c0_i32_105 : BitVec 32) : Fin 2 → Nat :=
  let c1_i32_103 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.subi c1_i32_103 v8
  let c384_i32_104 : BitVec 32 := 384#32
  let v116 : BitVec 32 := Scalar.muli v115 c384_i32_104
  let v117 : BitVec 32 := Scalar.addi c0_i32_105 v116
  let c0_i32_430 : BitVec 32 := 0#32
  ![v117.toNat, 0]
def k0_dev21 (d0 : Dev nD) : Nat :=
  let c0_i32_425 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_424 : BitVec 32 := 4#32
  let v518 : BitVec 32 := Scalar.muli v2 c4_i32_424
  let v519 : BitVec 32 := Scalar.addi c0_i32_425 v518
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_426 : BitVec 32 := 2#32
  let v520 : BitVec 32 := Scalar.muli v5 c2_i32_426
  let v521 : BitVec 32 := Scalar.addi v519 v520
  let c1_i32_106 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v118 : BitVec 32 := Scalar.subi c1_i32_106 v8
  let c1_i32_427 : BitVec 32 := 1#32
  let v522 : BitVec 32 := Scalar.muli v118 c1_i32_427
  let v523 : BitVec 32 := Scalar.addi v521 v522
  v523.toNat
def k0_dev22 (d0 : Dev nD) : Nat :=
  let c0_i32_439 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_438 : BitVec 32 := 4#32
  let v536 : BitVec 32 := Scalar.muli v2 c4_i32_438
  let v537 : BitVec 32 := Scalar.addi c0_i32_439 v536
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_440 : BitVec 32 := 2#32
  let v538 : BitVec 32 := Scalar.muli v5 c2_i32_440
  let v539 : BitVec 32 := Scalar.addi v537 v538
  let c1_i32_112 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v124 : BitVec 32 := Scalar.subi c1_i32_112 v8
  let c1_i32_441 : BitVec 32 := 1#32
  let v540 : BitVec 32 := Scalar.muli v124 c1_i32_441
  let v541 : BitVec 32 := Scalar.addi v539 v540
  v541.toNat
def k0_dev23 (d0 : Dev nD) : Nat :=
  let c0_i32_453 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_452 : BitVec 32 := 4#32
  let v554 : BitVec 32 := Scalar.muli v2 c4_i32_452
  let v555 : BitVec 32 := Scalar.addi c0_i32_453 v554
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_454 : BitVec 32 := 2#32
  let v556 : BitVec 32 := Scalar.muli v5 c2_i32_454
  let v557 : BitVec 32 := Scalar.addi v555 v556
  let c1_i32_117 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v130 : BitVec 32 := Scalar.subi c1_i32_117 v8
  let c1_i32_455 : BitVec 32 := 1#32
  let v558 : BitVec 32 := Scalar.muli v130 c1_i32_455
  let v559 : BitVec 32 := Scalar.addi v557 v558
  v559.toNat
def k0_dev24 (d0 : Dev nD) : Nat :=
  let c0_i32_467 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_466 : BitVec 32 := 4#32
  let v572 : BitVec 32 := Scalar.muli v2 c4_i32_466
  let v573 : BitVec 32 := Scalar.addi c0_i32_467 v572
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_468 : BitVec 32 := 2#32
  let v574 : BitVec 32 := Scalar.muli v5 c2_i32_468
  let v575 : BitVec 32 := Scalar.addi v573 v574
  let c1_i32_122 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v136 : BitVec 32 := Scalar.subi c1_i32_122 v8
  let c1_i32_469 : BitVec 32 := 1#32
  let v576 : BitVec 32 := Scalar.muli v136 c1_i32_469
  let v577 : BitVec 32 := Scalar.addi v575 v576
  v577.toNat
def k0_off21 (d0 : Dev nD) : Fin 3 → Nat :=
  let c0_i32_473 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c272_i32 : BitVec 32 := 272#32
  let v137 : BitVec 32 := Scalar.muli v8 c272_i32
  let c0_i32_477 : BitVec 32 := 0#32
  ![0, v137.toNat, 0]
def k0_off22 (d0 : Dev nD) : Fin 3 → Nat :=
  let c0_i32_478 : BitVec 32 := 0#32
  let c1_i32_123 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_123 v8
  let c272_i32_124 : BitVec 32 := 272#32
  let v139 : BitVec 32 := Scalar.muli v138 c272_i32_124
  let c0_i32_488 : BitVec 32 := 0#32
  ![0, v139.toNat, 0]
def k0_dev25 (d0 : Dev nD) : Nat :=
  let c0_i32_483 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_482 : BitVec 32 := 4#32
  let v591 : BitVec 32 := Scalar.muli v2 c4_i32_482
  let v592 : BitVec 32 := Scalar.addi c0_i32_483 v591
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_484 : BitVec 32 := 2#32
  let v593 : BitVec 32 := Scalar.muli v5 c2_i32_484
  let v594 : BitVec 32 := Scalar.addi v592 v593
  let c1_i32_125 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v140 : BitVec 32 := Scalar.subi c1_i32_125 v8
  let c1_i32_485 : BitVec 32 := 1#32
  let v595 : BitVec 32 := Scalar.muli v140 c1_i32_485
  let v596 : BitVec 32 := Scalar.addi v594 v595
  v596.toNat
def k0_off23 (d0 : Dev nD) : Fin 3 → Nat :=
  let c1_i32_489 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c272_i32_126 : BitVec 32 := 272#32
  let v141 : BitVec 32 := Scalar.muli v8 c272_i32_126
  let c0_i32_493 : BitVec 32 := 0#32
  ![1, v141.toNat, 0]
def k0_off24 (d0 : Dev nD) : Fin 3 → Nat :=
  let c1_i32_494 : BitVec 32 := 1#32
  let c1_i32_127 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v142 : BitVec 32 := Scalar.subi c1_i32_127 v8
  let c272_i32_128 : BitVec 32 := 272#32
  let v143 : BitVec 32 := Scalar.muli v142 c272_i32_128
  let c0_i32_504 : BitVec 32 := 0#32
  ![1, v143.toNat, 0]
def k0_dev26 (d0 : Dev nD) : Nat :=
  let c0_i32_499 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_498 : BitVec 32 := 4#32
  let v611 : BitVec 32 := Scalar.muli v2 c4_i32_498
  let v612 : BitVec 32 := Scalar.addi c0_i32_499 v611
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_500 : BitVec 32 := 2#32
  let v613 : BitVec 32 := Scalar.muli v5 c2_i32_500
  let v614 : BitVec 32 := Scalar.addi v612 v613
  let c1_i32_129 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v144 : BitVec 32 := Scalar.subi c1_i32_129 v8
  let c1_i32_501 : BitVec 32 := 1#32
  let v615 : BitVec 32 := Scalar.muli v144 c1_i32_501
  let v616 : BitVec 32 := Scalar.addi v614 v615
  v616.toNat
def k0_off25 (d0 : Dev nD) : Fin 3 → Nat :=
  let c2_i32_505 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c272_i32_130 : BitVec 32 := 272#32
  let v145 : BitVec 32 := Scalar.muli v8 c272_i32_130
  let c0_i32_509 : BitVec 32 := 0#32
  ![2, v145.toNat, 0]
def k0_off26 (d0 : Dev nD) : Fin 3 → Nat :=
  let c2_i32_510 : BitVec 32 := 2#32
  let c1_i32_131 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v146 : BitVec 32 := Scalar.subi c1_i32_131 v8
  let c272_i32_132 : BitVec 32 := 272#32
  let v147 : BitVec 32 := Scalar.muli v146 c272_i32_132
  let c0_i32_520 : BitVec 32 := 0#32
  ![2, v147.toNat, 0]
def k0_dev27 (d0 : Dev nD) : Nat :=
  let c0_i32_515 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_514 : BitVec 32 := 4#32
  let v631 : BitVec 32 := Scalar.muli v2 c4_i32_514
  let v632 : BitVec 32 := Scalar.addi c0_i32_515 v631
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_516 : BitVec 32 := 2#32
  let v633 : BitVec 32 := Scalar.muli v5 c2_i32_516
  let v634 : BitVec 32 := Scalar.addi v632 v633
  let c1_i32_133 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v148 : BitVec 32 := Scalar.subi c1_i32_133 v8
  let c1_i32_517 : BitVec 32 := 1#32
  let v635 : BitVec 32 := Scalar.muli v148 c1_i32_517
  let v636 : BitVec 32 := Scalar.addi v634 v635
  v636.toNat
def k0_off27 (d0 : Dev nD) : Fin 3 → Nat :=
  let c3_i32_521 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c272_i32_134 : BitVec 32 := 272#32
  let v149 : BitVec 32 := Scalar.muli v8 c272_i32_134
  let c0_i32_525 : BitVec 32 := 0#32
  ![3, v149.toNat, 0]
def k0_off28 (d0 : Dev nD) : Fin 3 → Nat :=
  let c3_i32_526 : BitVec 32 := 3#32
  let c1_i32_135 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v150 : BitVec 32 := Scalar.subi c1_i32_135 v8
  let c272_i32_136 : BitVec 32 := 272#32
  let v151 : BitVec 32 := Scalar.muli v150 c272_i32_136
  let c0_i32_536 : BitVec 32 := 0#32
  ![3, v151.toNat, 0]
def k0_dev28 (d0 : Dev nD) : Nat :=
  let c0_i32_531 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_530 : BitVec 32 := 4#32
  let v651 : BitVec 32 := Scalar.muli v2 c4_i32_530
  let v652 : BitVec 32 := Scalar.addi c0_i32_531 v651
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_532 : BitVec 32 := 2#32
  let v653 : BitVec 32 := Scalar.muli v5 c2_i32_532
  let v654 : BitVec 32 := Scalar.addi v652 v653
  let c1_i32_137 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v152 : BitVec 32 := Scalar.subi c1_i32_137 v8
  let c1_i32_533 : BitVec 32 := 1#32
  let v655 : BitVec 32 := Scalar.muli v152 c1_i32_533
  let v656 : BitVec 32 := Scalar.addi v654 v655
  v656.toNat
-- ==== SplitRef.lean ====
abbrev S8192x7168 : Shape := ⟨2, ![8192, 7168]⟩
abbrev S8192x6144 : Shape := ⟨2, ![8192, 6144]⟩
abbrev S8192x1024 : Shape := ⟨2, ![8192, 1024]⟩
abbrev S24576x1024 : Shape := ⟨2, ![24576, 1024]⟩
abbrev S32x544x256 : Shape := ⟨3, ![32, 544, 256]⟩
abbrev S4x2x2x512x4x1792 : Shape := ⟨6, ![4, 2, 2, 512, 4, 1792]⟩
abbrev S4x2x4x2x512x1792 : Shape := ⟨6, ![4, 2, 4, 2, 512, 1792]⟩
abbrev S4x2x2x512x4x1536 : Shape := ⟨6, ![4, 2, 2, 512, 4, 1536]⟩
abbrev S4x2x4x2x512x1536 : Shape := ⟨6, ![4, 2, 4, 2, 512, 1536]⟩
abbrev S4x2x4x2x128x1024 : Shape := ⟨6, ![4, 2, 4, 2, 128, 1024]⟩
abbrev S4x2x4x2x384x1024 : Shape := ⟨6, ![4, 2, 4, 2, 384, 1024]⟩
abbrev S4x2x4x2x272x256 : Shape := ⟨6, ![4, 2, 4, 2, 272, 256]⟩
abbrev S4x1x4x1x512x1792 : Shape := ⟨6, ![4, 1, 4, 1, 512, 1792]⟩
abbrev S4x1x4x2x512x1792 : Shape := ⟨6, ![4, 1, 4, 2, 512, 1792]⟩
abbrev S16x1024x1792 : Shape := ⟨3, ![16, 1024, 1792]⟩
abbrev S4x1x4x1x512x1536 : Shape := ⟨6, ![4, 1, 4, 1, 512, 1536]⟩
abbrev S4x1x4x2x512x1536 : Shape := ⟨6, ![4, 1, 4, 2, 512, 1536]⟩
abbrev S16x1024x1536 : Shape := ⟨3, ![16, 1024, 1536]⟩
abbrev S4x1x4x1x128x1024 : Shape := ⟨6, ![4, 1, 4, 1, 128, 1024]⟩
abbrev S4x1x4x2x128x1024 : Shape := ⟨6, ![4, 1, 4, 2, 128, 1024]⟩
abbrev S16x256x1024 : Shape := ⟨3, ![16, 256, 1024]⟩
abbrev S4x1x4x1x384x1024 : Shape := ⟨6, ![4, 1, 4, 1, 384, 1024]⟩
abbrev S4x1x4x2x384x1024 : Shape := ⟨6, ![4, 1, 4, 2, 384, 1024]⟩
abbrev S16x768x1024 : Shape := ⟨3, ![16, 768, 1024]⟩
abbrev S4x1x4x1x272x256 : Shape := ⟨6, ![4, 1, 4, 1, 272, 256]⟩
abbrev S4x1x4x2x272x256 : Shape := ⟨6, ![4, 1, 4, 2, 272, 256]⟩
abbrev S16x544x256 : Shape := ⟨3, ![16, 544, 256]⟩

abbrev nBuf : Space → Nat
  | .hbm => 72
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S8192x6144, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S24576x1024, .bf16⟩
  | .hbm, ⟨6, _⟩ => ⟨S32x544x256, .f32⟩
  | .hbm, ⟨7, _⟩ => ⟨S4x2x2x512x4x1792, .bf16⟩
  | .hbm, ⟨8, _⟩ => ⟨S4x2x4x2x512x1792, .bf16⟩
  | .hbm, ⟨9, _⟩ => ⟨S4x2x2x512x4x1536, .bf16⟩
  | .hbm, ⟨10, _⟩ => ⟨S4x2x4x2x512x1536, .bf16⟩
  | .hbm, ⟨11, _⟩ => ⟨S4x2x4x2x128x1024, .bf16⟩
  | .hbm, ⟨12, _⟩ => ⟨S4x2x4x2x128x1024, .bf16⟩
  | .hbm, ⟨13, _⟩ => ⟨S4x2x4x2x128x1024, .bf16⟩
  | .hbm, ⟨14, _⟩ => ⟨S4x2x4x2x384x1024, .bf16⟩
  | .hbm, ⟨15, _⟩ => ⟨S4x2x4x2x272x256, .f32⟩
  | .hbm, ⟨16, _⟩ => ⟨S4x1x4x1x512x1792, .bf16⟩
  | .hbm, ⟨17, _⟩ => ⟨S4x1x4x1x512x1792, .bf16⟩
  | .hbm, ⟨18, _⟩ => ⟨S4x1x4x2x512x1792, .bf16⟩
  | .hbm, ⟨19, _⟩ => ⟨S16x1024x1792, .bf16⟩
  | .hbm, ⟨20, _⟩ => ⟨S4x1x4x1x512x1536, .bf16⟩
  | .hbm, ⟨21, _⟩ => ⟨S4x1x4x1x512x1536, .bf16⟩
  | .hbm, ⟨22, _⟩ => ⟨S4x1x4x2x512x1536, .bf16⟩
  | .hbm, ⟨23, _⟩ => ⟨S16x1024x1536, .bf16⟩
  | .hbm, ⟨24, _⟩ => ⟨S4x1x4x1x128x1024, .bf16⟩
  | .hbm, ⟨25, _⟩ => ⟨S4x1x4x1x128x1024, .bf16⟩
  | .hbm, ⟨26, _⟩ => ⟨S4x1x4x2x128x1024, .bf16⟩
  | .hbm, ⟨27, _⟩ => ⟨S16x256x1024, .bf16⟩
  | .hbm, ⟨28, _⟩ => ⟨S4x1x4x1x128x1024, .bf16⟩
  | .hbm, ⟨29, _⟩ => ⟨S4x1x4x1x128x1024, .bf16⟩
  | .hbm, ⟨30, _⟩ => ⟨S4x1x4x2x128x1024, .bf16⟩
  | .hbm, ⟨31, _⟩ => ⟨S16x256x1024, .bf16⟩
  | .hbm, ⟨32, _⟩ => ⟨S4x1x4x1x128x1024, .bf16⟩
  | .hbm, ⟨33, _⟩ => ⟨S4x1x4x1x128x1024, .bf16⟩
  | .hbm, ⟨34, _⟩ => ⟨S4x1x4x2x128x1024, .bf16⟩
  | .hbm, ⟨35, _⟩ => ⟨S16x256x1024, .bf16⟩
  | .hbm, ⟨36, _⟩ => ⟨S4x1x4x1x384x1024, .bf16⟩
  | .hbm, ⟨37, _⟩ => ⟨S4x1x4x1x384x1024, .bf16⟩
  | .hbm, ⟨38, _⟩ => ⟨S4x1x4x2x384x1024, .bf16⟩
  | .hbm, ⟨39, _⟩ => ⟨S16x768x1024, .bf16⟩
  | .hbm, ⟨40, _⟩ => ⟨S4x1x4x1x272x256, .f32⟩
  | .hbm, ⟨41, _⟩ => ⟨S4x1x4x1x272x256, .f32⟩
  | .hbm, ⟨42, _⟩ => ⟨S4x1x4x2x272x256, .f32⟩
  | .hbm, ⟨43, _⟩ => ⟨S16x544x256, .f32⟩
  | .hbm, ⟨44, _⟩ => ⟨S4x1x4x1x512x1792, .bf16⟩
  | .hbm, ⟨45, _⟩ => ⟨S4x1x4x1x512x1792, .bf16⟩
  | .hbm, ⟨46, _⟩ => ⟨S4x1x4x2x512x1792, .bf16⟩
  | .hbm, ⟨47, _⟩ => ⟨S16x1024x1792, .bf16⟩
  | .hbm, ⟨48, _⟩ => ⟨S4x1x4x1x512x1536, .bf16⟩
  | .hbm, ⟨49, _⟩ => ⟨S4x1x4x1x512x1536, .bf16⟩
  | .hbm, ⟨50, _⟩ => ⟨S4x1x4x2x512x1536, .bf16⟩
  | .hbm, ⟨51, _⟩ => ⟨S16x1024x1536, .bf16⟩
  | .hbm, ⟨52, _⟩ => ⟨S4x1x4x1x128x1024, .bf16⟩
  | .hbm, ⟨53, _⟩ => ⟨S4x1x4x1x128x1024, .bf16⟩
  | .hbm, ⟨54, _⟩ => ⟨S4x1x4x2x128x1024, .bf16⟩
  | .hbm, ⟨55, _⟩ => ⟨S16x256x1024, .bf16⟩
  | .hbm, ⟨56, _⟩ => ⟨S4x1x4x1x128x1024, .bf16⟩
  | .hbm, ⟨57, _⟩ => ⟨S4x1x4x1x128x1024, .bf16⟩
  | .hbm, ⟨58, _⟩ => ⟨S4x1x4x2x128x1024, .bf16⟩
  | .hbm, ⟨59, _⟩ => ⟨S16x256x1024, .bf16⟩
  | .hbm, ⟨60, _⟩ => ⟨S4x1x4x1x128x1024, .bf16⟩
  | .hbm, ⟨61, _⟩ => ⟨S4x1x4x1x128x1024, .bf16⟩
  | .hbm, ⟨62, _⟩ => ⟨S4x1x4x2x128x1024, .bf16⟩
  | .hbm, ⟨63, _⟩ => ⟨S16x256x1024, .bf16⟩
  | .hbm, ⟨64, _⟩ => ⟨S4x1x4x1x384x1024, .bf16⟩
  | .hbm, ⟨65, _⟩ => ⟨S4x1x4x1x384x1024, .bf16⟩
  | .hbm, ⟨66, _⟩ => ⟨S4x1x4x2x384x1024, .bf16⟩
  | .hbm, ⟨67, _⟩ => ⟨S16x768x1024, .bf16⟩
  | .hbm, ⟨68, _⟩ => ⟨S4x1x4x1x272x256, .f32⟩
  | .hbm, ⟨69, _⟩ => ⟨S4x1x4x1x272x256, .f32⟩
  | .hbm, ⟨70, _⟩ => ⟨S4x1x4x2x272x256, .f32⟩
  | .hbm, ⟨71, _⟩ => ⟨S16x544x256, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩

abbrev nD : Nat := 1
abbrev τ : Topo := Topo.v7x

variable {F : FTy → Type} [FloatOps F]
-- ==== Exchange.lean ====
abbrev S4x512x1792 : Shape := ⟨3, ![4, 512, 1792]⟩
abbrev S4x512x1536 : Shape := ⟨3, ![4, 512, 1536]⟩
abbrev S4x128x1024 : Shape := ⟨3, ![4, 128, 1024]⟩
abbrev S4x384x1024 : Shape := ⟨3, ![4, 384, 1024]⟩
abbrev S4x272x256 : Shape := ⟨3, ![4, 272, 256]⟩
abbrev S16x1024 : Shape := ⟨2, ![16, 1024]⟩
abbrev S8x16x1024 : Shape := ⟨3, ![8, 16, 1024]⟩
abbrev S8 : Shape := ⟨1, ![8]⟩
abbrev S21 : Shape := ⟨1, ![21]⟩
abbrev S7 : Shape := ⟨1, ![7]⟩
abbrev S1 : Shape := ⟨1, ![1]⟩
abbrev S_ : Shape := ⟨0, ![]⟩
abbrev S1x512x1792 : Shape := ⟨3, ![1, 512, 1792]⟩
abbrev S512x1792 : Shape := ⟨2, ![512, 1792]⟩
abbrev S1x512x1536 : Shape := ⟨3, ![1, 512, 1536]⟩
abbrev S512x1536 : Shape := ⟨2, ![512, 1536]⟩
abbrev S1x128x1024 : Shape := ⟨3, ![1, 128, 1024]⟩
abbrev S128x1024 : Shape := ⟨2, ![128, 1024]⟩
abbrev S1x384x1024 : Shape := ⟨3, ![1, 384, 1024]⟩
abbrev S384x1024 : Shape := ⟨2, ![384, 1024]⟩
abbrev S1x272x256 : Shape := ⟨3, ![1, 272, 256]⟩
abbrev S272x256 : Shape := ⟨2, ![272, 256]⟩
abbrev S1x16x1024 : Shape := ⟨3, ![1, 16, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x512x1792, .bf16⟩
  | .hbm, ⟨1, _⟩ => ⟨S4x512x1536, .bf16⟩
  | .hbm, ⟨2, _⟩ => ⟨S4x128x1024, .bf16⟩
  | .hbm, ⟨3, _⟩ => ⟨S4x128x1024, .bf16⟩
  | .hbm, ⟨4, _⟩ => ⟨S4x128x1024, .bf16⟩
  | .hbm, ⟨5, _⟩ => ⟨S4x384x1024, .bf16⟩
  | .hbm, ⟨6, _⟩ => ⟨S4x272x256, .f32⟩
  | .hbm, ⟨7, _⟩ => ⟨S16x1024, .f32⟩
  | .hbm, ⟨8, _⟩ => ⟨S4x512x1792, .bf16⟩
  | .hbm, ⟨9, _⟩ => ⟨S4x512x1536, .bf16⟩
  | .hbm, ⟨10, _⟩ => ⟨S4x128x1024, .bf16⟩
  | .hbm, ⟨11, _⟩ => ⟨S4x128x1024, .bf16⟩
  | .hbm, ⟨12, _⟩ => ⟨S4x128x1024, .bf16⟩
  | .hbm, ⟨13, _⟩ => ⟨S4x384x1024, .bf16⟩
  | .hbm, ⟨14, _⟩ => ⟨S4x272x256, .f32⟩
  | .hbm, ⟨15, _⟩ => ⟨S8x16x1024, .f32⟩
  | _, _ => ⟨S4x512x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_6 : BitVec 32 := 0#32
  let c0_i32_7 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_11 : BitVec 32 := 0#32
  let c0_i32_12 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_16 : BitVec 32 := 0#32
  let c0_i32_17 : BitVec 32 := 0#32
  ![v10.toNat, 0, 0]
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_29 : BitVec 32 := 0#32
  let c0_i32_30 : BitVec 32 := 0#32
  ![v10.toNat, 0, 0]
def k0_off5 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_33 : BitVec 32 := 0#32
  let c0_i32_34 : BitVec 32 := 0#32
  ![v10.toNat, 0, 0]
def k0_off6 (d0 : Dev nD) : Fin 3 → Nat :=
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_5 v5
  let v13 : BitVec 32 := Scalar.addi v11 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.addi v13 v8
  let c0_i32_37 : BitVec 32 := 0#32
  let c0_i32_38 : BitVec 32 := 0#32
  ![v14.toNat, 0, 0]
def k0_off7 (d0 : Dev nD) : Fin 3 → Nat :=
  let c2_i32_40 : BitVec 32 := 2#32
  let c1_i32_39 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v61 : BitVec 32 := Scalar.subi c1_i32_39 v2
  let v62 : BitVec 32 := Scalar.muli c2_i32_40 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.addi v62 v5
  let c0_i32_50 : BitVec 32 := 0#32
  let c0_i32_51 : BitVec 32 := 0#32
  ![v63.toNat, 0, 0]
def k0_dev1 (d0 : Dev nD) : Nat :=
  let c0_i32_45 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let c4_i32_44 : BitVec 32 := 4#32
  let v65 : BitVec 32 := Scalar.muli v64 c4_i32_44
  let v66 : BitVec 32 := Scalar.addi c0_i32_45 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v67 : BitVec 32 := Scalar.muli v5 c2_i32_46
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v69 : BitVec 32 := Scalar.muli v8 c1_i32_47
  let v70 : BitVec 32 := Scalar.addi v68 v69
  v70.toNat
def k0_off8 (d0 : Dev nD) : Fin 3 → Nat :=
  let c2_i32_53 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v80 : BitVec 32 := Scalar.muli c2_i32_53 v2
  let c1_i32_52 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v79 : BitVec 32 := Scalar.subi c1_i32_52 v5
  let v81 : BitVec 32 := Scalar.addi v80 v79
  let c0_i32_63 : BitVec 32 := 0#32
  let c0_i32_64 : BitVec 32 := 0#32
  ![v81.toNat, 0, 0]
def k0_dev2 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v83 : BitVec 32 := Scalar.muli v2 c4_i32_57
  let v84 : BitVec 32 := Scalar.addi c0_i32_58 v83
  let c1_i32_54 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v82 : BitVec 32 := Scalar.subi c1_i32_54 v5
  let c2_i32_59 : BitVec 32 := 2#32
  let v85 : BitVec 32 := Scalar.muli v82 c2_i32_59
  let v86 : BitVec 32 := Scalar.addi v84 v85
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v87 : BitVec 32 := Scalar.muli v8 c1_i32_60
  let v88 : BitVec 32 := Scalar.addi v86 v87
  v88.toNat
def k0_off9 (d0 : Dev nD) : Fin 3 → Nat :=
  let c2_i32_67 : BitVec 32 := 2#32
  let c1_i32_65 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v97 : BitVec 32 := Scalar.subi c1_i32_65 v2
  let v99 : BitVec 32 := Scalar.muli c2_i32_67 v97
  let c1_i32_66 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v98 : BitVec 32 := Scalar.subi c1_i32_66 v5
  let v100 : BitVec 32 := Scalar.addi v99 v98
  let c0_i32_78 : BitVec 32 := 0#32
  let c0_i32_79 : BitVec 32 := 0#32
  ![v100.toNat, 0, 0]
def k0_dev3 (d0 : Dev nD) : Nat :=
  let c0_i32_73 : BitVec 32 := 0#32
  let c1_i32_68 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v101 : BitVec 32 := Scalar.subi c1_i32_68 v2
  let c4_i32_72 : BitVec 32 := 4#32
  let v103 : BitVec 32 := Scalar.muli v101 c4_i32_72
  let v104 : BitVec 32 := Scalar.addi c0_i32_73 v103
  let c1_i32_69 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v102 : BitVec 32 := Scalar.subi c1_i32_69 v5
  let c2_i32_74 : BitVec 32 := 2#32
  let v105 : BitVec 32 := Scalar.muli v102 c2_i32_74
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v107 : BitVec 32 := Scalar.muli v8 c1_i32_75
  let v108 : BitVec 32 := Scalar.addi v106 v107
  v108.toNat
def k0_off10 (d0 : Dev nD) : Fin 3 → Nat :=
  let c2_i32_81 : BitVec 32 := 2#32
  let c1_i32_80 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v117 : BitVec 32 := Scalar.subi c1_i32_80 v2
  let v118 : BitVec 32 := Scalar.muli c2_i32_81 v117
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v119 : BitVec 32 := Scalar.addi v118 v5
  let c0_i32_91 : BitVec 32 := 0#32
  let c0_i32_92 : BitVec 32 := 0#32
  ![v119.toNat, 0, 0]
def k0_dev4 (d0 : Dev nD) : Nat :=
  let c0_i32_86 : BitVec 32 := 0#32
  let c1_i32_82 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v120 : BitVec 32 := Scalar.subi c1_i32_82 v2
  let c4_i32_85 : BitVec 32 := 4#32
  let v121 : BitVec 32 := Scalar.muli v120 c4_i32_85
  let v122 : BitVec 32 := Scalar.addi c0_i32_86 v121
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v123 : BitVec 32 := Scalar.muli v5 c2_i32_87
  let v124 : BitVec 32 := Scalar.addi v122 v123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_88 : BitVec 32 := 1#32
  let v125 : BitVec 32 := Scalar.muli v8 c1_i32_88
  let v126 : BitVec 32 := Scalar.addi v124 v125
  v126.toNat
def k0_off11 (d0 : Dev nD) : Fin 3 → Nat :=
  let c2_i32_94 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_94 v2
  let c1_i32_93 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v135 : BitVec 32 := Scalar.subi c1_i32_93 v5
  let v137 : BitVec 32 := Scalar.addi v136 v135
  let c0_i32_104 : BitVec 32 := 0#32
  let c0_i32_105 : BitVec 32 := 0#32
  ![v137.toNat, 0, 0]
def k0_dev5 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_98 : BitVec 32 := 4#32
  let v139 : BitVec 32 := Scalar.muli v2 c4_i32_98
  let v140 : BitVec 32 := Scalar.addi c0_i32_99 v139
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v138 : BitVec 32 := Scalar.subi c1_i32_95 v5
  let c2_i32_100 : BitVec 32 := 2#32
  let v141 : BitVec 32 := Scalar.muli v138 c2_i32_100
  let v142 : BitVec 32 := Scalar.addi v140 v141
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v143 : BitVec 32 := Scalar.muli v8 c1_i32_101
  let v144 : BitVec 32 := Scalar.addi v142 v143
  v144.toNat
def k0_off12 (d0 : Dev nD) : Fin 3 → Nat :=
  let c2_i32_108 : BitVec 32 := 2#32
  let c1_i32_106 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v153 : BitVec 32 := Scalar.subi c1_i32_106 v2
  let v155 : BitVec 32 := Scalar.muli c2_i32_108 v153
  let c1_i32_107 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v154 : BitVec 32 := Scalar.subi c1_i32_107 v5
  let v156 : BitVec 32 := Scalar.addi v155 v154
  let c0_i32_119 : BitVec 32 := 0#32
  let c0_i32_120 : BitVec 32 := 0#32
  ![v156.toNat, 0, 0]
def k0_dev6 (d0 : Dev nD) : Nat :=
  let c0_i32_114 : BitVec 32 := 0#32
  let c1_i32_109 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v157 : BitVec 32 := Scalar.subi c1_i32_109 v2
  let c4_i32_113 : BitVec 32 := 4#32
  let v159 : BitVec 32 := Scalar.muli v157 c4_i32_113
  let v160 : BitVec 32 := Scalar.addi c0_i32_114 v159
  let c1_i32_110 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v158 : BitVec 32 := Scalar.subi c1_i32_110 v5
  let c2_i32_115 : BitVec 32 := 2#32
  let v161 : BitVec 32 := Scalar.muli v158 c2_i32_115
  let v162 : BitVec 32 := Scalar.addi v160 v161
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v163 : BitVec 32 := Scalar.muli v8 c1_i32_116
  let v164 : BitVec 32 := Scalar.addi v162 v163
  v164.toNat
def k0_off13 (d0 : Dev nD) : Fin 3 → Nat :=
  let c2_i32_122 : BitVec 32 := 2#32
  let c1_i32_121 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v173 : BitVec 32 := Scalar.subi c1_i32_121 v2
  let v174 : BitVec 32 := Scalar.muli c2_i32_122 v173
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v175 : BitVec 32 := Scalar.addi v174 v5
  let c0_i32_132 : BitVec 32 := 0#32
  let c0_i32_133 : BitVec 32 := 0#32
  ![v175.toNat, 0, 0]
def k0_dev7 (d0 : Dev nD) : Nat :=
  let c0_i32_127 : BitVec 32 := 0#32
  let c1_i32_123 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v176 : BitVec 32 := Scalar.subi c1_i32_123 v2
  let c4_i32_126 : BitVec 32 := 4#32
  let v177 : BitVec 32 := Scalar.muli v176 c4_i32_126
  let v178 : BitVec 32 := Scalar.addi c0_i32_127 v177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_128 : BitVec 32 := 2#32
  let v179 : BitVec 32 := Scalar.muli v5 c2_i32_128
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v181 : BitVec 32 := Scalar.muli v8 c1_i32_129
  let v182 : BitVec 32 := Scalar.addi v180 v181
  v182.toNat
def k0_off14 (d0 : Dev nD) : Fin 3 → Nat :=
  let c2_i32_135 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v192 : BitVec 32 := Scalar.muli c2_i32_135 v2
  let c1_i32_134 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v191 : BitVec 32 := Scalar.subi c1_i32_134 v5
  let v193 : BitVec 32 := Scalar.addi v192 v191
  let c0_i32_145 : BitVec 32 := 0#32
  let c0_i32_146 : BitVec 32 := 0#32
  ![v193.toNat, 0, 0]
def k0_dev8 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_139 : BitVec 32 := 4#32
  let v195 : BitVec 32 := Scalar.muli v2 c4_i32_139
  let v196 : BitVec 32 := Scalar.addi c0_i32_140 v195
  let c1_i32_136 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v194 : BitVec 32 := Scalar.subi c1_i32_136 v5
  let c2_i32_141 : BitVec 32 := 2#32
  let v197 : BitVec 32 := Scalar.muli v194 c2_i32_141
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_142 : BitVec 32 := 1#32
  let v199 : BitVec 32 := Scalar.muli v8 c1_i32_142
  let v200 : BitVec 32 := Scalar.addi v198 v199
  v200.toNat
def k0_off15 (d0 : Dev nD) : Fin 3 → Nat :=
  let c2_i32_149 : BitVec 32 := 2#32
  let c1_i32_147 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v209 : BitVec 32 := Scalar.subi c1_i32_147 v2
  let v211 : BitVec 32 := Scalar.muli c2_i32_149 v209
  let c1_i32_148 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v210 : BitVec 32 := Scalar.subi c1_i32_148 v5
  let v212 : BitVec 32 := Scalar.addi v211 v210
  let c0_i32_159 : BitVec 32 := 0#32
  let c0_i32_160 : BitVec 32 := 0#32
  ![v212.toNat, 0, 0]
def k0_dev9 (d0 : Dev nD) : Nat :=
  let c0_i32_154 : BitVec 32 := 0#32
  let c1_i32_150 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v213 : BitVec 32 := Scalar.subi c1_i32_150 v2
  let c4_i32_153 : BitVec 32 := 4#32
  let v215 : BitVec 32 := Scalar.muli v213 c4_i32_153
  let v216 : BitVec 32 := Scalar.addi c0_i32_154 v215
  let c1_i32_151 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v214 : BitVec 32 := Scalar.subi c1_i32_151 v5
  let c2_i32_155 : BitVec 32 := 2#32
  let v217 : BitVec 32 := Scalar.muli v214 c2_i32_155
  let v218 : BitVec 32 := Scalar.addi v216 v217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v219 : BitVec 32 := Scalar.muli v8 c1_i32_156
  let v220 : BitVec 32 := Scalar.addi v218 v219
  v220.toNat
def k0_dev10 (d0 : Dev nD) : Nat :=
  let c0_i32_166 : BitVec 32 := 0#32
  let c1_i32_163 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v232 : BitVec 32 := Scalar.subi c1_i32_163 v2
  let c4_i32_165 : BitVec 32 := 4#32
  let v233 : BitVec 32 := Scalar.muli v232 c4_i32_165
  let v234 : BitVec 32 := Scalar.addi c0_i32_166 v233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_167 : BitVec 32 := 2#32
  let v235 : BitVec 32 := Scalar.muli v5 c2_i32_167
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_168 : BitVec 32 := 1#32
  let v237 : BitVec 32 := Scalar.muli v8 c1_i32_168
  let v238 : BitVec 32 := Scalar.addi v236 v237
  v238.toNat
def k0_dev11 (d0 : Dev nD) : Nat :=
  let c0_i32_178 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_177 : BitVec 32 := 4#32
  let v251 : BitVec 32 := Scalar.muli v2 c4_i32_177
  let v252 : BitVec 32 := Scalar.addi c0_i32_178 v251
  let c1_i32_175 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v250 : BitVec 32 := Scalar.subi c1_i32_175 v5
  let c2_i32_179 : BitVec 32 := 2#32
  let v253 : BitVec 32 := Scalar.muli v250 c2_i32_179
  let v254 : BitVec 32 := Scalar.addi v252 v253
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_180 : BitVec 32 := 1#32
  let v255 : BitVec 32 := Scalar.muli v8 c1_i32_180
  let v256 : BitVec 32 := Scalar.addi v254 v255
  v256.toNat
def k0_dev12 (d0 : Dev nD) : Nat :=
  let c0_i32_192 : BitVec 32 := 0#32
  let c1_i32_188 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v269 : BitVec 32 := Scalar.subi c1_i32_188 v2
  let c4_i32_191 : BitVec 32 := 4#32
  let v271 : BitVec 32 := Scalar.muli v269 c4_i32_191
  let v272 : BitVec 32 := Scalar.addi c0_i32_192 v271
  let c1_i32_189 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v270 : BitVec 32 := Scalar.subi c1_i32_189 v5
  let c2_i32_193 : BitVec 32 := 2#32
  let v273 : BitVec 32 := Scalar.muli v270 c2_i32_193
  let v274 : BitVec 32 := Scalar.addi v272 v273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_194 : BitVec 32 := 1#32
  let v275 : BitVec 32 := Scalar.muli v8 c1_i32_194
  let v276 : BitVec 32 := Scalar.addi v274 v275
  v276.toNat
def k0_dev13 (d0 : Dev nD) : Nat :=
  let c0_i32_204 : BitVec 32 := 0#32
  let c1_i32_201 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v288 : BitVec 32 := Scalar.subi c1_i32_201 v2
  let c4_i32_203 : BitVec 32 := 4#32
  let v289 : BitVec 32 := Scalar.muli v288 c4_i32_203
  let v290 : BitVec 32 := Scalar.addi c0_i32_204 v289
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_205 : BitVec 32 := 2#32
  let v291 : BitVec 32 := Scalar.muli v5 c2_i32_205
  let v292 : BitVec 32 := Scalar.addi v290 v291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_206 : BitVec 32 := 1#32
  let v293 : BitVec 32 := Scalar.muli v8 c1_i32_206
  let v294 : BitVec 32 := Scalar.addi v292 v293
  v294.toNat
def k0_dev14 (d0 : Dev nD) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_215 : BitVec 32 := 4#32
  let v307 : BitVec 32 := Scalar.muli v2 c4_i32_215
  let v308 : BitVec 32 := Scalar.addi c0_i32_216 v307
  let c1_i32_213 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v306 : BitVec 32 := Scalar.subi c1_i32_213 v5
  let c2_i32_217 : BitVec 32 := 2#32
  let v309 : BitVec 32 := Scalar.muli v306 c2_i32_217
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_218 : BitVec 32 := 1#32
  let v311 : BitVec 32 := Scalar.muli v8 c1_i32_218
  let v312 : BitVec 32 := Scalar.addi v310 v311
  v312.toNat
def k0_dev15 (d0 : Dev nD) : Nat :=
  let c0_i32_230 : BitVec 32 := 0#32
  let c1_i32_226 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v325 : BitVec 32 := Scalar.subi c1_i32_226 v2
  let c4_i32_229 : BitVec 32 := 4#32
  let v327 : BitVec 32 := Scalar.muli v325 c4_i32_229
  let v328 : BitVec 32 := Scalar.addi c0_i32_230 v327
  let c1_i32_227 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v326 : BitVec 32 := Scalar.subi c1_i32_227 v5
  let c2_i32_231 : BitVec 32 := 2#32
  let v329 : BitVec 32 := Scalar.muli v326 c2_i32_231
  let v330 : BitVec 32 := Scalar.addi v328 v329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_232 : BitVec 32 := 1#32
  let v331 : BitVec 32 := Scalar.muli v8 c1_i32_232
  let v332 : BitVec 32 := Scalar.addi v330 v331
  v332.toNat
def k0_off16 (d0 : Dev nD) : Fin 3 → Nat :=
  let c2_i32_238 : BitVec 32 := 2#32
  let c1_i32_237 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v341 : BitVec 32 := Scalar.subi c1_i32_237 v2
  let v342 : BitVec 32 := Scalar.muli c2_i32_238 v341
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v343 : BitVec 32 := Scalar.addi v342 v5
  let c0_i32_247 : BitVec 32 := 0#32
  let c0_i32_248 : BitVec 32 := 0#32
  ![v343.toNat, 0, 0]
def k0_dev16 (d0 : Dev nD) : Nat :=
  let c0_i32_242 : BitVec 32 := 0#32
  let c1_i32_239 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v344 : BitVec 32 := Scalar.subi c1_i32_239 v2
  let c4_i32_241 : BitVec 32 := 4#32
  let v345 : BitVec 32 := Scalar.muli v344 c4_i32_241
  let v346 : BitVec 32 := Scalar.addi c0_i32_242 v345
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_243 : BitVec 32 := 2#32
  let v347 : BitVec 32 := Scalar.muli v5 c2_i32_243
  let v348 : BitVec 32 := Scalar.addi v346 v347
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v349 : BitVec 32 := Scalar.muli v8 c1_i32_244
  let v350 : BitVec 32 := Scalar.addi v348 v349
  v350.toNat
def k0_off17 (d0 : Dev nD) : Fin 3 → Nat :=
  let c2_i32_250 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v360 : BitVec 32 := Scalar.muli c2_i32_250 v2
  let c1_i32_249 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v359 : BitVec 32 := Scalar.subi c1_i32_249 v5
  let v361 : BitVec 32 := Scalar.addi v360 v359
  let c0_i32_259 : BitVec 32 := 0#32
  let c0_i32_260 : BitVec 32 := 0#32
  ![v361.toNat, 0, 0]
def k0_dev17 (d0 : Dev nD) : Nat :=
  let c0_i32_254 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_253 : BitVec 32 := 4#32
  let v363 : BitVec 32 := Scalar.muli v2 c4_i32_253
  let v364 : BitVec 32 := Scalar.addi c0_i32_254 v363
  let c1_i32_251 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v362 : BitVec 32 := Scalar.subi c1_i32_251 v5
  let c2_i32_255 : BitVec 32 := 2#32
  let v365 : BitVec 32 := Scalar.muli v362 c2_i32_255
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_256 : BitVec 32 := 1#32
  let v367 : BitVec 32 := Scalar.muli v8 c1_i32_256
  let v368 : BitVec 32 := Scalar.addi v366 v367
  v368.toNat
def k0_off18 (d0 : Dev nD) : Fin 3 → Nat :=
  let c2_i32_263 : BitVec 32 := 2#32
  let c1_i32_261 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v377 : BitVec 32 := Scalar.subi c1_i32_261 v2
  let v379 : BitVec 32 := Scalar.muli c2_i32_263 v377
  let c1_i32_262 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v378 : BitVec 32 := Scalar.subi c1_i32_262 v5
  let v380 : BitVec 32 := Scalar.addi v379 v378
  let c0_i32_273 : BitVec 32 := 0#32
  let c0_i32_274 : BitVec 32 := 0#32
  ![v380.toNat, 0, 0]
def k0_dev18 (d0 : Dev nD) : Nat :=
  let c0_i32_268 : BitVec 32 := 0#32
  let c1_i32_264 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v381 : BitVec 32 := Scalar.subi c1_i32_264 v2
  let c4_i32_267 : BitVec 32 := 4#32
  let v383 : BitVec 32 := Scalar.muli v381 c4_i32_267
  let v384 : BitVec 32 := Scalar.addi c0_i32_268 v383
  let c1_i32_265 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v382 : BitVec 32 := Scalar.subi c1_i32_265 v5
  let c2_i32_269 : BitVec 32 := 2#32
  let v385 : BitVec 32 := Scalar.muli v382 c2_i32_269
  let v386 : BitVec 32 := Scalar.addi v384 v385
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_270 : BitVec 32 := 1#32
  let v387 : BitVec 32 := Scalar.muli v8 c1_i32_270
  let v388 : BitVec 32 := Scalar.addi v386 v387
  v388.toNat
def k0_off19 (d0 : Dev nD) : Fin 3 → Nat :=
  let c2_i32_276 : BitVec 32 := 2#32
  let c1_i32_275 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v397 : BitVec 32 := Scalar.subi c1_i32_275 v2
  let v398 : BitVec 32 := Scalar.muli c2_i32_276 v397
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v399 : BitVec 32 := Scalar.addi v398 v5
  let c0_i32_285 : BitVec 32 := 0#32
  let c0_i32_286 : BitVec 32 := 0#32
  ![v399.toNat, 0, 0]
def k0_dev19 (d0 : Dev nD) : Nat :=
  let c0_i32_280 : BitVec 32 := 0#32
  let c1_i32_277 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v400 : BitVec 32 := Scalar.subi c1_i32_277 v2
  let c4_i32_279 : BitVec 32 := 4#32
  let v401 : BitVec 32 := Scalar.muli v400 c4_i32_279
  let v402 : BitVec 32 := Scalar.addi c0_i32_280 v401
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_281 : BitVec 32 := 2#32
  let v403 : BitVec 32 := Scalar.muli v5 c2_i32_281
  let v404 : BitVec 32 := Scalar.addi v402 v403
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_282 : BitVec 32 := 1#32
  let v405 : BitVec 32 := Scalar.muli v8 c1_i32_282
  let v406 : BitVec 32 := Scalar.addi v404 v405
  v406.toNat
def k0_off20 (d0 : Dev nD) : Fin 3 → Nat :=
  let c2_i32_288 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v416 : BitVec 32 := Scalar.muli c2_i32_288 v2
  let c1_i32_287 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v415 : BitVec 32 := Scalar.subi c1_i32_287 v5
  let v417 : BitVec 32 := Scalar.addi v416 v415
  let c0_i32_297 : BitVec 32 := 0#32
  let c0_i32_298 : BitVec 32 := 0#32
  ![v417.toNat, 0, 0]
def k0_dev20 (d0 : Dev nD) : Nat :=
  let c0_i32_292 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_291 : BitVec 32 := 4#32
  let v419 : BitVec 32 := Scalar.muli v2 c4_i32_291
  let v420 : BitVec 32 := Scalar.addi c0_i32_292 v419
  let c1_i32_289 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v418 : BitVec 32 := Scalar.subi c1_i32_289 v5
  let c2_i32_293 : BitVec 32 := 2#32
  let v421 : BitVec 32 := Scalar.muli v418 c2_i32_293
  let v422 : BitVec 32 := Scalar.addi v420 v421
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_294 : BitVec 32 := 1#32
  let v423 : BitVec 32 := Scalar.muli v8 c1_i32_294
  let v424 : BitVec 32 := Scalar.addi v422 v423
  v424.toNat
def k0_off21 (d0 : Dev nD) : Fin 3 → Nat :=
  let c2_i32_301 : BitVec 32 := 2#32
  let c1_i32_299 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v433 : BitVec 32 := Scalar.subi c1_i32_299 v2
  let v435 : BitVec 32 := Scalar.muli c2_i32_301 v433
  let c1_i32_300 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v434 : BitVec 32 := Scalar.subi c1_i32_300 v5
  let v436 : BitVec 32 := Scalar.addi v435 v434
  let c0_i32_311 : BitVec 32 := 0#32
  let c0_i32_312 : BitVec 32 := 0#32
  ![v436.toNat, 0, 0]
def k0_dev21 (d0 : Dev nD) : Nat :=
  let c0_i32_306 : BitVec 32 := 0#32
  let c1_i32_302 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v437 : BitVec 32 := Scalar.subi c1_i32_302 v2
  let c4_i32_305 : BitVec 32 := 4#32
  let v439 : BitVec 32 := Scalar.muli v437 c4_i32_305
  let v440 : BitVec 32 := Scalar.addi c0_i32_306 v439
  let c1_i32_303 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v438 : BitVec 32 := Scalar.subi c1_i32_303 v5
  let c2_i32_307 : BitVec 32 := 2#32
  let v441 : BitVec 32 := Scalar.muli v438 c2_i32_307
  let v442 : BitVec 32 := Scalar.addi v440 v441
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_308 : BitVec 32 := 1#32
  let v443 : BitVec 32 := Scalar.muli v8 c1_i32_308
  let v444 : BitVec 32 := Scalar.addi v442 v443
  v444.toNat
def k0_dev22 (d0 : Dev nD) : Nat :=
  let c0_i32_317 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_316 : BitVec 32 := 4#32
  let v454 : BitVec 32 := Scalar.muli v2 c4_i32_316
  let v455 : BitVec 32 := Scalar.addi c0_i32_317 v454
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_318 : BitVec 32 := 2#32
  let v456 : BitVec 32 := Scalar.muli v5 c2_i32_318
  let v457 : BitVec 32 := Scalar.addi v455 v456
  let c1_i32_313 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v453 : BitVec 32 := Scalar.subi c1_i32_313 v8
  let c1_i32_319 : BitVec 32 := 1#32
  let v458 : BitVec 32 := Scalar.muli v453 c1_i32_319
  let v459 : BitVec 32 := Scalar.addi v457 v458
  v459.toNat
def k0_dev23 (d0 : Dev nD) : Nat :=
  let c0_i32_326 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_325 : BitVec 32 := 4#32
  let v467 : BitVec 32 := Scalar.muli v2 c4_i32_325
  let v468 : BitVec 32 := Scalar.addi c0_i32_326 v467
  let c1_i32_322 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v466 : BitVec 32 := Scalar.subi c1_i32_322 v5
  let c2_i32_327 : BitVec 32 := 2#32
  let v469 : BitVec 32 := Scalar.muli v466 c2_i32_327
  let v470 : BitVec 32 := Scalar.addi v468 v469
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_328 : BitVec 32 := 1#32
  let v471 : BitVec 32 := Scalar.muli v8 c1_i32_328
  let v472 : BitVec 32 := Scalar.addi v470 v471
  v472.toNat
def k0_dev24 (d0 : Dev nD) : Nat :=
  let c0_i32_336 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_335 : BitVec 32 := 4#32
  let v481 : BitVec 32 := Scalar.muli v2 c4_i32_335
  let v482 : BitVec 32 := Scalar.addi c0_i32_336 v481
  let c1_i32_331 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v479 : BitVec 32 := Scalar.subi c1_i32_331 v5
  let c2_i32_337 : BitVec 32 := 2#32
  let v483 : BitVec 32 := Scalar.muli v479 c2_i32_337
  let v484 : BitVec 32 := Scalar.addi v482 v483
  let c1_i32_332 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v480 : BitVec 32 := Scalar.subi c1_i32_332 v8
  let c1_i32_338 : BitVec 32 := 1#32
  let v485 : BitVec 32 := Scalar.muli v480 c1_i32_338
  let v486 : BitVec 32 := Scalar.addi v484 v485
  v486.toNat
def k0_dev25 (d0 : Dev nD) : Nat :=
  let c0_i32_345 : BitVec 32 := 0#32
  let c1_i32_341 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v493 : BitVec 32 := Scalar.subi c1_i32_341 v2
  let c4_i32_344 : BitVec 32 := 4#32
  let v494 : BitVec 32 := Scalar.muli v493 c4_i32_344
  let v495 : BitVec 32 := Scalar.addi c0_i32_345 v494
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_346 : BitVec 32 := 2#32
  let v496 : BitVec 32 := Scalar.muli v5 c2_i32_346
  let v497 : BitVec 32 := Scalar.addi v495 v496
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_347 : BitVec 32 := 1#32
  let v498 : BitVec 32 := Scalar.muli v8 c1_i32_347
  let v499 : BitVec 32 := Scalar.addi v497 v498
  v499.toNat
def k0_dev26 (d0 : Dev nD) : Nat :=
  let c0_i32_355 : BitVec 32 := 0#32
  let c1_i32_350 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v506 : BitVec 32 := Scalar.subi c1_i32_350 v2
  let c4_i32_354 : BitVec 32 := 4#32
  let v508 : BitVec 32 := Scalar.muli v506 c4_i32_354
  let v509 : BitVec 32 := Scalar.addi c0_i32_355 v508
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_356 : BitVec 32 := 2#32
  let v510 : BitVec 32 := Scalar.muli v5 c2_i32_356
  let v511 : BitVec 32 := Scalar.addi v509 v510
  let c1_i32_351 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v507 : BitVec 32 := Scalar.subi c1_i32_351 v8
  let c1_i32_357 : BitVec 32 := 1#32
  let v512 : BitVec 32 := Scalar.muli v507 c1_i32_357
  let v513 : BitVec 32 := Scalar.addi v511 v512
  v513.toNat
def k0_dev27 (d0 : Dev nD) : Nat :=
  let c0_i32_365 : BitVec 32 := 0#32
  let c1_i32_360 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v520 : BitVec 32 := Scalar.subi c1_i32_360 v2
  let c4_i32_364 : BitVec 32 := 4#32
  let v522 : BitVec 32 := Scalar.muli v520 c4_i32_364
  let v523 : BitVec 32 := Scalar.addi c0_i32_365 v522
  let c1_i32_361 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v521 : BitVec 32 := Scalar.subi c1_i32_361 v5
  let c2_i32_366 : BitVec 32 := 2#32
  let v524 : BitVec 32 := Scalar.muli v521 c2_i32_366
  let v525 : BitVec 32 := Scalar.addi v523 v524
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_367 : BitVec 32 := 1#32
  let v526 : BitVec 32 := Scalar.muli v8 c1_i32_367
  let v527 : BitVec 32 := Scalar.addi v525 v526
  v527.toNat
def k0_dev28 (d0 : Dev nD) : Nat :=
  let c0_i32_376 : BitVec 32 := 0#32
  let c1_i32_370 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v534 : BitVec 32 := Scalar.subi c1_i32_370 v2
  let c4_i32_375 : BitVec 32 := 4#32
  let v537 : BitVec 32 := Scalar.muli v534 c4_i32_375
  let v538 : BitVec 32 := Scalar.addi c0_i32_376 v537
  let c1_i32_371 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v535 : BitVec 32 := Scalar.subi c1_i32_371 v5
  let c2_i32_377 : BitVec 32 := 2#32
  let v539 : BitVec 32 := Scalar.muli v535 c2_i32_377
  let v540 : BitVec 32 := Scalar.addi v538 v539
  let c1_i32_372 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v536 : BitVec 32 := Scalar.subi c1_i32_372 v8
  let c1_i32_378 : BitVec 32 := 1#32
  let v541 : BitVec 32 := Scalar.muli v536 c1_i32_378
  let v542 : BitVec 32 := Scalar.addi v540 v541
  v542.toNat
def k0_off22 (d0 : Dev nD) : Fin 3 → Nat :=
  let c4_i32_718 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v970 : BitVec 32 := Scalar.muli c4_i32_718 v2
  let c2_i32_719 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v971 : BitVec 32 := Scalar.muli c2_i32_719 v5
  let v972 : BitVec 32 := Scalar.addi v970 v971
  let c1_i32_717 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v969 : BitVec 32 := Scalar.subi c1_i32_717 v8
  let v973 : BitVec 32 := Scalar.addi v972 v969
  let c0_i32_727 : BitVec 32 := 0#32
  let c0_i32_728 : BitVec 32 := 0#32
  ![v973.toNat, 0, 0]
def k0_off23 (d0 : Dev nD) : Fin 3 → Nat :=
  let c4_i32_730 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v986 : BitVec 32 := Scalar.muli c4_i32_730 v2
  let c2_i32_731 : BitVec 32 := 2#32
  let c1_i32_729 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v985 : BitVec 32 := Scalar.subi c1_i32_729 v5
  let v987 : BitVec 32 := Scalar.muli c2_i32_731 v985
  let v988 : BitVec 32 := Scalar.addi v986 v987
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v989 : BitVec 32 := Scalar.addi v988 v8
  let c0_i32_739 : BitVec 32 := 0#32
  let c0_i32_740 : BitVec 32 := 0#32
  ![v989.toNat, 0, 0]
def k0_off24 (d0 : Dev nD) : Fin 3 → Nat :=
  let c4_i32_743 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1003 : BitVec 32 := Scalar.muli c4_i32_743 v2
  let c2_i32_744 : BitVec 32 := 2#32
  let c1_i32_741 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1001 : BitVec 32 := Scalar.subi c1_i32_741 v5
  let v1004 : BitVec 32 := Scalar.muli c2_i32_744 v1001
  let v1005 : BitVec 32 := Scalar.addi v1003 v1004
  let c1_i32_742 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1002 : BitVec 32 := Scalar.subi c1_i32_742 v8
  let v1006 : BitVec 32 := Scalar.addi v1005 v1002
  let c0_i32_753 : BitVec 32 := 0#32
  let c0_i32_754 : BitVec 32 := 0#32
  ![v1006.toNat, 0, 0]
def k0_off25 (d0 : Dev nD) : Fin 3 → Nat :=
  let c4_i32_756 : BitVec 32 := 4#32
  let c1_i32_755 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1019 : BitVec 32 := Scalar.subi c1_i32_755 v2
  let v1020 : BitVec 32 := Scalar.muli c4_i32_756 v1019
  let c2_i32_757 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1021 : BitVec 32 := Scalar.muli c2_i32_757 v5
  let v1022 : BitVec 32 := Scalar.addi v1020 v1021
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1023 : BitVec 32 := Scalar.addi v1022 v8
  let c0_i32_765 : BitVec 32 := 0#32
  let c0_i32_766 : BitVec 32 := 0#32
  ![v1023.toNat, 0, 0]
def k0_off26 (d0 : Dev nD) : Fin 3 → Nat :=
  let c4_i32_769 : BitVec 32 := 4#32
  let c1_i32_767 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1035 : BitVec 32 := Scalar.subi c1_i32_767 v2
  let v1037 : BitVec 32 := Scalar.muli c4_i32_769 v1035
  let c2_i32_770 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1038 : BitVec 32 := Scalar.muli c2_i32_770 v5
  let v1039 : BitVec 32 := Scalar.addi v1037 v1038
  let c1_i32_768 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1036 : BitVec 32 := Scalar.subi c1_i32_768 v8
  let v1040 : BitVec 32 := Scalar.addi v1039 v1036
  let c0_i32_779 : BitVec 32 := 0#32
  let c0_i32_780 : BitVec 32 := 0#32
  ![v1040.toNat, 0, 0]
def k0_off27 (d0 : Dev nD) : Fin 3 → Nat :=
  let c4_i32_783 : BitVec 32 := 4#32
  let c1_i32_781 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1053 : BitVec 32 := Scalar.subi c1_i32_781 v2
  let v1055 : BitVec 32 := Scalar.muli c4_i32_783 v1053
  let c2_i32_784 : BitVec 32 := 2#32
  let c1_i32_782 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1054 : BitVec 32 := Scalar.subi c1_i32_782 v5
  let v1056 : BitVec 32 := Scalar.muli c2_i32_784 v1054
  let v1057 : BitVec 32 := Scalar.addi v1055 v1056
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1058 : BitVec 32 := Scalar.addi v1057 v8
  let c0_i32_793 : BitVec 32 := 0#32
  let c0_i32_794 : BitVec 32 := 0#32
  ![v1058.toNat, 0, 0]
def k0_off28 (d0 : Dev nD) : Fin 3 → Nat :=
  let c4_i32_798 : BitVec 32 := 4#32
  let c1_i32_795 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1071 : BitVec 32 := Scalar.subi c1_i32_795 v2
  let v1074 : BitVec 32 := Scalar.muli c4_i32_798 v1071
  let c2_i32_799 : BitVec 32 := 2#32
  let c1_i32_796 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1072 : BitVec 32 := Scalar.subi c1_i32_796 v5
  let v1075 : BitVec 32 := Scalar.muli c2_i32_799 v1072
  let v1076 : BitVec 32 := Scalar.addi v1074 v1075
  let c1_i32_797 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1073 : BitVec 32 := Scalar.subi c1_i32_797 v8
  let v1077 : BitVec 32 := Scalar.addi v1076 v1073
  let c0_i32_809 : BitVec 32 := 0#32
  let c0_i32_810 : BitVec 32 := 0#32
  ![v1077.toNat, 0, 0]
-- ==== ExchangeRef.lean ====
abbrev S16x1024x1792 : Shape := ⟨3, ![16, 1024, 1792]⟩
abbrev S16x1024x1536 : Shape := ⟨3, ![16, 1024, 1536]⟩
abbrev S16x256x1024 : Shape := ⟨3, ![16, 256, 1024]⟩
abbrev S16x768x1024 : Shape := ⟨3, ![16, 768, 1024]⟩
abbrev S16x544x256 : Shape := ⟨3, ![16, 544, 256]⟩
abbrev S128x1024 : Shape := ⟨2, ![128, 1024]⟩
abbrev S4x4x1024x1792 : Shape := ⟨4, ![4, 4, 1024, 1792]⟩
abbrev S4x4x1024x1536 : Shape := ⟨4, ![4, 4, 1024, 1536]⟩
abbrev S4x4x256x1024 : Shape := ⟨4, ![4, 4, 256, 1024]⟩
abbrev S4x4x768x1024 : Shape := ⟨4, ![4, 4, 768, 1024]⟩
abbrev S4x4x544x256 : Shape := ⟨4, ![4, 4, 544, 256]⟩
abbrev S8x16x1024 : Shape := ⟨3, ![8, 16, 1024]⟩

abbrev nBuf : Space → Nat
  | .hbm => 30
  | .vmem => 0
  | .smem => 0
  | _ => 0

abbrev bufTy : (tb : Table) → Fin (tcTables nBuf tb) → BufTy
  | .hbm, ⟨0, _⟩ => ⟨S16x1024x1792, .bf16⟩
  | .hbm, ⟨1, _⟩ => ⟨S16x1024x1536, .bf16⟩
  | .hbm, ⟨2, _⟩ => ⟨S16x256x1024, .bf16⟩
  | .hbm, ⟨3, _⟩ => ⟨S16x256x1024, .bf16⟩
  | .hbm, ⟨4, _⟩ => ⟨S16x256x1024, .bf16⟩
  | .hbm, ⟨5, _⟩ => ⟨S16x768x1024, .bf16⟩
  | .hbm, ⟨6, _⟩ => ⟨S16x544x256, .f32⟩
  | .hbm, ⟨7, _⟩ => ⟨S128x1024, .f32⟩
  | .hbm, ⟨8, _⟩ => ⟨S4x4x1024x1792, .bf16⟩
  | .hbm, ⟨9, _⟩ => ⟨S4x4x1024x1792, .bf16⟩
  | .hbm, ⟨10, _⟩ => ⟨S16x1024x1792, .bf16⟩
  | .hbm, ⟨11, _⟩ => ⟨S4x4x1024x1536, .bf16⟩
  | .hbm, ⟨12, _⟩ => ⟨S4x4x1024x1536, .bf16⟩
  | .hbm, ⟨13, _⟩ => ⟨S16x1024x1536, .bf16⟩
  | .hbm, ⟨14, _⟩ => ⟨S4x4x256x1024, .bf16⟩
  | .hbm, ⟨15, _⟩ => ⟨S4x4x256x1024, .bf16⟩
  | .hbm, ⟨16, _⟩ => ⟨S16x256x1024, .bf16⟩
  | .hbm, ⟨17, _⟩ => ⟨S4x4x256x1024, .bf16⟩
  | .hbm, ⟨18, _⟩ => ⟨S4x4x256x1024, .bf16⟩
  | .hbm, ⟨19, _⟩ => ⟨S16x256x1024, .bf16⟩
  | .hbm, ⟨20, _⟩ => ⟨S4x4x256x1024, .bf16⟩
  | .hbm, ⟨21, _⟩ => ⟨S4x4x256x1024, .bf16⟩
  | .hbm, ⟨22, _⟩ => ⟨S16x256x1024, .bf16⟩
  | .hbm, ⟨23, _⟩ => ⟨S4x4x768x1024, .bf16⟩
  | .hbm, ⟨24, _⟩ => ⟨S4x4x768x1024, .bf16⟩
  | .hbm, ⟨25, _⟩ => ⟨S16x768x1024, .bf16⟩
  | .hbm, ⟨26, _⟩ => ⟨S4x4x544x256, .f32⟩
  | .hbm, ⟨27, _⟩ => ⟨S4x4x544x256, .f32⟩
  | .hbm, ⟨28, _⟩ => ⟨S16x544x256, .f32⟩
  | .hbm, ⟨29, _⟩ => ⟨S8x16x1024, .f32⟩
  | _, _ => ⟨S16x1024x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Join.lean ====
abbrev S512x1792 : Shape := ⟨2, ![512, 1792]⟩
abbrev S512x1536 : Shape := ⟨2, ![512, 1536]⟩
abbrev S128x1024 : Shape := ⟨2, ![128, 1024]⟩
abbrev S384x1024 : Shape := ⟨2, ![384, 1024]⟩
abbrev S272x256 : Shape := ⟨2, ![272, 256]⟩
abbrev S1024x1792 : Shape := ⟨2, ![1024, 1792]⟩
abbrev S1024x1536 : Shape := ⟨2, ![1024, 1536]⟩
abbrev S256x1024 : Shape := ⟨2, ![256, 1024]⟩
abbrev S768x1024 : Shape := ⟨2, ![768, 1024]⟩
abbrev S544x256 : Shape := ⟨2, ![544, 256]⟩
abbrev S7 : Shape := ⟨1, ![7]⟩
abbrev S1 : Shape := ⟨1, ![1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S512x1792, .f32⟩
  | .hbm, ⟨1, _⟩ => ⟨S512x1536, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S384x1024, .f32⟩
  | .hbm, ⟨6, _⟩ => ⟨S272x256, .f32⟩
  | .hbm, ⟨7, _⟩ => ⟨S1024x1792, .f32⟩
  | .hbm, ⟨8, _⟩ => ⟨S1024x1536, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S768x1024, .f32⟩
  | .hbm, ⟨13, _⟩ => ⟨S544x256, .f32⟩
  | _, _ => ⟨S512x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩

abbrev nD : Nat := 8
abbrev τ : Topo := Topo.v7x

variable {F : FTy → Type} [FloatOps F]

abbrev grid0 : Pipeline.Grid := .none

def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v9 : BitVec 32 := Scalar.muli v8 c512_i32
  let c0_i32_41 : BitVec 32 := 0#32
  ![v9.toNat, 0]
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_3 : BitVec 32 := 512#32
  let v10 : BitVec 32 := Scalar.muli v8 c512_i32_3
  let c0_i32_43 : BitVec 32 := 0#32
  ![v10.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v11 : BitVec 32 := Scalar.muli v8 c128_i32
  let c0_i32_45 : BitVec 32 := 0#32
  ![v11.toNat, 0]
def k0_off4 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c384_i32 : BitVec 32 := 384#32
  let v14 : BitVec 32 := Scalar.muli v8 c384_i32
  let c0_i32_49 : BitVec 32 := 0#32
  ![v14.toNat, 0]
def k0_off5 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c272_i32 : BitVec 32 := 272#32
  let v15 : BitVec 32 := Scalar.muli v8 c272_i32
  let c0_i32_50 : BitVec 32 := 0#32
  ![v15.toNat, 0]
def k0_dev1 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_53 : BitVec 32 := 4#32
  let v72 : BitVec 32 := Scalar.muli v2 c4_i32_53
  let v73 : BitVec 32 := Scalar.addi c0_i32_54 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v74 : BitVec 32 := Scalar.muli v5 c2_i32_55
  let v75 : BitVec 32 := Scalar.addi v73 v74
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_7 v8
  let c1_i32_56 : BitVec 32 := 1#32
  let v76 : BitVec 32 := Scalar.muli v17 c1_i32_56
  let v77 : BitVec 32 := Scalar.addi v75 v76
  v77.toNat
def k0_dev2 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v83 : BitVec 32 := Scalar.muli v2 c4_i32_60
  let v84 : BitVec 32 := Scalar.addi c0_i32_61 v83
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v85 : BitVec 32 := Scalar.muli v5 c2_i32_62
  let v86 : BitVec 32 := Scalar.addi v84 v85
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_9 v8
  let c1_i32_63 : BitVec 32 := 1#32
  let v87 : BitVec 32 := Scalar.muli v19 c1_i32_63
  let v88 : BitVec 32 := Scalar.addi v86 v87
  v88.toNat
def k0_dev3 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_67 : BitVec 32 := 4#32
  let v94 : BitVec 32 := Scalar.muli v2 c4_i32_67
  let v95 : BitVec 32 := Scalar.addi c0_i32_68 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v96 : BitVec 32 := Scalar.muli v5 c2_i32_69
  let v97 : BitVec 32 := Scalar.addi v95 v96
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_70 : BitVec 32 := 1#32
  let v98 : BitVec 32 := Scalar.muli v21 c1_i32_70
  let v99 : BitVec 32 := Scalar.addi v97 v98
  v99.toNat
def k0_dev4 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v105 : BitVec 32 := Scalar.muli v2 c4_i32_74
  let v106 : BitVec 32 := Scalar.addi c0_i32_75 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v107 : BitVec 32 := Scalar.muli v5 c2_i32_76
  let v108 : BitVec 32 := Scalar.addi v106 v107
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_77 : BitVec 32 := 1#32
  let v109 : BitVec 32 := Scalar.muli v23 c1_i32_77
  let v110 : BitVec 32 := Scalar.addi v108 v109
  v110.toNat
def k0_dev5 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v116 : BitVec 32 := Scalar.muli v2 c4_i32_81
  let v117 : BitVec 32 := Scalar.addi c0_i32_82 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_83 : BitVec 32 := 2#32
  let v118 : BitVec 32 := Scalar.muli v5 c2_i32_83
  let v119 : BitVec 32 := Scalar.addi v117 v118
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let c1_i32_84 : BitVec 32 := 1#32
  let v120 : BitVec 32 := Scalar.muli v25 c1_i32_84
  let v121 : BitVec 32 := Scalar.addi v119 v120
  v121.toNat
def k0_dev6 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v127 : BitVec 32 := Scalar.muli v2 c4_i32_88
  let v128 : BitVec 32 := Scalar.addi c0_i32_89 v127
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v129 : BitVec 32 := Scalar.muli v5 c2_i32_90
  let v130 : BitVec 32 := Scalar.addi v128 v129
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_17 v8
  let c1_i32_91 : BitVec 32 := 1#32
  let v131 : BitVec 32 := Scalar.muli v27 c1_i32_91
  let v132 : BitVec 32 := Scalar.addi v130 v131
  v132.toNat
def k0_dev7 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_95 : BitVec 32 := 4#32
  let v138 : BitVec 32 := Scalar.muli v2 c4_i32_95
  let v139 : BitVec 32 := Scalar.addi c0_i32_96 v138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_97 : BitVec 32 := 2#32
  let v140 : BitVec 32 := Scalar.muli v5 c2_i32_97
  let v141 : BitVec 32 := Scalar.addi v139 v140
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_19 v8
  let c1_i32_98 : BitVec 32 := 1#32
  let v142 : BitVec 32 := Scalar.muli v29 c1_i32_98
  let v143 : BitVec 32 := Scalar.addi v141 v142
  v143.toNat
def k0_off6 (d0 : Dev nD) : Fin 2 → Nat :=
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_20 v8
  let c512_i32_21 : BitVec 32 := 512#32
  let v31 : BitVec 32 := Scalar.muli v30 c512_i32_21
  let c0_i32_106 : BitVec 32 := 0#32
  ![v31.toNat, 0]
def k0_off7 (d0 : Dev nD) : Fin 2 → Nat :=
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.subi c1_i32_23 v8
  let c512_i32_24 : BitVec 32 := 512#32
  let v34 : BitVec 32 := Scalar.muli v33 c512_i32_24
  let c0_i32_113 : BitVec 32 := 0#32
  ![v34.toNat, 0]
def k0_off8 (d0 : Dev nD) : Fin 2 → Nat :=
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.subi c1_i32_26 v8
  let c128_i32_27 : BitVec 32 := 128#32
  let v37 : BitVec 32 := Scalar.muli v36 c128_i32_27
  let c0_i32_120 : BitVec 32 := 0#32
  ![v37.toNat, 0]
def k0_off9 (d0 : Dev nD) : Fin 2 → Nat :=
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.subi c1_i32_35 v8
  let c384_i32_36 : BitVec 32 := 384#32
  let v46 : BitVec 32 := Scalar.muli v45 c384_i32_36
  let c0_i32_141 : BitVec 32 := 0#32
  ![v46.toNat, 0]
def k0_off10 (d0 : Dev nD) : Fin 2 → Nat :=
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_38 v8
  let c272_i32_39 : BitVec 32 := 272#32
  let v49 : BitVec 32 := Scalar.muli v48 c272_i32_39
  let c0_i32_148 : BitVec 32 := 0#32
  ![v49.toNat, 0]
-- ==== JoinRef.lean ====
abbrev S1024x7168 : Shape := ⟨2, ![1024, 7168]⟩
abbrev S1024x6144 : Shape := ⟨2, ![1024, 6144]⟩
abbrev S1024x1024 : Shape := ⟨2, ![1024, 1024]⟩
abbrev S3072x1024 : Shape := ⟨2, ![3072, 1024]⟩
abbrev S2176x256 : Shape := ⟨2, ![2176, 256]⟩

abbrev nBuf : Space → Nat
  | .hbm => 7
  | .vmem => 0
  | .smem => 0
  | _ => 0

abbrev bufTy : (tb : Table) → Fin (tcTables nBuf tb) → BufTy
  | .hbm, ⟨0, _⟩ => ⟨S1024x7168, .f32⟩
  | .hbm, ⟨1, _⟩ => ⟨S1024x6144, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S3072x1024, .f32⟩
  | .hbm, ⟨6, _⟩ => ⟨S2176x256, .f32⟩
  | _, _ => ⟨S1024x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩

abbrev nD : Nat := 1
abbrev τ : Topo := Topo.v7x

variable {F : FTy → Type} [FloatOps F]
-- ==== AdamWin.lean ====
abbrev S1024x1792 : Shape := ⟨2, ![1024, 1792]⟩
abbrev S128x1792 : Shape := ⟨2, ![128, 1792]⟩

abbrev nBuf : Space → Nat
  | .hbm => 7
  | .vmem => 14
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .local _ .vmem, ⟨0, _⟩ => ⟨S128x1792, .f32⟩
  | .local _ .vmem, ⟨1, _⟩ => ⟨S128x1792, .f32⟩
  | .local _ .vmem, ⟨2, _⟩ => ⟨S128x1792, .f32⟩
  | .local _ .vmem, ⟨3, _⟩ => ⟨S128x1792, .f32⟩
  | .local _ .vmem, ⟨4, _⟩ => ⟨S128x1792, .f32⟩
  | .local _ .vmem, ⟨5, _⟩ => ⟨S128x1792, .f32⟩
  | .local _ .vmem, ⟨6, _⟩ => ⟨S128x1792, .f32⟩
  | .local _ .vmem, ⟨7, _⟩ => ⟨S128x1792, .f32⟩
  | .local _ .vmem, ⟨8, _⟩ => ⟨S128x1792, .f32⟩
  | .local _ .vmem, ⟨9, _⟩ => ⟨S128x1792, .f32⟩
  | .local _ .vmem, ⟨10, _⟩ => ⟨S128x1792, .f32⟩
  | .local _ .vmem, ⟨11, _⟩ => ⟨S128x1792, .f32⟩
  | .local _ .vmem, ⟨12, _⟩ => ⟨S128x1792, .f32⟩
  | .local _ .vmem, ⟨13, _⟩ => ⟨S128x1792, .f32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWinIdeal.lean ====
abbrev S1024x1792 : Shape := ⟨2, ![1024, 1792]⟩
abbrev S128x1792 : Shape := ⟨2, ![128, 1792]⟩

abbrev nBuf : Space → Nat
  | .hbm => 7
  | .vmem => 14
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .local _ .vmem, ⟨0, _⟩ => ⟨S128x1792, .f32⟩
  | .local _ .vmem, ⟨1, _⟩ => ⟨S128x1792, .f32⟩
  | .local _ .vmem, ⟨2, _⟩ => ⟨S128x1792, .f32⟩
  | .local _ .vmem, ⟨3, _⟩ => ⟨S128x1792, .f32⟩
  | .local _ .vmem, ⟨4, _⟩ => ⟨S128x1792, .f32⟩
  | .local _ .vmem, ⟨5, _⟩ => ⟨S128x1792, .f32⟩
  | .local _ .vmem, ⟨6, _⟩ => ⟨S128x1792, .f32⟩
  | .local _ .vmem, ⟨7, _⟩ => ⟨S128x1792, .f32⟩
  | .local _ .vmem, ⟨8, _⟩ => ⟨S128x1792, .f32⟩
  | .local _ .vmem, ⟨9, _⟩ => ⟨S128x1792, .f32⟩
  | .local _ .vmem, ⟨10, _⟩ => ⟨S128x1792, .f32⟩
  | .local _ .vmem, ⟨11, _⟩ => ⟨S128x1792, .f32⟩
  | .local _ .vmem, ⟨12, _⟩ => ⟨S128x1792, .f32⟩
  | .local _ .vmem, ⟨13, _⟩ => ⟨S128x1792, .f32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWinRefIdeal.lean ====
abbrev S1024x1792 : Shape := ⟨2, ![1024, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S_, .f32⟩
  | .hbm, ⟨5, _⟩ => ⟨S1024x1792, .f32⟩
  | .hbm, ⟨6, _⟩ => ⟨S1024x1792, .f32⟩
  | .hbm, ⟨7, _⟩ => ⟨S_, .f32⟩
  | .hbm, ⟨8, _⟩ => ⟨S1024x1792, .f32⟩
  | .hbm, ⟨9, _⟩ => ⟨S1024x1792, .f32⟩
  | .hbm, ⟨10, _⟩ => ⟨S1024x1792, .f32⟩
  | .hbm, ⟨11, _⟩ => ⟨S_, .f32⟩
  | .hbm, ⟨12, _⟩ => ⟨S1024x1792, .f32⟩
  | .hbm, ⟨13, _⟩ => ⟨S1024x1792, .f32⟩
  | .hbm, ⟨14, _⟩ => ⟨S1024x1792, .f32⟩
  | .hbm, ⟨15, _⟩ => ⟨S_, .f32⟩
  | .hbm, ⟨16, _⟩ => ⟨S1024x1792, .f32⟩
  | .hbm, ⟨17, _⟩ => ⟨S1024x1792, .f32⟩
  | .hbm, ⟨18, _⟩ => ⟨S1024x1792, .f32⟩
  | .hbm, ⟨19, _⟩ => ⟨S_, .f32⟩
  | .hbm, ⟨20, _⟩ => ⟨S1024x1792, .f32⟩
  | .hbm, ⟨21, _⟩ => ⟨S1024x1792, .f32⟩
  | .hbm, ⟨22, _⟩ => ⟨S_, .f32⟩
  | .hbm, ⟨23, _⟩ => ⟨S1024x1792, .f32⟩
  | .hbm, ⟨24, _⟩ => ⟨S1024x1792, .f32⟩
  | .hbm, ⟨25, _⟩ => ⟨S1024x1792, .f32⟩
  | .hbm, ⟨26, _⟩ => ⟨S_, .f32⟩
  | .hbm, ⟨27, _⟩ => ⟨S1024x1792, .f32⟩
  | .hbm, ⟨28, _⟩ => ⟨S1024x1792, .f32⟩
  | .hbm, ⟨29, _⟩ => ⟨S1024x1792, .f32⟩
  | .hbm, ⟨30, _⟩ => ⟨S_, .f32⟩
  | .hbm, ⟨31, _⟩ => ⟨S1024x1792, .f32⟩
  | .hbm, ⟨32, _⟩ => ⟨S1024x1792, .f32⟩
  | .hbm, ⟨33, _⟩ => ⟨S1024x1792, .f32⟩
  | .hbm, ⟨34, _⟩ => ⟨S_, .f32⟩
  | .hbm, ⟨35, _⟩ => ⟨S1024x1792, .f32⟩
  | .hbm, ⟨36, _⟩ => ⟨S1024x1792, .f32⟩
  | _, _ => ⟨S1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S1024x1536 : Shape := ⟨2, ![1024, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S1024x1536 : Shape := ⟨2, ![1024, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRow.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S768x1024 : Shape := ⟨2, ![768, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S768x1024, .f32⟩
  | .hbm, ⟨5, _⟩ => ⟨S768x1024, .f32⟩
  | .hbm, ⟨6, _⟩ => ⟨S768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S768x1024 : Shape := ⟨2, ![768, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S768x1024, .f32⟩
  | .hbm, ⟨5, _⟩ => ⟨S768x1024, .f32⟩
  | .hbm, ⟨6, _⟩ => ⟨S768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S768x1024 : Shape := ⟨2, ![768, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S_, .f32⟩
  | .hbm, ⟨5, _⟩ => ⟨S768x1024, .f32⟩
  | .hbm, ⟨6, _⟩ => ⟨S768x1024, .f32⟩
  | .hbm, ⟨7, _⟩ => ⟨S_, .f32⟩
  | .hbm, ⟨8, _⟩ => ⟨S768x1024, .f32⟩
  | .hbm, ⟨9, _⟩ => ⟨S768x1024, .f32⟩
  | .hbm, ⟨10, _⟩ => ⟨S768x1024, .f32⟩
  | .hbm, ⟨11, _⟩ => ⟨S_, .f32⟩
  | .hbm, ⟨12, _⟩ => ⟨S768x1024, .f32⟩
  | .hbm, ⟨13, _⟩ => ⟨S768x1024, .f32⟩
  | .hbm, ⟨14, _⟩ => ⟨S768x1024, .f32⟩
  | .hbm, ⟨15, _⟩ => ⟨S_, .f32⟩
  | .hbm, ⟨16, _⟩ => ⟨S768x1024, .f32⟩
  | .hbm, ⟨17, _⟩ => ⟨S768x1024, .f32⟩
  | .hbm, ⟨18, _⟩ => ⟨S768x1024, .f32⟩
  | .hbm, ⟨19, _⟩ => ⟨S_, .f32⟩
  | .hbm, ⟨20, _⟩ => ⟨S768x1024, .f32⟩
  | .hbm, ⟨21, _⟩ => ⟨S768x1024, .f32⟩
  | .hbm, ⟨22, _⟩ => ⟨S_, .f32⟩
  | .hbm, ⟨23, _⟩ => ⟨S768x1024, .f32⟩
  | .hbm, ⟨24, _⟩ => ⟨S768x1024, .f32⟩
  | .hbm, ⟨25, _⟩ => ⟨S768x1024, .f32⟩
  | .hbm, ⟨26, _⟩ => ⟨S_, .f32⟩
  | .hbm, ⟨27, _⟩ => ⟨S768x1024, .f32⟩
  | .hbm, ⟨28, _⟩ => ⟨S768x1024, .f32⟩
  | .hbm, ⟨29, _⟩ => ⟨S768x1024, .f32⟩
  | .hbm, ⟨30, _⟩ => ⟨S_, .f32⟩
  | .hbm, ⟨31, _⟩ => ⟨S768x1024, .f32⟩
  | .hbm, ⟨32, _⟩ => ⟨S768x1024, .f32⟩
  | .hbm, ⟨33, _⟩ => ⟨S768x1024, .f32⟩
  | .hbm, ⟨34, _⟩ => ⟨S_, .f32⟩
  | .hbm, ⟨35, _⟩ => ⟨S768x1024, .f32⟩
  | .hbm, ⟨36, _⟩ => ⟨S768x1024, .f32⟩
  | _, _ => ⟨S768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S544x256 : Shape := ⟨2, ![544, 256]⟩

abbrev nBuf : Space → Nat
  | .hbm => 7
  | .vmem => 7
  | .smem => 0
  | _ => 0

abbrev bufTy : (tb : Table) → Fin (tcTables nBuf tb) → BufTy
  | .hbm, ⟨0, _⟩ => ⟨S544x256, .f32⟩
  | .hbm, ⟨1, _⟩ => ⟨S544x256, .f32⟩
  | .hbm, ⟨2, _⟩ => ⟨S544x256, .f32⟩
  | .hbm, ⟨3, _⟩ => ⟨S544x256, .f32⟩
  | .hbm, ⟨4, _⟩ => ⟨S544x256, .f32⟩
  | .hbm, ⟨5, _⟩ => ⟨S544x256, .f32⟩
  | .hbm, ⟨6, _⟩ => ⟨S544x256, .f32⟩
  | .local _ .vmem, ⟨0, _⟩ => ⟨S544x256, .f32⟩
  | .local _ .vmem, ⟨1, _⟩ => ⟨S544x256, .f32⟩
  | .local _ .vmem, ⟨2, _⟩ => ⟨S544x256, .f32⟩
  | .local _ .vmem, ⟨3, _⟩ => ⟨S544x256, .f32⟩
  | .local _ .vmem, ⟨4, _⟩ => ⟨S544x256, .f32⟩
  | .local _ .vmem, ⟨5, _⟩ => ⟨S544x256, .f32⟩
  | .local _ .vmem, ⟨6, _⟩ => ⟨S544x256, .f32⟩
  | _, _ => ⟨S544x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S544x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S544x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S544x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S544x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S544x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S544x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S544x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallIdeal.lean ====
abbrev S544x256 : Shape := ⟨2, ![544, 256]⟩

abbrev nBuf : Space → Nat
  | .hbm => 7
  | .vmem => 7
  | .smem => 0
  | _ => 0

abbrev bufTy : (tb : Table) → Fin (tcTables nBuf tb) → BufTy
  | .hbm, ⟨0, _⟩ => ⟨S544x256, .f32⟩
  | .hbm, ⟨1, _⟩ => ⟨S544x256, .f32⟩
  | .hbm, ⟨2, _⟩ => ⟨S544x256, .f32⟩
  | .hbm, ⟨3, _⟩ => ⟨S544x256, .f32⟩
  | .hbm, ⟨4, _⟩ => ⟨S544x256, .f32⟩
  | .hbm, ⟨5, _⟩ => ⟨S544x256, .f32⟩
  | .hbm, ⟨6, _⟩ => ⟨S544x256, .f32⟩
  | .local _ .vmem, ⟨0, _⟩ => ⟨S544x256, .f32⟩
  | .local _ .vmem, ⟨1, _⟩ => ⟨S544x256, .f32⟩
  | .local _ .vmem, ⟨2, _⟩ => ⟨S544x256, .f32⟩
  | .local _ .vmem, ⟨3, _⟩ => ⟨S544x256, .f32⟩
  | .local _ .vmem, ⟨4, _⟩ => ⟨S544x256, .f32⟩
  | .local _ .vmem, ⟨5, _⟩ => ⟨S544x256, .f32⟩
  | .local _ .vmem, ⟨6, _⟩ => ⟨S544x256, .f32⟩
  | _, _ => ⟨S544x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S544x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S544x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S544x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S544x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S544x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S544x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S544x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S544x256 : Shape := ⟨2, ![544, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S544x256, .f32⟩
  | .hbm, ⟨1, _⟩ => ⟨S544x256, .f32⟩
  | .hbm, ⟨2, _⟩ => ⟨S544x256, .f32⟩
  | .hbm, ⟨3, _⟩ => ⟨S544x256, .f32⟩
  | .hbm, ⟨4, _⟩ => ⟨S_, .f32⟩
  | .hbm, ⟨5, _⟩ => ⟨S544x256, .f32⟩
  | .hbm, ⟨6, _⟩ => ⟨S544x256, .f32⟩
  | .hbm, ⟨7, _⟩ => ⟨S_, .f32⟩
  | .hbm, ⟨8, _⟩ => ⟨S544x256, .f32⟩
  | .hbm, ⟨9, _⟩ => ⟨S544x256, .f32⟩
  | .hbm, ⟨10, _⟩ => ⟨S544x256, .f32⟩
  | .hbm, ⟨11, _⟩ => ⟨S_, .f32⟩
  | .hbm, ⟨12, _⟩ => ⟨S544x256, .f32⟩
  | .hbm, ⟨13, _⟩ => ⟨S544x256, .f32⟩
  | .hbm, ⟨14, _⟩ => ⟨S544x256, .f32⟩
  | .hbm, ⟨15, _⟩ => ⟨S_, .f32⟩
  | .hbm, ⟨16, _⟩ => ⟨S544x256, .f32⟩
  | .hbm, ⟨17, _⟩ => ⟨S544x256, .f32⟩
  | .hbm, ⟨18, _⟩ => ⟨S544x256, .f32⟩
  | .hbm, ⟨19, _⟩ => ⟨S_, .f32⟩
  | .hbm, ⟨20, _⟩ => ⟨S544x256, .f32⟩
  | .hbm, ⟨21, _⟩ => ⟨S544x256, .f32⟩
  | .hbm, ⟨22, _⟩ => ⟨S_, .f32⟩
  | .hbm, ⟨23, _⟩ => ⟨S544x256, .f32⟩
  | .hbm, ⟨24, _⟩ => ⟨S544x256, .f32⟩
  | .hbm, ⟨25, _⟩ => ⟨S544x256, .f32⟩
  | .hbm, ⟨26, _⟩ => ⟨S_, .f32⟩
  | .hbm, ⟨27, _⟩ => ⟨S544x256, .f32⟩
  | .hbm, ⟨28, _⟩ => ⟨S544x256, .f32⟩
  | .hbm, ⟨29, _⟩ => ⟨S544x256, .f32⟩
  | .hbm, ⟨30, _⟩ => ⟨S_, .f32⟩
  | .hbm, ⟨31, _⟩ => ⟨S544x256, .f32⟩
  | .hbm, ⟨32, _⟩ => ⟨S544x256, .f32⟩
  | .hbm, ⟨33, _⟩ => ⟨S544x256, .f32⟩
  | .hbm, ⟨34, _⟩ => ⟨S_, .f32⟩
  | .hbm, ⟨35, _⟩ => ⟨S544x256, .f32⟩
  | .hbm, ⟨36, _⟩ => ⟨S544x256, .f32⟩
  | _, _ => ⟨S544x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRepl.lean ====
abbrev S16x1024 : Shape := ⟨2, ![16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamReplIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamReplRefIdeal.lean ====
abbrev S16x1024 : Shape := ⟨2, ![16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== PackSmall.lean ====
abbrev S1x3x256 : Shape := ⟨3, ![1, 3, 256]⟩
abbrev S1x4x256 : Shape := ⟨3, ![1, 4, 256]⟩
abbrev S1x4x64x256 : Shape := ⟨4, ![1, 4, 64, 256]⟩
abbrev S1x4x64 : Shape := ⟨3, ![1, 4, 64]⟩
abbrev S1x3x1536 : Shape := ⟨3, ![1, 3, 1536]⟩
abbrev S3x256 : Shape := ⟨2, ![3, 256]⟩
abbrev S4x256 : Shape := ⟨2, ![4, 256]⟩
abbrev S256x256 : Shape := ⟨2, ![256, 256]⟩
abbrev S1x256 : Shape := ⟨2, ![1, 256]⟩
abbrev S18x256 : Shape := ⟨2, ![18, 256]⟩
abbrev S_ : Shape := ⟨0, ![]⟩
abbrev S5x256 : Shape := ⟨2, ![5, 256]⟩
abbrev S544x256 : Shape := ⟨2, ![544, 256]⟩

abbrev nBuf : Space → Nat
  | .hbm => 113
  | .vmem => 7
  | .smem => 0
  | _ => 0

abbrev bufTy : (tb : Table) → Fin (tcTables nBuf tb) → BufTy
  | .hbm, ⟨0, _⟩ => ⟨S1x3x256, .f32⟩
  | .hbm, ⟨1, _⟩ => ⟨S1x4x256, .f32⟩
  | .hbm, ⟨2, _⟩ => ⟨S1x4x64x256, .f32⟩
  | .hbm, ⟨3, _⟩ => ⟨S1x4x64, .f32⟩
  | .hbm, ⟨4, _⟩ => ⟨S1x4x64x256, .f32⟩
  | .hbm, ⟨5, _⟩ => ⟨S1x4x64, .f32⟩
  | .hbm, ⟨6, _⟩ => ⟨S1x3x1536, .f32⟩
  | .hbm, ⟨7, _⟩ => ⟨S1x3x256, .f32⟩
  | .hbm, ⟨8, _⟩ => ⟨S1x4x256, .f32⟩
  | .hbm, ⟨9, _⟩ => ⟨S1x4x64x256, .f32⟩
  | .hbm, ⟨10, _⟩ => ⟨S1x4x64, .f32⟩
  | .hbm, ⟨11, _⟩ => ⟨S1x4x64x256, .f32⟩
  | .hbm, ⟨12, _⟩ => ⟨S1x4x64, .f32⟩
  | .hbm, ⟨13, _⟩ => ⟨S1x3x1536, .f32⟩
  | .hbm, ⟨14, _⟩ => ⟨S1x3x256, .f32⟩
  | .hbm, ⟨15, _⟩ => ⟨S1x4x256, .f32⟩
  | .hbm, ⟨16, _⟩ => ⟨S1x4x64x256, .f32⟩
  | .hbm, ⟨17, _⟩ => ⟨S1x4x64, .f32⟩
  | .hbm, ⟨18, _⟩ => ⟨S1x4x64x256, .f32⟩
  | .hbm, ⟨19, _⟩ => ⟨S1x4x64, .f32⟩
  | .hbm, ⟨20, _⟩ => ⟨S1x3x1536, .f32⟩
  | .hbm, ⟨21, _⟩ => ⟨S1x3x256, .f32⟩
  | .hbm, ⟨22, _⟩ => ⟨S1x4x256, .f32⟩
  | .hbm, ⟨23, _⟩ => ⟨S1x4x64x256, .f32⟩
  | .hbm, ⟨24, _⟩ => ⟨S1x4x64, .f32⟩
  | .hbm, ⟨25, _⟩ => ⟨S1x4x64x256, .f32⟩
  | .hbm, ⟨26, _⟩ => ⟨S1x4x64, .f32⟩
  | .hbm, ⟨27, _⟩ => ⟨S1x3x1536, .f32⟩
  | .hbm, ⟨28, _⟩ => ⟨S3x256, .f32⟩
  | .hbm, ⟨29, _⟩ => ⟨S4x256, .f32⟩
  | .hbm, ⟨30, _⟩ => ⟨S256x256, .f32⟩
  | .hbm, ⟨31, _⟩ => ⟨S1x256, .f32⟩
  | .hbm, ⟨32, _⟩ => ⟨S256x256, .f32⟩
  | .hbm, ⟨33, _⟩ => ⟨S1x256, .f32⟩
  | .hbm, ⟨34, _⟩ => ⟨S18x256, .f32⟩
  | .hbm, ⟨35, _⟩ => ⟨S_, .f32⟩
  | .hbm, ⟨36, _⟩ => ⟨S5x256, .f32⟩
  | .hbm, ⟨37, _⟩ => ⟨S544x256, .f32⟩
  | .hbm, ⟨38, _⟩ => ⟨S3x256, .f32⟩
  | .hbm, ⟨39, _⟩ => ⟨S4x256, .f32⟩
  | .hbm, ⟨40, _⟩ => ⟨S256x256, .f32⟩
  | .hbm, ⟨41, _⟩ => ⟨S1x256, .f32⟩
  | .hbm, ⟨42, _⟩ => ⟨S256x256, .f32⟩
  | .hbm, ⟨43, _⟩ => ⟨S1x256, .f32⟩
  | .hbm, ⟨44, _⟩ => ⟨S18x256, .f32⟩
  | .hbm, ⟨45, _⟩ => ⟨S_, .f32⟩
  | .hbm, ⟨46, _⟩ => ⟨S5x256, .f32⟩
  | .hbm, ⟨47, _⟩ => ⟨S544x256, .f32⟩
  | .hbm, ⟨48, _⟩ => ⟨S3x256, .f32⟩
  | .hbm, ⟨49, _⟩ => ⟨S4x256, .f32⟩
  | .hbm, ⟨50, _⟩ => ⟨S256x256, .f32⟩
  | .hbm, ⟨51, _⟩ => ⟨S1x256, .f32⟩
  | .hbm, ⟨52, _⟩ => ⟨S256x256, .f32⟩
  | .hbm, ⟨53, _⟩ => ⟨S1x256, .f32⟩
  | .hbm, ⟨54, _⟩ => ⟨S18x256, .f32⟩
  | .hbm, ⟨55, _⟩ => ⟨S_, .f32⟩
  | .hbm, ⟨56, _⟩ => ⟨S5x256, .f32⟩
  | .hbm, ⟨57, _⟩ => ⟨S544x256, .f32⟩
  | .hbm, ⟨58, _⟩ => ⟨S3x256, .f32⟩
  | .hbm, ⟨59, _⟩ => ⟨S4x256, .f32⟩
  | .hbm, ⟨60, _⟩ => ⟨S256x256, .f32⟩
  | .hbm, ⟨61, _⟩ => ⟨S1x256, .f32⟩
  | .hbm, ⟨62, _⟩ => ⟨S256x256, .f32⟩
  | .hbm, ⟨63, _⟩ => ⟨S1x256, .f32⟩
  | .hbm, ⟨64, _⟩ => ⟨S18x256, .f32⟩
  | .hbm, ⟨65, _⟩ => ⟨S_, .f32⟩
  | .hbm, ⟨66, _⟩ => ⟨S5x256, .f32⟩
  | .hbm, ⟨67, _⟩ => ⟨S544x256, .f32⟩
  | .hbm, ⟨68, _⟩ => ⟨S544x256, .f32⟩
  | .hbm, ⟨69, _⟩ => ⟨S544x256, .f32⟩
  | .hbm, ⟨70, _⟩ => ⟨S544x256, .f32⟩
  | .hbm, ⟨71, _⟩ => ⟨S3x256, .f32⟩
  | .hbm, ⟨72, _⟩ => ⟨S1x3x256, .f32⟩
  | .hbm, ⟨73, _⟩ => ⟨S4x256, .f32⟩
  | .hbm, ⟨74, _⟩ => ⟨S1x4x256, .f32⟩
  | .hbm, ⟨75, _⟩ => ⟨S256x256, .f32⟩
  | .hbm, ⟨76, _⟩ => ⟨S1x4x64x256, .f32⟩
  | .hbm, ⟨77, _⟩ => ⟨S1x256, .f32⟩
  | .hbm, ⟨78, _⟩ => ⟨S1x4x64, .f32⟩
  | .hbm, ⟨79, _⟩ => ⟨S256x256, .f32⟩
  | .hbm, ⟨80, _⟩ => ⟨S1x4x64x256, .f32⟩
  | .hbm, ⟨81, _⟩ => ⟨S1x256, .f32⟩
  | .hbm, ⟨82, _⟩ => ⟨S1x4x64, .f32⟩
  | .hbm, ⟨83, _⟩ => ⟨S18x256, .f32⟩
  | .hbm, ⟨84, _⟩ => ⟨S1x3x1536, .f32⟩
  | .hbm, ⟨85, _⟩ => ⟨S3x256, .f32⟩
  | .hbm, ⟨86, _⟩ => ⟨S1x3x256, .f32⟩
  | .hbm, ⟨87, _⟩ => ⟨S4x256, .f32⟩
  | .hbm, ⟨88, _⟩ => ⟨S1x4x256, .f32⟩
  | .hbm, ⟨89, _⟩ => ⟨S256x256, .f32⟩
  | .hbm, ⟨90, _⟩ => ⟨S1x4x64x256, .f32⟩
  | .hbm, ⟨91, _⟩ => ⟨S1x256, .f32⟩
  | .hbm, ⟨92, _⟩ => ⟨S1x4x64, .f32⟩
  | .hbm, ⟨93, _⟩ => ⟨S256x256, .f32⟩
  | .hbm, ⟨94, _⟩ => ⟨S1x4x64x256, .f32⟩
  | .hbm, ⟨95, _⟩ => ⟨S1x256, .f32⟩
  | .hbm, ⟨96, _⟩ => ⟨S1x4x64, .f32⟩
  | .hbm, ⟨97, _⟩ => ⟨S18x256, .f32⟩
  | .hbm, ⟨98, _⟩ => ⟨S1x3x1536, .f32⟩
  | .hbm, ⟨99, _⟩ => ⟨S3x256, .f32⟩
  | .hbm, ⟨100, _⟩ => ⟨S1x3x256, .f32⟩
  | .hbm, ⟨101, _⟩ => ⟨S4x256, .f32⟩
  | .hbm, ⟨102, _⟩ => ⟨S1x4x256, .f32⟩
  | .hbm, ⟨103, _⟩ => ⟨S256x256, .f32⟩
  | .hbm, ⟨104, _⟩ => ⟨S1x4x64x256, .f32⟩
  | .hbm, ⟨105, _⟩ => ⟨S1x256, .f32⟩
  | .hbm, ⟨106, _⟩ => ⟨S1x4x64, .f32⟩
  | .hbm, ⟨107, _⟩ => ⟨S256x256, .f32⟩
  | .hbm, ⟨108, _⟩ => ⟨S1x4x64x256, .f32⟩
  | .hbm, ⟨109, _⟩ => ⟨S1x256, .f32⟩
  | .hbm, ⟨110, _⟩ => ⟨S1x4x64, .f32⟩
  | .hbm, ⟨111, _⟩ => ⟨S18x256, .f32⟩
  | .hbm, ⟨112, _⟩ => ⟨S1x3x1536, .f32⟩
  | .local _ .vmem, ⟨0, _⟩ => ⟨S544x256, .f32⟩
  | .local _ .vmem, ⟨1, _⟩ => ⟨S544x256, .f32⟩
  | .local _ .vmem, ⟨2, _⟩ => ⟨S544x256, .f32⟩
  | .local _ .vmem, ⟨3, _⟩ => ⟨S544x256, .f32⟩
  | .local _ .vmem, ⟨4, _⟩ => ⟨S544x256, .f32⟩
  | .local _ .vmem, ⟨5, _⟩ => ⟨S544x256, .f32⟩
  | .local _ .vmem, ⟨6, _⟩ => ⟨S544x256, .f32⟩
  | _, _ => ⟨S1x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_0 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_1 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_2 : Ref sig .tc := ⟨.hbm, 65, rfl⟩
abbrev main_v34 : Ref sig .tc := ⟨.hbm, 66, rfl⟩
abbrev main_v35 : Ref sig .tc := ⟨.hbm, 67, rfl⟩
abbrev main_v36_0 : Ref sig .tc := ⟨.hbm, 68, rfl⟩
abbrev main_v36_1 : Ref sig .tc := ⟨.hbm, 69, rfl⟩
abbrev main_v36_2 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S544x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S544x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S544x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S544x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S544x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S544x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S544x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== PackSmallIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== PackSmallRefIdeal.lean ====
abbrev S1x3x256 : Shape := ⟨3, ![1, 3, 256]⟩
abbrev S1x4x256 : Shape := ⟨3, ![1, 4, 256]⟩
abbrev S1x4x64x256 : Shape := ⟨4, ![1, 4, 64, 256]⟩
abbrev S1x4x64 : Shape := ⟨3, ![1, 4, 64]⟩
abbrev S1x3x1536 : Shape := ⟨3, ![1, 3, 1536]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S1x3x256, .f32⟩
  | 1 => ⟨S1x4x256, .f32⟩
  | 2 => ⟨S1x4x64x256, .f32⟩
  | 3 => ⟨S1x4x64, .f32⟩
  | 4 => ⟨S1x4x64x256, .f32⟩
  | 5 => ⟨S1x4x64, .f32⟩
  | 6 => ⟨S1x3x1536, .f32⟩
  | 7 => ⟨S1x3x256, .f32⟩
  | 8 => ⟨S1x4x256, .f32⟩
  | 9 => ⟨S1x4x64x256, .f32⟩
  | 10 => ⟨S1x4x64, .f32⟩
  | 11 => ⟨S1x4x64x256, .f32⟩
  | 12 => ⟨S1x4x64, .f32⟩
  | 13 => ⟨S1x3x1536, .f32⟩
  | 14 => ⟨S1x3x256, .f32⟩
  | 15 => ⟨S1x4x256, .f32⟩
  | 16 => ⟨S1x4x64x256, .f32⟩
  | 17 => ⟨S1x4x64, .f32⟩
  | 18 => ⟨S1x4x64x256, .f32⟩
  | 19 => ⟨S1x4x64, .f32⟩
  | 20 => ⟨S1x3x1536, .f32⟩
  | 21 => ⟨S1x3x256, .f32⟩
  | 22 => ⟨S1x4x256, .f32⟩
  | 23 => ⟨S1x4x64x256, .f32⟩
  | 24 => ⟨S1x4x64, .f32⟩
  | 25 => ⟨S1x4x64x256, .f32⟩
  | 26 => ⟨S1x4x64, .f32⟩
  | 27 => ⟨S1x3x1536, .f32⟩
  | 28 => ⟨S_, .f32⟩
  | 29 => ⟨S1x3x256, .f32⟩
  | 30 => ⟨S1x3x256, .f32⟩
  | 31 => ⟨S_, .f32⟩
  | 32 => ⟨S1x3x256, .f32⟩
  | 33 => ⟨S1x3x256, .f32⟩
  | 34 => ⟨S1x3x256, .f32⟩
  | 35 => ⟨S_, .f32⟩
  | 36 => ⟨S1x3x256, .f32⟩
  | 37 => ⟨S1x3x256, .f32⟩
  | 38 => ⟨S1x3x256, .f32⟩
  | 39 => ⟨S_, .f32⟩
  | 40 => ⟨S1x3x256, .f32⟩
  | 41 => ⟨S1x3x256, .f32⟩
  | 42 => ⟨S1x3x256, .f32⟩
  | 43 => ⟨S_, .f32⟩
  | 44 => ⟨S1x3x256, .f32⟩
  | 45 => ⟨S1x3x256, .f32⟩
  | 46 => ⟨S_, .f32⟩
  | 47 => ⟨S1x3x256, .f32⟩
  | 48 => ⟨S1x3x256, .f32⟩
  | 49 => ⟨S1x3x256, .f32⟩
  | 50 => ⟨S_, .f32⟩
  | 51 => ⟨S1x3x256, .f32⟩
  | 52 => ⟨S1x3x256, .f32⟩
  | 53 => ⟨S1x3x256, .f32⟩
  | 54 => ⟨S_, .f32⟩
  | 55 => ⟨S1x3x256, .f32⟩
  | 56 => ⟨S1x3x256, .f32⟩
  | 57 => ⟨S1x3x256, .f32⟩
  | 58 => ⟨S_, .f32⟩
  | 59 => ⟨S1x3x256, .f32⟩
  | 60 => ⟨S1x3x256, .f32⟩
  | 61 => ⟨S_, .f32⟩
  | 62 => ⟨S1x4x256, .f32⟩
  | 63 => ⟨S1x4x256, .f32⟩
  | 64 => ⟨S_, .f32⟩
  | 65 => ⟨S1x4x256, .f32⟩
  | 66 => ⟨S1x4x256, .f32⟩
  | 67 => ⟨S1x4x256, .f32⟩
  | 68 => ⟨S_, .f32⟩
  | 69 => ⟨S1x4x256, .f32⟩
  | 70 => ⟨S1x4x256, .f32⟩
  | 71 => ⟨S1x4x256, .f32⟩
  | 72 => ⟨S_, .f32⟩
  | 73 => ⟨S1x4x256, .f32⟩
  | 74 => ⟨S1x4x256, .f32⟩
  | 75 => ⟨S1x4x256, .f32⟩
  | 76 => ⟨S_, .f32⟩
  | 77 => ⟨S1x4x256, .f32⟩
  | 78 => ⟨S1x4x256, .f32⟩
  | 79 => ⟨S_, .f32⟩
  | 80 => ⟨S1x4x256, .f32⟩
  | 81 => ⟨S1x4x256, .f32⟩
  | 82 => ⟨S1x4x256, .f32⟩
  | 83 => ⟨S_, .f32⟩
  | 84 => ⟨S1x4x256, .f32⟩
  | 85 => ⟨S1x4x256, .f32⟩
  | 86 => ⟨S1x4x256, .f32⟩
  | 87 => ⟨S_, .f32⟩
  | 88 => ⟨S1x4x256, .f32⟩
  | 89 => ⟨S1x4x256, .f32⟩
  | 90 => ⟨S1x4x256, .f32⟩
  | 91 => ⟨S_, .f32⟩
  | 92 => ⟨S1x4x256, .f32⟩
  | 93 => ⟨S1x4x256, .f32⟩
  | 94 => ⟨S_, .f32⟩
  | 95 => ⟨S1x4x64x256, .f32⟩
  | 96 => ⟨S1x4x64x256, .f32⟩
  | 97 => ⟨S_, .f32⟩
  | 98 => ⟨S1x4x64x256, .f32⟩
  | 99 => ⟨S1x4x64x256, .f32⟩
  | 100 => ⟨S1x4x64x256, .f32⟩
  | 101 => ⟨S_, .f32⟩
  | 102 => ⟨S1x4x64x256, .f32⟩
  | 103 => ⟨S1x4x64x256, .f32⟩
  | 104 => ⟨S1x4x64x256, .f32⟩
  | 105 => ⟨S_, .f32⟩
  | 106 => ⟨S1x4x64x256, .f32⟩
  | 107 => ⟨S1x4x64x256, .f32⟩
  | 108 => ⟨S1x4x64x256, .f32⟩
  | 109 => ⟨S_, .f32⟩
  | 110 => ⟨S1x4x64x256, .f32⟩
  | 111 => ⟨S1x4x64x256, .f32⟩
  | 112 => ⟨S_, .f32⟩
  | 113 => ⟨S1x4x64x256, .f32⟩
  | 114 => ⟨S1x4x64x256, .f32⟩
  | 115 => ⟨S1x4x64x256, .f32⟩
  | 116 => ⟨S_, .f32⟩
  | 117 => ⟨S1x4x64x256, .f32⟩
  | 118 => ⟨S1x4x64x256, .f32⟩
  | 119 => ⟨S1x4x64x256, .f32⟩
  | 120 => ⟨S_, .f32⟩
  | 121 => ⟨S1x4x64x256, .f32⟩
  | 122 => ⟨S1x4x64x256, .f32⟩
  | 123 => ⟨S1x4x64x256, .f32⟩
  | 124 => ⟨S_, .f32⟩
  | 125 => ⟨S1x4x64x256, .f32⟩
  | 126 => ⟨S1x4x64x256, .f32⟩
  | 127 => ⟨S_, .f32⟩
  | _ => ⟨S1x3x256, .f32⟩

abbrev hbmTy0_1 (i : Nat) : BufTy := match i % 128 with
  | 0 => ⟨S1x4x64, .f32⟩
  | 1 => ⟨S1x4x64, .f32⟩
  | 2 => ⟨S_, .f32⟩
  | 3 => ⟨S1x4x64, .f32⟩
  | 4 => ⟨S1x4x64, .f32⟩
  | 5 => ⟨S1x4x64, .f32⟩
  | 6 => ⟨S_, .f32⟩
  | 7 => ⟨S1x4x64, .f32⟩
  | 8 => ⟨S1x4x64, .f32⟩
  | 9 => ⟨S1x4x64, .f32⟩
  | 10 => ⟨S_, .f32⟩
  | 11 => ⟨S1x4x64, .f32⟩
  | 12 => ⟨S1x4x64, .f32⟩
  | 13 => ⟨S1x4x64, .f32⟩
  | 14 => ⟨S_, .f32⟩
  | 15 => ⟨S1x4x64, .f32⟩
  | 16 => ⟨S1x4x64, .f32⟩
  | 17 => ⟨S_, .f32⟩
  | 18 => ⟨S1x4x64, .f32⟩
  | 19 => ⟨S1x4x64, .f32⟩
  | 20 => ⟨S1x4x64, .f32⟩
  | 21 => ⟨S_, .f32⟩
  | 22 => ⟨S1x4x64, .f32⟩
  | 23 => ⟨S1x4x64, .f32⟩
  | 24 => ⟨S1x4x64, .f32⟩
  | 25 => ⟨S_, .f32⟩
  | 26 => ⟨S1x4x64, .f32⟩
  | 27 => ⟨S1x4x64, .f32⟩
  | 28 => ⟨S1x4x64, .f32⟩
  | 29 => ⟨S_, .f32⟩
  | 30 => ⟨S1x4x64, .f32⟩
  | 31 => ⟨S1x4x64, .f32⟩
  | 32 => ⟨S_, .f32⟩
  | 33 => ⟨S1x4x64x256, .f32⟩
  | 34 => ⟨S1x4x64x256, .f32⟩
  | 35 => ⟨S_, .f32⟩
  | 36 => ⟨S1x4x64x256, .f32⟩
  | 37 => ⟨S1x4x64x256, .f32⟩
  | 38 => ⟨S1x4x64x256, .f32⟩
  | 39 => ⟨S_, .f32⟩
  | 40 => ⟨S1x4x64x256, .f32⟩
  | 41 => ⟨S1x4x64x256, .f32⟩
  | 42 => ⟨S1x4x64x256, .f32⟩
  | 43 => ⟨S_, .f32⟩
  | 44 => ⟨S1x4x64x256, .f32⟩
  | 45 => ⟨S1x4x64x256, .f32⟩
  | 46 => ⟨S1x4x64x256, .f32⟩
  | 47 => ⟨S_, .f32⟩
  | 48 => ⟨S1x4x64x256, .f32⟩
  | 49 => ⟨S1x4x64x256, .f32⟩
  | 50 => ⟨S_, .f32⟩
  | 51 => ⟨S1x4x64x256, .f32⟩
  | 52 => ⟨S1x4x64x256, .f32⟩
  | 53 => ⟨S1x4x64x256, .f32⟩
  | 54 => ⟨S_, .f32⟩
  | 55 => ⟨S1x4x64x256, .f32⟩
  | 56 => ⟨S1x4x64x256, .f32⟩
  | 57 => ⟨S1x4x64x256, .f32⟩
  | 58 => ⟨S_, .f32⟩
  | 59 => ⟨S1x4x64x256, .f32⟩
  | 60 => ⟨S1x4x64x256, .f32⟩
  | 61 => ⟨S1x4x64x256, .f32⟩
  | 62 => ⟨S_, .f32⟩
  | 63 => ⟨S1x4x64x256, .f32⟩
  | 64 => ⟨S1x4x64x256, .f32⟩
  | 65 => ⟨S_, .f32⟩
  | 66 => ⟨S1x4x64, .f32⟩
  | 67 => ⟨S1x4x64, .f32⟩
  | 68 => ⟨S_, .f32⟩
  | 69 => ⟨S1x4x64, .f32⟩
  | 70 => ⟨S1x4x64, .f32⟩
  | 71 => ⟨S1x4x64, .f32⟩
  | 72 => ⟨S_, .f32⟩
  | 73 => ⟨S1x4x64, .f32⟩
  | 74 => ⟨S1x4x64, .f32⟩
  | 75 => ⟨S1x4x64, .f32⟩
  | 76 => ⟨S_, .f32⟩
  | 77 => ⟨S1x4x64, .f32⟩
  | 78 => ⟨S1x4x64, .f32⟩
  | 79 => ⟨S1x4x64, .f32⟩
  | 80 => ⟨S_, .f32⟩
  | 81 => ⟨S1x4x64, .f32⟩
  | 82 => ⟨S1x4x64, .f32⟩
  | 83 => ⟨S_, .f32⟩
  | 84 => ⟨S1x4x64, .f32⟩
  | 85 => ⟨S1x4x64, .f32⟩
  | 86 => ⟨S1x4x64, .f32⟩
  | 87 => ⟨S_, .f32⟩
  | 88 => ⟨S1x4x64, .f32⟩
  | 89 => ⟨S1x4x64, .f32⟩
  | 90 => ⟨S1x4x64, .f32⟩
  | 91 => ⟨S_, .f32⟩
  | 92 => ⟨S1x4x64, .f32⟩
  | 93 => ⟨S1x4x64, .f32⟩
  | 94 => ⟨S1x4x64, .f32⟩
  | 95 => ⟨S_, .f32⟩
  | 96 => ⟨S1x4x64, .f32⟩
  | 97 => ⟨S1x4x64, .f32⟩
  | 98 => ⟨S_, .f32⟩
  | 99 => ⟨S1x3x1536, .f32⟩
  | 100 => ⟨S1x3x1536, .f32⟩
  | 101 => ⟨S_, .f32⟩
  | 102 => ⟨S1x3x1536, .f32⟩
  | 103 => ⟨S1x3x1536, .f32⟩
  | 104 => ⟨S1x3x1536, .f32⟩
  | 105 => ⟨S_, .f32⟩
  | 106 => ⟨S1x3x1536, .f32⟩
  | 107 => ⟨S1x3x1536, .f32⟩
  | 108 => ⟨S1x3x1536, .f32⟩
  | 109 => ⟨S_, .f32⟩
  | 110 => ⟨S1x3x1536, .f32⟩
  | 111 => ⟨S1x3x1536, .f32⟩
  | 112 => ⟨S1x3x1536, .f32⟩
  | 113 => ⟨S_, .f32⟩
  | 114 => ⟨S1x3x1536, .f32⟩
  | 115 => ⟨S1x3x1536, .f32⟩
  | 116 => ⟨S_, .f32⟩
  | 117 => ⟨S1x3x1536, .f32⟩
  | 118 => ⟨S1x3x1536, .f32⟩
  | 119 => ⟨S1x3x1536, .f32⟩
  | 120 => ⟨S_, .f32⟩
  | 121 => ⟨S1x3x1536, .f32⟩
  | 122 => ⟨S1x3x1536, .f32⟩
  | 123 => ⟨S1x3x1536, .f32⟩
  | 124 => ⟨S_, .f32⟩
  | 125 => ⟨S1x3x1536, .f32⟩
  | 126 => ⟨S1x3x1536, .f32⟩
  | 127 => ⟨S1x3x1536, .f32⟩
  | _ => ⟨S1x3x256, .f32⟩

abbrev hbmTy0_2 (i : Nat) : BufTy := match i % 128 with
  | 0 => ⟨S_, .f32⟩
  | 1 => ⟨S1x3x1536, .f32⟩
  | 2 => ⟨S1x3x1536, .f32⟩
  | _ => ⟨S1x3x256, .f32⟩

abbrev hbmTy (i : Nat) : BufTy := match i / 128 with
  | 0 => hbmTy0_0 i
  | 1 => hbmTy0_1 i
  | 2 => hbmTy0_2 i
  | _ => ⟨S1x3x256, .f32⟩

abbrev bufTy : (tb : Table) → Fin (tcTables nBuf tb) → BufTy
  | .hbm, ⟨i, _⟩ => hbmTy i
  | _, _ => ⟨S1x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== PackRepl.lean ====
abbrev S1x1024 : Shape := ⟨2, ![1, 1024]⟩
abbrev S1x6144 : Shape := ⟨2, ![1, 6144]⟩
abbrev S6x1024 : Shape := ⟨2, ![6, 1024]⟩
abbrev S_ : Shape := ⟨0, ![]⟩
abbrev S4x1024 : Shape := ⟨2, ![4, 1024]⟩
abbrev S16x1024 : Shape := ⟨2, ![16, 1024]⟩

abbrev nBuf : Space → Nat
  | .hbm => 71
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x6144, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x6144, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x6144, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x6144, .f32⟩
  | .hbm, ⟨28, _⟩ => ⟨S6x1024, .f32⟩
  | .hbm, ⟨29, _⟩ => ⟨S_, .f32⟩
  | .hbm, ⟨30, _⟩ => ⟨S4x1024, .f32⟩
  | .hbm, ⟨31, _⟩ => ⟨S16x1024, .f32⟩
  | .hbm, ⟨32, _⟩ => ⟨S6x1024, .f32⟩
  | .hbm, ⟨33, _⟩ => ⟨S_, .f32⟩
  | .hbm, ⟨34, _⟩ => ⟨S4x1024, .f32⟩
  | .hbm, ⟨35, _⟩ => ⟨S16x1024, .f32⟩
  | .hbm, ⟨36, _⟩ => ⟨S6x1024, .f32⟩
  | .hbm, ⟨37, _⟩ => ⟨S_, .f32⟩
  | .hbm, ⟨38, _⟩ => ⟨S4x1024, .f32⟩
  | .hbm, ⟨39, _⟩ => ⟨S16x1024, .f32⟩
  | .hbm, ⟨40, _⟩ => ⟨S6x1024, .f32⟩
  | .hbm, ⟨41, _⟩ => ⟨S_, .f32⟩
  | .hbm, ⟨42, _⟩ => ⟨S4x1024, .f32⟩
  | .hbm, ⟨43, _⟩ => ⟨S16x1024, .f32⟩
  | .hbm, ⟨44, _⟩ => ⟨S16x1024, .f32⟩
  | .hbm, ⟨45, _⟩ => ⟨S16x1024, .f32⟩
  | .hbm, ⟨46, _⟩ => ⟨S16x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S6x1024, .f32⟩
  | .hbm, ⟨54, _⟩ => ⟨S1x6144, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S6x1024, .f32⟩
  | .hbm, ⟨62, _⟩ => ⟨S1x6144, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S6x1024, .f32⟩
  | .hbm, ⟨70, _⟩ => ⟨S1x6144, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst_0 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_2 : Ref sig .tc := ⟨.hbm, 41, rfl⟩
abbrev main_v10 : Ref sig .tc := ⟨.hbm, 42, rfl⟩
abbrev main_v11 : Ref sig .tc := ⟨.hbm, 43, rfl⟩
abbrev main_v12_0 : Ref sig .tc := ⟨.hbm, 44, rfl⟩
abbrev main_v12_1 : Ref sig .tc := ⟨.hbm, 45, rfl⟩
abbrev main_v12_2 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== PackReplIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== PackReplRefIdeal.lean ====
abbrev S1x1024 : Shape := ⟨2, ![1, 1024]⟩
abbrev S1x6144 : Shape := ⟨2, ![1, 6144]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x6144, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x6144, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x6144, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x6144, .f32⟩
  | 28 => ⟨S_, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S_, .f32⟩
  | _ => ⟨S1x1024, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S_, .f32⟩
  | 99 => ⟨S1x6144, .f32⟩
  | 100 => ⟨S1x6144, .f32⟩
  | 101 => ⟨S_, .f32⟩
  | 102 => ⟨S1x6144, .f32⟩
  | 103 => ⟨S1x6144, .f32⟩
  | 104 => ⟨S1x6144, .f32⟩
  | 105 => ⟨S_, .f32⟩
  | 106 => ⟨S1x6144, .f32⟩
  | 107 => ⟨S1x6144, .f32⟩
  | 108 => ⟨S1x6144, .f32⟩
  | 109 => ⟨S_, .f32⟩
  | 110 => ⟨S1x6144, .f32⟩
  | 111 => ⟨S1x6144, .f32⟩
  | 112 => ⟨S1x6144, .f32⟩
  | 113 => ⟨S_, .f32⟩
  | 114 => ⟨S1x6144, .f32⟩
  | 115 => ⟨S1x6144, .f32⟩
  | 116 => ⟨S_, .f32⟩
  | 117 => ⟨S1x6144, .f32⟩
  | 118 => ⟨S1x6144, .f32⟩
  | 119 => ⟨S1x6144, .f32⟩
  | 120 => ⟨S_, .f32⟩
  | 121 => ⟨S1x6144, .f32⟩
  | 122 => ⟨S1x6144, .f32⟩
  | 123 => ⟨S1x6144, .f32⟩
  | 124 => ⟨S_, .f32⟩
  | 125 => ⟨S1x6144, .f32⟩
  | 126 => ⟨S1x6144, .f32⟩
  | 127 => ⟨S1x6144, .f32⟩
  | _ => ⟨S1x1024, .f32⟩

abbrev hbmTy0_2 (i : Nat) : BufTy := match i % 128 with
  | 0 => ⟨S_, .f32⟩
  | 1 => ⟨S1x6144, .f32⟩
  | 2 => ⟨S1x6144, .f32⟩
  | _ => ⟨S1x1024, .f32⟩

abbrev hbmTy (i : Nat) : BufTy := match i / 128 with
  | 0 => hbmTy0_0 i
  | 1 => hbmTy0_1 i
  | 2 => hbmTy0_2 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== AddWin.lean ====
abbrev S4x512x1792 : Shape := ⟨3, ![4, 512, 1792]⟩
abbrev S1x128x1792 : Shape := ⟨3, ![1, 128, 1792]⟩

abbrev nBuf : Space → Nat
  | .hbm => 3
  | .vmem => 6
  | .smem => 0
  | _ => 0

abbrev bufTy : (tb : Table) → Fin (tcTables nBuf tb) → BufTy
  | .hbm, ⟨0, _⟩ => ⟨S4x512x1792, .bf16⟩
  | .hbm, ⟨1, _⟩ => ⟨S4x512x1792, .bf16⟩
  | .hbm, ⟨2, _⟩ => ⟨S4x512x1792, .bf16⟩
  | .local _ .vmem, ⟨0, _⟩ => ⟨S1x128x1792, .bf16⟩
  | .local _ .vmem, ⟨1, _⟩ => ⟨S1x128x1792, .bf16⟩
  | .local _ .vmem, ⟨2, _⟩ => ⟨S1x128x1792, .bf16⟩
  | .local _ .vmem, ⟨3, _⟩ => ⟨S1x128x1792, .bf16⟩
  | .local _ .vmem, ⟨4, _⟩ => ⟨S1x128x1792, .bf16⟩
  | .local _ .vmem, ⟨5, _⟩ => ⟨S1x128x1792, .bf16⟩
  | _, _ => ⟨S4x512x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddWinIdeal.lean ====
abbrev S4x512x1792 : Shape := ⟨3, ![4, 512, 1792]⟩
abbrev S1x128x1792 : Shape := ⟨3, ![1, 128, 1792]⟩

abbrev nBuf : Space → Nat
  | .hbm => 3
  | .vmem => 6
  | .smem => 0
  | _ => 0

abbrev bufTy : (tb : Table) → Fin (tcTables nBuf tb) → BufTy
  | .hbm, ⟨0, _⟩ => ⟨S4x512x1792, .bf16⟩
  | .hbm, ⟨1, _⟩ => ⟨S4x512x1792, .bf16⟩
  | .hbm, ⟨2, _⟩ => ⟨S4x512x1792, .bf16⟩
  | .local _ .vmem, ⟨0, _⟩ => ⟨S1x128x1792, .bf16⟩
  | .local _ .vmem, ⟨1, _⟩ => ⟨S1x128x1792, .bf16⟩
  | .local _ .vmem, ⟨2, _⟩ => ⟨S1x128x1792, .bf16⟩
  | .local _ .vmem, ⟨3, _⟩ => ⟨S1x128x1792, .bf16⟩
  | .local _ .vmem, ⟨4, _⟩ => ⟨S1x128x1792, .bf16⟩
  | .local _ .vmem, ⟨5, _⟩ => ⟨S1x128x1792, .bf16⟩
  | _, _ => ⟨S4x512x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddWinRefIdeal.lean ====
abbrev S4x512x1792 : Shape := ⟨3, ![4, 512, 1792]⟩

abbrev nBuf : Space → Nat
  | .hbm => 6
  | .vmem => 0
  | .smem => 0
  | _ => 0

abbrev bufTy : (tb : Table) → Fin (tcTables nBuf tb) → BufTy
  | .hbm, ⟨0, _⟩ => ⟨S4x512x1792, .bf16⟩
  | .hbm, ⟨1, _⟩ => ⟨S4x512x1792, .bf16⟩
  | .hbm, ⟨2, _⟩ => ⟨S4x512x1792, .f32⟩
  | .hbm, ⟨3, _⟩ => ⟨S4x512x1792, .f32⟩
  | .hbm, ⟨4, _⟩ => ⟨S4x512x1792, .f32⟩
  | .hbm, ⟨5, _⟩ => ⟨S4x512x1792, .bf16⟩
  | _, _ => ⟨S4x512x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AddUp.lean ====
abbrev S4x512x1536 : Shape := ⟨3, ![4, 512, 1536]⟩
abbrev S1x128x1536 : Shape := ⟨3, ![1, 128, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4x512x1536, .bf16⟩
  | .hbm, ⟨1, _⟩ => ⟨S4x512x1536, .bf16⟩
  | .hbm, ⟨2, _⟩ => ⟨S4x512x1536, .bf16⟩
  | .local _ .vmem, ⟨0, _⟩ => ⟨S1x128x1536, .bf16⟩
  | .local _ .vmem, ⟨1, _⟩ => ⟨S1x128x1536, .bf16⟩
  | .local _ .vmem, ⟨2, _⟩ => ⟨S1x128x1536, .bf16⟩
  | .local _ .vmem, ⟨3, _⟩ => ⟨S1x128x1536, .bf16⟩
  | .local _ .vmem, ⟨4, _⟩ => ⟨S1x128x1536, .bf16⟩
  | .local _ .vmem, ⟨5, _⟩ => ⟨S1x128x1536, .bf16⟩
  | _, _ => ⟨S4x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddUpIdeal.lean ====
abbrev S4x512x1536 : Shape := ⟨3, ![4, 512, 1536]⟩
abbrev S1x128x1536 : Shape := ⟨3, ![1, 128, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4x512x1536, .bf16⟩
  | .hbm, ⟨1, _⟩ => ⟨S4x512x1536, .bf16⟩
  | .hbm, ⟨2, _⟩ => ⟨S4x512x1536, .bf16⟩
  | .local _ .vmem, ⟨0, _⟩ => ⟨S1x128x1536, .bf16⟩
  | .local _ .vmem, ⟨1, _⟩ => ⟨S1x128x1536, .bf16⟩
  | .local _ .vmem, ⟨2, _⟩ => ⟨S1x128x1536, .bf16⟩
  | .local _ .vmem, ⟨3, _⟩ => ⟨S1x128x1536, .bf16⟩
  | .local _ .vmem, ⟨4, _⟩ => ⟨S1x128x1536, .bf16⟩
  | .local _ .vmem, ⟨5, _⟩ => ⟨S1x128x1536, .bf16⟩
  | _, _ => ⟨S4x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddUpRefIdeal.lean ====
abbrev S4x512x1536 : Shape := ⟨3, ![4, 512, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4x512x1536, .bf16⟩
  | .hbm, ⟨1, _⟩ => ⟨S4x512x1536, .bf16⟩
  | .hbm, ⟨2, _⟩ => ⟨S4x512x1536, .f32⟩
  | .hbm, ⟨3, _⟩ => ⟨S4x512x1536, .f32⟩
  | .hbm, ⟨4, _⟩ => ⟨S4x512x1536, .f32⟩
  | .hbm, ⟨5, _⟩ => ⟨S4x512x1536, .bf16⟩
  | _, _ => ⟨S4x512x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AddRow.lean ====
abbrev S4x128x1024 : Shape := ⟨3, ![4, 128, 1024]⟩
abbrev S1x128x1024 : Shape := ⟨3, ![1, 128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S4x128x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddRowIdeal.lean ====
abbrev S4x128x1024 : Shape := ⟨3, ![4, 128, 1024]⟩
abbrev S1x128x1024 : Shape := ⟨3, ![1, 128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S4x128x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddRowRefIdeal.lean ====
abbrev S4x128x1024 : Shape := ⟨3, ![4, 128, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .bf16⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AddDown.lean ====
abbrev S4x384x1024 : Shape := ⟨3, ![4, 384, 1024]⟩
abbrev S1x192x1024 : Shape := ⟨3, ![1, 192, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x384x1024, .bf16⟩
  | .hbm, ⟨1, _⟩ => ⟨S4x384x1024, .bf16⟩
  | .hbm, ⟨2, _⟩ => ⟨S4x384x1024, .bf16⟩
  | .local _ .vmem, ⟨0, _⟩ => ⟨S1x192x1024, .bf16⟩
  | .local _ .vmem, ⟨1, _⟩ => ⟨S1x192x1024, .bf16⟩
  | .local _ .vmem, ⟨2, _⟩ => ⟨S1x192x1024, .bf16⟩
  | .local _ .vmem, ⟨3, _⟩ => ⟨S1x192x1024, .bf16⟩
  | .local _ .vmem, ⟨4, _⟩ => ⟨S1x192x1024, .bf16⟩
  | .local _ .vmem, ⟨5, _⟩ => ⟨S1x192x1024, .bf16⟩
  | _, _ => ⟨S4x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddDownIdeal.lean ====
abbrev S4x384x1024 : Shape := ⟨3, ![4, 384, 1024]⟩
abbrev S1x192x1024 : Shape := ⟨3, ![1, 192, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x384x1024, .bf16⟩
  | .hbm, ⟨1, _⟩ => ⟨S4x384x1024, .bf16⟩
  | .hbm, ⟨2, _⟩ => ⟨S4x384x1024, .bf16⟩
  | .local _ .vmem, ⟨0, _⟩ => ⟨S1x192x1024, .bf16⟩
  | .local _ .vmem, ⟨1, _⟩ => ⟨S1x192x1024, .bf16⟩
  | .local _ .vmem, ⟨2, _⟩ => ⟨S1x192x1024, .bf16⟩
  | .local _ .vmem, ⟨3, _⟩ => ⟨S1x192x1024, .bf16⟩
  | .local _ .vmem, ⟨4, _⟩ => ⟨S1x192x1024, .bf16⟩
  | .local _ .vmem, ⟨5, _⟩ => ⟨S1x192x1024, .bf16⟩
  | _, _ => ⟨S4x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddDownRefIdeal.lean ====
abbrev S4x384x1024 : Shape := ⟨3, ![4, 384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x384x1024, .bf16⟩
  | .hbm, ⟨1, _⟩ => ⟨S4x384x1024, .bf16⟩
  | .hbm, ⟨2, _⟩ => ⟨S4x384x1024, .f32⟩
  | .hbm, ⟨3, _⟩ => ⟨S4x384x1024, .f32⟩
  | .hbm, ⟨4, _⟩ => ⟨S4x384x1024, .f32⟩
  | .hbm, ⟨5, _⟩ => ⟨S4x384x1024, .bf16⟩
  | _, _ => ⟨S4x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AddSmall.lean ====
abbrev S4x272x256 : Shape := ⟨3, ![4, 272, 256]⟩
abbrev S1x272x256 : Shape := ⟨3, ![1, 272, 256]⟩

abbrev nBuf : Space → Nat
  | .hbm => 3
  | .vmem => 6
  | .smem => 0
  | _ => 0

abbrev bufTy : (tb : Table) → Fin (tcTables nBuf tb) → BufTy
  | .hbm, ⟨0, _⟩ => ⟨S4x272x256, .f32⟩
  | .hbm, ⟨1, _⟩ => ⟨S4x272x256, .f32⟩
  | .hbm, ⟨2, _⟩ => ⟨S4x272x256, .f32⟩
  | .local _ .vmem, ⟨0, _⟩ => ⟨S1x272x256, .f32⟩
  | .local _ .vmem, ⟨1, _⟩ => ⟨S1x272x256, .f32⟩
  | .local _ .vmem, ⟨2, _⟩ => ⟨S1x272x256, .f32⟩
  | .local _ .vmem, ⟨3, _⟩ => ⟨S1x272x256, .f32⟩
  | .local _ .vmem, ⟨4, _⟩ => ⟨S1x272x256, .f32⟩
  | .local _ .vmem, ⟨5, _⟩ => ⟨S1x272x256, .f32⟩
  | _, _ => ⟨S4x272x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x272x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x272x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x272x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddSmallRefIdeal.lean ====
abbrev S4x272x256 : Shape := ⟨3, ![4, 272, 256]⟩

abbrev nBuf : Space → Nat
  | .hbm => 3
  | .vmem => 0
  | .smem => 0
  | _ => 0

abbrev bufTy : (tb : Table) → Fin (tcTables nBuf tb) → BufTy
  | .hbm, ⟨0, _⟩ => ⟨S4x272x256, .f32⟩
  | .hbm, ⟨1, _⟩ => ⟨S4x272x256, .f32⟩
  | .hbm, ⟨2, _⟩ => ⟨S4x272x256, .f32⟩
  | _, _ => ⟨S4x272x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumWin.lean ====
abbrev S4x512x1792 : Shape := ⟨3, ![4, 512, 1792]⟩
abbrev S512x1792 : Shape := ⟨2, ![512, 1792]⟩
abbrev S4x64x1792 : Shape := ⟨3, ![4, 64, 1792]⟩
abbrev S64x1792 : Shape := ⟨2, ![64, 1792]⟩
abbrev S1x64x1792 : Shape := ⟨3, ![1, 64, 1792]⟩

abbrev nBuf : Space → Nat
  | .hbm => 2
  | .vmem => 4
  | .smem => 0
  | _ => 0

abbrev bufTy : (tb : Table) → Fin (tcTables nBuf tb) → BufTy
  | .hbm, ⟨0, _⟩ => ⟨S4x512x1792, .bf16⟩
  | .hbm, ⟨1, _⟩ => ⟨S512x1792, .f32⟩
  | .local _ .vmem, ⟨0, _⟩ => ⟨S4x64x1792, .bf16⟩
  | .local _ .vmem, ⟨1, _⟩ => ⟨S4x64x1792, .bf16⟩
  | .local _ .vmem, ⟨2, _⟩ => ⟨S64x1792, .f32⟩
  | .local _ .vmem, ⟨3, _⟩ => ⟨S64x1792, .f32⟩
  | _, _ => ⟨S4x512x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumWinIdeal.lean ====
abbrev S4x512x1792 : Shape := ⟨3, ![4, 512, 1792]⟩
abbrev S512x1792 : Shape := ⟨2, ![512, 1792]⟩
abbrev S4x64x1792 : Shape := ⟨3, ![4, 64, 1792]⟩
abbrev S64x1792 : Shape := ⟨2, ![64, 1792]⟩
abbrev S1x64x1792 : Shape := ⟨3, ![1, 64, 1792]⟩

abbrev nBuf : Space → Nat
  | .hbm => 2
  | .vmem => 4
  | .smem => 0
  | _ => 0

abbrev bufTy : (tb : Table) → Fin (tcTables nBuf tb) → BufTy
  | .hbm, ⟨0, _⟩ => ⟨S4x512x1792, .bf16⟩
  | .hbm, ⟨1, _⟩ => ⟨S512x1792, .f32⟩
  | .local _ .vmem, ⟨0, _⟩ => ⟨S4x64x1792, .bf16⟩
  | .local _ .vmem, ⟨1, _⟩ => ⟨S4x64x1792, .bf16⟩
  | .local _ .vmem, ⟨2, _⟩ => ⟨S64x1792, .f32⟩
  | .local _ .vmem, ⟨3, _⟩ => ⟨S64x1792, .f32⟩
  | _, _ => ⟨S4x512x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumWinRefIdeal.lean ====
abbrev S4x512x1792 : Shape := ⟨3, ![4, 512, 1792]⟩
abbrev S_ : Shape := ⟨0, ![]⟩
abbrev S512x1792 : Shape := ⟨2, ![512, 1792]⟩

abbrev nBuf : Space → Nat
  | .hbm => 4
  | .vmem => 0
  | .smem => 0
  | _ => 0

abbrev bufTy : (tb : Table) → Fin (tcTables nBuf tb) → BufTy
  | .hbm, ⟨0, _⟩ => ⟨S4x512x1792, .bf16⟩
  | .hbm, ⟨1, _⟩ => ⟨S4x512x1792, .f32⟩
  | .hbm, ⟨2, _⟩ => ⟨S_, .f32⟩
  | .hbm, ⟨3, _⟩ => ⟨S512x1792, .f32⟩
  | _, _ => ⟨S4x512x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumUp.lean ====
abbrev S4x512x1536 : Shape := ⟨3, ![4, 512, 1536]⟩
abbrev S512x1536 : Shape := ⟨2, ![512, 1536]⟩
abbrev S4x64x1536 : Shape := ⟨3, ![4, 64, 1536]⟩
abbrev S64x1536 : Shape := ⟨2, ![64, 1536]⟩
abbrev S1x64x1536 : Shape := ⟨3, ![1, 64, 1536]⟩

abbrev nBuf : Space → Nat
  | .hbm => 2
  | .vmem => 4
  | .smem => 0
  | _ => 0

abbrev bufTy : (tb : Table) → Fin (tcTables nBuf tb) → BufTy
  | .hbm, ⟨0, _⟩ => ⟨S4x512x1536, .bf16⟩
  | .hbm, ⟨1, _⟩ => ⟨S512x1536, .f32⟩
  | .local _ .vmem, ⟨0, _⟩ => ⟨S4x64x1536, .bf16⟩
  | .local _ .vmem, ⟨1, _⟩ => ⟨S4x64x1536, .bf16⟩
  | .local _ .vmem, ⟨2, _⟩ => ⟨S64x1536, .f32⟩
  | .local _ .vmem, ⟨3, _⟩ => ⟨S64x1536, .f32⟩
  | _, _ => ⟨S4x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpIdeal.lean ====
abbrev S4x512x1536 : Shape := ⟨3, ![4, 512, 1536]⟩
abbrev S512x1536 : Shape := ⟨2, ![512, 1536]⟩
abbrev S4x64x1536 : Shape := ⟨3, ![4, 64, 1536]⟩
abbrev S64x1536 : Shape := ⟨2, ![64, 1536]⟩
abbrev S1x64x1536 : Shape := ⟨3, ![1, 64, 1536]⟩

abbrev nBuf : Space → Nat
  | .hbm => 2
  | .vmem => 4
  | .smem => 0
  | _ => 0

abbrev bufTy : (tb : Table) → Fin (tcTables nBuf tb) → BufTy
  | .hbm, ⟨0, _⟩ => ⟨S4x512x1536, .bf16⟩
  | .hbm, ⟨1, _⟩ => ⟨S512x1536, .f32⟩
  | .local _ .vmem, ⟨0, _⟩ => ⟨S4x64x1536, .bf16⟩
  | .local _ .vmem, ⟨1, _⟩ => ⟨S4x64x1536, .bf16⟩
  | .local _ .vmem, ⟨2, _⟩ => ⟨S64x1536, .f32⟩
  | .local _ .vmem, ⟨3, _⟩ => ⟨S64x1536, .f32⟩
  | _, _ => ⟨S4x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpRefIdeal.lean ====
abbrev S4x512x1536 : Shape := ⟨3, ![4, 512, 1536]⟩
abbrev S_ : Shape := ⟨0, ![]⟩
abbrev S512x1536 : Shape := ⟨2, ![512, 1536]⟩

abbrev nBuf : Space → Nat
  | .hbm => 4
  | .vmem => 0
  | .smem => 0
  | _ => 0

abbrev bufTy : (tb : Table) → Fin (tcTables nBuf tb) → BufTy
  | .hbm, ⟨0, _⟩ => ⟨S4x512x1536, .bf16⟩
  | .hbm, ⟨1, _⟩ => ⟨S4x512x1536, .f32⟩
  | .hbm, ⟨2, _⟩ => ⟨S_, .f32⟩
  | .hbm, ⟨3, _⟩ => ⟨S512x1536, .f32⟩
  | _, _ => ⟨S4x512x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumRow.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .local _ .vmem, ⟨0, _⟩ => ⟨S4x128x1024, .bf16⟩
  | .local _ .vmem, ⟨1, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumRowIdeal.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .local _ .vmem, ⟨0, _⟩ => ⟨S4x128x1024, .bf16⟩
  | .local _ .vmem, ⟨1, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumRowRefIdeal.lean ====
abbrev S4x128x1024 : Shape := ⟨3, ![4, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .f32⟩
  | .hbm, ⟨2, _⟩ => ⟨S_, .f32⟩
  | .hbm, ⟨3, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumDown.lean ====
abbrev S4x384x1024 : Shape := ⟨3, ![4, 384, 1024]⟩
abbrev S384x1024 : Shape := ⟨2, ![384, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x384x1024, .bf16⟩
  | .hbm, ⟨1, _⟩ => ⟨S384x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | _, _ => ⟨S4x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownIdeal.lean ====
abbrev S4x384x1024 : Shape := ⟨3, ![4, 384, 1024]⟩
abbrev S384x1024 : Shape := ⟨2, ![384, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x384x1024, .bf16⟩
  | .hbm, ⟨1, _⟩ => ⟨S384x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | _, _ => ⟨S4x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownRefIdeal.lean ====
abbrev S4x384x1024 : Shape := ⟨3, ![4, 384, 1024]⟩
abbrev S_ : Shape := ⟨0, ![]⟩
abbrev S384x1024 : Shape := ⟨2, ![384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x384x1024, .bf16⟩
  | .hbm, ⟨1, _⟩ => ⟨S4x384x1024, .f32⟩
  | .hbm, ⟨2, _⟩ => ⟨S_, .f32⟩
  | .hbm, ⟨3, _⟩ => ⟨S384x1024, .f32⟩
  | _, _ => ⟨S4x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S4x272x256 : Shape := ⟨3, ![4, 272, 256]⟩
abbrev S272x256 : Shape := ⟨2, ![272, 256]⟩
abbrev S1x272x256 : Shape := ⟨3, ![1, 272, 256]⟩

abbrev nBuf : Space → Nat
  | .hbm => 2
  | .vmem => 2
  | .smem => 0
  | _ => 0

abbrev bufTy : (tb : Table) → Fin (tcTables nBuf tb) → BufTy
  | .hbm, ⟨0, _⟩ => ⟨S4x272x256, .f32⟩
  | .hbm, ⟨1, _⟩ => ⟨S272x256, .f32⟩
  | .local _ .vmem, ⟨0, _⟩ => ⟨S4x272x256, .f32⟩
  | .local _ .vmem, ⟨1, _⟩ => ⟨S272x256, .f32⟩
  | _, _ => ⟨S4x272x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x272x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S272x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallIdeal.lean ====
abbrev S4x272x256 : Shape := ⟨3, ![4, 272, 256]⟩
abbrev S272x256 : Shape := ⟨2, ![272, 256]⟩
abbrev S1x272x256 : Shape := ⟨3, ![1, 272, 256]⟩

abbrev nBuf : Space → Nat
  | .hbm => 2
  | .vmem => 2
  | .smem => 0
  | _ => 0

abbrev bufTy : (tb : Table) → Fin (tcTables nBuf tb) → BufTy
  | .hbm, ⟨0, _⟩ => ⟨S4x272x256, .f32⟩
  | .hbm, ⟨1, _⟩ => ⟨S272x256, .f32⟩
  | .local _ .vmem, ⟨0, _⟩ => ⟨S4x272x256, .f32⟩
  | .local _ .vmem, ⟨1, _⟩ => ⟨S272x256, .f32⟩
  | _, _ => ⟨S4x272x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x272x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S272x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S4x272x256 : Shape := ⟨3, ![4, 272, 256]⟩
abbrev S_ : Shape := ⟨0, ![]⟩
abbrev S272x256 : Shape := ⟨2, ![272, 256]⟩

abbrev nBuf : Space → Nat
  | .hbm => 3
  | .vmem => 0
  | .smem => 0
  | _ => 0

abbrev bufTy : (tb : Table) → Fin (tcTables nBuf tb) → BufTy
  | .hbm, ⟨0, _⟩ => ⟨S4x272x256, .f32⟩
  | .hbm, ⟨1, _⟩ => ⟨S_, .f32⟩
  | .hbm, ⟨2, _⟩ => ⟨S272x256, .f32⟩
  | _, _ => ⟨S4x272x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumRepl.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .local _ .vmem, ⟨0, _⟩ => ⟨S8x16x1024, .f32⟩
  | .local _ .vmem, ⟨1, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumReplRefIdeal.lean ====
abbrev S8x16x1024 : Shape := ⟨3, ![8, 16, 1024]⟩
abbrev S_ : Shape := ⟨0, ![]⟩
abbrev S16x1024 : Shape := ⟨2, ![16, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S_, .f32⟩
  | .hbm, ⟨2, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== NormBack.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBackRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== LastStep.lean ====
abbrev S2048x3072 : Shape := ⟨2, ![2048, 3072]⟩
abbrev S3072x1024 : Shape := ⟨2, ![3072, 1024]⟩
abbrev S2048x1024 : Shape := ⟨2, ![2048, 1024]⟩
abbrev S1x1024 : Shape := ⟨2, ![1, 1024]⟩
abbrev S1x128 : Shape := ⟨2, ![1, 128]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2048x3072, .bf16⟩
  | .hbm, ⟨1, _⟩ => ⟨S3072x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .hbm, ⟨7, _⟩ => ⟨S1x128, .f32⟩
  | .hbm, ⟨8, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LastStepRefIdeal.lean ====
abbrev S2048x3072 : Shape := ⟨2, ![2048, 3072]⟩
abbrev S3072x1024 : Shape := ⟨2, ![3072, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S3072x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x3072, .f32⟩
  | .hbm, ⟨6, _⟩ => ⟨S3072x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x1024, .f32⟩
  | .hbm, ⟨62, _⟩ => ⟨S2048x1024, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .bf16⟩
  | .hbm, ⟨75, _⟩ => ⟨S1x128, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== MidNorms.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MidNormsRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S2048, .f32⟩
  | .hbm, ⟨77, _⟩ => ⟨S2048x1, .f32⟩
  | .hbm, ⟨78, _⟩ => ⟨S2048x1024, .f32⟩
  | .hbm, ⟨79, _⟩ => ⟨S2048x1024, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== BackWin.lean ====
abbrev S2048x7168 : Shape := ⟨2, ![2048, 7168]⟩
abbrev S4x1024x1792 : Shape := ⟨3, ![4, 1024, 1792]⟩
abbrev S2048x1024 : Shape := ⟨2, ![2048, 1024]⟩
abbrev S1024x7168 : Shape := ⟨2, ![1024, 7168]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 5
  | .vmem => 8
  | .smem => 0
  | _ => 0

abbrev bufTy : (tb : Table) → Fin (tcTables nBuf tb) → BufTy
  | .hbm, ⟨0, _⟩ => ⟨S2048x7168, .bf16⟩
  | .hbm, ⟨1, _⟩ => ⟨S4x1024x1792, .bf16⟩
  | .hbm, ⟨2, _⟩ => ⟨S2048x1024, .bf16⟩
  | .hbm, ⟨3, _⟩ => ⟨S2048x1024, .f32⟩
  | .hbm, ⟨4, _⟩ => ⟨S1024x7168, .bf16⟩
  | .local _ .vmem, ⟨0, _⟩ => ⟨S2048x256, .bf16⟩
  | .local _ .vmem, ⟨1, _⟩ => ⟨S2048x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S2048x1024, .bf16⟩
  | .local _ .vmem, ⟨5, _⟩ => ⟨S2048x1024, .f32⟩
  | .local _ .vmem, ⟨6, _⟩ => ⟨S1024x256, .bf16⟩
  | .local _ .vmem, ⟨7, _⟩ => ⟨S1024x256, .bf16⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 7], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== BackWinIdeal.lean ====
abbrev S2048x7168 : Shape := ⟨2, ![2048, 7168]⟩
abbrev S4x1024x1792 : Shape := ⟨3, ![4, 1024, 1792]⟩
abbrev S2048x1024 : Shape := ⟨2, ![2048, 1024]⟩
abbrev S1024x7168 : Shape := ⟨2, ![1024, 7168]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 5
  | .vmem => 8
  | .smem => 0
  | _ => 0

abbrev bufTy : (tb : Table) → Fin (tcTables nBuf tb) → BufTy
  | .hbm, ⟨0, _⟩ => ⟨S2048x7168, .bf16⟩
  | .hbm, ⟨1, _⟩ => ⟨S4x1024x1792, .bf16⟩
  | .hbm, ⟨2, _⟩ => ⟨S2048x1024, .bf16⟩
  | .hbm, ⟨3, _⟩ => ⟨S2048x1024, .f32⟩
  | .hbm, ⟨4, _⟩ => ⟨S1024x7168, .bf16⟩
  | .local _ .vmem, ⟨0, _⟩ => ⟨S2048x256, .bf16⟩
  | .local _ .vmem, ⟨1, _⟩ => ⟨S2048x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S2048x1024, .bf16⟩
  | .local _ .vmem, ⟨5, _⟩ => ⟨S2048x1024, .f32⟩
  | .local _ .vmem, ⟨6, _⟩ => ⟨S1024x256, .bf16⟩
  | .local _ .vmem, ⟨7, _⟩ => ⟨S1024x256, .bf16⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 7], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== BackWinRefIdeal.lean ====
abbrev S2048x7168 : Shape := ⟨2, ![2048, 7168]⟩
abbrev S4x1024x1792 : Shape := ⟨3, ![4, 1024, 1792]⟩
abbrev S2048x1024 : Shape := ⟨2, ![2048, 1024]⟩
abbrev S1024x4x1792 : Shape := ⟨3, ![1024, 4, 1792]⟩
abbrev S1024x7168 : Shape := ⟨2, ![1024, 7168]⟩
abbrev S7168x1024 : Shape := ⟨2, ![7168, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S4x1024x1792, .bf16⟩
  | .hbm, ⟨2, _⟩ => ⟨S2048x1024, .bf16⟩
  | .hbm, ⟨3, _⟩ => ⟨S4x1024x1792, .f32⟩
  | .hbm, ⟨4, _⟩ => ⟨S1024x4x1792, .f32⟩
  | .hbm, ⟨5, _⟩ => ⟨S1024x7168, .f32⟩
  | .hbm, ⟨6, _⟩ => ⟨S2048x1024, .f32⟩
  | .hbm, ⟨7, _⟩ => ⟨S2048x7168, .f32⟩
  | .hbm, ⟨8, _⟩ => ⟨S2048x7168, .f32⟩
  | .hbm, ⟨9, _⟩ => ⟨S7168x1024, .f32⟩
  | .hbm, ⟨10, _⟩ => ⟨S1024x7168, .f32⟩
  | .hbm, ⟨11, _⟩ => ⟨S2048x1024, .f32⟩
  | .hbm, ⟨12, _⟩ => ⟨S1024x7168, .bf16⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== BackUp.lean ====
abbrev S2048x6144 : Shape := ⟨2, ![2048, 6144]⟩
abbrev S4x1024x1536 : Shape := ⟨3, ![4, 1024, 1536]⟩
abbrev S2048x1024 : Shape := ⟨2, ![2048, 1024]⟩
abbrev S1024x6144 : Shape := ⟨2, ![1024, 6144]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 5
  | .vmem => 8
  | .smem => 0
  | _ => 0

abbrev bufTy : (tb : Table) → Fin (tcTables nBuf tb) → BufTy
  | .hbm, ⟨0, _⟩ => ⟨S2048x6144, .bf16⟩
  | .hbm, ⟨1, _⟩ => ⟨S4x1024x1536, .bf16⟩
  | .hbm, ⟨2, _⟩ => ⟨S2048x1024, .bf16⟩
  | .hbm, ⟨3, _⟩ => ⟨S2048x1024, .f32⟩
  | .hbm, ⟨4, _⟩ => ⟨S1024x6144, .bf16⟩
  | .local _ .vmem, ⟨0, _⟩ => ⟨S2048x256, .bf16⟩
  | .local _ .vmem, ⟨1, _⟩ => ⟨S2048x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S2048x1024, .bf16⟩
  | .local _ .vmem, ⟨5, _⟩ => ⟨S2048x1024, .f32⟩
  | .local _ .vmem, ⟨6, _⟩ => ⟨S1024x256, .bf16⟩
  | .local _ .vmem, ⟨7, _⟩ => ⟨S1024x256, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== BackUpRefIdeal.lean ====
abbrev S2048x6144 : Shape := ⟨2, ![2048, 6144]⟩
abbrev S4x1024x1536 : Shape := ⟨3, ![4, 1024, 1536]⟩
abbrev S2048x1024 : Shape := ⟨2, ![2048, 1024]⟩
abbrev S1024x4x1536 : Shape := ⟨3, ![1024, 4, 1536]⟩
abbrev S1024x6144 : Shape := ⟨2, ![1024, 6144]⟩
abbrev S6144x1024 : Shape := ⟨2, ![6144, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S4x1024x1536, .bf16⟩
  | .hbm, ⟨2, _⟩ => ⟨S2048x1024, .bf16⟩
  | .hbm, ⟨3, _⟩ => ⟨S4x1024x1536, .f32⟩
  | .hbm, ⟨4, _⟩ => ⟨S1024x4x1536, .f32⟩
  | .hbm, ⟨5, _⟩ => ⟨S1024x6144, .f32⟩
  | .hbm, ⟨6, _⟩ => ⟨S2048x1024, .f32⟩
  | .hbm, ⟨7, _⟩ => ⟨S2048x6144, .f32⟩
  | .hbm, ⟨8, _⟩ => ⟨S2048x6144, .f32⟩
  | .hbm, ⟨9, _⟩ => ⟨S6144x1024, .f32⟩
  | .hbm, ⟨10, _⟩ => ⟨S1024x6144, .f32⟩
  | .hbm, ⟨11, _⟩ => ⟨S2048x1024, .f32⟩
  | .hbm, ⟨12, _⟩ => ⟨S1024x6144, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== BackOut.lean ====
abbrev S2048x1024 : Shape := ⟨2, ![2048, 1024]⟩
abbrev S1024x1024 : Shape := ⟨2, ![1024, 1024]⟩
abbrev S2048x7168 : Shape := ⟨2, ![2048, 7168]⟩
abbrev S256x1024 : Shape := ⟨2, ![256, 1024]⟩
abbrev S2048x256 : Shape := ⟨2, ![2048, 256]⟩

abbrev nBuf : Space → Nat
  | .hbm => 13
  | .vmem => 23
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S2048x7168, .f32⟩
  | .hbm, ⟨6, _⟩ => ⟨S2048x1024, .bf16⟩
  | .hbm, ⟨7, _⟩ => ⟨S2048x1024, .bf16⟩
  | .hbm, ⟨8, _⟩ => ⟨S1024x1024, .bf16⟩
  | .hbm, ⟨9, _⟩ => ⟨S2048x7168, .bf16⟩
  | .hbm, ⟨10, _⟩ => ⟨S2048x7168, .bf16⟩
  | .hbm, ⟨11, _⟩ => ⟨S2048x1024, .bf16⟩
  | .hbm, ⟨12, _⟩ => ⟨S2048x1024, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S256x1024, .bf16⟩
  | .local _ .vmem, ⟨18, _⟩ => ⟨S256x1024, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== BackOutRefIdeal.lean ====
abbrev S2048x1024 : Shape := ⟨2, ![2048, 1024]⟩
abbrev S1024x1024 : Shape := ⟨2, ![1024, 1024]⟩
abbrev S2048x7168 : Shape := ⟨2, ![2048, 7168]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S2048x7168, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1024x1024, .f32⟩
  | .hbm, ⟨10, _⟩ => ⟨S2048x1024, .f32⟩
  | .hbm, ⟨11, _⟩ => ⟨S2048x1024, .f32⟩
  | .hbm, ⟨12, _⟩ => ⟨S1024x1024, .f32⟩
  | .hbm, ⟨13, _⟩ => ⟨S1024x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .bf16⟩
  | .hbm, ⟨49, _⟩ => ⟨S2048x1024, .bf16⟩
  | .hbm, ⟨50, _⟩ => ⟨S1024x1024, .bf16⟩
  | .hbm, ⟨51, _⟩ => ⟨S2048x1024, .bf16⟩
  | .hbm, ⟨52, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== BackConv.lean ====
abbrev S2048x1024 : Shape := ⟨2, ![2048, 1024]⟩
abbrev S1024x1024 : Shape := ⟨2, ![1024, 1024]⟩
abbrev S2048x7168 : Shape := ⟨2, ![2048, 7168]⟩
abbrev S3x1024 : Shape := ⟨2, ![3, 1024]⟩
abbrev S256x1024 : Shape := ⟨2, ![256, 1024]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩

abbrev nBuf : Space → Nat
  | .hbm => 10
  | .vmem => 23
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x7168, .f32⟩
  | .hbm, ⟨3, _⟩ => ⟨S2048x1024, .f32⟩
  | .hbm, ⟨4, _⟩ => ⟨S3x1024, .f32⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S1024x1024, .bf16⟩
  | .hbm, ⟨9, _⟩ => ⟨S3x1024, .f32⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S3x256, .f32⟩
  | .local _ .vmem, ⟨12, _⟩ => ⟨S3x256, .f32⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S256x1024, .bf16⟩
  | .local _ .vmem, ⟨20, _⟩ => ⟨S256x1024, .bf16⟩
  | .local _ .vmem, ⟨21, _⟩ => ⟨S3x256, .f32⟩
  | .local _ .vmem, ⟨22, _⟩ => ⟨S3x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== BackConvRefIdeal.lean ====
abbrev S2048x1024 : Shape := ⟨2, ![2048, 1024]⟩
abbrev S1024x1024 : Shape := ⟨2, ![1024, 1024]⟩
abbrev S2048x7168 : Shape := ⟨2, ![2048, 7168]⟩
abbrev S3x1024 : Shape := ⟨2, ![3, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x7168, .f32⟩
  | .hbm, ⟨3, _⟩ => ⟨S2048x1024, .f32⟩
  | .hbm, ⟨4, _⟩ => ⟨S3x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1024x1024, .f32⟩
  | .hbm, ⟨10, _⟩ => ⟨S2048x1024, .f32⟩
  | .hbm, ⟨11, _⟩ => ⟨S2048x1024, .f32⟩
  | .hbm, ⟨12, _⟩ => ⟨S1024x1024, .f32⟩
  | .hbm, ⟨13, _⟩ => ⟨S1024x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2x1024, .f32⟩
  | .hbm, ⟨21, _⟩ => ⟨S2050x1024, .f32⟩
  | .hbm, ⟨22, _⟩ => ⟨S_, .f32⟩
  | .hbm, ⟨23, _⟩ => ⟨S2x1024, .f32⟩
  | .hbm, ⟨24, _⟩ => ⟨S2048x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S3x1024, .f32⟩
  | .hbm, ⟨55, _⟩ => ⟨S_, .f32⟩
  | .hbm, ⟨56, _⟩ => ⟨S2050x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S3x1024, .f32⟩
  | .hbm, ⟨68, _⟩ => ⟨S3x1024, .f32⟩
  | .hbm, ⟨69, _⟩ => ⟨S_, .f32⟩
  | .hbm, ⟨70, _⟩ => ⟨S2050x1024, .f32⟩
  | .hbm, ⟨71, _⟩ => ⟨S2050x1024, .f32⟩
  | .hbm, ⟨72, _⟩ => ⟨S2048x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S_, .f32⟩
  | .hbm, ⟨82, _⟩ => ⟨S3x1024, .f32⟩
  | .hbm, ⟨83, _⟩ => ⟨S3x1024, .f32⟩
  | .hbm, ⟨84, _⟩ => ⟨S_, .f32⟩
  | .hbm, ⟨85, _⟩ => ⟨S2050x1024, .f32⟩
  | .hbm, ⟨86, _⟩ => ⟨S2050x1024, .f32⟩
  | .hbm, ⟨87, _⟩ => ⟨S2x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .bf16⟩
  | .hbm, ⟨92, _⟩ => ⟨S2048x1024, .bf16⟩
  | .hbm, ⟨93, _⟩ => ⟨S2048x1024, .bf16⟩
  | .hbm, ⟨94, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_1 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_2 : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_cst_11 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== BackFfn.lean ====
abbrev S2048x1024 : Shape := ⟨2, ![2048, 1024]⟩
abbrev S3072x1024 : Shape := ⟨2, ![3072, 1024]⟩
abbrev S2048x6144 : Shape := ⟨2, ![2048, 6144]⟩
abbrev S3x6144 : Shape := ⟨2, ![3, 6144]⟩
abbrev S1x6144 : Shape := ⟨2, ![1, 6144]⟩
abbrev S2048x3072 : Shape := ⟨2, ![2048, 3072]⟩
abbrev S3x3072 : Shape := ⟨2, ![3, 3072]⟩
abbrev S1x3072 : Shape := ⟨2, ![1, 3072]⟩
abbrev S512x1024 : Shape := ⟨2, ![512, 1024]⟩
abbrev S2048x512 : Shape := ⟨2, ![2048, 512]⟩
abbrev S3x512 : Shape := ⟨2, ![3, 512]⟩
abbrev S1x512 : Shape := ⟨2, ![1, 512]⟩
abbrev S512 : Shape := ⟨1, ![512]⟩

abbrev nBuf : Space → Nat
  | .hbm => 12
  | .vmem => 29
  | .smem => 0
  | _ => 0

abbrev bufTy : (tb : Table) → Fin (tcTables nBuf tb) → BufTy
  | .hbm, ⟨0, _⟩ => ⟨S2048x1024, .bf16⟩
  | .hbm, ⟨1, _⟩ => ⟨S3072x1024, .bf16⟩
  | .hbm, ⟨2, _⟩ => ⟨S2048x6144, .f32⟩
  | .hbm, ⟨3, _⟩ => ⟨S3x6144, .f32⟩
  | .hbm, ⟨4, _⟩ => ⟨S1x6144, .f32⟩
  | .hbm, ⟨5, _⟩ => ⟨S2048x3072, .bf16⟩
  | .hbm, ⟨6, _⟩ => ⟨S2048x3072, .bf16⟩
  | .hbm, ⟨7, _⟩ => ⟨S3072x1024, .bf16⟩
  | .hbm, ⟨8, _⟩ => ⟨S3x3072, .f32⟩
  | .hbm, ⟨9, _⟩ => ⟨S3x3072, .f32⟩
  | .hbm, ⟨10, _⟩ => ⟨S1x3072, .f32⟩
  | .hbm, ⟨11, _⟩ => ⟨S1x3072, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S512x1024, .bf16⟩
  | .local _ .vmem, ⟨20, _⟩ => ⟨S512x1024, .bf16⟩
  | .local _ .vmem, ⟨21, _⟩ => ⟨S3x512, .f32⟩
  | .local _ .vmem, ⟨22, _⟩ => ⟨S3x512, .f32⟩
  | .local _ .vmem, ⟨23, _⟩ => ⟨S3x512, .f32⟩
  | .local _ .vmem, ⟨24, _⟩ => ⟨S3x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== BackFfnIdeal.lean ====
variable {F : FTy → Type} [FloatOps F] [Named F]
def κ : String → Option EReal := fun
  | "k" => some ((8943 / 200000 : ℝ) : EReal)
  | "k3" => some ((26829 / 200000 : ℝ) : EReal)
  | _ => none
-- ==== BackFfnRefIdeal.lean ====
abbrev S2048x1024 : Shape := ⟨2, ![2048, 1024]⟩
abbrev S3072x1024 : Shape := ⟨2, ![3072, 1024]⟩
abbrev S2048x6144 : Shape := ⟨2, ![2048, 6144]⟩
abbrev S3x6144 : Shape := ⟨2, ![3, 6144]⟩
abbrev S1x6144 : Shape := ⟨2, ![1, 6144]⟩
abbrev S2048x3072 : Shape := ⟨2, ![2048, 3072]⟩
abbrev S3x3072 : Shape := ⟨2, ![3, 3072]⟩
abbrev S1x3072 : Shape := ⟨2, ![1, 3072]⟩
abbrev S_ : Shape := ⟨0, ![]⟩
abbrev S2x3072 : Shape := ⟨2, ![2, 3072]⟩
abbrev S2050x3072 : Shape := ⟨2, ![2050, 3072]⟩
abbrev S3072 : Shape := ⟨1, ![3072]⟩
abbrev S1024x3072 : Shape := ⟨2, ![1024, 3072]⟩

abbrev nBuf : Space → Nat
  | .hbm => 222
  | .vmem => 0
  | .smem => 0
  | _ => 0

abbrev hbmTy0_0 (i : Nat) : BufTy := match i % 128 with
  | 0 => ⟨S2048x1024, .bf16⟩
  | 1 => ⟨S3072x1024, .bf16⟩
  | 2 => ⟨S2048x6144, .f32⟩
  | 3 => ⟨S3x6144, .f32⟩
  | 4 => ⟨S1x6144, .f32⟩
  | 5 => ⟨S2048x3072, .f32⟩
  | 6 => ⟨S2048x3072, .f32⟩
  | 7 => ⟨S3x3072, .f32⟩
  | 8 => ⟨S3x3072, .f32⟩
  | 9 => ⟨S1x3072, .f32⟩
  | 10 => ⟨S1x3072, .f32⟩
  | 11 => ⟨S_, .f32⟩
  | 12 => ⟨S2x3072, .f32⟩
  | 13 => ⟨S2050x3072, .f32⟩
  | 14 => ⟨S_, .f32⟩
  | 15 => ⟨S2x3072, .f32⟩
  | 16 => ⟨S2048x3072, .f32⟩
  | 17 => ⟨S1x3072, .f32⟩
  | 18 => ⟨S3072, .f32⟩
  | 19 => ⟨S1x3072, .f32⟩
  | 20 => ⟨S2048x3072, .f32⟩
  | 21 => ⟨S2048x3072, .f32⟩
  | 22 => ⟨S2048x3072, .f32⟩
  | 23 => ⟨S1x3072, .f32⟩
  | 24 => ⟨S3072, .f32⟩
  | 25 => ⟨S1x3072, .f32⟩
  | 26 => ⟨S2048x3072, .f32⟩
  | 27 => ⟨S2048x3072, .f32⟩
  | 28 => ⟨S2048x3072, .f32⟩
  | 29 => ⟨S2048x3072, .f32⟩
  | 30 => ⟨S1x3072, .f32⟩
  | 31 => ⟨S3072, .f32⟩
  | 32 => ⟨S1x3072, .f32⟩
  | 33 => ⟨S2048x3072, .f32⟩
  | 34 => ⟨S2048x3072, .f32⟩
  | 35 => ⟨S2048x3072, .f32⟩
  | 36 => ⟨S2048x3072, .f32⟩
  | 37 => ⟨S2048x3072, .f32⟩
  | 38 => ⟨S_, .f32⟩
  | 39 => ⟨S2x3072, .f32⟩
  | 40 => ⟨S2050x3072, .f32⟩
  | 41 => ⟨S_, .f32⟩
  | 42 => ⟨S2x3072, .f32⟩
  | 43 => ⟨S2048x3072, .f32⟩
  | 44 => ⟨S1x3072, .f32⟩
  | 45 => ⟨S3072, .f32⟩
  | 46 => ⟨S1x3072, .f32⟩
  | 47 => ⟨S2048x3072, .f32⟩
  | 48 => ⟨S2048x3072, .f32⟩
  | 49 => ⟨S2048x3072, .f32⟩
  | 50 => ⟨S1x3072, .f32⟩
  | 51 => ⟨S3072, .f32⟩
  | 52 => ⟨S1x3072, .f32⟩
  | 53 => ⟨S2048x3072, .f32⟩
  | 54 => ⟨S2048x3072, .f32⟩
  | 55 => ⟨S2048x3072, .f32⟩
  | 56 => ⟨S2048x3072, .f32⟩
  | 57 => ⟨S1x3072, .f32⟩
  | 58 => ⟨S3072, .f32⟩
  | 59 => ⟨S1x3072, .f32⟩
  | 60 => ⟨S2048x3072, .f32⟩
  | 61 => ⟨S2048x3072, .f32⟩
  | 62 => ⟨S2048x3072, .f32⟩
  | 63 => ⟨S2048x3072, .f32⟩
  | 64 => ⟨S2048x3072, .f32⟩
  | 65 => ⟨S2048x3072, .f32⟩
  | 66 => ⟨S2048x3072, .f32⟩
  | 67 => ⟨S2048x3072, .f32⟩
  | 68 => ⟨S_, .f32⟩
  | 69 => ⟨S2048x3072, .f32⟩
  | 70 => ⟨S2048x3072, .f32⟩
  | 71 => ⟨S_, .f32⟩
  | 72 => ⟨S2048x3072, .f32⟩
  | 73 => ⟨S2048x3072, .f32⟩
  | 74 => ⟨S_, .f32⟩
  | 75 => ⟨S2048x3072, .f32⟩
  | 76 => ⟨S2048x3072, .f32⟩
  | 77 => ⟨S2048x3072, .f32⟩
  | 78 => ⟨S_, .f32⟩
  | 79 => ⟨S2048x3072, .f32⟩
  | 80 => ⟨S2048x3072, .f32⟩
  | 81 => ⟨S2048x3072, .f32⟩
  | 82 => ⟨S_, .f32⟩
  | 83 => ⟨S2048x3072, .f32⟩
  | 84 => ⟨S2048x3072, .f32⟩
  | 85 => ⟨S_, .f32⟩
  | 86 => ⟨S2048x3072, .f32⟩
  | 87 => ⟨S2048x3072, .f32⟩
  | 88 => ⟨S2048x3072, .f32⟩
  | 89 => ⟨S_, .f32⟩
  | 90 => ⟨S2048x3072, .f32⟩
  | 91 => ⟨S2048x3072, .f32⟩
  | 92 => ⟨S_, .f32⟩
  | 93 => ⟨S2048x3072, .f32⟩
  | 94 => ⟨S2048x3072, .f32⟩
  | 95 => ⟨S2048x3072, .f32⟩
  | 96 => ⟨S2048x3072, .f32⟩
  | 97 => ⟨S3072x1024, .f32⟩
  | 98 => ⟨S2048x1024, .f32⟩
  | 99 => ⟨S2048x1024, .f32⟩
  | 100 => ⟨S1024x3072, .f32⟩
  | 101 => ⟨S3072x1024, .f32⟩
  | 102 => ⟨S2048x3072, .f32⟩
  | 103 => ⟨S2048x3072, .f32⟩
  | 104 => ⟨S2048x3072, .f32⟩
  | 105 => ⟨S2048x3072, .f32⟩
  | 106 => ⟨S2048x3072, .f32⟩
  | 107 => ⟨S_, .f32⟩
  | 108 => ⟨S2048x3072, .f32⟩
  | 109 => ⟨S2048x3072, .f32⟩
  | 110 => ⟨S2048x3072, .f32⟩
  | 111 => ⟨S_, .f32⟩
  | 112 => ⟨S2048x3072, .f32⟩
  | 113 => ⟨S2048x3072, .f32⟩
  | 114 => ⟨S2048x3072, .f32⟩
  | 115 => ⟨S_, .f32⟩
  | 116 => ⟨S2048x3072, .f32⟩
  | 117 => ⟨S2048x3072, .f32⟩
  | 118 => ⟨S_, .f32⟩
  | 119 => ⟨S2048x3072, .f32⟩
  | 120 => ⟨S2048x3072, .f32⟩
  | 121 => ⟨S2048x3072, .f32⟩
  | 122 => ⟨S2048x3072, .f32⟩
  | 123 => ⟨S_, .f32⟩
  | 124 => ⟨S3072, .f32⟩
  | 125 => ⟨S1x3072, .f32⟩
  | 126 => ⟨S2048x3072, .f32⟩
  | 127 => ⟨S_, .f32⟩
  | _ => ⟨S2048x1024, .bf16⟩

abbrev hbmTy0_1 (i : Nat) : BufTy := match i % 128 with
  | 0 => ⟨S3072, .f32⟩
  | 1 => ⟨S1x3072, .f32⟩
  | 2 => ⟨S2048x3072, .f32⟩
  | 3 => ⟨S2048x3072, .f32⟩
  | 4 => ⟨S_, .f32⟩
  | 5 => ⟨S3072, .f32⟩
  | 6 => ⟨S1x3072, .f32⟩
  | 7 => ⟨S_, .f32⟩
  | 8 => ⟨S3x3072, .f32⟩
  | 9 => ⟨S_, .f32⟩
  | 10 => ⟨S2050x3072, .f32⟩
  | 11 => ⟨S2048x3072, .f32⟩
  | 12 => ⟨S_, .f32⟩
  | 13 => ⟨S3072, .f32⟩
  | 14 => ⟨S1x3072, .f32⟩
  | 15 => ⟨S2048x3072, .f32⟩
  | 16 => ⟨S2048x3072, .f32⟩
  | 17 => ⟨S_, .f32⟩
  | 18 => ⟨S3072, .f32⟩
  | 19 => ⟨S1x3072, .f32⟩
  | 20 => ⟨S_, .f32⟩
  | 21 => ⟨S3x3072, .f32⟩
  | 22 => ⟨S3x3072, .f32⟩
  | 23 => ⟨S_, .f32⟩
  | 24 => ⟨S2050x3072, .f32⟩
  | 25 => ⟨S2050x3072, .f32⟩
  | 26 => ⟨S2048x3072, .f32⟩
  | 27 => ⟨S_, .f32⟩
  | 28 => ⟨S3072, .f32⟩
  | 29 => ⟨S1x3072, .f32⟩
  | 30 => ⟨S2048x3072, .f32⟩
  | 31 => ⟨S2048x3072, .f32⟩
  | 32 => ⟨S_, .f32⟩
  | 33 => ⟨S3072, .f32⟩
  | 34 => ⟨S1x3072, .f32⟩
  | 35 => ⟨S_, .f32⟩
  | 36 => ⟨S3x3072, .f32⟩
  | 37 => ⟨S3x3072, .f32⟩
  | 38 => ⟨S_, .f32⟩
  | 39 => ⟨S2050x3072, .f32⟩
  | 40 => ⟨S2050x3072, .f32⟩
  | 41 => ⟨S2x3072, .f32⟩
  | 42 => ⟨S2048x3072, .f32⟩
  | 43 => ⟨S_, .f32⟩
  | 44 => ⟨S3072, .f32⟩
  | 45 => ⟨S1x3072, .f32⟩
  | 46 => ⟨S2048x3072, .f32⟩
  | 47 => ⟨S_, .f32⟩
  | 48 => ⟨S3072, .f32⟩
  | 49 => ⟨S1x3072, .f32⟩
  | 50 => ⟨S2048x3072, .f32⟩
  | 51 => ⟨S2048x3072, .f32⟩
  | 52 => ⟨S_, .f32⟩
  | 53 => ⟨S3072, .f32⟩
  | 54 => ⟨S1x3072, .f32⟩
  | 55 => ⟨S_, .f32⟩
  | 56 => ⟨S3x3072, .f32⟩
  | 57 => ⟨S_, .f32⟩
  | 58 => ⟨S2050x3072, .f32⟩
  | 59 => ⟨S2048x3072, .f32⟩
  | 60 => ⟨S_, .f32⟩
  | 61 => ⟨S3072, .f32⟩
  | 62 => ⟨S1x3072, .f32⟩
  | 63 => ⟨S2048x3072, .f32⟩
  | 64 => ⟨S2048x3072, .f32⟩
  | 65 => ⟨S_, .f32⟩
  | 66 => ⟨S3072, .f32⟩
  | 67 => ⟨S1x3072, .f32⟩
  | 68 => ⟨S_, .f32⟩
  | 69 => ⟨S3x3072, .f32⟩
  | 70 => ⟨S3x3072, .f32⟩
  | 71 => ⟨S_, .f32⟩
  | 72 => ⟨S2050x3072, .f32⟩
  | 73 => ⟨S2050x3072, .f32⟩
  | 74 => ⟨S2048x3072, .f32⟩
  | 75 => ⟨S_, .f32⟩
  | 76 => ⟨S3072, .f32⟩
  | 77 => ⟨S1x3072, .f32⟩
  | 78 => ⟨S2048x3072, .f32⟩
  | 79 => ⟨S2048x3072, .f32⟩
  | 80 => ⟨S_, .f32⟩
  | 81 => ⟨S3072, .f32⟩
  | 82 => ⟨S1x3072, .f32⟩
  | 83 => ⟨S_, .f32⟩
  | 84 => ⟨S3x3072, .f32⟩
  | 85 => ⟨S3x3072, .f32⟩
  | 86 => ⟨S_, .f32⟩
  | 87 => ⟨S2050x3072, .f32⟩
  | 88 => ⟨S2050x3072, .f32⟩
  | 89 => ⟨S2x3072, .f32⟩
  | 90 => ⟨S2048x3072, .f32⟩
  | 91 => ⟨S2048x3072, .bf16⟩
  | 92 => ⟨S2048x3072, .bf16⟩
  | 93 => ⟨S3072x1024, .bf16⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_3 : Ref sig .tc := ⟨.hbm, 68, rfl⟩
abbrev main_v59 : Ref sig .tc := ⟨.hbm, 69, rfl⟩
abbrev main_v60 : Ref sig .tc := ⟨.hbm, 70, rfl⟩
abbrev main_cst_4 : Ref sig .tc := ⟨.hbm, 71, rfl⟩
abbrev main_v61 : Ref sig .tc := ⟨.hbm, 72, rfl⟩
abbrev main_v62 : Ref sig .tc := ⟨.hbm, 73, rfl⟩
abbrev main_cst_5 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_6 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_7 : Ref sig .tc := ⟨.hbm, 82, rfl⟩
abbrev main_v69 : Ref sig .tc := ⟨.hbm, 83, rfl⟩
abbrev main_v70 : Ref sig .tc := ⟨.hbm, 84, rfl⟩
abbrev main_cst_8 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_9 : Ref sig .tc := ⟨.hbm, 89, rfl⟩
abbrev main_v74 : Ref sig .tc := ⟨.hbm, 90, rfl⟩
abbrev main_v75 : Ref sig .tc := ⟨.hbm, 91, rfl⟩
abbrev main_cst_10 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_11 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_12 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_cst_13 : Ref sig .tc := ⟨.hbm, 115, rfl⟩
abbrev main_v96 : Ref sig .tc := ⟨.hbm, 116, rfl⟩
abbrev main_v97 : Ref sig .tc := ⟨.hbm, 117, rfl⟩
abbrev main_cst_14 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_15 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_cst_16 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_17 : Ref sig .tc := ⟨.hbm, 132, rfl⟩
abbrev main_v109 : Ref sig .tc := ⟨.hbm, 133, rfl⟩
abbrev main_v110 : Ref sig .tc := ⟨.hbm, 134, rfl⟩
abbrev main_cst_18 : Ref sig .tc := ⟨.hbm, 135, rfl⟩
abbrev main_v111 : Ref sig .tc := ⟨.hbm, 136, rfl⟩
abbrev main_cst_19 : Ref sig .tc := ⟨.hbm, 137, rfl⟩
abbrev main_v112 : Ref sig .tc := ⟨.hbm, 138, rfl⟩
abbrev main_v113 : Ref sig .tc := ⟨.hbm, 139, rfl⟩
abbrev main_cst_20 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_21 : Ref sig .tc := ⟨.hbm, 145, rfl⟩
abbrev main_v118 : Ref sig .tc := ⟨.hbm, 146, rfl⟩
abbrev main_v119 : Ref sig .tc := ⟨.hbm, 147, rfl⟩
abbrev main_cst_22 : Ref sig .tc := ⟨.hbm, 148, rfl⟩
abbrev main_v120 : Ref sig .tc := ⟨.hbm, 149, rfl⟩
abbrev main_v121 : Ref sig .tc := ⟨.hbm, 150, rfl⟩
abbrev main_cst_23 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_24 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_25 : Ref sig .tc := ⟨.hbm, 160, rfl⟩
abbrev main_v129 : Ref sig .tc := ⟨.hbm, 161, rfl⟩
abbrev main_v130 : Ref sig .tc := ⟨.hbm, 162, rfl⟩
abbrev main_cst_26 : Ref sig .tc := ⟨.hbm, 163, rfl⟩
abbrev main_v131 : Ref sig .tc := ⟨.hbm, 164, rfl⟩
abbrev main_v132 : Ref sig .tc := ⟨.hbm, 165, rfl⟩
abbrev main_cst_27 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_cst_28 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_cst_29 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_30 : Ref sig .tc := ⟨.hbm, 180, rfl⟩
abbrev main_v144 : Ref sig .tc := ⟨.hbm, 181, rfl⟩
abbrev main_v145 : Ref sig .tc := ⟨.hbm, 182, rfl⟩
abbrev main_cst_31 : Ref sig .tc := ⟨.hbm, 183, rfl⟩
abbrev main_v146 : Ref sig .tc := ⟨.hbm, 184, rfl⟩
abbrev main_cst_32 : Ref sig .tc := ⟨.hbm, 185, rfl⟩
abbrev main_v147 : Ref sig .tc := ⟨.hbm, 186, rfl⟩
abbrev main_v148 : Ref sig .tc := ⟨.hbm, 187, rfl⟩
abbrev main_cst_33 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_34 : Ref sig .tc := ⟨.hbm, 193, rfl⟩
abbrev main_v153 : Ref sig .tc := ⟨.hbm, 194, rfl⟩
abbrev main_v154 : Ref sig .tc := ⟨.hbm, 195, rfl⟩
abbrev main_cst_35 : Ref sig .tc := ⟨.hbm, 196, rfl⟩
abbrev main_v155 : Ref sig .tc := ⟨.hbm, 197, rfl⟩
abbrev main_v156 : Ref sig .tc := ⟨.hbm, 198, rfl⟩
abbrev main_cst_36 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_cst_37 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_cst_38 : Ref sig .tc := ⟨.hbm, 208, rfl⟩
abbrev main_v164 : Ref sig .tc := ⟨.hbm, 209, rfl⟩
abbrev main_v165 : Ref sig .tc := ⟨.hbm, 210, rfl⟩
abbrev main_cst_39 : Ref sig .tc := ⟨.hbm, 211, rfl⟩
abbrev main_v166 : Ref sig .tc := ⟨.hbm, 212, rfl⟩
abbrev main_v167 : Ref sig .tc := ⟨.hbm, 213, rfl⟩
abbrev main_cst_40 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩

abbrev nD : Nat := 1
abbrev τ : Topo := Topo.v7x

variable {F : FTy → Type} [FloatOps F]
-- ==== Proof.OneShot.lean ====
/-
# Copies that each use their semaphores once

A kernel whose devices only copy: every copy has a semaphore of its own for its arrival (and, when it goes to
another device, one more for its departure), starts once and is awaited once. The file says what such a plan of copies
is, what holding it to the plan means for each semaphore, and the rule of every statement: starting a copy within
the device, starting one to another device, and the three kinds of wait.

A wait for an arrival yields the destination's elements at the values that were sent. A departure yields nothing: the
sender keeps a share of what it lends.
-/
module

public import Idealize.ShloMosaic.Lib.Rounds
public import Idealize.ShloMosaic.Lib.Pipeline.Launch
public import Idealize.ShloMosaic.Lib.Tactic

@[expose] public section

set_option Elab.async false

noncomputable section

namespace Cert.Moves

open Idealize.ShloMosaic Idealize.ShloMosaic.TcCoe
open Idealize.SL
open Idealize.SL.BI (sProp bigSep bigSep_sep' bigSep_mono bigSep_congr bigSep_insert)
open scoped Idealize.SL.BI
open Idealize.SL.BI.BIBase Idealize.SL.BI.Laws Idealize.SL.Sem Idealize.SL.ProofMode
open Idealize.SL.RA
open Idealize.ShloMosaic.Rounds
open Idealize.SL.RA.PCS

/-- A copy in HBM: its source and its destination. -/
structure Copy (sig : RefSig) where
  {s : Shape}
  {e : EltTy}
  src : Memref sig .tc .hbm s e
  dst : Memref sig .tc .hbm s e
  hsrc : src.view.WordExact
  hdst : dst.view.WordExact

/-- The copies of a kernel: `own a d` is made by device `d` within itself, `sent b d` by device `d` to device `peer b d`. -/
structure Plan (nD : Nat) (sig : RefSig) where
  A : Type
  B : Type
  [fA : Fintype A]
  [dA : DecidableEq A]
  [fB : Fintype B]
  [dB : DecidableEq B]
  own : A → Dev nD → Copy sig
  sent : B → Dev nD → Copy sig
  peer : B → Dev nD ≃ Dev nD
  ownSem : A → DmaSem sig
  departSem : B → DmaSem sig
  arriveSem : B → DmaSem sig
  sem_inj : Function.Injective (Sum.elim ownSem (Sum.elim departSem arriveSem))
  ownUnits : A → ℕ
  sentUnits : B → ℕ
  ownUnits_pos : ∀ a, 0 < ownUnits a
  sentUnits_pos : ∀ b, 0 < sentUnits b
  own_units : ∀ a d, (own a d).dst.view.dmaCredit = ownUnits a
  sent_units : ∀ b d, (sent b d).dst.view.dmaCredit = sentUnits b
  /-- The arrays the waits name. -/
  ownRef : A → Ref sig .tc
  arriveRef : B → Ref sig .tc
  departRef : B → Ref sig .tc
  own_wait : ∀ a d, (ownRef a).dmaCredit (own a d).s (own a d).e = ownUnits a
  arrive_wait : ∀ b d, (arriveRef b).dmaCredit (sent b d).s (sent b d).e = sentUnits b
  depart_wait : ∀ b d, (departRef b).dmaCredit (sent b d).s (sent b d).e = sentUnits b
  /-- Which arrivals are awaited before others are sent: those of a lower rank. -/
  rank : B → ℕ

attribute [instance] Plan.fA Plan.dA Plan.fB Plan.dB

namespace Plan

variable {nD : Nat} {τ : Topo} {sig : RefSig} {Val : EltTy → Type} {Λ : Labels}
variable (T : Plan nD sig)

/-- The semaphores in use. -/
abbrev Cell : Type := T.A ⊕ T.B ⊕ T.B

def sem : T.Cell → DmaSem sig := Sum.elim T.ownSem (Sum.elim T.departSem T.arriveSem)

def units : T.Cell → ℕ := Sum.elim T.ownUnits (Sum.elim T.sentUnits T.sentUnits)

theorem units_pos : ∀ k, 0 < T.units k
  | .inl a => T.ownUnits_pos a
  | .inr (.inl b) => T.sentUnits_pos b
  | .inr (.inr b) => T.sentUnits_pos b

/-- The semaphore `k` of device `d`. -/
abbrev cell (d : Dev nD) (k : T.Cell) : GSem nD τ sig := ((d.tc : Thread nD τ), .dma (T.sem k))

theorem cell_inj : Function.Injective fun x : Dev nD × T.Cell => T.cell (τ := τ) x.1 x.2 := by
  rintro ⟨d, k⟩ ⟨d', k'⟩ h
  have h₁ := congrArg (fun g : GSem nD τ sig => g.1.1) h
  have h₂ := congrArg (fun g : GSem nD τ sig => g.2) h
  exact Prod.ext h₁ (T.sem_inj (SemLoc.dma.inj h₂))

/-- Which of the plan's semaphores this is, if any. -/
def ofSem (sm : SemLoc sig) : Option T.Cell :=
  open Classical in if h : ∃ k, SemLoc.dma (T.sem k) = sm then some h.choose else none

theorem ofSem_sem (k : T.Cell) : T.ofSem (.dma (T.sem k)) = some k := by
  have h : ∃ k', (SemLoc.dma (T.sem k') : SemLoc sig) = .dma (T.sem k) := ⟨k, rfl⟩
  unfold ofSem
  rw [dif_pos h]
  exact congrArg some (T.sem_inj (SemLoc.dma.inj h.choose_spec))

/-! ## The statements -/

def startOwn (a : T.A) (d : Dev nD) : TpuEff nD τ sig Val Λ .tc PUnit :=
  .enqueueDma (T.own a d).src (.here (T.own a d).dst) (.dma (T.ownSem a)) (T.own a d).hsrc (T.own a d).hdst ⟨Or.inl rfl, trivial⟩

def startSent (b : T.B) (d : Dev nD) : TpuEff nD τ sig Val Λ .tc PUnit :=
  .enqueueDma (T.sent b d).src (.remote (Dev.tc (T.peer b d)) (T.sent b d).dst (.dma (T.departSem b))) (.dma (T.arriveSem b))
    (T.sent b d).hsrc (T.sent b d).hdst ⟨⟨rfl, Or.inl rfl⟩, trivial⟩

def awaitOwn (a : T.A) (d : Dev nD) : TpuEff nD τ sig Val Λ .tc PUnit :=
  .waitDma (T.ownSem a) (T.ownRef a) (T.own a d).s (T.own a d).e (.inl rfl)

def awaitArrival (b : T.B) (d : Dev nD) : TpuEff nD τ sig Val Λ .tc PUnit :=
  .waitDma (T.arriveSem b) (T.arriveRef b) (T.sent b d).s (T.sent b d).e (.inl rfl)

def awaitDeparture (b : T.B) (d : Dev nD) : TpuEff nD τ sig Val Λ .tc PUnit :=
  .waitDma (T.departSem b) (T.departRef b) (T.sent b d).s (T.sent b d).e (.inl rfl)

end Plan

/-- Statements one after the other. -/
def steps {nD : Nat} {τ : Topo} {sig : RefSig} {Val : EltTy → Type} {Λ : Labels} {α : Type} :
    List (TpuEff nD τ sig Val Λ .tc PUnit) → Prog (TpuEff nD τ sig Val Λ .tc) α → Prog (TpuEff nD τ sig Val Λ .tc) α
  | [], k => k
  | x :: l, k => .op x fun _ => steps l k

theorem steps_append {nD : Nat} {τ : Topo} {sig : RefSig} {Val : EltTy → Type} {Λ : Labels} {α : Type}
    (l l' : List (TpuEff nD τ sig Val Λ .tc PUnit)) (k : Prog (TpuEff nD τ sig Val Λ .tc) α) :
    steps (l ++ l') k = steps l (steps l' k) := by
  induction l with
  | nil => rfl
  | cons x l ih => exact congrArg (Prog.op x) (funext fun _ => ih)

/-! ## What the semaphores carry -/

variable {nD : Nat} {τ : Topo} {sig : RefSig} {Val : EltTy → Type}
variable {Name : Type} [DecidableEq Name] {U : Type} [URA U] {Λ : Labels}

local notation "𝕄" => MT nD τ sig Unit Val Name U ℕ

section Landed

variable (m : (ℓ : Loc nD τ sig) → Buf Val ℓ)

/-- The destination of the copy, on device `d`, holding the values `v`. -/
def landed (q : PosShare TreeShare) (C : Copy sig) (d : Dev nD) (v : C.s.Idx → Val C.e) : sProp 𝕄 :=
  C.dst.view.loc (d.tc : Thread nD τ) ↦[C.dst.view.set]{q} C.dst.view.write Val (m (C.dst.view.loc (d.tc : Thread nD τ))) v Finset.univ

/-- The source of the copy, on device `d`, holding the values `v`. -/
def lent (q : PosShare TreeShare) (C : Copy sig) (d : Dev nD) (v : C.s.Idx → Val C.e) : sProp 𝕄 :=
  iprop(∃ f : Buf Val (C.src.view.loc (d.tc : Thread nD τ)), ⌜C.src.view.read Val f = v⌝ ∗ C.src.view.loc (d.tc : Thread nD τ) ↦[C.src.view.set]{q} f)

/-- The destination of the copy on device `d`, at any contents. -/
def room (C : Copy sig) (d : Dev nD) : sProp 𝕄 :=
  iprop(∃ f : Buf Val (C.dst.view.loc (d.tc : Thread nD τ)), C.dst.view.loc (d.tc : Thread nD τ) ↦[C.dst.view.set]{fullShare} f)

instance storable_landed (q : PosShare TreeShare) (C : Copy sig) (d : Dev nD) (v : C.s.Idx → Val C.e) :
    BI.Storable (upEmb : UEmb _ 𝕄) (landed m q C d v) := by unfold landed; infer_instance

/-- Values written over any contents are the values landed. -/
theorem landed_of_write (C : Copy sig) (d : Dev nD) (v : C.s.Idx → Val C.e) (f : Buf Val (C.dst.view.loc (d.tc : Thread nD τ))) :
    (C.dst.view.loc (d.tc : Thread nD τ) ↦[C.dst.view.set]{fullShare} C.dst.view.write Val f v Finset.univ : sProp 𝕄)
      ⊢ landed m fullShare C d v := by
  unfold landed
  refine Entails.of_eq (pointsTo_congr fun i hi => ?_)
  obtain ⟨x, -, rfl⟩ := Finset.mem_map.mp hi
  rw [View.write_emb_of_mem _ _ (Finset.mem_univ x), View.write_emb_of_mem _ _ (Finset.mem_univ x)]

end Landed

namespace Plan

variable (T : Plan nD sig)

/-- The values copied: of each copy, by each device. -/
structure Values (Val : EltTy → Type) where
  own : ∀ a d, (T.own a d).s.Idx → Val (T.own a d).e
  sent : ∀ b d, (T.sent b d).s.Idx → Val (T.sent b d).e

variable {T} (m : (ℓ : Loc nD τ sig) → Buf Val ℓ) (v : T.Values Val)

/-- What the semaphore `k` of device `d` brings. -/
def brought (d : Dev nD) : T.Cell → sProp 𝕄
  | .inl a => landed m fullShare (T.own a d) d (v.own a d)
  | .inr (.inl _) => iprop(emp)
  | .inr (.inr b) => landed m fullShare (T.sent b ((T.peer b).symm d)) d (v.sent b ((T.peer b).symm d))

theorem brought_arrival (b : T.B) (d : Dev nD) :
    (brought m v (T.peer b d) (.inr (.inr b)) : sProp 𝕄) = landed m fullShare (T.sent b d) (T.peer b d) (v.sent b d) := by
  have h : ∀ d' d'' : Dev nD, d' = d'' → (landed m fullShare (T.sent b d') (T.peer b d) (v.sent b d') : sProp 𝕄)
      = landed m fullShare (T.sent b d'') (T.peer b d) (v.sent b d'') := fun _ _ e => by subst e; rfl
  exact h _ _ ((T.peer b).symm_apply_apply d)

instance storable_brought (d : Dev nD) (k : T.Cell) : BI.Storable (upEmb : UEmb _ 𝕄) (brought m v d k) := by
  match k with
  | .inl _ => unfold brought; infer_instance
  | .inr (.inl _) => unfold brought; infer_instance
  | .inr (.inr _) => unfold brought; infer_instance

/-- Each semaphore of the plan is credited once, by its copy. -/
def sched : Schedule (GSem nD τ sig) Unit 𝕄 where
  duties g r := if g.1.2 = .tc ∧ r = 0 ∧ (T.ofSem g.2).isSome = true then {()} else ∅
  amount g _ _ := (T.ofSem g.2).elim 1 T.units
  payload g _ _ := match T.ofSem g.2 with
    | some k => brought m v g.1.1 k
    | none => iprop(emp)
  amount_pos g r _ _ := by
    cases T.ofSem g.2 with
    | none => exact Nat.one_pos
    | some k => exact T.units_pos k

instance storable_sched (g : GSem nD τ sig) (r : ℕ) (u : Unit) :
    BI.Storable (upEmb : UEmb _ 𝕄) ((sched m v : Schedule (GSem nD τ sig) Unit 𝕄).payload g r u) := by
  unfold sched
  dsimp only
  split <;> infer_instance

theorem sched_duties (d : Dev nD) (k : T.Cell) : (sched m v : Schedule _ _ 𝕄).duties (T.cell d k) 0 = {()} := by
  unfold sched; dsimp only; rw [T.ofSem_sem]; exact if_pos ⟨rfl, rfl, rfl⟩

theorem mem_duties (d : Dev nD) (k : T.Cell) : () ∈ (sched m v : Schedule _ _ 𝕄).duties (T.cell d k) 0 := by
  rw [sched_duties]; exact Finset.mem_singleton_self _

theorem sched_duties_succ (g : GSem nD τ sig) (r : ℕ) (hr : 1 ≤ r) : (sched m v : Schedule _ _ 𝕄).duties g r = ∅ :=
  if_neg fun h => absurd h.2.1 (by omega)

theorem sched_amount (d : Dev nD) (k : T.Cell) (r : ℕ) (u : Unit) : (sched m v : Schedule _ _ 𝕄).amount (T.cell d k) r u = T.units k := by
  unfold sched; dsimp only; rw [T.ofSem_sem]; rfl

theorem sched_payload (d : Dev nD) (k : T.Cell) (r : ℕ) (u : Unit) :
    (sched m v : Schedule _ _ 𝕄).payload (T.cell d k) r u = brought m v d k := by
  unfold sched; dsimp only; rw [T.ofSem_sem]

theorem sched_expect (d : Dev nD) (k : T.Cell) : (sched m v : Schedule _ _ 𝕄).expect (T.cell d k) 0 = T.units k := by
  unfold Schedule.expect Schedule.amountOf
  rw [sched_duties, Finset.sum_singleton, sched_amount]

/-! ## Levels -/

def L (g : GSem nD τ sig) : Finset Unit := if g.1.2 = .tc then {()} else ∅

variable (T) in
def lv (g : GSem nD τ sig) (_ : Unit) : ℕ := match T.ofSem g.2 with
  | some (.inr (.inr b)) => T.rank b
  | _ => 0

variable (T) in
/-- Only arrivals above rank `b` are owed. -/
def Above (b : ℕ) (O : CellTallies nD τ sig Unit) : Prop := ∀ g u, 0 < O g u → u ∈ L g ∧ b < lv T g u

theorem above_zero (b : ℕ) : Above T b (0 : CellTallies nD τ sig Unit) := fun _ _ h => absurd h (Nat.lt_irrefl 0)

theorem Above.add {b : ℕ} {O O' : CellTallies nD τ sig Unit} (h : Above T b O) (h' : Above T b O') : Above T b (O + O') := by
  intro g u hg
  by_cases h₀ : 0 < O g u
  · exact h g u h₀
  · exact h' g u (by have : (O + O') g u = O g u + O' g u := rfl
                     omega)

variable (T) in
/-- What device `d` owes for sending `b`: the arrival. -/
def due (d : Dev nD) (b : T.B) : CellTallies nD τ sig Unit := tallyAt (T.cell (T.peer b d) (.inr (.inr b))) () (T.sentUnits b)

theorem above_due {n : ℕ} {d : Dev nD} {b : T.B} (h : n < T.rank b) : Above T n (due T d b : CellTallies nD τ sig Unit) := by
  intro g u hg
  unfold due at hg
  rw [tallyAt_apply] at hg
  by_cases hh : g = T.cell (T.peer b d) (.inr (.inr b)) ∧ u = ()
  · rw [hh.1]
    refine ⟨?_, ?_⟩
    · unfold L; rw [if_pos rfl]; exact Finset.mem_singleton_self _
    · unfold lv; dsimp only; rw [T.ofSem_sem]; exact h
  · rw [if_neg hh] at hg; exact absurd hg (Nat.lt_irrefl 0)

/-! ## The rules of the statements -/

variable (E : Emb (URounds (GSem nD τ sig) Unit) (MT nD τ sig Unit Val Name U ℕ)) [E.LandsIn (upEmb : UEmb _ (MT nD τ sig Unit Val Name U ℕ))]
variable {defs : Defs nD τ sig Val Λ} (𝒱 : Variants) (κ : GSem nD τ sig → Name) (d : Dev nD)

variable (T) in
/-- Every semaphore of the plan is held to it, and the levels are known. -/
def ctx : sProp 𝕄 :=
  iprop((bigSep (Finset.univ : Finset (Dev nD × T.Cell)) fun x => cellInv E (sched m v) (κ (T.cell x.1 x.2)) (T.cell x.1 x.2)) ∗ levAts L (lv T))

instance persistent_ctx : BI.Persistent (ctx T m v E κ : sProp 𝕄) := by unfold ctx; infer_instance

theorem ctx_cell (d : Dev nD) (k : T.Cell) :
    (ctx T m v E κ : sProp 𝕄) ⊢ cellInv E (sched m v) (κ (T.cell d k)) (T.cell d k) := by
  unfold ctx
  iintro ⟨H, -⟩
  have h : (bigSep (Finset.univ : Finset (Dev nD × T.Cell)) fun x => cellInv E (sched m v) (κ (T.cell x.1 x.2)) (T.cell x.1 x.2))
      ⊢ (cellInv E (sched m v) (κ (T.cell d k)) (T.cell d k) : sProp 𝕄) := BI.bigSep_elim (Finset.mem_univ (d, k))
  iapply h
  iexact H

theorem ctx_levels : (ctx T m v E κ : sProp 𝕄) ⊢ levAts L (lv T) := by
  unfold ctx
  iintro ⟨-, H⟩
  iexact H

/-- The right to credit semaphore `k` of device `d`. -/
def right (d : Dev nD) (k : T.Cell) : sProp 𝕄 := iprop(dutyTok E (T.cell d k) 0 () ∗ reached E (T.cell d k) 0)

/-- `Does d ok A O B l`: from `A`, the statements `l` of device `d` pay `O` and yield `B`, when what is still owed after
    them satisfies `ok`. -/
def Does (ok : CellTallies nD τ sig Unit → Prop) (A : sProp 𝕄) (O : CellTallies nD τ sig Unit) (B : sProp 𝕄)
    (l : List (TpuEff nD τ sig Val Λ .tc PUnit)) : Prop :=
  ∀ (O' : CellTallies nD τ sig Unit), ok O' → ∀ (W : Waits sig Unit) {α : Type} (k : Prog (TpuEff nD τ sig Val Λ .tc) α) (Q : α → sProp 𝕄),
    iprop(ctx T m v E κ ∗ A ∗ owes (d.tc : Thread nD τ) (O + O') W)
      ⊢ iprop((∀ W', (B ∗ owes (d.tc : Thread nD τ) O' W') -∗ wp frame (wpE defs 𝒱 (d.tc : Thread nD τ) none) Set.univ k Q)
          -∗ wp frame (wpE defs 𝒱 (d.tc : Thread nD τ) none) Set.univ (steps l k) Q)

variable {m v E κ 𝒱 d} {ok : CellTallies nD τ sig Unit → Prop}

theorem Does.nil {A : sProp 𝕄} : Does m v E (defs := defs) 𝒱 κ d ok A 0 A [] := by
  intro O' hO W α k Q
  rw [zero_add]
  iintro ⟨-, HA, HL⟩ Hk
  iapply Hk $$ %W
  isplitl [HA] <;> iassumption

theorem Does.mono {A A' B B' : sProp 𝕄} {O : CellTallies nD τ sig Unit} {l : List (TpuEff nD τ sig Val Λ .tc PUnit)}
    (h : Does m v E (defs := defs) 𝒱 κ d ok A O B l) (hA : A' ⊢ A) (hB : B ⊢ B') : Does m v E (defs := defs) 𝒱 κ d ok A' O B' l := by
  intro O' hO W α k Q
  iintro ⟨Hc, HA, HL⟩ Hk
  iapply (h O' hO W k Q) $$ [Hc HA HL]
  · isplitl [Hc]; · iexact Hc
    isplitl [HA]; · iapply hA; iexact HA
    iexact HL
  iintro %W' ⟨HB, HL⟩
  iapply Hk $$ %W'
  isplitl [HB]; · iapply hB; iexact HB
  iexact HL

/-- One run of statements and then another, beside what neither touches. -/
theorem Does.append {ok' : CellTallies nD τ sig Unit → Prop} {A B C : sProp 𝕄} {O₁ O₂ : CellTallies nD τ sig Unit}
    {l₁ l₂ : List (TpuEff nD τ sig Val Λ .tc PUnit)}
    (h₁ : Does m v E (defs := defs) 𝒱 κ d ok' A O₁ B l₁) (h₂ : Does m v E (defs := defs) 𝒱 κ d ok B O₂ C l₂)
    (hok : ∀ O, ok O → ok' (O₂ + O)) : Does m v E (defs := defs) 𝒱 κ d ok A (O₁ + O₂) C (l₁ ++ l₂) := by
  intro O' hO W α k Q
  rw [steps_append, add_assoc]
  iintro ⟨#Hc, HA, HL⟩ Hk
  iapply (h₁ (O₂ + O') (hok O' hO) W (steps l₂ k) Q) $$ [HA HL]
  · isplitr; · iexact Hc
    isplitl [HA] <;> iassumption
  iintro %W' ⟨HB, HL⟩
  iapply (h₂ O' hO W' k Q) $$ [HB HL]
  · isplitr; · iexact Hc
    isplitl [HB] <;> iassumption
  iexact Hk

theorem Does.frame {A B R : sProp 𝕄} {O : CellTallies nD τ sig Unit} {l : List (TpuEff nD τ sig Val Λ .tc PUnit)}
    (h : Does m v E (defs := defs) 𝒱 κ d ok A O B l) :
    Does m v E (defs := defs) 𝒱 κ d ok iprop(A ∗ R) O iprop(B ∗ R) l := by
  intro O' hO W α k Q
  iintro ⟨Hc, ⟨HA, HR⟩, HL⟩ Hk
  iapply (h O' hO W k Q) $$ [Hc HA HL]
  · isplitl [Hc]; · iexact Hc
    isplitl [HA] <;> iassumption
  iintro %W' ⟨HB, HL⟩
  iapply Hk $$ %W'
  isplitl [HB HR]
  · isplitl [HB] <;> iassumption
  iexact HL

/-- The same statements for every member of a list, what each needs held side by side. -/
theorem Does.list {X : Type} [DecidableEq X] (xs : List X) (hx : xs.Nodup) (A B : X → sProp 𝕄) (O : X → CellTallies nD τ sig Unit)
    (f : X → List (TpuEff nD τ sig Val Λ .tc PUnit))
    (h : ∀ x ∈ xs, Does m v E (defs := defs) 𝒱 κ d ok (A x) (O x) (B x) (f x)) (hok : ∀ x ∈ xs, ∀ O', ok O' → ok (O x + O')) :
    Does m v E (defs := defs) 𝒱 κ d ok (bigSep xs.toFinset A) (∑ x ∈ xs.toFinset, O x) (bigSep xs.toFinset B) (xs.flatMap f) := by
  induction xs with
  | nil =>
    have e : ∀ Φ : X → sProp 𝕄, bigSep ([] : List X).toFinset Φ = iprop(emp) := fun Φ => BI.bigSep_empty
    rw [e, e, List.toFinset_nil, Finset.sum_empty]
    exact Does.nil
  | cons x xs ih =>
    have hx' := List.nodup_cons.mp hx
    have hm : x ∉ xs.toFinset := fun hh => hx'.1 (List.mem_toFinset.mp hh)
    have hoks : ∀ s : Finset X, (∀ y ∈ s, y ∈ x :: xs) → ∀ O', ok O' → ok ((∑ y ∈ s, O y) + O') := by
      intro s
      induction s using Finset.induction_on with
      | empty => intro _ O' hO; rw [Finset.sum_empty, zero_add]; exact hO
      | insert y s hy ihs =>
        intro hs O' hO
        rw [Finset.sum_insert hy, add_assoc]
        exact hok _ (hs y (Finset.mem_insert_self y s)) _ (ihs (fun z hz => hs z (Finset.mem_insert_of_mem hz)) _ hO)
    have i₁ : ∀ Φ : X → sProp 𝕄, bigSep (x :: xs).toFinset Φ = iprop(Φ x ∗ bigSep xs.toFinset Φ) := fun Φ => by
      rw [List.toFinset_cons]; exact bigSep_insert hm
    rw [List.flatMap_cons, List.toFinset_cons, Finset.sum_insert hm, ← List.toFinset_cons]
    have step₁ := ((h x List.mem_cons_self).frame (R := bigSep xs.toFinset A)).mono (Entails.of_eq (i₁ A)) Entails.refl
    have step₂ := ((ih hx'.2 (fun y hy => h y (List.mem_cons_of_mem x hy)) fun y hy => hok y (List.mem_cons_of_mem x hy)).frame (R := B x)).mono (A' := iprop(B x ∗ bigSep xs.toFinset A)) sep_comm.1 (sep_comm.1.trans (Entails.of_eq (i₁ B).symm))
    exact step₁.append step₂ fun O' hO => hoks _ (fun y hy => List.mem_cons_of_mem x (List.mem_toFinset.mp hy)) _ hO

/-- Starting a copy within the device. -/
theorem does_startOwn (a : T.A) (q : PosShare TreeShare) :
    Does m v E (defs := defs) 𝒱 κ d ok
      iprop(lent q (T.own a d) d (v.own a d) ∗ room (T.own a d) d ∗ right E d (.inl a)) 0
      (cred (tallyAt (T.cell d (.inl a)) () (T.ownUnits a))) [T.startOwn a d] := by
  intro O' hO W α k Q
  rw [zero_add]
  unfold lent room right
  iintro ⟨#Hc, ⟨⟨%fs, %hfs, Hs⟩, ⟨%fd, Hd⟩, Ht, Hr⟩, HL⟩ Hk
  have hpay : iprop(((T.own a d).dst.view.loc (d.tc : Thread nD τ) ↦[(T.own a d).dst.view.set]{fullShare}
        ((T.own a d).dst.view.write Val fd ((T.own a d).src.view.read Val fs) Finset.univ))
      ∗ ((T.own a d).src.view.loc (d.tc : Thread nD τ) ↦[(T.own a d).src.view.set]{q} fs))
      ⊢ ((sched m v).payload (T.cell d (.inl a)) 0 () : sProp 𝕄) := by
    rw [sched_payload, hfs]
    refine Entails.trans ?_ (landed_of_write m (T.own a d) d (v.own a d) fd)
    iintro ⟨H, -⟩
    iexact H
  iapply (wp_copy_pointsTo 𝒱 E (sched m v) (d.tc : Thread nD τ) none (src := (T.own a d).src) (dst := (T.own a d).dst) (sem := .dma (T.ownSem a))
    (κ := κ (T.cell d (.inl a))) (r := 0) (d := ())
    (mem_duties m v d (.inl a))
    () (T.ownUnits a) (T.own_units a d) (sched_amount m v d (.inl a) 0 ()) hpay) $$ [Hs Hd Ht Hr]
  · isplitr; · iapply (ctx_cell m v E κ d (.inl a)); iexact Hc
    isplitl [Hs]; · iexact Hs
    isplitl [Hd]; · iexact Hd
    isplitl [Ht]; · iexact Ht
    iexact Hr
  iintro Hcr
  iapply Hk $$ %W
  isplitl [Hcr]; · iexact Hcr
  iexact HL

/-- Starting a copy to another device. -/
theorem does_startSent (b : T.B) (q : PosShare TreeShare) :
    Does m v E (defs := defs) 𝒱 κ d ok
      iprop(lent q (T.sent b d) d (v.sent b d) ∗ room (T.sent b d) (T.peer b d) ∗ right E d (.inr (.inl b)) ∗ right E (T.peer b d) (.inr (.inr b)))
      (due T d b) (cred (tallyAt (T.cell d (.inr (.inl b))) () (T.sentUnits b))) [T.startSent b d] := by
  intro O' hO W α k Q
  unfold lent room right
  iintro ⟨#Hc, ⟨⟨%fs, %hfs, Hs⟩, ⟨%fd, Hd⟩, ⟨Ht, Hr⟩, ⟨Ht', Hr'⟩⟩, HL⟩ Hk
  have hpay₁ : ((T.sent b d).src.view.loc (d.tc : Thread nD τ) ↦[(T.sent b d).src.view.set]{q} fs)
      ⊢ ((sched m v).payload (T.cell d (.inr (.inl b))) 0 () : sProp 𝕄) := by
    rw [sched_payload]; unfold brought
    iintro -
    iempintro
  have hpay₂ : ((T.sent b d).dst.view.loc ((T.peer b d).tc : Thread nD τ) ↦[(T.sent b d).dst.view.set]{fullShare}
        ((T.sent b d).dst.view.write Val fd ((T.sent b d).src.view.read Val fs) Finset.univ))
      ⊢ ((sched m v).payload (T.cell (T.peer b d) (.inr (.inr b))) 0 () : sProp 𝕄) := by
    rw [sched_payload, hfs, brought_arrival]
    exact landed_of_write m (T.sent b d) (T.peer b d) (v.sent b d) fd
  iapply (wp_send_pointsTo 𝒱 E (sched m v) (d.tc : Thread nD τ) none (c' := ((T.peer b d).tc : Thread nD τ)) (src := (T.sent b d).src) (dst := (T.sent b d).dst)
    (sS := .dma (T.departSem b)) (sem := .dma (T.arriveSem b))
    (κ₁ := κ (T.cell d (.inr (.inl b)))) (κ₂ := κ (T.cell (T.peer b d) (.inr (.inr b)))) (r₁ := 0) (r₂ := 0) (d₁ := ()) (d₂ := ())
    (mem_duties m v d (.inr (.inl b)))
    (mem_duties m v (T.peer b d) (.inr (.inr b)))
    () () (T.sentUnits b) (T.sent_units b d) (sched_amount m v d (.inr (.inl b)) 0 ()) (sched_amount m v (T.peer b d) (.inr (.inr b)) 0 ())
    (O₀ := due T d b + O') O' (add_comm _ _) hpay₁ hpay₂) $$ [Hs Hd Ht Hr Ht' Hr' HL]
  · isplitr; · iapply (ctx_cell m v E κ d (.inr (.inl b))); iexact Hc
    isplitr; · iapply (ctx_cell m v E κ (T.peer b d) (.inr (.inr b))); iexact Hc
    isplitl [Hs]; · iexact Hs
    isplitl [Hd]; · iexact Hd
    isplitl [HL]; · iexact HL
    isplitl [Ht]; · iexact Ht
    isplitl [Hr]; · iexact Hr
    isplitl [Ht']; · iexact Ht'
    iexact Hr'
  iintro ⟨Hcr, HL⟩
  iapply Hk $$ %W
  isplitl [Hcr]; · iexact Hcr
  iexact HL

/-- A wait on a semaphore of the plan, while what is owed allows it. -/
theorem does_await (c : T.Cell) (x : TpuEff nD τ sig Val Λ .tc PUnit)
    (hx : ∀ K : PUnit → sProp 𝕄, wpE defs 𝒱 (d.tc : Thread nD τ) none Set.univ x K = waitSpec (d.tc : Thread nD τ) Set.univ (.dma (T.sem c)) (T.units c) K)
    (hok : ∀ O, ok O → (levAts L (lv T) : sProp 𝕄) ⊢ MayWait (d.tc : Thread nD τ) (.dma (T.sem c)) () O) :
    Does m v E (defs := defs) 𝒱 κ d ok
      iprop(cred (tallyAt (T.cell d c) () (T.units c)) ∗ atPos E (T.cell d c) 0 ∅ 0) 0
      iprop(brought m v d c ∗ atPos E (T.cell d c) 1 ∅ 0) [x] := by
  intro O' hO W α k Q
  rw [zero_add]
  iintro ⟨#Hc, ⟨Hcr, Hat⟩, HL⟩ Hk
  iapply (wp_wait_rest_token 𝒱 E (sched m v) (d.tc : Thread nD τ) none (κ := κ (T.cell d c)) hx (Set.mem_univ _) () (R := 0) (m := 0) (T := ∅)
    (by rw [zero_add]; exact (sched_expect m v d c).symm)) $$ [Hcr Hat HL]
  · isplitr; · iapply (ctx_cell m v E κ d c); iexact Hc
    isplitl [Hcr]; · iexact Hcr
    isplitl [HL]; · iexact HL
    isplitr; · iapply (hok O' hO); iapply (ctx_levels m v E κ); iexact Hc
    iexact Hat
  iintro ⟨HL, Hat, -, Hrest⟩
  iapply Hk $$ %_
  isplitr [HL]
  · isplitl [Hrest]
    · have e : (bigSep ((sched m v : Schedule _ _ 𝕄).duties ((d.tc : Thread nD τ), SemLoc.dma (T.sem c)) 0 \ ∅) fun u => (sched m v : Schedule _ _ 𝕄).payload ((d.tc : Thread nD τ), SemLoc.dma (T.sem c)) 0 u)
          ⊢ brought m v d c := by
        rw [show (sched m v : Schedule _ _ 𝕄).duties ((d.tc : Thread nD τ), SemLoc.dma (T.sem c)) 0 = {()} from sched_duties (Name := Name) (U := U) m v d c, Finset.sdiff_empty, BI.bigSep_singleton]
        exact Entails.of_eq (sched_payload m v d c 0 ())
      iapply e; iexact Hrest
    · iexact Hat
  iexact HL

theorem mayWait_of_above {n : ℕ} {O : CellTallies nD τ sig Unit} (h : Above T n O) (c : T.Cell)
    (hc : lv T (T.cell d c : GSem nD τ sig) () ≤ n) :
    (levAts L (lv T) : sProp 𝕄) ⊢ MayWait (d.tc : Thread nD τ) (.dma (T.sem c)) () O :=
  MayOwe.of_cut (L := L) (lev := lv T) n
    (fun p hp => by rw [Finset.mem_singleton.mp hp]; unfold L; rw [if_pos rfl]; exact Finset.mem_singleton_self _)
    (fun g u hg => (h g u hg).1)
    (fun p hp => by rw [Finset.mem_singleton.mp hp]; exact hc)
    (fun g u hg => (h g u hg).2)

theorem mayWait_zero (c : T.Cell) {O : CellTallies nD τ sig Unit} (h : O = 0) :
    (levAts L (lv T) : sProp 𝕄) ⊢ MayWait (d.tc : Thread nD τ) (.dma (T.sem c)) () O := by
  rw [h, MayWait_zero]
  iintro -
  iempintro

/-- The wait on a semaphore of the plan. -/
def await (d : Dev nD) : T.Cell → TpuEff nD τ sig Val Λ .tc PUnit
  | .inl a => T.awaitOwn a d
  | .inr (.inl b) => T.awaitDeparture b d
  | .inr (.inr b) => T.awaitArrival b d

theorem wpE_await (c : T.Cell) (K : PUnit → sProp 𝕄) :
    wpE defs 𝒱 (d.tc : Thread nD τ) none Set.univ (await d c) K = waitSpec (d.tc : Thread nD τ) Set.univ (.dma (T.sem c)) (T.units c) K := by
  match c with
  | .inl a => exact (wpE_waitDma_eq 𝒱 (d.tc : Thread nD τ) none Set.univ K).trans (by rw [T.own_wait]; rfl)
  | .inr (.inl b) => exact (wpE_waitDma_eq 𝒱 (d.tc : Thread nD τ) none Set.univ K).trans (by rw [T.depart_wait]; rfl)
  | .inr (.inr b) => exact (wpE_waitDma_eq 𝒱 (d.tc : Thread nD τ) none Set.univ K).trans (by rw [T.arrive_wait]; rfl)

/-- The start of a copy of the plan. -/
def start (d : Dev nD) : T.A ⊕ T.B → TpuEff nD τ sig Val Λ .tc PUnit
  | .inl a => T.startOwn a d
  | .inr b => T.startSent b d

end Plan

end Cert.Moves

end
-- ==== Proof.Launch.lean ====
/-
# The launch of a kernel that only moves data between devices

The kernels here are one `pallas_call` without windows: every array stays in HBM and the body starts and awaits
copies. A device sends into its peers' result arrays without a handshake, so what a copy needs of the peer's array has to
be in the sender's hands when the kernel starts. The launch below therefore deals the semaphores AND the arrays of all
the devices to one step taken before any of them runs.
-/
module

public import Idealize.ShloMosaic.Lib.Pipeline.Launch
public import Idealize.ShloMosaic.Lib.Pipeline.Kit
public import Idealize.ShloMosaic.Lib.Tactic

@[expose] public section

set_option Elab.async false

noncomputable section

namespace Cert.Moves

open Idealize.ShloMosaic Idealize.ShloMosaic.TcCoe
open Idealize.SL
open Idealize.SL.BI (sProp bigSep bigSep_sep' bigSep_mono bigSep_congr bigSep_univ_prod)
open scoped Idealize.SL.BI
open Idealize.SL.BI.BIBase Idealize.SL.BI.Laws Idealize.SL.Sem Idealize.SL.ProofMode
open Idealize.SL.RA
open Idealize.ShloMosaic.Rounds
open Idealize.SL.RA.PCS
open Idealize.ShloMosaic.Pipeline (Cfg PCfg Dat RDat cellOf pin WinFacts₀ OwnSemFacts LaunchFacts ownSems0 launchCred owing owing_of_ne)

variable {nD : Nat} {τ : Topo} {sig : RefSig} {Val : EltTy → Type}
variable {Ix : Type} [DecidableEq Ix] {Name : Type} [DecidableEq Name] [Infinite Name] {U : Type} [URA U] {Lvl : Type} [Preorder Lvl]
variable {Λ₀ : Labels} {P : Type} [Fintype P] [DecidableEq P]

local notation "𝕄" => MT nD τ sig Ix Val Name U Lvl

/-- Level facts, dealt one cell at a time to the cores, are the level facts of the machine. -/
theorem levels_assigned (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  refine ((bigSep_mono fun c _ => lev_assign_cells (c.tc : Thread nD τ) L lv).trans (BI.bigSep_bupd _ _)).trans (BI.bupd_mono ?_)
  have other (d : Dev nD) (p : Proc τ) (hp : p ≠ .tc) : (coreLevAts ((d, p) : Thread nD τ) L lv : sProp 𝕄) = BI.emp := by
    unfold coreLevAts
    refine (bigSep_congr fun sm _ => ?_).trans (BI.bigSep_emp_const (Finset.univ : Finset (SemLoc sig)))
    rw [hL (((d, p) : Thread nD τ), sm) hp, BI.bigSep_empty]
  have others : (bigSep Finset.univ fun d : Dev nD => bigSep (Finset.univ.erase Proc.tc) fun p => (coreLevAts ((d, p) : Thread nD τ) L lv : sProp 𝕄))
      = BI.emp :=
    (bigSep_congr fun d _ => (bigSep_congr fun p hp => other d p (Finset.ne_of_mem_erase hp)).trans (BI.bigSep_emp_const _)).trans
      (BI.bigSep_emp_const _)
  have regroup : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ (iprop((bigSep Finset.univ fun d : Dev nD => coreLevAts (d.tc : Thread nD τ) L lv)
          ∗ bigSep Finset.univ fun d : Dev nD => bigSep (Finset.univ.erase Proc.tc) fun p => coreLevAts ((d, p) : Thread nD τ) L lv) : sProp 𝕄) := by
    rw [others, bigSep_sep']
    iintro ⟨-, H⟩
    isplitl [H]
    · iexact H
    · iempintro
  rw [show (levAts L lv : sProp 𝕄) = bigSep Finset.univ fun c : Thread nD τ => coreLevAts c L lv
      from bigSep_univ_prod fun g : GSem nD τ sig => bigSep (L g) fun ι => levAt g ι (lv g ι),
    bigSep_threads (fun c : Thread nD τ => coreLevAts c L lv)]
  exact regroup

section

variable (cfgs : P → Cfg sig Λ₀) (p : P)

/-- The proof data of a call without windows and without a grid: what the body holds before it runs and after. -/
def bodyDat (hW : ∀ q, IsEmpty (Fin (cfgs q).W)) (O₀ : Dev nD → CellTallies nD τ sig Ix) (Before After : Dev nD → sProp 𝕄)
    (q : P) (c : Dev nD) : RDat τ Val Ix Name U Lvl (cfgs q) c where
  A := fun w => ((hW q).false w).elim
  after := fun w => ((hW q).false w).elim
  Φ := fun t => if t.val = 0 then Before c else After c
  q := fun _ => fullShare
  owed := fun t => if t.val = 0 then O₀ c else 0

/-- The launch: from what every device's launch holds — the kernel's semaphores at zero, the arrays at their launch
    contents, the credit for what its peers owe it — one global step makes what each device's body starts from. -/
theorem run [∀ e, Nonempty (Val e)]
    {K : Type} [Fintype K] {osem : K → SemLoc sig} (hfacts : LaunchFacts (nD := nD) (τ := τ) cfgs p)
    (ho : OwnSemFacts (cfgs p).spec osem)
    (hW : ∀ q, IsEmpty (Fin (cfgs q).W)) (hN : (cfgs p).N = 1)
    (ι : Ix) (EP : Emb (URounds (GSem nD τ sig) Unit) (MT nD τ sig Ix Val Name U Lvl)) [EP.LandsIn (upEmb : UEmb _ 𝕄)]
    (defs₀ : Defs nD τ sig Val Λ₀) (𝒱₀ : Variants)
    (m : (ℓ : Loc nD τ sig) → Buf Val ℓ) (g : Dev nD → PrngReg)
    (main : Dev nD → Prog (TpuEff nD τ sig Val (Pipeline.Sig Λ₀ P fun p => ((cfgs p).toPCfg : PCfg sig Λ₀ Val).Adm) .tc) PUnit)
    (hmain : ∀ c, main c = .op (.customCall (Pipeline.entry p) ()) fun _ => .ret ⟨⟩)
    (O₀ : Dev nD → CellTallies nD τ sig Ix)
    (L : GSem nD τ sig → Finset Ix) (lv : GSem nD τ sig → Ix → Lvl) (hL : ∀ g : GSem nD τ sig, g.1.2 ≠ .tc → L g = ∅)
    (G : sProp 𝕄) (u₀ : U)
    (hu₀ : (ownU u₀ : sProp 𝕄)
      ⊢ |={Set.univ}=> iprop(BI.own (EP (initOf (Pipeline.cells cfgs hfacts.cellOf_inj) (Pipeline.launchToks cfgs hfacts.cellOf_inj))) ∗ G))
    (X : Dev nD → sProp 𝕄)
    (hglob : iprop((bigSep Finset.univ fun c : Dev nD => ownSems0 osem c)
          ∗ (bigSep Finset.univ fun c : Dev nD => unscopedBufs c fun b => m ((c.tc : Thread nD τ).loc b))
          ∗ (bigSep Finset.univ fun c : Dev nD => launchCred O₀ c) ∗ G)
        ⊢ |={Set.univ}=> bigSep Finset.univ X)
    (Y : Dev nD → sProp 𝕄)
    (hbody : ∀ (c : Dev nD) (t : Fin (cfgs p).N) (W : Finset (SemLoc sig × Ix)),
      iprop(X c ∗ levAts L lv ∗ owes (c.tc : Thread nD τ) (O₀ c) W)
        ⊢ wp frame (wpE defs₀ 𝒱₀ (c.tc : Thread nD τ) none) Set.univ (defs₀ .tc (cfgs p).body ((cfgs p).bodyArgs t ((cfgs p).slots t)))
            fun _ => iprop(Y c ∗ ownSems0 osem c ∗ ∃ W', owes (c.tc : Thread nD τ) (0 : CellTallies nD τ sig Ix) W'))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs (fun p => ((cfgs p).toPCfg : PCfg sig Λ₀ Val)) defs₀) (onTc main) ⟨m, fun _ => 0, g⟩ Q := by
  classical
  let pcs : P → PCfg sig Λ₀ Val := fun q => (cfgs q).toPCfg
  let a : Dev nD → (q : P) → (pcs q).Adm := fun _ q => (cfgs q).toPCfg_adm
  let Before : Dev nD → sProp 𝕄 := fun c => iprop(X c ∗ levAts L lv ∗ scopedBufs (c.tc : Thread nD τ))
  let After : Dev nD → sProp 𝕄 := fun c => iprop(Y c ∗ ownSems0 osem c ∗ scopedBufs (c.tc : Thread nD τ))
  let rd := bodyDat (nD := nD) (τ := τ) (Val := Val) cfgs hW O₀ Before After
  have hfin (q : P) : (Finset.univ : Finset (Fin (cfgs q).W)) = ∅ := by
    have := hW q; exact Finset.univ_eq_empty
  have hstaging (c : Dev nD) : (Dat.staging (cfgs p) c : sProp 𝕄) = BI.emp := by
    unfold Dat.staging; rw [hfin, BI.bigSep_empty]
  have hcellsSems (c : Dev nD) : (Pipeline.cellsSems0 cfgs p c : sProp 𝕄) = BI.emp := by
    unfold Pipeline.cellsSems0 Pipeline.PerCore.cellsSems0; rw [hfin, BI.bigSep_empty]
  have hsems (c : Dev nD) : (scopedSems0 (c.tc : Thread nD τ) : sProp 𝕄)
      = iprop((Pipeline.cellsSems0 cfgs p c ∗ ownSems0 osem c) ∗ Pipeline.PerCore.idleSems0 (fun _ : Dev nD => cfgs) hfacts.cellOf_inj p (fun _ => ho) c) :=
    Pipeline.PerCore.scopedSems0_split (fun _ : Dev nD => cfgs) hfacts.cellOf_inj p (fun _ => hfacts.win.to₀) (fun _ => ho) c
  let idle : Dev nD → sProp 𝕄 := fun c => Pipeline.PerCore.idleSems0 (fun _ : Dev nD => cfgs) hfacts.cellOf_inj p (fun _ => ho) c
  let before : Dev nD → sProp 𝕄 := fun c => iprop(scopedBufs (c.tc : Thread nD τ) ∗ idle c ∗ owes (c.tc : Thread nD τ) (O₀ c) ∅
    ∗ levAts L lv ∗ Pipeline.cellsGhost cfgs EP p c ∗ Pipeline.toksInit cfgs EP p c ∗ X c)
  let after : Dev nD → sProp 𝕄 := fun c => iprop(Y c ∗ scopedSems0 (c.tc : Thread nD τ))
  refine (θ_run _ _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu _ _ _ _
    (reflect_intro_fupd_tc_sems (X := Unit) (Variants.lift 𝒱₀) (owing O₀) 0 (noBookings fun _ => le_rfl) (owing_of_ne O₀) u₀
      (fun _ => before) (fun _ => after) (fun _ => iprop(emp)) Set.univ ?launch (fun _ c => ?core) fun _ => ?posts))
  case launch =>
    have hbd (c : Dev nD) : (boundary (c.tc : Thread nD τ) : sProp 𝕄)
        ⊢ iprop(scopedBufs (c.tc : Thread nD τ) ∗ idle c ∗ ownSems0 osem c) := by
      unfold boundary
      rw [hsems c]
      iintro ⟨Hsc, ⟨⟨-, Hos⟩, Hidle⟩, -⟩
      isplitl [Hsc]; · iexact Hsc
      isplitl [Hidle] <;> iassumption
    have hcore (c : Dev nD) :
        coreInit (Ix := Ix) (Name := Name) (U := U) (Lvl := Lvl) (owing O₀) 0 (⟨m, fun _ => 0, g⟩ : MemSt nD τ sig Val) (c.tc : Thread nD τ)
          ⊢ iprop(scopedBufs (c.tc : Thread nD τ) ∗ idle c ∗ owes (c.tc : Thread nD τ) (O₀ c) ∅ ∗ levels0 c
              ∗ ownSems0 osem c ∗ unscopedBufs c (fun b => m ((c.tc : Thread nD τ).loc b)) ∗ launchCred O₀ c) :=
      (Pipeline.coreInit_boundary_owing O₀ m g c).trans (by
        iintro ⟨Hb, Hub, -, HL, Hlv, -, Hcr⟩
        ihave H := (hbd c) $$ Hb
        icases H with ⟨Hsc, Hidle, Hos⟩
        isplitl [Hsc]; · iexact Hsc
        isplitl [Hidle]; · iexact Hidle
        isplitl [HL]; · iexact HL
        isplitl [Hlv]; · iexact Hlv
        isplitl [Hos]; · iexact Hos
        isplitl [Hub] <;> iassumption)
    have hcores : (bigSep Finset.univ fun c : Dev nD =>
          coreInit (Ix := Ix) (Name := Name) (U := U) (Lvl := Lvl) (owing O₀) 0 (⟨m, fun _ => 0, g⟩ : MemSt nD τ sig Val) (c.tc : Thread nD τ))
        ⊢ (iprop((bigSep Finset.univ fun c : Dev nD => scopedBufs (c.tc : Thread nD τ)) ∗ (bigSep Finset.univ idle)
            ∗ (bigSep Finset.univ fun c : Dev nD => owes (c.tc : Thread nD τ) (O₀ c) ∅) ∗ (bigSep Finset.univ fun c : Dev nD => levels0 c)
            ∗ (bigSep Finset.univ fun c : Dev nD => ownSems0 osem c)
            ∗ (bigSep Finset.univ fun c : Dev nD => unscopedBufs c fun b => m ((c.tc : Thread nD τ).loc b))
            ∗ (bigSep Finset.univ fun c : Dev nD => launchCred O₀ c)) : sProp 𝕄) := by
      refine (bigSep_mono fun c _ => hcore c).trans ?_
      simp only [bigSep_sep']
      exact BI.Entails.refl _
    have hpick (Φ : P → Dev nD → sProp 𝕄) :
        (bigSep Finset.univ fun c : Dev nD => bigSep Finset.univ fun q => Φ q c) ⊢ bigSep Finset.univ fun c : Dev nD => Φ p c :=
      bigSep_mono fun c _ => BI.bigSep_elim (Finset.mem_univ p)
    iintro ⟨Hcores, Hu⟩
    ihave Hc := hcores $$ Hcores
    icases Hc with ⟨Hsc, Hidle, HL, Hlv, Hos, Hub, Hcr⟩
    imod (levels_assigned L lv hL) $$ Hlv with Hla
    imod hu₀ $$ Hu with ⟨HP, HG⟩
    imod (Pipeline.fund_ghost cfgs EP hfacts.cellOf_inj) $$ HP with ⟨Hg, Ht⟩
    imod hglob $$ [Hos Hub Hcr HG] with HX
    · isplitl [Hos]; · iexact Hos
      isplitl [Hub]; · iexact Hub
      isplitl [Hcr] <;> iassumption
    imodintro
    iexists ()
    isplitr []
    · simp only [before, bigSep_sep']
      isplitl [Hsc]; · iexact Hsc
      isplitl [Hidle]; · iexact Hidle
      isplitl [HL]; · iexact HL
      isplitl [Hla]; · iapply (BI.bigSep_intro_persistent (S := Finset.univ) fun (c : Dev nD) _ => (BI.Entails.refl (levAts L lv : sProp 𝕄))); iexact Hla
      isplitl [Hg]; · iapply (hpick fun q c => Pipeline.cellsGhost cfgs EP q c); iexact Hg
      isplitl [Ht]; · iapply (hpick fun q c => Pipeline.toksInit cfgs EP q c); iexact Ht
      iexact HX
    · iempintro
  case core =>
    have hbody' (c : Dev nD) : (rd p c).BodyObligation defs₀ 𝒱₀ ι Set.univ := by
      intro t Z _
      obtain ⟨t, ht⟩ := t
      obtain rfl : t = 0 := by omega
      have h0 : (rd p c).Φ (Fin.castSucc ⟨0, ht⟩) = Before c := by simp [rd, bodyDat]
      have h1 : (rd p c).Φ (Fin.succ ⟨0, ht⟩) = After c := by simp [rd, bodyDat]
      have o0 : (rd p c).owed (Fin.castSucc ⟨0, ht⟩) = O₀ c := by simp [rd, bodyDat]
      have o1 : (rd p c).owed (Fin.succ ⟨0, ht⟩) = 0 := by simp [rd, bodyDat]
      rw [hfin, BI.bigSep_empty, h0, h1]
      unfold Pipeline.RDat.owesAt Pipeline.owesWithin
      rw [o0, o1]
      simp only [Before, After]
      iintro ⟨⟨HX, Hla, Hsc⟩, ⟨%W, -, HO⟩, -⟩
      ihave Hwp := (hbody c ⟨0, ht⟩ W) $$ [HX Hla HO]
      · isplitl [HX]; · iexact HX
        isplitl [Hla] <;> iassumption
      iapply (wp_wand frame (wpE defs₀ 𝒱₀ (c.tc : Thread nD τ) none) Set.univ) $$ Hwp
      iintro %r ⟨HY, Hos, ⟨%W', HO⟩⟩
      isplitl [HY Hos Hsc]
      · isplitl [HY]; · iexact HY
        isplitl [Hos] <;> iassumption
      isplitl [HO]
      · iexists W'
        isplitr; · ipureintro; exact fun _ _ => Or.inl (Set.mem_univ _)
        iexact HO
      · iempintro
    have harr : ((rd p c).arrays (rd p c).A : sProp 𝕄) = BI.emp := by
      unfold Pipeline.RDat.arrays; rw [hfin, BI.bigSep_empty]
    have hwaits : (Pipeline.RDat.cellsWaits cfgs rd ι p c : sProp 𝕄) = BI.emp := by
      unfold Pipeline.RDat.cellsWaits; exact (congrArg (bigSep · _) (hfin p)).trans BI.bigSep_empty
    have hinit (κ : GSem nD τ sig → Name) : (Pipeline.RDat.cellsInit cfgs rd EP κ p c : sProp 𝕄) = BI.emp := by
      unfold Pipeline.RDat.cellsInit; exact (congrArg (bigSep · _) (hfin p)).trans BI.bigSep_empty
    have hpref (q : Fin (pcs p).pre.K → PosShare TreeShare) : (Pipeline.prefHeld (pcs p).pre c q (a c p).1 : sProp 𝕄) = BI.emp := by
      unfold Pipeline.prefHeld; exact (congrArg (bigSep · _) (show (Finset.univ : Finset (Fin 0)) = ∅ from rfl)).trans BI.bigSep_empty
    have hΦ0 : (rd p c).Φ 0 = Before c := by simp [rd, bodyDat]
    have hΦN : (rd p c).Φ (Fin.last (cfgs p).N) = After c := by simp [rd, bodyDat, hN]
    have hO0 : (rd p c).owed 0 = O₀ c := by simp [rd, bodyDat]
    have hON : (rd p c).owed (Fin.last (cfgs p).N) = 0 := by simp [rd, bodyDat, hN]
    have hbufs : (scopedBufs (c.tc : Thread nD τ) : sProp 𝕄) ⊢ iprop(Dat.staging (cfgs p) c ∗ scopedBufs (c.tc : Thread nD τ)) := by
      rw [hstaging]
      iintro H
      isplitr; · iempintro
      iexact H
    have hin : iprop(iprop(X c ∗ levAts L lv) ∗ Pipeline.prefHeld (pcs p).pre c (fun _ => fullShare) (a c p).1 ∗ scopedBufs (c.tc : Thread nD τ))
        ⊢ (rd p c).Φ 0 := by
      rw [hΦ0]
      iintro ⟨⟨HX, Hla⟩, -, Hsc⟩
      isplitl [HX]; · iexact HX
      isplitl [Hla] <;> iassumption
    have hout : iprop((rd p c).Φ (Fin.last (cfgs p).N) ∗ Pipeline.cellsSems0 cfgs p c ∗ Dat.staging (cfgs p) c ∗ idle c)
        ⊢ iprop(Y c ∗ scopedSems0 (c.tc : Thread nD τ) ∗ scopedBufs (c.tc : Thread nD τ)) := by
      rw [hΦN, hsems c]
      iintro ⟨⟨HY, Hos, Hsc⟩, Hcells, -, Hidle⟩
      isplitl [HY]; · iexact HY
      isplitr [Hsc]
      · isplitr [Hidle]
        · isplitl [Hcells] <;> iassumption
        · iexact Hidle
      · iexact Hsc
    simp only [before]
    rw [hmain c]
    iintro ⟨Hsc, Hidle, HL, Hla, Hg, Ht, HX⟩
    iapply (Pipeline.PerCore.RDat.wp_customCall_entry_frame pcs a rd ι EP (fun _ => Classical.arbitrary Name) hfacts.cellOf_inj p defs₀ 𝒱₀
      (fun _ => fullShare) c Set.univ (fun _ _ => Set.mem_univ _) (hbody' c) (fun w => ((hW p).false w).elim) none (fun u h => nomatch h)
      (X := iprop(X c ∗ levAts L lv)) (Y := Y c) (R := scopedBufs (c.tc : Thread nD τ)) (I := idle c) hbufs hin hout
      (k := fun _ => .ret ⟨⟩) (Q := fun _ => post (liftTc after BI.emp) (c.tc : Thread nD τ))) $$ [Hsc Hidle HL Hla Ht HX]
    · isplitl [HL Ht]
      · unfold Pipeline.PerCore.RDat.EntryPre Pipeline.RDat.owesAt Pipeline.owesWithin
        rw [hO0]
        isplitr; · iapply (Entails.of_eq harr.symm); iempintro
        isplitl [HL]
        · iexists ∅; isplitr; · ipureintro; rw [Finset.coe_empty]; exact Set.empty_subset _
          iexact HL
        isplitr; · iapply (Entails.of_eq hwaits.symm); iempintro
        isplitr; · iapply (Entails.of_eq (hinit _).symm); iempintro
        iexact Ht
      isplitr; · iapply (Entails.of_eq (hpref _).symm); iempintro
      isplitl [HX Hla]; · isplitl [HX] <;> iassumption
      isplitl [Hidle] <;> iassumption
    iintro ⟨Hpost, HY, Hss, -⟩
    rw [wp_ret]; imodintro
    unfold post; simp only [liftTc_tc, after]
    isplitr [Hpost]
    · isplitl [HY] <;> iassumption
    · unfold Pipeline.PerCore.RDat.EntryPost Pipeline.RDat.owesAt Pipeline.owesWithin
      rw [hON]
      icases Hpost with ⟨-, ⟨%W, -, HW⟩⟩
      iexists W; iexact HW
  case posts =>
    have hread (c : Dev nD) (s' : Phys nD τ sig Val) : iprop(after c ∗ SI s') ⊢ |={Set.univ}=>
        iprop(⌜QY c s'.mem ∧ ∀ sm : SemLoc sig, sm.isScoped .tc = true → s'.mem.sem ((c.tc : Thread nD τ), sm) = 0⌝ ∗ SI s') := by
      simp only [after]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end

end Cert.Moves

end
-- ==== Proof.Run.lean ====
/-
# A run of copies that each use their semaphores once

The kernel starts some copies; then, for each copy that passes on what another brought, awaits that arrival and starts
the copy; then awaits the rest. The file proves what such a device body leaves, deals the launch — a device is given the
rooms in its peers' arrays that its copies fill — and concludes about the memory after the run.
-/
module

public import proofs.«01_k».proof.Proof.OneShot
public import proofs.«01_k».proof.Proof.Launch
public import Idealize.SL.ProofMode.BigOp
public import Idealize.ShloMosaic.Lib.Rounds.Family

@[expose] public section

set_option Elab.async false

noncomputable section

namespace Cert.Moves.Plan

open Idealize.ShloMosaic Idealize.ShloMosaic.TcCoe
open Idealize.SL
open Idealize.SL.BI (sProp bigSep bigSep_sep' bigSep_mono bigSep_congr bigSep_insert bigSep_image_of_injOn bigSep_sdiff_split)
open scoped Idealize.SL.BI
open Idealize.SL.BI.BIBase Idealize.SL.BI.Laws Idealize.SL.Sem Idealize.SL.ProofMode
open Idealize.SL.RA
open Idealize.ShloMosaic.Rounds Idealize.ShloMosaic.Pipeline

/-- The members that `f` reaches from `t`, and the rest. -/
theorem bigSep_parts {M : Type} [URA M] {I J : Type} [DecidableEq I] [DecidableEq J] {s : Finset I} {t : Finset J} {f : J → I} {Φ : I → sProp M}
    (inj : Set.InjOn f t) (sub : ∀ j ∈ t, f j ∈ s) :
    bigSep s Φ = iprop(bigSep t (fun j => Φ (f j)) ∗ bigSep (s \ t.image f) Φ) := by
  rw [← bigSep_image_of_injOn inj]
  exact bigSep_sdiff_split (Finset.image_subset_iff.mpr sub)
open Idealize.SL.RA.PCS

variable {nD : Nat} {τ : Topo} {sig : RefSig} {Val : EltTy → Type}
variable {Name : Type} [DecidableEq Name] {U : Type} [URA U] {Λ : Labels}
variable (T : Plan nD sig)

local notation "𝕄" => MT nD τ sig Unit Val Name U ℕ

/-- The semaphore that a copy's start counts on at home. -/
def home : T.A ⊕ T.B → T.Cell := Sum.map id Sum.inl

/-- The semaphore that `b` arrives on. -/
abbrev arrives (b : T.B) : T.Cell := .inr (.inr b)

/-- In which order a device starts and awaits: the copies of `first`; then, for each of `relayed`, the arrival of
    `after` and the copy; then the waits of `rest`. -/
structure Order where
  first : List (T.A ⊕ T.B)
  relayed : List T.B
  after : T.B → T.B
  rest : List T.Cell
  bound : ℕ
  first_nodup : first.Nodup
  relayed_nodup : relayed.Nodup
  rest_nodup : rest.Nodup
  after_inj : Set.InjOn after (relayed.toFinset : Finset T.B)
  mem_first : ∀ k, k ∈ first ↔ ∀ b ∈ relayed, Sum.inr b ≠ k
  mem_rest : ∀ k, k ∈ rest ↔ ∀ b ∈ relayed, T.arrives (after b) ≠ k
  rank_after : ∀ b ∈ relayed, T.rank (after b) ≤ bound
  rank_relayed : ∀ b ∈ relayed, bound < T.rank b

variable {T} (R : T.Order)

def Order.statements (d : Dev nD) : List (TpuEff nD τ sig Val Λ .tc PUnit) :=
  R.first.flatMap (fun k => [start d k]) ++ (R.relayed.flatMap (fun b => [T.awaitArrival (R.after b) d, T.startSent b d])
    ++ R.rest.flatMap (fun k => [await d k]))

/-! ## Counting -/

section Counting

variable {M : Type} [URA M]

theorem Order.split_starts (Φ : T.A ⊕ T.B → sProp M) :
    bigSep Finset.univ Φ = iprop(bigSep R.relayed.toFinset (fun b => Φ (.inr b)) ∗ bigSep R.first.toFinset Φ) := by
  rw [bigSep_parts (s := Finset.univ) (t := R.relayed.toFinset) (f := Sum.inr) (fun _ _ _ _ h => Sum.inr.inj h) (fun _ _ => Finset.mem_univ _)]
  congr 2
  ext k
  simp only [Finset.mem_sdiff, Finset.mem_univ, true_and, Finset.mem_image, List.mem_toFinset, R.mem_first, not_exists, not_and]

theorem Order.split_cells (Φ : T.Cell → sProp M) :
    bigSep Finset.univ Φ = iprop(bigSep R.relayed.toFinset (fun b => Φ (T.arrives (R.after b))) ∗ bigSep R.rest.toFinset Φ) := by
  rw [bigSep_parts (s := Finset.univ) (t := R.relayed.toFinset) (f := fun b => T.arrives (R.after b))
    (fun _ ha _ hb h => R.after_inj ha hb (Sum.inr.inj (Sum.inr.inj h))) (fun _ _ => Finset.mem_univ _)]
  congr 2
  ext k
  simp only [Finset.mem_sdiff, Finset.mem_univ, true_and, Finset.mem_image, List.mem_toFinset, R.mem_rest, not_exists, not_and]

theorem home_inj : Function.Injective T.home := fun x y h => by
  match x, y with
  | .inl a, .inl a' => exact congrArg Sum.inl (Sum.inl.inj h)
  | .inl a, .inr b' => cases h
  | .inr b, .inl a' => cases h
  | .inr b, .inr b' => exact congrArg Sum.inr (Sum.inl.inj (Sum.inr.inj h))

/-- The arrivals not awaited on the way. -/
def Order.later : Finset T.B := Finset.univ \ R.relayed.toFinset.image R.after

theorem Order.split_rest (Φ : T.Cell → sProp M) :
    bigSep R.rest.toFinset Φ = iprop(bigSep Finset.univ (fun k => Φ (T.home k)) ∗ bigSep R.later (fun b => Φ (T.arrives b))) := by
  rw [bigSep_parts (s := R.rest.toFinset) (t := Finset.univ) (f := T.home) (fun _ _ _ _ h => home_inj h)
    (fun k _ => by
      rw [List.mem_toFinset, R.mem_rest]; intro b _ h
      match k with
      | .inl _ => cases h
      | .inr _ => cases h)]
  congr 1
  rw [← bigSep_image_of_injOn (s := R.later) (f := T.arrives) (fun _ _ _ _ h => Sum.inr.inj (Sum.inr.inj h)) Φ]
  congr 1
  ext k
  simp only [Finset.mem_sdiff, Finset.mem_univ, true_and, Finset.mem_image, List.mem_toFinset, R.mem_rest, Order.later, not_exists, not_and]
  match k with
  | .inl a =>
    refine ⟨fun h => absurd rfl (h.2 (.inl a)), ?_⟩
    rintro ⟨b, -, h⟩; cases h
  | .inr (.inl b) =>
    refine ⟨fun h => absurd rfl (h.2 (.inr b)), ?_⟩
    rintro ⟨b, -, h⟩; cases h
  | .inr (.inr b) =>
    constructor
    · rintro ⟨h, -⟩
      exact ⟨b, fun x hx e => h x hx (by rw [e]), rfl⟩
    · rintro ⟨b', h, e⟩
      obtain rfl := Sum.inr.inj (Sum.inr.inj e)
      refine ⟨fun x hx e => h x hx (Sum.inr.inj (Sum.inr.inj e)), fun k e => ?_⟩
      match k with
      | .inl _ => cases e
      | .inr _ => cases e

theorem Order.split_arrivals (Φ : T.B → sProp M) :
    bigSep Finset.univ Φ = iprop(bigSep R.relayed.toFinset (fun b => Φ (R.after b)) ∗ bigSep R.later Φ) :=
  bigSep_parts (s := Finset.univ) (t := R.relayed.toFinset) (f := R.after) R.after_inj (fun _ _ => Finset.mem_univ _)

end Counting

/-! ## The body of a device -/

variable (m : (ℓ : Loc nD τ sig) → Buf Val ℓ) (v : T.Values Val)
variable (E : Emb (URounds (GSem nD τ sig) Unit) (MT nD τ sig Unit Val Name U ℕ)) [E.LandsIn (upEmb : UEmb _ (MT nD τ sig Unit Val Name U ℕ))]
variable {defs : Defs nD τ sig Val Λ} (𝒱 : Variants) (κ : GSem nD τ sig → Name) (d : Dev nD)

/-- What a copy takes of its source. -/
def source (q : T.A ⊕ T.B → PosShare TreeShare) (d : Dev nD) : T.A ⊕ T.B → sProp 𝕄
  | .inl a => lent (q (.inl a)) (T.own a d) d (v.own a d)
  | .inr b => lent (q (.inr b)) (T.sent b d) d (v.sent b d)

/-- The room a copy fills. -/
def fills (d : Dev nD) : T.A ⊕ T.B → sProp 𝕄
  | .inl a => room (T.own a d) d
  | .inr b => room (T.sent b d) (T.peer b d)

/-- The rights to credit that a copy takes. -/
def rights (d : Dev nD) : T.A ⊕ T.B → sProp 𝕄
  | .inl a => right E d (.inl a)
  | .inr b => iprop(right E d (.inr (.inl b)) ∗ right E (T.peer b d) (.inr (.inr b)))

/-- What a copy makes the device owe. -/
def owed (d : Dev nD) : T.A ⊕ T.B → CellTallies nD τ sig Unit
  | .inl _ => 0
  | .inr b => due T d b

def expects (d : Dev nD) (k : T.Cell) : sProp 𝕄 := cred (tallyAt (T.cell d k) () (T.units k))

variable {m v E κ 𝒱 d}

theorem does_start {ok : CellTallies nD τ sig Unit → Prop} (q : T.A ⊕ T.B → PosShare TreeShare) (k : T.A ⊕ T.B) :
    Does m v E (defs := defs) 𝒱 κ d ok iprop((source v q d k ∗ fills d k) ∗ rights E d k) (owed d k) (expects d (T.home k)) [start d k] := by
  match k with
  | .inl a => exact (does_startOwn a (q (.inl a))).mono sep_assoc.1 Entails.refl
  | .inr b => exact (does_startSent b (q (.inr b))).mono sep_assoc.1 Entails.refl

theorem does_relay {n : ℕ} (q : PosShare TreeShare) (b : T.B) (hb : n < T.rank b) (b₀ : T.B) (hb₀ : T.rank b₀ ≤ n) (kept : sProp 𝕄)
    (hkept : (brought m v d (T.arrives b₀) : sProp 𝕄) ⊢ iprop(kept ∗ lent q (T.sent b d) d (v.sent b d))) :
    Does m v E (defs := defs) 𝒱 κ d (Above T n)
      iprop((expects d (T.arrives b₀) ∗ atPos E (T.cell d (T.arrives b₀)) 0 ∅ 0) ∗ (fills d (.inr b) ∗ rights E d (.inr b)))
      (due T d b) iprop((kept ∗ atPos E (T.cell d (T.arrives b₀)) 1 ∅ 0) ∗ expects d (T.home (.inr b)))
      [T.awaitArrival b₀ d, T.startSent b d] := by
  have h₁ := (does_await (m := m) (v := v) (defs := defs) (𝒱 := 𝒱) (κ := κ) (d := d) (ok := Above T n) (E := E) (T.arrives b₀) (await d (T.arrives b₀))
    (wpE_await (T.arrives b₀)) (fun O hO => mayWait_of_above hO (T.arrives b₀)
      (by unfold lv; dsimp only; rw [T.ofSem_sem]; exact hb₀))).frame (R := iprop(fills d (.inr b) ∗ rights E d (.inr b)))
  have h₂ := ((does_startSent (m := m) (v := v) (defs := defs) (𝒱 := 𝒱) (κ := κ) (d := d) (ok := Above T n) (E := E) b q).frame
    (R := iprop(kept ∗ atPos E (T.cell d (T.arrives b₀)) 1 ∅ 0))).mono
    (A' := iprop((brought m v d (T.arrives b₀) ∗ atPos E (T.cell d (T.arrives b₀)) 1 ∅ 0) ∗ (fills d (.inr b) ∗ rights E d (.inr b))))
    (B' := iprop((kept ∗ atPos E (T.cell d (T.arrives b₀)) 1 ∅ 0) ∗ expects d (T.home (.inr b))))
    (by
      unfold fills rights
      iintro ⟨⟨Hb, Hat⟩, ⟨Hf, Hr⟩⟩
      ihave H := hkept $$ Hb
      icases H with ⟨Hk, Hl⟩
      isplitl [Hf Hr Hl]
      · isplitl [Hl]; · iexact Hl
        isplitl [Hf]; · iexact Hf
        iexact Hr
      isplitl [Hk] <;> iassumption) sep_comm.1
  have h := h₁.append h₂ fun O hO => (above_due hb).add hO
  rw [zero_add] at h
  exact h

theorem does_rest (k : T.Cell) :
    Does m v E (defs := defs) 𝒱 κ d (· = 0) iprop(expects d k ∗ atPos E (T.cell d k) 0 ∅ 0) 0
      iprop(brought m v d k ∗ atPos E (T.cell d k) 1 ∅ 0) [await d k] :=
  does_await k (await d k) (wpE_await k) fun O hO => mayWait_zero k hO

variable (m v E d) in
/-- What a device starts from: the sources of the first copies, the rooms all its copies fill, the rights to credit, the
    arrivals to expect, and its own semaphores. -/
def begins (q : T.A ⊕ T.B → PosShare TreeShare) : sProp 𝕄 :=
  iprop((bigSep R.first.toFinset (source v q d) ∗ bigSep Finset.univ (fills (Val := Val) (T := T) d))
    ∗ bigSep Finset.univ (rights (T := T) E d) ∗ bigSep Finset.univ (fun b : T.B => expects d (T.arrives b))
    ∗ bigSep Finset.univ fun k : T.Cell => atPos E (T.cell d k) 0 ∅ 0)

variable (m v E d) in
/-- What it ends with: everything that arrived, but what was passed on. -/
def ends (kept : T.B → sProp 𝕄) : sProp 𝕄 :=
  iprop((bigSep R.rest.toFinset (brought m v d) ∗ bigSep R.relayed.toFinset kept)
    ∗ bigSep Finset.univ fun k : T.Cell => atPos E (T.cell d k) 1 ∅ 0)

theorem does_order (q : T.A ⊕ T.B → PosShare TreeShare) (q' : PosShare TreeShare) (kept : T.B → sProp 𝕄)
    (hkept : ∀ b ∈ R.relayed, (brought m v d (T.arrives (R.after b)) : sProp 𝕄) ⊢ iprop(kept b ∗ lent q' (T.sent b d) d (v.sent b d))) :
    Does m v E (defs := defs) 𝒱 κ d (· = 0) (begins R v E d q) (∑ b, due T d b) (ends R m v E d kept) (R.statements d) := by
  have p₁ := (Does.list (m := m) (v := v) (defs := defs) (𝒱 := 𝒱) (κ := κ) (d := d) (ok := fun _ => True) (E := E) R.first R.first_nodup _ _ _ _
    (fun k _ => does_start (m := m) (v := v) (E := E) (defs := defs) (𝒱 := 𝒱) (κ := κ) (d := d) q k) (fun _ _ _ _ => trivial))
  have p₂ := (Does.list (m := m) (v := v) (defs := defs) (𝒱 := 𝒱) (κ := κ) (d := d) (ok := Above T R.bound) (E := E) R.relayed R.relayed_nodup _ _ _ _
    (fun b hb => does_relay (m := m) (v := v) (E := E) (defs := defs) (𝒱 := 𝒱) (κ := κ) (d := d) q' b (R.rank_relayed b hb) (R.after b) (R.rank_after b hb) (kept b) (hkept b hb))
    (fun b hb O hO => (above_due (R.rank_relayed b hb)).add hO))
  have p₃ := (Does.list (m := m) (v := v) (defs := defs) (𝒱 := 𝒱) (κ := κ) (d := d) (ok := (· = 0)) (E := E) R.rest R.rest_nodup _ _ _ _
    (fun k _ => does_rest (m := m) (v := v) (E := E) (defs := defs) (𝒱 := 𝒱) (κ := κ) (d := d) k) (fun _ _ O hO => by rw [hO, zero_add]))
  rw [Finset.sum_const_zero] at p₃
  -- the copies first started, beside the rest
  have c₁ : (begins R v E d q : sProp 𝕄) ⊢ iprop(bigSep R.first.toFinset (fun k => iprop((source v q d k ∗ fills d k) ∗ rights E d k))
      ∗ ((bigSep R.relayed.toFinset (fun b => fills d (.inr b)) ∗ bigSep R.relayed.toFinset (fun b => rights E d (.inr b)))
        ∗ bigSep Finset.univ (fun b : T.B => expects d (T.arrives b)) ∗ bigSep Finset.univ fun k : T.Cell => atPos E (T.cell d k) 0 ∅ 0)) := by
    unfold begins
    rw [R.split_starts (fills d), R.split_starts (rights E d), bigSep_sep', bigSep_sep']
    iintro ⟨⟨Hs, Hf, Hf'⟩, ⟨Hr, Hr'⟩, He, Ha⟩
    isplitl [Hs Hf' Hr']
    · isplitl [Hs Hf']
      · isplitl [Hs] <;> iassumption
      iexact Hr'
    isplitl [Hf Hr]
    · isplitl [Hf] <;> iassumption
    isplitl [He] <;> iassumption
  have c₂ : iprop(bigSep R.first.toFinset (fun k => expects d (T.home k))
      ∗ ((bigSep R.relayed.toFinset (fun b => fills d (.inr b)) ∗ bigSep R.relayed.toFinset (fun b => rights E d (.inr b)))
        ∗ bigSep Finset.univ (fun b : T.B => expects d (T.arrives b)) ∗ bigSep Finset.univ fun k : T.Cell => atPos E (T.cell d k) 0 ∅ 0))
      ⊢ (iprop(bigSep R.relayed.toFinset (fun b => iprop((expects d (T.arrives (R.after b)) ∗ atPos E (T.cell d (T.arrives (R.after b))) 0 ∅ 0)
          ∗ (fills d (.inr b) ∗ rights E d (.inr b))))
        ∗ (bigSep R.first.toFinset (fun k => expects d (T.home k)) ∗ bigSep R.later (fun b => expects d (T.arrives b))
          ∗ bigSep R.rest.toFinset fun k : T.Cell => atPos E (T.cell d k) 0 ∅ 0)) : sProp 𝕄) := by
    rw [R.split_arrivals (fun b => expects d (T.arrives b)), R.split_cells (fun k => atPos E (T.cell d k) 0 ∅ 0), bigSep_sep', bigSep_sep', bigSep_sep']
    iintro ⟨Hh, ⟨Hf, Hr⟩, ⟨He, He'⟩, Ha, Ha'⟩
    isplitl [He Ha Hf Hr]
    · isplitl [He Ha]
      · isplitl [He] <;> iassumption
      isplitl [Hf] <;> iassumption
    isplitl [Hh]; · iexact Hh
    isplitl [He'] <;> iassumption
  have c₃ : iprop(bigSep R.relayed.toFinset (fun b => iprop((kept b ∗ atPos E (T.cell d (T.arrives (R.after b))) 1 ∅ 0) ∗ expects d (T.home (.inr b))))
        ∗ (bigSep R.first.toFinset (fun k => expects d (T.home k)) ∗ bigSep R.later (fun b => expects d (T.arrives b))
          ∗ bigSep R.rest.toFinset fun k : T.Cell => atPos E (T.cell d k) 0 ∅ 0))
      ⊢ (iprop(bigSep R.rest.toFinset (fun k => iprop(expects d k ∗ atPos E (T.cell d k) 0 ∅ 0))
        ∗ bigSep R.relayed.toFinset (fun b => iprop(kept b ∗ atPos E (T.cell d (T.arrives (R.after b))) 1 ∅ 0))) : sProp 𝕄) := by
    rw [bigSep_sep' R.rest.toFinset, R.split_rest (fun k => expects d k), R.split_starts (fun k => expects d (T.home k)), bigSep_sep' R.relayed.toFinset]
    iintro ⟨⟨Hk, Hs⟩, Hh, Hl, Ha⟩
    isplitr [Hk]
    · isplitr [Ha]
      · isplitr [Hl]
        · isplitl [Hs] <;> iassumption
        iexact Hl
      iexact Ha
    iexact Hk
  have c₄ : iprop(bigSep R.rest.toFinset (fun k => iprop(brought m v d k ∗ atPos E (T.cell d k) 1 ∅ 0))
        ∗ bigSep R.relayed.toFinset (fun b => iprop(kept b ∗ atPos E (T.cell d (T.arrives (R.after b))) 1 ∅ 0)))
      ⊢ (ends R m v E d kept : sProp 𝕄) := by
    unfold ends
    rw [bigSep_sep', bigSep_sep', R.split_cells (fun k => atPos E (T.cell d k) 1 ∅ 0)]
    iintro ⟨⟨Hb, Ha⟩, Hk, Ha'⟩
    isplitl [Hb Hk]
    · isplitl [Hb] <;> iassumption
    isplitl [Ha'] <;> iassumption
  have h := ((p₁.frame).mono c₁ c₂).append (((p₂.frame).mono Entails.refl c₃).append ((p₃.frame).mono Entails.refl c₄)
    (fun O hO => by rw [hO, zero_add]; exact above_zero R.bound)) (fun _ _ => trivial)
  have e : ∑ b, due (τ := τ) T d b = (∑ k ∈ R.first.toFinset, owed d k) + ((∑ b ∈ R.relayed.toFinset, due T d b) + 0) := by
    have e₁ : ∑ k : T.A ⊕ T.B, owed (τ := τ) d k = ∑ b, due T d b := by
      rw [Fintype.sum_sum_type]
      simp only [owed, Finset.sum_const_zero, zero_add]
    have e₂ : R.first.toFinset = Finset.univ \ R.relayed.toFinset.image Sum.inr := by
      ext k
      simp only [Finset.mem_sdiff, Finset.mem_univ, true_and, Finset.mem_image, List.mem_toFinset, R.mem_first, not_exists, not_and]
    have e₃ := Finset.sum_sdiff (Finset.subset_univ (R.relayed.toFinset.image (Sum.inr (α := T.A)))) (f := fun k => owed (τ := τ) d k)
    rw [Finset.sum_image (fun _ _ _ _ h => Sum.inr.inj h)] at e₃
    rw [← e₁, e₂, add_zero]
    exact e₃.symm
  rw [e]
  exact h

/-! ## The launch -/

section Launch

variable (nD τ sig) in
/-- The ghost state: the rounds of the pipeline's semaphores (here none) and those of the plan. -/
abbrev UU : Type := UR sig nD τ × URounds (GSem nD τ sig) Unit

local notation "𝕎" => MT nD τ sig Unit Val ℕ (UU nD τ sig) ℕ

abbrev EP : Emb (UR sig nD τ) (MT nD τ sig Unit Val ℕ (UU nD τ sig) ℕ) := embL
abbrev ER : Emb (URounds (GSem nD τ sig) Unit) (MT nD τ sig Unit Val ℕ (UU nD τ sig) ℕ) := embR

variable {m : (ℓ : Loc nD τ sig) → Buf Val ℓ} {v : T.Values Val}

/-- What every device holds of each copy it sends, held instead by the device it is sent to. -/
theorem around (Φ : Dev nD → T.B → sProp 𝕎) :
    (bigSep Finset.univ fun d => bigSep Finset.univ fun b => Φ d b) = bigSep Finset.univ fun d => bigSep Finset.univ fun b => Φ (T.peer b d) b := by
  rw [BI.bigSep_univ_comm Φ, BI.bigSep_univ_comm fun d b => Φ (T.peer b d) b]
  exact bigSep_congr fun b _ => BI.bigSep_univ_equiv (T.peer b) fun d => Φ d b

variable (T) in
def cellEmb : Dev nD × T.Cell ↪ GSem nD τ sig := ⟨fun x => T.cell x.1 x.2, T.cell_inj⟩

variable (T) in
def tokEmb : Dev nD × T.Cell ↪ GSem nD τ sig × ℕ × Unit :=
  ⟨fun x => (T.cell x.1 x.2, 0, ()), fun _ _ h => T.cell_inj (congrArg Prod.fst h)⟩

variable (T) in
/-- The rounds of the plan at the launch. -/
def rounds₀ : URounds (GSem nD τ sig) Unit := launchOf (Finset.univ.map T.cellEmb) ∅ (Finset.univ.map T.tokEmb)

/-- All the semaphores at zero are put under the plan. -/
theorem semaphores :
    (iprop((bigSep Finset.univ fun c : Dev nD => ownSems0 (fun k : T.Cell => SemLoc.dma (T.sem k)) c) ∗ BI.own (ER (rounds₀ (τ := τ) T))) : sProp 𝕎)
      ⊢ |={Set.univ}=> ∃ κ : GSem nD τ sig → ℕ,
        (bigSep (Finset.univ : Finset (Dev nD × T.Cell)) fun x => cellInv ER (sched m v) (κ (T.cell x.1 x.2)) (T.cell x.1 x.2))
        ∗ (bigSep Finset.univ fun d : Dev nD => bigSep Finset.univ fun k : T.Cell => atPos ER (T.cell d k) 0 ∅ 0)
        ∗ bigSep Finset.univ fun d : Dev nD => bigSep Finset.univ fun k : T.Cell => right ER d k := by
  have e₁ : (bigSep Finset.univ fun c : Dev nD => ownSems0 (fun k : T.Cell => SemLoc.dma (T.sem k)) c : sProp 𝕎)
      = bigSep (Finset.univ.map T.cellEmb) fun g => semVal g 0 := by
    rw [BI.bigSep_map, BI.bigSep_univ_prod]; rfl
  have e₂ (Φ : GSem nD τ sig → sProp 𝕎) : bigSep (Finset.univ.map T.cellEmb) Φ
      = bigSep Finset.univ fun d : Dev nD => bigSep Finset.univ fun k : T.Cell => Φ (T.cell d k) := by
    rw [BI.bigSep_map, BI.bigSep_univ_prod]; rfl
  have e₃ : (bigSep (Finset.univ.map (T.tokEmb (τ := τ))) fun x => dutyTok ER x.1 x.2.1 x.2.2 : sProp 𝕎)
      = bigSep Finset.univ fun d : Dev nD => bigSep Finset.univ fun k : T.Cell => dutyTok ER (T.cell d k) 0 () := by
    rw [BI.bigSep_map, BI.bigSep_univ_prod]; rfl
  have e₄ : (bigSep Finset.univ fun d : Dev nD => bigSep Finset.univ fun k : T.Cell => right ER d k : sProp 𝕎)
      = iprop((bigSep Finset.univ fun d : Dev nD => bigSep Finset.univ fun k : T.Cell => dutyTok ER (T.cell d k) 0 ())
        ∗ bigSep Finset.univ fun d : Dev nD => bigSep Finset.univ fun k : T.Cell => reached ER (T.cell d k) 0) := by
    unfold right
    rw [← bigSep_sep']
    exact bigSep_congr fun d _ => bigSep_sep' ..
  rw [e₁, e₄]
  unfold rounds₀
  iintro ⟨Hv, Hu⟩
  imod (Rounds.fund_launch ER (sched m v) (S := Finset.univ.map T.cellEmb) (Sd := ∅) (Finset.disjoint_empty_right _) (fun g _ h => h) (Finset.univ.map T.tokEmb)
    (Es := Set.univ)) $$ [Hv Hu] with ⟨%κ, -, Hinv, Hr, Hat, -, Htok⟩
  · isplitl [Hv] <;> iassumption
  imodintro
  iexists κ
  isplitl [Hinv]
  · rw [Finset.union_empty]
    have e : (bigSep (Finset.univ.map T.cellEmb) fun g => cellInv ER (sched m v) (κ g) g : sProp 𝕎)
      = bigSep (Finset.univ : Finset (Dev nD × T.Cell)) fun x => cellInv ER (sched m v) (κ (T.cell x.1 x.2)) (T.cell x.1 x.2) := BI.bigSep_map _
    iapply (Entails.of_eq e)
    iexact Hinv
  isplitl [Hat]
  · iapply (Entails.of_eq (e₂ fun g => atPos ER g 0 ∅ 0)); iexact Hat
  isplitl [Htok]
  · iapply (Entails.of_eq e₃); iexact Htok
  iapply (Entails.of_eq (e₂ fun g => reached ER g 0)); iexact Hr

/-- The rights to credit, dealt to the devices whose copies credit. -/
theorem rights_dealt :
    (bigSep Finset.univ fun d : Dev nD => bigSep Finset.univ fun k : T.Cell => right ER d k : sProp 𝕎)
      = bigSep Finset.univ fun d : Dev nD => bigSep Finset.univ (rights (T := T) ER d) := by
  have e₁ (d : Dev nD) : (bigSep Finset.univ fun k : T.Cell => right ER d k : sProp 𝕎)
      = iprop((bigSep Finset.univ fun a : T.A => right ER d (.inl a)) ∗ (bigSep Finset.univ fun b : T.B => right ER d (.inr (.inl b)))
        ∗ bigSep Finset.univ fun b : T.B => right ER d (.inr (.inr b))) := by
    rw [BI.bigSep_univ_sum, BI.bigSep_univ_sum]; rfl
  have e₂ (d : Dev nD) : (bigSep Finset.univ (rights (T := T) ER d) : sProp 𝕎)
      = iprop((bigSep Finset.univ fun a : T.A => right ER d (.inl a)) ∗ (bigSep Finset.univ fun b : T.B => right ER d (.inr (.inl b)))
        ∗ bigSep Finset.univ fun b : T.B => right ER (T.peer b d) (.inr (.inr b))) := by
    rw [BI.bigSep_univ_sum, ← bigSep_sep']; rfl
  rw [bigSep_congr fun d _ => e₁ d, bigSep_congr fun d _ => e₂ d, bigSep_sep', bigSep_sep', bigSep_sep', bigSep_sep',
    around fun d b => right ER d (.inr (.inr b))]

/-- The rooms, dealt to the devices whose copies fill them. -/
theorem rooms_dealt :
    (bigSep Finset.univ fun c : Dev nD => iprop((bigSep Finset.univ fun a : T.A => room (T.own a c) c)
        ∗ bigSep Finset.univ fun b : T.B => room (T.sent b ((T.peer b).symm c)) c) : sProp 𝕎)
      = bigSep Finset.univ fun d : Dev nD => bigSep Finset.univ (fills (Val := Val) (T := T) d) := by
  have e₂ (d : Dev nD) : (bigSep Finset.univ (fills (Val := Val) (T := T) d) : sProp 𝕎)
      = iprop((bigSep Finset.univ fun a : T.A => room (T.own a d) d) ∗ bigSep Finset.univ fun b : T.B => room (T.sent b d) (T.peer b d)) := by
    rw [BI.bigSep_univ_sum]; rfl
  rw [bigSep_congr fun d _ => e₂ d, bigSep_sep', bigSep_sep', around fun c b => room (T.sent b ((T.peer b).symm c)) c]
  simp only [Equiv.symm_apply_apply]

/-- What a device is owed. -/
theorem arrivals_owed (c : Dev nD) :
    (launchCred (fun d => ∑ b, due T d b) c : sProp 𝕎) ⊢ bigSep Finset.univ fun b : T.B => expects c (T.arrives b) := by
  suffices e : ∀ b : T.B, (cred (tallyOn (T.cell c (T.arrives b)) (launchCredit (owing fun d => ∑ b, due T d b) 0 (T.cell c (T.arrives b)))) : sProp 𝕎)
      = expects c (T.arrives b) by
    unfold launchCred
    rw [bigSep_parts (t := (Finset.univ : Finset T.B)) (f := fun b => SemLoc.dma (T.sem (T.arrives b)))
      (fun b _ b' _ h => Sum.inr.inj (Sum.inr.inj (T.sem_inj (SemLoc.dma.inj h)))) fun _ _ => Finset.mem_univ _, bigSep_congr fun b _ => e b]
    exact sep_elim_left
  intro b
  unfold expects tallyAt
  refine congrArg (fun t => cred (tallyOn (T.cell c (T.arrives b)) t)) (Finsupp.ext fun i => ?_)
  rw [launchCredit_owing, Finsupp.single_apply, if_pos rfl]
  have h (d : Dev nD) (b' : T.B) : due T d b' (T.cell (τ := τ) c (T.arrives b)) i = if d = (T.peer b).symm c ∧ b' = b then T.sentUnits b else 0 := by
    unfold due
    rw [tallyAt_apply]
    by_cases hh : d = (T.peer b).symm c ∧ b' = b
    · obtain ⟨rfl, rfl⟩ := hh
      rw [Equiv.apply_symm_apply, if_pos ⟨rfl, rfl⟩, if_pos ⟨rfl, rfl⟩]
    · rw [if_neg hh, if_neg]
      rintro ⟨h, -⟩
      have h' := Prod.mk.inj (T.cell_inj (a₁ := (c, T.arrives b)) (a₂ := (T.peer b' d, .inr (.inr b'))) h)
      obtain rfl := Sum.inr.inj (Sum.inr.inj h'.2)
      exact hh ⟨by rw [h'.1, Equiv.symm_apply_apply], rfl⟩
  have h' (d : Dev nD) : (∑ b', due T d b') (T.cell (τ := τ) c (T.arrives b)) i = ∑ b', if d = (T.peer b).symm c ∧ b' = b then T.sentUnits b else 0 := by
    rw [Finset.sum_apply, Finsupp.finset_sum_apply]
    exact Finset.sum_congr rfl fun b' _ => h d b'
  rw [Finset.sum_congr rfl fun d _ => h' d, Finset.sum_eq_single ((T.peer b).symm c), Finset.sum_eq_single b, if_pos ⟨rfl, rfl⟩]
  · rfl
  · intro b' _ hb; exact if_neg fun h => hb h.2
  · intro h; exact absurd (Finset.mem_univ _) h
  · intro d _ hd; exact Finset.sum_eq_zero fun b' _ => if_neg fun h => hd h.1
  · intro h; exact absurd (Finset.mem_univ _) h

variable (m v) in
/-- What a device holds when the kernel starts on it. -/
def holds (q : T.A ⊕ T.B → PosShare TreeShare) (Keep : Dev nD → sProp 𝕎) (c : Dev nD) : sProp 𝕎 :=
  iprop(∃ κ : GSem nD τ sig → ℕ,
    (bigSep (Finset.univ : Finset (Dev nD × T.Cell)) fun x => cellInv ER (sched m v) (κ (T.cell x.1 x.2)) (T.cell x.1 x.2))
      ∗ begins R v ER c q ∗ Keep c)

theorem dealt (q : T.A ⊕ T.B → PosShare TreeShare) (Keep : Dev nD → sProp 𝕎)
    (hdeal : ∀ c, (unscopedBufs c (fun b => m (c.tc.loc b)) : sProp 𝕎)
      ⊢ iprop((bigSep R.first.toFinset (source v q c) ∗ Keep c)
        ∗ (bigSep Finset.univ fun a : T.A => room (T.own a c) c) ∗ bigSep Finset.univ fun b : T.B => room (T.sent b ((T.peer b).symm c)) c)) :
    (iprop((bigSep Finset.univ fun c : Dev nD => ownSems0 (fun k : T.Cell => SemLoc.dma (T.sem k)) c)
        ∗ (bigSep Finset.univ fun c => unscopedBufs c fun b => m (c.tc.loc b))
        ∗ (bigSep Finset.univ fun c => launchCred (fun d => ∑ b, due T d b) c) ∗ BI.own (ER (rounds₀ (τ := τ) T))) : sProp 𝕎)
      ⊢ |={Set.univ}=> bigSep Finset.univ (holds R m v q Keep) := by
  iintro ⟨Hs, Hb, Hc, Hu⟩
  imod (semaphores (m := m) (v := v)) $$ [Hs Hu] with ⟨%κ, #Hinv, Hat, Hr⟩
  · isplitl [Hs] <;> iassumption
  imodintro
  have hb : (bigSep Finset.univ fun c : Dev nD => unscopedBufs c (fun b => m (c.tc.loc b)) : sProp 𝕎)
      ⊢ bigSep Finset.univ fun c : Dev nD => iprop((bigSep R.first.toFinset (source v q c) ∗ Keep c)
        ∗ (bigSep Finset.univ fun a : T.A => room (T.own a c) c) ∗ bigSep Finset.univ fun b : T.B => room (T.sent b ((T.peer b).symm c)) c) :=
    bigSep_mono fun c _ => hdeal c
  rw [bigSep_sep', rooms_dealt, bigSep_sep'] at hb
  have hc : (bigSep Finset.univ fun c => launchCred (fun d => ∑ b, due T d b) c : sProp 𝕎)
      ⊢ bigSep Finset.univ fun c => bigSep Finset.univ fun b : T.B => expects c (T.arrives b) := bigSep_mono fun c _ => arrivals_owed c
  ihave Hb := hb $$ Hb
  icases Hb with ⟨⟨Hsrc, Hk⟩, Hf⟩
  ihave Hc := hc $$ Hc
  ihave Hr := (Entails.of_eq rights_dealt) $$ Hr
  iapply (BI.bigSep_with_persistent (R := bigSep (Finset.univ : Finset (Dev nD × T.Cell)) fun x => cellInv ER (sched m v) (κ (T.cell x.1 x.2)) (T.cell x.1 x.2))
    (Φ := fun c => iprop(begins R v ER c q ∗ Keep c)) fun c _ => by
      unfold holds
      iintro ⟨Hi, Hb, Hk⟩
      iexists κ
      isplitl [Hi]; · iexact Hi
      isplitl [Hb] <;> iassumption)
  isplitr; · iexact Hinv
  rw [bigSep_sep']
  unfold begins
  rw [bigSep_sep', bigSep_sep', bigSep_sep', bigSep_sep']
  isplitr [Hk]
  · isplitl [Hsrc Hf]
    · isplitl [Hsrc] <;> iassumption
    isplitl [Hr]; · iexact Hr
    isplitl [Hc] <;> iassumption
  iexact Hk

/-- All the semaphores of a device come back at zero. -/
theorem closed (κ : GSem nD τ sig → ℕ) (c : Dev nD) :
    (iprop((bigSep (Finset.univ : Finset (Dev nD × T.Cell)) fun x => cellInv ER (sched m v) (κ (T.cell x.1 x.2)) (T.cell x.1 x.2))
        ∗ bigSep Finset.univ fun k : T.Cell => atPos ER (T.cell c k) 1 ∅ 0) : sProp 𝕎)
      ⊢ |={Set.univ}=> ownSems0 (fun k : T.Cell => SemLoc.dma (T.sem k)) c := by
  refine Entails.trans (BI.bigSep_with_persistent (Ψ := fun k : T.Cell => iprop(cellInv ER (sched m v) (κ (T.cell c k)) (T.cell c k) ∗ atPos ER (T.cell c k) 1 ∅ 0)) fun k _ => ?_)
    (Rounds.cells_close ER (sched m v) Finset.univ (fun k : T.Cell => T.cell c k) (fun k => κ (T.cell c k)) (fun _ _ => Set.mem_univ _) (fun _ _ h => h)
      (fun _ => 1) fun k _ r hr => sched_duties_succ m v _ r hr)
  exact sep_mono_left (BI.bigSep_elim (Finset.mem_univ (c, k)))

section

variable {Λ₀ : Labels} {P : Type} [Fintype P] [DecidableEq P] (cfgs : P → Cfg sig Λ₀) (p : P) [∀ e, Nonempty (Val e)]

/-- The run of a kernel whose devices follow the plan: what is read of the memory at the end may use what arrived, what was
    kept of what was passed on, and what was kept from the start. -/
theorem run (q : T.A ⊕ T.B → PosShare TreeShare) (q' : PosShare TreeShare) (kept : Dev nD → T.B → sProp 𝕎) (Keep : Dev nD → sProp 𝕎)
    (hfacts : LaunchFacts (nD := nD) (τ := τ) cfgs p) (ho : OwnSemFacts (cfgs p).spec fun k : T.Cell => SemLoc.dma (T.sem k))
    (hW : ∀ q, IsEmpty (Fin (cfgs q).W)) (hN : (cfgs p).N = 1)
    (defs₀ : Defs nD τ sig Val Λ₀) (𝒱₀ : Variants)
    (g : Dev nD → PrngReg) (main : Dev nD → Prog (TpuEff nD τ sig Val (Pipeline.Sig Λ₀ P fun p => ((cfgs p).toPCfg : PCfg sig Λ₀ Val).Adm) .tc) PUnit)
    (hmain : ∀ c, main c = .op (.customCall (Pipeline.entry p) ()) fun _ => .ret ⟨⟩)
    (res : Λ₀.Result (cfgs p).body) (hprog : ∀ t : Fin (cfgs p).N, defs₀ .tc (cfgs p).body ((cfgs p).bodyArgs t ((cfgs p).slots t))
      = .op .deviceId fun d => steps (R.statements d) (.ret res))
    (hdeal : ∀ c, (unscopedBufs c (fun b => m (c.tc.loc b)) : sProp 𝕎)
      ⊢ iprop((bigSep R.first.toFinset (source v q c) ∗ Keep c)
        ∗ (bigSep Finset.univ fun a : T.A => room (T.own a c) c) ∗ bigSep Finset.univ fun b : T.B => room (T.sent b ((T.peer b).symm c)) c))
    (hkept : ∀ c, ∀ b ∈ R.relayed, (brought m v c (T.arrives (R.after b)) : sProp 𝕎) ⊢ iprop(kept c b ∗ lent q' (T.sent b c) c (v.sent b c)))
    (QY : Dev nD → ((ℓ : Loc nD τ sig) → Buf Val ℓ) → Prop)
    (hread : ∀ c s, (iprop(((bigSep R.rest.toFinset (brought m v c) ∗ bigSep R.relayed.toFinset (kept c)) ∗ Keep c) ∗ SI s) : sProp 𝕎)
      ⊢ |={Set.univ}=> iprop(⌜QY c s.mem.mem⌝ ∗ SI s)) {Q}
    (hQ : ∀ s : MemSt nD τ sig Val, (∀ c, QY c s.mem) → (∀ g' : GSem nD τ sig, (g'.1.2 ≠ .tc ∨ g'.2.isScoped .tc = true) → s.sem g' = 0) → Q (⟨⟩, s)) :
    θ_run (Pipeline.defs (fun p => ((cfgs p).toPCfg : PCfg sig Λ₀ Val)) defs₀) (onTc main) ⟨m, fun _ => 0, g⟩ Q := by
  refine Cert.Moves.run cfgs p hfacts ho hW hN () EP defs₀ 𝒱₀ m g main hmain (fun d => ∑ b, due T d b) L (lv T)
    (fun g h => if_neg h) (BI.own (ER (rounds₀ (τ := τ) T)))
    (initOf (Pipeline.cells cfgs hfacts.cellOf_inj) (Pipeline.launchToks cfgs hfacts.cellOf_inj), rounds₀ T) ?_
    (holds R m v q Keep) (dealt R q Keep hdeal)
    (fun c => iprop((bigSep R.rest.toFinset (brought m v c) ∗ bigSep R.relayed.toFinset (kept c)) ∗ Keep c)) ?_
    (fun c s => QY c s.mem) hread hQ
  · iintro Hu
    ihave H := (ownU_pair _ _) $$ Hu
    imodintro
    iexact H
  · intro c t W
    rw [hprog t, wp_op]
    unfold holds
    iintro ⟨⟨%κ, #Hi, Hb, Hk⟩, #Hl, HO⟩
    imodintro
    rw [wpE_deviceId_eq]
    have h := does_order R (m := m) (v := v) (E := ER) (κ := κ) (d := c) (𝒱 := 𝒱₀) (defs := defs₀) q q' (kept c) (hkept c) 0 rfl W (.ret res)
      (fun _ => iprop(((bigSep R.rest.toFinset (brought m v c) ∗ bigSep R.relayed.toFinset (kept c)) ∗ Keep c)
        ∗ ownSems0 (fun k : T.Cell => SemLoc.dma (T.sem k)) c ∗ ∃ W', owes c.tc 0 W'))
    iapply h $$ [Hb HO]
    · unfold ctx
      isplitr
      · isplitr; · iexact Hi
        iexact Hl
      isplitl [Hb]; · iexact Hb
      rw [add_zero]; iexact HO
    iintro %W' ⟨He, HO⟩
    rw [wp_ret]
    unfold ends
    icases He with ⟨He, Ha⟩
    imod (closed (m := m) (v := v) κ c) $$ [Ha] with Hs
    · isplitr; · iexact Hi
      iexact Ha
    imodintro
    isplitl [He Hk]
    · isplitl [He] <;> iassumption
    isplitl [Hs]; · iexact Hs
    iexists W'; iexact HO

end

end Launch

end Cert.Moves.Plan

end
-- ==== Proof.Places.lean ====
/-
# From whole arrays to copies and back

A device holds its arrays whole. The arrays divide into those that are read, of which every copy borrows a share and one
share stays, and those that are filled, in which every copy has a room of its own. The file cuts the arrays into what the
copies take, and reads at the end, of the final memory, that every room holds the value its copy brought and that the
arrays read are what they were.
-/
module

public import proofs.«01_k».proof.Proof.Run

@[expose] public section

set_option Elab.async false

noncomputable section

namespace Cert.Moves.Plan

open Idealize.ShloMosaic Idealize.ShloMosaic.TcCoe
open Idealize.SL
open Idealize.SL.BI (sProp bigSep bigSep_sep' bigSep_mono bigSep_congr bigSep_insert bigSep_image_of_injOn bigSep_filter_split bigSep_fiberwise)
open scoped Idealize.SL.BI
open Idealize.SL.BI.BIBase Idealize.SL.BI.Laws Idealize.SL.Sem Idealize.SL.ProofMode
open Idealize.SL.RA
open Idealize.ShloMosaic.Rounds Idealize.ShloMosaic.Pipeline

variable {nD : Nat} {τ : Topo} {sig : RefSig} {Val : EltTy → Type}

local notation "𝕎" => MT nD τ sig Unit Val ℕ (UU nD τ sig) ℕ

/-! ## What a memref holds -/

/-- What the memref `M` of device `c` holds. -/
abbrev held {s : Shape} {e : EltTy} (mem : (ℓ : Loc nD τ sig) → Buf Val ℓ) (c : Dev nD) (M : Memref sig .tc .hbm s e) : s.Idx → Val e :=
  M.view.read Val (mem (M.view.loc (c.tc : Thread nD τ)))

/-- The element of memory under an index of a memref. -/
abbrev touch (τ : Topo) {s : Shape} {e : EltTy} (M : Memref sig .tc .hbm s e) (c : Dev nD) (x : s.Idx) : Σ ℓ : Loc nD τ sig, Idx ℓ :=
  ⟨M.view.loc (c.tc : Thread nD τ), M.view.emb x⟩

/-- Index `x` of the memref `M` is index `y` of `N`. -/
structure Under (nD : ℕ) (τ : Topo) {s s' : Shape} {e : EltTy} (M : Memref sig .tc .hbm s e) (x : s.Idx) (N : Memref sig .tc .hbm s' e) (y : s'.Idx) : Prop where
  touch_eq : ∀ c : Dev nD, touch τ M c x = touch τ N c y
  held_eq : ∀ {Val : EltTy → Type} (mem : (ℓ : Loc nD τ sig) → Buf Val ℓ) (c : Dev nD), held mem c M x = held mem c N y

theorem Under.rfl' {s : Shape} {e : EltTy} {M : Memref sig .tc .hbm s e} {x y : s.Idx} (h : x = y) : Under nD τ M x M y := by
  subst h
  exact ⟨fun _ => rfl, fun _ _ => rfl⟩

theorem Under.trans {s s' s'' : Shape} {e : EltTy} {M : Memref sig .tc .hbm s e} {x : s.Idx} {N : Memref sig .tc .hbm s' e} {y : s'.Idx}
    {O : Memref sig .tc .hbm s'' e} {z : s''.Idx} (h : Under nD τ M x N y) (h' : Under nD τ N y O z) : Under nD τ M x O z :=
  ⟨fun c => (h.touch_eq c).trans (h'.touch_eq c), fun mem c => (h.held_eq mem c).trans (h'.held_eq mem c)⟩

theorem under_slice {s : Shape} {e : EltTy} (M : Memref sig .tc .hbm s e) (r : Rect s) (hr : ∀ a, r.stride a = 1) (x : r.shape.Idx) (y : s.Idx) (h : r.emb x = y) :
    Under nD τ (M.slice r hr) x M y := by
  subst h
  exact ⟨fun _ => rfl, fun _ _ => rfl⟩

theorem under_squeeze {s s' : Shape} {e : EltTy} (M : Memref sig .tc .hbm s e) (h : s.Squeezes s') (x : s'.Idx) (y : s.Idx) (hxy : Shape.reshapeEquiv h.numel_eq x = y) :
    Under nD τ (M.squeeze s' h) x M y := by
  subst hxy
  exact ⟨fun _ => rfl, fun _ _ => rfl⟩

/-! ## Shares -/

/-- The share of the `n`-th borrower; `fullShare.left` stays. -/
def share (n : ℕ) : PosShare TreeShare := (PosShare.right^[n] fullShare.right).left

theorem shares {ℓ : Loc nD τ sig} (f : Buf Val ℓ) (n : ℕ) :
    (ℓ ↦{fullShare} f : sProp 𝕎) ⊢ iprop((ℓ ↦{fullShare.left} f) ∗ bigSep (Finset.range n) fun i => ℓ ↦{share i} f) := by
  have h : ∀ n, (ℓ ↦{fullShare.right} f : sProp 𝕎) ⊢ iprop((bigSep (Finset.range n) fun i => ℓ ↦{share i} f) ∗ ℓ ↦{PosShare.right^[n] fullShare.right} f) := by
    intro n
    induction n with
    | zero => rw [Finset.range_zero, BI.bigSep_empty]; exact emp_sep.2
    | succ n ih =>
      refine ih.trans ?_
      rw [Finset.range_add_one, bigSep_insert Finset.notMem_range_self, Function.iterate_succ_apply']
      show _ ⊢ iprop(((ℓ ↦{share n} f) ∗ bigSep (Finset.range n) fun i => ℓ ↦{share i} f) ∗ _)
      iintro ⟨H, Hr⟩
      ihave Hr := (pointsTo_share (PosShare.mem_left_op_right _)).1 $$ Hr
      icases Hr with ⟨Hl, Hr⟩
      isplitr [Hr]
      · isplitl [Hl]
        · unfold share; iexact Hl
        iexact H
      iexact Hr
  refine (pointsTo_share (PosShare.mem_left_op_right _)).1.trans (sep_mono_right ((h n).trans ?_))
  iintro ⟨H, -⟩
  iexact H

/-! ## One array -/

/-- The elements of the location `ℓ` that a copy fills on device `c`. -/
def filled (C : Copy sig) (c : Dev nD) (ℓ : Loc nD τ sig) : Finset (Idx ℓ) :=
  open Classical in Finset.univ.filter fun x => ∃ i, (⟨C.dst.view.loc (c.tc : Thread nD τ), C.dst.view.emb i⟩ : Σ ℓ : Loc nD τ sig, Idx ℓ) = ⟨ℓ, x⟩

theorem filled_own (C : Copy sig) (c : Dev nD) : filled C c (C.dst.view.loc (c.tc : Thread nD τ)) = C.dst.view.set := by
  ext x
  unfold filled
  rw [Finset.mem_filter]
  constructor
  · rintro ⟨-, i, h⟩
    rw [← eq_of_heq (Sigma.mk.inj h).2]
    exact View.emb_mem_set _ i
  · intro h
    obtain ⟨i, -, rfl⟩ := Finset.mem_map.mp h
    exact ⟨Finset.mem_univ _, i, rfl⟩

theorem room_of_filled (C : Copy sig) (c : Dev nD) (ℓ : Loc nD τ sig) (f : Buf Val ℓ) (h : C.dst.view.loc (c.tc : Thread nD τ) = ℓ) :
    (ℓ ↦[filled C c ℓ]{fullShare} f : sProp 𝕎) ⊢ room C c := by
  subst h
  rw [filled_own]
  unfold room
  iintro H
  iexists f
  iexact H

/-- Copies that fill different elements of an array have their rooms in it. -/
theorem rooms_of_whole {X : Type} [DecidableEq X] (K : Finset X) (C : X → Copy sig) (c : Dev nD) (ℓ : Loc nD τ sig) (f : Buf Val ℓ)
    (hr : ∀ k ∈ K, (C k).dst.view.loc (c.tc : Thread nD τ) = ℓ)
    (hd : ∀ k k' i i', (⟨(C k).dst.view.loc (c.tc : Thread nD τ), (C k).dst.view.emb i⟩ : Σ ℓ : Loc nD τ sig, Idx ℓ)
      = ⟨(C k').dst.view.loc (c.tc : Thread nD τ), (C k').dst.view.emb i'⟩ → k = k') :
    (ℓ ↦{fullShare} f : sProp 𝕎) ⊢ bigSep K fun k => room (C k) c := by
  have hdis : ∀ k ∈ K, ∀ k' ∈ K, k ≠ k' → Disjoint (filled (C k) c ℓ) (filled (C k') c ℓ) := by
    intro k _ k' _ hne
    rw [Finset.disjoint_left]
    intro x hx hx'
    obtain ⟨-, i, hi⟩ := Finset.mem_filter.mp hx
    obtain ⟨-, i', hi'⟩ := Finset.mem_filter.mp hx'
    exact hne (hd k k' i i' (hi.trans hi'.symm))
  refine (pointsTo_split_subset (Finset.subset_univ (K.biUnion fun k => filled (C k) c ℓ))).1.trans ?_
  rw [pointsTo_biUnion K (fun k => filled (C k) c ℓ) hdis]
  iintro ⟨H, -⟩
  have h : (bigSep K fun k => ℓ ↦[filled (C k) c ℓ]{fullShare} f) ⊢ (bigSep K fun k => room (C k) c : sProp 𝕎) :=
    bigSep_mono fun k hk => room_of_filled (C k) c ℓ f (hr k hk)
  iapply h
  iexact H

variable (m : (ℓ : Loc nD τ sig) → Buf Val ℓ)

theorem lent_of_whole (q : PosShare TreeShare) (C : Copy sig) (c : Dev nD) (ℓ : Loc nD τ sig) (h : C.src.view.loc (c.tc : Thread nD τ) = ℓ) :
    (ℓ ↦{q} m ℓ : sProp 𝕎) ⊢ lent q C c (C.src.view.read Val (m (C.src.view.loc (c.tc : Thread nD τ)))) := by
  subst h
  refine (pointsTo_split_subset (Finset.subset_univ C.src.view.set)).1.trans ?_
  unfold lent
  iintro ⟨H, -⟩
  iexists (m (C.src.view.loc (c.tc : Thread nD τ)))
  isplitr
  · ipureintro; rfl
  iexact H

/-- Copies from an array borrow it side by side. -/
theorem lent_all {X : Type} [DecidableEq X] (K : Finset X) (C : X → Copy sig) (rk : X → ℕ) (c : Dev nD) (ℓ : Loc nD τ sig)
    (hr : ∀ k ∈ K, (C k).src.view.loc (c.tc : Thread nD τ) = ℓ) (hk : Set.InjOn rk K) :
    (ℓ ↦{fullShare} m ℓ : sProp 𝕎) ⊢ iprop((ℓ ↦{fullShare.left} m ℓ)
      ∗ bigSep K fun k => lent (share (rk k)) (C k) c ((C k).src.view.read Val (m ((C k).src.view.loc (c.tc : Thread nD τ))))) := by
  have hsub : K.image rk ⊆ Finset.range ((K.image rk).sup id + 1) := fun i hi =>
    Finset.mem_range.mpr (Nat.lt_succ_of_le (Finset.le_sup (f := id) hi))
  refine (shares (m ℓ) ((K.image rk).sup id + 1)).trans (sep_mono_right ?_)
  have h : (bigSep (Finset.range ((K.image rk).sup id + 1)) fun i => ℓ ↦{share i} m ℓ : sProp 𝕎) ⊢ bigSep (K.image rk) fun i => ℓ ↦{share i} m ℓ :=
    BI.bigSep_subset hsub
  rw [bigSep_image_of_injOn hk] at h
  exact h.trans (bigSep_mono fun k hkK => lent_of_whole m (share (rk k)) (C k) c ℓ (hr k hkK))

/-- What has landed can be lent on. -/
theorem lent_of_landed (q : PosShare TreeShare) (c : Dev nD) {s : Shape} {e : EltTy} {X Y Y' Z : Memref sig .tc .hbm s e} (h : Y = Y')
    (hX : X.view.WordExact) (hY : Y.view.WordExact) (hY' : Y'.view.WordExact) (hZ : Z.view.WordExact) (w : s.Idx → Val e) :
    (landed m q ⟨X, Y, hX, hY⟩ c w : sProp 𝕎) ⊢ lent q ⟨Y', Z, hY', hZ⟩ c w := by
  subst h
  unfold landed lent
  iintro H
  iexists (Y.view.write Val (m (Y.view.loc (c.tc : Thread nD τ))) w Finset.univ)
  isplitr
  · ipureintro; exact View.read_write_univ _ _
  iexact H

/-! ## All the arrays -/

variable {T : Plan nD sig} (R : T.Order)

/-- The copies a device makes, and those that fill its arrays. -/
def making (T : Plan nD sig) (c : Dev nD) : T.A ⊕ T.B → Copy sig
  | .inl a => T.own a c
  | .inr b => T.sent b c
def filling (T : Plan nD sig) (c : Dev nD) : T.A ⊕ T.B → Copy sig
  | .inl a => T.own a c
  | .inr b => T.sent b ((T.peer b).symm c)

namespace Values

variable (v : T.Values Val)

/-- The values of the copies a device makes, and of those that fill its arrays. -/
def made (c : Dev nD) : ∀ k : T.A ⊕ T.B, (T.making c k).s.Idx → Val (T.making c k).e
  | .inl a => v.own a c
  | .inr b => v.sent b c
def brings (c : Dev nD) : ∀ k : T.A ⊕ T.B, (T.filling c k).s.Idx → Val (T.filling c k).e
  | .inl a => v.own a c
  | .inr b => v.sent b ((T.peer b).symm c)

end Values

variable (T) in
/-- Which arrays are filled, and how the copies stand to the arrays: every copy fills a part of its own, and of the first
    copies those that read one array are numbered apart. -/
structure Fits (τ : Topo) (R : T.Order) where
  isOut : Ref sig .tc → Bool
  num : T.A ⊕ T.B → ℕ
  fills_out : ∀ c k, isOut (T.filling c k).dst.view.ref = true ∧ (T.filling c k).dst.view.ref.isScoped = false
  reads_in : ∀ c, ∀ k ∈ R.first, isOut (T.making c k).src.view.ref = false ∧ (T.making c k).src.view.ref.isScoped = false
  num_inj : ∀ c, ∀ k ∈ R.first, ∀ k' ∈ R.first, (T.making c k).src.view.ref = (T.making c k').src.view.ref → num k = num k' → k = k'
  apart : ∀ (c : Dev nD) k k' i i', (⟨(T.filling c k).dst.view.loc (c.tc : Thread nD τ), (T.filling c k).dst.view.emb i⟩ : Σ ℓ : Loc nD τ sig, Idx ℓ)
    = ⟨(T.filling c k').dst.view.loc (c.tc : Thread nD τ), (T.filling c k').dst.view.emb i'⟩ → k = k'

namespace Fits

variable {R} (S : T.Fits τ R)

def ins : Finset (Ref sig .tc) := (Finset.univ.filter fun b : Ref sig .tc => ¬ b.isScoped).filter fun b => ¬ S.isOut b = true
def outs : Finset (Ref sig .tc) := (Finset.univ.filter fun b : Ref sig .tc => ¬ b.isScoped).filter fun b => S.isOut b = true

/-- What stays with the device of the arrays read. -/
def keep (c : Dev nD) : sProp 𝕎 := bigSep S.ins fun b => ((c.tc : Thread nD τ).loc b) ↦{fullShare.left} m ((c.tc : Thread nD τ).loc b)

theorem rooms (c : Dev nD) :
    (bigSep S.outs fun b => ((c.tc : Thread nD τ).loc b) ↦{fullShare} m ((c.tc : Thread nD τ).loc b) : sProp 𝕎)
      ⊢ bigSep Finset.univ fun k => room (T.filling c k) c := by
  rw [bigSep_fiberwise Finset.univ (fun k => (T.filling c k).dst.view.ref)]
  have h : (bigSep S.outs fun b => ((c.tc : Thread nD τ).loc b) ↦{fullShare} m ((c.tc : Thread nD τ).loc b) : sProp 𝕎)
      ⊢ bigSep (Finset.univ.image fun k => (T.filling c k).dst.view.ref) fun b => ((c.tc : Thread nD τ).loc b) ↦{fullShare} m ((c.tc : Thread nD τ).loc b) :=
    BI.bigSep_subset fun b hb => by
      obtain ⟨k, -, rfl⟩ := Finset.mem_image.mp hb
      exact Finset.mem_filter.mpr ⟨Finset.mem_filter.mpr ⟨Finset.mem_univ _, by rw [(S.fills_out c k).2]; exact Bool.false_ne_true⟩, (S.fills_out c k).1⟩
  refine h.trans (bigSep_mono fun b _ => rooms_of_whole _ (T.filling c) c _ _ (fun k hk => ?_) (S.apart c))
  rw [← (Finset.mem_filter.mp hk).2]

theorem sources (v : T.Values Val) (hv : ∀ c, ∀ k ∈ R.first, v.made c k = (T.making c k).src.view.read Val (m ((T.making c k).src.view.loc (c.tc : Thread nD τ)))) (c : Dev nD) :
    (bigSep S.ins fun b => ((c.tc : Thread nD τ).loc b) ↦{fullShare} m ((c.tc : Thread nD τ).loc b) : sProp 𝕎)
      ⊢ iprop(bigSep R.first.toFinset (source v (fun k => share (S.num k)) c) ∗ S.keep m c) := by
  have e : (bigSep R.first.toFinset (source v (fun k => share (S.num k)) c) : sProp 𝕎)
      = bigSep R.first.toFinset fun k => lent (share (S.num k)) (T.making c k) c ((T.making c k).src.view.read Val (m ((T.making c k).src.view.loc (c.tc : Thread nD τ)))) :=
    bigSep_congr fun k hk => by
      rw [← hv c k (List.mem_toFinset.mp hk)]
      match k with
      | .inl a => rfl
      | .inr b => rfl
  rw [e, bigSep_fiberwise R.first.toFinset (fun k => (T.making c k).src.view.ref)]
  have h : (bigSep S.ins fun b => ((c.tc : Thread nD τ).loc b) ↦{fullShare} m ((c.tc : Thread nD τ).loc b) : sProp 𝕎)
      ⊢ bigSep S.ins fun b => iprop((((c.tc : Thread nD τ).loc b) ↦{fullShare.left} m ((c.tc : Thread nD τ).loc b))
        ∗ bigSep (R.first.toFinset.filter fun k => (T.making c k).src.view.ref = b) fun k =>
            lent (share (S.num k)) (T.making c k) c ((T.making c k).src.view.read Val (m ((T.making c k).src.view.loc (c.tc : Thread nD τ))))) :=
    bigSep_mono fun b _ => lent_all m _ (T.making c) S.num c _ (fun k hk => by rw [← (Finset.mem_filter.mp hk).2])
      (fun k hk k' hk' he => by
        have h₁ := Finset.mem_filter.mp (Finset.mem_coe.mp hk)
        have h₂ := Finset.mem_filter.mp (Finset.mem_coe.mp hk')
        exact S.num_inj c k (List.mem_toFinset.mp h₁.1) k' (List.mem_toFinset.mp h₂.1) (h₁.2.trans h₂.2.symm) he)
  refine h.trans ?_
  rw [bigSep_sep']
  unfold keep
  iintro ⟨Hk, Hs⟩
  isplitr [Hk]
  · have h' : (bigSep S.ins fun b => bigSep (R.first.toFinset.filter fun k => (T.making c k).src.view.ref = b) fun k =>
          lent (share (S.num k)) (T.making c k) c ((T.making c k).src.view.read Val (m ((T.making c k).src.view.loc (c.tc : Thread nD τ)))) : sProp 𝕎)
        ⊢ bigSep (R.first.toFinset.image fun k => (T.making c k).src.view.ref) fun b => bigSep (R.first.toFinset.filter fun k => (T.making c k).src.view.ref = b) fun k =>
          lent (share (S.num k)) (T.making c k) c ((T.making c k).src.view.read Val (m ((T.making c k).src.view.loc (c.tc : Thread nD τ)))) :=
      BI.bigSep_subset fun b hb => by
        obtain ⟨k, hk, rfl⟩ := Finset.mem_image.mp hb
        have hk' := S.reads_in c k (List.mem_toFinset.mp hk)
        exact Finset.mem_filter.mpr ⟨Finset.mem_filter.mpr ⟨Finset.mem_univ _, by rw [hk'.2]; exact Bool.false_ne_true⟩, by rw [hk'.1]; exact Bool.false_ne_true⟩
    iapply h'
    iexact Hs
  iexact Hk

theorem deal (v : T.Values Val) (hv : ∀ c, ∀ k ∈ R.first, v.made c k = (T.making c k).src.view.read Val (m ((T.making c k).src.view.loc (c.tc : Thread nD τ)))) (c : Dev nD) :
    (unscopedBufs c (fun b => m (c.tc.loc b)) : sProp 𝕎)
      ⊢ iprop((bigSep R.first.toFinset (source v (fun k => share (S.num k)) c) ∗ S.keep m c)
        ∗ (bigSep Finset.univ fun a : T.A => room (T.own a c) c) ∗ bigSep Finset.univ fun b : T.B => room (T.sent b ((T.peer b).symm c)) c) := by
  have hr : (bigSep S.outs fun b => ((c.tc : Thread nD τ).loc b) ↦{fullShare} m ((c.tc : Thread nD τ).loc b) : sProp 𝕎)
      ⊢ iprop((bigSep Finset.univ fun a : T.A => room (T.own a c) c) ∗ bigSep Finset.univ fun b : T.B => room (T.sent b ((T.peer b).symm c)) c) := by
    refine (S.rooms m c).trans (Entails.of_eq ?_)
    rw [BI.bigSep_univ_sum]
    rfl
  unfold unscopedBufs
  rw [bigSep_filter_split _ fun b => S.isOut b = true]
  show iprop((bigSep S.outs fun b => ((c.tc : Thread nD τ).loc b) ↦{fullShare} m ((c.tc : Thread nD τ).loc b))
    ∗ bigSep S.ins fun b => ((c.tc : Thread nD τ).loc b) ↦{fullShare} m ((c.tc : Thread nD τ).loc b)) ⊢ _
  iintro ⟨Ho, Hi⟩
  isplitl [Hi]
  · iapply (S.sources m v hv c)
    iexact Hi
  iapply hr
  iexact Ho

/-! ## The end -/

variable (v : T.Values Val)

/-- What is kept of an arrival that is passed on. -/
def kept (R : T.Order) (c : Dev nD) (b : T.B) : sProp 𝕎 :=
  landed m fullShare.left (T.sent (R.after b) ((T.peer (R.after b)).symm c)) c (v.sent (R.after b) ((T.peer (R.after b)).symm c))

theorem landed_read (q : PosShare TreeShare) (C : Copy sig) (c : Dev nD) (w : C.s.Idx → Val C.e) (s : Phys nD τ sig Val) :
    (iprop(landed m q C c w ∗ SI s) : sProp 𝕎) ⊢ ⌜C.dst.view.read Val (s.mem.mem (C.dst.view.loc (c.tc : Thread nD τ))) = w⌝ := by
  unfold landed
  refine sep_comm.1.trans (SI_pointsTo_agree.trans (pure_mono fun h => ?_))
  rw [← View.read_write_univ (v := C.dst.view) (m (C.dst.view.loc (c.tc : Thread nD τ))) w]
  funext x
  rw [View.read_apply, View.read_apply, h _ (View.emb_mem_set _ x)]

/-- What the final memory holds. -/
def Ends (c : Dev nD) (mem : (ℓ : Loc nD τ sig) → Buf Val ℓ) : Prop :=
  (∀ k, (T.filling c k).dst.view.read Val (mem ((T.filling c k).dst.view.loc (c.tc : Thread nD τ))) = v.brings c k)
    ∧ ∀ b ∈ S.ins, mem ((c.tc : Thread nD τ).loc b) = m ((c.tc : Thread nD τ).loc b)

theorem ends_read (c : Dev nD) (s : Phys nD τ sig Val) :
    (iprop(((bigSep R.rest.toFinset (brought m v c) ∗ bigSep R.relayed.toFinset (kept m v R c)) ∗ S.keep m c) ∗ SI s) : sProp 𝕎)
      ⊢ |={Set.univ}=> iprop(⌜S.Ends m v c s.mem.mem⌝ ∗ SI s) := by
  have hfill : (iprop(((bigSep R.rest.toFinset (brought m v c) ∗ bigSep R.relayed.toFinset (kept m v R c)) ∗ S.keep m c) ∗ SI s) : sProp 𝕎)
      ⊢ ⌜∀ k, (T.filling c k).dst.view.read Val (s.mem.mem ((T.filling c k).dst.view.loc (c.tc : Thread nD τ))) = v.brings c k⌝ := by
    refine Entails.trans (forall_intro fun k => ?_) pure_forall.2
    rw [R.split_rest]
    match k with
    | .inl a =>
      refine Entails.trans ?_ (landed_read m fullShare (T.own a c) c (v.own a c) s)
      iintro ⟨⟨⟨⟨Ha, -⟩, -⟩, -⟩, Hs⟩
      isplitl [Ha]
      · have h : (bigSep Finset.univ fun k => brought m v c (T.home k) : sProp 𝕎) ⊢ landed m fullShare (T.own a c) c (v.own a c) :=
          BI.bigSep_elim (Φ := fun k => brought m v c (T.home k)) (Finset.mem_univ (.inl a))
        iapply h
        iexact Ha
      iexact Hs
    | .inr b =>
      by_cases hb : b ∈ R.later
      · refine Entails.trans ?_ (landed_read m fullShare (T.sent b ((T.peer b).symm c)) c (v.sent b ((T.peer b).symm c)) s)
        iintro ⟨⟨⟨⟨-, Hb⟩, -⟩, -⟩, Hs⟩
        isplitl [Hb]
        · have h : (bigSep R.later fun b => brought m v c (T.arrives b) : sProp 𝕎) ⊢ landed m fullShare (T.sent b ((T.peer b).symm c)) c (v.sent b ((T.peer b).symm c)) := BI.bigSep_elim hb
          iapply h
          iexact Hb
        iexact Hs
      · obtain ⟨b', hb', rfl⟩ : ∃ b' ∈ R.relayed.toFinset, R.after b' = b := by
          have h : b ∈ R.relayed.toFinset.image R.after := by
            by_contra hh
            exact hb (Finset.mem_sdiff.mpr ⟨Finset.mem_univ _, hh⟩)
          exact Finset.mem_image.mp h
        refine Entails.trans ?_ (landed_read m fullShare.left (T.sent (R.after b') ((T.peer (R.after b')).symm c)) c (v.sent (R.after b') ((T.peer (R.after b')).symm c)) s)
        iintro ⟨⟨⟨-, Hb⟩, -⟩, Hs⟩
        isplitl [Hb]
        · have h : (bigSep R.relayed.toFinset (kept m v R c) : sProp 𝕎) ⊢ landed m fullShare.left (T.sent (R.after b') ((T.peer (R.after b')).symm c)) c (v.sent (R.after b') ((T.peer (R.after b')).symm c)) := BI.bigSep_elim hb'
          iapply h
          iexact Hb
        iexact Hs
  have hkeep : (iprop(((bigSep R.rest.toFinset (brought m v c) ∗ bigSep R.relayed.toFinset (kept m v R c)) ∗ S.keep m c) ∗ SI s) : sProp 𝕎)
      ⊢ ⌜∀ b ∈ S.ins, s.mem.mem ((c.tc : Thread nD τ).loc b) = m ((c.tc : Thread nD τ).loc b)⌝ := by
    refine Entails.trans (forall_intro fun b => ?_) pure_forall.2
    by_cases hb : b ∈ S.ins
    · refine Entails.trans ?_ ((SI_pointsTo_agree (st := s) (q := fullShare.left) (I := Finset.univ) (ℓ := (c.tc : Thread nD τ).loc b) (f := m ((c.tc : Thread nD τ).loc b))).trans
        (pure_mono fun h _ => funext fun i => h i (Finset.mem_univ i)))
      iintro ⟨⟨-, Hk⟩, Hs⟩
      isplitl [Hs]; · iexact Hs
      have h : (S.keep m c : sProp 𝕎) ⊢ ((c.tc : Thread nD τ).loc b) ↦{fullShare.left} m ((c.tc : Thread nD τ).loc b) := by
        unfold keep; exact BI.bigSep_elim hb
      iapply h
      iexact Hk
    · exact Entails.trans true_intro (pure_mono fun _ h => absurd h hb)
  have h := persistent_entails_right (and_intro hfill hkeep)
  refine h.trans ?_
  iintro ⟨%h, -, Hs⟩
  imodintro
  isplitr
  · ipureintro; exact h
  iexact Hs

end Fits

section

variable {Λ₀ : Labels} {P : Type} [Fintype P] [DecidableEq P] (cfgs : P → Cfg sig Λ₀) (p : P) [∀ e, Nonempty (Val e)]
variable (v : T.Values Val)

/-- The run of a kernel whose devices follow the plan, from the copies' places alone. -/
theorem run_of_fits (S : T.Fits τ R)
    (hv : ∀ c, ∀ k ∈ R.first, v.made c k = (T.making c k).src.view.read Val (m ((T.making c k).src.view.loc (c.tc : Thread nD τ))))
    (hrelay : ∀ c, ∀ b ∈ R.relayed, ∀ q,
      (landed m q (T.sent (R.after b) ((T.peer (R.after b)).symm c)) c (v.sent (R.after b) ((T.peer (R.after b)).symm c)) : sProp 𝕎)
        ⊢ lent q (T.sent b c) c (v.sent b c))
    (hfacts : LaunchFacts (nD := nD) (τ := τ) cfgs p) (ho : OwnSemFacts (cfgs p).spec fun k : T.Cell => SemLoc.dma (T.sem k))
    (hW : ∀ q, IsEmpty (Fin (cfgs q).W)) (hN : (cfgs p).N = 1)
    (defs₀ : Defs nD τ sig Val Λ₀) (g : Dev nD → PrngReg)
    (main : Dev nD → Prog (TpuEff nD τ sig Val (Pipeline.Sig Λ₀ P fun p => ((cfgs p).toPCfg : PCfg sig Λ₀ Val).Adm) .tc) PUnit)
    (hmain : ∀ c, main c = .op (.customCall (Pipeline.entry p) ()) fun _ => .ret ⟨⟩)
    (res : Λ₀.Result (cfgs p).body) (hprog : ∀ t : Fin (cfgs p).N, defs₀ .tc (cfgs p).body ((cfgs p).bodyArgs t ((cfgs p).slots t))
      = .op .deviceId fun d => steps (R.statements d) (.ret res)) {Q}
    (hQ : ∀ s : MemSt nD τ sig Val, (∀ c, S.Ends m v c s.mem) → (∀ g' : GSem nD τ sig, (g'.1.2 ≠ .tc ∨ g'.2.isScoped .tc = true) → s.sem g' = 0) → Q (⟨⟩, s)) :
    θ_run (Pipeline.defs (fun p => ((cfgs p).toPCfg : PCfg sig Λ₀ Val)) defs₀) (onTc main) ⟨m, fun _ => 0, g⟩ Q :=
  run R (m := m) (v := v) cfgs p (fun k => share (S.num k)) fullShare.right (Fits.kept m v R) (S.keep m) hfacts ho hW hN defs₀ Variants.none g main hmain res hprog
    (S.deal m v hv)
    (fun c b hb => by
      refine Entails.trans ?_ (sep_mono_right (hrelay c b hb fullShare.right))
      show (landed m fullShare _ c _ : sProp 𝕎) ⊢ _
      unfold Fits.kept landed
      exact (pointsTo_share (PosShare.mem_left_op_right _)).1)
    (S.Ends m v) (S.ends_read m v) hQ

end

end Cert.Moves.Plan

end
-- ==== Proof.Chips.lean ====
/-
# The devices of the mesh

Eight devices: four chips of two cores. The file names a device's coordinates as the kernel computes them, the chips
around a chip, the core beside a core, and proves by enumeration what the calls need of them.
-/
module

public import proofs.«01_k».proof.Proof.OneShot
public import Idealize.ShloMosaic.Lib.ValueLayout

@[expose] public section

set_option Elab.async false

noncomputable section

namespace Cert.Chips

open Idealize.ShloMosaic Idealize.ShloMosaic.TcCoe

/-! ## Who is who -/

/-- The coordinates of a device, as the kernel computes them. -/
def xw (d : Dev 8) : BitVec 32 := Scalar.remsi (Scalar.divsi (Dev.word d) 4#32) 2#32
def yw (d : Dev 8) : BitVec 32 := Scalar.remsi (Scalar.divsi (Dev.word d) 2#32) 2#32
def cw (d : Dev 8) : BitVec 32 := Scalar.remsi (Scalar.divsi (Dev.word d) 1#32) 2#32

/-- The coordinates of the chip that differs from the device's in `p`: in x, in y, in both. -/
def pxw (p : Fin 3) (d : Dev 8) : BitVec 32 := match p with
  | 0 => Scalar.subi 1#32 (xw d)
  | 1 => xw d
  | 2 => Scalar.subi 1#32 (xw d)
def pyw (p : Fin 3) (d : Dev 8) : BitVec 32 := match p with
  | 0 => yw d
  | 1 => Scalar.subi 1#32 (yw d)
  | 2 => Scalar.subi 1#32 (yw d)

def chipw (x y : BitVec 32) : BitVec 32 := Scalar.addi (Scalar.muli 2#32 x) y
def devw (x y c : BitVec 32) : BitVec 32 :=
  Scalar.addi (Scalar.addi (Scalar.addi 0#32 (Scalar.muli x 4#32)) (Scalar.muli y 2#32)) (Scalar.muli c 1#32)

def ownw (d : Dev 8) : BitVec 32 := chipw (xw d) (yw d)
def slotw (p : Fin 3) (d : Dev 8) : BitVec 32 := chipw (pxw p d) (pyw p d)

def across (p : Fin 3) : Dev 8 ≃ Dev 8 where
  toFun d := ⟨(devw (pxw p d) (pyw p d) (cw d)).toNat, by revert p d; decide⟩
  invFun d := ⟨(devw (pxw p d) (pyw p d) (cw d)).toNat, by revert p d; decide⟩
  left_inv d := by revert p d; decide
  right_inv d := by revert p d; decide

def beside : Dev 8 ≃ Dev 8 where
  toFun d := ⟨(devw (xw d) (yw d) (Scalar.subi 1#32 (cw d))).toNat, by revert d; decide⟩
  invFun d := ⟨(devw (xw d) (yw d) (Scalar.subi 1#32 (cw d))).toNat, by revert d; decide⟩
  left_inv d := by revert d; decide
  right_inv d := by revert d; decide

theorem ownw_lt (d : Dev 8) : (ownw d).toNat < 4 := by revert d; decide
theorem slotw_lt (p : Fin 3) (d : Dev 8) : (slotw p d).toNat < 4 := by revert p d; decide

theorem across_facts (p : Fin 3) (c : Dev 8) : ownw ((across p).symm c) = slotw p c ∧ cw ((across p).symm c) = cw c ∧ slotw p ((across p).symm c) = ownw c := by
  revert p c; decide
theorem beside_facts (c : Dev 8) : ownw (beside.symm c) = ownw c ∧ (cw (beside.symm c)).toNat = 1 - (cw c).toNat ∧ ∀ p, slotw p (beside.symm c) = slotw p c := by
  revert c; decide
theorem slots_apart (c : Dev 8) (p p' : Fin 3) : (slotw p c).toNat ≠ (ownw c).toNat ∧ ((slotw p c).toNat = (slotw p' c).toNat → p = p') ∧ (cw c).toNat < 2 := by
  revert c p p'; decide
theorem slots_all (c : Dev 8) (k : Fin 4) : k.val = (ownw c).toNat ∨ ∃ p, (slotw p c).toNat = k.val := by
  revert c k; decide

theorem chip_val : ∀ d : Dev 8, Layout.meshLin [2, 2, 2] d.val [0, 1] = (ownw d).toNat := by decide +kernel

theorem core_val : ∀ d : Dev 8, Layout.meshLin [2, 2, 2] d.val [2] = (cw d).toNat := by decide +kernel

/-! ## Shapes -/

abbrev sh2 (a b : ℕ) : Shape := ⟨2, ![a, b]⟩
abbrev sh3 (a b c : ℕ) : Shape := ⟨3, ![a, b, c]⟩

end Cert.Chips

end
-- ==== Proof.GatherPlan.lean ====
/-
# The copies of `gather_chips`

Each device holds one shard of each of seven arrays and fills four slots, one per chip: its own slot by a copy of the
shard; from each of the three other chips the half its core carries, by a copy that the device of the same core there
sends; the other half by a copy that the chip's other core sends on. The file says which views those copies take.
-/
module

public import proofs.«01_k».proof.Proof.Chips
public import proofs.«01_k».proof.Proof.Gen.GatherIdeal.Points
public import Idealize.ShloMosaic.Lib.PairWhole
public import Idealize.ShloMosaic.Lib.ValueLayout

@[expose] public section

set_option Elab.async false

noncomputable section

namespace Cert.GatherPlan

open Idealize.ShloMosaic Idealize.ShloMosaic.TcCoe
open Idealize.SL Idealize.SL.Sem
open Cert.GatherIdeal Cert.Moves Cert.Chips

/-! ## The arrays -/

/-- One of the arrays gathered: the shard, the four slots, and how many rows a core carries. `folded`: the kernel takes a
    half slot in one slice. -/
structure Arr where
  R : ℕ
  C : ℕ
  half : BitVec 32
  e : EltTy
  folded : Bool
  arg : Memref sig .tc .hbm (sh2 R C) e
  harg : arg.IsWhole
  out : Memref sig .tc .hbm (sh3 4 R C) e
  hout : out.IsWhole
  two : half.toNat + half.toNat = R
  wide : folded = false → e.bits = 32
  rows : e.packing ∣ half.toNat
  drop : (sh3 1 R C).Squeezes (sh2 R C)
  dropHalf : (sh3 1 half.toNat C).Squeezes (sh2 half.toNat C)

def arr : Fin 7 → Arr
  | 0 => ⟨1024, 1792, 512#32, .bf16, true, .whole main_arg0, Memref.isWhole_whole _, .whole main_v1_0, Memref.isWhole_whole _, rfl, by decide, by decide, by decide, by decide⟩
  | 1 => ⟨1024, 1536, 512#32, .bf16, true, .whole main_arg1, Memref.isWhole_whole _, .whole main_v1_1, Memref.isWhole_whole _, rfl, by decide, by decide, by decide, by decide⟩
  | 2 => ⟨256, 1024, 128#32, .bf16, true, .whole main_arg2, Memref.isWhole_whole _, .whole main_v1_2, Memref.isWhole_whole _, rfl, by decide, by decide, by decide, by decide⟩
  | 3 => ⟨256, 1024, 128#32, .bf16, true, .whole main_arg3, Memref.isWhole_whole _, .whole main_v1_3, Memref.isWhole_whole _, rfl, by decide, by decide, by decide, by decide⟩
  | 4 => ⟨256, 1024, 128#32, .bf16, true, .whole main_arg4, Memref.isWhole_whole _, .whole main_v1_4, Memref.isWhole_whole _, rfl, by decide, by decide, by decide, by decide⟩
  | 5 => ⟨768, 1024, 384#32, .bf16, true, .whole main_arg5, Memref.isWhole_whole _, .whole main_v1_5, Memref.isWhole_whole _, rfl, by decide, by decide, by decide, by decide⟩
  | 6 => ⟨544, 256, 272#32, .f32, false, .whole main_arg6, Memref.isWhole_whole _, .whole main_v1_6, Memref.isWhole_whole _, rfl, by decide, by decide, by decide, by decide⟩

namespace Arr

variable (A : Arr)

/-- Where the half of core `c` starts. -/
def from_ (c : BitVec 32) : ℕ := (Scalar.muli c A.half).toNat

theorem from_le (d : Dev nD) : A.from_ (cw d) + A.half.toNat ≤ A.R ∧ A.e.packing ∣ A.from_ (cw d) := by
  have hc : cw d = 0#32 ∨ cw d = 1#32 := by revert d; decide
  have h2 := A.two
  rcases hc with hc | hc
  · have e : A.from_ (cw d) = 0 := by unfold from_; rw [hc]; simp [Scalar.muli, IntOp.muli]
    rw [e]; exact ⟨by omega, Nat.dvd_zero _⟩
  · have e : A.from_ (cw d) = A.half.toNat := by unfold from_; rw [hc]; simp [Scalar.muli, IntOp.muli]
    rw [e]; exact ⟨by omega, A.rows⟩

/-- Slot `w` of the result. -/
def slot (w : BitVec 32) (hw : w.toNat < 4) : Memref sig .tc .hbm (sh2 A.R A.C) A.e :=
  (A.out.slice (Rect.unit (s := sh3 4 A.R A.C) ![w.toNat, 0, 0] (sh3 1 A.R A.C).size
    (fun a => match a with | 0 => hw | 1 => Nat.le_of_eq (Nat.zero_add _) | 2 => Nat.le_of_eq (Nat.zero_add _))) (fun _ => rfl)).squeeze _ A.drop

/-- The half of the shard that device `d` carries. -/
def halfArg (d : Dev nD) : Memref sig .tc .hbm (sh2 A.half.toNat A.C) A.e :=
  A.arg.slice (Rect.unit (s := sh2 A.R A.C) ![A.from_ (cw d), 0] (sh2 A.half.toNat A.C).size
    (fun a => match a with | 0 => (A.from_le d).1 | 1 => Nat.le_of_eq (Nat.zero_add _))) (fun _ => rfl)

/-- The half of slot `w` from row `n`, in one slice. -/
def halfFolded (w : BitVec 32) (hw : w.toNat < 4) (n : ℕ) (hn : n + A.half.toNat ≤ A.R) : Memref sig .tc .hbm (sh2 A.half.toNat A.C) A.e :=
  (A.out.slice (Rect.unit (s := sh3 4 A.R A.C) ![w.toNat, n, 0] (sh3 1 A.half.toNat A.C).size
    (fun a => match a with | 0 => hw | 1 => hn | 2 => Nat.le_of_eq (Nat.zero_add _))) (fun _ => rfl)).squeeze _ A.dropHalf

/-- The same in two slices. -/
def halfNested (w : BitVec 32) (hw : w.toNat < 4) (n : ℕ) (hn : n + A.half.toNat ≤ A.R) : Memref sig .tc .hbm (sh2 A.half.toNat A.C) A.e :=
  (A.slot w hw).slice (Rect.unit (s := sh2 A.R A.C) ![n, 0] (sh2 A.half.toNat A.C).size
    (fun a => match a with | 0 => hn | 1 => Nat.le_of_eq (Nat.zero_add _))) (fun _ => rfl)

/-- The half of slot `w` that device `d` carries. -/
def halfSlot (w : BitVec 32) (hw : w.toNat < 4) (d : Dev nD) : Memref sig .tc .hbm (sh2 A.half.toNat A.C) A.e :=
  bif A.folded then A.halfFolded w hw (A.from_ (cw d)) (A.from_le d).1 else A.halfNested w hw (A.from_ (cw d)) (A.from_le d).1

theorem slot_words (w : BitVec 32) (hw : w.toNat < 4) : (A.slot w hw).view.WordExact :=
  (A.hout.wordExact_slice rfl _ (.inr ⟨(by decide : 2 ≤ 3), rfl, rfl, rfl⟩)).reshape _ _

theorem halfArg_words (d : Dev nD) : (A.halfArg d).view.WordExact :=
  A.harg.wordExact_slice rfl _ (.inl (Rect.packedRows_of_rowAxis _ _ (show 2 ≤ (sh2 A.R A.C).rank from Nat.le_refl 2) (A.from_le d).2 A.rows rfl))

theorem halfSlot_words (w : BitVec 32) (hw : w.toNat < 4) (d : Dev nD) : (A.halfSlot w hw d).view.WordExact := by
  unfold halfSlot
  cases h : A.folded with
  | false => exact View.wordExact_bits (A.wide h)
  | true =>
    exact (A.hout.wordExact_slice rfl _ (.inl (Rect.packedRows_of_rowAxis _ _ (by decide : 2 ≤ 3) (A.from_le d).2 A.rows rfl))).reshape _ _

end Arr

/-! ## The copies -/

abbrev Pair : Type := Fin 7 × Fin 3

theorem in7 (a : Fin 7) : ∀ i, (![a.val] : Fin 1 → ℕ) i + S1.size i ≤ S7.size i := fun i => match i with | 0 => a.isLt

theorem in21 (b : Pair) : ∀ i, (![b.1.val * 3 + b.2.val] : Fin 1 → ℕ) i + S1.size i ≤ S21.size i := fun i => match i with
  | 0 => show b.1.val * 3 + b.2.val + 1 ≤ 21 by omega

def sem7 (a : Fin 7) : DmaSem sig := ((cc0_scratch0.slice (Rect.unit (s := S7) ![a.val] S1.size (in7 a))).squeeze S_ (show S1.Squeezes S_ by decide)).sem
def sem21 (s : DmaSems sig S21) (b : Pair) : DmaSem sig := ((s.slice (Rect.unit (s := S21) ![b.1.val * 3 + b.2.val] S1.size (in21 b))).squeeze S_ (show S1.Squeezes S_ by decide)).sem

def argRef : Fin 7 → Ref sig .tc
  | 0 => main_arg0 | 1 => main_arg1 | 2 => main_arg2 | 3 => main_arg3 | 4 => main_arg4 | 5 => main_arg5 | 6 => main_arg6
def outRef : Fin 7 → Ref sig .tc
  | 0 => main_v1_0 | 1 => main_v1_1 | 2 => main_v1_2 | 3 => main_v1_3 | 4 => main_v1_4 | 5 => main_v1_5 | 6 => main_v1_6

def arriveSem : Pair ⊕ Pair → DmaSem sig
  | .inl b => sem21 cc0_scratch2 b
  | .inr b => sem21 cc0_scratch4 b
def departSem : Pair ⊕ Pair → DmaSem sig
  | .inl b => sem21 cc0_scratch1 b
  | .inr b => sem21 cc0_scratch3 b

theorem sem_inj : Function.Injective (Sum.elim sem7 (Sum.elim departSem arriveSem)) := by decide +kernel

/-- What a half of array `a` counts for on a semaphore. -/
def halfUnits (a : Fin 7) : ℕ := (outRef a).dmaCredit (sh2 (arr a).half.toNat (arr a).C) (arr a).e

theorem halfUnits_pos (a : Fin 7) : 0 < halfUnits a := by revert a; decide +kernel

theorem arg_units (a : Fin 7) : (argRef a).dmaCredit (sh2 (arr a).half.toNat (arr a).C) (arr a).e = halfUnits a := by
  revert a; decide +kernel

theorem halfSlot_units (a : Fin 7) (w : BitVec 32) (hw : w.toNat < 4) (d : Dev nD) :
    ((arr a).halfSlot w hw d).view.dmaCredit = halfUnits a := by
  match a with | 0 => rfl | 1 => rfl | 2 => rfl | 3 => rfl | 4 => rfl | 5 => rfl | 6 => rfl

def T : Plan nD sig where
  A := Fin 7
  B := Pair ⊕ Pair
  own a d := ⟨(arr a).arg, (arr a).slot (ownw d) (ownw_lt d), (arr a).harg.wordExact, (arr a).slot_words _ _⟩
  sent b d := match b with
    | .inl b => ⟨(arr b.1).halfArg d, (arr b.1).halfSlot (ownw d) (ownw_lt d) d, (arr b.1).halfArg_words d, (arr b.1).halfSlot_words _ _ d⟩
    | .inr b => ⟨(arr b.1).halfSlot (slotw b.2 d) (slotw_lt b.2 d) d, (arr b.1).halfSlot (slotw b.2 d) (slotw_lt b.2 d) d, (arr b.1).halfSlot_words _ _ d, (arr b.1).halfSlot_words _ _ d⟩
  peer b := match b with
    | .inl b => across b.2
    | .inr _ => beside
  ownSem := sem7
  departSem := departSem
  arriveSem := arriveSem
  sem_inj := sem_inj
  ownUnits a := (outRef a).dmaCredit (sh2 (arr a).R (arr a).C) (arr a).e
  sentUnits b := halfUnits (b.elim (·.1) (·.1))
  ownUnits_pos := by decide +kernel
  sentUnits_pos b := halfUnits_pos _
  own_units a d := by match a with | 0 => rfl | 1 => rfl | 2 => rfl | 3 => rfl | 4 => rfl | 5 => rfl | 6 => rfl
  sent_units b d := by
    match b with
    | .inl b => exact halfSlot_units b.1 _ _ d
    | .inr b => exact halfSlot_units b.1 _ _ d
  ownRef a := outRef a
  arriveRef b := match b with
    | .inl b => outRef b.1
    | .inr b => outRef b.1
  departRef b := match b with
    | .inl b => argRef b.1
    | .inr b => outRef b.1
  own_wait _ _ := rfl
  arrive_wait b d := by
    match b with
    | .inl b => rfl
    | .inr b => rfl
  depart_wait b d := by
    match b with
    | .inl b => exact arg_units b.1
    | .inr b => rfl
  rank b := match b with
    | .inl _ => 0
    | .inr _ => 1

def pairs : List Pair := (List.finRange 7).flatMap fun a => (List.finRange 3).map fun p => (a, p)

variable {F : FTy → Type} [FloatOps F]

set_option maxHeartbeats 1000000 in
/-- The kernel is these statements. -/
theorem body_eq (t : Fin cfg0.N) : Gen.bodyAt0 (F := F) t = .op .deviceId fun d => steps
    ((List.finRange 7).flatMap (fun a => [T.startOwn a d]) ++ pairs.flatMap (fun b => [T.startSent (.inl b) d])
      ++ pairs.flatMap (fun b => [T.awaitArrival (.inl b) d, T.startSent (.inr b) d])
      ++ (pairs.flatMap (fun b => [T.awaitArrival (.inr b) d])
        ++ (pairs.flatMap (fun b => [T.awaitDeparture (.inl b) d, T.awaitDeparture (.inr b) d])
        ++ (List.finRange 7).flatMap (fun a => [T.awaitOwn a d])))) (.ret ⟨⟩) := rfl

end Cert.GatherPlan

end
-- ==== Proof.GatherRun.lean ====
/-
# The run of `gather_chips`

The order of the copies, where each of them reads and lands, and the run: every slot ends with the shard of the slot's
chip.
-/
module

public import proofs.«01_k».proof.Proof.Places
public import proofs.«01_k».proof.Proof.GatherPlan
public import proofs.«01_k».proof.Proof.Gen.GatherIdeal.Launch

@[expose] public section

set_option Elab.async false

noncomputable section

namespace Cert.GatherPlan

open Idealize.ShloMosaic Idealize.ShloMosaic.TcCoe
open Idealize.SL Idealize.SL.Sem
open Cert.GatherIdeal Cert.Moves Cert.Moves.Plan Cert.Chips
open Idealize.ShloMosaic.ValueIdx

/-! ## The order -/

theorem all_pairs (b : Pair) : b ∈ pairs := by revert b; decide +kernel

def firsts : List (Fin 7 ⊕ Pair ⊕ Pair) := (List.finRange 7).map .inl ++ pairs.map fun b => .inr (.inl b)
def relays : List (Pair ⊕ Pair) := pairs.map .inr
def rests : List (Fin 7 ⊕ (Pair ⊕ Pair) ⊕ (Pair ⊕ Pair)) :=
  pairs.map (fun b => .inr (.inr (.inr b))) ++ (pairs.flatMap (fun b => [.inr (.inl (.inl b)), .inr (.inl (.inr b))]) ++ (List.finRange 7).map .inl)

theorem mem_relays (b : Pair ⊕ Pair) : b ∈ relays ↔ ∃ b', Sum.inr b' = b := by
  rcases b with b | b <;> simp [relays, all_pairs]
theorem mem_firsts (k : Fin 7 ⊕ Pair ⊕ Pair) : k ∈ firsts ↔ ∀ b ∈ relays, Sum.inr b ≠ k := by
  rcases k with a | b | b <;> simp [firsts, mem_relays, all_pairs]
theorem mem_rests (k : Fin 7 ⊕ (Pair ⊕ Pair) ⊕ (Pair ⊕ Pair)) : k ∈ rests ↔ ∀ b ∈ relays, Sum.inr (Sum.inr (Sum.swap b)) ≠ k := by
  rcases k with a | (b | b) | b | b <;> simp [rests, mem_relays, all_pairs]

theorem firsts_nodup : firsts.Nodup := by decide +kernel
theorem relays_nodup : relays.Nodup := by decide +kernel
theorem rests_nodup : rests.Nodup := by decide +kernel
theorem no_relay {b : Pair} (h : (.inr (.inr b) : Fin 7 ⊕ Pair ⊕ Pair) ∈ firsts) : False :=
  (mem_firsts _).mp h (.inr b) ((mem_relays _).mpr ⟨b, rfl⟩) rfl

def R : T.Order where
  first := firsts
  relayed := relays
  after := Sum.swap
  rest := rests
  bound := 0
  first_nodup := firsts_nodup
  relayed_nodup := relays_nodup
  rest_nodup := rests_nodup
  after_inj := (Equiv.sumComm _ _).injective.injOn
  mem_first := mem_firsts
  mem_rest := mem_rests
  rank_after b hb := by obtain ⟨b, rfl⟩ := (mem_relays b).mp hb; exact Nat.le_refl 0
  rank_relayed b hb := by obtain ⟨b, rfl⟩ := (mem_relays b).mp hb; exact Nat.one_pos

/-! ## Where the copies read and land -/

namespace Arr

variable (A : Arr)

theorem from_eq (d : Dev nD) : A.from_ (cw d) = (cw d).toNat * A.half.toNat := by
  have hc : cw d = 0#32 ∨ cw d = 1#32 := by revert d; decide
  rcases hc with hc | hc <;> (unfold from_; rw [hc]; simp [Scalar.muli, IntOp.muli])

theorem row_lt (d : Dev nD) (i : Fin A.half.toNat) : A.from_ (cw d) + i.val < A.R :=
  Nat.lt_of_lt_of_le (Nat.add_lt_add_left i.isLt _) (A.from_le d).1

theorem slot_under (w : BitVec 32) (hw : w.toNat < 4) (i : Fin A.R) (j : Fin A.C) :
    Under nD τ (A.slot w hw) (ix2 i j) A.out (ix3 (⟨w.toNat, hw⟩ : Fin 4) i j) :=
  (under_squeeze _ A.drop (ix2 i j) (ix3 (0 : Fin 1) i j) (reshapeEquiv_ix2_1ab _ i j)).trans
    (under_slice _ _ (fun _ => rfl) _ _ (funext fun a => match a with
      | 0 => Fin.ext (by simp [ix3]; rfl)
      | 1 => Fin.ext (by simp [ix3]; rfl)
      | 2 => Fin.ext (by simp [ix3]; rfl)))

theorem halfArg_under (d : Dev nD) (i : Fin A.half.toNat) (j : Fin A.C) :
    Under nD τ (A.halfArg d) (ix2 i j) A.arg (ix2 (⟨_, A.row_lt d i⟩ : Fin A.R) j) :=
  under_slice _ _ (fun _ => rfl) _ _ (funext fun a => match a with
    | 0 => Fin.ext (by simp [ix2]; rfl)
    | 1 => Fin.ext (by simp [ix2]; rfl))

theorem halfSlot_under (w : BitVec 32) (hw : w.toNat < 4) (d : Dev nD) (i : Fin A.half.toNat) (j : Fin A.C) :
    Under nD τ (A.halfSlot w hw d) (ix2 i j) A.out (ix3 (⟨w.toNat, hw⟩ : Fin 4) (⟨_, A.row_lt d i⟩ : Fin A.R) j) := by
  unfold halfSlot
  cases A.folded with
  | false =>
    exact (under_slice _ _ (fun _ => rfl) _ (ix2 (⟨_, A.row_lt d i⟩ : Fin A.R) j) (funext fun a => match a with
      | 0 => Fin.ext (by simp [ix2]; rfl)
      | 1 => Fin.ext (by simp [ix2]; rfl))).trans (A.slot_under w hw _ j)
  | true =>
    exact (under_squeeze _ A.dropHalf (ix2 i j) (ix3 (0 : Fin 1) i j) (reshapeEquiv_ix2_1ab _ i j)).trans
      (under_slice _ _ (fun _ => rfl) _ _ (funext fun a => match a with
        | 0 => Fin.ext (by simp [ix3]; rfl)
        | 1 => Fin.ext (by simp [ix3]; rfl)
        | 2 => Fin.ext (by simp [ix3]; rfl)))

theorem halfSlot_congr {w w' : BitVec 32} (h : w = w') (hw : w.toNat < 4) (hw' : w'.toNat < 4) {d d' : Dev nD} (hd : cw d = cw d') :
    A.halfSlot w hw d = A.halfSlot w' hw' d' := by
  subst h
  have key : ∀ n n' (hn : n + A.half.toNat ≤ A.R) (hn' : n' + A.half.toNat ≤ A.R), n = n' →
      (bif A.folded then A.halfFolded w hw n hn else A.halfNested w hw n hn) = bif A.folded then A.halfFolded w hw n' hn' else A.halfNested w hw n' hn' := by
    intro n n' hn hn' h
    subst h
    rfl
  exact key _ _ _ _ (congrArg A.from_ hd)

end Arr

theorem arg_ref (a : Fin 7) : (arr a).arg.view.ref = argRef a := match a with | 0 => rfl | 1 => rfl | 2 => rfl | 3 => rfl | 4 => rfl | 5 => rfl | 6 => rfl
theorem out_ref (a : Fin 7) : (arr a).out.view.ref = outRef a := match a with | 0 => rfl | 1 => rfl | 2 => rfl | 3 => rfl | 4 => rfl | 5 => rfl | 6 => rfl
theorem halfSlot_ref (a : Fin 7) (w : BitVec 32) (hw : w.toNat < 4) (d : Dev nD) : ((arr a).halfSlot w hw d).view.ref = outRef a :=
  match a with | 0 => rfl | 1 => rfl | 2 => rfl | 3 => rfl | 4 => rfl | 5 => rfl | 6 => rfl

theorem argRef_inj : Function.Injective argRef := by decide
theorem outRef_inj : Function.Injective outRef := by decide

/-- Elements of two results are one only if their arrays and indices are. -/
theorem out_apart (c : Dev nD) (a a' : Fin 7) (x : (sh3 4 (arr a).R (arr a).C).Idx) (x' : (sh3 4 (arr a').R (arr a').C).Idx)
    (h : touch τ (arr a).out c x = touch τ (arr a').out c x') : a = a' ∧ (x 0).val = (x' 0).val ∧ (x 1).val = (x' 1).val := by
  have hr : (arr a).out.view.ref = (arr a').out.view.ref := Proc.devRef_injective (sig := sig) (Proc.tc : Proc τ) (Prod.ext_iff.mp (Sigma.mk.inj h).1).2
  rw [out_ref, out_ref] at hr
  obtain rfl := outRef_inj hr
  obtain rfl := (arr a).out.view.emb.injective (eq_of_heq (Sigma.mk.inj h).2)
  exact ⟨rfl, rfl, rfl⟩

/-- The array, the slot and the rows that a copy fills on device `c`. -/
def arrOf : T.A ⊕ T.B → Fin 7
  | .inl a => a
  | .inr (.inl b) => b.1
  | .inr (.inr b) => b.1
def slotOf (c : Dev nD) : T.A ⊕ T.B → BitVec 32
  | .inl _ => ownw c
  | .inr (.inl b) => slotw b.2 c
  | .inr (.inr b) => slotw b.2 c
def rowsOf (c : Dev nD) (x half : ℕ) : T.A ⊕ T.B → Prop
  | .inl _ => True
  | .inr (.inl _) => x / half = (cw c).toNat
  | .inr (.inr _) => x / half = 1 - (cw c).toNat

theorem half_pos (a : Fin 7) : 0 < (arr a).half.toNat := by revert a; decide

theorem row_div (A : Arr) (d : Dev nD) (i : Fin A.half.toNat) : (A.from_ (cw d) + i.val) / A.half.toNat = (cw d).toNat := by
  rw [A.from_eq, Nat.mul_comm, Nat.mul_add_div (Nat.lt_of_le_of_lt (Nat.zero_le _) i.isLt), Nat.div_eq_of_lt i.isLt, Nat.add_zero]

theorem lands (c : Dev nD) : ∀ (k : T.A ⊕ T.B) (i : (T.filling c k).s.Idx), ∃ x : (sh3 4 (arr (arrOf k)).R (arr (arrOf k)).C).Idx,
    touch τ (T.filling c k).dst c i = touch τ (arr (arrOf k)).out c x ∧ (x 0).val = (slotOf c k).toNat ∧ rowsOf c (x 1).val (arr (arrOf k)).half.toNat k
  | .inl a, i => by
    rw [eq_ix2 (n0 := (arr a).R) (n1 := (arr a).C) i]
    exact ⟨_, ((arr a).slot_under (ownw c) (ownw_lt c) _ _).touch_eq c, rfl, trivial⟩
  | .inr (.inl b), i => by
    rw [eq_ix2 (n0 := (arr b.1).half.toNat) (n1 := (arr b.1).C) i]
    refine ⟨_, ((arr b.1).halfSlot_under (ownw ((across b.2).symm c)) (ownw_lt _) ((across b.2).symm c) _ _).touch_eq c, ?_, ?_⟩
    · show (ownw ((across b.2).symm c)).toNat = (slotw b.2 c).toNat; rw [(across_facts b.2 c).1]
    · exact (row_div (arr b.1) ((across b.2).symm c) _).trans (congrArg BitVec.toNat (across_facts b.2 c).2.1)
  | .inr (.inr b), i => by
    rw [eq_ix2 (n0 := (arr b.1).half.toNat) (n1 := (arr b.1).C) i]
    refine ⟨_, ((arr b.1).halfSlot_under (slotw b.2 (beside.symm c)) (slotw_lt _ _) (beside.symm c) _ _).touch_eq c, ?_, ?_⟩
    · show (slotw b.2 (beside.symm c)).toNat = (slotw b.2 c).toNat; rw [(beside_facts c).2.2 b.2]
    · exact (row_div (arr b.1) (beside.symm c) _).trans (beside_facts c).2.1

theorem apart (c : Dev nD) (k k' : T.A ⊕ T.B) (i : (T.filling c k).s.Idx) (i' : (T.filling c k').s.Idx)
    (h : touch τ (T.filling c k).dst c i = touch τ (T.filling c k').dst c i') : k = k' := by
  obtain ⟨x, hx, hx0, hx1⟩ := lands c k i
  obtain ⟨x', hx', hx0', hx1'⟩ := lands c k' i'
  obtain ⟨ha, h0, h1⟩ := out_apart c _ _ x x' (hx.symm.trans (h.trans hx'))
  have hs : (slotOf c k).toNat = (slotOf c k').toNat := hx0.symm.trans (h0.trans hx0')
  have hh : (arr (arrOf k)).half.toNat = (arr (arrOf k')).half.toNat := by rw [ha]
  rw [h1, hh] at hx1
  match k, k' with
  | .inl a, .inl a' => exact congrArg _ ha
  | .inl a, .inr (.inl b) => exact absurd hs.symm (slots_apart c b.2 0).1
  | .inl a, .inr (.inr b) => exact absurd hs.symm (slots_apart c b.2 0).1
  | .inr (.inl b), .inl a => exact absurd hs (slots_apart c b.2 0).1
  | .inr (.inr b), .inl a => exact absurd hs (slots_apart c b.2 0).1
  | .inr (.inl b), .inr (.inl b') => rw [Prod.ext (x := b) (y := b') ha ((slots_apart c b.2 b'.2).2.1 hs)]
  | .inr (.inr b), .inr (.inr b') => rw [Prod.ext (x := b) (y := b') ha ((slots_apart c b.2 b'.2).2.1 hs)]
  | .inr (.inl b), .inr (.inr b') =>
    have e : (cw c).toNat = 1 - (cw c).toNat := hx1.symm.trans hx1'
    omega
  | .inr (.inr b), .inr (.inl b') =>
    have e : (cw c).toNat = 1 - (cw c).toNat := hx1'.symm.trans hx1
    omega

def isOut (b : Ref sig .tc) : Bool := (List.finRange 7).any fun a => b = outRef a

theorem isOut_out (a : Fin 7) : isOut (outRef a) = true ∧ (outRef a).isScoped = false := by revert a; decide
theorem isOut_arg (a : Fin 7) : isOut (argRef a) = false ∧ (argRef a).isScoped = false := by revert a; decide

def S : T.Fits τ R where
  isOut := isOut
  num k := match k with
    | .inr (.inl b) => b.2.val + 1
    | _ => 0
  fills_out c k := by
    match k with
    | .inl a => exact (out_ref a).symm ▸ isOut_out a
    | .inr (.inl b) => exact (halfSlot_ref b.1 _ _ _).symm ▸ isOut_out b.1
    | .inr (.inr b) => exact (halfSlot_ref b.1 _ _ _).symm ▸ isOut_out b.1
  reads_in c k hk := by
    match k with
    | .inl a => exact (arg_ref a).symm ▸ isOut_arg a
    | .inr (.inl b) => exact (arg_ref b.1).symm ▸ isOut_arg b.1
    | .inr (.inr b) => exact (no_relay hk).elim
  num_inj c k hk k' hk' h hn := by
    have arg : ∀ a a' : Fin 7, (arr a).arg.view.ref = (arr a').arg.view.ref → a = a' := fun a a' h => argRef_inj (by rw [← arg_ref, ← arg_ref, h])
    match k, k' with
    | .inl a, .inl a' => exact congrArg _ (arg a a' h)
    | .inl a, .inr (.inl b) => exact absurd hn.symm (Nat.succ_ne_zero _)
    | .inr (.inl b), .inl a => exact absurd hn (Nat.succ_ne_zero _)
    | .inr (.inl b), .inr (.inl b') => rw [Prod.ext (x := b) (y := b') (arg b.1 b'.1 h) (Fin.ext (Nat.succ.inj hn))]
    | .inr (.inr b), _ => exact (no_relay hk).elim
    | _, .inr (.inr b) => exact (no_relay hk').elim
  apart := apart

/-! ## The values -/

variable {Val : EltTy → Type} (m : (ℓ : Loc nD τ sig) → Buf Val ℓ)

def v : T.Values Val where
  own a d := held m d (arr a).arg
  sent b d := match b with
    | .inl b => held m d ((arr b.1).halfArg d)
    | .inr b => held m ((across b.2).symm d) ((arr b.1).halfArg ((across b.2).symm d))

theorem v_read (c : Dev nD) (k : T.A ⊕ T.B) (hk : k ∈ R.first) :
    (v m).made c k = (T.making c k).src.view.read Val (m ((T.making c k).src.view.loc (c.tc : Thread nD τ))) := by
  match k with
  | .inl a => rfl
  | .inr (.inl b) => rfl
  | .inr (.inr b) => exact (no_relay hk).elim

/-- Every slot holds a shard of the slot's chip. -/
theorem gathered {mem : (ℓ : Loc nD τ sig) → Buf Val ℓ} {d : Dev nD} (h : S.Ends m (v m) d mem) (a : Fin 7)
    (k : Fin 4) (i : Fin (arr a).R) (j : Fin (arr a).C) :
    ∃ d', (ownw d').toNat = k.val ∧ held mem d (arr a).out (ix3 k i j) = held m d' (arr a).arg (ix2 i j) := by
  have h2 := (arr a).two
  have hi := i.isLt
  rcases slots_all d k with hk | ⟨p, hp⟩
  · obtain rfl : k = ⟨(ownw d).toNat, ownw_lt d⟩ := Fin.ext hk
    refine ⟨d, rfl, ?_⟩
    rw [← ((arr a).slot_under (ownw d) (ownw_lt d) i j).held_eq mem d]
    exact congrFun (h.1 (.inl a)) (ix2 i j)
  · have key : ∀ (w : BitVec 32) (hw : w.toNat < 4) (e e' : Dev nD) (hwk : w.toNat = k.val) (he : cw e = cw e')
        (hv : held mem d ((arr a).halfSlot w hw e) = held m e' ((arr a).halfArg e')) (hl : (cw e).toNat * (arr a).half.toNat ≤ i.val)
        (hu : i.val < (cw e).toNat * (arr a).half.toNat + (arr a).half.toNat), held mem d (arr a).out (ix3 k i j) = held m e' (arr a).arg (ix2 i j) := by
      intro w hw e e' hwk he hv hl hu
      obtain rfl : k = ⟨w.toNat, hw⟩ := Fin.ext hwk.symm
      have hr := (arr a).row_lt e ⟨i.val - (cw e).toNat * (arr a).half.toNat, by omega⟩
      have hr' := (arr a).row_lt e' ⟨i.val - (cw e).toNat * (arr a).half.toNat, by omega⟩
      have e1 : (⟨_, hr⟩ : Fin (arr a).R) = i := Fin.ext (by show (arr a).from_ (cw e) + (i.val - (cw e).toNat * (arr a).half.toNat) = i.val; rw [Arr.from_eq]; omega)
      have e2 : (⟨_, hr'⟩ : Fin (arr a).R) = i := Fin.ext (by show (arr a).from_ (cw e') + (i.val - (cw e).toNat * (arr a).half.toNat) = i.val; rw [Arr.from_eq, ← he]; omega)
      have u1 := ((arr a).halfSlot_under w hw e ⟨i.val - (cw e).toNat * (arr a).half.toNat, by omega⟩ j).held_eq mem d
      have u2 := ((arr a).halfArg_under e' ⟨i.val - (cw e).toNat * (arr a).half.toNat, by omega⟩ j).held_eq m e'
      rw [e1] at u1
      rw [e2] at u2
      rw [← u1, ← u2, hv]
    by_cases hc : (cw d).toNat * (arr a).half.toNat ≤ i.val ∧ i.val < (cw d).toNat * (arr a).half.toNat + (arr a).half.toNat
    · have f := across_facts p d
      refine ⟨(across p).symm d, by rw [f.1, hp], ?_⟩
      refine key (ownw ((across p).symm d)) (ownw_lt _) ((across p).symm d) _ (by rw [f.1, hp]) rfl (h.1 (.inr (.inl (a, p)))) ?_ ?_
      · rw [f.2.1]; exact hc.1
      · rw [f.2.1]; exact hc.2
    · have f := beside_facts d
      have f' := across_facts p (beside.symm d)
      have hw : (slotw p (beside.symm d)).toNat = k.val := by rw [f.2.2 p, hp]
      have hcw : (cw (beside.symm d)).toNat = 1 - (cw d).toNat := f.2.1
      have hlt := (slots_apart d p p).2.2
      have hhalf : (cw (beside.symm d)).toNat * (arr a).half.toNat ≤ i.val ∧ i.val < (cw (beside.symm d)).toNat * (arr a).half.toNat + (arr a).half.toNat := by
        rw [hcw]
        rcases (by omega : (cw d).toNat = 0 ∨ (cw d).toNat = 1) with e | e <;> rw [e] at hc ⊢ <;> simp only [Nat.zero_mul, Nat.one_mul, Nat.sub_zero, Nat.sub_self] at hc ⊢ <;> omega
      refine ⟨(across p).symm (beside.symm d), by rw [f'.1, hw], ?_⟩
      exact key (slotw p (beside.symm d)) (slotw_lt _ _) (beside.symm d) _ hw f'.2.1.symm (h.1 (.inr (.inr (a, p)))) hhalf.1 hhalf.2

theorem kept_args {mem : (ℓ : Loc nD τ sig) → Buf Val ℓ} {d : Dev nD} (h : S.Ends m (v m) d mem) (a : Fin 7) :
    mem ((d.tc : Thread nD τ).loc (argRef a)) = m ((d.tc : Thread nD τ).loc (argRef a)) :=
  h.2 _ (Finset.mem_filter.mpr ⟨Finset.mem_filter.mpr ⟨Finset.mem_univ _, by rw [(isOut_arg a).2]; exact Bool.false_ne_true⟩,
    by rw [show S.isOut (argRef a) = false from (isOut_arg a).1]; exact Bool.false_ne_true⟩)

/-! ## The run -/

section

variable {F : FTy → Type} [FloatOps F] (m : (ℓ : Loc nD τ sig) → Buf (Elt F) ℓ)

theorem own_sems : Pipeline.OwnSemFacts (cfgs 0).spec fun k : T.Cell => SemLoc.dma (T.sem k) :=
  ⟨by decide +kernel, fun k k' h => T.sem_inj (SemLoc.dma.inj h), fun _ w => w.elim0⟩

theorem run_main (g : Dev nD → PrngReg) :
    θ_run (defs (F := F)) (onTc (τ := τ) (main (F := F))) ⟨m, fun _ => 0, g⟩ fun r =>
      (∀ c, S.Ends m (v m) c r.2.mem) ∧ r.2.sem = fun _ => 0 := by
  refine run_of_fits (m := m) (R := R) cfgs 0 (v m) S (v_read m) ?_ Gen.launch0 own_sems (fun _ => ⟨fun w => w.elim0⟩) Gen.N_0 defs₀ g main
    (fun _ => rfl) ⟨⟩ (fun t => body_eq t) (fun s h hs => ⟨h, sem_eq_zero_of_scoped (by decide) hs⟩)
  intro c b hb q
  obtain ⟨b, rfl⟩ := (mem_relays b).mp hb
  have f := across_facts b.2 c
  exact lent_of_landed m q c ((arr b.1).halfSlot_congr f.1 _ _ f.2.1) _ _ _ _ _

end

end Cert.GatherPlan

end
-- ==== Proof.Blocks.lean ====
/-
# Blocks of a whole array

An array cut along its columns or its rows into four blocks, one per chip; stacked, the blocks are the array's slices one
after the other, and for rows its reshape.
-/
module

public import Idealize.ShloMosaic.Lib.Layout
public import Idealize.ShloMosaic.Lib.Pipeline.Value
public import Idealize.ShloMosaic.Lib.Pipeline.ValueKit.Tiles
public import Idealize.ShloMosaic.Lib.ValueLayout
public import Idealize.ShloMosaic.Lib.ValueIdxRank6

@[expose] public section

noncomputable section

namespace Cert.Blocks

open Idealize.ShloMosaic Idealize.ShloMosaic.ValueIdx

variable {α : Type}

/-- The slices of an array's columns, stacked. -/
theorem stack_eq {R C W : ℕ} (w : (⟨2, ![R, W]⟩ : Shape).Idx → α) (o : Fin 4 → ℕ) (ho : ∀ k, o k = k.val * C)
    (hs : ∀ k, (⟨2, ![R, W]⟩ : Shape).Slices ![0, o k] ⟨2, ![R, C]⟩)
    (hb : (⟨2, ![R, C]⟩ : Shape).BroadcastsInDim ⟨3, ![1, R, C]⟩ ![1, 2])
    (hc : Shape.Concatenates [⟨3, ![1, R, C]⟩, ⟨3, ![1, R, C]⟩, ⟨3, ![1, R, C]⟩, ⟨3, ![1, R, C]⟩] ⟨3, ![4, R, C]⟩ 0)
    (j : (⟨3, ![4, R, C]⟩ : Shape).Idx) (y : (⟨2, ![R, W]⟩ : Shape).Idx) (h0 : (y 0).val = (j 1).val) (h1 : (y 1).val = (j 0).val * C + (j 2).val) :
    concatenate ⟨3, ![4, R, C]⟩ 0
      [⟨⟨3, ![1, R, C]⟩, broadcastInDim ⟨3, ![1, R, C]⟩ ![1, 2] hb (extractStridedSlice ⟨2, ![R, C]⟩ ![0, o 0] w (hs 0))⟩,
       ⟨⟨3, ![1, R, C]⟩, broadcastInDim ⟨3, ![1, R, C]⟩ ![1, 2] hb (extractStridedSlice ⟨2, ![R, C]⟩ ![0, o 1] w (hs 1))⟩,
       ⟨⟨3, ![1, R, C]⟩, broadcastInDim ⟨3, ![1, R, C]⟩ ![1, 2] hb (extractStridedSlice ⟨2, ![R, C]⟩ ![0, o 2] w (hs 2))⟩,
       ⟨⟨3, ![1, R, C]⟩, broadcastInDim ⟨3, ![1, R, C]⟩ ![1, 2] hb (extractStridedSlice ⟨2, ![R, C]⟩ ![0, o 3] w (hs 3))⟩] hc j = w y := by
  refine concatenate_ofFn_unit_eq (s₁ := ⟨3, ![1, R, C]⟩) (0 : Fin 3)
    (fun n : Fin 4 => broadcastInDim ⟨3, ![1, R, C]⟩ ![1, 2] hb (extractStridedSlice ⟨2, ![R, C]⟩ ![0, o n] w (hs n))) (by exact hc) j (w y) rfl rfl ?_
  intro n i hn hi hr
  have e1 : (i 1).val = (j 1).val := hr 1 fun h => absurd (congrArg Fin.val h) (show ¬(1 : ℕ) = 0 by decide)
  have e2 : (i 2).val = (j 2).val := hr 2 fun h => absurd (congrArg Fin.val h) (show ¬(2 : ℕ) = 0 by decide)
  refine (broadcastInDim_apply ![1, 2] hb _ i (ix2 (i 1 : Fin R) (i 2 : Fin C)) fun a => ?_).trans
    (extractStridedSlice_apply _ w (hs n) _ y fun a => ?_)
  · match a with
    | 0 =>
      have : (i 1).val < R := (i 1).isLt
      show (i 1).val = if R = 1 then 0 else (i 1).val
      split <;> omega
    | 1 =>
      have : (i 2).val < C := (i 2).isLt
      show (i 2).val = if C = 1 then 0 else (i 2).val
      split <;> omega
  · match a with
    | 0 =>
      show (y 0).val = 0 + (i 1).val
      omega
    | 1 =>
      show (y 1).val = o n + (i 2).val
      rw [h1, ho, e2, ← hn]

/-- The columns of an array as its blocks have them. -/
theorem columns_eq {R C W : ℕ} {out : (⟨3, ![4, R, C]⟩ : Shape).Idx → α} {w : (⟨2, ![R, W]⟩ : Shape).Idx → α}
    (hT : Layout.TilesN ⟨2, ![R, C]⟩ ⟨2, ![R, W]⟩ fun b => Layout.cutSize [2, 2, 2] ((![[], [0, 1]] : Fin 2 → List ℕ) b)) (hm)
    (H : ∀ k i j, ∃ d : Fin 8, Layout.meshLin [2, 2, 2] d.val [0, 1] = k.val
      ∧ out (ix3 k i j) = Layout.blockN ⟨2, ![R, C]⟩ ⟨2, ![R, W]⟩ (Layout.meshBlock [2, 2, 2] (![[], [0, 1]] : Fin 2 → List ℕ) d hm) w hT (ix2 i j))
    (o : Fin 4 → ℕ) (ho : ∀ k, o k = k.val * C) (hs : ∀ k, (⟨2, ![R, W]⟩ : Shape).Slices ![0, o k] ⟨2, ![R, C]⟩)
    (hb : (⟨2, ![R, C]⟩ : Shape).BroadcastsInDim ⟨3, ![1, R, C]⟩ ![1, 2])
    (hc : Shape.Concatenates [⟨3, ![1, R, C]⟩, ⟨3, ![1, R, C]⟩, ⟨3, ![1, R, C]⟩, ⟨3, ![1, R, C]⟩] ⟨3, ![4, R, C]⟩ 0) :
    out = concatenate ⟨3, ![4, R, C]⟩ 0
      [⟨⟨3, ![1, R, C]⟩, broadcastInDim ⟨3, ![1, R, C]⟩ ![1, 2] hb (extractStridedSlice ⟨2, ![R, C]⟩ ![0, o 0] w (hs 0))⟩,
       ⟨⟨3, ![1, R, C]⟩, broadcastInDim ⟨3, ![1, R, C]⟩ ![1, 2] hb (extractStridedSlice ⟨2, ![R, C]⟩ ![0, o 1] w (hs 1))⟩,
       ⟨⟨3, ![1, R, C]⟩, broadcastInDim ⟨3, ![1, R, C]⟩ ![1, 2] hb (extractStridedSlice ⟨2, ![R, C]⟩ ![0, o 2] w (hs 2))⟩,
       ⟨⟨3, ![1, R, C]⟩, broadcastInDim ⟨3, ![1, R, C]⟩ ![1, 2] hb (extractStridedSlice ⟨2, ![R, C]⟩ ![0, o 3] w (hs 3))⟩] hc := by
  funext x
  obtain ⟨d, hd, he⟩ := H (x 0) (x 1) (x 2)
  refine ((congrArg out (eq_ix3 x)).trans he).trans (stack_eq w o ho hs hb hc x (hT.idx _ (ix2 (x 1 : Fin R) (x 2 : Fin C))) ?_ ?_).symm
  · show Layout.meshLin [2, 2, 2] d.val [] * R + (x 1).val = (x 1).val
    show 0 * R + _ = _
    omega
  · show Layout.meshLin [2, 2, 2] d.val [0, 1] * C + (x 2).val = (x 0).val * C + (x 2).val
    rw [hd]

/-- The rows of an array as its blocks have them. -/
theorem rows_eq {R C W : ℕ} {out : (⟨3, ![4, R, C]⟩ : Shape).Idx → α} {w : (⟨2, ![W, C]⟩ : Shape).Idx → α}
    (hT : Layout.TilesN ⟨2, ![R, C]⟩ ⟨2, ![W, C]⟩ fun b => Layout.cutSize [2, 2, 2] ((![[0, 1], []] : Fin 2 → List ℕ) b)) (hm)
    (H : ∀ k i j, ∃ d : Fin 8, Layout.meshLin [2, 2, 2] d.val [0, 1] = k.val
      ∧ out (ix3 k i j) = Layout.blockN ⟨2, ![R, C]⟩ ⟨2, ![W, C]⟩ (Layout.meshBlock [2, 2, 2] (![[0, 1], []] : Fin 2 → List ℕ) d hm) w hT (ix2 i j))
    (hc : (⟨2, ![W, C]⟩ : Shape).ShapeCasts ⟨3, ![4, R, C]⟩) : out = shapeCast ⟨3, ![4, R, C]⟩ w hc := by
  funext x
  obtain ⟨d, hd, he⟩ := H (x 0) (x 1) (x 2)
  refine ((congrArg out (eq_ix3 x)).trans he).trans (shapeCast_apply w hc x (hT.idx _ (ix2 (x 1 : Fin R) (x 2 : Fin C))) ?_).symm
  rw [Shape.rowMajor_val_two, Shape.rowMajor_val_three]
  show (Layout.meshLin [2, 2, 2] d.val [0, 1] * R + (x 1).val) * C + (0 * C + (x 2).val) = ((x 0).val * R + (x 1).val) * C + (x 2).val
  rw [hd, Nat.zero_mul, Nat.zero_add]

theorem dev_val : ∀ d : Fin 8, d.val = 2 * Layout.meshLin [2, 2, 2] d.val [0, 1] + Layout.meshLin [2, 2, 2] d.val [2] := by decide +kernel

/-- A chip's columns, of which its cores have half of the rows each. -/
theorem join_columns {H R C W : ℕ} {out : (⟨2, ![R, C]⟩ : Shape).Idx → α} {w : (⟨2, ![R, W]⟩ : Shape).Idx → α} {d : Fin 8}
    (hT : Layout.TilesN ⟨2, ![H, C]⟩ ⟨2, ![R, W]⟩ fun b => Layout.cutSize [2, 2, 2] ((![[2], [0, 1]] : Fin 2 → List ℕ) b)) (hm)
    (h : ∀ i j, ∃ (e : Fin 8) (k : Fin H), Layout.meshLin [2, 2, 2] e.val [0, 1] = Layout.meshLin [2, 2, 2] d.val [0, 1]
      ∧ Layout.meshLin [2, 2, 2] e.val [2] * H + k.val = i.val
      ∧ out (ix2 i j) = Layout.blockN ⟨2, ![H, C]⟩ ⟨2, ![R, W]⟩ (Layout.meshBlock [2, 2, 2] (![[2], [0, 1]] : Fin 2 → List ℕ) e hm) w hT (ix2 k j))
    (hT' : Layout.TilesN ⟨2, ![R, C]⟩ ⟨2, ![R, W]⟩ fun b => Layout.cutSize [2, 2, 2] ((![[], [0, 1]] : Fin 2 → List ℕ) b)) (hm') :
    out = Layout.blockN ⟨2, ![R, C]⟩ ⟨2, ![R, W]⟩ (Layout.meshBlock [2, 2, 2] (![[], [0, 1]] : Fin 2 → List ℕ) d hm') w hT' := by
  funext x
  obtain ⟨e, k, hc, hk, he⟩ := h (x 0) (x 1)
  refine ((congrArg out (eq_ix2 x)).trans he).trans (congrArg w (funext fun b => Fin.ext ?_))
  match b with
  | 0 =>
    show Layout.meshLin [2, 2, 2] e.val [2] * H + k.val = 0 * R + (x 0).val
    rw [hk, Nat.zero_mul, Nat.zero_add]
  | 1 =>
    show Layout.meshLin [2, 2, 2] e.val [0, 1] * C + (x 1).val = Layout.meshLin [2, 2, 2] d.val [0, 1] * C + (x 1).val
    rw [hc]

/-- A chip's rows, of which its cores have half each. -/
theorem join_rows {H R C W : ℕ} {out : (⟨2, ![R, C]⟩ : Shape).Idx → α} {w : (⟨2, ![W, C]⟩ : Shape).Idx → α} {d : Fin 8} (hR : H + H = R)
    (hT : Layout.Tiles ⟨2, ![H, C]⟩ ⟨2, ![W, C]⟩ 0 8)
    (h : ∀ i j, ∃ (e : Fin 8) (k : Fin H), Layout.meshLin [2, 2, 2] e.val [0, 1] = Layout.meshLin [2, 2, 2] d.val [0, 1]
      ∧ Layout.meshLin [2, 2, 2] e.val [2] * H + k.val = i.val
      ∧ out (ix2 i j) = Layout.block ⟨2, ![H, C]⟩ ⟨2, ![W, C]⟩ 0 8 e w hT (ix2 k j))
    (hT' : Layout.TilesN ⟨2, ![R, C]⟩ ⟨2, ![W, C]⟩ fun b => Layout.cutSize [2, 2, 2] ((![[0, 1], []] : Fin 2 → List ℕ) b)) (hm') :
    out = Layout.blockN ⟨2, ![R, C]⟩ ⟨2, ![W, C]⟩ (Layout.meshBlock [2, 2, 2] (![[0, 1], []] : Fin 2 → List ℕ) d hm') w hT' := by
  funext x
  obtain ⟨e, k, hc, hk, he⟩ := h (x 0) (x 1)
  refine ((congrArg out (eq_ix2 x)).trans he).trans (congrArg w (funext fun b => Fin.ext ?_))
  match b with
  | 0 =>
    show e.val * H + k.val = Layout.meshLin [2, 2, 2] d.val [0, 1] * R + (x 0).val
    have hv : e.val * H = (2 * Layout.meshLin [2, 2, 2] e.val [0, 1] + Layout.meshLin [2, 2, 2] e.val [2]) * H := congrArg (· * H) (dev_val e)
    rw [hc, Nat.add_mul, Nat.mul_assoc] at hv
    rw [← hk, hv, ← hR, Nat.mul_add]
    omega
  | 1 =>
    show (x 1).val = 0 * C + (x 1).val
    rw [Nat.zero_mul, Nat.zero_add]

theorem place_eq {a a' b r r' c R C : ℕ} (ha : a = a') (hr : r = r') : ((a * 4 + b) * R + r) * C + c = ((a' * 4 + b) * R + r') * C + (0 * C + c) := by
  rw [ha, hr, Nat.zero_mul, Nat.zero_add]

/-- Every chip's slots of every chip, exchanged: the first two of the axes swapped. -/
theorem swap_eq {H R C : ℕ} {out : (⟨3, ![4, H, C]⟩ : Shape).Idx → α} {w : (⟨3, ![16, R, C]⟩ : Shape).Idx → α} {d : Fin 8}
    (hT : Layout.TilesN ⟨3, ![4, H, C]⟩ ⟨3, ![16, R, C]⟩ fun b => Layout.cutSize [2, 2, 2] ((![[0, 1], [2], []] : Fin 3 → List ℕ) b)) (hm)
    (h : ∀ k i j, ∃ (e : Fin 8) (k' : Fin 4), Layout.meshLin [2, 2, 2] e.val [0, 1] = k.val
      ∧ Layout.meshLin [2, 2, 2] e.val [2] = Layout.meshLin [2, 2, 2] d.val [2] ∧ k'.val = Layout.meshLin [2, 2, 2] d.val [0, 1]
      ∧ out (ix3 k i j) = Layout.blockN ⟨3, ![4, H, C]⟩ ⟨3, ![16, R, C]⟩ (Layout.meshBlock [2, 2, 2] (![[0, 1], [2], []] : Fin 3 → List ℕ) e hm) w hT (ix3 k' i j))
    (hT' : Layout.TilesN ⟨3, ![4, H, C]⟩ ⟨3, ![16, R, C]⟩ fun b => Layout.cutSize [2, 2, 2] ((![[0, 1], [2], []] : Fin 3 → List ℕ) b)) (hm')
    (h₁ : (⟨3, ![16, R, C]⟩ : Shape).ShapeCasts ⟨4, ![4, 4, R, C]⟩) (h₂ : (⟨4, ![4, 4, R, C]⟩ : Shape).Transposes [1, 0, 2, 3] ⟨4, ![4, 4, R, C]⟩)
    (h₃ : (⟨4, ![4, 4, R, C]⟩ : Shape).ShapeCasts ⟨3, ![16, R, C]⟩) :
    out = Layout.blockN ⟨3, ![4, H, C]⟩ ⟨3, ![16, R, C]⟩ (Layout.meshBlock [2, 2, 2] (![[0, 1], [2], []] : Fin 3 → List ℕ) d hm')
      (shapeCast ⟨3, ![16, R, C]⟩ (transpose ⟨4, ![4, 4, R, C]⟩ [1, 0, 2, 3] (shapeCast ⟨4, ![4, 4, R, C]⟩ w h₁) h₂) h₃) hT' := by
  funext x
  obtain ⟨e, k, hk, hc, hd, he⟩ := h (x 0) (x 1) (x 2)
  refine ((congrArg out (eq_ix3 x)).trans he).trans (Eq.symm ?_)
  have r : (hT'.idx (Layout.meshBlock [2, 2, 2] (![[0, 1], [2], []] : Fin 3 → List ℕ) d hm') x 1).val
      = (hT.idx (Layout.meshBlock [2, 2, 2] (![[0, 1], [2], []] : Fin 3 → List ℕ) e hm) (ix3 k (x 1 : Fin H) (x 2 : Fin C)) 1).val := by
    show Layout.meshLin [2, 2, 2] d.val [2] * H + (x 1).val = Layout.meshLin [2, 2, 2] e.val [2] * H + (x 1).val
    rw [hc]
  refine (shapeCast_apply _ h₃ _ (ix4 (⟨k.val, k.isLt⟩ : Fin 4) (x 0 : Fin 4) (hT'.idx (Layout.meshBlock [2, 2, 2] (![[0, 1], [2], []] : Fin 3 → List ℕ) d hm') x 1) (x 2 : Fin C)) ?_).trans
    ((transpose_apply [1, 0, 2, 3] _ h₂ _ (ix4 (x 0 : Fin 4) (⟨k.val, k.isLt⟩ : Fin 4) (hT'.idx (Layout.meshBlock [2, 2, 2] (![[0, 1], [2], []] : Fin 3 → List ℕ) d hm') x 1) (x 2 : Fin C)) ?_).trans
    (shapeCast_apply w h₁ _ (hT.idx (Layout.meshBlock [2, 2, 2] (![[0, 1], [2], []] : Fin 3 → List ℕ) e hm) (ix3 k (x 1 : Fin H) (x 2 : Fin C))) ?_))
  · rw [Shape.rowMajor_val_four, Shape.rowMajor_val_three]
    exact place_eq hd rfl
  · intro b
    match b with | 0 => rfl | 1 => rfl | 2 => rfl | 3 => rfl
  · rw [Shape.rowMajor_val_four, Shape.rowMajor_val_three]
    exact (place_eq hk.symm r).symm

/-- Every device's rows, one after the other. -/
theorem spread_eq {H R C : ℕ} {out : (⟨3, ![8, H, C]⟩ : Shape).Idx → α} {w : (⟨2, ![R, C]⟩ : Shape).Idx → α}
    (hT : Layout.Tiles ⟨2, ![H, C]⟩ ⟨2, ![R, C]⟩ 0 8)
    (h : ∀ (k : Fin 8) i j, out (ix3 k i j) = Layout.block ⟨2, ![H, C]⟩ ⟨2, ![R, C]⟩ 0 8 k w hT (ix2 i j))
    (hc : (⟨2, ![R, C]⟩ : Shape).ShapeCasts ⟨3, ![8, H, C]⟩) : out = shapeCast ⟨3, ![8, H, C]⟩ w hc := by
  funext x
  refine ((congrArg out (eq_ix3 x)).trans (h (x 0) (x 1) (x 2))).trans (shapeCast_apply w hc x (hT.idx (x 0) (ix2 (x 1 : Fin H) (x 2 : Fin C))) ?_).symm
  rw [Shape.rowMajor_val_two, Shape.rowMajor_val_three]
  rfl

/-! ## Halves of parts -/

/-- Of every chip's parts the halves its cores own: half 0 of the array of core `o0`, half 1 of the array of core `o1`. -/
theorem pick_eq {H R C : ℕ} (two : H + H = R) {out : (⟨3, ![4, H, C]⟩ : Shape).Idx → α} {p : (⟨6, ![4, 2, 4, 2, H, C]⟩ : Shape).Idx → α} {d : Fin 8}
    {o0 o1 : ℕ} (h : ∀ k i j, ∃ (a : Fin 4) (o s : Fin 2), a.val = Layout.meshLin [2, 2, 2] d.val [0, 1] ∧ s.val = Layout.meshLin [2, 2, 2] d.val [2]
      ∧ (s.val = 0 → o.val = o0) ∧ (s.val = 1 → o.val = o1) ∧ out (ix3 k i j) = p (ix6 a o k s i j))
    (h₀ : (⟨6, ![4, 2, 4, 2, H, C]⟩ : Shape).Slices ![0, o0, 0, 0, 0, 0] ⟨6, ![4, 1, 4, 1, H, C]⟩)
    (h₁ : (⟨6, ![4, 2, 4, 2, H, C]⟩ : Shape).Slices ![0, o1, 0, 1, 0, 0] ⟨6, ![4, 1, 4, 1, H, C]⟩)
    (hc : Shape.Concatenates [⟨6, ![4, 1, 4, 1, H, C]⟩, ⟨6, ![4, 1, 4, 1, H, C]⟩] ⟨6, ![4, 1, 4, 2, H, C]⟩ 3)
    (h₃ : (⟨6, ![4, 1, 4, 2, H, C]⟩ : Shape).ShapeCasts ⟨3, ![16, R, C]⟩)
    (hT : Layout.TilesN ⟨3, ![4, H, C]⟩ ⟨3, ![16, R, C]⟩ fun b => Layout.cutSize [2, 2, 2] ((![[0, 1], [2], []] : Fin 3 → List ℕ) b)) (hm) :
    out = Layout.blockN ⟨3, ![4, H, C]⟩ ⟨3, ![16, R, C]⟩ (Layout.meshBlock [2, 2, 2] (![[0, 1], [2], []] : Fin 3 → List ℕ) d hm)
      (shapeCast ⟨3, ![16, R, C]⟩ (concatenate ⟨6, ![4, 1, 4, 2, H, C]⟩ 3
        [⟨⟨6, ![4, 1, 4, 1, H, C]⟩, extractStridedSlice ⟨6, ![4, 1, 4, 1, H, C]⟩ ![0, o0, 0, 0, 0, 0] p h₀⟩,
         ⟨⟨6, ![4, 1, 4, 1, H, C]⟩, extractStridedSlice ⟨6, ![4, 1, 4, 1, H, C]⟩ ![0, o1, 0, 1, 0, 0] p h₁⟩] hc) h₃) hT := by
  funext x
  obtain ⟨a, o, s, ha, hs, e0, e1, he⟩ := h (x 0) (x 1) (x 2)
  refine ((congrArg out (eq_ix3 x)).trans he).trans (Eq.symm ?_)
  refine (shapeCast_apply _ h₃ _ (ix6 a (0 : Fin 1) (x 0 : Fin 4) s (x 1 : Fin H) (x 2 : Fin C)) ?_).trans ?_
  · rw [Shape.rowMajor_val_six, Shape.rowMajor_val_three]
    show (((((a.val * 1 + 0) * 4 + (x 0).val) * 2 + s.val) * H + (x 1).val) * C + (x 2).val)
      = ((Layout.meshLin [2, 2, 2] d.val [0, 1] * 4 + (x 0).val) * R + (Layout.meshLin [2, 2, 2] d.val [2] * H + (x 1).val)) * C + (0 * C + (x 2).val)
    rw [← ha, ← hs, ← two, Nat.zero_mul, Nat.zero_add, Nat.mul_one, Nat.add_zero, Nat.add_mul _ s.val H, Nat.mul_assoc _ 2 H, Nat.two_mul, Nat.add_assoc _ (s.val * H)]
  · rcases (by omega : s.val = 0 ∨ s.val = 1) with hs' | hs'
    · refine (concatenate_pair_apply_left (t := ⟨6, ![4, 1, 4, 2, H, C]⟩) (s₁ := ⟨6, ![4, 1, 4, 1, H, C]⟩) (s₂ := ⟨6, ![4, 1, 4, 1, H, C]⟩) (3 : Fin 6) _ _ (by exact hc) _ rfl
        (ix6 a (0 : Fin 1) (x 0 : Fin 4) (0 : Fin 1) (x 1 : Fin H) (x 2 : Fin C)) ?_).trans (extractStridedSlice_apply _ p h₀ _ _ ?_)
      · intro b
        match b with | 0 => rfl | 1 => rfl | 2 => rfl | 3 => exact hs'.symm | 4 => rfl | 5 => rfl
      · intro b
        match b with
        | 0 => exact (Nat.zero_add _).symm
        | 1 => exact e0 hs'
        | 2 => exact (Nat.zero_add _).symm
        | 3 => exact hs'
        | 4 => exact (Nat.zero_add _).symm
        | 5 => exact (Nat.zero_add _).symm
    · refine (concatenate_pair_apply_right (t := ⟨6, ![4, 1, 4, 2, H, C]⟩) (s₁ := ⟨6, ![4, 1, 4, 1, H, C]⟩) (s₂ := ⟨6, ![4, 1, 4, 1, H, C]⟩) (3 : Fin 6) _ _ (by exact hc) _ rfl rfl
        (ix6 a (0 : Fin 1) (x 0 : Fin 4) (0 : Fin 1) (x 1 : Fin H) (x 2 : Fin C)) ?_ ?_).trans (extractStridedSlice_apply _ p h₁ _ _ ?_)
      · intro b hb
        match b with | 0 => rfl | 1 => rfl | 2 => rfl | 3 => exact absurd rfl hb | 4 => rfl | 5 => rfl
      · exact hs'.symm
      · intro b
        match b with
        | 0 => exact (Nat.zero_add _).symm
        | 1 => exact e1 hs'
        | 2 => exact (Nat.zero_add _).symm
        | 3 => exact hs'
        | 4 => exact (Nat.zero_add _).symm
        | 5 => exact (Nat.zero_add _).symm

/-- Where a half of a part lies in a device's array, the parts its columns. -/
theorem column_part {H R C W N : ℕ} (two : H + H = R) (four : 4 * C = W) (g : (⟨2, ![N, W]⟩ : Shape).Idx → α) (hT : Layout.Tiles ⟨2, ![R, W]⟩ ⟨2, ![N, W]⟩ 0 8)
    (h₁ : (⟨2, ![N, W]⟩ : Shape).ShapeCasts ⟨6, ![4, 2, 2, H, 4, C]⟩)
    (h₂ : (⟨6, ![4, 2, 2, H, 4, C]⟩ : Shape).Transposes [0, 1, 4, 2, 3, 5] ⟨6, ![4, 2, 4, 2, H, C]⟩) {d : Fin 8}
    (a : Fin 4) (o : Fin 2) (k : Fin 4) (s : Fin 2) (i : Fin H) (j : Fin C) (y : Fin R) (z : Fin W) (ha : a.val = Layout.meshLin [2, 2, 2] d.val [0, 1])
    (ho : o.val = Layout.meshLin [2, 2, 2] d.val [2]) (hy : y.val = s.val * H + i.val) (hz : z.val = k.val * C + j.val) :
    Layout.block ⟨2, ![R, W]⟩ ⟨2, ![N, W]⟩ 0 8 d g hT (ix2 y z)
      = transpose ⟨6, ![4, 2, 4, 2, H, C]⟩ [0, 1, 4, 2, 3, 5] (shapeCast ⟨6, ![4, 2, 2, H, 4, C]⟩ g h₁) h₂ (ix6 a o k s i j) := by
  refine ((transpose_apply [0, 1, 4, 2, 3, 5] _ h₂ _ (ix6 a o s i k j) ?_).trans (shapeCast_apply g h₁ _ (hT.idx d (ix2 y z)) ?_)).symm
  · intro b
    match b with | 0 => rfl | 1 => rfl | 2 => rfl | 3 => rfl | 4 => rfl | 5 => rfl
  · rw [Shape.rowMajor_val_six, Shape.rowMajor_val_two]
    show (d.val * R + y.val) * W + z.val = (((((a.val * 2 + o.val) * 2 + s.val) * H + i.val) * 4 + k.val) * C + j.val)
    have hd : d.val = a.val * 2 + o.val := by have := dev_val d; omega
    rw [hd, hy, hz, ← two, ← four, Nat.add_mul _ s.val H, Nat.mul_assoc _ 2 H, Nat.two_mul, Nat.add_mul _ k.val C, Nat.mul_assoc _ 4 C]
    simp only [Nat.add_assoc]

/-- The same, the parts its rows. -/
theorem row_part {H R C N : ℕ} (eight : 8 * H = R) (g : (⟨2, ![N, C]⟩ : Shape).Idx → α) (hT : Layout.Tiles ⟨2, ![R, C]⟩ ⟨2, ![N, C]⟩ 0 8)
    (h₁ : (⟨2, ![N, C]⟩ : Shape).ShapeCasts ⟨6, ![4, 2, 4, 2, H, C]⟩) {d : Fin 8}
    (a : Fin 4) (o : Fin 2) (k : Fin 4) (s : Fin 2) (i : Fin H) (j : Fin C) (y : Fin R) (ha : a.val = Layout.meshLin [2, 2, 2] d.val [0, 1])
    (ho : o.val = Layout.meshLin [2, 2, 2] d.val [2]) (hy : y.val = k.val * (2 * H) + s.val * H + i.val) :
    Layout.block ⟨2, ![R, C]⟩ ⟨2, ![N, C]⟩ 0 8 d g hT (ix2 y j) = shapeCast ⟨6, ![4, 2, 4, 2, H, C]⟩ g h₁ (ix6 a o k s i j) := by
  refine (shapeCast_apply g h₁ _ (hT.idx d (ix2 y j)) ?_).symm
  rw [Shape.rowMajor_val_six, Shape.rowMajor_val_two]
  show (d.val * R + y.val) * C + j.val = (((((a.val * 2 + o.val) * 4 + k.val) * 2 + s.val) * H + i.val) * C + j.val)
  have hd : d.val = a.val * 2 + o.val := by have := dev_val d; omega
  have h8 : (a.val * 2 + o.val) * (8 * H) = (a.val * 2 + o.val) * 4 * (2 * H) := by rw [Nat.mul_assoc _ 4, ← Nat.mul_assoc 4 2 H]
  rw [hd, hy, ← eight, h8, Nat.add_mul _ s.val H, Nat.mul_assoc _ 2 H, Nat.add_mul _ k.val (2 * H)]
  simp only [Nat.add_assoc]

/-- The same, the parts its slots. -/
theorem slot_part {H R C : ℕ} (two : H + H = R) (g : (⟨3, ![32, R, C]⟩ : Shape).Idx → α) (hT : Layout.Tiles ⟨3, ![4, R, C]⟩ ⟨3, ![32, R, C]⟩ 0 8)
    (h₁ : (⟨3, ![32, R, C]⟩ : Shape).ShapeCasts ⟨6, ![4, 2, 4, 2, H, C]⟩) {d : Fin 8}
    (a : Fin 4) (o : Fin 2) (k : Fin 4) (s : Fin 2) (i : Fin H) (j : Fin C) (y : Fin R) (ha : a.val = Layout.meshLin [2, 2, 2] d.val [0, 1])
    (ho : o.val = Layout.meshLin [2, 2, 2] d.val [2]) (hy : y.val = s.val * H + i.val) :
    Layout.block ⟨3, ![4, R, C]⟩ ⟨3, ![32, R, C]⟩ 0 8 d g hT (ix3 k y j) = shapeCast ⟨6, ![4, 2, 4, 2, H, C]⟩ g h₁ (ix6 a o k s i j) := by
  refine (shapeCast_apply g h₁ _ (hT.idx d (ix3 k y j)) ?_).symm
  rw [Shape.rowMajor_val_six, Shape.rowMajor_val_three]
  show ((d.val * 4 + k.val) * R + y.val) * C + j.val = (((((a.val * 2 + o.val) * 4 + k.val) * 2 + s.val) * H + i.val) * C + j.val)
  have hd : d.val = a.val * 2 + o.val := by have := dev_val d; omega
  rw [hd, hy, ← two, Nat.add_mul _ s.val H, Nat.mul_assoc _ 2 H, Nat.two_mul]
  simp only [Nat.add_assoc]

end Cert.Blocks

end
-- ==== Proof.GatherValue.lean ====
/-
# What `gather_chips` gathers

Every result is the whole argument, cut into the four chips' shards.
-/
module

public import proofs.«01_k».proof.Proof.GatherRun
public import proofs.«01_k».proof.Proof.Blocks
public import proofs.«01_k».proof.Proof.Gen.GatherRefIdeal.Run

@[expose] public section

noncomputable section

namespace Cert.GatherPlan

open Idealize.ShloMosaic Idealize.ShloMosaic.TcCoe
open Idealize.SL.Sem
open Cert.GatherIdeal Cert.Moves Cert.Moves.Plan Cert.Blocks Cert.Chips
open Idealize.ShloMosaic.ValueIdx

section

variable {F : FTy → Type} [FloatOps F] (m : (ℓ : Loc nD τ sig) → Buf (Elt F) ℓ)
  (m' : (ℓ : Loc Cert.GatherRefIdeal.nD Cert.GatherRefIdeal.τ Cert.GatherRefIdeal.sig) → Buf (Elt F) ℓ)

/-- Each device holds its shards of the reference's arrays. -/
def Given : Prop := ∀ c : Dev nD,
  m ((c.tc : Thread nD τ).loc main_arg0) = Layout.blockN ⟨2, ![1024, 1792]⟩ ⟨2, ![1024, 7168]⟩ (Layout.meshBlock [2, 2, 2] ![[], [0, 1]] c) (m' (((0 : Dev Cert.GatherRefIdeal.nD).tc : Thread Cert.GatherRefIdeal.nD Cert.GatherRefIdeal.τ).loc Cert.GatherRefIdeal.main_arg0))
  ∧ m ((c.tc : Thread nD τ).loc main_arg1) = Layout.blockN ⟨2, ![1024, 1536]⟩ ⟨2, ![1024, 6144]⟩ (Layout.meshBlock [2, 2, 2] ![[], [0, 1]] c) (m' (((0 : Dev Cert.GatherRefIdeal.nD).tc : Thread Cert.GatherRefIdeal.nD Cert.GatherRefIdeal.τ).loc Cert.GatherRefIdeal.main_arg1))
  ∧ m ((c.tc : Thread nD τ).loc main_arg2) = Layout.blockN ⟨2, ![256, 1024]⟩ ⟨2, ![1024, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg2))
  ∧ m ((c.tc : Thread nD τ).loc main_arg3) = Layout.blockN ⟨2, ![256, 1024]⟩ ⟨2, ![1024, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg3))
  ∧ m ((c.tc : Thread nD τ).loc main_arg4) = Layout.blockN ⟨2, ![256, 1024]⟩ ⟨2, ![1024, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg4))
  ∧ m ((c.tc : Thread nD τ).loc main_arg5) = Layout.blockN ⟨2, ![768, 1024]⟩ ⟨2, ![3072, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg5))
  ∧ m ((c.tc : Thread nD τ).loc main_arg6) = Layout.blockN ⟨2, ![544, 256]⟩ ⟨2, ![2176, 256]⟩ (Layout.meshBlock [2, 2, 2] ![[0, 1], []] c) (m' (((0 : Dev Cert.GatherRefIdeal.nD).tc : Thread Cert.GatherRefIdeal.nD Cert.GatherRefIdeal.τ).loc Cert.GatherRefIdeal.main_arg6))

variable {m m'} {mem : (ℓ : Loc nD τ sig) → Buf (Elt F) ℓ} {d : Dev nD}

/-- A result read where the shard of its slot's chip is given. -/
theorem gathered_of (h : S.Ends m (v m) d mem) (a : Fin 7) {b : Dev nD → (sh2 (arr a).R (arr a).C).Idx → Elt F (arr a).e}
    (hb : ∀ c, held m c (arr a).arg = b c) (k : Fin 4) (i : Fin (arr a).R) (j : Fin (arr a).C) :
    ∃ d' : Fin 8, Layout.meshLin [2, 2, 2] d'.val [0, 1] = k.val ∧ held mem d (arr a).out (ix3 k i j) = b d' (ix2 i j) := by
  obtain ⟨d', hk, e⟩ := gathered m h a k i j
  exact ⟨d', (chip_val d').trans hk, e.trans (congrFun (hb d') _)⟩

theorem value (g : Dev nD → PrngReg) (g' : Dev Cert.GatherRefIdeal.nD → PrngReg) (hg : Given m m') :
    ∃ v0 v1 v2 v3 v4 v5 v6,
      θ_run (defs (F := F)) (onTc (τ := τ) (main (F := F))) ⟨m, fun _ => 0, g⟩ (fun r => ∀ c : Dev nD,
          r.2.mem ((c.tc : Thread nD τ).loc main_v1_0) = v0
          ∧ r.2.mem ((c.tc : Thread nD τ).loc main_v1_1) = v1
          ∧ r.2.mem ((c.tc : Thread nD τ).loc main_v1_2) = v2
          ∧ r.2.mem ((c.tc : Thread nD τ).loc main_v1_3) = v3
          ∧ r.2.mem ((c.tc : Thread nD τ).loc main_v1_4) = v4
          ∧ r.2.mem ((c.tc : Thread nD τ).loc main_v1_5) = v5
          ∧ r.2.mem ((c.tc : Thread nD τ).loc main_v1_6) = v6
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6))
      ∧ θ_run (Cert.GatherRefIdeal.defs (F := F)) (onTc (τ := Cert.GatherRefIdeal.τ) (Cert.GatherRefIdeal.main (F := F))) ⟨m', fun _ => 0, g'⟩ (fun r =>
          r.2.mem (((0 : Dev Cert.GatherRefIdeal.nD).tc : Thread Cert.GatherRefIdeal.nD Cert.GatherRefIdeal.τ).loc Cert.GatherRefIdeal.main_v8) = v0
          ∧ r.2.mem (((0 : Dev Cert.GatherRefIdeal.nD).tc : Thread Cert.GatherRefIdeal.nD Cert.GatherRefIdeal.τ).loc Cert.GatherRefIdeal.main_v17) = v1
          ∧ r.2.mem (((0 : Dev Cert.GatherRefIdeal.nD).tc : Thread Cert.GatherRefIdeal.nD Cert.GatherRefIdeal.τ).loc Cert.GatherRefIdeal.main_v18) = v2
          ∧ r.2.mem (((0 : Dev Cert.GatherRefIdeal.nD).tc : Thread Cert.GatherRefIdeal.nD Cert.GatherRefIdeal.τ).loc Cert.GatherRefIdeal.main_v19) = v3
          ∧ r.2.mem (((0 : Dev Cert.GatherRefIdeal.nD).tc : Thread Cert.GatherRefIdeal.nD Cert.GatherRefIdeal.τ).loc Cert.GatherRefIdeal.main_v20) = v4
          ∧ r.2.mem (((0 : Dev Cert.GatherRefIdeal.nD).tc : Thread Cert.GatherRefIdeal.nD Cert.GatherRefIdeal.τ).loc Cert.GatherRefIdeal.main_v21) = v5
          ∧ r.2.mem (((0 : Dev Cert.GatherRefIdeal.nD).tc : Thread Cert.GatherRefIdeal.nD Cert.GatherRefIdeal.τ).loc Cert.GatherRefIdeal.main_v22) = v6
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)
          ∧ r.2.mem (((0 : Dev Cert.GatherRefIdeal.nD).tc : Thread Cert.GatherRefIdeal.nD Cert.GatherRefIdeal.τ).loc Cert.GatherRefIdeal.main_arg4) = m' (((0 : Dev Cert.GatherRefIdeal.nD).tc : Thread Cert.GatherRefIdeal.nD Cert.GatherRefIdeal.τ).loc Cert.GatherRefIdeal.main_arg4)
          ∧ r.2.mem (((0 : Dev Cert.GatherRefIdeal.nD).tc : Thread Cert.GatherRefIdeal.nD Cert.GatherRefIdeal.τ).loc Cert.GatherRefIdeal.main_arg5) = m' (((0 : Dev Cert.GatherRefIdeal.nD).tc : Thread Cert.GatherRefIdeal.nD Cert.GatherRefIdeal.τ).loc Cert.GatherRefIdeal.main_arg5)
          ∧ r.2.mem (((0 : Dev Cert.GatherRefIdeal.nD).tc : Thread Cert.GatherRefIdeal.nD Cert.GatherRefIdeal.τ).loc Cert.GatherRefIdeal.main_arg6) = m' (((0 : Dev Cert.GatherRefIdeal.nD).tc : Thread Cert.GatherRefIdeal.nD Cert.GatherRefIdeal.τ).loc Cert.GatherRefIdeal.main_arg6)) := by
  refine ⟨_, _, _, _, _, _, _, ?_, (θ_run _ _ _).mono (fun r h => h 0) (Cert.GatherRefIdeal.Value.run m' g')⟩
  refine (θ_run _ _ _).mono (fun r h c => ?_) (run_main m g)
  have e := h.1 c
  refine ⟨?_, ?_, ?_, ?_, ?_, ?_, ?_, kept_args m e 0, kept_args m e 1, kept_args m e 2, kept_args m e 3, kept_args m e 4, kept_args m e 5, kept_args m e 6⟩
  · exact columns_eq _ _ (gathered_of e 0 fun c => (hg c).1) ![0, 1792, 3584, 5376] (by decide) (fun k => by fin_cases k <;> decide) _ _
  · exact columns_eq _ _ (gathered_of e 1 fun c => (hg c).2.1) ![0, 1536, 3072, 4608] (by decide) (fun k => by fin_cases k <;> decide) _ _
  · exact rows_eq _ _ (gathered_of e 2 fun c => (hg c).2.2.1) _
  · exact rows_eq _ _ (gathered_of e 3 fun c => (hg c).2.2.2.1) _
  · exact rows_eq _ _ (gathered_of e 4 fun c => (hg c).2.2.2.2.1) _
  · exact rows_eq _ _ (gathered_of e 5 fun c => (hg c).2.2.2.2.2.1) _
  · exact rows_eq _ _ (gathered_of e 6 fun c => (hg c).2.2.2.2.2.2) _

/-- The run leaves the arguments as they were and every counter at zero. -/
theorem frame (m : (ℓ : Loc nD τ sig) → Buf (Elt F) ℓ) (g : Dev nD → PrngReg) :
    θ_run (defs (F := F)) (onTc (τ := τ) (main (F := F))) ⟨m, fun _ => 0, g⟩ (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)) ∧ r.2.sem = fun _ => 0) :=
  (θ_run _ _ _).mono (fun r h => ⟨fun c => ⟨kept_args m (h.1 c) 0, kept_args m (h.1 c) 1, kept_args m (h.1 c) 2, kept_args m (h.1 c) 3,
    kept_args m (h.1 c) 4, kept_args m (h.1 c) 5, kept_args m (h.1 c) 6⟩, h.2⟩) (run_main m g)

end

end Cert.GatherPlan

end
-- ==== Proof.Flat.lean ====
/-
# Copies that are all started before anything is awaited

The order of a call whose device starts every copy first, what such copies bring — what their sources held at the
launch — and the views that the calls cut their arrays into.
-/
module

public import proofs.«01_k».proof.Proof.Places
public import proofs.«01_k».proof.Proof.Chips
public import Idealize.ShloMosaic.Lib.PairWhole

@[expose] public section

set_option Elab.async false

noncomputable section

namespace Cert.Moves.Plan

open Idealize.ShloMosaic Idealize.ShloMosaic.TcCoe
open Idealize.SL
open Idealize.SL.BI (sProp)
open Idealize.SL.BI.BIBase Idealize.SL.BI.Laws Idealize.SL.Sem
open Idealize.SL.RA
open Idealize.ShloMosaic.Pipeline

variable {nD : Nat} {τ : Topo} {sig : RefSig} {Val : EltTy → Type}

section

variable {T : Plan nD sig}

/-- All of `first` is started, then all of `rest` awaited. -/
def flat (first : List (T.A ⊕ T.B)) (rest : List T.Cell) (h₁ : first.Nodup) (h₂ : rest.Nodup) (h₃ : ∀ k, k ∈ first) (h₄ : ∀ k, k ∈ rest) : T.Order where
  first := first
  relayed := []
  after := id
  rest := rest
  bound := 0
  first_nodup := h₁
  relayed_nodup := List.nodup_nil
  rest_nodup := h₂
  after_inj _ _ _ _ h := h
  mem_first k := ⟨fun _ _ hb => absurd hb List.not_mem_nil, fun _ => h₃ k⟩
  mem_rest k := ⟨fun _ _ hb => absurd hb List.not_mem_nil, fun _ => h₄ k⟩
  rank_after _ hb := absurd hb List.not_mem_nil
  rank_relayed _ hb := absurd hb List.not_mem_nil

variable (T) in
/-- The device that fills a part of device `c`'s arrays. -/
def filler (c : Dev nD) : T.A ⊕ T.B → Dev nD
  | .inl _ => c
  | .inr b => (T.peer b).symm c

variable (T) in
/-- Every copy brings what its source held at first. -/
def atFirst (m : (ℓ : Loc nD τ sig) → Buf Val ℓ) : T.Values Val where
  own a d := held m d (T.own a d).src
  sent b d := held m d (T.sent b d).src

theorem atFirst_made (m : (ℓ : Loc nD τ sig) → Buf Val ℓ) (c : Dev nD) (k : T.A ⊕ T.B) :
    (T.atFirst m).made c k = (T.making c k).src.view.read Val (m ((T.making c k).src.view.loc (c.tc : Thread nD τ))) :=
  match k with | .inl _ => rfl | .inr _ => rfl

theorem brought_eq {R : T.Order} {S : T.Fits τ R} {m : (ℓ : Loc nD τ sig) → Buf Val ℓ} {c : Dev nD} {mem : (ℓ : Loc nD τ sig) → Buf Val ℓ}
    (h : S.Ends m (T.atFirst m) c mem) (k : T.A ⊕ T.B) : held mem c (T.filling c k).dst = held m (T.filler c k) (T.filling c k).src :=
  (h.1 k).trans (match k with | .inl _ => rfl | .inr _ => rfl)

theorem kept_eq {R : T.Order} {S : T.Fits τ R} {m : (ℓ : Loc nD τ sig) → Buf Val ℓ} {v : T.Values Val} {c : Dev nD} {mem : (ℓ : Loc nD τ sig) → Buf Val ℓ}
    (h : S.Ends m v c mem) (b : Ref sig .tc) (hb : S.isOut b = false ∧ b.isScoped = false) :
    mem ((c.tc : Thread nD τ).loc b) = m ((c.tc : Thread nD τ).loc b) :=
  h.2 _ (Finset.mem_filter.mpr ⟨Finset.mem_filter.mpr ⟨Finset.mem_univ _, by rw [hb.2]; exact Bool.false_ne_true⟩, by rw [hb.1]; exact Bool.false_ne_true⟩)

/-- Copies in place: every copy reads an array read and fills a room of its own in an array filled. -/
def flatFits (first : List (T.A ⊕ T.B)) (rest : List T.Cell) (h₁ : first.Nodup) (h₂ : rest.Nodup) (h₃ : ∀ k, k ∈ first) (h₄ : ∀ k, k ∈ rest)
    (isOut : Ref sig .tc → Bool)
    (fills_out : ∀ c k, isOut (T.filling c k).dst.view.ref = true ∧ (T.filling c k).dst.view.ref.isScoped = false)
    (reads_in : ∀ c k, isOut (T.making c k).src.view.ref = false ∧ (T.making c k).src.view.ref.isScoped = false)
    (apart : ∀ (c : Dev nD) k k' i i', touch τ (T.filling c k).dst c i = touch τ (T.filling c k').dst c i' → k = k') :
    T.Fits τ (flat first rest h₁ h₂ h₃ h₄) where
  isOut := isOut
  num k := @List.idxOf _ instBEqOfDecidableEq k first
  fills_out := fills_out
  reads_in c k _ := reads_in c k
  num_inj c k hk k' _ _ h := (@List.idxOf_inj _ instBEqOfDecidableEq (letI : BEq (T.A ⊕ T.B) := instBEqOfDecidableEq; inferInstance) _ _ _ (h₃ k)).mp h
  apart := apart

end

/-! ## Views -/

section

open Idealize.ShloMosaic.ValueIdx Cert.Chips

variable {n R C : ℕ} {e : EltTy}

/-- Slot `k` of an array of slots. -/
def slot (M : Memref sig .tc .hbm (sh3 n R C) e) (k : ℕ) (hk : k < n) (sq : (sh3 1 R C).Squeezes (sh2 R C)) : Memref sig .tc .hbm (sh2 R C) e :=
  (M.slice (Rect.unit (s := sh3 n R C) ![k, 0, 0] (sh3 1 R C).size
    (fun a => match a with | 0 => hk | 1 => Nat.le_of_eq (Nat.zero_add _) | 2 => Nat.le_of_eq (Nat.zero_add _))) (fun _ => rfl)).squeeze _ sq

theorem slot_words {M : Memref sig .tc .hbm (sh3 n R C) e} (hM : M.IsWhole) (k : ℕ) (hk : k < n) (sq : (sh3 1 R C).Squeezes (sh2 R C)) :
    (slot M k hk sq).view.WordExact :=
  (hM.wordExact_slice rfl _ (.inr ⟨(by decide : 2 ≤ 3), rfl, rfl, rfl⟩)).reshape _ _

theorem slot_under (M : Memref sig .tc .hbm (sh3 n R C) e) (k : ℕ) (hk : k < n) (sq : (sh3 1 R C).Squeezes (sh2 R C)) (i : Fin R) (j : Fin C) :
    Under nD τ (slot M k hk sq) (ix2 i j) M (ix3 (⟨k, hk⟩ : Fin n) i j) :=
  (under_squeeze _ sq (ix2 i j) (ix3 (0 : Fin 1) i j) (reshapeEquiv_ix2_1ab _ i j)).trans
    (under_slice _ _ (fun _ => rfl) _ _ (funext fun a => match a with
      | 0 => Fin.ext (by simp [ix3]; rfl)
      | 1 => Fin.ext (by simp [ix3]; rfl)
      | 2 => Fin.ext (by simp [ix3]; rfl)))

variable {h w : ℕ}

/-- The window of `h` rows from `p` and `w` columns from `q`. -/
def window (M : Memref sig .tc .hbm (sh2 R C) e) (p q : ℕ) (hp : p + h ≤ R) (hq : q + w ≤ C) : Memref sig .tc .hbm (sh2 h w) e :=
  M.slice (Rect.unit (s := sh2 R C) ![p, q] (sh2 h w).size (fun a => match a with | 0 => hp | 1 => hq)) (fun _ => rfl)

theorem window_words {M : Memref sig .tc .hbm (sh2 R C) e} (hM : M.IsWhole) (p q : ℕ) (hp : p + h ≤ R) (hq : q + w ≤ C)
    (dp : e.packing ∣ p) (dh : e.packing ∣ h) : (window M p q hp hq).view.WordExact :=
  hM.wordExact_slice rfl _ (.inl (Rect.packedRows_of_rowAxis _ _ (show 2 ≤ (sh2 R C).rank from Nat.le_refl 2) dp dh rfl))

theorem window_under (M : Memref sig .tc .hbm (sh2 R C) e) (p q : ℕ) (hp : p + h ≤ R) (hq : q + w ≤ C) (i : Fin h) (j : Fin w) :
    Under nD τ (window M p q hp hq) (ix2 i j) M
      (ix2 (⟨p + i.val, Nat.lt_of_lt_of_le (Nat.add_lt_add_left i.isLt _) hp⟩ : Fin R) (⟨q + j.val, Nat.lt_of_lt_of_le (Nat.add_lt_add_left j.isLt _) hq⟩ : Fin C)) :=
  under_slice _ _ (fun _ => rfl) _ _ (funext fun a => match a with
    | 0 => Fin.ext (by simp [ix2]; rfl)
    | 1 => Fin.ext (by simp [ix2]; rfl))

/-- The `h` rows from `p` of slot `k`. -/
def slotRows (M : Memref sig .tc .hbm (sh3 n R C) e) (k p : ℕ) (hk : k < n) (hp : p + h ≤ R) (sq : (sh3 1 h C).Squeezes (sh2 h C)) : Memref sig .tc .hbm (sh2 h C) e :=
  (M.slice (Rect.unit (s := sh3 n R C) ![k, p, 0] (sh3 1 h C).size
    (fun a => match a with | 0 => hk | 1 => hp | 2 => Nat.le_of_eq (Nat.zero_add _))) (fun _ => rfl)).squeeze _ sq

theorem slotRows_under (M : Memref sig .tc .hbm (sh3 n R C) e) (k p : ℕ) (hk : k < n) (hp : p + h ≤ R) (sq : (sh3 1 h C).Squeezes (sh2 h C)) (i : Fin h) (j : Fin C) :
    Under nD τ (slotRows M k p hk hp sq) (ix2 i j) M (ix3 (⟨k, hk⟩ : Fin n) (⟨p + i.val, Nat.lt_of_lt_of_le (Nat.add_lt_add_left i.isLt _) hp⟩ : Fin R) j) :=
  (under_squeeze _ sq (ix2 i j) (ix3 (0 : Fin 1) i j) (reshapeEquiv_ix2_1ab _ i j)).trans
    (under_slice _ _ (fun _ => rfl) _ _ (funext fun a => match a with
      | 0 => Fin.ext (by simp [ix3]; rfl)
      | 1 => Fin.ext (by simp [ix3]; rfl)
      | 2 => Fin.ext (by simp [ix3]; rfl)))

end

end Cert.Moves.Plan

end
-- ==== Proof.SplitPlan.lean ====
/-
# The copies of `pair_split`

Of each of seven arrays a device owns one half of every chip's part, by its core. It puts its own half of each part into a
slot of its first results, and the half of the chip's other core into a slot of that core's second results.
-/
module

public import proofs.«01_k».proof.Proof.Flat
public import proofs.«01_k».proof.Proof.Gen.SplitIdeal.Points
public import proofs.«01_k».proof.Proof.Gen.SplitIdeal.Launch

@[expose] public section

set_option Elab.async false

noncomputable section

namespace Cert.SplitPlan

open Idealize.ShloMosaic Idealize.ShloMosaic.TcCoe
open Idealize.SL Idealize.SL.Sem
open Cert.SplitIdeal Cert.Moves Cert.Moves.Plan Cert.Chips
open Idealize.ShloMosaic.ValueIdx

/-! ## The devices -/

theorem core_lt (d : Dev nD) : (cw d).toNat < 2 := (slots_apart d 0 0).2.2
theorem other_lt (d : Dev nD) : (Scalar.subi 1#32 (cw d)).toNat < 2 := by revert d; decide
theorem other_of_beside (d : Dev nD) : Scalar.subi 1#32 (cw (beside.symm d)) = cw d := by revert d; decide

/-! ## The arrays -/

theorem half_start {c : BitVec 32} (hc : c.toNat < 2) (h : BitVec 32) : (Scalar.muli c h).toNat = c.toNat * h.toNat := by
  have hc' : c = 0#32 ∨ c = 1#32 := by
    rcases (by omega : c.toNat = 0 ∨ c.toNat = 1) with e | e
    · exact .inl (BitVec.eq_of_toNat_eq e)
    · exact .inr (BitVec.eq_of_toNat_eq e)
  rcases hc' with rfl | rfl <;> simp [Scalar.muli, IntOp.muli]

theorem half_le {c : BitVec 32} (hc : c.toNat < 2) {h R : ℕ} (two : h + h = R) : c.toNat * h + h ≤ R := by
  rcases (by omega : c.toNat = 0 ∨ c.toNat = 1) with e | e <;> rw [e] <;> omega

/-- Where the half of core `c` of part `k` starts, the parts one after the other. -/
def rowStart (h : BitVec 32) (k : Fin 4) (c : BitVec 32) : ℕ := (Scalar.addi (BitVec.ofNat 32 (k.val * (2 * h.toNat))) (Scalar.muli c h)).toNat

theorem rowStart_eq {h : BitVec 32} (k : Fin 4) {c : BitVec 32} (hc : c.toNat < 2) {R : ℕ} (all : 8 * h.toNat = R) (small : R < 4294967296) :
    rowStart h k c = k.val * (2 * h.toNat) + c.toNat * h.toNat := by
  have hk := k.isLt
  have h1 : k.val * (2 * h.toNat) ≤ 3 * (2 * h.toNat) := Nat.mul_le_mul_right _ (by omega)
  have h2 := half_le hc (rfl : h.toNat + h.toNat = _)
  show (BitVec.ofNat 32 (k.val * (2 * h.toNat)) + Scalar.muli c h).toNat = _
  rw [BitVec.toNat_add, BitVec.toNat_ofNat, half_start hc, Nat.mod_eq_of_lt (a := k.val * (2 * h.toNat)) (by omega)]
  exact Nat.mod_eq_of_lt (by omega)

theorem row_le {h : ℕ} (k : Fin 4) {c : BitVec 32} (hc : c.toNat < 2) {R : ℕ} (all : 8 * h = R) :
    k.val * (2 * h) + c.toNat * h + h ≤ R := by
  have hk := k.isLt
  have h1 : k.val * (2 * h) ≤ 3 * (2 * h) := Nat.mul_le_mul_right _ (by omega)
  have h2 := half_le hc (rfl : h + h = _)
  omega

/-- One of the arrays split: the results, what fills a slot of them (the half of core `c` of part `k`), and where that lies
    in the array. -/
structure Arr where
  h : BitVec 32
  C : ℕ
  e : EltTy
  s : Shape
  arg : Memref sig .tc .hbm s e
  mine : Memref sig .tc .hbm (sh3 4 h.toNat C) e
  hmine : mine.IsWhole
  theirs : Memref sig .tc .hbm (sh3 4 h.toNat C) e
  htheirs : theirs.IsWhole
  drop : (sh3 1 h.toNat C).Squeezes (sh2 h.toNat C)
  part (k : Fin 4) (c : BitVec 32) (hc : c.toNat < 2) : Memref sig .tc .hbm (sh2 h.toNat C) e
  part_words : ∀ k c hc, (part k c hc).view.WordExact
  spot (k : Fin 4) (c : BitVec 32) (hc : c.toNat < 2) (i : Fin h.toNat) (j : Fin C) : s.Idx
  part_under : ∀ k c hc i j, Under nD τ (part k c hc) (ix2 i j) arg (spot k c hc i j)

/-- An array whose parts are columns. -/
def column (h : BitVec 32) (C R W : ℕ) (e : EltTy) (arg : Memref sig .tc .hbm (sh2 R W) e) (harg : arg.IsWhole) (mine : Memref sig .tc .hbm (sh3 4 h.toNat C) e)
    (hmine : mine.IsWhole) (theirs : Memref sig .tc .hbm (sh3 4 h.toNat C) e) (htheirs : theirs.IsWhole)
    (drop : (sh3 1 h.toNat C).Squeezes (sh2 h.toNat C)) (two : h.toNat + h.toNat = R) (four : 4 * C = W) (rows : e.packing ∣ h.toNat) : Arr where
  h := h
  C := C
  e := e
  s := sh2 R W
  arg := arg
  mine := mine
  hmine := hmine
  theirs := theirs
  htheirs := htheirs
  drop := drop
  part k c hc := window arg (Scalar.muli c h).toNat (k.val * C) (by rw [half_start hc]; exact half_le hc two)
    (by have := Nat.mul_le_mul_right C k.isLt; rw [Nat.succ_mul] at this; omega)
  part_words k c hc := window_words harg _ _ _ _ (by rw [half_start hc]; exact Dvd.dvd.mul_left rows _) rows
  spot k c hc i j := ix2 (⟨c.toNat * h.toNat + i.val, by have := half_le hc two; omega⟩ : Fin R)
    (⟨k.val * C + j.val, by have := Nat.mul_le_mul_right C k.isLt; rw [Nat.succ_mul] at this; omega⟩ : Fin W)
  part_under k c hc i j := (window_under arg _ _ _ _ i j).trans (Under.rfl' (congrArg (fun z => ix2 z _) (Fin.ext (congrArg (· + i.val) (half_start hc h)))))

/-- An array whose parts are rows. -/
def row (h : BitVec 32) (C R : ℕ) (e : EltTy) (arg : Memref sig .tc .hbm (sh2 R C) e) (harg : arg.IsWhole) (mine : Memref sig .tc .hbm (sh3 4 h.toNat C) e)
    (hmine : mine.IsWhole) (theirs : Memref sig .tc .hbm (sh3 4 h.toNat C) e) (htheirs : theirs.IsWhole)
    (drop : (sh3 1 h.toNat C).Squeezes (sh2 h.toNat C)) (all : 8 * h.toNat = R) (small : R < 4294967296) (rows : e.packing ∣ h.toNat) : Arr where
  h := h
  C := C
  e := e
  s := sh2 R C
  arg := arg
  mine := mine
  hmine := hmine
  theirs := theirs
  htheirs := htheirs
  drop := drop
  part k c hc := window arg (rowStart h k c) 0 (by rw [rowStart_eq k hc all small]; exact row_le k hc all) (Nat.le_of_eq (Nat.zero_add _))
  part_words k c hc := window_words harg _ _ _ _
    (by rw [rowStart_eq k hc all small]; exact Dvd.dvd.add (Dvd.dvd.mul_left (Dvd.dvd.mul_left rows _) _) (Dvd.dvd.mul_left rows _)) rows
  spot k c hc i j := ix2 (⟨k.val * (2 * h.toNat) + c.toNat * h.toNat + i.val, by have := row_le k hc all; omega⟩ : Fin R) j
  part_under k c hc i j := (window_under arg _ _ _ _ i j).trans
    (Under.rfl' (congr (congrArg ix2 (Fin.ext (congrArg (· + i.val) (rowStart_eq k hc all small)))) (Fin.ext (Nat.zero_add _))))

/-- An array whose parts are slots. -/
def lead (h : BitVec 32) (C R : ℕ) (arg : Memref sig .tc .hbm (sh3 4 R C) .f32) (harg : arg.IsWhole) (mine : Memref sig .tc .hbm (sh3 4 h.toNat C) .f32)
    (hmine : mine.IsWhole) (theirs : Memref sig .tc .hbm (sh3 4 h.toNat C) .f32) (htheirs : theirs.IsWhole)
    (drop : (sh3 1 h.toNat C).Squeezes (sh2 h.toNat C)) (two : h.toNat + h.toNat = R) : Arr where
  h := h
  C := C
  e := .f32
  s := sh3 4 R C
  arg := arg
  mine := mine
  hmine := hmine
  theirs := theirs
  htheirs := htheirs
  drop := drop
  part k c hc := slotRows arg k.val (Scalar.muli c h).toNat k.isLt (by rw [half_start hc]; exact half_le hc two) drop
  part_words k c hc := View.wordExact_bits rfl
  spot k c hc i j := ix3 k (⟨c.toNat * h.toNat + i.val, by have := half_le hc two; omega⟩ : Fin R) j
  part_under k c hc i j := (slotRows_under arg _ _ _ _ _ i j).trans (Under.rfl' (congrArg (fun z => ix3 k z j) (Fin.ext (congrArg (· + i.val) (half_start hc h)))))

def arr : Fin 7 → Arr
  | 0 => column 512#32 1792 1024 7168 .bf16 (.whole main_arg0) (Memref.isWhole_whole _) (.whole main_v1_0) (Memref.isWhole_whole _) (.whole main_v1_7) (Memref.isWhole_whole _) (by decide) rfl rfl (by decide)
  | 1 => column 512#32 1536 1024 6144 .bf16 (.whole main_arg1) (Memref.isWhole_whole _) (.whole main_v1_1) (Memref.isWhole_whole _) (.whole main_v1_8) (Memref.isWhole_whole _) (by decide) rfl rfl (by decide)
  | 2 => row 128#32 1024 1024 .bf16 (.whole main_arg2) (Memref.isWhole_whole _) (.whole main_v1_2) (Memref.isWhole_whole _) (.whole main_v1_9) (Memref.isWhole_whole _) (by decide) rfl (by decide) (by decide)
  | 3 => row 128#32 1024 1024 .bf16 (.whole main_arg3) (Memref.isWhole_whole _) (.whole main_v1_3) (Memref.isWhole_whole _) (.whole main_v1_10) (Memref.isWhole_whole _) (by decide) rfl (by decide) (by decide)
  | 4 => row 128#32 1024 1024 .bf16 (.whole main_arg4) (Memref.isWhole_whole _) (.whole main_v1_4) (Memref.isWhole_whole _) (.whole main_v1_11) (Memref.isWhole_whole _) (by decide) rfl (by decide) (by decide)
  | 5 => row 384#32 1024 3072 .bf16 (.whole main_arg5) (Memref.isWhole_whole _) (.whole main_v1_5) (Memref.isWhole_whole _) (.whole main_v1_12) (Memref.isWhole_whole _) (by decide) rfl (by decide) (by decide)
  | 6 => lead 272#32 256 544 (.whole main_arg6) (Memref.isWhole_whole _) (.whole main_v1_6) (Memref.isWhole_whole _) (.whole main_v1_13) (Memref.isWhole_whole _) (by decide) rfl

/-- The first results and the second. -/
abbrev Ix : Type := Fin 7 ⊕ Fin 7

def arrOf : Ix → Fin 7
  | .inl a => a
  | .inr a => a

def out : (x : Ix) → Memref sig .tc .hbm (sh3 4 (arr (arrOf x)).h.toNat (arr (arrOf x)).C) (arr (arrOf x)).e
  | .inl a => (arr a).mine
  | .inr a => (arr a).theirs

theorem out_whole : ∀ x, (out x).IsWhole
  | .inl a => (arr a).hmine
  | .inr a => (arr a).htheirs

/-- Slot `k` of a result. -/
def room (x : Ix) (k : Fin 4) : Memref sig .tc .hbm (sh2 (arr (arrOf x)).h.toNat (arr (arrOf x)).C) (arr (arrOf x)).e := slot (out x) k.val k.isLt (arr (arrOf x)).drop

def argRef : Fin 7 → Ref sig .tc
  | 0 => main_arg0 | 1 => main_arg1 | 2 => main_arg2 | 3 => main_arg3 | 4 => main_arg4 | 5 => main_arg5 | 6 => main_arg6
def outRef : Ix → Ref sig .tc
  | .inl 0 => main_v1_0 | .inl 1 => main_v1_1 | .inl 2 => main_v1_2 | .inl 3 => main_v1_3 | .inl 4 => main_v1_4 | .inl 5 => main_v1_5 | .inl 6 => main_v1_6
  | .inr 0 => main_v1_7 | .inr 1 => main_v1_8 | .inr 2 => main_v1_9 | .inr 3 => main_v1_10 | .inr 4 => main_v1_11 | .inr 5 => main_v1_12 | .inr 6 => main_v1_13

/-! ## The copies -/

/-- An array and a part. -/
abbrev Pair : Type := Fin 7 × Fin 4

theorem in28 (b : Pair) : ∀ i, (![b.1.val * 4 + b.2.val] : Fin 1 → ℕ) i + S1.size i ≤ S28.size i := fun i => match i with
  | 0 => show b.1.val * 4 + b.2.val + 1 ≤ 28 by omega

def sem28 (s : DmaSems sig S28) (b : Pair) : DmaSem sig := ((s.slice (Rect.unit (s := S28) ![b.1.val * 4 + b.2.val] S1.size (in28 b))).squeeze S_ (show S1.Squeezes S_ by decide)).sem

theorem sem_inj : Function.Injective (Sum.elim (sem28 cc0_scratch0) (Sum.elim (sem28 cc0_scratch1) (sem28 cc0_scratch2))) := by decide +kernel

def units (x : Ix) : ℕ := (outRef x).dmaCredit (sh2 (arr (arrOf x)).h.toNat (arr (arrOf x)).C) (arr (arrOf x)).e

theorem units_pos (x : Ix) : 0 < units x := by revert x; decide +kernel

theorem arg_units (a : Fin 7) : (argRef a).dmaCredit (sh2 (arr a).h.toNat (arr a).C) (arr a).e = units (.inr a) := by revert a; decide +kernel

theorem room_units (x : Ix) (k : Fin 4) : (room x k).view.dmaCredit = units x := by
  match x with
  | .inl 0 => rfl | .inl 1 => rfl | .inl 2 => rfl | .inl 3 => rfl | .inl 4 => rfl | .inl 5 => rfl | .inl 6 => rfl
  | .inr 0 => rfl | .inr 1 => rfl | .inr 2 => rfl | .inr 3 => rfl | .inr 4 => rfl | .inr 5 => rfl | .inr 6 => rfl

/-- The copy of the half of core `c` of a part. -/
def copy (x : Ix) (k : Fin 4) (c : BitVec 32) (hc : c.toNat < 2) : Copy sig :=
  ⟨(arr (arrOf x)).part k c hc, room x k, (arr (arrOf x)).part_words k c hc, slot_words (out_whole x) _ _ _⟩

def T : Plan nD sig where
  A := Pair
  B := Pair
  own b d := copy (.inl b.1) b.2 (cw d) (core_lt d)
  sent b d := copy (.inr b.1) b.2 (Scalar.subi 1#32 (cw d)) (other_lt d)
  peer _ := beside
  ownSem := sem28 cc0_scratch0
  departSem := sem28 cc0_scratch1
  arriveSem := sem28 cc0_scratch2
  sem_inj := sem_inj
  ownUnits b := units (.inl b.1)
  sentUnits b := units (.inr b.1)
  ownUnits_pos _ := units_pos _
  sentUnits_pos _ := units_pos _
  own_units _ _ := room_units _ _
  sent_units _ _ := room_units _ _
  ownRef b := outRef (.inl b.1)
  arriveRef b := outRef (.inr b.1)
  departRef b := argRef b.1
  own_wait _ _ := rfl
  arrive_wait _ _ := rfl
  depart_wait b _ := arg_units b.1
  rank _ := 0

def pairs : List Pair := (List.finRange 7).flatMap fun a => (List.finRange 4).map fun k => (a, k)

def firsts : List (Pair ⊕ Pair) := pairs.flatMap fun b => [.inl b, .inr b]
def rests : List (Pair ⊕ Pair ⊕ Pair) := pairs.flatMap fun b => [.inl b, .inr (.inl b), .inr (.inr b)]

theorem pairs_all : ∀ b, b ∈ pairs := by decide
theorem firsts_nodup : firsts.Nodup := by decide +kernel
theorem rests_nodup : rests.Nodup := by decide +kernel
theorem firsts_all : ∀ k, k ∈ firsts := by rintro (a | a) <;> simp [firsts, pairs_all]
theorem rests_all : ∀ k, k ∈ rests := by rintro (a | a | a) <;> simp [rests, pairs_all]

abbrev R : T.Order := flat firsts rests firsts_nodup rests_nodup firsts_all rests_all

variable {F : FTy → Type} [FloatOps F]

set_option maxHeartbeats 1000000 in
/-- The kernel is these statements. -/
theorem body_eq (t : Fin cfg0.N) : Gen.bodyAt0 (F := F) t = .op .deviceId fun d => steps (R.statements d) (.ret ⟨⟩) := rfl

/-! ## Where the copies land -/

theorem outRef_inj : Function.Injective outRef := by decide
theorem out_ref (x : Ix) : (out x).view.ref = outRef x := match x with
  | .inl 0 => rfl | .inl 1 => rfl | .inl 2 => rfl | .inl 3 => rfl | .inl 4 => rfl | .inl 5 => rfl | .inl 6 => rfl
  | .inr 0 => rfl | .inr 1 => rfl | .inr 2 => rfl | .inr 3 => rfl | .inr 4 => rfl | .inr 5 => rfl | .inr 6 => rfl
theorem room_ref (x : Ix) (k : Fin 4) : (room x k).view.ref = outRef x := out_ref x
theorem part_ref (a : Fin 7) (k : Fin 4) (c : BitVec 32) (hc : c.toNat < 2) : ((arr a).part k c hc).view.ref = argRef a := match a with
  | 0 => rfl | 1 => rfl | 2 => rfl | 3 => rfl | 4 => rfl | 5 => rfl | 6 => rfl

theorem room_touch (c : Dev nD) (x : Ix) (k : Fin 4) (i : (sh2 (arr (arrOf x)).h.toNat (arr (arrOf x)).C).Idx) :
    ∃ z : (sh3 4 (arr (arrOf x)).h.toNat (arr (arrOf x)).C).Idx, touch τ (room x k) c i = touch τ (out x) c z ∧ z 0 = k := by
  rw [eq_ix2 i]
  exact ⟨_, (slot_under (out x) k.val k.isLt (arr (arrOf x)).drop (i 0) (i 1)).touch_eq c, rfl⟩

/-- Two slots that meet are one. -/
theorem room_apart (c : Dev nD) (x x' : Ix) (k k' : Fin 4) (i : (sh2 (arr (arrOf x)).h.toNat (arr (arrOf x)).C).Idx)
    (i' : (sh2 (arr (arrOf x')).h.toNat (arr (arrOf x')).C).Idx) (h : touch τ (room x k) c i = touch τ (room x' k') c i') : x = x' ∧ k = k' := by
  obtain ⟨z, hz, h0⟩ := room_touch c x k i
  obtain ⟨z', hz', h0'⟩ := room_touch c x' k' i'
  replace h := hz.symm.trans (h.trans hz')
  have hr : (out x).view.ref = (out x').view.ref := Proc.devRef_injective (sig := sig) (Proc.tc : Proc τ) (Prod.ext_iff.mp (Sigma.mk.inj h).1).2
  rw [out_ref, out_ref] at hr
  obtain rfl := outRef_inj hr
  have hx := (out x).view.emb.injective (eq_of_heq (Sigma.mk.inj h).2)
  exact ⟨rfl, by rw [← h0, ← h0', hx]⟩

theorem apart (c : Dev nD) (k k' : T.A ⊕ T.B) (i : (T.filling c k).s.Idx) (i' : (T.filling c k').s.Idx)
    (h : touch τ (T.filling c k).dst c i = touch τ (T.filling c k').dst c i') : k = k' := by
  match k, k', i, i', h with
  | .inl b, .inl b', i, i', h =>
    have e := room_apart c (.inl b.1) (.inl b'.1) b.2 b'.2 i i' h
    exact congrArg _ (Prod.ext (Sum.inl.inj e.1) e.2)
  | .inl b, .inr b', i, i', h => exact nomatch (room_apart c (.inl b.1) (.inr b'.1) b.2 b'.2 i i' h).1
  | .inr b, .inl b', i, i', h => exact nomatch (room_apart c (.inr b.1) (.inl b'.1) b.2 b'.2 i i' h).1
  | .inr b, .inr b', i, i', h =>
    have e := room_apart c (.inr b.1) (.inr b'.1) b.2 b'.2 i i' h
    exact congrArg _ (Prod.ext (Sum.inr.inj e.1) e.2)

def isOut (b : Ref sig .tc) : Bool := (List.finRange 7).any fun a => b = outRef (.inl a) || b = outRef (.inr a)

theorem isOut_out (x : Ix) : isOut (outRef x) = true ∧ (outRef x).isScoped = false := by revert x; decide
theorem isOut_arg (a : Fin 7) : isOut (argRef a) = false ∧ (argRef a).isScoped = false := by revert a; decide

def S : T.Fits τ R := flatFits firsts rests firsts_nodup rests_nodup firsts_all rests_all isOut
  (fun c k => match k with | .inl b => room_ref (.inl b.1) b.2 ▸ isOut_out (.inl b.1) | .inr b => room_ref (.inr b.1) b.2 ▸ isOut_out (.inr b.1))
  (fun c k => match k with | .inl b => part_ref b.1 b.2 _ (core_lt c) ▸ isOut_arg b.1 | .inr b => part_ref b.1 b.2 _ (other_lt c) ▸ isOut_arg b.1)
  apart

/-! ## The run -/

section

variable (m : (ℓ : Loc nD τ sig) → Buf (Elt F) ℓ)

theorem own_sems : Pipeline.OwnSemFacts (cfgs 0).spec fun k : T.Cell => SemLoc.dma (T.sem k) :=
  ⟨by decide +kernel, fun k k' h => T.sem_inj (SemLoc.dma.inj h), fun _ w => w.elim0⟩

theorem run_main (g : Dev nD → PrngReg) :
    θ_run (defs (F := F)) (onTc (τ := τ) (main (F := F))) ⟨m, fun _ => 0, g⟩ fun r =>
      (∀ c, S.Ends m (T.atFirst m) c r.2.mem) ∧ r.2.sem = fun _ => 0 :=
  run_of_fits (m := m) (R := R) cfgs 0 (T.atFirst m) S (fun c k _ => atFirst_made m c k) (fun _ _ hb => absurd hb List.not_mem_nil)
    Gen.launch0 own_sems (fun _ => ⟨fun w => w.elim0⟩) Gen.N_0 defs₀ g main
    (fun _ => rfl) ⟨⟩ (fun t => body_eq t) (fun s h hs => ⟨h, sem_eq_zero_of_scoped (by decide) hs⟩)

end

variable {Val : EltTy → Type} {m : (ℓ : Loc nD τ sig) → Buf Val ℓ} {mem : (ℓ : Loc nD τ sig) → Buf Val ℓ} {d : Dev nD}

/-- Slot `k` of a first result is the device's own half of part `k`. -/
theorem kept (h : S.Ends m (T.atFirst m) d mem) (a : Fin 7) (k : Fin 4) (i : Fin (arr a).h.toNat) (j : Fin (arr a).C) :
    held mem d (arr a).mine (ix3 k i j) = held m d (arr a).arg ((arr a).spot k (cw d) (core_lt d) i j) := by
  have hv : held mem d (room (.inl a) k) = held m d ((arr a).part k (cw d) (core_lt d)) := brought_eq h (.inl (a, k))
  have u := (slot_under (arr a).mine k.val k.isLt (arr a).drop i j).held_eq mem d
  exact u.symm.trans ((congrFun hv _).trans (((arr a).part_under k (cw d) (core_lt d) i j).held_eq m d))

/-- Slot `k` of a second result is the same half of part `k` on the chip's other core. -/
theorem brought (h : S.Ends m (T.atFirst m) d mem) (a : Fin 7) (k : Fin 4) (i : Fin (arr a).h.toNat) (j : Fin (arr a).C) :
    held mem d (arr a).theirs (ix3 k i j) = held m (beside.symm d) (arr a).arg ((arr a).spot k (cw d) (core_lt d) i j) := by
  have hv : held mem d (room (.inr a) k) = held m (beside.symm d) ((arr a).part k (Scalar.subi 1#32 (cw (beside.symm d))) (other_lt _)) := brought_eq h (.inr (a, k))
  have hw : ∀ (w : BitVec 32) (hw : w.toNat < 2), w = cw d → (arr a).part k w hw = (arr a).part k (cw d) (core_lt d) := fun w hw e => by subst e; rfl
  rw [hw _ _ (other_of_beside d)] at hv
  have u := (slot_under (arr a).theirs k.val k.isLt (arr a).drop i j).held_eq mem d
  exact u.symm.trans ((congrFun hv _).trans (((arr a).part_under k (cw d) (core_lt d) i j).held_eq m (beside.symm d)))

theorem kept_args (h : S.Ends m (T.atFirst m) d mem) (a : Fin 7) :
    mem ((d.tc : Thread nD τ).loc (argRef a)) = m ((d.tc : Thread nD τ).loc (argRef a)) := kept_eq h _ (isOut_arg a)

end Cert.SplitPlan

end
-- ==== Proof.SplitValue.lean ====
/-
# What `pair_split` splits

Over all devices, an array's axes are chip, core, part, half, and the rows and columns of a half of a part. A device's first
results are its own half of its own array's parts; its second results are the same half of the other core's array's parts.
-/
module

public import proofs.«01_k».proof.Proof.SplitPlan
public import proofs.«01_k».proof.Proof.Blocks
public import proofs.«01_k».proof.Proof.Gen.SplitRefIdeal.Run

@[expose] public section

noncomputable section

namespace Cert.SplitPlan

open Idealize.ShloMosaic Idealize.ShloMosaic.TcCoe
open Idealize.SL.Sem
open Cert.SplitIdeal Cert.Moves Cert.Moves.Plan Cert.Blocks Cert.Chips
open Idealize.ShloMosaic.ValueIdx

section

variable {F : FTy → Type} [FloatOps F] (m : (ℓ : Loc nD τ sig) → Buf (Elt F) ℓ)
  (m' : (ℓ : Loc Cert.SplitRefIdeal.nD Cert.SplitRefIdeal.τ Cert.SplitRefIdeal.sig) → Buf (Elt F) ℓ)

/-- Each device holds its shards of the reference's arrays. -/
def Given : Prop := ∀ c : Dev nD,
  m ((c.tc : Thread nD τ).loc main_arg0) = Layout.block ⟨2, ![1024, 7168]⟩ ⟨2, ![8192, 7168]⟩ 0 8 c (m' (((0 : Dev Cert.SplitRefIdeal.nD).tc : Thread Cert.SplitRefIdeal.nD Cert.SplitRefIdeal.τ).loc Cert.SplitRefIdeal.main_arg0))
  ∧ m ((c.tc : Thread nD τ).loc main_arg1) = Layout.block ⟨2, ![1024, 6144]⟩ ⟨2, ![8192, 6144]⟩ 0 8 c (m' (((0 : Dev Cert.SplitRefIdeal.nD).tc : Thread Cert.SplitRefIdeal.nD Cert.SplitRefIdeal.τ).loc Cert.SplitRefIdeal.main_arg1))
  ∧ m ((c.tc : Thread nD τ).loc main_arg2) = Layout.block ⟨2, ![1024, 1024]⟩ ⟨2, ![8192, 1024]⟩ 0 8 c (m' (((0 : Dev Cert.SplitRefIdeal.nD).tc : Thread Cert.SplitRefIdeal.nD Cert.SplitRefIdeal.τ).loc Cert.SplitRefIdeal.main_arg2))
  ∧ m ((c.tc : Thread nD τ).loc main_arg3) = Layout.block ⟨2, ![1024, 1024]⟩ ⟨2, ![8192, 1024]⟩ 0 8 c (m' (((0 : Dev Cert.SplitRefIdeal.nD).tc : Thread Cert.SplitRefIdeal.nD Cert.SplitRefIdeal.τ).loc Cert.SplitRefIdeal.main_arg3))
  ∧ m ((c.tc : Thread nD τ).loc main_arg4) = Layout.block ⟨2, ![1024, 1024]⟩ ⟨2, ![8192, 1024]⟩ 0 8 c (m' (((0 : Dev Cert.SplitRefIdeal.nD).tc : Thread Cert.SplitRefIdeal.nD Cert.SplitRefIdeal.τ).loc Cert.SplitRefIdeal.main_arg4))
  ∧ m ((c.tc : Thread nD τ).loc main_arg5) = Layout.block ⟨2, ![3072, 1024]⟩ ⟨2, ![24576, 1024]⟩ 0 8 c (m' (((0 : Dev Cert.SplitRefIdeal.nD).tc : Thread Cert.SplitRefIdeal.nD Cert.SplitRefIdeal.τ).loc Cert.SplitRefIdeal.main_arg5))
  ∧ m ((c.tc : Thread nD τ).loc main_arg6) = Layout.block ⟨3, ![4, 544, 256]⟩ ⟨3, ![32, 544, 256]⟩ 0 8 c (m' (((0 : Dev Cert.SplitRefIdeal.nD).tc : Thread Cert.SplitRefIdeal.nD Cert.SplitRefIdeal.τ).loc Cert.SplitRefIdeal.main_arg6))

variable {m m'} {mem : (ℓ : Loc nD τ sig) → Buf (Elt F) ℓ} {d : Dev nD}

/-- The devices' arrays, by chip, core, part and half. -/
def Parts (m : (ℓ : Loc nD τ sig) → Buf (Elt F) ℓ) (a : Fin 7) (p : (⟨6, ![4, 2, 4, 2, (arr a).h.toNat, (arr a).C]⟩ : Shape).Idx → Elt F (arr a).e) : Prop :=
  ∀ (e : Dev nD) (k : Fin 4) (c : BitVec 32) (hc : c.toNat < 2) (i : Fin (arr a).h.toNat) (j : Fin (arr a).C),
    held m e (arr a).arg ((arr a).spot k c hc i j)
      = p (ix6 (⟨(ownw e).toNat, ownw_lt e⟩ : Fin 4) (⟨(cw e).toNat, core_lt e⟩ : Fin 2) k (⟨c.toNat, hc⟩ : Fin 2) i j)

/-- The first results. -/
theorem kept_of (h : S.Ends m (T.atFirst m) d mem) (a : Fin 7) {p : (⟨6, ![4, 2, 4, 2, (arr a).h.toNat, (arr a).C]⟩ : Shape).Idx → Elt F (arr a).e}
    (hp : Parts m a p) (k : Fin 4) (i : Fin (arr a).h.toNat) (j : Fin (arr a).C) :
    ∃ (b : Fin 4) (o s : Fin 2), b.val = Layout.meshLin [2, 2, 2] d.val [0, 1] ∧ s.val = Layout.meshLin [2, 2, 2] d.val [2]
      ∧ (s.val = 0 → o.val = 0) ∧ (s.val = 1 → o.val = 1) ∧ held mem d (arr a).mine (ix3 k i j) = p (ix6 b o k s i j) :=
  ⟨_, _, _, (chip_val d).symm, (core_val d).symm, id, id, (kept h a k i j).trans (hp d k (cw d) (core_lt d) i j)⟩

/-- The second results. -/
theorem brought_of (h : S.Ends m (T.atFirst m) d mem) (a : Fin 7) {p : (⟨6, ![4, 2, 4, 2, (arr a).h.toNat, (arr a).C]⟩ : Shape).Idx → Elt F (arr a).e}
    (hp : Parts m a p) (k : Fin 4) (i : Fin (arr a).h.toNat) (j : Fin (arr a).C) :
    ∃ (b : Fin 4) (o s : Fin 2), b.val = Layout.meshLin [2, 2, 2] d.val [0, 1] ∧ s.val = Layout.meshLin [2, 2, 2] d.val [2]
      ∧ (s.val = 0 → o.val = 1) ∧ (s.val = 1 → o.val = 0) ∧ held mem d (arr a).theirs (ix3 k i j) = p (ix6 b o k s i j) := by
  have he := (brought h a k i j).trans (hp (beside.symm d) k (cw d) (core_lt d) i j)
  obtain ⟨f, fc, -⟩ := beside_facts d
  generalize beside.symm d = e at he f fc
  refine ⟨⟨(ownw e).toNat, ownw_lt e⟩, ⟨(cw e).toNat, core_lt e⟩, ⟨(cw d).toNat, core_lt d⟩, ?_, (core_val d).symm, ?_, ?_, he⟩
  · exact (congrArg BitVec.toNat f).trans (chip_val d).symm
  · exact fun h0 => fc.trans (congrArg (1 - ·) h0)
  · exact fun h1 => fc.trans (congrArg (1 - ·) h1)

theorem value (g : Dev nD → PrngReg) (g' : Dev Cert.SplitRefIdeal.nD → PrngReg) (hg : Given m m') :
    ∃ v0 v1 v2 v3 v4 v5 v6 v7 v8 v9 v10 v11 v12 v13,
      θ_run (defs (F := F)) (onTc (τ := τ) (main (F := F))) ⟨m, fun _ => 0, g⟩ (fun r => ∀ c : Dev nD,
          r.2.mem ((c.tc : Thread nD τ).loc main_v1_0) = Layout.blockN ⟨3, ![4, 512, 1792]⟩ ⟨3, ![16, 1024, 1792]⟩ (Layout.meshBlock [2, 2, 2] ![[0, 1], [2], []] c) v0
          ∧ r.2.mem ((c.tc : Thread nD τ).loc main_v1_1) = Layout.blockN ⟨3, ![4, 512, 1536]⟩ ⟨3, ![16, 1024, 1536]⟩ (Layout.meshBlock [2, 2, 2] ![[0, 1], [2], []] c) v1
          ∧ r.2.mem ((c.tc : Thread nD τ).loc main_v1_2) = Layout.blockN ⟨3, ![4, 128, 1024]⟩ ⟨3, ![16, 256, 1024]⟩ (Layout.meshBlock [2, 2, 2] ![[0, 1], [2], []] c) v2
          ∧ r.2.mem ((c.tc : Thread nD τ).loc main_v1_3) = Layout.blockN ⟨3, ![4, 128, 1024]⟩ ⟨3, ![16, 256, 1024]⟩ (Layout.meshBlock [2, 2, 2] ![[0, 1], [2], []] c) v3
          ∧ r.2.mem ((c.tc : Thread nD τ).loc main_v1_4) = Layout.blockN ⟨3, ![4, 128, 1024]⟩ ⟨3, ![16, 256, 1024]⟩ (Layout.meshBlock [2, 2, 2] ![[0, 1], [2], []] c) v4
          ∧ r.2.mem ((c.tc : Thread nD τ).loc main_v1_5) = Layout.blockN ⟨3, ![4, 384, 1024]⟩ ⟨3, ![16, 768, 1024]⟩ (Layout.meshBlock [2, 2, 2] ![[0, 1], [2], []] c) v5
          ∧ r.2.mem ((c.tc : Thread nD τ).loc main_v1_6) = Layout.blockN ⟨3, ![4, 272, 256]⟩ ⟨3, ![16, 544, 256]⟩ (Layout.meshBlock [2, 2, 2] ![[0, 1], [2], []] c) v6
          ∧ r.2.mem ((c.tc : Thread nD τ).loc main_v1_7) = Layout.blockN ⟨3, ![4, 512, 1792]⟩ ⟨3, ![16, 1024, 1792]⟩ (Layout.meshBlock [2, 2, 2] ![[0, 1], [2], []] c) v7
          ∧ r.2.mem ((c.tc : Thread nD τ).loc main_v1_8) = Layout.blockN ⟨3, ![4, 512, 1536]⟩ ⟨3, ![16, 1024, 1536]⟩ (Layout.meshBlock [2, 2, 2] ![[0, 1], [2], []] c) v8
          ∧ r.2.mem ((c.tc : Thread nD τ).loc main_v1_9) = Layout.blockN ⟨3, ![4, 128, 1024]⟩ ⟨3, ![16, 256, 1024]⟩ (Layout.meshBlock [2, 2, 2] ![[0, 1], [2], []] c) v9
          ∧ r.2.mem ((c.tc : Thread nD τ).loc main_v1_10) = Layout.blockN ⟨3, ![4, 128, 1024]⟩ ⟨3, ![16, 256, 1024]⟩ (Layout.meshBlock [2, 2, 2] ![[0, 1], [2], []] c) v10
          ∧ r.2.mem ((c.tc : Thread nD τ).loc main_v1_11) = Layout.blockN ⟨3, ![4, 128, 1024]⟩ ⟨3, ![16, 256, 1024]⟩ (Layout.meshBlock [2, 2, 2] ![[0, 1], [2], []] c) v11
          ∧ r.2.mem ((c.tc : Thread nD τ).loc main_v1_12) = Layout.blockN ⟨3, ![4, 384, 1024]⟩ ⟨3, ![16, 768, 1024]⟩ (Layout.meshBlock [2, 2, 2] ![[0, 1], [2], []] c) v12
          ∧ r.2.mem ((c.tc : Thread nD τ).loc main_v1_13) = Layout.blockN ⟨3, ![4, 272, 256]⟩ ⟨3, ![16, 544, 256]⟩ (Layout.meshBlock [2, 2, 2] ![[0, 1], [2], []] c) v13
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6))
      ∧ θ_run (Cert.SplitRefIdeal.defs (F := F)) (onTc (τ := Cert.SplitRefIdeal.τ) (Cert.SplitRefIdeal.main (F := F))) ⟨m', fun _ => 0, g'⟩ (fun r =>
          r.2.mem (((0 : Dev Cert.SplitRefIdeal.nD).tc : Thread Cert.SplitRefIdeal.nD Cert.SplitRefIdeal.τ).loc Cert.SplitRefIdeal.main_v12) = v0
          ∧ r.2.mem (((0 : Dev Cert.SplitRefIdeal.nD).tc : Thread Cert.SplitRefIdeal.nD Cert.SplitRefIdeal.τ).loc Cert.SplitRefIdeal.main_v16) = v1
          ∧ r.2.mem (((0 : Dev Cert.SplitRefIdeal.nD).tc : Thread Cert.SplitRefIdeal.nD Cert.SplitRefIdeal.τ).loc Cert.SplitRefIdeal.main_v20) = v2
          ∧ r.2.mem (((0 : Dev Cert.SplitRefIdeal.nD).tc : Thread Cert.SplitRefIdeal.nD Cert.SplitRefIdeal.τ).loc Cert.SplitRefIdeal.main_v24) = v3
          ∧ r.2.mem (((0 : Dev Cert.SplitRefIdeal.nD).tc : Thread Cert.SplitRefIdeal.nD Cert.SplitRefIdeal.τ).loc Cert.SplitRefIdeal.main_v28) = v4
          ∧ r.2.mem (((0 : Dev Cert.SplitRefIdeal.nD).tc : Thread Cert.SplitRefIdeal.nD Cert.SplitRefIdeal.τ).loc Cert.SplitRefIdeal.main_v32) = v5
          ∧ r.2.mem (((0 : Dev Cert.SplitRefIdeal.nD).tc : Thread Cert.SplitRefIdeal.nD Cert.SplitRefIdeal.τ).loc Cert.SplitRefIdeal.main_v36) = v6
          ∧ r.2.mem (((0 : Dev Cert.SplitRefIdeal.nD).tc : Thread Cert.SplitRefIdeal.nD Cert.SplitRefIdeal.τ).loc Cert.SplitRefIdeal.main_v40) = v7
          ∧ r.2.mem (((0 : Dev Cert.SplitRefIdeal.nD).tc : Thread Cert.SplitRefIdeal.nD Cert.SplitRefIdeal.τ).loc Cert.SplitRefIdeal.main_v44) = v8
          ∧ r.2.mem (((0 : Dev Cert.SplitRefIdeal.nD).tc : Thread Cert.SplitRefIdeal.nD Cert.SplitRefIdeal.τ).loc Cert.SplitRefIdeal.main_v48) = v9
          ∧ r.2.mem (((0 : Dev Cert.SplitRefIdeal.nD).tc : Thread Cert.SplitRefIdeal.nD Cert.SplitRefIdeal.τ).loc Cert.SplitRefIdeal.main_v52) = v10
          ∧ r.2.mem (((0 : Dev Cert.SplitRefIdeal.nD).tc : Thread Cert.SplitRefIdeal.nD Cert.SplitRefIdeal.τ).loc Cert.SplitRefIdeal.main_v56) = v11
          ∧ r.2.mem (((0 : Dev Cert.SplitRefIdeal.nD).tc : Thread Cert.SplitRefIdeal.nD Cert.SplitRefIdeal.τ).loc Cert.SplitRefIdeal.main_v60) = v12
          ∧ r.2.mem (((0 : Dev Cert.SplitRefIdeal.nD).tc : Thread Cert.SplitRefIdeal.nD Cert.SplitRefIdeal.τ).loc Cert.SplitRefIdeal.main_v64) = v13
          ∧ r.2.mem (((0 : Dev Cert.SplitRefIdeal.nD).tc : Thread Cert.SplitRefIdeal.nD Cert.SplitRefIdeal.τ).loc Cert.SplitRefIdeal.main_arg0) = m' (((0 : Dev Cert.SplitRefIdeal.nD).tc : Thread Cert.SplitRefIdeal.nD Cert.SplitRefIdeal.τ).loc Cert.SplitRefIdeal.main_arg0)
          ∧ r.2.mem (((0 : Dev Cert.SplitRefIdeal.nD).tc : Thread Cert.SplitRefIdeal.nD Cert.SplitRefIdeal.τ).loc Cert.SplitRefIdeal.main_arg1) = m' (((0 : Dev Cert.SplitRefIdeal.nD).tc : Thread Cert.SplitRefIdeal.nD Cert.SplitRefIdeal.τ).loc Cert.SplitRefIdeal.main_arg1)
          ∧ r.2.mem (((0 : Dev Cert.SplitRefIdeal.nD).tc : Thread Cert.SplitRefIdeal.nD Cert.SplitRefIdeal.τ).loc Cert.SplitRefIdeal.main_arg2) = m' (((0 : Dev Cert.SplitRefIdeal.nD).tc : Thread Cert.SplitRefIdeal.nD Cert.SplitRefIdeal.τ).loc Cert.SplitRefIdeal.main_arg2)
          ∧ r.2.mem (((0 : Dev Cert.SplitRefIdeal.nD).tc : Thread Cert.SplitRefIdeal.nD Cert.SplitRefIdeal.τ).loc Cert.SplitRefIdeal.main_arg3) = m' (((0 : Dev Cert.SplitRefIdeal.nD).tc : Thread Cert.SplitRefIdeal.nD Cert.SplitRefIdeal.τ).loc Cert.SplitRefIdeal.main_arg3)
          ∧ r.2.mem (((0 : Dev Cert.SplitRefIdeal.nD).tc : Thread Cert.SplitRefIdeal.nD Cert.SplitRefIdeal.τ).loc Cert.SplitRefIdeal.main_arg4) = m' (((0 : Dev Cert.SplitRefIdeal.nD).tc : Thread Cert.SplitRefIdeal.nD Cert.SplitRefIdeal.τ).loc Cert.SplitRefIdeal.main_arg4)
          ∧ r.2.mem (((0 : Dev Cert.SplitRefIdeal.nD).tc : Thread Cert.SplitRefIdeal.nD Cert.SplitRefIdeal.τ).loc Cert.SplitRefIdeal.main_arg5) = m' (((0 : Dev Cert.SplitRefIdeal.nD).tc : Thread Cert.SplitRefIdeal.nD Cert.SplitRefIdeal.τ).loc Cert.SplitRefIdeal.main_arg5)
          ∧ r.2.mem (((0 : Dev Cert.SplitRefIdeal.nD).tc : Thread Cert.SplitRefIdeal.nD Cert.SplitRefIdeal.τ).loc Cert.SplitRefIdeal.main_arg6) = m' (((0 : Dev Cert.SplitRefIdeal.nD).tc : Thread Cert.SplitRefIdeal.nD Cert.SplitRefIdeal.τ).loc Cert.SplitRefIdeal.main_arg6)) := by
  refine ⟨_, _, _, _, _, _, _, _, _, _, _, _, _, _, ?_, (θ_run _ _ _).mono (fun r h => h 0) (Cert.SplitRefIdeal.Value.run m' g')⟩
  refine (θ_run _ _ _).mono (fun r h c => ?_) (run_main m g)
  have e := h.1 c
  refine ⟨?_, ?_, ?_, ?_, ?_, ?_, ?_, ?_, ?_, ?_, ?_, ?_, ?_, ?_, kept_args e 0, kept_args e 1, kept_args e 2, kept_args e 3, kept_args e 4, kept_args e 5, kept_args e 6⟩
  · exact pick_eq (H := 512) (C := 1792) rfl (kept_of e 0 (fun e k c hc i j => (congrFun (show held m e (arr 0).arg = _ from (hg e).1) _).trans (column_part (H := 512) (C := 1792) rfl rfl _ _ _ _ _ _ _ _ _ _ _ _ (chip_val e).symm (core_val e).symm rfl rfl))) _ _ _ _ _ _
  · exact pick_eq (H := 512) (C := 1536) rfl (kept_of e 1 (fun e k c hc i j => (congrFun (show held m e (arr 1).arg = _ from (hg e).2.1) _).trans (column_part (H := 512) (C := 1536) rfl rfl _ _ _ _ _ _ _ _ _ _ _ _ (chip_val e).symm (core_val e).symm rfl rfl))) _ _ _ _ _ _
  · exact pick_eq (H := 128) (C := 1024) rfl (kept_of e 2 (fun e k c hc i j => (congrFun (show held m e (arr 2).arg = _ from (hg e).2.2.1) _).trans (row_part (H := 128) (C := 1024) rfl _ _ _ _ _ _ _ _ _ _ (chip_val e).symm (core_val e).symm rfl))) _ _ _ _ _ _
  · exact pick_eq (H := 128) (C := 1024) rfl (kept_of e 3 (fun e k c hc i j => (congrFun (show held m e (arr 3).arg = _ from (hg e).2.2.2.1) _).trans (row_part (H := 128) (C := 1024) rfl _ _ _ _ _ _ _ _ _ _ (chip_val e).symm (core_val e).symm rfl))) _ _ _ _ _ _
  · exact pick_eq (H := 128) (C := 1024) rfl (kept_of e 4 (fun e k c hc i j => (congrFun (show held m e (arr 4).arg = _ from (hg e).2.2.2.2.1) _).trans (row_part (H := 128) (C := 1024) rfl _ _ _ _ _ _ _ _ _ _ (chip_val e).symm (core_val e).symm rfl))) _ _ _ _ _ _
  · exact pick_eq (H := 384) (C := 1024) rfl (kept_of e 5 (fun e k c hc i j => (congrFun (show held m e (arr 5).arg = _ from (hg e).2.2.2.2.2.1) _).trans (row_part (H := 384) (C := 1024) rfl _ _ _ _ _ _ _ _ _ _ (chip_val e).symm (core_val e).symm rfl))) _ _ _ _ _ _
  · exact pick_eq (H := 272) (C := 256) rfl (kept_of e 6 (fun e k c hc i j => (congrFun (show held m e (arr 6).arg = _ from (hg e).2.2.2.2.2.2) _).trans (slot_part (H := 272) (C := 256) rfl _ _ _ _ _ _ _ _ _ _ (chip_val e).symm (core_val e).symm rfl))) _ _ _ _ _ _
  · exact pick_eq (H := 512) (C := 1792) rfl (brought_of e 0 (fun e k c hc i j => (congrFun (show held m e (arr 0).arg = _ from (hg e).1) _).trans (column_part (H := 512) (C := 1792) rfl rfl _ _ _ _ _ _ _ _ _ _ _ _ (chip_val e).symm (core_val e).symm rfl rfl))) _ _ _ _ _ _
  · exact pick_eq (H := 512) (C := 1536) rfl (brought_of e 1 (fun e k c hc i j => (congrFun (show held m e (arr 1).arg = _ from (hg e).2.1) _).trans (column_part (H := 512) (C := 1536) rfl rfl _ _ _ _ _ _ _ _ _ _ _ _ (chip_val e).symm (core_val e).symm rfl rfl))) _ _ _ _ _ _
  · exact pick_eq (H := 128) (C := 1024) rfl (brought_of e 2 (fun e k c hc i j => (congrFun (show held m e (arr 2).arg = _ from (hg e).2.2.1) _).trans (row_part (H := 128) (C := 1024) rfl _ _ _ _ _ _ _ _ _ _ (chip_val e).symm (core_val e).symm rfl))) _ _ _ _ _ _
  · exact pick_eq (H := 128) (C := 1024) rfl (brought_of e 3 (fun e k c hc i j => (congrFun (show held m e (arr 3).arg = _ from (hg e).2.2.2.1) _).trans (row_part (H := 128) (C := 1024) rfl _ _ _ _ _ _ _ _ _ _ (chip_val e).symm (core_val e).symm rfl))) _ _ _ _ _ _
  · exact pick_eq (H := 128) (C := 1024) rfl (brought_of e 4 (fun e k c hc i j => (congrFun (show held m e (arr 4).arg = _ from (hg e).2.2.2.2.1) _).trans (row_part (H := 128) (C := 1024) rfl _ _ _ _ _ _ _ _ _ _ (chip_val e).symm (core_val e).symm rfl))) _ _ _ _ _ _
  · exact pick_eq (H := 384) (C := 1024) rfl (brought_of e 5 (fun e k c hc i j => (congrFun (show held m e (arr 5).arg = _ from (hg e).2.2.2.2.2.1) _).trans (row_part (H := 384) (C := 1024) rfl _ _ _ _ _ _ _ _ _ _ (chip_val e).symm (core_val e).symm rfl))) _ _ _ _ _ _
  · exact pick_eq (H := 272) (C := 256) rfl (brought_of e 6 (fun e k c hc i j => (congrFun (show held m e (arr 6).arg = _ from (hg e).2.2.2.2.2.2) _).trans (slot_part (H := 272) (C := 256) rfl _ _ _ _ _ _ _ _ _ _ (chip_val e).symm (core_val e).symm rfl))) _ _ _ _ _ _

/-- The run leaves the arguments as they were and every counter at zero. -/
theorem frame (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r h => ⟨fun c => ⟨kept_args (h.1 c) 0, kept_args (h.1 c) 1, kept_args (h.1 c) 2, kept_args (h.1 c) 3, kept_args (h.1 c) 4,
    kept_args (h.1 c) 5, kept_args (h.1 c) 6⟩, h.2⟩) (run_main m g)

end

end Cert.SplitPlan

end
-- ==== Proof.ExchangePlan.lean ====
/-
# The copies of `chip_exchange`

Each device holds four slots of each of seven arrays, one per chip, and a part of an eighth array. It puts its own chip's
slot into its own result and each other chip's slot into the result of the device of the same core there; and the part of
the eighth array into the result of every device.
-/
module

public import proofs.«01_k».proof.Proof.Flat
public import proofs.«01_k».proof.Proof.Gen.ExchangeIdeal.Points
public import proofs.«01_k».proof.Proof.Gen.ExchangeIdeal.Launch

@[expose] public section

set_option Elab.async false

noncomputable section

namespace Cert.ExchangePlan

open Idealize.ShloMosaic Idealize.ShloMosaic.TcCoe
open Idealize.SL Idealize.SL.Sem
open Cert.ExchangeIdeal Cert.Moves Cert.Moves.Plan Cert.Chips
open Idealize.ShloMosaic.ValueIdx

/-! ## The devices -/

/-- A device's number, as the kernel computes it. -/
def mew (d : Dev nD) : BitVec 32 := Scalar.addi (Scalar.addi (Scalar.muli 4#32 (xw d)) (Scalar.muli 2#32 (yw d))) (cw d)

/-- The device that differs from the device's in the coordinates `q + 1` has the bits of. -/
def hopw (q : Fin 7) (d : Dev nD) : BitVec 32 :=
  devw (match q with | 0 | 1 | 2 => xw d | 3 | 4 | 5 | 6 => Scalar.subi 1#32 (xw d))
    (match q with | 0 | 3 | 4 => yw d | 1 | 2 | 5 | 6 => Scalar.subi 1#32 (yw d))
    (match q with | 1 | 3 | 5 => cw d | 0 | 2 | 4 | 6 => Scalar.subi 1#32 (cw d))

def hop (q : Fin 7) : Dev nD ≃ Dev nD where
  toFun d := ⟨(hopw q d).toNat, by revert q d; decide⟩
  invFun d := ⟨(hopw q d).toNat, by revert q d; decide⟩
  left_inv d := by revert q d; decide
  right_inv d := by revert q d; decide

theorem mew_eq (d : Dev nD) : (mew d).toNat = d.val := by revert d; decide
theorem hop_apart (c : Dev nD) (q q' : Fin 7) : (hop q).symm c ≠ c ∧ ((hop q).symm c = (hop q').symm c → q = q') := by revert c q q'; decide
theorem hop_all (c k : Dev nD) : k = c ∨ ∃ q, (hop q).symm c = k := by revert c k; decide

/-! ## The arrays -/

/-- One of the seven arrays exchanged: the slots given and the slots filled. -/
structure Main where
  R : ℕ
  C : ℕ
  e : EltTy
  arg : Memref sig .tc .hbm (sh3 4 R C) e
  harg : arg.IsWhole
  out : Memref sig .tc .hbm (sh3 4 R C) e
  hout : out.IsWhole
  drop : (sh3 1 R C).Squeezes (sh2 R C)

def mains : Fin 7 → Main
  | 0 => ⟨512, 1792, .bf16, .whole main_arg0, Memref.isWhole_whole _, .whole main_v1_0, Memref.isWhole_whole _, by decide⟩
  | 1 => ⟨512, 1536, .bf16, .whole main_arg1, Memref.isWhole_whole _, .whole main_v1_1, Memref.isWhole_whole _, by decide⟩
  | 2 => ⟨128, 1024, .bf16, .whole main_arg2, Memref.isWhole_whole _, .whole main_v1_2, Memref.isWhole_whole _, by decide⟩
  | 3 => ⟨128, 1024, .bf16, .whole main_arg3, Memref.isWhole_whole _, .whole main_v1_3, Memref.isWhole_whole _, by decide⟩
  | 4 => ⟨128, 1024, .bf16, .whole main_arg4, Memref.isWhole_whole _, .whole main_v1_4, Memref.isWhole_whole _, by decide⟩
  | 5 => ⟨384, 1024, .bf16, .whole main_arg5, Memref.isWhole_whole _, .whole main_v1_5, Memref.isWhole_whole _, by decide⟩
  | 6 => ⟨272, 256, .f32, .whole main_arg6, Memref.isWhole_whole _, .whole main_v1_6, Memref.isWhole_whole _, by decide⟩

/-- The seven arrays and the eighth. -/
abbrev Ix : Type := Fin 7 ⊕ Unit

def n : Ix → ℕ
  | .inl _ => 4
  | .inr _ => 8

/-- One of the eight arrays: the slots filled, and what fills a slot. -/
structure Arr (n : ℕ) where
  R : ℕ
  C : ℕ
  e : EltTy
  out : Memref sig .tc .hbm (sh3 n R C) e
  hout : out.IsWhole
  drop : (sh3 1 R C).Squeezes (sh2 R C)
  part (k : ℕ) (hk : k < n) : Memref sig .tc .hbm (sh2 R C) e
  part_words : ∀ k hk, (part k hk).view.WordExact

def arr : (x : Ix) → Arr (n x)
  | .inl a => ⟨(mains a).R, (mains a).C, (mains a).e, (mains a).out, (mains a).hout, (mains a).drop,
      fun k hk => slot (mains a).arg k hk (mains a).drop, fun k hk => slot_words (mains a).harg k hk _⟩
  | .inr _ => ⟨16, 1024, .f32, .whole main_v1_7, Memref.isWhole_whole _, by decide, fun _ _ => .whole main_arg7, fun _ _ => (Memref.isWhole_whole _).wordExact⟩

/-- The slot a device's own part of an array goes to. -/
def home : Ix → Dev nD → BitVec 32
  | .inl _, d => ownw d
  | .inr _, d => mew d

theorem home_lt : ∀ (x : Ix) (d : Dev nD), (home x d).toNat < n x
  | .inl _, d => ownw_lt d
  | .inr _, d => by show (mew d).toNat < 8; rw [mew_eq]; exact d.isLt

def argRef : Ix → Ref sig .tc
  | .inl 0 => main_arg0 | .inl 1 => main_arg1 | .inl 2 => main_arg2 | .inl 3 => main_arg3 | .inl 4 => main_arg4 | .inl 5 => main_arg5 | .inl 6 => main_arg6
  | .inr _ => main_arg7
def outRef : Ix → Ref sig .tc
  | .inl 0 => main_v1_0 | .inl 1 => main_v1_1 | .inl 2 => main_v1_2 | .inl 3 => main_v1_3 | .inl 4 => main_v1_4 | .inl 5 => main_v1_5 | .inl 6 => main_v1_6
  | .inr _ => main_v1_7

/-! ## The copies -/

abbrev Pair : Type := Fin 7 × Fin 3

theorem in7 (a : Fin 7) : ∀ i, (![a.val] : Fin 1 → ℕ) i + S1.size i ≤ S7.size i := fun i => match i with | 0 => a.isLt
theorem in8 (a : Fin 8) : ∀ i, (![a.val] : Fin 1 → ℕ) i + S1.size i ≤ S8.size i := fun i => match i with | 0 => a.isLt
theorem in21 (b : Pair) : ∀ i, (![b.1.val * 3 + b.2.val] : Fin 1 → ℕ) i + S1.size i ≤ S21.size i := fun i => match i with
  | 0 => show b.1.val * 3 + b.2.val + 1 ≤ 21 by omega

def sem7 (s : DmaSems sig S7) (a : Fin 7) : DmaSem sig := ((s.slice (Rect.unit (s := S7) ![a.val] S1.size (in7 a))).squeeze S_ (show S1.Squeezes S_ by decide)).sem
def sem8 (s : DmaSems sig S8) (a : Fin 8) : DmaSem sig := ((s.slice (Rect.unit (s := S8) ![a.val] S1.size (in8 a))).squeeze S_ (show S1.Squeezes S_ by decide)).sem
def sem21 (s : DmaSems sig S21) (b : Pair) : DmaSem sig := ((s.slice (Rect.unit (s := S21) ![b.1.val * 3 + b.2.val] S1.size (in21 b))).squeeze S_ (show S1.Squeezes S_ by decide)).sem

def ownSem : Ix → DmaSem sig
  | .inl a => sem8 cc0_scratch0 a.castSucc
  | .inr _ => sem8 cc0_scratch0 7
def departSem : Pair ⊕ Fin 7 → DmaSem sig
  | .inl b => sem21 cc0_scratch1 b
  | .inr q => sem7 cc0_scratch3 q
def arriveSem : Pair ⊕ Fin 7 → DmaSem sig
  | .inl b => sem21 cc0_scratch2 b
  | .inr q => sem7 cc0_scratch4 q

theorem sem_inj : Function.Injective (Sum.elim ownSem (Sum.elim departSem arriveSem)) := by decide +kernel

/-- Which array a copy to another device is of. -/
def ixOf : Pair ⊕ Fin 7 → Ix
  | .inl b => .inl b.1
  | .inr _ => .inr ()

def units (x : Ix) : ℕ := (outRef x).dmaCredit (sh2 (arr x).R (arr x).C) (arr x).e

theorem units_pos (x : Ix) : 0 < units x := by revert x; decide +kernel

theorem arg_units (x : Ix) : (argRef x).dmaCredit (sh2 (arr x).R (arr x).C) (arr x).e = units x := by revert x; decide +kernel

/-- Where a device puts its own part of an array, here or elsewhere. -/
def room (x : Ix) (d : Dev nD) : Memref sig .tc .hbm (sh2 (arr x).R (arr x).C) (arr x).e := slot (arr x).out (home x d).toNat (home_lt x d) (arr x).drop

theorem room_units (x : Ix) (d : Dev nD) : (room x d).view.dmaCredit = units x := by
  match x with
  | .inl 0 => rfl | .inl 1 => rfl | .inl 2 => rfl | .inl 3 => rfl | .inl 4 => rfl | .inl 5 => rfl | .inl 6 => rfl | .inr _ => rfl

/-- The copy that puts part `k` of an array into the place of device `d`. -/
def copy (x : Ix) (k : ℕ) (hk : k < n x) (d : Dev nD) : Copy sig := ⟨(arr x).part k hk, room x d, (arr x).part_words k hk, slot_words (arr x).hout _ _ _⟩

/-- What a device sends. -/
def given : Pair ⊕ Fin 7 → Dev nD → BitVec 32
  | .inl b, d => slotw b.2 d
  | .inr _, d => mew d

theorem given_lt : ∀ (b : Pair ⊕ Fin 7) (d : Dev nD), (given b d).toNat < n (ixOf b)
  | .inl b, d => slotw_lt b.2 d
  | .inr _, d => home_lt (.inr ()) d

def T : Plan nD sig where
  A := Ix
  B := Pair ⊕ Fin 7
  own x d := copy x (home x d).toNat (home_lt x d) d
  sent b d := copy (ixOf b) (given b d).toNat (given_lt b d) d
  peer b := match b with
    | .inl b => across b.2
    | .inr q => hop q
  ownSem := ownSem
  departSem := departSem
  arriveSem := arriveSem
  sem_inj := sem_inj
  ownUnits := units
  sentUnits b := units (ixOf b)
  ownUnits_pos := units_pos
  sentUnits_pos b := units_pos _
  own_units := room_units
  sent_units b := room_units _
  ownRef := outRef
  arriveRef b := outRef (ixOf b)
  departRef b := argRef (ixOf b)
  own_wait _ _ := rfl
  arrive_wait _ _ := rfl
  depart_wait b _ := arg_units _
  rank _ := 0

def pairs : List Pair := (List.finRange 7).flatMap fun a => (List.finRange 3).map fun p => (a, p)
def ixs : List Ix := (List.finRange 7).map .inl ++ [.inr ()]
def outward : List (Pair ⊕ Fin 7) := pairs.map .inl ++ (List.finRange 7).map .inr

def firsts : List (Ix ⊕ Pair ⊕ Fin 7) := ixs.map .inl ++ outward.map .inr
def rests : List (Ix ⊕ (Pair ⊕ Fin 7) ⊕ (Pair ⊕ Fin 7)) :=
  outward.map (fun b => .inr (.inr b)) ++ (outward.map (fun b => .inr (.inl b)) ++ ixs.map .inl)

theorem ixs_all : ∀ x, x ∈ ixs := by rintro (a | a) <;> simp [ixs]
theorem pairs_all : ∀ b, b ∈ pairs := by decide
theorem outward_all : ∀ b, b ∈ outward := by rintro (a | a) <;> simp [outward, pairs_all]
theorem firsts_nodup : firsts.Nodup := by decide +kernel
theorem rests_nodup : rests.Nodup := by decide +kernel
theorem firsts_all : ∀ k, k ∈ firsts := by rintro (a | a) <;> simp [firsts, ixs_all, outward_all]
theorem rests_all : ∀ k, k ∈ rests := by rintro (a | a | a) <;> simp [rests, ixs_all, outward_all]

abbrev R : T.Order := flat firsts rests firsts_nodup rests_nodup firsts_all rests_all

variable {F : FTy → Type} [FloatOps F]

set_option maxHeartbeats 1000000 in
/-- The kernel is these statements. -/
theorem body_eq (t : Fin cfg0.N) : Gen.bodyAt0 (F := F) t = .op .deviceId fun d => steps (R.statements d) (.ret ⟨⟩) := rfl

/-! ## Where the copies land -/

theorem outRef_inj : Function.Injective outRef := by decide
theorem out_ref (x : Ix) : (arr x).out.view.ref = outRef x := match x with
  | .inl 0 => rfl | .inl 1 => rfl | .inl 2 => rfl | .inl 3 => rfl | .inl 4 => rfl | .inl 5 => rfl | .inl 6 => rfl | .inr _ => rfl
theorem room_ref (x : Ix) (d : Dev nD) : (room x d).view.ref = outRef x := out_ref x
theorem part_ref (x : Ix) (k : ℕ) (hk : k < n x) : ((arr x).part k hk).view.ref = argRef x := match x with
  | .inl 0 => rfl | .inl 1 => rfl | .inl 2 => rfl | .inl 3 => rfl | .inl 4 => rfl | .inl 5 => rfl | .inl 6 => rfl | .inr _ => rfl

theorem room_under (x : Ix) (d : Dev nD) (i : Fin (arr x).R) (j : Fin (arr x).C) :
    Under nD τ (room x d) (ix2 i j) (arr x).out (ix3 (⟨(home x d).toNat, home_lt x d⟩ : Fin (n x)) i j) := slot_under _ _ _ _ _ _

theorem room_touch (c : Dev nD) (x : Ix) (d : Dev nD) (i : (sh2 (arr x).R (arr x).C).Idx) : ∃ z : (sh3 (n x) (arr x).R (arr x).C).Idx,
    touch τ (room x d) c i = touch τ (arr x).out c z ∧ (z 0).val = (home x d).toNat := by
  rw [eq_ix2 i]
  exact ⟨_, (room_under x d (i 0) (i 1)).touch_eq c, rfl⟩

/-- Two places that meet are of one array, and in one slot. -/
theorem room_apart (c : Dev nD) (x x' : Ix) (d d' : Dev nD) (i : (sh2 (arr x).R (arr x).C).Idx) (i' : (sh2 (arr x').R (arr x').C).Idx)
    (h : touch τ (room x d) c i = touch τ (room x' d') c i') : x = x' ∧ (home x d).toNat = (home x' d').toNat := by
  obtain ⟨z, hz, h0⟩ := room_touch c x d i
  obtain ⟨z', hz', h0'⟩ := room_touch c x' d' i'
  replace h := hz.symm.trans (h.trans hz')
  have hr : (arr x).out.view.ref = (arr x').out.view.ref := Proc.devRef_injective (sig := sig) (Proc.tc : Proc τ) (Prod.ext_iff.mp (Sigma.mk.inj h).1).2
  rw [out_ref, out_ref] at hr
  obtain rfl := outRef_inj hr
  have hx := (arr x).out.view.emb.injective (eq_of_heq (Sigma.mk.inj h).2)
  exact ⟨rfl, by rw [← h0, ← h0', hx]⟩

def arrOf : T.A ⊕ T.B → Ix
  | .inl x => x
  | .inr b => ixOf b

/-- The slots of an array that the devices fill on device `c` are different ones. -/
theorem homes_apart (c : Dev nD) : ∀ k k' : T.A ⊕ T.B, arrOf k = arrOf k' → (home (arrOf k) (T.filler c k)).toNat = (home (arrOf k') (T.filler c k')).toNat → k = k'
  | .inl x, .inl x', h, _ => congrArg _ h
  | .inl (.inl a), .inr (.inl b), h, e => absurd (show (slotw b.2 c).toNat = (ownw c).toNat by rw [← (across_facts b.2 c).1]; exact e.symm) (slots_apart c b.2 0).1
  | .inr (.inl b), .inl (.inl a), h, e => absurd (show (slotw b.2 c).toNat = (ownw c).toNat by rw [← (across_facts b.2 c).1]; exact e) (slots_apart c b.2 0).1
  | .inl (.inr _), .inr (.inr q), h, e => absurd (Fin.ext (((mew_eq _).symm.trans e.symm).trans (mew_eq _))) (hop_apart c q 0).1
  | .inr (.inr q), .inl (.inr _), h, e => absurd (Fin.ext (((mew_eq _).symm.trans e).trans (mew_eq _))) (hop_apart c q 0).1
  | .inr (.inl (a, p)), .inr (.inl (a', p')), h, e => by
    obtain rfl : a = a' := Sum.inl.inj h
    have e' : (ownw ((across p).symm c)).toNat = (ownw ((across p').symm c)).toNat := e
    rw [(across_facts p c).1, (across_facts p' c).1] at e'
    rw [(slots_apart c p p').2.1 e']
  | .inr (.inr q), .inr (.inr q'), h, e => by
    rw [(hop_apart c q q').2 (Fin.ext (((mew_eq _).symm.trans e).trans (mew_eq _)))]
  | .inl (.inl _), .inr (.inr _), h, _ => nomatch h
  | .inl (.inr _), .inr (.inl _), h, _ => nomatch h
  | .inr (.inl _), .inl (.inr _), h, _ => nomatch h
  | .inr (.inr _), .inl (.inl _), h, _ => nomatch h
  | .inr (.inl _), .inr (.inr _), h, _ => nomatch h
  | .inr (.inr _), .inr (.inl _), h, _ => nomatch h

theorem apart (c : Dev nD) (k k' : T.A ⊕ T.B) (i : (T.filling c k).s.Idx) (i' : (T.filling c k').s.Idx)
    (h : touch τ (T.filling c k).dst c i = touch τ (T.filling c k').dst c i') : k = k' := by
  have key : arrOf k = arrOf k' ∧ (home (arrOf k) (T.filler c k)).toNat = (home (arrOf k') (T.filler c k')).toNat := by
    match k, k', i, i', h with
    | .inl x, .inl x', i, i', h => exact room_apart c x x' c c i i' h
    | .inl x, .inr b', i, i', h => exact room_apart c x (ixOf b') c ((T.peer b').symm c) i i' h
    | .inr b, .inl x', i, i', h => exact room_apart c (ixOf b) x' ((T.peer b).symm c) c i i' h
    | .inr b, .inr b', i, i', h => exact room_apart c (ixOf b) (ixOf b') ((T.peer b).symm c) ((T.peer b').symm c) i i' h
  exact homes_apart c k k' key.1 key.2

def isOut (b : Ref sig .tc) : Bool := ixs.any fun x => b = outRef x

theorem isOut_out (x : Ix) : isOut (outRef x) = true ∧ (outRef x).isScoped = false := by revert x; decide
theorem isOut_arg (x : Ix) : isOut (argRef x) = false ∧ (argRef x).isScoped = false := by revert x; decide

def S : T.Fits τ R := flatFits firsts rests firsts_nodup rests_nodup firsts_all rests_all isOut
  (fun c k => match k with | .inl x => room_ref x c ▸ isOut_out x | .inr b => room_ref (ixOf b) ((T.peer b).symm c) ▸ isOut_out (ixOf b))
  (fun c k => match k with | .inl x => part_ref x _ (home_lt x c) ▸ isOut_arg x | .inr b => part_ref (ixOf b) _ (given_lt b c) ▸ isOut_arg (ixOf b))
  apart

/-! ## The run -/

section

variable (m : (ℓ : Loc nD τ sig) → Buf (Elt F) ℓ)

theorem own_sems : Pipeline.OwnSemFacts (cfgs 0).spec fun k : T.Cell => SemLoc.dma (T.sem k) :=
  ⟨by decide +kernel, fun k k' h => T.sem_inj (SemLoc.dma.inj h), fun _ w => w.elim0⟩

theorem run_main (g : Dev nD → PrngReg) :
    θ_run (defs (F := F)) (onTc (τ := τ) (main (F := F))) ⟨m, fun _ => 0, g⟩ fun r =>
      (∀ c, S.Ends m (T.atFirst m) c r.2.mem) ∧ r.2.sem = fun _ => 0 :=
  run_of_fits (m := m) (R := R) cfgs 0 (T.atFirst m) S (fun c k _ => atFirst_made m c k) (fun _ _ hb => absurd hb List.not_mem_nil)
    Gen.launch0 own_sems (fun _ => ⟨fun w => w.elim0⟩) Gen.N_0 defs₀ g main
    (fun _ => rfl) ⟨⟩ (fun t => body_eq t) (fun s h hs => ⟨h, sem_eq_zero_of_scoped (by decide) hs⟩)

end

variable {Val : EltTy → Type} {m : (ℓ : Loc nD τ sig) → Buf Val ℓ} {mem : (ℓ : Loc nD τ sig) → Buf Val ℓ} {d : Dev nD}

/-- Slot `k` of a result is the device's chip's slot on the device of the same core of chip `k`. -/
theorem exchanged (h : S.Ends m (T.atFirst m) d mem) (a : Fin 7) (k : Fin 4) (i : Fin (mains a).R) (j : Fin (mains a).C) :
    ∃ (e : Dev nD) (k' : Fin 4), (ownw e).toNat = k.val ∧ cw e = cw d ∧ k'.val = (ownw d).toNat
      ∧ held mem d (mains a).out (ix3 k i j) = held m e (mains a).arg (ix3 k' i j) := by
  have key : ∀ (e : Dev nD) (s : ℕ) (hs : s < 4) (hv : held mem d (room (.inl a) e) = held m e (slot (mains a).arg s hs (mains a).drop))
      (he : (ownw e).toNat = k.val) (hc : cw e = cw d) (hd : s = (ownw d).toNat),
      ∃ (e : Dev nD) (k' : Fin 4), (ownw e).toNat = k.val ∧ cw e = cw d ∧ k'.val = (ownw d).toNat
        ∧ held mem d (mains a).out (ix3 k i j) = held m e (mains a).arg (ix3 k' i j) := by
    intro e s hs hv he hc hd
    refine ⟨e, ⟨s, hs⟩, he, hc, hd, ?_⟩
    have u := (room_under (.inl a) e i j).held_eq mem d
    rw [hv] at u
    refine Eq.trans ?_ (u.symm.trans ((slot_under (mains a).arg s hs (mains a).drop i j).held_eq m e))
    exact congrArg (fun z => held mem d (mains a).out (ix3 z i j)) (Fin.ext he.symm)
  rcases slots_all d k with hk | ⟨p, hp⟩
  · exact key d _ (ownw_lt d) (brought_eq h (.inl (.inl a))) hk.symm rfl rfl
  · have f := across_facts p d
    exact key ((across p).symm d) _ (slotw_lt p _) (brought_eq h (.inr (.inl (a, p)))) ((congrArg BitVec.toNat f.1).trans hp) f.2.1 (congrArg BitVec.toNat f.2.2)

/-- Slot `k` of the eighth result is the part of device `k`. -/
theorem spread (h : S.Ends m (T.atFirst m) d mem) (k : Fin 8) (i : Fin 16) (j : Fin 1024) :
    held mem d (arr (.inr ())).out (ix3 k i j) = held m k (.whole main_arg7 : Memref sig .tc .hbm (sh2 16 1024) .f32) (ix2 i j) := by
  have key : ∀ (e : Dev nD) (hv : held mem d (room (.inr ()) e) = held m e (.whole main_arg7 : Memref sig .tc .hbm (sh2 16 1024) .f32)) (he : e = k),
      held mem d (arr (.inr ())).out (ix3 k i j) = held m k (.whole main_arg7 : Memref sig .tc .hbm (sh2 16 1024) .f32) (ix2 i j) := by
    intro e hv he
    subst he
    have u := (room_under (.inr ()) e i j).held_eq mem d
    rw [hv] at u
    refine Eq.trans ?_ u.symm
    exact congrArg (fun z => held mem d (arr (.inr ())).out (ix3 z i j)) (Fin.ext (mew_eq e).symm)
  rcases hop_all d k with hk | ⟨q, hq⟩
  · exact key d (brought_eq h (.inl (.inr ()))) hk.symm
  · exact key ((hop q).symm d) (brought_eq h (.inr (.inr q))) hq

theorem kept_args (h : S.Ends m (T.atFirst m) d mem) (x : Ix) :
    mem ((d.tc : Thread nD τ).loc (argRef x)) = m ((d.tc : Thread nD τ).loc (argRef x)) := kept_eq h _ (isOut_arg x)

end Cert.ExchangePlan

end
-- ==== Proof.ExchangeValue.lean ====
/-
# What `chip_exchange` exchanges

Slot `k` of a device's result is its chip's slot on chip `k`: over all devices, the axis of the chips and the axis of the
slots change places. Every device's eighth result is the parts of all of them.
-/
module

public import proofs.«01_k».proof.Proof.ExchangePlan
public import proofs.«01_k».proof.Proof.Blocks
public import proofs.«01_k».proof.Proof.Gen.ExchangeRefIdeal.Run

@[expose] public section

noncomputable section

namespace Cert.ExchangePlan

open Idealize.ShloMosaic Idealize.ShloMosaic.TcCoe
open Idealize.SL.Sem
open Cert.ExchangeIdeal Cert.Moves Cert.Moves.Plan Cert.Blocks Cert.Chips
open Idealize.ShloMosaic.ValueIdx

section

variable {F : FTy → Type} [FloatOps F] (m : (ℓ : Loc nD τ sig) → Buf (Elt F) ℓ)
  (m' : (ℓ : Loc Cert.ExchangeRefIdeal.nD Cert.ExchangeRefIdeal.τ Cert.ExchangeRefIdeal.sig) → Buf (Elt F) ℓ)

/-- Each device holds its shards of the reference's arrays. -/
def Given : Prop := ∀ c : Dev nD,
  m ((c.tc : Thread nD τ).loc main_arg0) = Layout.blockN ⟨3, ![4, 512, 1792]⟩ ⟨3, ![16, 1024, 1792]⟩ (Layout.meshBlock [2, 2, 2] ![[0, 1], [2], []] c) (m' (((0 : Dev Cert.ExchangeRefIdeal.nD).tc : Thread Cert.ExchangeRefIdeal.nD Cert.ExchangeRefIdeal.τ).loc Cert.ExchangeRefIdeal.main_arg0))
  ∧ m ((c.tc : Thread nD τ).loc main_arg1) = Layout.blockN ⟨3, ![4, 512, 1536]⟩ ⟨3, ![16, 1024, 1536]⟩ (Layout.meshBlock [2, 2, 2] ![[0, 1], [2], []] c) (m' (((0 : Dev Cert.ExchangeRefIdeal.nD).tc : Thread Cert.ExchangeRefIdeal.nD Cert.ExchangeRefIdeal.τ).loc Cert.ExchangeRefIdeal.main_arg1))
  ∧ m ((c.tc : Thread nD τ).loc main_arg2) = Layout.blockN ⟨3, ![4, 128, 1024]⟩ ⟨3, ![16, 256, 1024]⟩ (Layout.meshBlock [2, 2, 2] ![[0, 1], [2], []] c) (m' (((0 : Dev Cert.ExchangeRefIdeal.nD).tc : Thread Cert.ExchangeRefIdeal.nD Cert.ExchangeRefIdeal.τ).loc Cert.ExchangeRefIdeal.main_arg2))
  ∧ m ((c.tc : Thread nD τ).loc main_arg3) = Layout.blockN ⟨3, ![4, 128, 1024]⟩ ⟨3, ![16, 256, 1024]⟩ (Layout.meshBlock [2, 2, 2] ![[0, 1], [2], []] c) (m' (((0 : Dev Cert.ExchangeRefIdeal.nD).tc : Thread Cert.ExchangeRefIdeal.nD Cert.ExchangeRefIdeal.τ).loc Cert.ExchangeRefIdeal.main_arg3))
  ∧ m ((c.tc : Thread nD τ).loc main_arg4) = Layout.blockN ⟨3, ![4, 128, 1024]⟩ ⟨3, ![16, 256, 1024]⟩ (Layout.meshBlock [2, 2, 2] ![[0, 1], [2], []] c) (m' (((0 : Dev Cert.ExchangeRefIdeal.nD).tc : Thread Cert.ExchangeRefIdeal.nD Cert.ExchangeRefIdeal.τ).loc Cert.ExchangeRefIdeal.main_arg4))
  ∧ m ((c.tc : Thread nD τ).loc main_arg5) = Layout.blockN ⟨3, ![4, 384, 1024]⟩ ⟨3, ![16, 768, 1024]⟩ (Layout.meshBlock [2, 2, 2] ![[0, 1], [2], []] c) (m' (((0 : Dev Cert.ExchangeRefIdeal.nD).tc : Thread Cert.ExchangeRefIdeal.nD Cert.ExchangeRefIdeal.τ).loc Cert.ExchangeRefIdeal.main_arg5))
  ∧ m ((c.tc : Thread nD τ).loc main_arg6) = Layout.blockN ⟨3, ![4, 272, 256]⟩ ⟨3, ![16, 544, 256]⟩ (Layout.meshBlock [2, 2, 2] ![[0, 1], [2], []] c) (m' (((0 : Dev Cert.ExchangeRefIdeal.nD).tc : Thread Cert.ExchangeRefIdeal.nD Cert.ExchangeRefIdeal.τ).loc Cert.ExchangeRefIdeal.main_arg6))
  ∧ m ((c.tc : Thread nD τ).loc main_arg7) = Layout.block ⟨2, ![16, 1024]⟩ ⟨2, ![128, 1024]⟩ 0 8 c (m' (((0 : Dev Cert.ExchangeRefIdeal.nD).tc : Thread Cert.ExchangeRefIdeal.nD Cert.ExchangeRefIdeal.τ).loc Cert.ExchangeRefIdeal.main_arg7))

variable {m m'} {mem : (ℓ : Loc nD τ sig) → Buf (Elt F) ℓ} {d : Dev nD}

/-- A result read where the slots are given. -/
theorem exchanged_of (h : S.Ends m (T.atFirst m) d mem) (a : Fin 7) {b : Dev nD → (sh3 4 (mains a).R (mains a).C).Idx → Elt F (mains a).e}
    (hb : ∀ c, held m c (mains a).arg = b c) (k : Fin 4) (i : Fin (mains a).R) (j : Fin (mains a).C) :
    ∃ (e : Fin 8) (k' : Fin 4), Layout.meshLin [2, 2, 2] e.val [0, 1] = k.val
      ∧ Layout.meshLin [2, 2, 2] e.val [2] = Layout.meshLin [2, 2, 2] d.val [2] ∧ k'.val = Layout.meshLin [2, 2, 2] d.val [0, 1]
      ∧ held mem d (mains a).out (ix3 k i j) = b e (ix3 k' i j) := by
  obtain ⟨e, k', hk, hc, hd, he⟩ := exchanged h a k i j
  exact ⟨e, k', by rw [chip_val, hk], by rw [core_val, core_val, hc], by rw [chip_val, hd], he.trans (congrFun (hb e) _)⟩

theorem value (g : Dev nD → PrngReg) (g' : Dev Cert.ExchangeRefIdeal.nD → PrngReg) (hg : Given m m') :
    ∃ v0 v1 v2 v3 v4 v5 v6 v7,
      θ_run (defs (F := F)) (onTc (τ := τ) (main (F := F))) ⟨m, fun _ => 0, g⟩ (fun r => ∀ c : Dev nD,
          r.2.mem ((c.tc : Thread nD τ).loc main_v1_0) = Layout.blockN ⟨3, ![4, 512, 1792]⟩ ⟨3, ![16, 1024, 1792]⟩ (Layout.meshBlock [2, 2, 2] ![[0, 1], [2], []] c) v0
          ∧ r.2.mem ((c.tc : Thread nD τ).loc main_v1_1) = Layout.blockN ⟨3, ![4, 512, 1536]⟩ ⟨3, ![16, 1024, 1536]⟩ (Layout.meshBlock [2, 2, 2] ![[0, 1], [2], []] c) v1
          ∧ r.2.mem ((c.tc : Thread nD τ).loc main_v1_2) = Layout.blockN ⟨3, ![4, 128, 1024]⟩ ⟨3, ![16, 256, 1024]⟩ (Layout.meshBlock [2, 2, 2] ![[0, 1], [2], []] c) v2
          ∧ r.2.mem ((c.tc : Thread nD τ).loc main_v1_3) = Layout.blockN ⟨3, ![4, 128, 1024]⟩ ⟨3, ![16, 256, 1024]⟩ (Layout.meshBlock [2, 2, 2] ![[0, 1], [2], []] c) v3
          ∧ r.2.mem ((c.tc : Thread nD τ).loc main_v1_4) = Layout.blockN ⟨3, ![4, 128, 1024]⟩ ⟨3, ![16, 256, 1024]⟩ (Layout.meshBlock [2, 2, 2] ![[0, 1], [2], []] c) v4
          ∧ r.2.mem ((c.tc : Thread nD τ).loc main_v1_5) = Layout.blockN ⟨3, ![4, 384, 1024]⟩ ⟨3, ![16, 768, 1024]⟩ (Layout.meshBlock [2, 2, 2] ![[0, 1], [2], []] c) v5
          ∧ r.2.mem ((c.tc : Thread nD τ).loc main_v1_6) = Layout.blockN ⟨3, ![4, 272, 256]⟩ ⟨3, ![16, 544, 256]⟩ (Layout.meshBlock [2, 2, 2] ![[0, 1], [2], []] c) v6
          ∧ r.2.mem ((c.tc : Thread nD τ).loc main_v1_7) = v7
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7))
      ∧ θ_run (Cert.ExchangeRefIdeal.defs (F := F)) (onTc (τ := Cert.ExchangeRefIdeal.τ) (Cert.ExchangeRefIdeal.main (F := F))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v2) = v0
          ∧ r.2.mem (((0 : Dev Cert.ExchangeRefIdeal.nD).tc : Thread Cert.ExchangeRefIdeal.nD Cert.ExchangeRefIdeal.τ).loc Cert.ExchangeRefIdeal.main_v5) = v1
          ∧ r.2.mem (((0 : Dev Cert.ExchangeRefIdeal.nD).tc : Thread Cert.ExchangeRefIdeal.nD Cert.ExchangeRefIdeal.τ).loc Cert.ExchangeRefIdeal.main_v8) = v2
          ∧ r.2.mem (((0 : Dev Cert.ExchangeRefIdeal.nD).tc : Thread Cert.ExchangeRefIdeal.nD Cert.ExchangeRefIdeal.τ).loc Cert.ExchangeRefIdeal.main_v11) = v3
          ∧ r.2.mem (((0 : Dev Cert.ExchangeRefIdeal.nD).tc : Thread Cert.ExchangeRefIdeal.nD Cert.ExchangeRefIdeal.τ).loc Cert.ExchangeRefIdeal.main_v14) = v4
          ∧ r.2.mem (((0 : Dev Cert.ExchangeRefIdeal.nD).tc : Thread Cert.ExchangeRefIdeal.nD Cert.ExchangeRefIdeal.τ).loc Cert.ExchangeRefIdeal.main_v17) = v5
          ∧ r.2.mem (((0 : Dev Cert.ExchangeRefIdeal.nD).tc : Thread Cert.ExchangeRefIdeal.nD Cert.ExchangeRefIdeal.τ).loc Cert.ExchangeRefIdeal.main_v20) = v6
          ∧ r.2.mem (((0 : Dev Cert.ExchangeRefIdeal.nD).tc : Thread Cert.ExchangeRefIdeal.nD Cert.ExchangeRefIdeal.τ).loc Cert.ExchangeRefIdeal.main_v21) = v7
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0)
          ∧ r.2.mem (((0 : Dev Cert.ExchangeRefIdeal.nD).tc : Thread Cert.ExchangeRefIdeal.nD Cert.ExchangeRefIdeal.τ).loc Cert.ExchangeRefIdeal.main_arg1) = m' (((0 : Dev Cert.ExchangeRefIdeal.nD).tc : Thread Cert.ExchangeRefIdeal.nD Cert.ExchangeRefIdeal.τ).loc Cert.ExchangeRefIdeal.main_arg1)
          ∧ r.2.mem (((0 : Dev Cert.ExchangeRefIdeal.nD).tc : Thread Cert.ExchangeRefIdeal.nD Cert.ExchangeRefIdeal.τ).loc Cert.ExchangeRefIdeal.main_arg2) = m' (((0 : Dev Cert.ExchangeRefIdeal.nD).tc : Thread Cert.ExchangeRefIdeal.nD Cert.ExchangeRefIdeal.τ).loc Cert.ExchangeRefIdeal.main_arg2)
          ∧ r.2.mem (((0 : Dev Cert.ExchangeRefIdeal.nD).tc : Thread Cert.ExchangeRefIdeal.nD Cert.ExchangeRefIdeal.τ).loc Cert.ExchangeRefIdeal.main_arg3) = m' (((0 : Dev Cert.ExchangeRefIdeal.nD).tc : Thread Cert.ExchangeRefIdeal.nD Cert.ExchangeRefIdeal.τ).loc Cert.ExchangeRefIdeal.main_arg3)
          ∧ r.2.mem (((0 : Dev Cert.ExchangeRefIdeal.nD).tc : Thread Cert.ExchangeRefIdeal.nD Cert.ExchangeRefIdeal.τ).loc Cert.ExchangeRefIdeal.main_arg4) = m' (((0 : Dev Cert.ExchangeRefIdeal.nD).tc : Thread Cert.ExchangeRefIdeal.nD Cert.ExchangeRefIdeal.τ).loc Cert.ExchangeRefIdeal.main_arg4)
          ∧ r.2.mem (((0 : Dev Cert.ExchangeRefIdeal.nD).tc : Thread Cert.ExchangeRefIdeal.nD Cert.ExchangeRefIdeal.τ).loc Cert.ExchangeRefIdeal.main_arg5) = m' (((0 : Dev Cert.ExchangeRefIdeal.nD).tc : Thread Cert.ExchangeRefIdeal.nD Cert.ExchangeRefIdeal.τ).loc Cert.ExchangeRefIdeal.main_arg5)
          ∧ r.2.mem (((0 : Dev Cert.ExchangeRefIdeal.nD).tc : Thread Cert.ExchangeRefIdeal.nD Cert.ExchangeRefIdeal.τ).loc Cert.ExchangeRefIdeal.main_arg6) = m' (((0 : Dev Cert.ExchangeRefIdeal.nD).tc : Thread Cert.ExchangeRefIdeal.nD Cert.ExchangeRefIdeal.τ).loc Cert.ExchangeRefIdeal.main_arg6)
          ∧ r.2.mem (((0 : Dev Cert.ExchangeRefIdeal.nD).tc : Thread Cert.ExchangeRefIdeal.nD Cert.ExchangeRefIdeal.τ).loc Cert.ExchangeRefIdeal.main_arg7) = m' (((0 : Dev Cert.ExchangeRefIdeal.nD).tc : Thread Cert.ExchangeRefIdeal.nD Cert.ExchangeRefIdeal.τ).loc Cert.ExchangeRefIdeal.main_arg7)) := by
  refine ⟨_, _, _, _, _, _, _, _, ?_, (θ_run _ _ _).mono (fun r h => h 0) (Cert.ExchangeRefIdeal.Value.run m' g')⟩
  refine (θ_run _ _ _).mono (fun r h c => ?_) (run_main m g)
  have e := h.1 c
  refine ⟨?_, ?_, ?_, ?_, ?_, ?_, ?_, ?_, kept_args e (.inl 0), kept_args e (.inl 1), kept_args e (.inl 2), kept_args e (.inl 3), kept_args e (.inl 4),
    kept_args e (.inl 5), kept_args e (.inl 6), kept_args e (.inr ())⟩
  · exact swap_eq _ _ (exchanged_of e 0 fun c => (hg c).1) _ _ _ _ _
  · exact swap_eq _ _ (exchanged_of e 1 fun c => (hg c).2.1) _ _ _ _ _
  · exact swap_eq _ _ (exchanged_of e 2 fun c => (hg c).2.2.1) _ _ _ _ _
  · exact swap_eq _ _ (exchanged_of e 3 fun c => (hg c).2.2.2.1) _ _ _ _ _
  · exact swap_eq _ _ (exchanged_of e 4 fun c => (hg c).2.2.2.2.1) _ _ _ _ _
  · exact swap_eq _ _ (exchanged_of e 5 fun c => (hg c).2.2.2.2.2.1) _ _ _ _ _
  · exact swap_eq _ _ (exchanged_of e 6 fun c => (hg c).2.2.2.2.2.2.1) _ _ _ _ _
  · exact spread_eq _ (fun k i j => (spread e k i j).trans (congrFun (hg k).2.2.2.2.2.2.2 _)) _

/-- The run leaves the arguments as they were and every counter at zero. -/
theorem frame (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run _ _ _).mono (fun r h => ⟨fun c => ⟨kept_args (h.1 c) (.inl 0), kept_args (h.1 c) (.inl 1), kept_args (h.1 c) (.inl 2), kept_args (h.1 c) (.inl 3),
    kept_args (h.1 c) (.inl 4), kept_args (h.1 c) (.inl 5), kept_args (h.1 c) (.inl 6), kept_args (h.1 c) (.inr ())⟩, h.2⟩) (run_main m g)

end

end Cert.ExchangePlan

end
-- ==== Proof.JoinPlan.lean ====
/-
# The copies of `pair_join`

The two cores of a chip each hold half of the rows of seven arrays; each puts its half into its own result and into the
other core's.
-/
module

public import proofs.«01_k».proof.Proof.Flat
public import proofs.«01_k».proof.Proof.Gen.JoinIdeal.Points
public import proofs.«01_k».proof.Proof.Gen.JoinIdeal.Launch

@[expose] public section

set_option Elab.async false

noncomputable section

namespace Cert.JoinPlan

open Idealize.ShloMosaic Idealize.ShloMosaic.TcCoe
open Idealize.SL Idealize.SL.Sem
open Cert.JoinIdeal Cert.Moves Cert.Moves.Plan Cert.Chips
open Idealize.ShloMosaic.ValueIdx

/-! ## The arrays -/

/-- One of the arrays joined: a core's half of the rows, and the whole. -/
structure Arr where
  half : BitVec 32
  C : ℕ
  R : ℕ
  arg : Memref sig .tc .hbm (sh2 half.toNat C) .f32
  harg : arg.IsWhole
  out : Memref sig .tc .hbm (sh2 R C) .f32
  two : half.toNat + half.toNat = R

def arr : Fin 7 → Arr
  | 0 => ⟨512#32, 1792, 1024, .whole main_arg0, Memref.isWhole_whole _, .whole main_v1_0, rfl⟩
  | 1 => ⟨512#32, 1536, 1024, .whole main_arg1, Memref.isWhole_whole _, .whole main_v1_1, rfl⟩
  | 2 => ⟨128#32, 1024, 256, .whole main_arg2, Memref.isWhole_whole _, .whole main_v1_2, rfl⟩
  | 3 => ⟨128#32, 1024, 256, .whole main_arg3, Memref.isWhole_whole _, .whole main_v1_3, rfl⟩
  | 4 => ⟨128#32, 1024, 256, .whole main_arg4, Memref.isWhole_whole _, .whole main_v1_4, rfl⟩
  | 5 => ⟨384#32, 1024, 768, .whole main_arg5, Memref.isWhole_whole _, .whole main_v1_5, rfl⟩
  | 6 => ⟨272#32, 256, 544, .whole main_arg6, Memref.isWhole_whole _, .whole main_v1_6, rfl⟩

namespace Arr

variable (A : Arr)

/-- Where the half of core `c` starts. -/
def from_ (c : BitVec 32) : ℕ := (Scalar.muli c A.half).toNat

theorem from_eq (d : Dev nD) : A.from_ (cw d) = (cw d).toNat * A.half.toNat := by
  have hc : cw d = 0#32 ∨ cw d = 1#32 := by revert d; decide
  rcases hc with hc | hc <;> (unfold from_; rw [hc]; simp [Scalar.muli, IntOp.muli])

theorem from_le (d : Dev nD) : A.from_ (cw d) + A.half.toNat ≤ A.R := by
  have hc : (cw d).toNat < 2 := (slots_apart d 0 0).2.2
  rw [from_eq, ← A.two]
  rcases (by omega : (cw d).toNat = 0 ∨ (cw d).toNat = 1) with e | e <;> rw [e] <;> omega

/-- The half of the result that device `d` fills. -/
def halfOut (d : Dev nD) : Memref sig .tc .hbm (sh2 A.half.toNat A.C) .f32 :=
  window A.out (A.from_ (cw d)) 0 (A.from_le d) (Nat.le_of_eq (Nat.zero_add _))

end Arr

def argRef : Fin 7 → Ref sig .tc
  | 0 => main_arg0 | 1 => main_arg1 | 2 => main_arg2 | 3 => main_arg3 | 4 => main_arg4 | 5 => main_arg5 | 6 => main_arg6
def outRef : Fin 7 → Ref sig .tc
  | 0 => main_v1_0 | 1 => main_v1_1 | 2 => main_v1_2 | 3 => main_v1_3 | 4 => main_v1_4 | 5 => main_v1_5 | 6 => main_v1_6

/-! ## The copies -/

theorem in7 (a : Fin 7) : ∀ i, (![a.val] : Fin 1 → ℕ) i + S1.size i ≤ S7.size i := fun i => match i with | 0 => a.isLt

def sem7 (s : DmaSems sig S7) (a : Fin 7) : DmaSem sig :=
  ((s.slice (Rect.unit (s := S7) ![a.val] S1.size (in7 a))).squeeze S_ (show S1.Squeezes S_ by decide)).sem

theorem sem_inj : Function.Injective (Sum.elim (sem7 cc0_scratch0) (Sum.elim (sem7 cc0_scratch1) (sem7 cc0_scratch2))) := by decide +kernel

def units (a : Fin 7) : ℕ := (outRef a).dmaCredit (sh2 (arr a).half.toNat (arr a).C) .f32

theorem units_pos (a : Fin 7) : 0 < units a := by revert a; decide +kernel

theorem arg_units (a : Fin 7) : (argRef a).dmaCredit (sh2 (arr a).half.toNat (arr a).C) .f32 = units a := by revert a; decide +kernel

theorem out_units (a : Fin 7) (d : Dev nD) : ((arr a).halfOut d).view.dmaCredit = units a := by
  match a with | 0 => rfl | 1 => rfl | 2 => rfl | 3 => rfl | 4 => rfl | 5 => rfl | 6 => rfl

def copy (a : Fin 7) (d : Dev nD) : Copy sig := ⟨(arr a).arg, (arr a).halfOut d, (arr a).harg.wordExact, View.wordExact_bits rfl⟩

def T : Plan nD sig where
  A := Fin 7
  B := Fin 7
  own := copy
  sent := copy
  peer _ := beside
  ownSem := sem7 cc0_scratch0
  departSem := sem7 cc0_scratch1
  arriveSem := sem7 cc0_scratch2
  sem_inj := sem_inj
  ownUnits := units
  sentUnits := units
  ownUnits_pos := units_pos
  sentUnits_pos := units_pos
  own_units := out_units
  sent_units := out_units
  ownRef := outRef
  arriveRef := outRef
  departRef := argRef
  own_wait _ _ := rfl
  arrive_wait _ _ := rfl
  depart_wait a _ := arg_units a
  rank _ := 0

def firsts : List (Fin 7 ⊕ Fin 7) := (List.finRange 7).map .inl ++ (List.finRange 7).map .inr
def rests : List (Fin 7 ⊕ Fin 7 ⊕ Fin 7) :=
  (List.finRange 7).map (fun a => .inr (.inr a)) ++ ((List.finRange 7).map (fun a => .inr (.inl a)) ++ (List.finRange 7).map .inl)

theorem firsts_nodup : firsts.Nodup := by decide +kernel
theorem rests_nodup : rests.Nodup := by decide +kernel
theorem firsts_all : ∀ k, k ∈ firsts := by rintro (a | a) <;> simp [firsts]
theorem rests_all : ∀ k, k ∈ rests := by rintro (a | a | a) <;> simp [rests]

abbrev R : T.Order := flat firsts rests firsts_nodup rests_nodup firsts_all rests_all

variable {F : FTy → Type} [FloatOps F]

/-- The kernel is these statements. -/
theorem body_eq (t : Fin cfg0.N) : Gen.bodyAt0 (F := F) t = .op .deviceId fun d => steps (R.statements d) (.ret ⟨⟩) := rfl

/-! ## Where the copies land -/

theorem halfOut_under (a : Fin 7) (d : Dev nD) (i : Fin (arr a).half.toNat) (j : Fin (arr a).C) : Under nD τ ((arr a).halfOut d) (ix2 i j) (arr a).out
    (ix2 (⟨(cw d).toNat * (arr a).half.toNat + i.val, by have := (arr a).from_le d; rw [(arr a).from_eq] at this; omega⟩ : Fin (arr a).R) j) := by
  have e := (window_under (nD := nD) (τ := τ) (arr a).out ((arr a).from_ (cw d)) 0 ((arr a).from_le d) (Nat.le_of_eq (Nat.zero_add (arr a).C)) i j)
  refine e.trans (Under.rfl' ?_)
  congr 1
  · exact Fin.ext (by show (arr a).from_ (cw d) + i.val = _; rw [(arr a).from_eq])
  · exact Fin.ext (Nat.zero_add _)

theorem arg_ref (a : Fin 7) : (arr a).arg.view.ref = argRef a := match a with | 0 => rfl | 1 => rfl | 2 => rfl | 3 => rfl | 4 => rfl | 5 => rfl | 6 => rfl
theorem out_ref (a : Fin 7) : (arr a).out.view.ref = outRef a := match a with | 0 => rfl | 1 => rfl | 2 => rfl | 3 => rfl | 4 => rfl | 5 => rfl | 6 => rfl
theorem outRef_inj : Function.Injective outRef := by decide

theorem out_apart (c : Dev nD) (a a' : Fin 7) (x : (sh2 (arr a).R (arr a).C).Idx) (x' : (sh2 (arr a').R (arr a').C).Idx)
    (h : touch τ (arr a).out c x = touch τ (arr a').out c x') : a = a' ∧ (x 0).val = (x' 0).val := by
  have hr : (arr a).out.view.ref = (arr a').out.view.ref := Proc.devRef_injective (sig := sig) (Proc.tc : Proc τ) (Prod.ext_iff.mp (Sigma.mk.inj h).1).2
  rw [out_ref, out_ref] at hr
  obtain rfl := outRef_inj hr
  obtain rfl := (arr a).out.view.emb.injective (eq_of_heq (Sigma.mk.inj h).2)
  exact ⟨rfl, rfl⟩

def arrOf : T.A ⊕ T.B → Fin 7
  | .inl a => a
  | .inr a => a
/-- Whose half of the rows a copy fills on device `c`. -/
def coreOf (c : Dev nD) : T.A ⊕ T.B → ℕ
  | .inl _ => (cw c).toNat
  | .inr _ => 1 - (cw c).toNat

theorem coreOf_eq (c : Dev nD) (k : T.A ⊕ T.B) : coreOf c k = (cw (T.filler c k)).toNat :=
  match k with | .inl _ => rfl | .inr _ => (beside_facts c).2.1.symm

theorem filling_eq (c : Dev nD) (k : T.A ⊕ T.B) : T.filling c k = copy (arrOf k) (T.filler c k) := match k with | .inl _ => rfl | .inr _ => rfl

theorem lands (c : Dev nD) (k : T.A ⊕ T.B) (i : (T.filling c k).s.Idx) : ∃ x : (sh2 (arr (arrOf k)).R (arr (arrOf k)).C).Idx,
    touch τ (T.filling c k).dst c i = touch τ (arr (arrOf k)).out c x ∧ (x 0).val / (arr (arrOf k)).half.toNat = coreOf c k := by
  have key : ∀ (a : Fin 7) (d : Dev nD) (i : (sh2 (arr a).half.toNat (arr a).C).Idx), ∃ x : (sh2 (arr a).R (arr a).C).Idx,
      touch τ ((arr a).halfOut d) c i = touch τ (arr a).out c x ∧ (x 0).val / (arr a).half.toNat = (cw d).toNat := by
    intro a d i
    rw [eq_ix2 i]
    refine ⟨_, (halfOut_under a d (i 0) (i 1)).touch_eq c, ?_⟩
    have hi : (i 0).val < (arr a).half.toNat := (i 0).isLt
    show ((cw d).toNat * (arr a).half.toNat + (i 0).val) / (arr a).half.toNat = _
    rw [Nat.mul_comm, Nat.mul_add_div (by omega), Nat.div_eq_of_lt hi, Nat.add_zero]
  rw [coreOf_eq]
  match k, i with
  | .inl a, i => exact key a c i
  | .inr a, i => exact key a (beside.symm c) i

theorem apart (c : Dev nD) (k k' : T.A ⊕ T.B) (i : (T.filling c k).s.Idx) (i' : (T.filling c k').s.Idx)
    (h : touch τ (T.filling c k).dst c i = touch τ (T.filling c k').dst c i') : k = k' := by
  obtain ⟨x, hx, hc⟩ := lands c k i
  obtain ⟨x', hx', hc'⟩ := lands c k' i'
  obtain ⟨ha, h0⟩ := out_apart c _ _ x x' (hx.symm.trans (h.trans hx'))
  have hs : coreOf c k = coreOf c k' := by rw [← hc, ← hc', h0, ha]
  have hlt : (cw c).toNat < 2 := (slots_apart c 0 0).2.2
  match k, k' with
  | .inl a, .inl a' => exact congrArg _ ha
  | .inr a, .inr a' => exact congrArg _ ha
  | .inl a, .inr a' => have e : (cw c).toNat = 1 - (cw c).toNat := hs; omega
  | .inr a, .inl a' => have e : 1 - (cw c).toNat = (cw c).toNat := hs; omega

def isOut (b : Ref sig .tc) : Bool := (List.finRange 7).any fun a => b = outRef a

theorem isOut_out (a : Fin 7) : isOut (outRef a) = true ∧ (outRef a).isScoped = false := by revert a; decide
theorem isOut_arg (a : Fin 7) : isOut (argRef a) = false ∧ (argRef a).isScoped = false := by revert a; decide

def S : T.Fits τ R := flatFits firsts rests firsts_nodup rests_nodup firsts_all rests_all isOut
  (fun c k => match k with | .inl a => out_ref a ▸ isOut_out a | .inr a => out_ref a ▸ isOut_out a)
  (fun c k => match k with | .inl a => arg_ref a ▸ isOut_arg a | .inr a => arg_ref a ▸ isOut_arg a)
  apart

/-! ## The run -/

section

variable (m : (ℓ : Loc nD τ sig) → Buf (Elt F) ℓ)

theorem own_sems : Pipeline.OwnSemFacts (cfgs 0).spec fun k : T.Cell => SemLoc.dma (T.sem k) :=
  ⟨by decide +kernel, fun k k' h => T.sem_inj (SemLoc.dma.inj h), fun _ w => w.elim0⟩

theorem run_main (g : Dev nD → PrngReg) :
    θ_run (defs (F := F)) (onTc (τ := τ) (main (F := F))) ⟨m, fun _ => 0, g⟩ fun r =>
      (∀ c, S.Ends m (T.atFirst m) c r.2.mem) ∧ r.2.sem = fun _ => 0 :=
  run_of_fits (m := m) (R := R) cfgs 0 (T.atFirst m) S (fun c k _ => atFirst_made m c k) (fun _ _ hb => absurd hb List.not_mem_nil)
    Gen.launch0 own_sems (fun _ => ⟨fun w => w.elim0⟩) Gen.N_0 defs₀ g main
    (fun _ => rfl) ⟨⟩ (fun t => body_eq t) (fun s h hs => ⟨h, sem_eq_zero_of_scoped (by decide) hs⟩)

end

/-- Every row of the result is the row of the half of the core whose row it is. -/
theorem joined {Val : EltTy → Type} {m : (ℓ : Loc nD τ sig) → Buf Val ℓ} {mem : (ℓ : Loc nD τ sig) → Buf Val ℓ} {d : Dev nD} (h : S.Ends m (T.atFirst m) d mem) (a : Fin 7)
    (i : Fin (arr a).R) (j : Fin (arr a).C) :
    ∃ (d' : Dev nD) (i' : Fin (arr a).half.toNat), ownw d' = ownw d ∧ (cw d').toNat * (arr a).half.toNat + i'.val = i.val
      ∧ held mem d (arr a).out (ix2 i j) = held m d' (arr a).arg (ix2 i' j) := by
  have key : ∀ (e : Dev nD) (hv : held mem d ((arr a).halfOut e) = held m e (arr a).arg) (he : ownw e = ownw d) (hl : (cw e).toNat * (arr a).half.toNat ≤ i.val)
      (hu : i.val < (cw e).toNat * (arr a).half.toNat + (arr a).half.toNat),
      ∃ (d' : Dev nD) (i' : Fin (arr a).half.toNat), ownw d' = ownw d ∧ (cw d').toNat * (arr a).half.toNat + i'.val = i.val
        ∧ held mem d (arr a).out (ix2 i j) = held m d' (arr a).arg (ix2 i' j) := by
    intro e hv he hl hu
    refine ⟨e, ⟨i.val - (cw e).toNat * (arr a).half.toNat, by omega⟩, he, by show _ + (i.val - _) = _; omega, ?_⟩
    have u := (halfOut_under a e ⟨i.val - (cw e).toNat * (arr a).half.toNat, by omega⟩ j).held_eq mem d
    rw [hv] at u
    rw [u]
    congr 2
    exact Fin.ext (by show _ = _ + (i.val - _); omega)
  have h2 := (arr a).two
  have hi := i.isLt
  have hlt : (cw d).toNat < 2 := (slots_apart d 0 0).2.2
  by_cases hc : (cw d).toNat * (arr a).half.toNat ≤ i.val ∧ i.val < (cw d).toNat * (arr a).half.toNat + (arr a).half.toNat
  · exact key d (brought_eq h (.inl a)) rfl hc.1 hc.2
  · have f := beside_facts d
    have hh : (cw (beside.symm d)).toNat * (arr a).half.toNat ≤ i.val ∧ i.val < (cw (beside.symm d)).toNat * (arr a).half.toNat + (arr a).half.toNat := by
      rw [f.2.1]
      rcases (by omega : (cw d).toNat = 0 ∨ (cw d).toNat = 1) with e | e <;> rw [e] at hc ⊢ <;> simp only [Nat.zero_mul, Nat.one_mul, Nat.sub_zero, Nat.sub_self] at hc ⊢ <;> omega
    exact key (beside.symm d) (brought_eq h (.inr a)) f.1 hh.1 hh.2

theorem kept_args {Val : EltTy → Type} {m : (ℓ : Loc nD τ sig) → Buf Val ℓ} {mem : (ℓ : Loc nD τ sig) → Buf Val ℓ} {d : Dev nD} (h : S.Ends m (T.atFirst m) d mem) (a : Fin 7) :
    mem ((d.tc : Thread nD τ).loc (argRef a)) = m ((d.tc : Thread nD τ).loc (argRef a)) := kept_eq h _ (isOut_arg a)

end Cert.JoinPlan

end
-- ==== Proof.JoinValue.lean ====
/-
# What `pair_join` joins

Every result is the chip's part of the whole argument.
-/
module

public import proofs.«01_k».proof.Proof.JoinPlan
public import proofs.«01_k».proof.Proof.Blocks
public import proofs.«01_k».proof.Proof.Gen.JoinRefIdeal
public import Idealize.ShloMosaic.Lib.StableHlo.Run

@[expose] public section

noncomputable section

namespace Cert.JoinPlan

open Idealize.ShloMosaic Idealize.ShloMosaic.TcCoe
open Idealize.SL.Sem
open Cert.JoinIdeal Cert.Moves Cert.Moves.Plan Cert.Blocks Cert.Chips
open Idealize.ShloMosaic.ValueIdx

section

variable {F : FTy → Type} [FloatOps F] (m : (ℓ : Loc nD τ sig) → Buf (Elt F) ℓ)
  (m' : (ℓ : Loc Cert.JoinRefIdeal.nD Cert.JoinRefIdeal.τ Cert.JoinRefIdeal.sig) → Buf (Elt F) ℓ)

/-- Each device holds its shards of the reference's arrays. -/
def Given : Prop := ∀ c : Dev nD,
  m ((c.tc : Thread nD τ).loc main_arg0) = Layout.blockN ⟨2, ![512, 1792]⟩ ⟨2, ![1024, 7168]⟩ (Layout.meshBlock [2, 2, 2] ![[2], [0, 1]] c) (m' (((0 : Dev Cert.JoinRefIdeal.nD).tc : Thread Cert.JoinRefIdeal.nD Cert.JoinRefIdeal.τ).loc Cert.JoinRefIdeal.main_arg0))
  ∧ m ((c.tc : Thread nD τ).loc main_arg1) = Layout.blockN ⟨2, ![512, 1536]⟩ ⟨2, ![1024, 6144]⟩ (Layout.meshBlock [2, 2, 2] ![[2], [0, 1]] c) (m' (((0 : Dev Cert.JoinRefIdeal.nD).tc : Thread Cert.JoinRefIdeal.nD Cert.JoinRefIdeal.τ).loc Cert.JoinRefIdeal.main_arg1))
  ∧ m ((c.tc : Thread nD τ).loc main_arg2) = Layout.block ⟨2, ![128, 1024]⟩ ⟨2, ![1024, 1024]⟩ 0 8 c (m' (((0 : Dev Cert.JoinRefIdeal.nD).tc : Thread Cert.JoinRefIdeal.nD Cert.JoinRefIdeal.τ).loc Cert.JoinRefIdeal.main_arg2))
  ∧ m ((c.tc : Thread nD τ).loc main_arg3) = Layout.block ⟨2, ![128, 1024]⟩ ⟨2, ![1024, 1024]⟩ 0 8 c (m' (((0 : Dev Cert.JoinRefIdeal.nD).tc : Thread Cert.JoinRefIdeal.nD Cert.JoinRefIdeal.τ).loc Cert.JoinRefIdeal.main_arg3))
  ∧ m ((c.tc : Thread nD τ).loc main_arg4) = Layout.block ⟨2, ![128, 1024]⟩ ⟨2, ![1024, 1024]⟩ 0 8 c (m' (((0 : Dev Cert.JoinRefIdeal.nD).tc : Thread Cert.JoinRefIdeal.nD Cert.JoinRefIdeal.τ).loc Cert.JoinRefIdeal.main_arg4))
  ∧ m ((c.tc : Thread nD τ).loc main_arg5) = Layout.block ⟨2, ![384, 1024]⟩ ⟨2, ![3072, 1024]⟩ 0 8 c (m' (((0 : Dev Cert.JoinRefIdeal.nD).tc : Thread Cert.JoinRefIdeal.nD Cert.JoinRefIdeal.τ).loc Cert.JoinRefIdeal.main_arg5))
  ∧ m ((c.tc : Thread nD τ).loc main_arg6) = Layout.block ⟨2, ![272, 256]⟩ ⟨2, ![2176, 256]⟩ 0 8 c (m' (((0 : Dev Cert.JoinRefIdeal.nD).tc : Thread Cert.JoinRefIdeal.nD Cert.JoinRefIdeal.τ).loc Cert.JoinRefIdeal.main_arg6))

variable {m m'} {mem : (ℓ : Loc nD τ sig) → Buf (Elt F) ℓ} {d : Dev nD}

/-- A result read where the half of the rows it lies in is given. -/
theorem joined_of (h : S.Ends m (T.atFirst m) d mem) (a : Fin 7) {b : Dev nD → (sh2 (arr a).half.toNat (arr a).C).Idx → Elt F .f32}
    (hb : ∀ c, held m c (arr a).arg = b c) (i : Fin (arr a).R) (j : Fin (arr a).C) :
    ∃ (e : Fin 8) (k : Fin (arr a).half.toNat), Layout.meshLin [2, 2, 2] e.val [0, 1] = Layout.meshLin [2, 2, 2] d.val [0, 1]
      ∧ Layout.meshLin [2, 2, 2] e.val [2] * (arr a).half.toNat + k.val = i.val ∧ held mem d (arr a).out (ix2 i j) = b e (ix2 k j) := by
  obtain ⟨e, k, ho, hk, he⟩ := joined h a i j
  exact ⟨e, k, by rw [chip_val, chip_val, ho], by rw [core_val, hk], he.trans (congrFun (hb e) _)⟩

/-- The reference returns its arguments. -/
theorem ref_run (m' : (ℓ : Loc Cert.JoinRefIdeal.nD Cert.JoinRefIdeal.τ Cert.JoinRefIdeal.sig) → Buf (Elt F) ℓ) (g' : Dev Cert.JoinRefIdeal.nD → PrngReg) :
    θ_run (Cert.JoinRefIdeal.defs (F := F)) (onTc (τ := Cert.JoinRefIdeal.τ) (Cert.JoinRefIdeal.main (F := F))) ⟨m', fun _ => 0, g'⟩ fun r =>
      ∀ (c : Dev Cert.JoinRefIdeal.nD) (b : Ref Cert.JoinRefIdeal.sig .tc), r.2.mem ((c.tc : Thread Cert.JoinRefIdeal.nD Cert.JoinRefIdeal.τ).loc b) = m' ((c.tc : Thread Cert.JoinRefIdeal.nD Cert.JoinRefIdeal.τ).loc b) :=
  StableHlo.run_seq (by decide) (by decide) Cert.JoinRefIdeal.defs Cert.JoinRefIdeal.main (fun _ => []) (fun _ => rfl) (fun _ => trivial) m' g'

theorem value (g : Dev nD → PrngReg) (g' : Dev Cert.JoinRefIdeal.nD → PrngReg) (hg : Given m m') :
    ∃ v0 v1 v2 v3 v4 v5 v6,
      θ_run (defs (F := F)) (onTc (τ := τ) (main (F := F))) ⟨m, fun _ => 0, g⟩ (fun r => ∀ c : Dev nD,
          r.2.mem ((c.tc : Thread nD τ).loc main_v1_0) = Layout.blockN ⟨2, ![1024, 1792]⟩ ⟨2, ![1024, 7168]⟩ (Layout.meshBlock [2, 2, 2] ![[], [0, 1]] c) v0
          ∧ r.2.mem ((c.tc : Thread nD τ).loc main_v1_1) = Layout.blockN ⟨2, ![1024, 1536]⟩ ⟨2, ![1024, 6144]⟩ (Layout.meshBlock [2, 2, 2] ![[], [0, 1]] c) v1
          ∧ r.2.mem ((c.tc : Thread nD τ).loc main_v1_2) = Layout.blockN ⟨2, ![256, 1024]⟩ ⟨2, ![1024, 1024]⟩ (Layout.meshBlock [2, 2, 2] ![[0, 1], []] c) v2
          ∧ r.2.mem ((c.tc : Thread nD τ).loc main_v1_3) = Layout.blockN ⟨2, ![256, 1024]⟩ ⟨2, ![1024, 1024]⟩ (Layout.meshBlock [2, 2, 2] ![[0, 1], []] c) v3
          ∧ r.2.mem ((c.tc : Thread nD τ).loc main_v1_4) = Layout.blockN ⟨2, ![256, 1024]⟩ ⟨2, ![1024, 1024]⟩ (Layout.meshBlock [2, 2, 2] ![[0, 1], []] c) v4
          ∧ r.2.mem ((c.tc : Thread nD τ).loc main_v1_5) = Layout.blockN ⟨2, ![768, 1024]⟩ ⟨2, ![3072, 1024]⟩ (Layout.meshBlock [2, 2, 2] ![[0, 1], []] c) v5
          ∧ r.2.mem ((c.tc : Thread nD τ).loc main_v1_6) = Layout.blockN ⟨2, ![544, 256]⟩ ⟨2, ![2176, 256]⟩ (Layout.meshBlock [2, 2, 2] ![[0, 1], []] c) v6
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6))
      ∧ θ_run (Cert.JoinRefIdeal.defs (F := F)) (onTc (τ := Cert.JoinRefIdeal.τ) (Cert.JoinRefIdeal.main (F := F))) ⟨m', fun _ => 0, g'⟩ (fun r =>
          r.2.mem (((0 : Dev Cert.JoinRefIdeal.nD).tc : Thread Cert.JoinRefIdeal.nD Cert.JoinRefIdeal.τ).loc Cert.JoinRefIdeal.main_arg0) = v0
          ∧ r.2.mem (((0 : Dev Cert.JoinRefIdeal.nD).tc : Thread Cert.JoinRefIdeal.nD Cert.JoinRefIdeal.τ).loc Cert.JoinRefIdeal.main_arg1) = v1
          ∧ r.2.mem (((0 : Dev Cert.JoinRefIdeal.nD).tc : Thread Cert.JoinRefIdeal.nD Cert.JoinRefIdeal.τ).loc Cert.JoinRefIdeal.main_arg2) = v2
          ∧ r.2.mem (((0 : Dev Cert.JoinRefIdeal.nD).tc : Thread Cert.JoinRefIdeal.nD Cert.JoinRefIdeal.τ).loc Cert.JoinRefIdeal.main_arg3) = v3
          ∧ r.2.mem (((0 : Dev Cert.JoinRefIdeal.nD).tc : Thread Cert.JoinRefIdeal.nD Cert.JoinRefIdeal.τ).loc Cert.JoinRefIdeal.main_arg4) = v4
          ∧ r.2.mem (((0 : Dev Cert.JoinRefIdeal.nD).tc : Thread Cert.JoinRefIdeal.nD Cert.JoinRefIdeal.τ).loc Cert.JoinRefIdeal.main_arg5) = v5
          ∧ r.2.mem (((0 : Dev Cert.JoinRefIdeal.nD).tc : Thread Cert.JoinRefIdeal.nD Cert.JoinRefIdeal.τ).loc Cert.JoinRefIdeal.main_arg6) = v6
          ∧ r.2.mem (((0 : Dev Cert.JoinRefIdeal.nD).tc : Thread Cert.JoinRefIdeal.nD Cert.JoinRefIdeal.τ).loc Cert.JoinRefIdeal.main_arg0) = m' (((0 : Dev Cert.JoinRefIdeal.nD).tc : Thread Cert.JoinRefIdeal.nD Cert.JoinRefIdeal.τ).loc Cert.JoinRefIdeal.main_arg0)
          ∧ r.2.mem (((0 : Dev Cert.JoinRefIdeal.nD).tc : Thread Cert.JoinRefIdeal.nD Cert.JoinRefIdeal.τ).loc Cert.JoinRefIdeal.main_arg1) = m' (((0 : Dev Cert.JoinRefIdeal.nD).tc : Thread Cert.JoinRefIdeal.nD Cert.JoinRefIdeal.τ).loc Cert.JoinRefIdeal.main_arg1)
          ∧ r.2.mem (((0 : Dev Cert.JoinRefIdeal.nD).tc : Thread Cert.JoinRefIdeal.nD Cert.JoinRefIdeal.τ).loc Cert.JoinRefIdeal.main_arg2) = m' (((0 : Dev Cert.JoinRefIdeal.nD).tc : Thread Cert.JoinRefIdeal.nD Cert.JoinRefIdeal.τ).loc Cert.JoinRefIdeal.main_arg2)
          ∧ r.2.mem (((0 : Dev Cert.JoinRefIdeal.nD).tc : Thread Cert.JoinRefIdeal.nD Cert.JoinRefIdeal.τ).loc Cert.JoinRefIdeal.main_arg3) = m' (((0 : Dev Cert.JoinRefIdeal.nD).tc : Thread Cert.JoinRefIdeal.nD Cert.JoinRefIdeal.τ).loc Cert.JoinRefIdeal.main_arg3)
          ∧ r.2.mem (((0 : Dev Cert.JoinRefIdeal.nD).tc : Thread Cert.JoinRefIdeal.nD Cert.JoinRefIdeal.τ).loc Cert.JoinRefIdeal.main_arg4) = m' (((0 : Dev Cert.JoinRefIdeal.nD).tc : Thread Cert.JoinRefIdeal.nD Cert.JoinRefIdeal.τ).loc Cert.JoinRefIdeal.main_arg4)
          ∧ r.2.mem (((0 : Dev Cert.JoinRefIdeal.nD).tc : Thread Cert.JoinRefIdeal.nD Cert.JoinRefIdeal.τ).loc Cert.JoinRefIdeal.main_arg5) = m' (((0 : Dev Cert.JoinRefIdeal.nD).tc : Thread Cert.JoinRefIdeal.nD Cert.JoinRefIdeal.τ).loc Cert.JoinRefIdeal.main_arg5)
          ∧ r.2.mem (((0 : Dev Cert.JoinRefIdeal.nD).tc : Thread Cert.JoinRefIdeal.nD Cert.JoinRefIdeal.τ).loc Cert.JoinRefIdeal.main_arg6) = m' (((0 : Dev Cert.JoinRefIdeal.nD).tc : Thread Cert.JoinRefIdeal.nD Cert.JoinRefIdeal.τ).loc Cert.JoinRefIdeal.main_arg6)) := by
  refine ⟨_, _, _, _, _, _, _, ?_, (θ_run _ _ _).mono (fun r h => ⟨h 0 _, h 0 _, h 0 _, h 0 _, h 0 _, h 0 _, h 0 _,
    h 0 _, h 0 _, h 0 _, h 0 _, h 0 _, h 0 _, h 0 _⟩) (ref_run m' g')⟩
  refine (θ_run _ _ _).mono (fun r h c => ?_) (run_main m g)
  have e := h.1 c
  refine ⟨?_, ?_, ?_, ?_, ?_, ?_, ?_, kept_args e 0, kept_args e 1, kept_args e 2, kept_args e 3, kept_args e 4, kept_args e 5, kept_args e 6⟩
  · exact join_columns _ _ (joined_of e 0 fun c => (hg c).1) _ _
  · exact join_columns _ _ (joined_of e 1 fun c => (hg c).2.1) _ _
  · exact join_rows (arr 2).two _ (joined_of e 2 fun c => (hg c).2.2.1) _ _
  · exact join_rows (arr 3).two _ (joined_of e 3 fun c => (hg c).2.2.2.1) _ _
  · exact join_rows (arr 4).two _ (joined_of e 4 fun c => (hg c).2.2.2.2.1) _ _
  · exact join_rows (arr 5).two _ (joined_of e 5 fun c => (hg c).2.2.2.2.2.1) _ _
  · exact join_rows (arr 6).two _ (joined_of e 6 fun c => (hg c).2.2.2.2.2.2) _ _

/-- The run leaves the arguments as they were and every counter at zero. -/
theorem frame (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r h => ⟨fun c => ⟨kept_args (h.1 c) 0, kept_args (h.1 c) 1, kept_args (h.1 c) 2, kept_args (h.1 c) 3,
    kept_args (h.1 c) 4, kept_args (h.1 c) 5, kept_args (h.1 c) 6⟩, h.2⟩) (run_main m g)

end

end Cert.JoinPlan

end
-- ==== Proof.Update.lean ====
/-
# AdamW

The kernel multiplies the two moments by the named constants 1 / d₁ and 1 / d₂ where the reference divides by the float words
d₁ and d₂; everything else is the same operation at every index. So the three results are the same functions of the four
arguments, whatever the arrays' shape.
-/
module

public import proofs.«01_k».proof.Defs
public import Idealize.ShloMosaic.PureOps.Ideal
public import Idealize.ShloMosaic.PureOps.IdealRules

@[expose] public section

noncomputable section

namespace Cert.Update

open Idealize.ShloMosaic

/-- The reference's two divisors, as the rationals that their float words are. -/
theorem word_d1 : Ideal.ofBits .f32 0x3F26BD02#32 = ((5463681 / 8388608 : ℝ) : EReal) := by
  simp [Ideal.ofBits, Ideal.ieee, -EReal.coe_mul]; norm_num

theorem word_d2 : Ideal.ofBits .f32 0x3C231ACC#32 = ((2672307 / 268435456 : ℝ) : EReal) := by
  simp [Ideal.ofBits, Ideal.ieee, -EReal.coe_mul]; norm_num

/-- Dividing by d₁ is multiplying by its reciprocal, on all the extended reals; likewise d₂. -/
theorem over_d1 (x : EReal) : Ideal.div x (Ideal.ofBits .f32 0x3F26BD02#32) = x * ((8388608 / 5463681 : ℝ) : EReal) := by
  rw [word_d1, Ideal.div_coe (by norm_num)]; norm_num

theorem over_d2 (x : EReal) : Ideal.div x (Ideal.ofBits .f32 0x3C231ACC#32) = x * ((268435456 / 2672307 : ℝ) : EReal) := by
  rw [word_d2, Ideal.div_coe (by norm_num)]; norm_num

variable {t : Shape} (b : (⟨0, ![]⟩ : Shape).BroadcastsInDim t (![] : Fin 0 → Fin t.rank))

/-- A float word, at every index of an array. -/
abbrev word (w : BitVec 32) : FVec Ideal t .f32 := broadcastInDim t ![] b (constant ⟨0, ![]⟩ .f32 w)

/-- The reference's new first moment. -/
abbrev moment1 (g m : FVec Ideal t .f32) : FVec Ideal t .f32 :=
  addf (mulf (word b 0x3F666666#32) m) (mulf (word b 0x3DCCCCCD#32) g)

/-- The reference's new second moment. -/
abbrev moment2 (g v : FVec Ideal t .f32) : FVec Ideal t .f32 :=
  addf (mulf (word b 0x3F7FBE77#32) v) (mulf (word b 0x3A83126F#32) (mulf g g))

/-- The step with the kernel's two constants `c1` and `c2`, at every index. -/
theorem step_eq {c1 c2 : Ideal .f32} (h1 : c1 = ((8388608 / 5463681 : ℝ) : EReal)) (h2 : c2 = ((268435456 / 2672307 : ℝ) : EReal))
    (w g m v : FVec Ideal t .f32) :
    mulf (word b 0xBA83126F#32) (addf (Host.divf (Host.divf (moment1 b g m) (word b 0x3F26BD02#32))
        (addf (Host.sqrt (Host.divf (moment2 b g v) (word b 0x3C231ACC#32))) (word b 0x322BCC77#32)))
      (mulf (word b 0x3C23D70A#32) w))
    = fun i => FloatOps.mulf (Scalar.ofBits .f32 0xBA83126F#32) (FloatOps.addf
        (FloatOps.divf (FloatOps.mulf (moment1 b g m i) c1) (FloatOps.addf (FloatOps.sqrt (FloatOps.mulf (moment2 b g v i) c2))
          (Scalar.ofBits .f32 0x322BCC77#32)))
        (FloatOps.mulf (Scalar.ofBits .f32 0x3C23D70A#32) (w i))) := by
  funext i
  have e1 : Host.divf (moment1 b g m) (word b 0x3F26BD02#32) i = FloatOps.mulf (moment1 b g m i) c1 := by
    rw [h1]; exact over_d1 _
  have e2 : Host.divf (moment2 b g v) (word b 0x3C231ACC#32) i = FloatOps.mulf (moment2 b g v i) c2 := by
    rw [h2]; exact over_d2 _
  rw [← e1, ← e2]; rfl

end Cert.Update

end
-- ==== Proof.UpdateClaims.lean ====
/-
# The optimizer steps: the claims

The kernel works through the arrays tile by tile and multiplies by two constants where the reference divides; its run gives
each result at every index, and `Cert.Update.step_eq` is the comparison at any shape.
-/
module

public import proofs.«01_k».proof.Defs
public import proofs.«01_k».proof.Proof.Gen.AdamWin.Frame
public import proofs.«01_k».proof.Proof.Gen.AdamWinIdeal.Value
public import proofs.«01_k».proof.Proof.Gen.AdamWinRefIdeal.Run
public import proofs.«01_k».proof.Proof.Gen.AdamUp.Frame
public import proofs.«01_k».proof.Proof.Gen.AdamUpIdeal.Value
public import proofs.«01_k».proof.Proof.Gen.AdamUpRefIdeal.Run
public import proofs.«01_k».proof.Proof.Gen.AdamRow.Frame
public import proofs.«01_k».proof.Proof.Gen.AdamRowIdeal.Value
public import proofs.«01_k».proof.Proof.Gen.AdamRowRefIdeal.Run
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamRepl.Frame
public import proofs.«01_k».proof.Proof.Gen.AdamReplIdeal.Value
public import proofs.«01_k».proof.Proof.Gen.AdamReplRefIdeal.Run
public import proofs.«01_k».proof.Proof.Update
public import Idealize.ShloMosaic.Lib.Quiescent

@[expose] public section

noncomputable section

open Idealize.ShloMosaic Idealize.ShloMosaic.TcCoe Idealize.SL.Sem

namespace Cert.Proof.AdamWin

theorem frame : Cert.quiescent_AdamWin := fun m g _ => Cert.AdamWin.Gen.frame m g

theorem frame_ideal : Cert.quiescent_AdamWinIdeal := fun m g _ => Cert.AdamWinIdeal.Gen.frame m g

theorem frame_ref_ideal : Cert.quiescent_AdamWinRefIdeal := fun m g _ =>
  (θ_run Cert.AdamWinRefIdeal.defs _ _).mono (fun r h => ⟨fun c => (h c).2.2.2, sem_eq_zero_of_no_sems (by decide) r.2⟩)
    (Cert.AdamWinRefIdeal.Value.run (F := Ideal) m g)

theorem preserves : Cert.preserves_AdamWin_AdamWinIdeal :=
  ⟨IdealRules.named_const.statement _ _ _ _ _ rfl, IdealRules.named_const.statement _ _ _ _ _ rfl⟩

theorem algebraic : Cert.algebraic_AdamWinIdeal_AdamWinRefIdeal := by
  intro m g m' g' _ agree
  refine ⟨_, _, _, Cert.AdamWinIdeal.Value.run (F := Ideal) m g, ?_⟩
  refine (θ_run Cert.AdamWinRefIdeal.defs _ _).mono (fun _ h c => ⟨(h c).1.trans ?_, (h c).2.1.trans ?_, (h c).2.2.1.trans ?_, (h c).2.2.2⟩)
    (Cert.AdamWinRefIdeal.Value.run (F := Ideal) m' g')
  · rw [(agree c).1, (agree c).2.1, (agree c).2.2.1, (agree c).2.2.2]
    exact Cert.Update.step_eq _ (IdealRules.named_const.ideal_named_scalar _ _ _ _ rfl) (IdealRules.named_const.ideal_named_scalar _ _ _ _ rfl) _ _ _ _
  · rw [(agree c).2.1, (agree c).2.2.1]; rfl
  · rw [(agree c).2.1, (agree c).2.2.2]; rfl

end Cert.Proof.AdamWin

namespace Cert.Proof.AdamUp

theorem frame : Cert.quiescent_AdamUp := fun m g _ => Cert.AdamUp.Gen.frame m g

theorem frame_ideal : Cert.quiescent_AdamUpIdeal := fun m g _ => Cert.AdamUpIdeal.Gen.frame m g

theorem frame_ref_ideal : Cert.quiescent_AdamUpRefIdeal := fun m g _ =>
  (θ_run Cert.AdamUpRefIdeal.defs _ _).mono (fun r h => ⟨fun c => (h c).2.2.2, sem_eq_zero_of_no_sems (by decide) r.2⟩)
    (Cert.AdamUpRefIdeal.Value.run (F := Ideal) m g)

theorem preserves : Cert.preserves_AdamUp_AdamUpIdeal :=
  ⟨IdealRules.named_const.statement _ _ _ _ _ rfl, IdealRules.named_const.statement _ _ _ _ _ rfl⟩

theorem algebraic : Cert.algebraic_AdamUpIdeal_AdamUpRefIdeal := by
  intro m g m' g' _ agree
  refine ⟨_, _, _, Cert.AdamUpIdeal.Value.run (F := Ideal) m g, ?_⟩
  refine (θ_run Cert.AdamUpRefIdeal.defs _ _).mono (fun _ h c => ⟨(h c).1.trans ?_, (h c).2.1.trans ?_, (h c).2.2.1.trans ?_, (h c).2.2.2⟩)
    (Cert.AdamUpRefIdeal.Value.run (F := Ideal) m' g')
  · rw [(agree c).1, (agree c).2.1, (agree c).2.2.1, (agree c).2.2.2]
    exact Cert.Update.step_eq _ (IdealRules.named_const.ideal_named_scalar _ _ _ _ rfl) (IdealRules.named_const.ideal_named_scalar _ _ _ _ rfl) _ _ _ _
  · rw [(agree c).2.1, (agree c).2.2.1]; rfl
  · rw [(agree c).2.1, (agree c).2.2.2]; rfl

end Cert.Proof.AdamUp

namespace Cert.Proof.AdamRow

theorem frame : Cert.quiescent_AdamRow := fun m g _ => Cert.AdamRow.Gen.frame m g

theorem frame_ideal : Cert.quiescent_AdamRowIdeal := fun m g _ => Cert.AdamRowIdeal.Gen.frame m g

theorem frame_ref_ideal : Cert.quiescent_AdamRowRefIdeal := fun m g _ =>
  (θ_run Cert.AdamRowRefIdeal.defs _ _).mono (fun r h => ⟨fun c => (h c).2.2.2, sem_eq_zero_of_no_sems (by decide) r.2⟩)
    (Cert.AdamRowRefIdeal.Value.run (F := Ideal) m g)

theorem preserves : Cert.preserves_AdamRow_AdamRowIdeal :=
  ⟨IdealRules.named_const.statement _ _ _ _ _ rfl, IdealRules.named_const.statement _ _ _ _ _ rfl⟩

theorem algebraic : Cert.algebraic_AdamRowIdeal_AdamRowRefIdeal := by
  intro m g m' g' _ agree
  refine ⟨_, _, _, Cert.AdamRowIdeal.Value.run (F := Ideal) m g, ?_⟩
  refine (θ_run Cert.AdamRowRefIdeal.defs _ _).mono (fun _ h c => ⟨(h c).1.trans ?_, (h c).2.1.trans ?_, (h c).2.2.1.trans ?_, (h c).2.2.2⟩)
    (Cert.AdamRowRefIdeal.Value.run (F := Ideal) m' g')
  · rw [(agree c).1, (agree c).2.1, (agree c).2.2.1, (agree c).2.2.2]
    exact Cert.Update.step_eq _ (IdealRules.named_const.ideal_named_scalar _ _ _ _ rfl) (IdealRules.named_const.ideal_named_scalar _ _ _ _ rfl) _ _ _ _
  · rw [(agree c).2.1, (agree c).2.2.1]; rfl
  · rw [(agree c).2.1, (agree c).2.2.2]; rfl

end Cert.Proof.AdamRow

namespace Cert.Proof.AdamDown

theorem frame : Cert.quiescent_AdamDown := fun m g _ => Cert.AdamDown.Gen.frame m g

theorem frame_ideal : Cert.quiescent_AdamDownIdeal := fun m g _ => Cert.AdamDownIdeal.Gen.frame m g

theorem frame_ref_ideal : Cert.quiescent_AdamDownRefIdeal := fun m g _ =>
  (θ_run Cert.AdamDownRefIdeal.defs _ _).mono (fun r h => ⟨fun c => (h c).2.2.2, sem_eq_zero_of_no_sems (by decide) r.2⟩)
    (Cert.AdamDownRefIdeal.Value.run (F := Ideal) m g)

theorem preserves : Cert.preserves_AdamDown_AdamDownIdeal :=
  ⟨IdealRules.named_const.statement _ _ _ _ _ rfl, IdealRules.named_const.statement _ _ _ _ _ rfl⟩

theorem algebraic : Cert.algebraic_AdamDownIdeal_AdamDownRefIdeal := by
  intro m g m' g' _ agree
  refine ⟨_, _, _, Cert.AdamDownIdeal.Value.run (F := Ideal) m g, ?_⟩
  refine (θ_run Cert.AdamDownRefIdeal.defs _ _).mono (fun _ h c => ⟨(h c).1.trans ?_, (h c).2.1.trans ?_, (h c).2.2.1.trans ?_, (h c).2.2.2⟩)
    (Cert.AdamDownRefIdeal.Value.run (F := Ideal) m' g')
  · rw [(agree c).1, (agree c).2.1, (agree c).2.2.1, (agree c).2.2.2]
    exact Cert.Update.step_eq _ (IdealRules.named_const.ideal_named_scalar _ _ _ _ rfl) (IdealRules.named_const.ideal_named_scalar _ _ _ _ rfl) _ _ _ _
  · rw [(agree c).2.1, (agree c).2.2.1]; rfl
  · rw [(agree c).2.1, (agree c).2.2.2]; rfl

end Cert.Proof.AdamDown

namespace Cert.Proof.AdamSmall

theorem frame : Cert.quiescent_AdamSmall := fun m g _ => Cert.AdamSmall.Gen.frame m g

theorem frame_ideal : Cert.quiescent_AdamSmallIdeal := fun m g _ => Cert.AdamSmallIdeal.Gen.frame m g

theorem frame_ref_ideal : Cert.quiescent_AdamSmallRefIdeal := fun m g _ =>
  (θ_run Cert.AdamSmallRefIdeal.defs _ _).mono (fun r h => ⟨fun c => (h c).2.2.2, sem_eq_zero_of_no_sems (by decide) r.2⟩)
    (Cert.AdamSmallRefIdeal.Value.run (F := Ideal) m g)

theorem preserves : Cert.preserves_AdamSmall_AdamSmallIdeal :=
  ⟨IdealRules.named_const.statement _ _ _ _ _ rfl, IdealRules.named_const.statement _ _ _ _ _ rfl⟩

theorem algebraic : Cert.algebraic_AdamSmallIdeal_AdamSmallRefIdeal := by
  intro m g m' g' _ agree
  refine ⟨_, _, _, Cert.AdamSmallIdeal.Value.run (F := Ideal) m g, ?_⟩
  refine (θ_run Cert.AdamSmallRefIdeal.defs _ _).mono (fun _ h c => ⟨(h c).1.trans ?_, (h c).2.1.trans ?_, (h c).2.2.1.trans ?_, (h c).2.2.2⟩)
    (Cert.AdamSmallRefIdeal.Value.run (F := Ideal) m' g')
  · rw [(agree c).1, (agree c).2.1, (agree c).2.2.1, (agree c).2.2.2]
    exact Cert.Update.step_eq _ (IdealRules.named_const.ideal_named_scalar _ _ _ _ rfl) (IdealRules.named_const.ideal_named_scalar _ _ _ _ rfl) _ _ _ _
  · rw [(agree c).2.1, (agree c).2.2.1]; rfl
  · rw [(agree c).2.1, (agree c).2.2.2]; rfl

end Cert.Proof.AdamSmall

namespace Cert.Proof.AdamRepl

theorem frame : Cert.quiescent_AdamRepl := fun m g _ => Cert.AdamRepl.Gen.frame m g

theorem frame_ideal : Cert.quiescent_AdamReplIdeal := fun m g _ => Cert.AdamReplIdeal.Gen.frame m g

theorem frame_ref_ideal : Cert.quiescent_AdamReplRefIdeal := fun m g _ =>
  (θ_run Cert.AdamReplRefIdeal.defs _ _).mono (fun r h => ⟨fun c => (h c).2.2.2, sem_eq_zero_of_no_sems (by decide) r.2⟩)
    (Cert.AdamReplRefIdeal.Value.run (F := Ideal) m g)

theorem preserves : Cert.preserves_AdamRepl_AdamReplIdeal :=
  ⟨IdealRules.named_const.statement _ _ _ _ _ rfl, IdealRules.named_const.statement _ _ _ _ _ rfl⟩

theorem algebraic : Cert.algebraic_AdamReplIdeal_AdamReplRefIdeal := by
  intro m g m' g' _ agree
  refine ⟨_, _, _, Cert.AdamReplIdeal.Value.run (F := Ideal) m g, ?_⟩
  refine (θ_run Cert.AdamReplRefIdeal.defs _ _).mono (fun _ h c => ⟨(h c).1.trans ?_, (h c).2.1.trans ?_, (h c).2.2.1.trans ?_, (h c).2.2.2⟩)
    (Cert.AdamReplRefIdeal.Value.run (F := Ideal) m' g')
  · rw [(agree c).1, (agree c).2.1, (agree c).2.2.1, (agree c).2.2.2]
    exact Cert.Update.step_eq _ (IdealRules.named_const.ideal_named_scalar _ _ _ _ rfl) (IdealRules.named_const.ideal_named_scalar _ _ _ _ rfl) _ _ _ _
  · rw [(agree c).2.1, (agree c).2.2.1]; rfl
  · rw [(agree c).2.1, (agree c).2.2.2]; rfl

end Cert.Proof.AdamRepl

end
-- ==== Proof.Pack.lean ====
/-
# Packing

The parameters of few rows are laid one under another into one array, the update runs over that array, and its rows are
taken apart again. A row block of rows laid under one another is the block that was put there, so the update of one parameter
is read off without the others.
-/
module

public import proofs.«01_k».proof.Proof.Update
public import Idealize.ShloMosaic.Lib.Pipeline.Value

@[expose] public section

noncomputable section

namespace Cert.Pack

open Idealize.ShloMosaic

/-- The rows from `r` on, of arrays laid one under another, are the array put there: `pre` is what lies above it. -/
theorem rows_concatenate {α : Type} {R r n w : Nat} (xs : List ((s : Shape) × (s.Idx → α)))
    (h : Shape.Concatenates (xs.map (·.1)) ⟨2, ![R, w]⟩ 0) (k : Nat) (hk : k < xs.length)
    (x : (⟨2, ![n, w]⟩ : Shape).Idx → α) (hx : xs[k] = ⟨⟨2, ![n, w]⟩, x⟩)
    (hr : (((xs.take k).map (·.1)).map fun s => if h : s.rank = 2 then s.size ((0 : Fin 2).cast h.symm) else 0).sum = r)
    (hs : (⟨2, ![R, w]⟩ : Shape).Slices ![r, 0] ⟨2, ![n, w]⟩) :
    extractStridedSlice ⟨2, ![n, w]⟩ ![r, 0] (concatenate ⟨2, ![R, w]⟩ 0 xs h) hs = x := by
  funext i
  refine concatenate_apply_piece (t := ⟨2, ![R, w]⟩) 0 xs h _ k hk _ x hx rfl r hr i ?_ ?_
  · intro b hb
    have : b = (1 : Fin 2) := by
      match b, hb with
      | ⟨0, _⟩, hb => exact absurd rfl hb
      | ⟨1, _⟩, _ => rfl
    subst this
    exact (Nat.zero_add _).symm
  · rfl

/-! ## The update with the kernel's two constants, at every index -/

section Update

variable {s t : Shape}

def firsts (g m : FVec Ideal s .f32) : FVec Ideal s .f32 := fun i =>
  FloatOps.addf (FloatOps.mulf (Scalar.ofBits .f32 0x3F666666#32) (m i)) (FloatOps.mulf (Scalar.ofBits .f32 0x3DCCCCCD#32) (g i))

def seconds (g v : FVec Ideal s .f32) : FVec Ideal s .f32 := fun i =>
  FloatOps.addf (FloatOps.mulf (Scalar.ofBits .f32 0x3F7FBE77#32) (v i))
    (FloatOps.mulf (Scalar.ofBits .f32 0x3A83126F#32) (FloatOps.mulf (g i) (g i)))

def steps (c1 c2 : Ideal .f32) (w g m v : FVec Ideal s .f32) : FVec Ideal s .f32 := fun i =>
  FloatOps.mulf (Scalar.ofBits .f32 0xBA83126F#32) (FloatOps.addf
    (FloatOps.divf (FloatOps.mulf (firsts g m i) c1) (FloatOps.addf (FloatOps.sqrt (FloatOps.mulf (seconds g v i) c2))
      (Scalar.ofBits .f32 0x322BCC77#32)))
    (FloatOps.mulf (Scalar.ofBits .f32 0x3C23D70A#32) (w i)))

/-! Each acts index by index, so it may be applied before or after rows are taken or an array is recast. -/

theorem rows_firsts (off : Fin s.rank → Nat) (g m : FVec Ideal s .f32) (h : s.Slices off t) :
    extractStridedSlice t off (firsts g m) h = firsts (extractStridedSlice t off g h) (extractStridedSlice t off m h) := rfl

theorem rows_seconds (off : Fin s.rank → Nat) (g v : FVec Ideal s .f32) (h : s.Slices off t) :
    extractStridedSlice t off (seconds g v) h = seconds (extractStridedSlice t off g h) (extractStridedSlice t off v h) := rfl

theorem rows_steps (off : Fin s.rank → Nat) (c1 c2 : Ideal .f32) (w g m v : FVec Ideal s .f32) (h : s.Slices off t) :
    extractStridedSlice t off (steps c1 c2 w g m v) h = steps c1 c2 (extractStridedSlice t off w h)
      (extractStridedSlice t off g h) (extractStridedSlice t off m h) (extractStridedSlice t off v h) := rfl

theorem cast_firsts (g m : FVec Ideal s .f32) (h : s.ShapeCasts t) :
    shapeCast t (firsts g m) h = firsts (shapeCast t g h) (shapeCast t m h) := rfl

theorem cast_seconds (g v : FVec Ideal s .f32) (h : s.ShapeCasts t) :
    shapeCast t (seconds g v) h = seconds (shapeCast t g h) (shapeCast t v h) := rfl

theorem cast_steps (c1 c2 : Ideal .f32) (w g m v : FVec Ideal s .f32) (h : s.ShapeCasts t) :
    shapeCast t (steps c1 c2 w g m v) h = steps c1 c2 (shapeCast t w h) (shapeCast t g h) (shapeCast t m h) (shapeCast t v h) := rfl

/-! And it is the reference's update (`Cert.Update.step_eq`). -/

variable (b : (⟨0, ![]⟩ : Shape).BroadcastsInDim t (![] : Fin 0 → Fin t.rank))

theorem moment1_eq (g m : FVec Ideal t .f32) : Cert.Update.moment1 b g m = firsts g m := rfl

theorem moment2_eq (g v : FVec Ideal t .f32) : Cert.Update.moment2 b g v = seconds g v := rfl

open Cert.Update in
theorem step_eq {c1 c2 : Ideal .f32} (h1 : c1 = ((8388608 / 5463681 : ℝ) : EReal)) (h2 : c2 = ((268435456 / 2672307 : ℝ) : EReal))
    (w g m v : FVec Ideal t .f32) :
    mulf (word b 0xBA83126F#32) (addf (Host.divf (Host.divf (moment1 b g m) (word b 0x3F26BD02#32))
        (addf (Host.sqrt (Host.divf (moment2 b g v) (word b 0x3C231ACC#32))) (word b 0x322BCC77#32)))
      (mulf (word b 0x3C23D70A#32) w)) = steps c1 c2 w g m v :=
  Cert.Update.step_eq b h1 h2 w g m v

end Update

end Cert.Pack

end
-- ==== Proof.PackSmall.lean ====
/-
# The update of the seven small sharded parameters

Their arrays are recast to rows of 256 and laid one under another with five rows of zeros below; the kernel updates the 544
rows at once, in one block; and each result is its rows taken back and recast. What is used of rows and recasts is in
Proof/Pack.lean; here are this program's arrays.
-/
module

public import proofs.«01_k».proof.Defs
public import proofs.«01_k».proof.Proof.Gen.PackSmall.Frame
public import proofs.«01_k».proof.Proof.Gen.PackSmallIdeal.Frame
public import proofs.«01_k».proof.Proof.Gen.PackSmallRefIdeal.Run
public import proofs.«01_k».proof.Proof.Pack
public import Idealize.ShloMosaic.Lib.Quiescent

@[expose] public section

noncomputable section

namespace Cert.Proof.PackSmall

open Cert.PackSmallIdeal Cert.PackSmallIdeal.Gen Idealize.ShloMosaic Idealize.ShloMosaic.TcCoe Idealize.SL.Sem
open Cert.Pack

variable (m : (ℓ : Loc nD τ sig) → Buf (Elt Ideal) ℓ) (c : Dev nD)

abbrev c1 : Ideal .f32 := Named.named κ "c1" 0x3FC48605#32
abbrev c2 : Ideal .f32 := Named.named κ "c2" 0x42C8E6D3#32

/-! ## The update of the packed arrays -/

theorem origin : (![0, 0] : Fin 2 → Nat) = fun _ => 0 := funext fun a => by fin_cases a <;> rfl

/-- What the body leaves in its three blocks, of whole blocks: -/
theorem delta_body (w g m v : Vec Ideal S544x256 .f32) : out0_4 w g m v = steps c1 c2 w g m v := by
  unfold out0_4
  rw [View.canon_unit_zero origin]
  simp only [View.ld_unit_zero (S := S544x256) origin]
  unfold k0_pay4 k0_pay2 k0_pay3 k0_pay1
  simp only [shapeCast_self]
  rfl

theorem first_body (w g m v : Vec Ideal S544x256 .f32) : out0_5 w g m v = firsts g m := by
  unfold out0_5
  rw [View.canon_unit_zero origin]
  simp only [View.ld_unit_zero (S := S544x256) origin]
  unfold k0_pay2 k0_pay1
  simp only [shapeCast_self]
  rfl

theorem second_body (w g m v : Vec Ideal S544x256 .f32) : out0_6 w g m v = seconds g v := by
  unfold out0_6
  rw [View.canon_unit_zero origin]
  simp only [View.ld_unit_zero (S := S544x256) origin]
  unfold k0_pay3 k0_pay1
  simp only [shapeCast_self]
  rfl

/-- The grid has one point, -/
theorem one (t t' : Fin cfg0.N) : t = t' := by
  revert t t'
  exact (by decide +kernel : ∀ t t' : Fin grid0.N, t = t')

abbrev t0 : Fin cfg0.N := ⟨0, by decide +kernel⟩

/-- and every window's block there is its whole array. -/
theorem whole : (∀ i, ((cfg0.win 0).blk t0).view.emb i = i)
    ∧ (∀ i, ((cfg0.win 1).blk t0).view.emb i = i)
    ∧ (∀ i, ((cfg0.win 2).blk t0).view.emb i = i)
    ∧ (∀ i, ((cfg0.win 3).blk t0).view.emb i = i)
    ∧ (∀ i, ((cfg0.win 4).blk t0).view.emb i = i)
    ∧ (∀ i, ((cfg0.win 5).blk t0).view.emb i = i)
    ∧ (∀ i, ((cfg0.win 6).blk t0).view.emb i = i) := by
  and_intros <;> (intro i; funext a; apply Fin.ext; match a with
    | ⟨0, _⟩ => exact (Nat.zero_add _).trans (Nat.one_mul _)
    | ⟨1, _⟩ => exact (Nat.zero_add _).trans (Nat.one_mul _))

set_option maxHeartbeats 1600000 in
/-- The four blocks read are the four packed arrays. -/
theorem blocks : iblk m c 0 t0 = V m c main_v8 ∧ iblk m c 1 t0 = V m c main_v17 ∧ iblk m c 2 t0 = V m c main_v26
    ∧ iblk m c 3 t0 = V m c main_v35 :=
  ⟨funext fun i => congrArg (V m c main_v8) (whole.1 i), funext fun i => congrArg (V m c main_v17) (whole.2.1 i),
    funext fun i => congrArg (V m c main_v26) (whole.2.2.1 i), funext fun i => congrArg (V m c main_v35) (whole.2.2.2.1 i)⟩

/-- So the three results are what the body leaves of the four packed arrays. -/
theorem deltas : (dats m 0 c).arrAt 4 cfg0.N
    = steps c1 c2 (V m c main_v8) (V m c main_v17) (V m c main_v26) (V m c main_v35) := by
  have e : (dats m 0 c).flushed 4 t0 = steps c1 c2 (V m c main_v8) (V m c main_v17) (V m c main_v26) (V m c main_v35) := by
    show (cfg0.win 4).cut (grid0.coords t0) ((dats m 0 c).after 4 t0) = _
    rw [after0_4, delta_body, (blocks m c).1, (blocks m c).2.1, (blocks m c).2.2.1, (blocks m c).2.2.2]
    rfl
  funext i
  rw [← e, ← (dats m 0 c).read_blk_arrAt_eq_flushed 4 (fun t t' _ _ hne => absurd (one t t') hne) cfg0.N t0 t0.isLt (flush0_4 t0)]
  exact (congrArg ((dats m 0 c).arrAt 4 cfg0.N) (whole.2.2.2.2.1 i)).symm

theorem firsts_at : (dats m 0 c).arrAt 5 cfg0.N = firsts (V m c main_v17) (V m c main_v26) := by
  have e : (dats m 0 c).flushed 5 t0 = firsts (V m c main_v17) (V m c main_v26) := by
    show (cfg0.win 5).cut (grid0.coords t0) ((dats m 0 c).after 5 t0) = _
    rw [after0_5, first_body, (blocks m c).2.1, (blocks m c).2.2.1]
    rfl
  funext i
  rw [← e, ← (dats m 0 c).read_blk_arrAt_eq_flushed 5 (fun t t' _ _ hne => absurd (one t t') hne) cfg0.N t0 t0.isLt (flush0_5 t0)]
  exact (congrArg ((dats m 0 c).arrAt 5 cfg0.N) (whole.2.2.2.2.2.1 i)).symm

theorem seconds_at : (dats m 0 c).arrAt 6 cfg0.N = seconds (V m c main_v17) (V m c main_v35) := by
  have e : (dats m 0 c).flushed 6 t0 = seconds (V m c main_v17) (V m c main_v35) := by
    show (cfg0.win 6).cut (grid0.coords t0) ((dats m 0 c).after 6 t0) = _
    rw [after0_6, second_body, (blocks m c).2.1, (blocks m c).2.2.2]
    rfl
  funext i
  rw [← e, ← (dats m 0 c).read_blk_arrAt_eq_flushed 6 (fun t t' _ _ hne => absurd (one t t') hne) cfg0.N t0 t0.isLt (flush0_6 t0)]
  exact (congrArg ((dats m 0 c).arrAt 6 cfg0.N) (whole.2.2.2.2.2.2 i)).symm

/-- The lines after the kernel take each result from the rows of the update `d` or of a moment, `f` or `s`. -/
theorem tail (W : Valuation τ sig (Elt Ideal)) (d f s : S544x256.Idx → Ideal .f32) (hd : W (Proc.devRef .tc main_v36_0) = d)
    (hf : W (Proc.devRef .tc main_v36_1) = f) (hs : W (Proc.devRef .tc main_v36_2) = s) :
    StableHlo.after hostOps1 W (Proc.devRef .tc main_v38) = shapeCast S1x3x256 (extractStridedSlice S3x256 ![0, 0] d slices_S544x256_S3x256_0_0) shapeCasts_S3x256_S1x3x256
    ∧ StableHlo.after hostOps1 W (Proc.devRef .tc main_v40) = shapeCast S1x4x256 (extractStridedSlice S4x256 ![3, 0] d slices_S544x256_S4x256_3_0) shapeCasts_S4x256_S1x4x256
    ∧ StableHlo.after hostOps1 W (Proc.devRef .tc main_v42) = shapeCast S1x4x64x256 (extractStridedSlice S256x256 ![7, 0] d slices_S544x256_S256x256_7_0) shapeCasts_S256x256_S1x4x64x256
    ∧ StableHlo.after hostOps1 W (Proc.devRef .tc main_v44) = shapeCast S1x4x64 (extractStridedSlice S1x256 ![263, 0] d slices_S544x256_S1x256_263_0) shapeCasts_S1x256_S1x4x64
    ∧ StableHlo.after hostOps1 W (Proc.devRef .tc main_v46) = shapeCast S1x4x64x256 (extractStridedSlice S256x256 ![264, 0] d slices_S544x256_S256x256_264_0) shapeCasts_S256x256_S1x4x64x256
    ∧ StableHlo.after hostOps1 W (Proc.devRef .tc main_v48) = shapeCast S1x4x64 (extractStridedSlice S1x256 ![520, 0] d slices_S544x256_S1x256_520_0) shapeCasts_S1x256_S1x4x64
    ∧ StableHlo.after hostOps1 W (Proc.devRef .tc main_v50) = shapeCast S1x3x1536 (extractStridedSlice S18x256 ![521, 0] d slices_S544x256_S18x256_521_0) shapeCasts_S18x256_S1x3x1536
    ∧ StableHlo.after hostOps1 W (Proc.devRef .tc main_v52) = shapeCast S1x3x256 (extractStridedSlice S3x256 ![0, 0] f slices_S544x256_S3x256_0_0) shapeCasts_S3x256_S1x3x256
    ∧ StableHlo.after hostOps1 W (Proc.devRef .tc main_v54) = shapeCast S1x4x256 (extractStridedSlice S4x256 ![3, 0] f slices_S544x256_S4x256_3_0) shapeCasts_S4x256_S1x4x256
    ∧ StableHlo.after hostOps1 W (Proc.devRef .tc main_v56) = shapeCast S1x4x64x256 (extractStridedSlice S256x256 ![7, 0] f slices_S544x256_S256x256_7_0) shapeCasts_S256x256_S1x4x64x256
    ∧ StableHlo.after hostOps1 W (Proc.devRef .tc main_v58) = shapeCast S1x4x64 (extractStridedSlice S1x256 ![263, 0] f slices_S544x256_S1x256_263_0) shapeCasts_S1x256_S1x4x64
    ∧ StableHlo.after hostOps1 W (Proc.devRef .tc main_v60) = shapeCast S1x4x64x256 (extractStridedSlice S256x256 ![264, 0] f slices_S544x256_S256x256_264_0) shapeCasts_S256x256_S1x4x64x256
    ∧ StableHlo.after hostOps1 W (Proc.devRef .tc main_v62) = shapeCast S1x4x64 (extractStridedSlice S1x256 ![520, 0] f slices_S544x256_S1x256_520_0) shapeCasts_S1x256_S1x4x64
    ∧ StableHlo.after hostOps1 W (Proc.devRef .tc main_v64) = shapeCast S1x3x1536 (extractStridedSlice S18x256 ![521, 0] f slices_S544x256_S18x256_521_0) shapeCasts_S18x256_S1x3x1536
    ∧ StableHlo.after hostOps1 W (Proc.devRef .tc main_v66) = shapeCast S1x3x256 (extractStridedSlice S3x256 ![0, 0] s slices_S544x256_S3x256_0_0) shapeCasts_S3x256_S1x3x256
    ∧ StableHlo.after hostOps1 W (Proc.devRef .tc main_v68) = shapeCast S1x4x256 (extractStridedSlice S4x256 ![3, 0] s slices_S544x256_S4x256_3_0) shapeCasts_S4x256_S1x4x256
    ∧ StableHlo.after hostOps1 W (Proc.devRef .tc main_v70) = shapeCast S1x4x64x256 (extractStridedSlice S256x256 ![7, 0] s slices_S544x256_S256x256_7_0) shapeCasts_S256x256_S1x4x64x256
    ∧ StableHlo.after hostOps1 W (Proc.devRef .tc main_v72) = shapeCast S1x4x64 (extractStridedSlice S1x256 ![263, 0] s slices_S544x256_S1x256_263_0) shapeCasts_S1x256_S1x4x64
    ∧ StableHlo.after hostOps1 W (Proc.devRef .tc main_v74) = shapeCast S1x4x64x256 (extractStridedSlice S256x256 ![264, 0] s slices_S544x256_S256x256_264_0) shapeCasts_S256x256_S1x4x64x256
    ∧ StableHlo.after hostOps1 W (Proc.devRef .tc main_v76) = shapeCast S1x4x64 (extractStridedSlice S1x256 ![520, 0] s slices_S544x256_S1x256_520_0) shapeCasts_S1x256_S1x4x64
    ∧ StableHlo.after hostOps1 W (Proc.devRef .tc main_v78) = shapeCast S1x3x1536 (extractStridedSlice S18x256 ![521, 0] s slices_S544x256_S18x256_521_0) shapeCasts_S18x256_S1x3x1536 := by
  subst hd hf hs
  and_intros <;> (after_results; try rfl)

/-- Seven arrays, their rows of 256, and five rows of zeros, one under another. -/
def packed (a0 : S1x3x256.Idx → Ideal .f32) (a1 : S1x4x256.Idx → Ideal .f32) (a2 : S1x4x64x256.Idx → Ideal .f32) (a3 : S1x4x64.Idx → Ideal .f32) (a4 : S1x4x64x256.Idx → Ideal .f32) (a5 : S1x4x64.Idx → Ideal .f32) (a6 : S1x3x1536.Idx → Ideal .f32) :
    S544x256.Idx → Ideal .f32 :=
  concatenate S544x256 0 [⟨S3x256, shapeCast S3x256 a0 shapeCasts_S1x3x256_S3x256⟩,
      ⟨S4x256, shapeCast S4x256 a1 shapeCasts_S1x4x256_S4x256⟩,
      ⟨S256x256, shapeCast S256x256 a2 shapeCasts_S1x4x64x256_S256x256⟩,
      ⟨S1x256, shapeCast S1x256 a3 shapeCasts_S1x4x64_S1x256⟩,
      ⟨S256x256, shapeCast S256x256 a4 shapeCasts_S1x4x64x256_S256x256⟩,
      ⟨S1x256, shapeCast S1x256 a5 shapeCasts_S1x4x64_S1x256⟩,
      ⟨S18x256, shapeCast S18x256 a6 shapeCasts_S1x3x1536_S18x256⟩,
      ⟨S5x256, broadcastInDim S5x256 ![] bcast_S_S5x256 (constant S_ .f32 0x00000000#32)⟩]
    concatenates_S3x256_S4x256_S256x256_S1x256_S256x256_S1x256_S18x256_S5x256_S544x256_d0

/-- An argument of device `c`. -/
abbrev A (b : Ref sig .tc) : Buf (Elt Ideal) ((c : Thread nD τ).loc b) := m ((c : Thread nD τ).loc b)

/-- The lines before the kernel pack the weights, the gradients and the two moments, -/
theorem packed_args :
    V m c main_v8 = packed (A m c main_arg0) (A m c main_arg1) (A m c main_arg2) (A m c main_arg3) (A m c main_arg4) (A m c main_arg5) (A m c main_arg6)
    ∧ V m c main_v17 = packed (A m c main_arg7) (A m c main_arg8) (A m c main_arg9) (A m c main_arg10) (A m c main_arg11) (A m c main_arg12) (A m c main_arg13)
    ∧ V m c main_v26 = packed (A m c main_arg14) (A m c main_arg15) (A m c main_arg16) (A m c main_arg17) (A m c main_arg18) (A m c main_arg19) (A m c main_arg20)
    ∧ V m c main_v35 = packed (A m c main_arg21) (A m c main_arg22) (A m c main_arg23) (A m c main_arg24) (A m c main_arg25) (A m c main_arg26) (A m c main_arg27) := by
  unfold V V0
  simp only [List.flatten_cons, List.flatten_nil, List.append_nil]
  and_intros <;> (after_results_simp; rfl)

/-- and each of the seven is found again in its rows. -/
theorem packed_rows (a0 : S1x3x256.Idx → Ideal .f32) (a1 : S1x4x256.Idx → Ideal .f32) (a2 : S1x4x64x256.Idx → Ideal .f32) (a3 : S1x4x64.Idx → Ideal .f32) (a4 : S1x4x64x256.Idx → Ideal .f32) (a5 : S1x4x64.Idx → Ideal .f32) (a6 : S1x3x1536.Idx → Ideal .f32) :
    extractStridedSlice S3x256 ![0, 0] (packed a0 a1 a2 a3 a4 a5 a6) slices_S544x256_S3x256_0_0 = shapeCast S3x256 a0 shapeCasts_S1x3x256_S3x256
    ∧ extractStridedSlice S4x256 ![3, 0] (packed a0 a1 a2 a3 a4 a5 a6) slices_S544x256_S4x256_3_0 = shapeCast S4x256 a1 shapeCasts_S1x4x256_S4x256
    ∧ extractStridedSlice S256x256 ![7, 0] (packed a0 a1 a2 a3 a4 a5 a6) slices_S544x256_S256x256_7_0 = shapeCast S256x256 a2 shapeCasts_S1x4x64x256_S256x256
    ∧ extractStridedSlice S1x256 ![263, 0] (packed a0 a1 a2 a3 a4 a5 a6) slices_S544x256_S1x256_263_0 = shapeCast S1x256 a3 shapeCasts_S1x4x64_S1x256
    ∧ extractStridedSlice S256x256 ![264, 0] (packed a0 a1 a2 a3 a4 a5 a6) slices_S544x256_S256x256_264_0 = shapeCast S256x256 a4 shapeCasts_S1x4x64x256_S256x256
    ∧ extractStridedSlice S1x256 ![520, 0] (packed a0 a1 a2 a3 a4 a5 a6) slices_S544x256_S1x256_520_0 = shapeCast S1x256 a5 shapeCasts_S1x4x64_S1x256
    ∧ extractStridedSlice S18x256 ![521, 0] (packed a0 a1 a2 a3 a4 a5 a6) slices_S544x256_S18x256_521_0 = shapeCast S18x256 a6 shapeCasts_S1x3x1536_S18x256 :=
  ⟨rows_concatenate _ _ 0 (by simp) _ rfl rfl _, rows_concatenate _ _ 1 (by simp) _ rfl rfl _, rows_concatenate _ _ 2 (by simp) _ rfl rfl _,
    rows_concatenate _ _ 3 (by simp) _ rfl rfl _, rows_concatenate _ _ 4 (by simp) _ rfl rfl _, rows_concatenate _ _ 5 (by simp) _ rfl rfl _,
    rows_concatenate _ _ 6 (by simp) _ rfl rfl _⟩

set_option maxHeartbeats 1600000 in
/-- What the program leaves in its results. -/
theorem values :
    Pipeline.afterTail₀ cfgs (dats m) 0 (V0 m) [hostOps1] c main_v38 = steps c1 c2 (A m c main_arg0) (A m c main_arg7) (A m c main_arg14) (A m c main_arg21)
    ∧ Pipeline.afterTail₀ cfgs (dats m) 0 (V0 m) [hostOps1] c main_v40 = steps c1 c2 (A m c main_arg1) (A m c main_arg8) (A m c main_arg15) (A m c main_arg22)
    ∧ Pipeline.afterTail₀ cfgs (dats m) 0 (V0 m) [hostOps1] c main_v42 = steps c1 c2 (A m c main_arg2) (A m c main_arg9) (A m c main_arg16) (A m c main_arg23)
    ∧ Pipeline.afterTail₀ cfgs (dats m) 0 (V0 m) [hostOps1] c main_v44 = steps c1 c2 (A m c main_arg3) (A m c main_arg10) (A m c main_arg17) (A m c main_arg24)
    ∧ Pipeline.afterTail₀ cfgs (dats m) 0 (V0 m) [hostOps1] c main_v46 = steps c1 c2 (A m c main_arg4) (A m c main_arg11) (A m c main_arg18) (A m c main_arg25)
    ∧ Pipeline.afterTail₀ cfgs (dats m) 0 (V0 m) [hostOps1] c main_v48 = steps c1 c2 (A m c main_arg5) (A m c main_arg12) (A m c main_arg19) (A m c main_arg26)
    ∧ Pipeline.afterTail₀ cfgs (dats m) 0 (V0 m) [hostOps1] c main_v50 = steps c1 c2 (A m c main_arg6) (A m c main_arg13) (A m c main_arg20) (A m c main_arg27)
    ∧ Pipeline.afterTail₀ cfgs (dats m) 0 (V0 m) [hostOps1] c main_v52 = firsts (A m c main_arg7) (A m c main_arg14)
    ∧ Pipeline.afterTail₀ cfgs (dats m) 0 (V0 m) [hostOps1] c main_v54 = firsts (A m c main_arg8) (A m c main_arg15)
    ∧ Pipeline.afterTail₀ cfgs (dats m) 0 (V0 m) [hostOps1] c main_v56 = firsts (A m c main_arg9) (A m c main_arg16)
    ∧ Pipeline.afterTail₀ cfgs (dats m) 0 (V0 m) [hostOps1] c main_v58 = firsts (A m c main_arg10) (A m c main_arg17)
    ∧ Pipeline.afterTail₀ cfgs (dats m) 0 (V0 m) [hostOps1] c main_v60 = firsts (A m c main_arg11) (A m c main_arg18)
    ∧ Pipeline.afterTail₀ cfgs (dats m) 0 (V0 m) [hostOps1] c main_v62 = firsts (A m c main_arg12) (A m c main_arg19)
    ∧ Pipeline.afterTail₀ cfgs (dats m) 0 (V0 m) [hostOps1] c main_v64 = firsts (A m c main_arg13) (A m c main_arg20)
    ∧ Pipeline.afterTail₀ cfgs (dats m) 0 (V0 m) [hostOps1] c main_v66 = seconds (A m c main_arg7) (A m c main_arg21)
    ∧ Pipeline.afterTail₀ cfgs (dats m) 0 (V0 m) [hostOps1] c main_v68 = seconds (A m c main_arg8) (A m c main_arg22)
    ∧ Pipeline.afterTail₀ cfgs (dats m) 0 (V0 m) [hostOps1] c main_v70 = seconds (A m c main_arg9) (A m c main_arg23)
    ∧ Pipeline.afterTail₀ cfgs (dats m) 0 (V0 m) [hostOps1] c main_v72 = seconds (A m c main_arg10) (A m c main_arg24)
    ∧ Pipeline.afterTail₀ cfgs (dats m) 0 (V0 m) [hostOps1] c main_v74 = seconds (A m c main_arg11) (A m c main_arg25)
    ∧ Pipeline.afterTail₀ cfgs (dats m) 0 (V0 m) [hostOps1] c main_v76 = seconds (A m c main_arg12) (A m c main_arg26)
    ∧ Pipeline.afterTail₀ cfgs (dats m) 0 (V0 m) [hostOps1] c main_v78 = seconds (A m c main_arg13) (A m c main_arg27) := by
  let W : Valuation τ sig (Elt Ideal) := Pipeline.withArrays spec0 c (V0 m c) fun w => (dats m 0 c).arrAt w cfg0.N
  have arr (w : Fin 7) : W (Proc.devRef .tc (Pipeline.arrRef spec0 w)) = (dats m 0 c).arrAt w cfg0.N :=
    Pipeline.withArrays_arr spec0 (by decide) c (V0 m c) (fun w => (dats m 0 c).arrAt w cfg0.N) w
  obtain ⟨p0, p1, p2, p3⟩ := packed_args m c
  have o4 : W (Proc.devRef .tc main_v36_0) = _ := (arr 4).trans (deltas m c)
  have o5 : W (Proc.devRef .tc main_v36_1) = _ := (arr 5).trans (firsts_at m c)
  have o6 : W (Proc.devRef .tc main_v36_2) = _ := (arr 6).trans (seconds_at m c)
  rw [p0, p1, p2, p3] at o4
  rw [p1, p2] at o5
  rw [p1, p3] at o6
  have h := tail W _ _ _ o4 o5 o6
  simp only [rows_steps, rows_firsts, rows_seconds, cast_steps, cast_firsts, cast_seconds, packed_rows, shapeCast_shapeCast] at h
  exact h

/-! ## The claims -/

theorem frame : Cert.quiescent_PackSmall := fun m g _ => Cert.PackSmall.Gen.frame m g

theorem frame_ideal : Cert.quiescent_PackSmallIdeal := fun m g _ => Cert.PackSmallIdeal.Gen.frame m g

theorem frame_ref_ideal : Cert.quiescent_PackSmallRefIdeal := fun m g _ =>
  (θ_run Cert.PackSmallRefIdeal.defs _ _).mono (fun r h => ⟨fun c => (h c).2.2.2.2.2.2.2.2.2.2.2.2.2.2.2.2.2.2.2.2.2, sem_eq_zero_of_no_sems (by decide) r.2⟩)
    (Cert.PackSmallRefIdeal.Value.run (F := Ideal) m g)

theorem preserves : Cert.preserves_PackSmall_PackSmallIdeal :=
  ⟨IdealRules.named_const.statement _ _ _ _ _ rfl, IdealRules.named_const.statement _ _ _ _ _ rfl⟩

set_option maxHeartbeats 3200000 in
theorem algebraic : Cert.algebraic_PackSmallIdeal_PackSmallRefIdeal := by
  intro m g m' g' _ agree
  refine ⟨fun c => steps c1 c2 (A m c main_arg0) (A m c main_arg7) (A m c main_arg14) (A m c main_arg21),
    fun c => steps c1 c2 (A m c main_arg1) (A m c main_arg8) (A m c main_arg15) (A m c main_arg22),
    fun c => steps c1 c2 (A m c main_arg2) (A m c main_arg9) (A m c main_arg16) (A m c main_arg23),
    fun c => steps c1 c2 (A m c main_arg3) (A m c main_arg10) (A m c main_arg17) (A m c main_arg24),
    fun c => steps c1 c2 (A m c main_arg4) (A m c main_arg11) (A m c main_arg18) (A m c main_arg25),
    fun c => steps c1 c2 (A m c main_arg5) (A m c main_arg12) (A m c main_arg19) (A m c main_arg26),
    fun c => steps c1 c2 (A m c main_arg6) (A m c main_arg13) (A m c main_arg20) (A m c main_arg27),
    fun c => firsts (A m c main_arg7) (A m c main_arg14),
    fun c => firsts (A m c main_arg8) (A m c main_arg15),
    fun c => firsts (A m c main_arg9) (A m c main_arg16),
    fun c => firsts (A m c main_arg10) (A m c main_arg17),
    fun c => firsts (A m c main_arg11) (A m c main_arg18),
    fun c => firsts (A m c main_arg12) (A m c main_arg19),
    fun c => firsts (A m c main_arg13) (A m c main_arg20),
    fun c => seconds (A m c main_arg7) (A m c main_arg21),
    fun c => seconds (A m c main_arg8) (A m c main_arg22),
    fun c => seconds (A m c main_arg9) (A m c main_arg23),
    fun c => seconds (A m c main_arg10) (A m c main_arg24),
    fun c => seconds (A m c main_arg11) (A m c main_arg25),
    fun c => seconds (A m c main_arg12) (A m c main_arg26),
    fun c => seconds (A m c main_arg13) (A m c main_arg27),
    (θ_run Cert.PackSmallIdeal.defs _ _).mono (fun r h c => ?_) (θ_run_and (run_main m g) (unchanged m g)), ?_⟩
  rotate_left
  · refine (θ_run Cert.PackSmallRefIdeal.defs _ _).mono (fun r h c => ?_) (Cert.PackSmallRefIdeal.Value.run (F := Ideal) m' g')
    obtain ⟨a0, a1, a2, a3, a4, a5, a6, a7, a8, a9, a10, a11, a12, a13, a14, a15, a16, a17, a18, a19, a20, a21, a22, a23, a24, a25, a26, a27⟩ := agree c
    obtain ⟨h0, h1, h2, h3, h4, h5, h6, h7, h8, h9, h10, h11, h12, h13, h14, h15, h16, h17, h18, h19, h20, hk⟩ := h c
    refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, hk⟩
    all_goals simp only [A, a0, a1, a2, a3, a4, a5, a6, a7, a8, a9, a10, a11, a12, a13, a14, a15, a16, a17, a18, a19, a20, a21, a22, a23, a24, a25, a26, a27]
    all_goals first
      | exact step_eq _ (IdealRules.named_const.ideal_named_scalar _ _ _ _ rfl) (IdealRules.named_const.ideal_named_scalar _ _ _ _ rfl) _ _ _ _
      | exact moment1_eq _ _ _
      | exact moment2_eq _ _ _
  · obtain ⟨v0, v1, v2, v3, v4, v5, v6, v7, v8, v9, v10, v11, v12, v13, v14, v15, v16, v17, v18, v19, v20⟩ := values m c
    exact ⟨((h.1 c).2 main_v38 (Pipeline.mem_restRefs_of main_v38 (by decide) (by decide))).trans v0,
      ((h.1 c).2 main_v40 (Pipeline.mem_restRefs_of main_v40 (by decide) (by decide))).trans v1,
      ((h.1 c).2 main_v42 (Pipeline.mem_restRefs_of main_v42 (by decide) (by decide))).trans v2,
      ((h.1 c).2 main_v44 (Pipeline.mem_restRefs_of main_v44 (by decide) (by decide))).trans v3,
      ((h.1 c).2 main_v46 (Pipeline.mem_restRefs_of main_v46 (by decide) (by decide))).trans v4,
      ((h.1 c).2 main_v48 (Pipeline.mem_restRefs_of main_v48 (by decide) (by decide))).trans v5,
      ((h.1 c).2 main_v50 (Pipeline.mem_restRefs_of main_v50 (by decide) (by decide))).trans v6,
      ((h.1 c).2 main_v52 (Pipeline.mem_restRefs_of main_v52 (by decide) (by decide))).trans v7,
      ((h.1 c).2 main_v54 (Pipeline.mem_restRefs_of main_v54 (by decide) (by decide))).trans v8,
      ((h.1 c).2 main_v56 (Pipeline.mem_restRefs_of main_v56 (by decide) (by decide))).trans v9,
      ((h.1 c).2 main_v58 (Pipeline.mem_restRefs_of main_v58 (by decide) (by decide))).trans v10,
      ((h.1 c).2 main_v60 (Pipeline.mem_restRefs_of main_v60 (by decide) (by decide))).trans v11,
      ((h.1 c).2 main_v62 (Pipeline.mem_restRefs_of main_v62 (by decide) (by decide))).trans v12,
      ((h.1 c).2 main_v64 (Pipeline.mem_restRefs_of main_v64 (by decide) (by decide))).trans v13,
      ((h.1 c).2 main_v66 (Pipeline.mem_restRefs_of main_v66 (by decide) (by decide))).trans v14,
      ((h.1 c).2 main_v68 (Pipeline.mem_restRefs_of main_v68 (by decide) (by decide))).trans v15,
      ((h.1 c).2 main_v70 (Pipeline.mem_restRefs_of main_v70 (by decide) (by decide))).trans v16,
      ((h.1 c).2 main_v72 (Pipeline.mem_restRefs_of main_v72 (by decide) (by decide))).trans v17,
      ((h.1 c).2 main_v74 (Pipeline.mem_restRefs_of main_v74 (by decide) (by decide))).trans v18,
      ((h.1 c).2 main_v76 (Pipeline.mem_restRefs_of main_v76 (by decide) (by decide))).trans v19,
      ((h.1 c).2 main_v78 (Pipeline.mem_restRefs_of main_v78 (by decide) (by decide))).trans v20,
      h.2 c⟩

end Cert.Proof.PackSmall

end
-- ==== Proof.PackRepl.lean ====
/-
# The update of the seven parameters that every device holds

Their arrays, of rows of 1024, are laid one under another with four rows of zeros below; the kernel updates the sixteen rows
at once, in one block; and the results are the rows taken back. The rows of the update are the update of the rows
(Proof/Pack.lean), so each result is the update of its own parameter.
-/
module

public import proofs.«01_k».proof.Defs
public import proofs.«01_k».proof.Proof.Gen.PackRepl.Frame
public import proofs.«01_k».proof.Proof.Gen.PackReplIdeal.Frame
public import proofs.«01_k».proof.Proof.Gen.PackReplRefIdeal.Run
public import proofs.«01_k».proof.Proof.Pack
public import Idealize.ShloMosaic.Lib.Quiescent

@[expose] public section

noncomputable section

namespace Cert.Proof.PackRepl

open Cert.PackReplIdeal Cert.PackReplIdeal.Gen Idealize.ShloMosaic Idealize.ShloMosaic.TcCoe Idealize.SL.Sem
open Cert.Pack

variable (m : (ℓ : Loc nD τ sig) → Buf (Elt Ideal) ℓ) (c : Dev nD)

abbrev c1 : Ideal .f32 := Named.named κ "c1" 0x3FC48605#32
abbrev c2 : Ideal .f32 := Named.named κ "c2" 0x42C8E6D3#32

/-! ## The update of the packed arrays -/

theorem origin : (![0, 0] : Fin 2 → Nat) = fun _ => 0 := funext fun a => by fin_cases a <;> rfl

/-- What the body leaves in its three blocks, of whole blocks: -/
theorem delta_body (w g m v : Vec Ideal S16x1024 .f32) : out0_4 w g m v = steps c1 c2 w g m v := by
  unfold out0_4
  rw [View.canon_unit_zero origin]
  simp only [View.ld_unit_zero (S := S16x1024) origin]
  unfold k0_pay4 k0_pay2 k0_pay3 k0_pay1
  simp only [shapeCast_self]
  rfl

theorem first_body (w g m v : Vec Ideal S16x1024 .f32) : out0_5 w g m v = firsts g m := by
  unfold out0_5
  rw [View.canon_unit_zero origin]
  simp only [View.ld_unit_zero (S := S16x1024) origin]
  unfold k0_pay2 k0_pay1
  simp only [shapeCast_self]
  rfl

theorem second_body (w g m v : Vec Ideal S16x1024 .f32) : out0_6 w g m v = seconds g v := by
  unfold out0_6
  rw [View.canon_unit_zero origin]
  simp only [View.ld_unit_zero (S := S16x1024) origin]
  unfold k0_pay3 k0_pay1
  simp only [shapeCast_self]
  rfl

/-- The grid has one point, -/
theorem one (t t' : Fin cfg0.N) : t = t' := by
  revert t t'
  exact (by decide +kernel : ∀ t t' : Fin grid0.N, t = t')

abbrev t0 : Fin cfg0.N := ⟨0, by decide +kernel⟩

/-- and every window's block there is its whole array. -/
theorem whole : (∀ i, ((cfg0.win 0).blk t0).view.emb i = i)
    ∧ (∀ i, ((cfg0.win 1).blk t0).view.emb i = i)
    ∧ (∀ i, ((cfg0.win 2).blk t0).view.emb i = i)
    ∧ (∀ i, ((cfg0.win 3).blk t0).view.emb i = i)
    ∧ (∀ i, ((cfg0.win 4).blk t0).view.emb i = i)
    ∧ (∀ i, ((cfg0.win 5).blk t0).view.emb i = i)
    ∧ (∀ i, ((cfg0.win 6).blk t0).view.emb i = i) := by
  and_intros <;> (intro i; funext a; apply Fin.ext; match a with
    | ⟨0, _⟩ => exact (Nat.zero_add _).trans (Nat.one_mul _)
    | ⟨1, _⟩ => exact (Nat.zero_add _).trans (Nat.one_mul _))

/-- The four blocks read are the four packed arrays. -/
theorem blocks : iblk m c 0 t0 = V m c main_v2 ∧ iblk m c 1 t0 = V m c main_v5 ∧ iblk m c 2 t0 = V m c main_v8
    ∧ iblk m c 3 t0 = V m c main_v11 :=
  ⟨funext fun i => congrArg (V m c main_v2) (whole.1 i), funext fun i => congrArg (V m c main_v5) (whole.2.1 i),
    funext fun i => congrArg (V m c main_v8) (whole.2.2.1 i), funext fun i => congrArg (V m c main_v11) (whole.2.2.2.1 i)⟩

/-- So the three results are what the body leaves of the four packed arrays. -/
theorem deltas : (dats m 0 c).arrAt 4 cfg0.N
    = steps c1 c2 (V m c main_v2) (V m c main_v5) (V m c main_v8) (V m c main_v11) := by
  have e : (dats m 0 c).flushed 4 t0 = steps c1 c2 (V m c main_v2) (V m c main_v5) (V m c main_v8) (V m c main_v11) := by
    show (cfg0.win 4).cut (grid0.coords t0) ((dats m 0 c).after 4 t0) = _
    rw [after0_4, delta_body, (blocks m c).1, (blocks m c).2.1, (blocks m c).2.2.1, (blocks m c).2.2.2]
    rfl
  funext i
  rw [← e, ← (dats m 0 c).read_blk_arrAt_eq_flushed 4 (fun t t' _ _ hne => absurd (one t t') hne) cfg0.N t0 t0.isLt (flush0_4 t0)]
  exact (congrArg ((dats m 0 c).arrAt 4 cfg0.N) (whole.2.2.2.2.1 i)).symm

theorem firsts_at : (dats m 0 c).arrAt 5 cfg0.N = firsts (V m c main_v5) (V m c main_v8) := by
  have e : (dats m 0 c).flushed 5 t0 = firsts (V m c main_v5) (V m c main_v8) := by
    show (cfg0.win 5).cut (grid0.coords t0) ((dats m 0 c).after 5 t0) = _
    rw [after0_5, first_body, (blocks m c).2.1, (blocks m c).2.2.1]
    rfl
  funext i
  rw [← e, ← (dats m 0 c).read_blk_arrAt_eq_flushed 5 (fun t t' _ _ hne => absurd (one t t') hne) cfg0.N t0 t0.isLt (flush0_5 t0)]
  exact (congrArg ((dats m 0 c).arrAt 5 cfg0.N) (whole.2.2.2.2.2.1 i)).symm

theorem seconds_at : (dats m 0 c).arrAt 6 cfg0.N = seconds (V m c main_v5) (V m c main_v11) := by
  have e : (dats m 0 c).flushed 6 t0 = seconds (V m c main_v5) (V m c main_v11) := by
    show (cfg0.win 6).cut (grid0.coords t0) ((dats m 0 c).after 6 t0) = _
    rw [after0_6, second_body, (blocks m c).2.1, (blocks m c).2.2.2]
    rfl
  funext i
  rw [← e, ← (dats m 0 c).read_blk_arrAt_eq_flushed 6 (fun t t' _ _ hne => absurd (one t t') hne) cfg0.N t0 t0.isLt (flush0_6 t0)]
  exact (congrArg ((dats m 0 c).arrAt 6 cfg0.N) (whole.2.2.2.2.2.2 i)).symm

/-- The lines after the kernel take each result from the rows of the update `d` or of a moment, `f` or `s`. -/
theorem tail (W : Valuation τ sig (Elt Ideal)) (d f s : S16x1024.Idx → Ideal .f32) (hd : W (Proc.devRef .tc main_v12_0) = d)
    (hf : W (Proc.devRef .tc main_v12_1) = f) (hs : W (Proc.devRef .tc main_v12_2) = s) :
    StableHlo.after hostOps1 W (Proc.devRef .tc main_v13) = extractStridedSlice S1x1024 ![0, 0] d slices_S16x1024_S1x1024_0_0
    ∧ StableHlo.after hostOps1 W (Proc.devRef .tc main_v14) = extractStridedSlice S1x1024 ![1, 0] d slices_S16x1024_S1x1024_1_0
    ∧ StableHlo.after hostOps1 W (Proc.devRef .tc main_v15) = extractStridedSlice S1x1024 ![2, 0] d slices_S16x1024_S1x1024_2_0
    ∧ StableHlo.after hostOps1 W (Proc.devRef .tc main_v16) = extractStridedSlice S1x1024 ![3, 0] d slices_S16x1024_S1x1024_3_0
    ∧ StableHlo.after hostOps1 W (Proc.devRef .tc main_v17) = extractStridedSlice S1x1024 ![4, 0] d slices_S16x1024_S1x1024_4_0
    ∧ StableHlo.after hostOps1 W (Proc.devRef .tc main_v18) = extractStridedSlice S1x1024 ![5, 0] d slices_S16x1024_S1x1024_5_0
    ∧ StableHlo.after hostOps1 W (Proc.devRef .tc main_v20) = shapeCast S1x6144 (extractStridedSlice S6x1024 ![6, 0] d slices_S16x1024_S6x1024_6_0) shapeCasts_S6x1024_S1x6144
    ∧ StableHlo.after hostOps1 W (Proc.devRef .tc main_v21) = extractStridedSlice S1x1024 ![0, 0] f slices_S16x1024_S1x1024_0_0
    ∧ StableHlo.after hostOps1 W (Proc.devRef .tc main_v22) = extractStridedSlice S1x1024 ![1, 0] f slices_S16x1024_S1x1024_1_0
    ∧ StableHlo.after hostOps1 W (Proc.devRef .tc main_v23) = extractStridedSlice S1x1024 ![2, 0] f slices_S16x1024_S1x1024_2_0
    ∧ StableHlo.after hostOps1 W (Proc.devRef .tc main_v24) = extractStridedSlice S1x1024 ![3, 0] f slices_S16x1024_S1x1024_3_0
    ∧ StableHlo.after hostOps1 W (Proc.devRef .tc main_v25) = extractStridedSlice S1x1024 ![4, 0] f slices_S16x1024_S1x1024_4_0
    ∧ StableHlo.after hostOps1 W (Proc.devRef .tc main_v26) = extractStridedSlice S1x1024 ![5, 0] f slices_S16x1024_S1x1024_5_0
    ∧ StableHlo.after hostOps1 W (Proc.devRef .tc main_v28) = shapeCast S1x6144 (extractStridedSlice S6x1024 ![6, 0] f slices_S16x1024_S6x1024_6_0) shapeCasts_S6x1024_S1x6144
    ∧ StableHlo.after hostOps1 W (Proc.devRef .tc main_v29) = extractStridedSlice S1x1024 ![0, 0] s slices_S16x1024_S1x1024_0_0
    ∧ StableHlo.after hostOps1 W (Proc.devRef .tc main_v30) = extractStridedSlice S1x1024 ![1, 0] s slices_S16x1024_S1x1024_1_0
    ∧ StableHlo.after hostOps1 W (Proc.devRef .tc main_v31) = extractStridedSlice S1x1024 ![2, 0] s slices_S16x1024_S1x1024_2_0
    ∧ StableHlo.after hostOps1 W (Proc.devRef .tc main_v32) = extractStridedSlice S1x1024 ![3, 0] s slices_S16x1024_S1x1024_3_0
    ∧ StableHlo.after hostOps1 W (Proc.devRef .tc main_v33) = extractStridedSlice S1x1024 ![4, 0] s slices_S16x1024_S1x1024_4_0
    ∧ StableHlo.after hostOps1 W (Proc.devRef .tc main_v34) = extractStridedSlice S1x1024 ![5, 0] s slices_S16x1024_S1x1024_5_0
    ∧ StableHlo.after hostOps1 W (Proc.devRef .tc main_v36) = shapeCast S1x6144 (extractStridedSlice S6x1024 ![6, 0] s slices_S16x1024_S6x1024_6_0) shapeCasts_S6x1024_S1x6144 := by
  subst hd hf hs
  and_intros <;> (after_results; try rfl)

/-- Seven arrays and four rows of zeros, one under another. -/
def packed (a0 a1 a2 a3 a4 a5 : S1x1024.Idx → Ideal .f32) (a6 : S1x6144.Idx → Ideal .f32) : S16x1024.Idx → Ideal .f32 :=
  concatenate S16x1024 0 [⟨S1x1024, a0⟩, ⟨S1x1024, a1⟩, ⟨S1x1024, a2⟩, ⟨S1x1024, a3⟩, ⟨S1x1024, a4⟩, ⟨S1x1024, a5⟩,
      ⟨S6x1024, shapeCast S6x1024 a6 shapeCasts_S1x6144_S6x1024⟩,
      ⟨S4x1024, broadcastInDim S4x1024 ![] bcast_S_S4x1024 (constant S_ .f32 0x00000000#32)⟩]
    concatenates_S1x1024_S1x1024_S1x1024_S1x1024_S1x1024_S1x1024_S6x1024_S4x1024_S16x1024_d0

/-- An argument of device `c`. -/
abbrev A (b : Ref sig .tc) : Buf (Elt Ideal) ((c : Thread nD τ).loc b) := m ((c : Thread nD τ).loc b)

/-- The lines before the kernel pack the weights, the gradients and the two moments, -/
theorem packed_args :
    V m c main_v2 = packed (A m c main_arg0) (A m c main_arg1) (A m c main_arg2) (A m c main_arg3) (A m c main_arg4) (A m c main_arg5) (A m c main_arg6)
    ∧ V m c main_v5 = packed (A m c main_arg7) (A m c main_arg8) (A m c main_arg9) (A m c main_arg10) (A m c main_arg11) (A m c main_arg12) (A m c main_arg13)
    ∧ V m c main_v8 = packed (A m c main_arg14) (A m c main_arg15) (A m c main_arg16) (A m c main_arg17) (A m c main_arg18) (A m c main_arg19) (A m c main_arg20)
    ∧ V m c main_v11 = packed (A m c main_arg21) (A m c main_arg22) (A m c main_arg23) (A m c main_arg24) (A m c main_arg25) (A m c main_arg26) (A m c main_arg27) := by
  unfold V V0
  simp only [List.flatten_cons, List.flatten_nil, List.append_nil]
  and_intros <;> (after_results_simp; rfl)

/-- and each of the seven is found again in its rows. -/
theorem packed_rows (a0 a1 a2 a3 a4 a5 : S1x1024.Idx → Ideal .f32) (a6 : S1x6144.Idx → Ideal .f32) :
    extractStridedSlice S1x1024 ![0, 0] (packed a0 a1 a2 a3 a4 a5 a6) slices_S16x1024_S1x1024_0_0 = a0
    ∧ extractStridedSlice S1x1024 ![1, 0] (packed a0 a1 a2 a3 a4 a5 a6) slices_S16x1024_S1x1024_1_0 = a1
    ∧ extractStridedSlice S1x1024 ![2, 0] (packed a0 a1 a2 a3 a4 a5 a6) slices_S16x1024_S1x1024_2_0 = a2
    ∧ extractStridedSlice S1x1024 ![3, 0] (packed a0 a1 a2 a3 a4 a5 a6) slices_S16x1024_S1x1024_3_0 = a3
    ∧ extractStridedSlice S1x1024 ![4, 0] (packed a0 a1 a2 a3 a4 a5 a6) slices_S16x1024_S1x1024_4_0 = a4
    ∧ extractStridedSlice S1x1024 ![5, 0] (packed a0 a1 a2 a3 a4 a5 a6) slices_S16x1024_S1x1024_5_0 = a5
    ∧ extractStridedSlice S6x1024 ![6, 0] (packed a0 a1 a2 a3 a4 a5 a6) slices_S16x1024_S6x1024_6_0 = shapeCast S6x1024 a6 shapeCasts_S1x6144_S6x1024 :=
  ⟨rows_concatenate _ _ 0 (by simp) _ rfl rfl _, rows_concatenate _ _ 1 (by simp) _ rfl rfl _, rows_concatenate _ _ 2 (by simp) _ rfl rfl _,
    rows_concatenate _ _ 3 (by simp) _ rfl rfl _, rows_concatenate _ _ 4 (by simp) _ rfl rfl _, rows_concatenate _ _ 5 (by simp) _ rfl rfl _,
    rows_concatenate _ _ 6 (by simp) _ rfl rfl _⟩

set_option maxHeartbeats 1600000 in
/-- What the program leaves in its results. -/
theorem values :
    Pipeline.afterTail₀ cfgs (dats m) 0 (V0 m) [hostOps1] c main_v13 = steps c1 c2 (A m c main_arg0) (A m c main_arg7) (A m c main_arg14) (A m c main_arg21)
    ∧ Pipeline.afterTail₀ cfgs (dats m) 0 (V0 m) [hostOps1] c main_v14 = steps c1 c2 (A m c main_arg1) (A m c main_arg8) (A m c main_arg15) (A m c main_arg22)
    ∧ Pipeline.afterTail₀ cfgs (dats m) 0 (V0 m) [hostOps1] c main_v15 = steps c1 c2 (A m c main_arg2) (A m c main_arg9) (A m c main_arg16) (A m c main_arg23)
    ∧ Pipeline.afterTail₀ cfgs (dats m) 0 (V0 m) [hostOps1] c main_v16 = steps c1 c2 (A m c main_arg3) (A m c main_arg10) (A m c main_arg17) (A m c main_arg24)
    ∧ Pipeline.afterTail₀ cfgs (dats m) 0 (V0 m) [hostOps1] c main_v17 = steps c1 c2 (A m c main_arg4) (A m c main_arg11) (A m c main_arg18) (A m c main_arg25)
    ∧ Pipeline.afterTail₀ cfgs (dats m) 0 (V0 m) [hostOps1] c main_v18 = steps c1 c2 (A m c main_arg5) (A m c main_arg12) (A m c main_arg19) (A m c main_arg26)
    ∧ Pipeline.afterTail₀ cfgs (dats m) 0 (V0 m) [hostOps1] c main_v20 = steps c1 c2 (A m c main_arg6) (A m c main_arg13) (A m c main_arg20) (A m c main_arg27)
    ∧ Pipeline.afterTail₀ cfgs (dats m) 0 (V0 m) [hostOps1] c main_v21 = firsts (A m c main_arg7) (A m c main_arg14)
    ∧ Pipeline.afterTail₀ cfgs (dats m) 0 (V0 m) [hostOps1] c main_v22 = firsts (A m c main_arg8) (A m c main_arg15)
    ∧ Pipeline.afterTail₀ cfgs (dats m) 0 (V0 m) [hostOps1] c main_v23 = firsts (A m c main_arg9) (A m c main_arg16)
    ∧ Pipeline.afterTail₀ cfgs (dats m) 0 (V0 m) [hostOps1] c main_v24 = firsts (A m c main_arg10) (A m c main_arg17)
    ∧ Pipeline.afterTail₀ cfgs (dats m) 0 (V0 m) [hostOps1] c main_v25 = firsts (A m c main_arg11) (A m c main_arg18)
    ∧ Pipeline.afterTail₀ cfgs (dats m) 0 (V0 m) [hostOps1] c main_v26 = firsts (A m c main_arg12) (A m c main_arg19)
    ∧ Pipeline.afterTail₀ cfgs (dats m) 0 (V0 m) [hostOps1] c main_v28 = firsts (A m c main_arg13) (A m c main_arg20)
    ∧ Pipeline.afterTail₀ cfgs (dats m) 0 (V0 m) [hostOps1] c main_v29 = seconds (A m c main_arg7) (A m c main_arg21)
    ∧ Pipeline.afterTail₀ cfgs (dats m) 0 (V0 m) [hostOps1] c main_v30 = seconds (A m c main_arg8) (A m c main_arg22)
    ∧ Pipeline.afterTail₀ cfgs (dats m) 0 (V0 m) [hostOps1] c main_v31 = seconds (A m c main_arg9) (A m c main_arg23)
    ∧ Pipeline.afterTail₀ cfgs (dats m) 0 (V0 m) [hostOps1] c main_v32 = seconds (A m c main_arg10) (A m c main_arg24)
    ∧ Pipeline.afterTail₀ cfgs (dats m) 0 (V0 m) [hostOps1] c main_v33 = seconds (A m c main_arg11) (A m c main_arg25)
    ∧ Pipeline.afterTail₀ cfgs (dats m) 0 (V0 m) [hostOps1] c main_v34 = seconds (A m c main_arg12) (A m c main_arg26)
    ∧ Pipeline.afterTail₀ cfgs (dats m) 0 (V0 m) [hostOps1] c main_v36 = seconds (A m c main_arg13) (A m c main_arg27) := by
  let W : Valuation τ sig (Elt Ideal) := Pipeline.withArrays spec0 c (V0 m c) fun w => (dats m 0 c).arrAt w cfg0.N
  have arr (w : Fin 7) : W (Proc.devRef .tc (Pipeline.arrRef spec0 w)) = (dats m 0 c).arrAt w cfg0.N :=
    Pipeline.withArrays_arr spec0 (by decide) c (V0 m c) (fun w => (dats m 0 c).arrAt w cfg0.N) w
  obtain ⟨p0, p1, p2, p3⟩ := packed_args m c
  have o4 : W (Proc.devRef .tc main_v12_0) = _ := (arr 4).trans (deltas m c)
  have o5 : W (Proc.devRef .tc main_v12_1) = _ := (arr 5).trans (firsts_at m c)
  have o6 : W (Proc.devRef .tc main_v12_2) = _ := (arr 6).trans (seconds_at m c)
  rw [p0, p1, p2, p3] at o4
  rw [p1, p2] at o5
  rw [p1, p3] at o6
  have h := tail W _ _ _ o4 o5 o6
  simp only [rows_steps, rows_firsts, rows_seconds, cast_steps, cast_firsts, cast_seconds, packed_rows, shapeCast_shapeCast] at h
  exact h

/-! ## The claims -/

theorem frame : Cert.quiescent_PackRepl := fun m g _ => Cert.PackRepl.Gen.frame m g

theorem frame_ideal : Cert.quiescent_PackReplIdeal := fun m g _ => Cert.PackReplIdeal.Gen.frame m g

theorem frame_ref_ideal : Cert.quiescent_PackReplRefIdeal := fun m g _ =>
  (θ_run Cert.PackReplRefIdeal.defs _ _).mono (fun r h => ⟨fun c => (h c).2.2.2.2.2.2.2.2.2.2.2.2.2.2.2.2.2.2.2.2.2, sem_eq_zero_of_no_sems (by decide) r.2⟩)
    (Cert.PackReplRefIdeal.Value.run (F := Ideal) m g)

theorem preserves : Cert.preserves_PackRepl_PackReplIdeal :=
  ⟨IdealRules.named_const.statement _ _ _ _ _ rfl, IdealRules.named_const.statement _ _ _ _ _ rfl⟩

set_option maxHeartbeats 3200000 in
theorem algebraic : Cert.algebraic_PackReplIdeal_PackReplRefIdeal := by
  intro m g m' g' _ agree
  refine ⟨fun c => steps c1 c2 (A m c main_arg0) (A m c main_arg7) (A m c main_arg14) (A m c main_arg21),
    fun c => steps c1 c2 (A m c main_arg1) (A m c main_arg8) (A m c main_arg15) (A m c main_arg22),
    fun c => steps c1 c2 (A m c main_arg2) (A m c main_arg9) (A m c main_arg16) (A m c main_arg23),
    fun c => steps c1 c2 (A m c main_arg3) (A m c main_arg10) (A m c main_arg17) (A m c main_arg24),
    fun c => steps c1 c2 (A m c main_arg4) (A m c main_arg11) (A m c main_arg18) (A m c main_arg25),
    fun c => steps c1 c2 (A m c main_arg5) (A m c main_arg12) (A m c main_arg19) (A m c main_arg26),
    fun c => steps c1 c2 (A m c main_arg6) (A m c main_arg13) (A m c main_arg20) (A m c main_arg27),
    fun c => firsts (A m c main_arg7) (A m c main_arg14),
    fun c => firsts (A m c main_arg8) (A m c main_arg15),
    fun c => firsts (A m c main_arg9) (A m c main_arg16),
    fun c => firsts (A m c main_arg10) (A m c main_arg17),
    fun c => firsts (A m c main_arg11) (A m c main_arg18),
    fun c => firsts (A m c main_arg12) (A m c main_arg19),
    fun c => firsts (A m c main_arg13) (A m c main_arg20),
    fun c => seconds (A m c main_arg7) (A m c main_arg21),
    fun c => seconds (A m c main_arg8) (A m c main_arg22),
    fun c => seconds (A m c main_arg9) (A m c main_arg23),
    fun c => seconds (A m c main_arg10) (A m c main_arg24),
    fun c => seconds (A m c main_arg11) (A m c main_arg25),
    fun c => seconds (A m c main_arg12) (A m c main_arg26),
    fun c => seconds (A m c main_arg13) (A m c main_arg27),
    (θ_run Cert.PackReplIdeal.defs _ _).mono (fun r h c => ?_) (θ_run_and (run_main m g) (unchanged m g)), ?_⟩
  rotate_left
  · refine (θ_run Cert.PackReplRefIdeal.defs _ _).mono (fun r h c => ?_) (Cert.PackReplRefIdeal.Value.run (F := Ideal) m' g')
    obtain ⟨a0, a1, a2, a3, a4, a5, a6, a7, a8, a9, a10, a11, a12, a13, a14, a15, a16, a17, a18, a19, a20, a21, a22, a23, a24, a25, a26, a27⟩ := agree c
    obtain ⟨h0, h1, h2, h3, h4, h5, h6, h7, h8, h9, h10, h11, h12, h13, h14, h15, h16, h17, h18, h19, h20, hk⟩ := h c
    refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, hk⟩
    all_goals simp only [A, a0, a1, a2, a3, a4, a5, a6, a7, a8, a9, a10, a11, a12, a13, a14, a15, a16, a17, a18, a19, a20, a21, a22, a23, a24, a25, a26, a27]
    all_goals first
      | exact step_eq _ (IdealRules.named_const.ideal_named_scalar _ _ _ _ rfl) (IdealRules.named_const.ideal_named_scalar _ _ _ _ rfl) _ _ _ _
      | exact moment1_eq _ _ _
      | exact moment2_eq _ _ _
  · obtain ⟨v0, v1, v2, v3, v4, v5, v6, v7, v8, v9, v10, v11, v12, v13, v14, v15, v16, v17, v18, v19, v20⟩ := values m c
    exact ⟨((h.1 c).2 main_v13 (Pipeline.mem_restRefs_of main_v13 (by decide) (by decide))).trans v0,
      ((h.1 c).2 main_v14 (Pipeline.mem_restRefs_of main_v14 (by decide) (by decide))).trans v1,
      ((h.1 c).2 main_v15 (Pipeline.mem_restRefs_of main_v15 (by decide) (by decide))).trans v2,
      ((h.1 c).2 main_v16 (Pipeline.mem_restRefs_of main_v16 (by decide) (by decide))).trans v3,
      ((h.1 c).2 main_v17 (Pipeline.mem_restRefs_of main_v17 (by decide) (by decide))).trans v4,
      ((h.1 c).2 main_v18 (Pipeline.mem_restRefs_of main_v18 (by decide) (by decide))).trans v5,
      ((h.1 c).2 main_v20 (Pipeline.mem_restRefs_of main_v20 (by decide) (by decide))).trans v6,
      ((h.1 c).2 main_v21 (Pipeline.mem_restRefs_of main_v21 (by decide) (by decide))).trans v7,
      ((h.1 c).2 main_v22 (Pipeline.mem_restRefs_of main_v22 (by decide) (by decide))).trans v8,
      ((h.1 c).2 main_v23 (Pipeline.mem_restRefs_of main_v23 (by decide) (by decide))).trans v9,
      ((h.1 c).2 main_v24 (Pipeline.mem_restRefs_of main_v24 (by decide) (by decide))).trans v10,
      ((h.1 c).2 main_v25 (Pipeline.mem_restRefs_of main_v25 (by decide) (by decide))).trans v11,
      ((h.1 c).2 main_v26 (Pipeline.mem_restRefs_of main_v26 (by decide) (by decide))).trans v12,
      ((h.1 c).2 main_v28 (Pipeline.mem_restRefs_of main_v28 (by decide) (by decide))).trans v13,
      ((h.1 c).2 main_v29 (Pipeline.mem_restRefs_of main_v29 (by decide) (by decide))).trans v14,
      ((h.1 c).2 main_v30 (Pipeline.mem_restRefs_of main_v30 (by decide) (by decide))).trans v15,
      ((h.1 c).2 main_v31 (Pipeline.mem_restRefs_of main_v31 (by decide) (by decide))).trans v16,
      ((h.1 c).2 main_v32 (Pipeline.mem_restRefs_of main_v32 (by decide) (by decide))).trans v17,
      ((h.1 c).2 main_v33 (Pipeline.mem_restRefs_of main_v33 (by decide) (by decide))).trans v18,
      ((h.1 c).2 main_v34 (Pipeline.mem_restRefs_of main_v34 (by decide) (by decide))).trans v19,
      ((h.1 c).2 main_v36 (Pipeline.mem_restRefs_of main_v36 (by decide) (by decide))).trans v20,
      h.2 c⟩

end Cert.Proof.PackRepl

end
-- ==== Proof.AddClaims.lean ====
/-
# The sums of two arrays: the claims

Tile by tile the kernel widens both arrays, adds them and narrows the sum; the reference does it to the whole arrays.
-/
module

public import proofs.«01_k».proof.Defs
public import proofs.«01_k».proof.Proof.Gen.AddWin.Frame
public import proofs.«01_k».proof.Proof.Gen.AddWinIdeal.Value
public import proofs.«01_k».proof.Proof.Gen.AddWinRefIdeal.Run
public import proofs.«01_k».proof.Proof.Gen.AddUp.Frame
public import proofs.«01_k».proof.Proof.Gen.AddUpIdeal.Value
public import proofs.«01_k».proof.Proof.Gen.AddUpRefIdeal.Run
public import proofs.«01_k».proof.Proof.Gen.AddRow.Frame
public import proofs.«01_k».proof.Proof.Gen.AddRowIdeal.Value
public import proofs.«01_k».proof.Proof.Gen.AddRowRefIdeal.Run
public import proofs.«01_k».proof.Proof.Gen.AddDown.Frame
public import proofs.«01_k».proof.Proof.Gen.AddDownIdeal.Value
public import proofs.«01_k».proof.Proof.Gen.AddDownRefIdeal.Run
public import proofs.«01_k».proof.Proof.Gen.AddSmall.Frame
public import proofs.«01_k».proof.Proof.Gen.AddSmallIdeal.Value
public import proofs.«01_k».proof.Proof.Gen.AddSmallRefIdeal.Run
public import Idealize.ShloMosaic.Lib.Quiescent

@[expose] public section

noncomputable section

open Idealize.ShloMosaic Idealize.ShloMosaic.TcCoe Idealize.SL.Sem

namespace Cert.Proof.AddWin

theorem frame : Cert.quiescent_AddWin := fun m g _ => Cert.AddWin.Gen.frame m g

theorem frame_ideal : Cert.quiescent_AddWinIdeal := fun m g _ => Cert.AddWinIdeal.Gen.frame m g

theorem frame_ref_ideal : Cert.quiescent_AddWinRefIdeal := fun m g _ =>
  (θ_run Cert.AddWinRefIdeal.defs _ _).mono (fun r h => ⟨fun c => (h c).2, sem_eq_zero_of_no_sems (by decide) r.2⟩)
    (Cert.AddWinRefIdeal.Value.run (F := Ideal) m g)

theorem algebraic : Cert.algebraic_AddWinIdeal_AddWinRefIdeal := by
  intro m g m' g' _ agree
  refine ⟨_, Cert.AddWinIdeal.Value.run (F := Ideal) m g, ?_⟩
  refine (θ_run Cert.AddWinRefIdeal.defs _ _).mono (fun _ h c => ⟨(h c).1.trans ?_, (h c).2⟩) (Cert.AddWinRefIdeal.Value.run (F := Ideal) m' g')
  rw [(agree c).1, (agree c).2]; rfl

end Cert.Proof.AddWin

namespace Cert.Proof.AddUp

theorem frame : Cert.quiescent_AddUp := fun m g _ => Cert.AddUp.Gen.frame m g

theorem frame_ideal : Cert.quiescent_AddUpIdeal := fun m g _ => Cert.AddUpIdeal.Gen.frame m g

theorem frame_ref_ideal : Cert.quiescent_AddUpRefIdeal := fun m g _ =>
  (θ_run Cert.AddUpRefIdeal.defs _ _).mono (fun r h => ⟨fun c => (h c).2, sem_eq_zero_of_no_sems (by decide) r.2⟩)
    (Cert.AddUpRefIdeal.Value.run (F := Ideal) m g)

theorem algebraic : Cert.algebraic_AddUpIdeal_AddUpRefIdeal := by
  intro m g m' g' _ agree
  refine ⟨_, Cert.AddUpIdeal.Value.run (F := Ideal) m g, ?_⟩
  refine (θ_run Cert.AddUpRefIdeal.defs _ _).mono (fun _ h c => ⟨(h c).1.trans ?_, (h c).2⟩) (Cert.AddUpRefIdeal.Value.run (F := Ideal) m' g')
  rw [(agree c).1, (agree c).2]; rfl

end Cert.Proof.AddUp

namespace Cert.Proof.AddRow

theorem frame : Cert.quiescent_AddRow := fun m g _ => Cert.AddRow.Gen.frame m g

theorem frame_ideal : Cert.quiescent_AddRowIdeal := fun m g _ => Cert.AddRowIdeal.Gen.frame m g

theorem frame_ref_ideal : Cert.quiescent_AddRowRefIdeal := fun m g _ =>
  (θ_run Cert.AddRowRefIdeal.defs _ _).mono (fun r h => ⟨fun c => (h c).2, sem_eq_zero_of_no_sems (by decide) r.2⟩)
    (Cert.AddRowRefIdeal.Value.run (F := Ideal) m g)

theorem algebraic : Cert.algebraic_AddRowIdeal_AddRowRefIdeal := by
  intro m g m' g' _ agree
  refine ⟨_, Cert.AddRowIdeal.Value.run (F := Ideal) m g, ?_⟩
  refine (θ_run Cert.AddRowRefIdeal.defs _ _).mono (fun _ h c => ⟨(h c).1.trans ?_, (h c).2⟩) (Cert.AddRowRefIdeal.Value.run (F := Ideal) m' g')
  rw [(agree c).1, (agree c).2]; rfl

end Cert.Proof.AddRow

namespace Cert.Proof.AddDown

theorem frame : Cert.quiescent_AddDown := fun m g _ => Cert.AddDown.Gen.frame m g

theorem frame_ideal : Cert.quiescent_AddDownIdeal := fun m g _ => Cert.AddDownIdeal.Gen.frame m g

theorem frame_ref_ideal : Cert.quiescent_AddDownRefIdeal := fun m g _ =>
  (θ_run Cert.AddDownRefIdeal.defs _ _).mono (fun r h => ⟨fun c => (h c).2, sem_eq_zero_of_no_sems (by decide) r.2⟩)
    (Cert.AddDownRefIdeal.Value.run (F := Ideal) m g)

theorem algebraic : Cert.algebraic_AddDownIdeal_AddDownRefIdeal := by
  intro m g m' g' _ agree
  refine ⟨_, Cert.AddDownIdeal.Value.run (F := Ideal) m g, ?_⟩
  refine (θ_run Cert.AddDownRefIdeal.defs _ _).mono (fun _ h c => ⟨(h c).1.trans ?_, (h c).2⟩) (Cert.AddDownRefIdeal.Value.run (F := Ideal) m' g')
  rw [(agree c).1, (agree c).2]; rfl

end Cert.Proof.AddDown

namespace Cert.Proof.AddSmall

theorem frame : Cert.quiescent_AddSmall := fun m g _ => Cert.AddSmall.Gen.frame m g

theorem frame_ideal : Cert.quiescent_AddSmallIdeal := fun m g _ => Cert.AddSmallIdeal.Gen.frame m g

theorem frame_ref_ideal : Cert.quiescent_AddSmallRefIdeal := fun m g _ =>
  (θ_run Cert.AddSmallRefIdeal.defs _ _).mono (fun r h => ⟨fun c => (h c).2, sem_eq_zero_of_no_sems (by decide) r.2⟩)
    (Cert.AddSmallRefIdeal.Value.run (F := Ideal) m g)

theorem algebraic : Cert.algebraic_AddSmallIdeal_AddSmallRefIdeal := by
  intro m g m' g' _ agree
  refine ⟨_, Cert.AddSmallIdeal.Value.run (F := Ideal) m g, ?_⟩
  refine (θ_run Cert.AddSmallRefIdeal.defs _ _).mono (fun _ h c => ⟨(h c).1.trans ?_, (h c).2⟩) (Cert.AddSmallRefIdeal.Value.run (F := Ideal) m' g')
  rw [(agree c).1, (agree c).2]; rfl

end Cert.Proof.AddSmall

end
-- ==== Proof.Total.lean ====
/-
# Sums over a leading axis

The kernel adds up the four (or eight) leading blocks of an array one after another, tile of rows by tile of rows; the
reference sums over the leading axis. Over the extended reals both are the same sum at every index.
-/
module

public import proofs.«01_k».proof.Defs
public import Idealize.ShloMosaic.PureOps.Ideal
public import Idealize.ShloMosaic.Lib.Pointwise
public import Idealize.ShloMosaic.Lib.Pipeline.Value
public import Idealize.ShloMosaic.Lib.Pipeline.ValueKit.Tiles

@[expose] public section

noncomputable section

namespace Cert.Total

open Idealize.ShloMosaic

variable {n R C : Nat}

/-- Row and column `j` of leading block `k`. -/
abbrev at3 (k : Fin n) (j : (⟨2, ![R, C]⟩ : Shape).Idx) : (⟨3, ![n, R, C]⟩ : Shape).Idx := ix3 k (j 0) (j 1)

/-- The sum of an array over its leading axis. -/
abbrev total (x : (⟨3, ![n, R, C]⟩ : Shape).Idx → EReal) : (⟨2, ![R, C]⟩ : Shape).Idx → EReal :=
  fun j => ∑ k : Fin n, x (at3 k j)

theorem total_eq {R' C' : Nat} {x : (⟨3, ![n, R, C]⟩ : Shape).Idx → EReal} {x' : (⟨3, ![n, R', C']⟩ : Shape).Idx → EReal}
    {y : (⟨2, ![R, C]⟩ : Shape).Idx} {y' : (⟨2, ![R', C']⟩ : Shape).Idx} (h : ∀ k, x (at3 k y) = x' (at3 k y')) :
    total x y = total x' y' := Finset.sum_congr rfl fun k _ => h k

/-- The reference's sum. -/
theorem host_total (x : FVec Ideal ⟨3, ![n, R, C]⟩ .f32) (h : (⟨3, ![n, R, C]⟩ : Shape).ReducesTo [0] ⟨2, ![R, C]⟩)
    (hs : 0 < (⟨0, ![]⟩ : Shape).numel) : Host.reduceAdd x (constant ⟨0, ![]⟩ .f32 0x00000000#32) h hs = total x := by
  funext j
  rw [Host.reduceAdd_apply, Ideal.hostReduceAdd_def, Ideal.hostReduceAdd_r3_a0]
  show Ideal.ofBits .f32 0x00000000#32 + _ = _
  rw [show Ideal.ofBits .f32 0x00000000#32 = 0 by simp [Ideal.ofBits, Ideal.ieee]; try norm_num]
  rw [zero_add]
  rfl

/-- Leading block `k` of an array, loaded, at row and column `j`. -/
theorem load_eq {e : EltTy} (x : (⟨3, ![n, R, C]⟩ : Shape).Idx → Elt Ideal e) (k : Fin n) (inb) (p : (⟨3, ![1, R, C]⟩ : Shape).Idx)
    (j : (⟨2, ![R, C]⟩ : Shape).Idx) (h1 : (p 1).val = (j 0).val) (h2 : (p 2).val = (j 1).val) :
    View.ld x (Rect.unit (s := ⟨3, ![n, R, C]⟩) ![k.val, 0, 0] (⟨3, ![1, R, C]⟩ : Shape).size inb) p = x (at3 k j) := by
  refine View.ld_unit_apply_of _ _ _ _ _ _ fun a => ?_
  have h0 : (p 0).val < 1 := (p 0).isLt
  match a with
  | ⟨0, _⟩ => show k.val = k.val + (p 0).val; omega
  | ⟨1, _⟩ => show (j 0).val = 0 + (p 1).val; omega
  | ⟨2, _⟩ => show (j 1).val = 0 + (p 2).val; omega

/-- Four leading blocks, loaded, widened by `f` and added one after another. -/
theorem four {e : EltTy} (x : (⟨3, ![4, R, C]⟩ : Shape).Idx → Elt Ideal e) (f : Elt Ideal e → EReal) (i0 i1 i2 i3)
    (p : (⟨3, ![1, R, C]⟩ : Shape).Idx) (j : (⟨2, ![R, C]⟩ : Shape).Idx) (h1 : (p 1).val = (j 0).val) (h2 : (p 2).val = (j 1).val) :
    f (View.ld x (Rect.unit (s := ⟨3, ![4, R, C]⟩) ![0, 0, 0] (⟨3, ![1, R, C]⟩ : Shape).size i0) p)
      + f (View.ld x (Rect.unit (s := ⟨3, ![4, R, C]⟩) ![1, 0, 0] (⟨3, ![1, R, C]⟩ : Shape).size i1) p)
      + f (View.ld x (Rect.unit (s := ⟨3, ![4, R, C]⟩) ![2, 0, 0] (⟨3, ![1, R, C]⟩ : Shape).size i2) p)
      + f (View.ld x (Rect.unit (s := ⟨3, ![4, R, C]⟩) ![3, 0, 0] (⟨3, ![1, R, C]⟩ : Shape).size i3) p)
    = total (n := 4) (fun i => f (x i)) j := by
  show _ = ∑ k : Fin 4, f (x (at3 k j))
  rw [Fin.sum_univ_four, ← load_eq x 0 i0 p j h1 h2, ← load_eq x 1 i1 p j h1 h2, ← load_eq x 2 i2 p j h1 h2, ← load_eq x 3 i3 p j h1 h2]
  rfl

/-- Eight of them. -/
theorem eight {e : EltTy} (x : (⟨3, ![8, R, C]⟩ : Shape).Idx → Elt Ideal e) (f : Elt Ideal e → EReal) (i0 i1 i2 i3 i4 i5 i6 i7)
    (p : (⟨3, ![1, R, C]⟩ : Shape).Idx) (j : (⟨2, ![R, C]⟩ : Shape).Idx) (h1 : (p 1).val = (j 0).val) (h2 : (p 2).val = (j 1).val) :
    f (View.ld x (Rect.unit (s := ⟨3, ![8, R, C]⟩) ![0, 0, 0] (⟨3, ![1, R, C]⟩ : Shape).size i0) p)
      + f (View.ld x (Rect.unit (s := ⟨3, ![8, R, C]⟩) ![1, 0, 0] (⟨3, ![1, R, C]⟩ : Shape).size i1) p)
      + f (View.ld x (Rect.unit (s := ⟨3, ![8, R, C]⟩) ![2, 0, 0] (⟨3, ![1, R, C]⟩ : Shape).size i2) p)
      + f (View.ld x (Rect.unit (s := ⟨3, ![8, R, C]⟩) ![3, 0, 0] (⟨3, ![1, R, C]⟩ : Shape).size i3) p)
      + f (View.ld x (Rect.unit (s := ⟨3, ![8, R, C]⟩) ![4, 0, 0] (⟨3, ![1, R, C]⟩ : Shape).size i4) p)
      + f (View.ld x (Rect.unit (s := ⟨3, ![8, R, C]⟩) ![5, 0, 0] (⟨3, ![1, R, C]⟩ : Shape).size i5) p)
      + f (View.ld x (Rect.unit (s := ⟨3, ![8, R, C]⟩) ![6, 0, 0] (⟨3, ![1, R, C]⟩ : Shape).size i6) p)
      + f (View.ld x (Rect.unit (s := ⟨3, ![8, R, C]⟩) ![7, 0, 0] (⟨3, ![1, R, C]⟩ : Shape).size i7) p)
    = total (n := 8) (fun i => f (x i)) j := by
  show _ = ∑ k : Fin 8, f (x (at3 k j))
  rw [Fin.sum_univ_eight, ← load_eq x 0 i0 p j h1 h2, ← load_eq x 1 i1 p j h1 h2, ← load_eq x 2 i2 p j h1 h2, ← load_eq x 3 i3 p j h1 h2,
    ← load_eq x 4 i4 p j h1 h2, ← load_eq x 5 i5 p j h1 h2, ← load_eq x 6 i6 p j h1 h2, ← load_eq x 7 i7 p j h1 h2]
  rfl

/-! ## Tiles of rows -/

variable {T : Nat}

/-- Row and column `y` of tile `t`: the same place in each leading block of the argument and in the result. -/
theorem tile_at {w0 : Fin 3 → Nat} {w1 : Fin 2 → Nat} {t : Nat} (h : w0 = ![0, t, 0] ∧ w1 = ![t, 0])
    {i : (⟨3, ![n, R, C]⟩ : Shape).Idx} {j : (⟨2, ![R, C]⟩ : Shape).Idx} {y : (⟨2, ![T, C]⟩ : Shape).Idx} {k : Fin n}
    (e0 : (i 0).val = w0 0 * n + 1 * k.val) (e1 : (i 1).val = w0 1 * T + 1 * (y 0).val) (e2 : (i 2).val = w0 2 * C + 1 * (y 1).val)
    (f0 : (j 0).val = w1 0 * T + 1 * (y 0).val) (f1 : (j 1).val = w1 1 * C + 1 * (y 1).val) : i = at3 k j := by
  rw [h.1] at e0 e1 e2; rw [h.2] at f0 f1
  funext a
  match a with
  | ⟨0, _⟩ => exact Fin.ext (e0.trans (by show 0 * n + 1 * k.val = k.val; omega))
  | ⟨1, _⟩ => exact Fin.ext (e1.trans f0.symm)
  | ⟨2, _⟩ => exact Fin.ext (e2.trans f1.symm)

/-- An index lies in the tile of its row. -/
theorem in_tile {w : Fin 2 → Nat} (i : (⟨2, ![R, C]⟩ : Shape).Idx) (hT : 0 < T) (h : w = ![(i 0).val / T, 0]) :
    ∀ a : Fin 2, w a * (![T, C] : Fin 2 → Nat) a ≤ (i a).val ∧ (i a).val < w a * (![T, C] : Fin 2 → Nat) a + (![T, C] : Fin 2 → Nat) a := by
  rw [h]
  intro a
  match a with
  | ⟨0, _⟩ => exact ⟨Nat.div_mul_le_self _ _, Nat.lt_div_mul_add hT⟩
  | ⟨1, _⟩ =>
    have h1 : (i 1).val < C := (i 1).isLt
    exact ⟨by simp, by simpa using h1⟩

end Cert.Total

end
-- ==== Proof.TotalClaims.lean ====
/-
# The sums over a leading axis: the claims

Over the 512 and 384 rows of the large arrays the kernel goes in tiles of rows: `tile` says what one tile's program
computes and `whole` puts the tiles together. The others are one tile. The reference is one sum over the leading axis.
-/
module

public import proofs.«01_k».proof.Defs
public import proofs.«01_k».proof.Proof.Gen.SumWin.Frame
public import proofs.«01_k».proof.Proof.Gen.SumWinIdeal.Value
public import proofs.«01_k».proof.Proof.Gen.SumWinRefIdeal.Run
public import proofs.«01_k».proof.Proof.Gen.SumUp.Frame
public import proofs.«01_k».proof.Proof.Gen.SumUpIdeal.Value
public import proofs.«01_k».proof.Proof.Gen.SumUpRefIdeal.Run
public import proofs.«01_k».proof.Proof.Gen.SumRow.Frame
public import proofs.«01_k».proof.Proof.Gen.SumRowIdeal.Value
public import proofs.«01_k».proof.Proof.Gen.SumRowRefIdeal.Run
public import proofs.«01_k».proof.Proof.Gen.SumDown.Frame
public import proofs.«01_k».proof.Proof.Gen.SumDownIdeal.Value
public import proofs.«01_k».proof.Proof.Gen.SumDownRefIdeal.Run
public import proofs.«01_k».proof.Proof.Gen.SumSmall.Frame
public import proofs.«01_k».proof.Proof.Gen.SumSmallIdeal.Value
public import proofs.«01_k».proof.Proof.Gen.SumSmallRefIdeal.Run
public import proofs.«01_k».proof.Proof.Gen.SumRepl.Frame
public import proofs.«01_k».proof.Proof.Gen.SumReplIdeal.Value
public import proofs.«01_k».proof.Proof.Gen.SumReplRefIdeal.Run
public import proofs.«01_k».proof.Proof.Total
public import Idealize.ShloMosaic.Lib.Quiescent

@[expose] public section

noncomputable section

open Idealize.ShloMosaic Idealize.ShloMosaic.TcCoe Idealize.SL.Sem Cert.Total

namespace Cert.Proof.SumWin

open Cert.SumWinIdeal Cert.SumWinIdeal.Gen Cert.SumWinIdeal.Value

theorem frame : Cert.quiescent_SumWin := fun m g _ => Cert.SumWin.Gen.frame m g

theorem frame_ideal : Cert.quiescent_SumWinIdeal := fun m g _ => Cert.SumWinIdeal.Gen.frame m g

theorem frame_ref_ideal : Cert.quiescent_SumWinRefIdeal := fun m g _ =>
  (θ_run Cert.SumWinRefIdeal.defs _ _).mono (fun r h => ⟨fun c => (h c).2, sem_eq_zero_of_no_sems (by decide) r.2⟩)
    (Cert.SumWinRefIdeal.Value.run (F := Ideal) m g)

theorem tile (x : Vec Ideal S4x64x1792 .bf16) : out0_1 (F := Ideal) x = total (n := 4) x :=
  funext fun y => (canon1_eq _ _ _ _ y).trans (four (e := .bf16) x id _ _ _ _ _ y rfl rfl)

variable (m : (ℓ : Loc nD τ sig) → Buf (Elt Ideal) ℓ)

/-- Point `t` has tile `t` of the argument and of the result. -/
theorem places : ∀ t : Fin cfg0.N, win0_0.index t = ![0, t.val, 0] ∧ win0_1.index t = ![t.val, 0] :=
  (by decide +kernel : ∀ t : Fin grid0.N, _)

theorem whole (c : Dev nD) : (dats m 0 c).arrAt 1 cfg0.N = total (n := 4) (m ((c : Thread nD τ).loc main_arg0)) := by
  refine (dats m 0 c).arrAt_eq_of_cover 1 _ (fun t _ => ?_) fun i => ?_
  · rw [flushed1, tile]
    exact funext fun y => total_eq (y := y) (y' := ((cfg0.win 1).blk t).view.emb y) fun k =>
      congrArg (V m c main_arg0) (tile_at (T := 64) (y := y) (places t) rfl rfl rfl rfl rfl)
  · have h0 : (i 0).val < 512 := (i 0).isLt
    let t : Fin cfg0.N := ⟨(i 0).val / 64, by show _ < 8; omega⟩
    refine ⟨t, flush0_1 t, ?_⟩
    show i ∈ ((View.whole main_v0).slice (win0_1.rect t)).set
    rw [View.set_slice_whole, Rect.mem_set_unit]
    exact in_tile i (by decide) (places t).2

theorem algebraic : Cert.algebraic_SumWinIdeal_SumWinRefIdeal := by
  intro m g m' g' _ agree
  refine ⟨_, (θ_run defs _ _).mono (fun _ h c => ⟨(h c).1.trans (whole m c), (h c).2⟩) (run_blocks (F := Ideal) m g), ?_⟩
  refine (θ_run Cert.SumWinRefIdeal.defs _ _).mono (fun _ h c => ⟨(h c).1.trans ?_, (h c).2⟩)
    (Cert.SumWinRefIdeal.Value.run (F := Ideal) m' g')
  rw [agree c]
  exact host_total _ _ _

end Cert.Proof.SumWin

namespace Cert.Proof.SumUp

open Cert.SumUpIdeal Cert.SumUpIdeal.Gen Cert.SumUpIdeal.Value

theorem frame : Cert.quiescent_SumUp := fun m g _ => Cert.SumUp.Gen.frame m g

theorem frame_ideal : Cert.quiescent_SumUpIdeal := fun m g _ => Cert.SumUpIdeal.Gen.frame m g

theorem frame_ref_ideal : Cert.quiescent_SumUpRefIdeal := fun m g _ =>
  (θ_run Cert.SumUpRefIdeal.defs _ _).mono (fun r h => ⟨fun c => (h c).2, sem_eq_zero_of_no_sems (by decide) r.2⟩)
    (Cert.SumUpRefIdeal.Value.run (F := Ideal) m g)

theorem tile (x : Vec Ideal S4x64x1536 .bf16) : out0_1 (F := Ideal) x = total (n := 4) x :=
  funext fun y => (canon1_eq _ _ _ _ y).trans (four (e := .bf16) x id _ _ _ _ _ y rfl rfl)

variable (m : (ℓ : Loc nD τ sig) → Buf (Elt Ideal) ℓ)

/-- Point `t` has tile `t` of the argument and of the result. -/
theorem places : ∀ t : Fin cfg0.N, win0_0.index t = ![0, t.val, 0] ∧ win0_1.index t = ![t.val, 0] :=
  (by decide +kernel : ∀ t : Fin grid0.N, _)

theorem whole (c : Dev nD) : (dats m 0 c).arrAt 1 cfg0.N = total (n := 4) (m ((c : Thread nD τ).loc main_arg0)) := by
  refine (dats m 0 c).arrAt_eq_of_cover 1 _ (fun t _ => ?_) fun i => ?_
  · rw [flushed1, tile]
    exact funext fun y => total_eq (y := y) (y' := ((cfg0.win 1).blk t).view.emb y) fun k =>
      congrArg (V m c main_arg0) (tile_at (T := 64) (y := y) (places t) rfl rfl rfl rfl rfl)
  · have h0 : (i 0).val < 512 := (i 0).isLt
    let t : Fin cfg0.N := ⟨(i 0).val / 64, by show _ < 8; omega⟩
    refine ⟨t, flush0_1 t, ?_⟩
    show i ∈ ((View.whole main_v0).slice (win0_1.rect t)).set
    rw [View.set_slice_whole, Rect.mem_set_unit]
    exact in_tile i (by decide) (places t).2

theorem algebraic : Cert.algebraic_SumUpIdeal_SumUpRefIdeal := by
  intro m g m' g' _ agree
  refine ⟨_, (θ_run defs _ _).mono (fun _ h c => ⟨(h c).1.trans (whole m c), (h c).2⟩) (run_blocks (F := Ideal) m g), ?_⟩
  refine (θ_run Cert.SumUpRefIdeal.defs _ _).mono (fun _ h c => ⟨(h c).1.trans ?_, (h c).2⟩)
    (Cert.SumUpRefIdeal.Value.run (F := Ideal) m' g')
  rw [agree c]
  exact host_total _ _ _

end Cert.Proof.SumUp

namespace Cert.Proof.SumRow

open Cert.SumRowIdeal Cert.SumRowIdeal.Gen Cert.SumRowIdeal.Value

theorem frame : Cert.quiescent_SumRow := fun m g _ => Cert.SumRow.Gen.frame m g

theorem frame_ideal : Cert.quiescent_SumRowIdeal := fun m g _ => Cert.SumRowIdeal.Gen.frame m g

theorem frame_ref_ideal : Cert.quiescent_SumRowRefIdeal := fun m g _ =>
  (θ_run Cert.SumRowRefIdeal.defs _ _).mono (fun r h => ⟨fun c => (h c).2, sem_eq_zero_of_no_sems (by decide) r.2⟩)
    (Cert.SumRowRefIdeal.Value.run (F := Ideal) m g)

theorem tile (x : Vec Ideal S4x128x1024 .bf16) : G1 (F := Ideal) x = total (n := 4) x :=
  (out1_eq x).symm.trans (funext fun y => (canon1_eq _ _ _ _ y).trans (four (e := .bf16) x id _ _ _ _ _ y rfl rfl))

theorem algebraic : Cert.algebraic_SumRowIdeal_SumRowRefIdeal := by
  intro m g m' g' _ agree
  refine ⟨_, run (F := Ideal) m g, ?_⟩
  refine (θ_run Cert.SumRowRefIdeal.defs _ _).mono (fun _ h c => ⟨(h c).1.trans ?_, (h c).2⟩)
    (Cert.SumRowRefIdeal.Value.run (F := Ideal) m' g')
  rw [agree c]
  exact (host_total _ _ _).trans (tile _).symm

end Cert.Proof.SumRow

namespace Cert.Proof.SumDown

open Cert.SumDownIdeal Cert.SumDownIdeal.Gen Cert.SumDownIdeal.Value

theorem frame : Cert.quiescent_SumDown := fun m g _ => Cert.SumDown.Gen.frame m g

theorem frame_ideal : Cert.quiescent_SumDownIdeal := fun m g _ => Cert.SumDownIdeal.Gen.frame m g

theorem frame_ref_ideal : Cert.quiescent_SumDownRefIdeal := fun m g _ =>
  (θ_run Cert.SumDownRefIdeal.defs _ _).mono (fun r h => ⟨fun c => (h c).2, sem_eq_zero_of_no_sems (by decide) r.2⟩)
    (Cert.SumDownRefIdeal.Value.run (F := Ideal) m g)

theorem tile (x : Vec Ideal S4x128x1024 .bf16) : out0_1 (F := Ideal) x = total (n := 4) x :=
  funext fun y => (canon1_eq _ _ _ _ y).trans (four (e := .bf16) x id _ _ _ _ _ y rfl rfl)

variable (m : (ℓ : Loc nD τ sig) → Buf (Elt Ideal) ℓ)

/-- Point `t` has tile `t` of the argument and of the result. -/
theorem places : ∀ t : Fin cfg0.N, win0_0.index t = ![0, t.val, 0] ∧ win0_1.index t = ![t.val, 0] :=
  (by decide +kernel : ∀ t : Fin grid0.N, _)

theorem whole (c : Dev nD) : (dats m 0 c).arrAt 1 cfg0.N = total (n := 4) (m ((c : Thread nD τ).loc main_arg0)) := by
  refine (dats m 0 c).arrAt_eq_of_cover 1 _ (fun t _ => ?_) fun i => ?_
  · rw [flushed1, tile]
    exact funext fun y => total_eq (y := y) (y' := ((cfg0.win 1).blk t).view.emb y) fun k =>
      congrArg (V m c main_arg0) (tile_at (T := 128) (y := y) (places t) rfl rfl rfl rfl rfl)
  · have h0 : (i 0).val < 384 := (i 0).isLt
    let t : Fin cfg0.N := ⟨(i 0).val / 128, by show _ < 3; omega⟩
    refine ⟨t, flush0_1 t, ?_⟩
    show i ∈ ((View.whole main_v0).slice (win0_1.rect t)).set
    rw [View.set_slice_whole, Rect.mem_set_unit]
    exact in_tile i (by decide) (places t).2

theorem algebraic : Cert.algebraic_SumDownIdeal_SumDownRefIdeal := by
  intro m g m' g' _ agree
  refine ⟨_, (θ_run defs _ _).mono (fun _ h c => ⟨(h c).1.trans (whole m c), (h c).2⟩) (run_blocks (F := Ideal) m g), ?_⟩
  refine (θ_run Cert.SumDownRefIdeal.defs _ _).mono (fun _ h c => ⟨(h c).1.trans ?_, (h c).2⟩)
    (Cert.SumDownRefIdeal.Value.run (F := Ideal) m' g')
  rw [agree c]
  exact host_total _ _ _

end Cert.Proof.SumDown

namespace Cert.Proof.SumSmall

open Cert.SumSmallIdeal Cert.SumSmallIdeal.Gen Cert.SumSmallIdeal.Value

theorem frame : Cert.quiescent_SumSmall := fun m g _ => Cert.SumSmall.Gen.frame m g

theorem frame_ideal : Cert.quiescent_SumSmallIdeal := fun m g _ => Cert.SumSmallIdeal.Gen.frame m g

theorem frame_ref_ideal : Cert.quiescent_SumSmallRefIdeal := fun m g _ =>
  (θ_run Cert.SumSmallRefIdeal.defs _ _).mono (fun r h => ⟨fun c => (h c).2, sem_eq_zero_of_no_sems (by decide) r.2⟩)
    (Cert.SumSmallRefIdeal.Value.run (F := Ideal) m g)

theorem tile (x : Vec Ideal S4x272x256 .f32) : G1 (F := Ideal) x = total (n := 4) x :=
  (out1_eq x).symm.trans (funext fun y => (canon1_eq _ _ _ _ y).trans (four (e := .f32) x id _ _ _ _ _ y rfl rfl))

theorem algebraic : Cert.algebraic_SumSmallIdeal_SumSmallRefIdeal := by
  intro m g m' g' _ agree
  refine ⟨_, run (F := Ideal) m g, ?_⟩
  refine (θ_run Cert.SumSmallRefIdeal.defs _ _).mono (fun _ h c => ⟨(h c).1.trans ?_, (h c).2⟩)
    (Cert.SumSmallRefIdeal.Value.run (F := Ideal) m' g')
  rw [agree c]
  exact (host_total _ _ _).trans (tile _).symm

end Cert.Proof.SumSmall

namespace Cert.Proof.SumRepl

open Cert.SumReplIdeal Cert.SumReplIdeal.Gen Cert.SumReplIdeal.Value

theorem frame : Cert.quiescent_SumRepl := fun m g _ => Cert.SumRepl.Gen.frame m g

theorem frame_ideal : Cert.quiescent_SumReplIdeal := fun m g _ => Cert.SumReplIdeal.Gen.frame m g

theorem frame_ref_ideal : Cert.quiescent_SumReplRefIdeal := fun m g _ =>
  (θ_run Cert.SumReplRefIdeal.defs _ _).mono (fun r h => ⟨fun c => (h c).2, sem_eq_zero_of_no_sems (by decide) r.2⟩)
    (Cert.SumReplRefIdeal.Value.run (F := Ideal) m g)

theorem tile (x : Vec Ideal S8x16x1024 .f32) : G1 (F := Ideal) x = total (n := 8) x :=
  (out1_eq x).symm.trans (funext fun y => (canon1_eq _ _ _ _ _ _ _ _ y).trans (eight (e := .f32) x id _ _ _ _ _ _ _ _ _ y rfl rfl))

theorem algebraic : Cert.algebraic_SumReplIdeal_SumReplRefIdeal := by
  intro m g m' g' _ agree
  refine ⟨_, run (F := Ideal) m g, ?_⟩
  refine (θ_run Cert.SumReplRefIdeal.defs _ _).mono (fun _ h c => ⟨(h c).1.trans ?_, (h c).2⟩)
    (Cert.SumReplRefIdeal.Value.run (F := Ideal) m' g')
  rw [agree c]
  exact (host_total _ _ _).trans (tile _).symm

end Cert.Proof.SumRepl

end
-- ==== Proof.Rms.lean ====
module

public import Idealize.ShloMosaic.PureOps.Ideal
public import Idealize.ShloMosaic.PureOps.IdealRules
public import Idealize.ShloMosaic.Lib.Pointwise

/-! The backward pass of a root-mean-square norm, one row at a time, on the extended reals.
One side has divided the row by its norm first; the other differentiates `x * rsqrt (mean (x * x) + ε)`
step by step. They agree at every row, an infinite one included. -/

@[expose] public section

noncomputable section

namespace Cert.Rms

open Idealize.ShloMosaic

/-- A real factor comes out of a sum when it is not negative. -/
theorem sum_mul {ι : Type} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

theorem self_nonneg (a : EReal) : 0 ≤ a * a := by
  rcases le_total 0 a with h | h
  · exact mul_nonneg h h
  · have := mul_nonneg (EReal.neg_nonneg.mpr h) (EReal.neg_nonneg.mpr h)
    rwa [neg_mul_neg] at this

/-- Twice a value, also at the infinities. -/
theorem twice (a : EReal) : a + a = a * ((2 : ℝ) : EReal) := by
  induction a with
  | bot => rw [EReal.bot_mul_coe_of_pos (by norm_num)]; rfl
  | top => rw [EReal.top_mul_coe_of_pos (by norm_num)]; rfl
  | coe a => rw [← EReal.coe_add, ← EReal.coe_mul]; congr 1; ring

/-- The mean square with its `ε` is a positive real, or infinite. -/
theorem mean_cases {k : ℕ} (x : Fin k → EReal) {c e : ℝ} (hc : 0 < c) (he : 0 < e) :
    (∑ j, x j * x j) * (c : EReal) + (e : EReal) = ⊤ ∨
      ∃ p : ℝ, 0 < p ∧ (∑ j, x j * x j) * (c : EReal) + (e : EReal) = (p : EReal) := by
  have h0 : 0 ≤ ∑ j, x j * x j := Finset.sum_nonneg fun j _ => self_nonneg (x j)
  generalize ∑ j, x j * x j = s at h0
  induction s with
  | bot => exact absurd h0 (by simp)
  | top => left; rw [EReal.top_mul_coe_of_pos hc]; rfl
  | coe s =>
    right
    refine ⟨s * c + e, by have := EReal.coe_nonneg.mp h0; positivity, ?_⟩
    push_cast; rfl

/-- The row's own derivative: the normalised form against the form of the chain rule. -/
theorem back {k : ℕ} (x d : Fin k → EReal) (c e : ℝ) (hc : 0 < c) (he : 0 < e) (m r : EReal)
    (hm : m = (∑ j, x j * x j) * (c : EReal) + (e : EReal)) (hr : r = Ideal.rsqrt m) (j : Fin k) :
    r * (d j - x j * r * ((∑ i, d i * (x i * r)) * (c : EReal))) =
      d j * r + x j * ((∑ i, x i * d i) * (((-1 / 2 : ℝ) : EReal) * Ideal.div r m) * (c : EReal)) +
        ((∑ i, x i * d i) * (((-1 / 2 : ℝ) : EReal) * Ideal.div r m) * (c : EReal)) * x j := by
  rcases mean_cases x hc he with h | ⟨p, hp, h⟩
  · rw [h] at hm
    have h0 : r = 0 := by rw [hr, hm]; exact Ideal.rsqrt_top
    have h1 : Ideal.div r m = 0 := by rw [h0, hm]; unfold Ideal.div; simp
    rw [h1, h0]; simp
  · rw [h] at hm
    have hq : 0 < (Real.sqrt p)⁻¹ := inv_pos.mpr (Real.sqrt_pos.mpr hp)
    have h0 : r = (((Real.sqrt p)⁻¹ : ℝ) : EReal) := by
      rw [hr, hm, Ideal.rsqrt_coe, if_neg (not_lt.mpr hp.le), if_neg hp.ne']
    have hpq : 1 / p = (Real.sqrt p)⁻¹ * (Real.sqrt p)⁻¹ := by
      rw [← mul_inv, Real.mul_self_sqrt hp.le, one_div]
    generalize (Real.sqrt p)⁻¹ = q at hq h0 hpq
    have hs : ∑ i, d i * (x i * r) = (∑ i, x i * d i) * (q : EReal) := by
      rw [← sum_mul _ _ hq.le]
      exact Finset.sum_congr rfl fun i _ => by rw [h0, ← mul_assoc, mul_comm (d i)]
    have h1 : Ideal.div r m = ((q * (q * q) : ℝ) : EReal) := by
      rw [hm, Ideal.div_coe hp.ne', hpq, h0, ← EReal.coe_mul]
    rw [h1, hs, h0, sub_eq_add_neg,
      EReal.left_distrib_of_nonneg_of_ne_top (EReal.coe_nonneg.mpr hq.le) (EReal.coe_ne_top q)]
    generalize ∑ i, x i * d i = s
    have ht : x j * (s * (((-1 / 2 : ℝ) : EReal) * ((q * (q * q) : ℝ) : EReal)) * (c : EReal)) =
        x j * s * ((-1 / 2 * (q * (q * q)) * c : ℝ) : EReal) := by
      push_cast; ac_rfl
    have ht' : s * (((-1 / 2 : ℝ) : EReal) * ((q * (q * q) : ℝ) : EReal)) * (c : EReal) * x j =
        x j * s * ((-1 / 2 * (q * (q * q)) * c : ℝ) : EReal) := by
      push_cast; ac_rfl
    have hk : (q : EReal) * -(x j * (q : EReal) * (s * (q : EReal) * (c : EReal))) =
        x j * s * ((-(q * (q * q) * c) : ℝ) : EReal) := by
      rw [mul_neg, EReal.coe_neg, mul_neg]
      congr 1
      push_cast; ac_rfl
    rw [ht, ht', hk, add_assoc, twice, mul_comm (d j), mul_assoc (x j * s), ← EReal.coe_mul]
    congr 4
    ring

/-! ## Arrays of rows -/

theorem word_zero : Ideal.ofBits .f32 0x00000000#32 = 0 := by
  simp [Ideal.ofBits, Ideal.ieee]

theorem word_width : Ideal.ofBits .f32 0x44800000#32 = ((1024 : ℝ) : EReal) := by
  simp [Ideal.ofBits, Ideal.ieee, -EReal.coe_mul]; norm_num

theorem word_eps : Ideal.ofBits .f32 0x358637BD#32 = ((8796093 / 8796093022208 : ℝ) : EReal) := by
  simp [Ideal.ofBits, Ideal.ieee, -EReal.coe_mul]; norm_num

theorem word_minus_half : Ideal.ofBits .f32 0xBF000000#32 = ((-1 / 2 : ℝ) : EReal) := by
  simp [Ideal.ofBits, Ideal.ieee, -EReal.coe_mul]; norm_num

/-- Dividing by the width of a row. -/
theorem over_width (x : EReal) : Ideal.div x (Ideal.ofBits .f32 0x44800000#32) = x * ((1 / 1024 : ℝ) : EReal) := by
  rw [word_width, Ideal.div_coe (by norm_num)]

variable {R C : Nat}

/-- An array of `R` rows. -/
abbrev Rows (R C : Nat) : Type := (⟨2, ![R, C]⟩ : Shape).Idx → EReal

/-- The mean square of row `i`, and `ε`. -/
abbrev mean (x : Rows R 1024) (i : Fin R) : EReal :=
  Ideal.div (∑ k, x (ix2 i k) * x (ix2 i k)) (Ideal.ofBits .f32 0x44800000#32) + Ideal.ofBits .f32 0x358637BD#32

/-- What row `i` is multiplied by. -/
abbrev scale (x : Rows R 1024) (i : Fin R) : EReal := Ideal.rsqrt (mean x i)

/-- A gain times every row. -/
abbrev gained (x : Rows R C) (g : Rows 1 C) : Rows R C := fun j => x j * g (ix2 0 (j 1))

/-- The gradient at the rows, from the gradient `d` at the rows normalised. -/
abbrev rowsBack (d x : Rows R 1024) : Rows R 1024 := fun j =>
  scale x (j 0) * (d j - x j * scale x (j 0) *
    Ideal.div (∑ k, d (ix2 (j 0) k) * (x (ix2 (j 0) k) * scale x (j 0))) (Ideal.ofBits .f32 0x44800000#32))

/-- The gradient at the gain, from the gradient `d` at the result. -/
abbrev gainBack (d x : Rows R 1024) : Rows 1 1024 := fun j => ∑ i, d (ix2 i (j 1)) * (x (ix2 i (j 1)) * scale x i)

theorem gain_turned (d x : Rows R 1024) (j : (⟨2, ![1, 1024]⟩ : Shape).Idx) :
    ∑ i, x (ix2 i (j 1)) * scale x i * d (ix2 i (j 1)) = gainBack d x j :=
  Finset.sum_congr rfl fun _ _ => mul_comm _ _

/-- The derivative of row `i`'s mean square, doubled by its two uses below. -/
abbrev slope (d x : Rows R 1024) (i : Fin R) : EReal :=
  Ideal.div ((∑ k, x (ix2 i k) * d (ix2 i k)) * (Ideal.ofBits .f32 0xBF000000#32 * Ideal.div (scale x i) (mean x i)))
    (Ideal.ofBits .f32 0x44800000#32)

/-- The chain rule's form of the gradient at the rows is the same. -/
theorem chain_eq (d x : Rows R 1024) (j : (⟨2, ![R, 1024]⟩ : Shape).Idx) :
    d j * scale x (j 0) + x j * slope d x (j 0) + slope d x (j 0) * x j = rowsBack d x j := by
  have key (i : Fin R) (k : Fin 1024) : d (ix2 i k) * scale x i + x (ix2 i k) * slope d x i + slope d x i * x (ix2 i k) =
      rowsBack d x (ix2 i k) := by
    have h := back (fun k => x (ix2 i k)) (fun k => d (ix2 i k)) (1 / 1024) (8796093 / 8796093022208) (by norm_num) (by norm_num)
      (mean x i) (scale x i) (by rw [← over_width, ← word_eps]) rfl k
    rw [← over_width, ← over_width, ← word_minus_half] at h
    exact h.symm
  rw [show j = ix2 (j 0) (j 1) from funext fun a => match a with | ⟨0, _⟩ => rfl | ⟨1, _⟩ => rfl]
  exact key _ _

/-! ## Tiles of 512 rows -/

/-- Row `p` of tile `t`. -/
abbrev tileRow (t : Fin 4) (p : Fin 512) : Fin 2048 := ⟨512 * t.val + p.val, by omega⟩

/-- Tile `t` of an array. -/
abbrev tile {α : Type} (x : (⟨2, ![2048, C]⟩ : Shape).Idx → α) (t : Fin 4) : (⟨2, ![512, C]⟩ : Shape).Idx → α :=
  fun y => x (ix2 (tileRow t (y 0)) (y 1))

/-- Row and column `y` of tile `t` of rows. -/
theorem row_at {w : Fin 2 → Nat} {t : Fin 4} {i : (⟨2, ![2048, C]⟩ : Shape).Idx} {y : (⟨2, ![512, C]⟩ : Shape).Idx}
    (h : w = ![t.val, 0]) (e0 : (i 0).val = w 0 * 512 + 1 * (y 0).val) (e1 : (i 1).val = w 1 * C + 1 * (y 1).val) :
    i = ix2 (tileRow t (y 0)) (y 1) := by
  rw [h] at e0 e1
  funext a
  match a with
  | ⟨0, _⟩ => exact Fin.ext (e0.trans (by show t.val * 512 + 1 * (y 0).val = 512 * t.val + (y 0).val; omega))
  | ⟨1, _⟩ => exact Fin.ext (e1.trans (by show 0 * C + 1 * (y 1).val = (y 1).val; omega))

/-- The block of an array that is the whole array. -/
theorem whole_at {w : Fin 2 → Nat} {i y : (⟨2, ![R, C]⟩ : Shape).Idx}
    (h : w = ![0, 0]) (e0 : (i 0).val = w 0 * R + 1 * (y 0).val) (e1 : (i 1).val = w 1 * C + 1 * (y 1).val) : i = y := by
  rw [h] at e0 e1
  funext a
  match a with
  | ⟨0, _⟩ => exact Fin.ext (e0.trans (by show 0 * R + 1 * (y 0).val = (y 0).val; omega))
  | ⟨1, _⟩ => exact Fin.ext (e1.trans (by show 0 * C + 1 * (y 1).val = (y 1).val; omega))

/-- A sum over all rows, tile by tile. -/
theorem sum_tiles (f : Fin 2048 → EReal) : ∑ i, f i =
    ∑ p, f (tileRow 0 p) + ∑ p, f (tileRow 1 p) + ∑ p, f (tileRow 2 p) + ∑ p, f (tileRow 3 p) := by
  rw [← Fin.sum_univ_four (fun t => ∑ p, f (tileRow t p)), ← Fintype.sum_prod_type' (f := fun t p => f (tileRow t p))]
  refine (Fintype.sum_equiv (finProdFinEquiv (m := 4) (n := 512)) _ _ fun q => congrArg f (Fin.ext ?_)).symm
  show 512 * q.1.val + q.2.val = q.2.val + 512 * q.1.val
  omega

/-- The gradient at the gain is the four tiles' parts, added from zero. -/
theorem gain_tiles (d x : Rows 2048 1024) (j : (⟨2, ![1, 1024]⟩ : Shape).Idx) :
    0 + gainBack (tile d 0) (tile x 0) j + gainBack (tile d 1) (tile x 1) j + gainBack (tile d 2) (tile x 2) j
      + gainBack (tile d 3) (tile x 3) j = gainBack d x j := by
  rw [zero_add]
  exact (sum_tiles fun i => d (ix2 i (j 1)) * (x (ix2 i (j 1)) * scale x i)).symm

/-! ## The last block and the loss -/

theorem word_unit : Ideal.ofBits .f32 0x3A800000#32 = ((1 / 1024 : ℝ) : EReal) := by
  simp [Ideal.ofBits, Ideal.ieee, -EReal.coe_mul]; norm_num

theorem word_half_unit : Ideal.ofBits .f32 0x3A000000#32 = ((1 / 2048 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

/-- The rows' product with a matrix. -/
abbrev product {K : Nat} (f : Rows R K) (w : Rows K C) : Rows R C := fun j => ∑ k, f (ix2 (j 0) k) * w (ix2 k (j 1))

/-- How far the rows `x`, with the rows `o` normalised added to them, are from the target. -/
abbrev missed (o x t : Rows R 1024) (g : Rows 1 1024) : Rows R 1024 := fun j =>
  x j + o j * scale o (j 0) * g (ix2 0 (j 1)) - t j

/-- The loss's derivative at that. -/
abbrev pull (e : Rows R 1024) : Rows R 1024 := fun j => e j * Ideal.ofBits .f32 0x3A800000#32

/-- The sum of all squares. -/
abbrev squares (e : Rows R 1024) : EReal := ∑ i, ∑ k, e (ix2 i k) * e (ix2 i k)

/-- The chain rule's form of the loss's derivative. -/
theorem pull_eq (e : EReal) :
    Ideal.div (Ideal.ofBits .f32 0x3F000000#32) (Ideal.ofBits .f32 0x44800000#32)
      * (Ideal.ofBits .f32 0x40000000#32 * e) = e * Ideal.ofBits .f32 0x3A800000#32 := by
  rw [over_width, word_half, word_two, word_unit, ← mul_assoc, ← EReal.coe_mul, ← EReal.coe_mul, mul_comm]
  norm_num

/-- The loss: the four tiles' parts, added from zero, against half the sum of the rows' means. -/
theorem loss_tiles (e : Rows 2048 1024) :
    0 + Ideal.ofBits .f32 0x3A000000#32 * squares (tile e 0) + Ideal.ofBits .f32 0x3A000000#32 * squares (tile e 1)
      + Ideal.ofBits .f32 0x3A000000#32 * squares (tile e 2) + Ideal.ofBits .f32 0x3A000000#32 * squares (tile e 3) =
    Ideal.ofBits .f32 0x3F000000#32 * ∑ i, Ideal.div (∑ k, e (ix2 i k) * e (ix2 i k)) (Ideal.ofBits .f32 0x44800000#32) := by
  have h : squares e = squares (tile e 0) + squares (tile e 1) + squares (tile e 2) + squares (tile e 3) :=
    sum_tiles fun i => ∑ k, e (ix2 i k) * e (ix2 i k)
  simp only [over_width]
  rw [sum_mul _ _ (by norm_num), word_half, mul_comm ((1 / 2 : ℝ) : EReal), mul_assoc, ← EReal.coe_mul]
  refine Eq.trans ?_ (congrArg (· * _) h.symm)
  rw [word_half_unit, zero_add, mul_comm _ (squares (tile e 0)), mul_comm _ (squares (tile e 1)), mul_comm _ (squares (tile e 2)),
    mul_comm _ (squares (tile e 3))]
  have hd (a b : EReal) : (a + b) * ((1 / 2048 : ℝ) : EReal) = a * ((1 / 2048 : ℝ) : EReal) + b * ((1 / 2048 : ℝ) : EReal) :=
    EReal.right_distrib_of_nonneg_of_ne_top (EReal.coe_nonneg.mpr (by norm_num : (0 : ℝ) ≤ 1 / 2048)) (EReal.coe_ne_top _) a b
  rw [← hd, ← hd, ← hd]
  norm_num

end Cert.Rms

end
-- ==== Proof.NormBack.lean ====
module

public import proofs.«01_k».proof.Proof.Gen.NormBack.Frame
public import proofs.«01_k».proof.Proof.Gen.NormBackIdeal.Value
public import proofs.«01_k».proof.Proof.Gen.NormBackRefIdeal.Run
public import proofs.«01_k».proof.Proof.Rms
public import proofs.«01_k».proof.Proof.Total
public import Idealize.ShloMosaic.Lib.Quiescent
public import Idealize.ShloMosaic.Lib.Tactic

@[expose] public section

noncomputable section

open Idealize.ShloMosaic Idealize.ShloMosaic.TcCoe Idealize.SL.Sem Cert.Total Cert.Rms

namespace Cert.Proof.NormBack

open Cert.NormBackIdeal Cert.NormBackIdeal.Gen Cert.NormBackIdeal.Value

theorem frame : Cert.quiescent_NormBack := fun m g _ => Cert.NormBack.Gen.frame m g

theorem frame_ideal : Cert.quiescent_NormBackIdeal := fun m g _ => Cert.NormBackIdeal.Gen.frame m g

theorem frame_ref_ideal : Cert.quiescent_NormBackRefIdeal := fun m g _ =>
  (θ_run Cert.NormBackRefIdeal.defs _ _).mono (fun r h => ⟨fun c => (h c).2.2, sem_eq_zero_of_no_sems (by decide) r.2⟩)
    (Cert.NormBackRefIdeal.Value.run (F := Ideal) m g)

theorem origin : (![0, 0] : Fin 2 → Nat) = fun _ => 0 := funext fun a => by fin_cases a <;> rfl

section Point

variable (c : Dev nD) (i : grid0.Coords) (a1 : Memref sig .tc .vmem S512x1024 .f32) (h1 : a1.IsWhole)
  (a2 : Memref sig .tc .vmem S512x1024 .f32) (h2 : a2.IsWhole) (a3 : Memref sig .tc .vmem S512x1024 .f32) (h3 : a3.IsWhole)
  (a4 : Memref sig .tc .vmem S1x1024 .f32) (h4 : a4.IsWhole) (a5 : Memref sig .tc .vmem S512x1024 .f32) (h5 : a5.IsWhole)
  (a6 : Memref sig .tc .vmem S1x1024 .f32) (h6 : a6.IsWhole) (dh x dx2 : Vec Ideal S512x1024 .f32) (g acc : Vec Ideal S1x1024 .f32)

/-- At the first point the body writes the tile of the gradient, and starts the gain's sum at zero. -/
theorem first_tile (hc : cond0_0 i) :
    out0_A_4 c i a1 h1 a2 h2 a3 h3 a4 h4 a5 h5 a6 h6 hc dh x dx2 g = k0_pay4 x g dh dx2 := by
  unfold out0_A_4
  rw [View.read_writes_eq_canon _ _ _ (cover0_A_4 c i a1 h1 a2 h2 a3 h3 a4 h4 a5 h5 a6 h6 hc dh x dx2 g)]
  unfold kernelRun0_A
  dsimp only
  sl_unfold_words
  rw [View.canon_unit_zero origin]
  simp only [View.readAt_eq_ld, h1.read_unread, h2.read_unread, h3.read_unread, h4.read_unread,
    View.ld_unit_zero (S := S512x1024) origin, View.ld_unit_zero (S := S1x1024) origin]

theorem first_gain (hc : cond0_0 i) :
    out0_A_5 c i a1 h1 a2 h2 a3 h3 a4 h4 a5 h5 a6 h6 hc dh x dx2 g = k0_pay5 x dh (k0_pay1 (F := Ideal)) := by
  unfold out0_A_5
  rw [View.read_writes_eq_canon _ _ _ (cover0_A_5 c i a1 h1 a2 h2 a3 h3 a4 h4 a5 h5 a6 h6 hc dh x dx2 g)]
  unfold kernelRun0_A
  dsimp only
  sl_unfold_words
  rw [View.canon_cons_unit_zero (S := S1x1024) origin, View.readCov_unit_zero (S := S1x1024) _ origin]
  simp only [View.readAt_eq_ld, h1.read_unread, h2.read_unread, View.ld_unit_zero (S := S512x1024) origin]

/-- At a later point it adds the tile's part to what the point before left. -/
theorem next_tile (hc : ¬cond0_0 i) :
    out0_B_4 c i a1 h1 a2 h2 a3 h3 a4 h4 a5 h5 a6 h6 hc dh x dx2 g acc = k0_pay4 x g dh dx2 := by
  unfold out0_B_4
  rw [View.read_writes_eq_canon _ _ _ (cover0_B_4 c i a1 h1 a2 h2 a3 h3 a4 h4 a5 h5 a6 h6 hc dh x dx2 g acc)]
  unfold kernelRun0_B
  dsimp only
  rw [View.canon_unit_zero origin]
  simp only [View.readAt_eq_ld, h1.read_unread, h2.read_unread, h3.read_unread, h4.read_unread,
    View.ld_unit_zero (S := S512x1024) origin, View.ld_unit_zero (S := S1x1024) origin]

theorem next_gain (hc : ¬cond0_0 i) :
    out0_B_5 c i a1 h1 a2 h2 a3 h3 a4 h4 a5 h5 a6 h6 hc dh x dx2 g acc = k0_pay5 x dh acc := by
  unfold out0_B_5
  rw [View.read_writes_eq_canon _ _ _ (cover0_B_5 c i a1 h1 a2 h2 a3 h3 a4 h4 a5 h5 a6 h6 hc dh x dx2 g acc)]
  unfold kernelRun0_B
  dsimp only
  rw [View.canon_unit_zero origin]
  sl_unfold_words
  simp only [View.readAt_eq_ld, h1.read_unread, h2.read_unread, h6.read_unread, View.ld_unit_zero (S := S512x1024) origin,
    View.ld_unit_zero (S := S1x1024) origin]

end Point

/-- What one point computes. -/
theorem tile_value (dh x dx2 : Vec Ideal S512x1024 .f32) (g : Vec Ideal S1x1024 .f32) :
    k0_pay4 x g dh dx2 = fun j => dx2 j + rowsBack (gained dh g) x j := by
  funext j
  pointwise [k0_pay4, k0_pay3, k0_pay2]
  rfl

theorem gain_value (dh x : Vec Ideal S512x1024 .f32) (acc : Vec Ideal S1x1024 .f32) :
    k0_pay5 x dh acc = fun j => acc j + gainBack dh x j := by
  funext j
  pointwise [k0_pay5, k0_pay3, k0_pay2]

variable (m : (ℓ : Loc nD τ sig) → Buf (Elt Ideal) ℓ)

abbrev arg0 (c : Dev nD) : Rows 2048 1024 := m ((c : Thread nD τ).loc main_arg0)

abbrev arg1 (c : Dev nD) : Rows 2048 1024 := m ((c : Thread nD τ).loc main_arg1)

abbrev arg2 (c : Dev nD) : Rows 2048 1024 := m ((c : Thread nD τ).loc main_arg2)

abbrev arg3 (c : Dev nD) : Rows 1 1024 := m ((c : Thread nD τ).loc main_arg3)

/-- Point `t` has tile `t` of the rows, and the whole gain. -/
theorem places : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

theorem block0 (c : Dev nD) (t : Fin 4) : iblk m c 0 t = tile (arg0 m c) t :=
  funext fun y => congrArg (V m c main_arg0) (row_at (y := y) (places t).1 rfl rfl)

theorem block1 (c : Dev nD) (t : Fin 4) : iblk m c 1 t = tile (arg1 m c) t :=
  funext fun y => congrArg (V m c main_arg1) (row_at (y := y) (places t).2.1 rfl rfl)

theorem block2 (c : Dev nD) (t : Fin 4) : iblk m c 2 t = tile (arg2 m c) t :=
  funext fun y => congrArg (V m c main_arg2) (row_at (y := y) (places t).2.2.1 rfl rfl)

theorem block3 (c : Dev nD) (t : Fin 4) : iblk m c 3 t = arg3 m c :=
  funext fun y => congrArg (V m c main_arg3) (whole_at (y := y) (places t).2.2.2.1 rfl rfl)

/-- What every point leaves in the gradient's staging buffer. -/
theorem tile_left (c : Dev nD) (t : Fin cfg0.N) :
    (outsAt0 m c t.val t.isLt).1 = k0_pay4 (iblk m c 1 t) (iblk m c 3 t) (iblk m c 0 t) (iblk m c 2 t) := by
  by_cases h : t.val % 4 = 0
  · rw [outsAt0_A m c t h]; dsimp only; rw [first_tile]
  · rw [outsAt0_B m c t h]; dsimp only; rw [next_tile]

theorem gain_first (c : Dev nD) (h : 0 < cfg0.N) :
    (outsAt0 m c 0 h).2 = k0_pay5 (iblk m c 1 ⟨0, h⟩) (iblk m c 0 ⟨0, h⟩) (k0_pay1 (F := Ideal)) := by
  have e := congrArg Prod.snd (outsAt0_A m c ⟨0, h⟩ rfl)
  dsimp only at e
  rw [e, first_gain]

theorem gain_next (c : Dev nD) (n : ℕ) (h : n + 1 < cfg0.N) :
    (outsAt0 m c (n + 1) h).2 =
      k0_pay5 (iblk m c 1 ⟨n + 1, h⟩) (iblk m c 0 ⟨n + 1, h⟩) (outsAt0 m c n (Nat.lt_of_succ_lt h)).2 := by
  have h4 : cfg0.N = 4 := N_0
  have e := congrArg Prod.snd (outsAt0_B m c ⟨n + 1, h⟩ (by dsimp only; omega))
  dsimp only at e
  rw [e, next_gain]
  rfl

/-- After the last point the gain's buffer has the sum over all rows. -/
theorem gain_last (c : Dev nD) (h : 3 < cfg0.N) : (outsAt0 m c 3 h).2 =
    gainBack (arg0 m c) (arg1 m c) := by
  rw [gain_next, gain_next, gain_next, gain_first]
  simp only [gain_value]
  funext j
  refine Eq.trans ?_ (gain_tiles _ _ j)
  rw [← block0 m c 0, ← block0 m c 1, ← block0 m c 2, ← block0 m c 3, ← block1 m c 0, ← block1 m c 1, ← block1 m c 2, ← block1 m c 3]
  show k0_pay1 (F := Ideal) j + _ + _ + _ + _ = _
  rw [show k0_pay1 (F := Ideal) j = 0 from word_zero]
  rfl

theorem whole_dx (c : Dev nD) : (dats m 0 c).arrAt 4 cfg0.N = fun j => arg2 m c j +
    rowsBack (gained (arg0 m c) (arg3 m c)) (arg1 m c) j := by
  refine (dats m 0 c).arrAt_eq_of_cover 4 _ (fun t _ => ?_) fun i => ?_
  · rw [flushed4, tile_left, tile_value, block0 m c t, block1 m c t, block2 m c t, block3 m c t]
    refine funext fun y => ?_
    show _ = (fun j => arg2 m c j + rowsBack (gained (arg0 m c)
      (arg3 m c)) (arg1 m c) j) (((cfg0.win 4).blk t).view.emb y)
    rw [row_at (t := t) (y := y) (i := ((cfg0.win 4).blk t).view.emb y) (places t).2.2.2.2.1 rfl rfl]
    rfl
  · have h0 : (i 0).val < 2048 := (i 0).isLt
    let t : Fin cfg0.N := ⟨(i 0).val / 512, by show _ < 4; omega⟩
    refine ⟨t, flush0_4 t, ?_⟩
    show i ∈ ((View.whole main_v0_0).slice (win0_4.rect t)).set
    rw [View.set_slice_whole, Rect.mem_set_unit]
    exact in_tile i (by decide) (places t).2.2.2.2.1

theorem whole_dg (c : Dev nD) : (dats m 0 c).arrAt 5 cfg0.N =
    gainBack (arg0 m c) (arg1 m c) := by
  have h4 : cfg0.N = 4 := N_0
  refine (dats m 0 c).arrAt_eq_of_cover 5 _ (fun t hf => ?_) fun i => ?_
  · have h3 : t.val = 3 := by have := (flush0_5 t).mp hf; have := t.isLt; omega
    obtain rfl : t = t0_3 := Fin.ext h3
    rw [flushed5]
    refine (congrArg ((cfg0.win 5).cut (grid0.coords t0_3)) (gain_last m c t0_3.isLt)).trans ?_
    refine funext fun y => ?_
    exact (congrArg (gainBack (arg0 m c) (arg1 m c))
      (whole_at (y := y) (i := ((cfg0.win 5).blk t0_3).view.emb y) (places t0_3).2.2.2.2.2 rfl rfl)).symm
  · refine ⟨t0_3, (flush0_5 t0_3).mpr rfl, ?_⟩
    show i ∈ ((View.whole main_v0_1).slice (win0_5.rect t0_3)).set
    rw [View.set_slice_whole, Rect.mem_set_unit]
    exact in_tile i (by decide) ((places t0_3).2.2.2.2.2.trans (by rw [show (i 0).val / 1 = 0 by have : (i 0).val < 1 := (i 0).isLt; omega]))

theorem algebraic : Cert.algebraic_NormBackIdeal_NormBackRefIdeal := by
  intro m g m' g' _ agree
  refine ⟨_, _, (θ_run defs _ _).mono (fun _ h c => ⟨(h c).1.trans (whole_dx m c), (h c).2.1.trans (whole_dg m c), (h c).2.2⟩)
    (run_blocks (F := Ideal) m g), ?_⟩
  refine (θ_run Cert.NormBackRefIdeal.defs _ _).mono (fun _ h c => ⟨(h c).1.trans ?_, (h c).2.1.trans ?_, (h c).2.2⟩)
    (Cert.NormBackRefIdeal.Value.run (F := Ideal) m' g')
  · rw [(agree c).1, (agree c).2.1, (agree c).2.2.1, (agree c).2.2.2]
    funext j
    pointwise []
    simp only [Fin.sum_univ_one]
    exact congrArg (arg2 m c j + ·) (chain_eq (gained (arg0 m c) (arg3 m c)) (arg1 m c) j)
  · rw [(agree c).1, (agree c).2.1]
    funext j
    pointwise []
    exact Finset.sum_congr rfl fun i _ => mul_comm _ _

end Cert.Proof.NormBack

end
-- ==== Proof.LastStep.lean ====
module

public import proofs.«01_k».proof.Proof.Gen.LastStep.Frame
public import proofs.«01_k».proof.Proof.Gen.LastStepIdeal.Value
public import proofs.«01_k».proof.Proof.Gen.LastStepRefIdeal.Run
public import proofs.«01_k».proof.Proof.Rms
public import proofs.«01_k».proof.Proof.Total
public import Idealize.ShloMosaic.Lib.Quiescent
public import Idealize.ShloMosaic.Lib.Tactic

@[expose] public section

noncomputable section

open Idealize.ShloMosaic Idealize.ShloMosaic.TcCoe Idealize.SL.Sem Cert.Total Cert.Rms

namespace Cert.Proof.LastStep

open Cert.LastStepIdeal Cert.LastStepIdeal.Gen Cert.LastStepIdeal.Value

theorem frame : Cert.quiescent_LastStep := fun m g _ => Cert.LastStep.Gen.frame m g

theorem frame_ideal : Cert.quiescent_LastStepIdeal := fun m g _ => Cert.LastStepIdeal.Gen.frame m g

theorem frame_ref_ideal : Cert.quiescent_LastStepRefIdeal := fun m g _ =>
  (θ_run Cert.LastStepRefIdeal.defs _ _).mono (fun r h => ⟨fun c => (h c).2.2.2.2, sem_eq_zero_of_no_sems (by decide) r.2⟩)
    (Cert.LastStepRefIdeal.Value.run (F := Ideal) m g)

theorem origin : (![0, 0] : Fin 2 → Nat) = fun _ => 0 := funext fun a => by fin_cases a <;> rfl

section Point

variable (c : Dev nD) (i : grid0.Coords) (a1 : Memref sig .tc .vmem S512x3072 .bf16) (h1 : a1.IsWhole)
  (a2 : Memref sig .tc .vmem S3072x1024 .bf16) (h2 : a2.IsWhole) (a3 : Memref sig .tc .vmem S512x1024 .f32) (h3 : a3.IsWhole)
  (a4 : Memref sig .tc .vmem S512x1024 .f32) (h4 : a4.IsWhole) (a5 : Memref sig .tc .vmem S1x1024 .f32) (h5 : a5.IsWhole)
  (a6 : Memref sig .tc .vmem S512x1024 .f32) (h6 : a6.IsWhole) (a7 : Memref sig .tc .vmem S512x1024 .bf16) (h7 : a7.IsWhole)
  (a8 : Memref sig .tc .vmem S1x128 .f32) (h8 : a8.IsWhole) (a9 : Memref sig .tc .vmem S1x1024 .f32) (h9 : a9.IsWhole)
  (f : Vec Ideal S512x3072 .bf16) (w : Vec Ideal S3072x1024 .bf16) (x2 tg : Vec Ideal S512x1024 .f32) (g : Vec Ideal S1x1024 .f32)
  (ls : Vec Ideal S1x128 .f32) (gs : Vec Ideal S1x1024 .f32)

/-- 1 / 1024, as the kernel's word. -/
abbrev unit : Ideal .f32 := Scalar.ofBits .f32 0x3A800000#32

/-- At the first point the body writes the tile of each gradient, and starts the two sums at zero. -/
theorem first_dy (hc : cond0_0 i) : out0_A_5 c i a1 h1 a2 h2 a3 h3 a4 h4 a5 h5 a6 h6 a7 h7 a8 h8 a9 h9 hc f w x2 tg g =
    k0_pay1 (k0_pay9 f w x2 g tg) unit := by
  unfold out0_A_5
  rw [View.read_writes_eq_canon _ _ _ (cover0_A_5 c i a1 h1 a2 h2 a3 h3 a4 h4 a5 h5 a6 h6 a7 h7 a8 h8 a9 h9 hc f w x2 tg g)]
  unfold kernelRun0_A
  dsimp only
  sl_unfold_words
  rw [View.canon_unit_zero origin]
  simp only [View.readAt_eq_ld, h1.read_unread, h2.read_unread, h3.read_unread, h4.read_unread, h5.read_unread,
    View.ld_unit_zero (S := S512x3072) origin, View.ld_unit_zero (S := S3072x1024) origin, View.ld_unit_zero (S := S512x1024) origin,
    View.ld_unit_zero (S := S1x1024) origin]

theorem first_dout (hc : cond0_0 i) : out0_A_6 c i a1 h1 a2 h2 a3 h3 a4 h4 a5 h5 a6 h6 a7 h7 a8 h8 a9 h9 hc f w x2 tg g =
    k0_pay2 (k0_pay7 f w) (k0_pay8 f w) (k0_pay9 f w x2 g tg) unit g := by
  unfold out0_A_6
  rw [View.read_writes_eq_canon _ _ _ (cover0_A_6 c i a1 h1 a2 h2 a3 h3 a4 h4 a5 h5 a6 h6 a7 h7 a8 h8 a9 h9 hc f w x2 tg g)]
  unfold kernelRun0_A
  dsimp only
  sl_unfold_words
  rw [View.canon_unit_zero origin]
  simp only [View.readAt_eq_ld, h1.read_unread, h2.read_unread, h3.read_unread, h4.read_unread, h5.read_unread,
    View.ld_unit_zero (S := S512x3072) origin, View.ld_unit_zero (S := S3072x1024) origin, View.ld_unit_zero (S := S512x1024) origin,
    View.ld_unit_zero (S := S1x1024) origin]

theorem first_loss (hc : cond0_0 i) : out0_A_7 c i a1 h1 a2 h2 a3 h3 a4 h4 a5 h5 a6 h6 a7 h7 a8 h8 a9 h9 hc f w x2 tg g =
    k0_pay10 f w x2 g tg (k0_pay4 (F := Ideal)) := by
  unfold out0_A_7
  rw [View.read_writes_eq_canon _ _ _ (cover0_A_7 c i a1 h1 a2 h2 a3 h3 a4 h4 a5 h5 a6 h6 a7 h7 a8 h8 a9 h9 hc f w x2 tg g)]
  unfold kernelRun0_A
  dsimp only
  sl_unfold_words
  rw [View.canon_cons_unit_zero (S := S1x128) origin, View.readCov_unit_zero (S := S1x128) _ origin]
  simp only [View.readAt_eq_ld, h1.read_unread, h2.read_unread, h3.read_unread, h4.read_unread, h5.read_unread,
    View.ld_unit_zero (S := S512x3072) origin, View.ld_unit_zero (S := S3072x1024) origin, View.ld_unit_zero (S := S512x1024) origin,
    View.ld_unit_zero (S := S1x1024) origin]

theorem first_gain (hc : cond0_0 i) : out0_A_8 c i a1 h1 a2 h2 a3 h3 a4 h4 a5 h5 a6 h6 a7 h7 a8 h8 a9 h9 hc f w x2 tg g =
    k0_pay3 (k0_pay8 f w) (k0_pay9 f w x2 g tg) unit (k0_pay5 (F := Ideal)) := by
  unfold out0_A_8
  rw [View.read_writes_eq_canon _ _ _ (cover0_A_8 c i a1 h1 a2 h2 a3 h3 a4 h4 a5 h5 a6 h6 a7 h7 a8 h8 a9 h9 hc f w x2 tg g)]
  unfold kernelRun0_A
  dsimp only
  sl_unfold_words
  rw [View.canon_cons_unit_zero (S := S1x1024) origin, View.readCov_unit_zero (S := S1x1024) _ origin]
  simp only [View.readAt_eq_ld, h1.read_unread, h2.read_unread, h3.read_unread, h4.read_unread, h5.read_unread,
    View.ld_unit_zero (S := S512x3072) origin, View.ld_unit_zero (S := S3072x1024) origin, View.ld_unit_zero (S := S512x1024) origin,
    View.ld_unit_zero (S := S1x1024) origin]

/-- At a later point it adds the tile's parts to what the point before left. -/
theorem next_dy (hc : ¬cond0_0 i) : out0_B_5 c i a1 h1 a2 h2 a3 h3 a4 h4 a5 h5 a6 h6 a7 h7 a8 h8 a9 h9 hc f w x2 tg g ls gs =
    k0_pay1 (k0_pay9 f w x2 g tg) unit := by
  unfold out0_B_5
  rw [View.read_writes_eq_canon _ _ _ (cover0_B_5 c i a1 h1 a2 h2 a3 h3 a4 h4 a5 h5 a6 h6 a7 h7 a8 h8 a9 h9 hc f w x2 tg g ls gs)]
  unfold kernelRun0_B
  dsimp only
  sl_unfold_words
  rw [View.canon_unit_zero origin]
  simp only [View.readAt_eq_ld, h1.read_unread, h2.read_unread, h3.read_unread, h4.read_unread, h5.read_unread,
    View.ld_unit_zero (S := S512x3072) origin, View.ld_unit_zero (S := S3072x1024) origin, View.ld_unit_zero (S := S512x1024) origin,
    View.ld_unit_zero (S := S1x1024) origin]

theorem next_dout (hc : ¬cond0_0 i) : out0_B_6 c i a1 h1 a2 h2 a3 h3 a4 h4 a5 h5 a6 h6 a7 h7 a8 h8 a9 h9 hc f w x2 tg g ls gs =
    k0_pay2 (k0_pay7 f w) (k0_pay8 f w) (k0_pay9 f w x2 g tg) unit g := by
  unfold out0_B_6
  rw [View.read_writes_eq_canon _ _ _ (cover0_B_6 c i a1 h1 a2 h2 a3 h3 a4 h4 a5 h5 a6 h6 a7 h7 a8 h8 a9 h9 hc f w x2 tg g ls gs)]
  unfold kernelRun0_B
  dsimp only
  sl_unfold_words
  rw [View.canon_unit_zero origin]
  simp only [View.readAt_eq_ld, h1.read_unread, h2.read_unread, h3.read_unread, h4.read_unread, h5.read_unread,
    View.ld_unit_zero (S := S512x3072) origin, View.ld_unit_zero (S := S3072x1024) origin, View.ld_unit_zero (S := S512x1024) origin,
    View.ld_unit_zero (S := S1x1024) origin]

theorem next_loss (hc : ¬cond0_0 i) : out0_B_7 c i a1 h1 a2 h2 a3 h3 a4 h4 a5 h5 a6 h6 a7 h7 a8 h8 a9 h9 hc f w x2 tg g ls gs =
    k0_pay10 f w x2 g tg ls := by
  unfold out0_B_7
  rw [View.read_writes_eq_canon _ _ _ (cover0_B_7 c i a1 h1 a2 h2 a3 h3 a4 h4 a5 h5 a6 h6 a7 h7 a8 h8 a9 h9 hc f w x2 tg g ls gs)]
  unfold kernelRun0_B
  dsimp only
  rw [View.canon_unit_zero origin]
  sl_unfold_words
  simp only [View.readAt_eq_ld, h1.read_unread, h2.read_unread, h3.read_unread, h4.read_unread, h5.read_unread, h8.read_unread,
    View.ld_unit_zero (S := S512x3072) origin, View.ld_unit_zero (S := S3072x1024) origin, View.ld_unit_zero (S := S512x1024) origin,
    View.ld_unit_zero (S := S1x1024) origin, View.ld_unit_zero (S := S1x128) origin]

theorem next_gain (hc : ¬cond0_0 i) : out0_B_8 c i a1 h1 a2 h2 a3 h3 a4 h4 a5 h5 a6 h6 a7 h7 a8 h8 a9 h9 hc f w x2 tg g ls gs =
    k0_pay3 (k0_pay8 f w) (k0_pay9 f w x2 g tg) unit gs := by
  unfold out0_B_8
  rw [View.read_writes_eq_canon _ _ _ (cover0_B_8 c i a1 h1 a2 h2 a3 h3 a4 h4 a5 h5 a6 h6 a7 h7 a8 h8 a9 h9 hc f w x2 tg g ls gs)]
  unfold kernelRun0_B
  dsimp only
  rw [View.canon_unit_zero origin]
  sl_unfold_words
  simp only [View.readAt_eq_ld, h1.read_unread, h2.read_unread, h3.read_unread, h4.read_unread, h5.read_unread, h9.read_unread,
    View.ld_unit_zero (S := S512x3072) origin, View.ld_unit_zero (S := S3072x1024) origin, View.ld_unit_zero (S := S512x1024) origin,
    View.ld_unit_zero (S := S1x1024) origin]

end Point

section Values

variable (f : Vec Ideal S512x3072 .bf16) (w : Vec Ideal S3072x1024 .bf16) (x2 tg : Vec Ideal S512x1024 .f32) (g : Vec Ideal S1x1024 .f32)

/-- What one point computes. -/
theorem out_value : k0_pay6 f w = product f w := by
  funext j
  pointwise [k0_pay6]

theorem normed_value : k0_pay8 f w = fun j => product f w j * scale (product f w) (j 0) := by
  rw [← out_value]
  funext j
  pointwise [k0_pay8, k0_pay7]

theorem missed_value : k0_pay9 f w x2 g tg = missed (product f w) x2 tg g := by
  funext j
  pointwise [k0_pay9]
  rw [normed_value]

theorem pull_value (e : FVec Ideal S512x1024 .f32) : k0_pay1 e unit = pull e := by
  funext j
  pointwise [k0_pay1]

theorem dout_value (e : FVec Ideal S512x1024 .f32) : k0_pay2 (k0_pay7 f w) (k0_pay8 f w) e unit g =
    rowsBack (gained (pull e) g) (product f w) := by
  rw [normed_value]
  funext j
  pointwise [k0_pay2, k0_pay1, k0_pay7]
  rw [out_value]
  rfl

theorem loss_value (ls : Vec Ideal S1x128 .f32) : k0_pay10 f w x2 g tg ls =
    fun j => ls j + Ideal.ofBits .f32 0x3A000000#32 * squares (missed (product f w) x2 tg g) := by
  funext j
  pointwise [k0_pay10]
  rw [missed_value]

theorem gain_value (e : FVec Ideal S512x1024 .f32) (gs : Vec Ideal S1x1024 .f32) : k0_pay3 (k0_pay8 f w) e unit gs =
    fun j => gs j + gainBack (pull e) (product f w) j := by
  rw [normed_value]
  funext j
  pointwise [k0_pay3, k0_pay1]

end Values

variable (m : (ℓ : Loc nD τ sig) → Buf (Elt Ideal) ℓ)

abbrev arg0 (c : Dev nD) : Rows 2048 3072 := m ((c : Thread nD τ).loc main_arg0)

abbrev arg1 (c : Dev nD) : Rows 3072 1024 := m ((c : Thread nD τ).loc main_arg1)

abbrev arg2 (c : Dev nD) : Rows 2048 1024 := m ((c : Thread nD τ).loc main_arg2)

abbrev arg3 (c : Dev nD) : Rows 2048 1024 := m ((c : Thread nD τ).loc main_arg3)

abbrev arg4 (c : Dev nD) : Rows 1 1024 := m ((c : Thread nD τ).loc main_arg4)

/-- The rows before the last norm, and how far the layer's result is from the target. -/
abbrev rows (c : Dev nD) : Rows 2048 1024 := product (arg0 m c) (arg1 m c)

abbrev err (c : Dev nD) : Rows 2048 1024 := missed (rows m c) (arg2 m c) (arg3 m c) (arg4 m c)

/-- Point `t` has tile `t` of the rows, and the whole matrix, gain and sums. -/
theorem places : ∀ t : Fin cfg0.N, (win0_0.index t = ![t.val, 0] ∧ win0_1.index t = ![0, 0] ∧ win0_2.index t = ![t.val, 0]
    ∧ win0_3.index t = ![t.val, 0] ∧ win0_4.index t = ![0, 0]) ∧ win0_5.index t = ![t.val, 0] ∧ win0_6.index t = ![t.val, 0]
    ∧ win0_7.index t = ![0, 0] ∧ win0_8.index t = ![0, 0] :=
  (by decide +kernel : ∀ t : Fin grid0.N, _)

theorem block0 (c : Dev nD) (t : Fin 4) : iblk m c 0 t = tile (arg0 m c) t :=
  funext fun y => congrArg (V m c main_arg0) (row_at (y := y) (places t).1.1 rfl rfl)

theorem block1 (c : Dev nD) (t : Fin 4) : iblk m c 1 t = arg1 m c :=
  funext fun y => congrArg (V m c main_arg1) (whole_at (y := y) (places t).1.2.1 rfl rfl)

theorem block2 (c : Dev nD) (t : Fin 4) : iblk m c 2 t = tile (arg2 m c) t :=
  funext fun y => congrArg (V m c main_arg2) (row_at (y := y) (places t).1.2.2.1 rfl rfl)

theorem block3 (c : Dev nD) (t : Fin 4) : iblk m c 3 t = tile (arg3 m c) t :=
  funext fun y => congrArg (V m c main_arg3) (row_at (y := y) (places t).1.2.2.2.1 rfl rfl)

theorem block4 (c : Dev nD) (t : Fin 4) : iblk m c 4 t = arg4 m c :=
  funext fun y => congrArg (V m c main_arg4) (whole_at (y := y) (places t).1.2.2.2.2 rfl rfl)

theorem rows_tile (c : Dev nD) (t : Fin cfg0.N) : product (iblk m c 0 t) (iblk m c 1 t) = tile (rows m c) t := by
  rw [block0 m c t, block1 m c t]
  rfl

theorem err_tile (c : Dev nD) (t : Fin cfg0.N) :
    missed (tile (rows m c) t) (iblk m c 2 t) (iblk m c 3 t) (iblk m c 4 t) = tile (err m c) t := by
  rw [block2 m c t, block3 m c t, block4 m c t]
  rfl

/-- What every point leaves in the staging buffers of the two gradients at the rows. -/
theorem dy_left (c : Dev nD) (t : Fin cfg0.N) : (outsAt0 m c t.val t.isLt).1 = tile (pull (err m c)) t := by
  have e : (outsAt0 m c t.val t.isLt).1 =
      k0_pay1 (k0_pay9 (iblk m c 0 t) (iblk m c 1 t) (iblk m c 2 t) (iblk m c 4 t) (iblk m c 3 t)) unit := by
    by_cases h : t.val % 4 = 0
    · rw [outsAt0_A m c t h]; dsimp only; rw [first_dy]
    · rw [outsAt0_B m c t h]; dsimp only; rw [next_dy]
  rw [e, pull_value, missed_value, rows_tile, err_tile]

theorem dout_left (c : Dev nD) (t : Fin cfg0.N) :
    (outsAt0 m c t.val t.isLt).2.1 = tile (rowsBack (gained (pull (err m c)) (arg4 m c)) (rows m c)) t := by
  have e : (outsAt0 m c t.val t.isLt).2.1 = k0_pay2 (k0_pay7 (iblk m c 0 t) (iblk m c 1 t)) (k0_pay8 (iblk m c 0 t) (iblk m c 1 t))
      (k0_pay9 (iblk m c 0 t) (iblk m c 1 t) (iblk m c 2 t) (iblk m c 4 t) (iblk m c 3 t)) unit (iblk m c 4 t) := by
    by_cases h : t.val % 4 = 0
    · rw [outsAt0_A m c t h]; dsimp only; rw [first_dout]
    · rw [outsAt0_B m c t h]; dsimp only; rw [next_dout]
  rw [e, dout_value, missed_value, rows_tile, err_tile, block4 m c t]
  rfl

/-- What the loss's buffer gets at a point, and the gain's. -/
theorem loss_first (c : Dev nD) (h : 0 < cfg0.N) : (outsAt0 m c 0 h).2.2.1 =
    fun j => k0_pay4 (F := Ideal) j + Ideal.ofBits .f32 0x3A000000#32 * squares (tile (err m c) 0) := by
  have e := congrArg (fun q => q.2.2.1) (outsAt0_A m c ⟨0, h⟩ rfl)
  dsimp only at e
  rw [e, first_loss, loss_value, rows_tile, err_tile]
  rfl

theorem loss_next (c : Dev nD) (n : ℕ) (h : n + 1 < cfg0.N) (t : Fin 4) (ht : t = ⟨n + 1, h⟩) : (outsAt0 m c (n + 1) h).2.2.1 =
    fun j => (outsAt0 m c n (Nat.lt_of_succ_lt h)).2.2.1 j + Ideal.ofBits .f32 0x3A000000#32 * squares (tile (err m c) t) := by
  subst ht
  have h4 : cfg0.N = 4 := N_0
  have e := congrArg (fun q => q.2.2.1) (outsAt0_B m c ⟨n + 1, h⟩ (by dsimp only; omega))
  dsimp only at e
  rw [e, next_loss, loss_value, rows_tile, err_tile]
  rfl

theorem gain_first (c : Dev nD) (h : 0 < cfg0.N) : (outsAt0 m c 0 h).2.2.2 =
    fun j => k0_pay5 (F := Ideal) j + gainBack (tile (pull (err m c)) 0) (tile (rows m c) 0) j := by
  have e := congrArg (fun q => q.2.2.2) (outsAt0_A m c ⟨0, h⟩ rfl)
  dsimp only at e
  rw [e, first_gain, gain_value, missed_value, rows_tile, err_tile]
  rfl

theorem gain_next (c : Dev nD) (n : ℕ) (h : n + 1 < cfg0.N) (t : Fin 4) (ht : t = ⟨n + 1, h⟩) : (outsAt0 m c (n + 1) h).2.2.2 =
    fun j => (outsAt0 m c n (Nat.lt_of_succ_lt h)).2.2.2 j + gainBack (tile (pull (err m c)) t) (tile (rows m c) t) j := by
  subst ht
  have h4 : cfg0.N = 4 := N_0
  have e := congrArg (fun q => q.2.2.2) (outsAt0_B m c ⟨n + 1, h⟩ (by dsimp only; omega))
  dsimp only at e
  rw [e, next_gain, gain_value, missed_value, rows_tile, err_tile]
  rfl

/-- After the last point the two buffers have the sums over all rows. -/
theorem loss_last (c : Dev nD) (h : 3 < cfg0.N) : (outsAt0 m c 3 h).2.2.1 = fun _ => Ideal.ofBits .f32 0x3F000000#32 *
    ∑ i, Ideal.div (∑ k, err m c (ix2 i k) * err m c (ix2 i k)) (Ideal.ofBits .f32 0x44800000#32) := by
  rw [loss_next m c 2 h 3 rfl, loss_next m c 1 _ 2 rfl, loss_next m c 0 _ 1 rfl, loss_first]
  funext j
  refine Eq.trans ?_ (loss_tiles (err m c))
  show k0_pay4 (F := Ideal) j + _ + _ + _ + _ = _
  rw [show k0_pay4 (F := Ideal) j = 0 from word_zero]

theorem gain_last (c : Dev nD) (h : 3 < cfg0.N) : (outsAt0 m c 3 h).2.2.2 = gainBack (pull (err m c)) (rows m c) := by
  rw [gain_next m c 2 h 3 rfl, gain_next m c 1 _ 2 rfl, gain_next m c 0 _ 1 rfl, gain_first]
  funext j
  refine Eq.trans ?_ (gain_tiles _ _ j)
  show k0_pay5 (F := Ideal) j + _ + _ + _ + _ = _
  rw [show k0_pay5 (F := Ideal) j = 0 from word_zero]

theorem whole_dy (c : Dev nD) : (dats m 0 c).arrAt 5 cfg0.N = pull (err m c) := by
  refine (dats m 0 c).arrAt_eq_of_cover 5 _ (fun t _ => ?_) fun i => ?_
  · rw [flushed5, dy_left]
    exact funext fun y => (congrArg (pull (err m c)) (row_at (t := t) (y := y) (i := ((cfg0.win 5).blk t).view.emb y)
      (places t).2.1 rfl rfl)).symm
  · have h0 : (i 0).val < 2048 := (i 0).isLt
    let t : Fin cfg0.N := ⟨(i 0).val / 512, by show _ < 4; omega⟩
    refine ⟨t, flush0_5 t, ?_⟩
    show i ∈ ((View.whole main_v0_0).slice (win0_5.rect t)).set
    rw [View.set_slice_whole, Rect.mem_set_unit]
    exact in_tile i (by decide) (places t).2.1

theorem whole_dout (c : Dev nD) : (dats m 0 c).arrAt 6 cfg0.N = rowsBack (gained (pull (err m c)) (arg4 m c)) (rows m c) := by
  refine (dats m 0 c).arrAt_eq_of_cover 6 _ (fun t _ => ?_) fun i => ?_
  · rw [flushed6, dout_left]
    exact funext fun y => (congrArg (rowsBack (gained (pull (err m c)) (arg4 m c)) (rows m c)) (row_at (t := t) (y := y)
      (i := ((cfg0.win 6).blk t).view.emb y) (places t).2.2.1 rfl rfl)).symm
  · have h0 : (i 0).val < 2048 := (i 0).isLt
    let t : Fin cfg0.N := ⟨(i 0).val / 512, by show _ < 4; omega⟩
    refine ⟨t, flush0_6 t, ?_⟩
    show i ∈ ((View.whole main_v0_1).slice (win0_6.rect t)).set
    rw [View.set_slice_whole, Rect.mem_set_unit]
    exact in_tile i (by decide) (places t).2.2.1

theorem whole_loss (c : Dev nD) : (dats m 0 c).arrAt 7 cfg0.N = fun _ => Ideal.ofBits .f32 0x3F000000#32 *
    ∑ i, Ideal.div (∑ k, err m c (ix2 i k) * err m c (ix2 i k)) (Ideal.ofBits .f32 0x44800000#32) := by
  have h4 : cfg0.N = 4 := N_0
  refine (dats m 0 c).arrAt_eq_of_cover 7 _ (fun t hf => ?_) fun i => ?_
  · have h3 : t.val = 3 := by have := (flush0_7 t).mp hf; have := t.isLt; omega
    obtain rfl : t = t0_3 := Fin.ext h3
    rw [flushed7]
    exact congrArg ((cfg0.win 7).cut (grid0.coords t0_3)) (loss_last m c t0_3.isLt)
  · refine ⟨t0_3, (flush0_7 t0_3).mpr rfl, ?_⟩
    show i ∈ ((View.whole main_v0_2).slice (win0_7.rect t0_3)).set
    rw [View.set_slice_whole, Rect.mem_set_unit]
    exact in_tile i (by decide) ((places t0_3).2.2.2.1.trans (by rw [show (i 0).val / 1 = 0 by have : (i 0).val < 1 := (i 0).isLt; omega]))

theorem whole_dg (c : Dev nD) : (dats m 0 c).arrAt 8 cfg0.N = gainBack (pull (err m c)) (rows m c) := by
  have h4 : cfg0.N = 4 := N_0
  refine (dats m 0 c).arrAt_eq_of_cover 8 _ (fun t hf => ?_) fun i => ?_
  · have h3 : t.val = 3 := by have := (flush0_8 t).mp hf; have := t.isLt; omega
    obtain rfl : t = t0_3 := Fin.ext h3
    rw [flushed8]
    refine (congrArg ((cfg0.win 8).cut (grid0.coords t0_3)) (gain_last m c t0_3.isLt)).trans ?_
    exact funext fun y => (congrArg (gainBack (pull (err m c)) (rows m c))
      (whole_at (y := y) (i := ((cfg0.win 8).blk t0_3).view.emb y) (places t0_3).2.2.2.2 rfl rfl)).symm
  · refine ⟨t0_3, (flush0_8 t0_3).mpr rfl, ?_⟩
    show i ∈ ((View.whole main_v0_3).slice (win0_8.rect t0_3)).set
    rw [View.set_slice_whole, Rect.mem_set_unit]
    exact in_tile i (by decide) ((places t0_3).2.2.2.2.trans (by rw [show (i 0).val / 1 = 0 by have : (i 0).val < 1 := (i 0).isLt; omega]))

theorem algebraic : Cert.algebraic_LastStepIdeal_LastStepRefIdeal := by
  intro m g m' g' _ agree
  refine ⟨_, _, _, _, (θ_run defs _ _).mono (fun _ h c => ⟨(h c).1.trans (whole_dy m c), (h c).2.1.trans (whole_dout m c),
    (h c).2.2.1.trans (whole_loss m c), (h c).2.2.2.1.trans (whole_dg m c), (h c).2.2.2.2⟩) (run_blocks (F := Ideal) m g), ?_⟩
  refine (θ_run Cert.LastStepRefIdeal.defs _ _).mono (fun _ h c => ⟨(h c).1.trans ?_, (h c).2.1.trans ?_, (h c).2.2.1.trans ?_,
    (h c).2.2.2.1.trans ?_, (h c).2.2.2.2⟩) (Cert.LastStepRefIdeal.Value.run (F := Ideal) m' g')
  · clear * - agree
    rw [(agree c).1, (agree c).2.1, (agree c).2.2.1, (agree c).2.2.2.1, (agree c).2.2.2.2]
    funext j
    pointwise []
    exact pull_eq (err m c j)
  · unfold Cert.LastStepRefIdeal.Value.res_main_v53
    clear * - agree
    rw [(agree c).1, (agree c).2.1, (agree c).2.2.1, (agree c).2.2.2.1, (agree c).2.2.2.2]
    funext j
    pointwise []
    simp only [Fin.sum_univ_one, pull_eq]
    exact chain_eq (gained (pull (err m c)) (arg4 m c)) (rows m c) j
  · clear * - agree
    rw [(agree c).1, (agree c).2.1, (agree c).2.2.1, (agree c).2.2.2.1, (agree c).2.2.2.2]
    funext j
    pointwise []
    rfl
  · clear * - agree
    rw [(agree c).1, (agree c).2.1, (agree c).2.2.1, (agree c).2.2.2.1, (agree c).2.2.2.2]
    funext j
    pointwise []
    simp only [pull_eq]
    exact Finset.sum_congr rfl fun i _ => mul_comm _ _

end Cert.Proof.LastStep

end
-- ==== Proof.MidNorms.lean ====
/-
# The two norms in the middle

The gradient at the second half's norm, taken back to its input and its gain, and with the residual's gradient added, through
the first half's last norm.
-/
module

public import proofs.«01_k».proof.Proof.Gen.MidNorms.Frame
public import proofs.«01_k».proof.Proof.Gen.MidNormsIdeal.Value
public import proofs.«01_k».proof.Proof.Gen.MidNormsRefIdeal.Run
public import proofs.«01_k».proof.Proof.Rms
public import proofs.«01_k».proof.Proof.Total
public import Idealize.ShloMosaic.Lib.Quiescent
public import Idealize.ShloMosaic.Lib.Tactic

@[expose] public section

noncomputable section

open Idealize.ShloMosaic Idealize.ShloMosaic.TcCoe Idealize.SL.Sem Cert.Total Cert.Rms

namespace Cert.Proof.MidNorms

open Cert.MidNormsIdeal Cert.MidNormsIdeal.Gen Cert.MidNormsIdeal.Value

theorem frame : Cert.quiescent_MidNorms := fun m g _ => Cert.MidNorms.Gen.frame m g

theorem frame_ideal : Cert.quiescent_MidNormsIdeal := fun m g _ => Cert.MidNormsIdeal.Gen.frame m g

theorem frame_ref_ideal : Cert.quiescent_MidNormsRefIdeal := fun m g _ =>
  (θ_run Cert.MidNormsRefIdeal.defs _ _).mono (fun r h => ⟨fun c => (h c).2.2.2.2, sem_eq_zero_of_no_sems (by decide) r.2⟩)
    (Cert.MidNormsRefIdeal.Value.run (F := Ideal) m g)

theorem origin : (![0, 0] : Fin 2 → Nat) = fun _ => 0 := funext fun a => by fin_cases a <;> rfl

section Point

variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S512x1024 .f32) (h4 : a4.IsWhole)
  (a5 : Memref sig .tc .vmem S1x1024 .f32) (h5 : a5.IsWhole) (a6 : Memref sig .tc .vmem S1x1024 .f32) (h6 : a6.IsWhole)
  (a7 : Memref sig .tc .vmem S512x1024 .f32) (h7 : a7.IsWhole) (a8 : Memref sig .tc .vmem S512x1024 .bf16) (h8 : a8.IsWhole)
  (a9 : Memref sig .tc .vmem S1x1024 .f32) (h9 : a9.IsWhole) (a10 : Memref sig .tc .vmem S1x1024 .f32) (h10 : a10.IsWhole)
  (dh x dy mix : Vec Ideal S512x1024 .f32) (g3 g2 s3 s2 : Vec Ideal S1x1024 .f32)

/-- At the first point the body writes the tile of each gradient, and starts the two sums at zero. -/
theorem first_tile (hc : cond0_0 i) : out0_A_6 c i a1 h1 a2 h2 a3 h3 a4 h4 a5 h5 a6 h6 a7 h7 a8 h8 a9 h9 a10 h10 hc dh x dy mix g3 g2 =
    k0_pay9 x g3 dh dy := by
  unfold out0_A_6
  rw [View.read_writes_eq_canon _ _ _ (cover0_A_6 c i a1 h1 a2 h2 a3 h3 a4 h4 a5 h5 a6 h6 a7 h7 a8 h8 a9 h9 a10 h10 hc dh x dy mix g3 g2)]
  unfold kernelRun0_A
  dsimp only
  sl_unfold_words
  rw [View.canon_unit_zero origin]
  simp only [View.readAt_eq_ld, h1.read_unread, h2.read_unread, h3.read_unread, h4.read_unread, h5.read_unread, h6.read_unread,
    View.ld_unit_zero (S := S512x1024) origin, View.ld_unit_zero (S := S1x1024) origin]

theorem first_mix (hc : cond0_0 i) : out0_A_7 c i a1 h1 a2 h2 a3 h3 a4 h4 a5 h5 a6 h6 a7 h7 a8 h8 a9 h9 a10 h10 hc dh x dy mix g3 g2 =
    k0_pay3 (k0_pay9 x g3 dh dy) mix g2 := by
  unfold out0_A_7
  rw [View.read_writes_eq_canon _ _ _ (cover0_A_7 c i a1 h1 a2 h2 a3 h3 a4 h4 a5 h5 a6 h6 a7 h7 a8 h8 a9 h9 a10 h10 hc dh x dy mix g3 g2)]
  unfold kernelRun0_A
  dsimp only
  sl_unfold_words
  rw [View.canon_unit_zero origin]
  simp only [View.readAt_eq_ld, h1.read_unread, h2.read_unread, h3.read_unread, h4.read_unread, h5.read_unread, h6.read_unread,
    View.ld_unit_zero (S := S512x1024) origin, View.ld_unit_zero (S := S1x1024) origin]

theorem first_gain3 (hc : cond0_0 i) : out0_A_8 c i a1 h1 a2 h2 a3 h3 a4 h4 a5 h5 a6 h6 a7 h7 a8 h8 a9 h9 a10 h10 hc dh x dy mix g3 g2 =
    k0_pay10 x dh (k0_pay5 (F := Ideal)) := by
  unfold out0_A_8
  rw [View.read_writes_eq_canon _ _ _ (cover0_A_8 c i a1 h1 a2 h2 a3 h3 a4 h4 a5 h5 a6 h6 a7 h7 a8 h8 a9 h9 a10 h10 hc dh x dy mix g3 g2)]
  unfold kernelRun0_A
  dsimp only
  sl_unfold_words
  rw [View.canon_cons_unit_zero (S := S1x1024) origin, View.readCov_unit_zero (S := S1x1024) _ origin]
  simp only [View.readAt_eq_ld, h1.read_unread, h2.read_unread, h3.read_unread, h4.read_unread, h5.read_unread, h6.read_unread,
    View.ld_unit_zero (S := S512x1024) origin, View.ld_unit_zero (S := S1x1024) origin]

theorem first_gain2 (hc : cond0_0 i) : out0_A_9 c i a1 h1 a2 h2 a3 h3 a4 h4 a5 h5 a6 h6 a7 h7 a8 h8 a9 h9 a10 h10 hc dh x dy mix g3 g2 =
    k0_pay4 (k0_pay9 x g3 dh dy) mix (k0_pay6 (F := Ideal)) := by
  unfold out0_A_9
  rw [View.read_writes_eq_canon _ _ _ (cover0_A_9 c i a1 h1 a2 h2 a3 h3 a4 h4 a5 h5 a6 h6 a7 h7 a8 h8 a9 h9 a10 h10 hc dh x dy mix g3 g2)]
  unfold kernelRun0_A
  dsimp only
  sl_unfold_words
  rw [View.canon_cons_unit_zero (S := S1x1024) origin, View.readCov_unit_zero (S := S1x1024) _ origin]
  simp only [View.readAt_eq_ld, h1.read_unread, h2.read_unread, h3.read_unread, h4.read_unread, h5.read_unread, h6.read_unread,
    View.ld_unit_zero (S := S512x1024) origin, View.ld_unit_zero (S := S1x1024) origin]

/-- At a later point it adds the tile's parts to what the point before left. -/
theorem next_tile (hc : ¬cond0_0 i) : out0_B_6 c i a1 h1 a2 h2 a3 h3 a4 h4 a5 h5 a6 h6 a7 h7 a8 h8 a9 h9 a10 h10 hc dh x dy mix g3 g2 s3 s2 =
    k0_pay9 x g3 dh dy := by
  unfold out0_B_6
  rw [View.read_writes_eq_canon _ _ _ (cover0_B_6 c i a1 h1 a2 h2 a3 h3 a4 h4 a5 h5 a6 h6 a7 h7 a8 h8 a9 h9 a10 h10 hc dh x dy mix g3 g2 s3 s2)]
  unfold kernelRun0_B
  dsimp only
  sl_unfold_words
  rw [View.canon_unit_zero origin]
  simp only [View.readAt_eq_ld, h1.read_unread, h2.read_unread, h3.read_unread, h4.read_unread, h5.read_unread, h6.read_unread,
    View.ld_unit_zero (S := S512x1024) origin, View.ld_unit_zero (S := S1x1024) origin]

theorem next_mix (hc : ¬cond0_0 i) : out0_B_7 c i a1 h1 a2 h2 a3 h3 a4 h4 a5 h5 a6 h6 a7 h7 a8 h8 a9 h9 a10 h10 hc dh x dy mix g3 g2 s3 s2 =
    k0_pay3 (k0_pay9 x g3 dh dy) mix g2 := by
  unfold out0_B_7
  rw [View.read_writes_eq_canon _ _ _ (cover0_B_7 c i a1 h1 a2 h2 a3 h3 a4 h4 a5 h5 a6 h6 a7 h7 a8 h8 a9 h9 a10 h10 hc dh x dy mix g3 g2 s3 s2)]
  unfold kernelRun0_B
  dsimp only
  sl_unfold_words
  rw [View.canon_unit_zero origin]
  simp only [View.readAt_eq_ld, h1.read_unread, h2.read_unread, h3.read_unread, h4.read_unread, h5.read_unread, h6.read_unread,
    View.ld_unit_zero (S := S512x1024) origin, View.ld_unit_zero (S := S1x1024) origin]

theorem next_gain3 (hc : ¬cond0_0 i) : out0_B_8 c i a1 h1 a2 h2 a3 h3 a4 h4 a5 h5 a6 h6 a7 h7 a8 h8 a9 h9 a10 h10 hc dh x dy mix g3 g2 s3 s2 =
    k0_pay10 x dh s3 := by
  unfold out0_B_8
  rw [View.read_writes_eq_canon _ _ _ (cover0_B_8 c i a1 h1 a2 h2 a3 h3 a4 h4 a5 h5 a6 h6 a7 h7 a8 h8 a9 h9 a10 h10 hc dh x dy mix g3 g2 s3 s2)]
  unfold kernelRun0_B
  dsimp only
  rw [View.canon_unit_zero origin]
  sl_unfold_words
  simp only [View.readAt_eq_ld, h1.read_unread, h2.read_unread, h3.read_unread, h4.read_unread, h5.read_unread, h6.read_unread, h9.read_unread,
    View.ld_unit_zero (S := S512x1024) origin, View.ld_unit_zero (S := S1x1024) origin]

theorem next_gain2 (hc : ¬cond0_0 i) : out0_B_9 c i a1 h1 a2 h2 a3 h3 a4 h4 a5 h5 a6 h6 a7 h7 a8 h8 a9 h9 a10 h10 hc dh x dy mix g3 g2 s3 s2 =
    k0_pay4 (k0_pay9 x g3 dh dy) mix s2 := by
  unfold out0_B_9
  rw [View.read_writes_eq_canon _ _ _ (cover0_B_9 c i a1 h1 a2 h2 a3 h3 a4 h4 a5 h5 a6 h6 a7 h7 a8 h8 a9 h9 a10 h10 hc dh x dy mix g3 g2 s3 s2)]
  unfold kernelRun0_B
  dsimp only
  rw [View.canon_unit_zero origin]
  sl_unfold_words
  simp only [View.readAt_eq_ld, h1.read_unread, h2.read_unread, h3.read_unread, h4.read_unread, h5.read_unread, h6.read_unread, h10.read_unread,
    View.ld_unit_zero (S := S512x1024) origin, View.ld_unit_zero (S := S1x1024) origin]

end Point

section Values

variable (dh x dy mix : Vec Ideal S512x1024 .f32) (g3 g2 : Vec Ideal S1x1024 .f32)

/-- The gradient between the two norms. -/
abbrev middle {R : Nat} (dh x dy : Rows R 1024) (g : Rows 1 1024) : Rows R 1024 := fun j => dy j + rowsBack (gained dh g) x j

/-- What one point computes. -/
theorem tile_value : k0_pay9 x g3 dh dy = middle dh x dy g3 := by
  funext j
  pointwise [k0_pay9, k0_pay8, k0_pay7]
  rfl

theorem mix_value (d : FVec Ideal S512x1024 .f32) : k0_pay3 d mix g2 = rowsBack (gained d g2) mix := by
  funext j
  pointwise [k0_pay3, k0_pay2, k0_pay1]
  rfl

theorem gain3_value (s : Vec Ideal S1x1024 .f32) : k0_pay10 x dh s = fun j => s j + gainBack dh x j := by
  funext j
  pointwise [k0_pay10, k0_pay8, k0_pay7]

theorem gain2_value (d : FVec Ideal S512x1024 .f32) (s : Vec Ideal S1x1024 .f32) : k0_pay4 d mix s = fun j => s j + gainBack d mix j := by
  funext j
  pointwise [k0_pay4, k0_pay2, k0_pay1]

end Values

variable (m : (ℓ : Loc nD τ sig) → Buf (Elt Ideal) ℓ)

abbrev arg0 (c : Dev nD) : Rows 2048 1024 := m ((c : Thread nD τ).loc main_arg0)

abbrev arg1 (c : Dev nD) : Rows 2048 1024 := m ((c : Thread nD τ).loc main_arg1)

abbrev arg2 (c : Dev nD) : Rows 2048 1024 := m ((c : Thread nD τ).loc main_arg2)

abbrev arg3 (c : Dev nD) : Rows 2048 1024 := m ((c : Thread nD τ).loc main_arg3)

abbrev arg4 (c : Dev nD) : Rows 1 1024 := m ((c : Thread nD τ).loc main_arg4)

abbrev arg5 (c : Dev nD) : Rows 1 1024 := m ((c : Thread nD τ).loc main_arg5)

/-- The gradient between the norms, of all rows. -/
abbrev mid (c : Dev nD) : Rows 2048 1024 := middle (arg0 m c) (arg1 m c) (arg2 m c) (arg4 m c)

/-- Point `t` has tile `t` of the rows, and the whole gains and sums. -/
theorem places : ∀ t : Fin cfg0.N, (win0_0.index t = ![t.val, 0] ∧ win0_1.index t = ![t.val, 0] ∧ win0_2.index t = ![t.val, 0]
    ∧ win0_3.index t = ![t.val, 0] ∧ win0_4.index t = ![0, 0] ∧ win0_5.index t = ![0, 0]) ∧ win0_6.index t = ![t.val, 0]
    ∧ win0_7.index t = ![t.val, 0] ∧ win0_8.index t = ![0, 0] ∧ win0_9.index t = ![0, 0] :=
  (by decide +kernel : ∀ t : Fin grid0.N, _)

theorem block0 (c : Dev nD) (t : Fin cfg0.N) : iblk m c 0 t = tile (arg0 m c) t :=
  funext fun y => congrArg (V m c main_arg0) (row_at (y := y) (places t).1.1 rfl rfl)

theorem block1 (c : Dev nD) (t : Fin cfg0.N) : iblk m c 1 t = tile (arg1 m c) t :=
  funext fun y => congrArg (V m c main_arg1) (row_at (y := y) (places t).1.2.1 rfl rfl)

theorem block2 (c : Dev nD) (t : Fin cfg0.N) : iblk m c 2 t = tile (arg2 m c) t :=
  funext fun y => congrArg (V m c main_arg2) (row_at (y := y) (places t).1.2.2.1 rfl rfl)

theorem block3 (c : Dev nD) (t : Fin cfg0.N) : iblk m c 3 t = tile (arg3 m c) t :=
  funext fun y => congrArg (V m c main_arg3) (row_at (y := y) (places t).1.2.2.2.1 rfl rfl)

theorem block4 (c : Dev nD) (t : Fin cfg0.N) : iblk m c 4 t = arg4 m c :=
  funext fun y => congrArg (V m c main_arg4) (whole_at (y := y) (places t).1.2.2.2.2.1 rfl rfl)

theorem block5 (c : Dev nD) (t : Fin cfg0.N) : iblk m c 5 t = arg5 m c :=
  funext fun y => congrArg (V m c main_arg5) (whole_at (y := y) (places t).1.2.2.2.2.2 rfl rfl)

/-- Each tile's gradient between the norms. -/
theorem mid_tile (c : Dev nD) (t : Fin cfg0.N) : k0_pay9 (iblk m c 1 t) (iblk m c 4 t) (iblk m c 0 t) (iblk m c 2 t) = tile (mid m c) t := by
  rw [tile_value, block0 m c t, block1 m c t, block2 m c t, block4 m c t]
  rfl

/-- What every point leaves in the staging buffers of the two gradients at the rows. -/
theorem tile_left (c : Dev nD) (t : Fin cfg0.N) : (outsAt0 m c t.val t.isLt).1 = tile (mid m c) t := by
  rw [← mid_tile]
  by_cases h : t.val % 4 = 0
  · rw [outsAt0_A m c t h]; dsimp only; rw [first_tile]
  · rw [outsAt0_B m c t h]; dsimp only; rw [next_tile]

theorem mix_left (c : Dev nD) (t : Fin cfg0.N) :
    (outsAt0 m c t.val t.isLt).2.1 = tile (rowsBack (gained (mid m c) (arg5 m c)) (arg3 m c)) t := by
  have e : (outsAt0 m c t.val t.isLt).2.1 = k0_pay3 (k0_pay9 (iblk m c 1 t) (iblk m c 4 t) (iblk m c 0 t) (iblk m c 2 t)) (iblk m c 3 t) (iblk m c 5 t) := by
    by_cases h : t.val % 4 = 0
    · rw [outsAt0_A m c t h]; dsimp only; rw [first_mix]
    · rw [outsAt0_B m c t h]; dsimp only; rw [next_mix]
  rw [e, mix_value, mid_tile, block3 m c t, block5 m c t]
  rfl

/-- What the gains' buffers get at a point. -/
theorem gain3_first (c : Dev nD) (h : 0 < cfg0.N) : (outsAt0 m c 0 h).2.2.1 =
    fun j => k0_pay5 (F := Ideal) j + gainBack (tile (arg0 m c) 0) (tile (arg1 m c) 0) j := by
  have e := congrArg (fun q => q.2.2.1) (outsAt0_A m c ⟨0, h⟩ rfl)
  dsimp only at e
  rw [e, first_gain3, gain3_value, block0 m c, block1 m c]
  rfl

theorem gain3_next (c : Dev nD) (n : ℕ) (h : n + 1 < cfg0.N) (t : Fin 4) (ht : t = ⟨n + 1, h⟩) : (outsAt0 m c (n + 1) h).2.2.1 =
    fun j => (outsAt0 m c n (Nat.lt_of_succ_lt h)).2.2.1 j + gainBack (tile (arg0 m c) t) (tile (arg1 m c) t) j := by
  subst ht
  have h4 : cfg0.N = 4 := N_0
  have e := congrArg (fun q => q.2.2.1) (outsAt0_B m c ⟨n + 1, h⟩ (by dsimp only; omega))
  dsimp only at e
  rw [e, next_gain3, gain3_value, block0 m c, block1 m c]
  rfl

theorem gain3_last (c : Dev nD) (h : 3 < cfg0.N) : (outsAt0 m c 3 h).2.2.1 = gainBack (arg0 m c) (arg1 m c) := by
  rw [gain3_next m c 2 h 3 rfl, gain3_next m c 1 _ 2 rfl, gain3_next m c 0 _ 1 rfl, gain3_first]
  funext j
  refine Eq.trans ?_ (gain_tiles _ _ j)
  show k0_pay5 (F := Ideal) j + _ + _ + _ + _ = _
  rw [show k0_pay5 (F := Ideal) j = 0 from word_zero]

theorem gain2_first (c : Dev nD) (h : 0 < cfg0.N) : (outsAt0 m c 0 h).2.2.2 =
    fun j => k0_pay6 (F := Ideal) j + gainBack (tile (mid m c) 0) (tile (arg3 m c) 0) j := by
  have e := congrArg (fun q => q.2.2.2) (outsAt0_A m c ⟨0, h⟩ rfl)
  dsimp only at e
  rw [e, first_gain2, gain2_value, mid_tile, block3 m c]
  rfl

theorem gain2_next (c : Dev nD) (n : ℕ) (h : n + 1 < cfg0.N) (t : Fin 4) (ht : t = ⟨n + 1, h⟩) : (outsAt0 m c (n + 1) h).2.2.2 =
    fun j => (outsAt0 m c n (Nat.lt_of_succ_lt h)).2.2.2 j + gainBack (tile (mid m c) t) (tile (arg3 m c) t) j := by
  subst ht
  have h4 : cfg0.N = 4 := N_0
  have e := congrArg (fun q => q.2.2.2) (outsAt0_B m c ⟨n + 1, h⟩ (by dsimp only; omega))
  dsimp only at e
  rw [e, next_gain2, gain2_value, mid_tile, block3 m c]
  rfl

theorem gain2_last (c : Dev nD) (h : 3 < cfg0.N) : (outsAt0 m c 3 h).2.2.2 = gainBack (mid m c) (arg3 m c) := by
  rw [gain2_next m c 2 h 3 rfl, gain2_next m c 1 _ 2 rfl, gain2_next m c 0 _ 1 rfl, gain2_first]
  funext j
  refine Eq.trans ?_ (gain_tiles _ _ j)
  show k0_pay6 (F := Ideal) j + _ + _ + _ + _ = _
  rw [show k0_pay6 (F := Ideal) j = 0 from word_zero]

theorem whole_dx (c : Dev nD) : (dats m 0 c).arrAt 6 cfg0.N = mid m c := by
  refine (dats m 0 c).arrAt_eq_of_cover 6 _ (fun t _ => ?_) fun i => ?_
  · rw [flushed6, tile_left]
    exact funext fun y => (congrArg (mid m c) (row_at (t := t) (y := y) (i := ((cfg0.win 6).blk t).view.emb y)
      (places t).2.1 rfl rfl)).symm
  · have h0 : (i 0).val < 2048 := (i 0).isLt
    let t : Fin cfg0.N := ⟨(i 0).val / 512, by show _ < 4; omega⟩
    refine ⟨t, flush0_6 t, ?_⟩
    show i ∈ ((View.whole main_v0_0).slice (win0_6.rect t)).set
    rw [View.set_slice_whole, Rect.mem_set_unit]
    exact in_tile i (by decide) (places t).2.1

theorem whole_dmix (c : Dev nD) : (dats m 0 c).arrAt 7 cfg0.N = rowsBack (gained (mid m c) (arg5 m c)) (arg3 m c) := by
  refine (dats m 0 c).arrAt_eq_of_cover 7 _ (fun t _ => ?_) fun i => ?_
  · rw [flushed7, mix_left]
    exact funext fun y => (congrArg (rowsBack (gained (mid m c) (arg5 m c)) (arg3 m c)) (row_at (t := t) (y := y) (i := ((cfg0.win 7).blk t).view.emb y)
      (places t).2.2.1 rfl rfl)).symm
  · have h0 : (i 0).val < 2048 := (i 0).isLt
    let t : Fin cfg0.N := ⟨(i 0).val / 512, by show _ < 4; omega⟩
    refine ⟨t, flush0_7 t, ?_⟩
    show i ∈ ((View.whole main_v0_1).slice (win0_7.rect t)).set
    rw [View.set_slice_whole, Rect.mem_set_unit]
    exact in_tile i (by decide) (places t).2.2.1

theorem whole_dg3 (c : Dev nD) : (dats m 0 c).arrAt 8 cfg0.N = gainBack (arg0 m c) (arg1 m c) := by
  have h4 : cfg0.N = 4 := N_0
  refine (dats m 0 c).arrAt_eq_of_cover 8 _ (fun t hf => ?_) fun i => ?_
  · have h3 : t.val = 3 := by have := (flush0_8 t).mp hf; have := t.isLt; omega
    obtain rfl : t = t0_3 := Fin.ext h3
    rw [flushed8]
    refine (congrArg ((cfg0.win 8).cut (grid0.coords t0_3)) (gain3_last m c t0_3.isLt)).trans ?_
    exact funext fun y => (congrArg (gainBack (arg0 m c) (arg1 m c))
      (whole_at (y := y) (i := ((cfg0.win 8).blk t0_3).view.emb y) (places t0_3).2.2.2.1 rfl rfl)).symm
  · refine ⟨t0_3, (flush0_8 t0_3).mpr rfl, ?_⟩
    show i ∈ ((View.whole main_v0_2).slice (win0_8.rect t0_3)).set
    rw [View.set_slice_whole, Rect.mem_set_unit]
    exact in_tile i (by decide) ((places t0_3).2.2.2.1.trans (by rw [show (i 0).val / 1 = 0 by have : (i 0).val < 1 := (i 0).isLt; omega]))

theorem whole_dg2 (c : Dev nD) : (dats m 0 c).arrAt 9 cfg0.N = gainBack (mid m c) (arg3 m c) := by
  have h4 : cfg0.N = 4 := N_0
  refine (dats m 0 c).arrAt_eq_of_cover 9 _ (fun t hf => ?_) fun i => ?_
  · have h3 : t.val = 3 := by have := (flush0_9 t).mp hf; have := t.isLt; omega
    obtain rfl : t = t0_3 := Fin.ext h3
    rw [flushed9]
    refine (congrArg ((cfg0.win 9).cut (grid0.coords t0_3)) (gain2_last m c t0_3.isLt)).trans ?_
    exact funext fun y => (congrArg (gainBack (mid m c) (arg3 m c))
      (whole_at (y := y) (i := ((cfg0.win 9).blk t0_3).view.emb y) (places t0_3).2.2.2.2 rfl rfl)).symm
  · refine ⟨t0_3, (flush0_9 t0_3).mpr rfl, ?_⟩
    show i ∈ ((View.whole main_v0_3).slice (win0_9.rect t0_3)).set
    rw [View.set_slice_whole, Rect.mem_set_unit]
    exact in_tile i (by decide) ((places t0_3).2.2.2.2.trans (by rw [show (i 0).val / 1 = 0 by have : (i 0).val < 1 := (i 0).isLt; omega]))

/-- The same in the chain rule's form. -/
abbrev chain (c : Dev nD) : Rows 2048 1024 := fun j => arg2 m c j + (gained (arg0 m c) (arg4 m c) j * scale (arg1 m c) (j 0)
  + arg1 m c j * Rms.slope (gained (arg0 m c) (arg4 m c)) (arg1 m c) (j 0)
  + Rms.slope (gained (arg0 m c) (arg4 m c)) (arg1 m c) (j 0) * arg1 m c j)

theorem algebraic : Cert.algebraic_MidNormsIdeal_MidNormsRefIdeal := by
  intro m g m' g' _ agree
  refine ⟨_, _, _, _, (θ_run defs _ _).mono (fun _ h c => ⟨(h c).1.trans (whole_dx m c), (h c).2.1.trans (whole_dmix m c),
    (h c).2.2.1.trans (whole_dg3 m c), (h c).2.2.2.1.trans (whole_dg2 m c), (h c).2.2.2.2⟩) (run_blocks (F := Ideal) m g), ?_⟩
  have hd (c : Dev nD) : chain m c = mid m c :=
    funext fun j => congrArg (arg2 m c j + ·) (chain_eq (gained (arg0 m c) (arg4 m c)) (arg1 m c) j)
  refine (θ_run Cert.MidNormsRefIdeal.defs _ _).mono (fun _ h c => ⟨(h c).1.trans ?_, (h c).2.1.trans ?_, (h c).2.2.1.trans ?_,
    (h c).2.2.2.1.trans ?_, (h c).2.2.2.2⟩) (Cert.MidNormsRefIdeal.Value.run (F := Ideal) m' g')
  · clear * - agree hd
    rw [(agree c).1, (agree c).2.1, (agree c).2.2.1, (agree c).2.2.2.2.1]
    funext j
    pointwise []
    simp only [Fin.sum_univ_one]
    exact congrFun (hd c) j
  · unfold Cert.MidNormsRefIdeal.Value.res_main_v69
    clear * - agree hd
    rw [(agree c).1, (agree c).2.1, (agree c).2.2.1, (agree c).2.2.2.1, (agree c).2.2.2.2.1, (agree c).2.2.2.2.2]
    funext j
    pointwise []
    simp only [Fin.sum_univ_one]
    refine Eq.trans ?_ (congrArg (fun d => rowsBack (gained d (arg5 m c)) (arg3 m c) j) (hd c))
    exact chain_eq (gained (chain m c) (arg5 m c)) (arg3 m c) j
  · clear * - agree hd
    rw [(agree c).1, (agree c).2.1]
    funext j
    pointwise []
    exact Finset.sum_congr rfl fun i _ => mul_comm _ _
  · unfold Cert.MidNormsRefIdeal.Value.res_main_v52
    clear * - agree hd
    rw [(agree c).1, (agree c).2.1, (agree c).2.2.1, (agree c).2.2.2.1, (agree c).2.2.2.2.1]
    funext j
    pointwise []
    simp only [Fin.sum_univ_one]
    refine Eq.trans ?_ (congrArg (fun d => gainBack d (arg3 m c) j) (hd c))
    exact gain_turned (chain m c) (arg3 m c) j

end Cert.Proof.MidNorms

end
-- ==== Proof.Columns.lean ====
/-
# A product's gradients, one block of columns at a time

The matrix is kept as four blocks of columns, one behind the other. The gradient at the product's input is a sum over all columns,
which a run over blocks of 256 columns adds up part by part; the gradient at the matrix has each block of columns by itself.
-/
module

public import proofs.«01_k».proof.Proof.Rms
public import Idealize.ShloMosaic.Lib.Pipeline.Value
public import Idealize.ShloMosaic.Lib.Pipeline.ValueKit.Tiles
public import Idealize.ShloMosaic.Lib.ValueLayout

@[expose] public section

noncomputable section

namespace Cert.Columns

open Idealize.ShloMosaic Cert.Rms

theorem plane : (![0, 0] : Fin 2 → Nat) = fun _ => 0 := funext fun a => by fin_cases a <;> rfl

theorem space : (![0, 0, 0] : Fin 3 → Nat) = fun _ => 0 := funext fun a => by fin_cases a <;> rfl

variable {α : Type} {R K C W N q : Nat}

/-- Where column `c` lies in the four blocks. -/
abbrev apart (hC : 4 * C = W) (k : Fin K) (c : Fin W) : (⟨3, ![4, K, C]⟩ : Shape).Idx :=
  ix3 (⟨c.val / C, (Nat.div_lt_iff_lt_mul (by rcases Nat.eq_zero_or_pos C with h | h <;> have := c.isLt <;> omega)).mpr (hC ▸ c.isLt)⟩ : Fin 4) k
    (⟨c.val % C, Nat.mod_lt _ (by rcases Nat.eq_zero_or_pos C with h | h <;> have := c.isLt <;> omega)⟩ : Fin C)

/-- The four blocks side by side. -/
abbrev wide (hC : 4 * C = W) (w : (⟨3, ![4, K, C]⟩ : Shape).Idx → α) : (⟨2, ![K, W]⟩ : Shape).Idx → α :=
  fun j => w (apart hC (j 0) (j 1))

theorem wide_eq (hC : 4 * C = W) (w : (⟨3, ![4, K, C]⟩ : Shape).Idx → α)
    (ht : (⟨3, ![4, K, C]⟩ : Shape).Transposes [1, 0, 2] ⟨3, ![K, 4, C]⟩) (hs : (⟨3, ![K, 4, C]⟩ : Shape).ShapeCasts ⟨2, ![K, W]⟩) :
    shapeCast ⟨2, ![K, W]⟩ (transpose ⟨3, ![K, 4, C]⟩ [1, 0, 2] w ht) hs = wide hC w := by
  funext j
  let p := apart hC (j 0) (j 1)
  refine (shapeCast_apply _ hs j (ix3 (j 0) (p 0 : Fin 4) (p 2 : Fin C)) ?_).trans
    (transpose_apply [1, 0, 2] w ht _ p fun b => ?_)
  · rw [Shape.rowMajor_val_three, Shape.rowMajor_val_two]
    have h (a b : Nat) : (a * 4 + b / C) * C + b % C = a * W + b := by
      rw [← hC, Nat.add_mul, Nat.mul_assoc, Nat.add_assoc, Nat.div_add_mod']
    exact h (j 0).val (j 1).val
  · match b with | 0 => rfl | 1 => rfl | 2 => rfl

/-- The gradient at the product's input. -/
abbrev inputBack (hC : 4 * C = W) (dy : Rows R W) (w : (⟨3, ![4, K, C]⟩ : Shape).Idx → EReal) : Rows R K :=
  fun j => ∑ c, dy (ix2 (j 0) c) * wide hC w (ix2 (j 1) c)

/-- The gradient at the matrix. -/
abbrev matrixBack (dy : Rows R W) (x : Rows R K) : Rows K W := fun j => ∑ s, x (ix2 s (j 0)) * dy (ix2 s (j 1))

theorem matrix_turned (dy : Rows R W) (x : Rows R K) (j : (⟨2, ![K, W]⟩ : Shape).Idx) :
    ∑ s, dy (ix2 s (j 1)) * x (ix2 s (j 0)) = matrixBack dy x j :=
  Finset.sum_congr rfl fun _ _ => mul_comm _ _

/-! ## Blocks of 256 columns -/

/-- Column `p` of block `t`. -/
abbrev col (hN : 256 * N = W) (t : Fin N) (p : Fin 256) : Fin W := ⟨256 * t.val + p.val, by omega⟩

theorem col_at (hN : 256 * N = W) {w : Fin 2 → Nat} {t : Fin N} {i : (⟨2, ![R, W]⟩ : Shape).Idx} {y : (⟨2, ![R, 256]⟩ : Shape).Idx}
    (h : w = ![0, t.val]) (e0 : (i 0).val = w 0 * R + 1 * (y 0).val) (e1 : (i 1).val = w 1 * 256 + 1 * (y 1).val) :
    i = ix2 (y 0 : Fin R) (col hN t (y 1)) := by
  rw [h] at e0 e1
  funext a
  match a with
  | ⟨0, _⟩ => exact Fin.ext (e0.trans (by show 0 * R + 1 * (y 0).val = (y 0).val; omega))
  | ⟨1, _⟩ => exact Fin.ext (e1.trans (by show t.val * 256 + 1 * (y 1).val = 256 * t.val + (y 1).val; omega))

/-- The same block where the four blocks are apart, `q` blocks of 256 columns in each. -/
theorem part_at (hC : 4 * C = W) (hN : 256 * N = W) (hq : 256 * q = C) {w : Fin 3 → Nat} {t : Fin N} {i : (⟨3, ![4, K, C]⟩ : Shape).Idx}
    {y : (⟨3, ![1, K, 256]⟩ : Shape).Idx} (h : w = ![t.val / q, 0, t.val % q]) (e0 : (i 0).val = w 0 * 1 + 1 * (y 0).val)
    (e1 : (i 1).val = w 1 * K + 1 * (y 1).val) (e2 : (i 2).val = w 2 * 256 + 1 * (y 2).val) :
    i = apart hC (y 1 : Fin K) (col hN t (y 2)) := by
  rw [h] at e0 e1 e2
  have h0 : (y 0).val < 1 := (y 0).isLt
  have h2 : (y 2).val < 256 := (y 2).isLt
  have hd : (256 * t.val + (y 2).val) / 256 = t.val := by omega
  have hm : (256 * t.val + (y 2).val) % 256 = (y 2).val := by omega
  funext a
  match a with
  | ⟨0, _⟩ =>
    refine Fin.ext (e0.trans ?_)
    show t.val / q * 1 + 1 * (y 0).val = (256 * t.val + (y 2).val) / C
    rw [← hq, ← Nat.div_div_eq_div_mul, hd]
    omega
  | ⟨1, _⟩ => exact Fin.ext (e1.trans (by show 0 * K + 1 * (y 1).val = (y 1).val; omega))
  | ⟨2, _⟩ =>
    refine Fin.ext (e2.trans ?_)
    show t.val % q * 256 + 1 * (y 2).val = (256 * t.val + (y 2).val) % C
    rw [← hq, Nat.mod_mul, hd, hm]
    omega

/-- An index lies in the block of its column. -/
theorem in_column {w : Fin 2 → Nat} (i : (⟨2, ![R, W]⟩ : Shape).Idx) (h : w = ![0, (i 1).val / 256]) :
    ∀ a : Fin 2, w a * (![R, 256] : Fin 2 → Nat) a ≤ (i a).val ∧ (i a).val < w a * (![R, 256] : Fin 2 → Nat) a + (![R, 256] : Fin 2 → Nat) a := by
  rw [h]
  intro a
  match a with
  | ⟨0, _⟩ =>
    have h0 : (i 0).val < R := (i 0).isLt
    exact ⟨by simp, by simpa using h0⟩
  | ⟨1, _⟩ => exact ⟨Nat.div_mul_le_self _ _, Nat.lt_div_mul_add (by decide)⟩

/-- A sum over the columns of the first `n` blocks. -/
def upTo (hN : 256 * N = W) (f : Fin W → EReal) (n : Nat) : EReal :=
  ∑ t ∈ Finset.range n, if h : t < N then ∑ p, f (col hN ⟨t, h⟩ p) else 0

theorem upTo_zero (hN : 256 * N = W) (f : Fin W → EReal) : upTo hN f 0 = 0 := Finset.sum_range_zero _

theorem upTo_next (hN : 256 * N = W) (f : Fin W → EReal) (t : Fin N) :
    upTo hN f (t.val + 1) = upTo hN f t.val + ∑ p, f (col hN t p) := by
  unfold upTo
  rw [Finset.sum_range_succ, dif_pos t.isLt]

theorem upTo_all (hN : 256 * N = W) (f : Fin W → EReal) : upTo hN f N = ∑ c, f c := by
  subst hN
  unfold upTo
  rw [Finset.sum_range, ← Fintype.sum_equiv (finCongr (Nat.mul_comm N 256)) (fun c => f (finCongr (Nat.mul_comm N 256) c)) f fun _ => rfl,
    ← Fintype.sum_equiv (finProdFinEquiv (m := N) (n := 256)) _ _ fun _ => rfl, Fintype.sum_prod_type]
  refine Finset.sum_congr rfl fun t _ => ?_
  rw [dif_pos t.isLt]
  refine Finset.sum_congr rfl fun p _ => congrArg f (Fin.ext ?_)
  show 256 * t.val + p.val = p.val + 256 * t.val
  omega

end Cert.Columns

end
-- ==== Proof.BackWin.lean ====
/-
# The gradients of the product with the input matrix
-/
module

public import proofs.«01_k».proof.Proof.Gen.BackWin.Frame
public import proofs.«01_k».proof.Proof.Gen.BackWinIdeal.Value
public import proofs.«01_k».proof.Proof.Gen.BackWinRefIdeal.Run
public import proofs.«01_k».proof.Proof.Columns
public import proofs.«01_k».proof.Proof.Total
public import Idealize.ShloMosaic.Lib.Quiescent
public import Idealize.ShloMosaic.Lib.Tactic

@[expose] public section

noncomputable section

open Idealize.ShloMosaic Idealize.ShloMosaic.TcCoe Idealize.SL.Sem Cert.Total Cert.Rms Cert.Columns

namespace Cert.Proof.BackWin

open Cert.BackWinIdeal Cert.BackWinIdeal.Gen Cert.BackWinIdeal.Value

theorem frame : Cert.quiescent_BackWin := fun m g _ => Cert.BackWin.Gen.frame m g

theorem frame_ideal : Cert.quiescent_BackWinIdeal := fun m g _ => Cert.BackWinIdeal.Gen.frame m g

theorem frame_ref_ideal : Cert.quiescent_BackWinRefIdeal := fun m g _ =>
  (θ_run Cert.BackWinRefIdeal.defs _ _).mono (fun r h => ⟨fun c => (h c).2.2, sem_eq_zero_of_no_sems (by decide) r.2⟩)
    (Cert.BackWinRefIdeal.Value.run (F := Ideal) m g)

section Point

variable (c : Dev nD) (i : grid0.Coords)
  (a2 : Memref sig .tc .vmem S2048x256 .bf16) (h2 : a2.IsWhole) (a3 : Memref sig .tc .vmem S1x1024x256 .bf16) (h3 : a3.IsWhole)
  (a4 : Memref sig .tc .vmem S2048x1024 .bf16) (h4 : a4.IsWhole) (a5 : Memref sig .tc .vmem S2048x1024 .f32) (h5 : a5.IsWhole)
  (a6 : Memref sig .tc .vmem S1024x256 .bf16) (h6 : a6.IsWhole)
  (dy : Vec Ideal S2048x256 .bf16) (w : Vec Ideal S1x1024x256 .bf16) (x : Vec Ideal S2048x1024 .bf16) (s : Vec Ideal S2048x1024 .f32)

/-- At the first point the body starts the sum at zero, and writes the block of the matrix's gradient. -/
theorem first_sum (hc : cond0_0 i) : out0_A_3 c i a2 h2 a3 h3 a4 h4 a5 h5 a6 h6 hc dy w x = k0_pay2 dy (k0_pay1 (F := Ideal)) w := by
  unfold out0_A_3
  rw [View.read_writes_eq_canon _ _ _ (cover0_A_3 c i a2 h2 a3 h3 a4 h4 a5 h5 a6 h6 hc dy w x)]
  unfold kernelRun0_A
  dsimp only
  sl_unfold_words
  rw [View.canon_cons_unit_zero (S := S2048x1024) plane, View.readCov_unit_zero (S := S2048x1024) _ plane]
  simp only [View.readAt_eq_ld, h2.read_unread, h3.read_unread, h4.read_unread,
    View.ld_unit_zero (S := S2048x256) plane, View.ld_unit_zero (S := S1x1024x256) space, View.ld_unit_zero (S := S2048x1024) plane]

theorem first_block (hc : cond0_0 i) : out0_A_4 c i a2 h2 a3 h3 a4 h4 a5 h5 a6 h6 hc dy w x = k0_pay3 dy x := by
  unfold out0_A_4
  rw [View.read_writes_eq_canon _ _ _ (cover0_A_4 c i a2 h2 a3 h3 a4 h4 a5 h5 a6 h6 hc dy w x)]
  unfold kernelRun0_A
  dsimp only
  sl_unfold_words
  rw [View.canon_unit_zero plane]
  simp only [View.readAt_eq_ld, h2.read_unread, h3.read_unread, h4.read_unread,
    View.ld_unit_zero (S := S2048x256) plane, View.ld_unit_zero (S := S1x1024x256) space, View.ld_unit_zero (S := S2048x1024) plane]

/-- At a later point it adds to what the point before left. -/
theorem next_sum (hc : ¬cond0_0 i) : out0_B_3 c i a2 h2 a3 h3 a4 h4 a5 h5 a6 h6 hc dy w x s = k0_pay2 dy s w := by
  unfold out0_B_3
  rw [View.read_writes_eq_canon _ _ _ (cover0_B_3 c i a2 h2 a3 h3 a4 h4 a5 h5 a6 h6 hc dy w x s)]
  unfold kernelRun0_B
  dsimp only
  rw [View.canon_unit_zero plane]
  sl_unfold_words
  simp only [View.readAt_eq_ld, h2.read_unread, h3.read_unread, h4.read_unread, h5.read_unread,
    View.ld_unit_zero (S := S2048x256) plane, View.ld_unit_zero (S := S1x1024x256) space, View.ld_unit_zero (S := S2048x1024) plane]

theorem next_block (hc : ¬cond0_0 i) : out0_B_4 c i a2 h2 a3 h3 a4 h4 a5 h5 a6 h6 hc dy w x s = k0_pay3 dy x := by
  unfold out0_B_4
  rw [View.read_writes_eq_canon _ _ _ (cover0_B_4 c i a2 h2 a3 h3 a4 h4 a5 h5 a6 h6 hc dy w x s)]
  unfold kernelRun0_B
  dsimp only
  sl_unfold_words
  rw [View.canon_unit_zero plane]
  simp only [View.readAt_eq_ld, h2.read_unread, h3.read_unread, h4.read_unread,
    View.ld_unit_zero (S := S2048x256) plane, View.ld_unit_zero (S := S1x1024x256) space, View.ld_unit_zero (S := S2048x1024) plane]

/-- What one point computes. -/
theorem sum_value : k0_pay2 dy s w = fun j => s j + ∑ p : Fin 256, dy (ix2 (j 0) p) * w (ix3 0 (j 1) p) := by
  funext j
  pointwise [k0_pay2]

theorem block_value : k0_pay3 dy x = matrixBack dy x := by
  funext j
  pointwise [k0_pay3]

end Point

variable (m : (ℓ : Loc nD τ sig) → Buf (Elt Ideal) ℓ)

abbrev arg0 (c : Dev nD) : Rows 2048 7168 := m ((c : Thread nD τ).loc main_arg0)

abbrev arg1 (c : Dev nD) : (⟨3, ![4, 1024, 1792]⟩ : Shape).Idx → EReal := m ((c : Thread nD τ).loc main_arg1)

abbrev arg2 (c : Dev nD) : Rows 2048 1024 := m ((c : Thread nD τ).loc main_arg2)

/-- Point `t` has block `t` of the columns, and everything of the other two. -/
theorem places : ∀ t : Fin cfg0.N, win0_0.index t = ![0, t.val] ∧ win0_1.index t = ![t.val / 7, 0, t.val % 7] ∧ win0_2.index t = ![0, 0]
    ∧ win0_3.index t = ![0, 0] ∧ win0_4.index t = ![0, t.val] :=
  (by decide +kernel : ∀ t : Fin grid0.N, _)

abbrev at_col (t : Fin cfg0.N) (p : Fin 256) : Fin 7168 := col (N := 28) rfl t p

theorem block0 (c : Dev nD) (t : Fin cfg0.N) : iblk m c 0 t = fun y => arg0 m c (ix2 (y 0) (at_col t (y 1))) :=
  funext fun y => congrArg (V m c main_arg0) (col_at (N := 28) (y := y) rfl (places t).1 rfl rfl)

theorem block1 (c : Dev nD) (t : Fin cfg0.N) : iblk m c 1 t = fun y => wide rfl (arg1 m c) (ix2 (y 1) (at_col t (y 2))) :=
  funext fun y => congrArg (V m c main_arg1) (part_at (N := 28) (y := y) rfl rfl rfl (places t).2.1 rfl rfl rfl)

theorem block2 (c : Dev nD) (t : Fin cfg0.N) : iblk m c 2 t = arg2 m c :=
  funext fun y => congrArg (V m c main_arg2) (whole_at (y := y) (places t).2.2.1 rfl rfl)

/-- What a column adds to the gradient at the input. -/
abbrev added (c : Dev nD) (j : S2048x1024.Idx) (k : Fin 7168) : EReal := arg0 m c (ix2 (j 0) k) * wide rfl (arg1 m c) (ix2 (j 1) k)

theorem sum_left (c : Dev nD) : ∀ (n : ℕ) (h : n < cfg0.N), (outsAt0 m c n h).1 = fun j => upTo (N := 28) rfl (added m c j) (n + 1)
  | 0, h => by
    have e := congrArg (fun q => q.1) (outsAt0_A m c ⟨0, h⟩ rfl)
    dsimp only at e
    rw [e, first_sum, sum_value, block0 m c, block1 m c]
    funext j
    rw [upTo_next (N := 28) rfl (added m c j) ⟨0, h⟩, upTo_zero]
    exact congrArg (· + _) word_zero
  | n + 1, h => by
    have h28 : cfg0.N = 28 := N_0
    have e := congrArg (fun q => q.1) (outsAt0_B m c ⟨n + 1, h⟩ (by dsimp only; omega))
    dsimp only at e
    rw [e, next_sum, sum_value, block0 m c, block1 m c]
    funext j
    rw [upTo_next (N := 28) rfl (added m c j) ⟨n + 1, h⟩]
    exact congrArg (· + _) (congrFun (sum_left c n _) j)

theorem block_left (c : Dev nD) (t : Fin cfg0.N) :
    (outsAt0 m c t.val t.isLt).2 = fun y => matrixBack (arg0 m c) (arg2 m c) (ix2 (y 0) (at_col t (y 1))) := by
  have e : (outsAt0 m c t.val t.isLt).2 = k0_pay3 (iblk m c 0 t) (iblk m c 2 t) := by
    by_cases h : t.val % 28 = 0
    · rw [outsAt0_A m c t h]; dsimp only; rw [first_block]
    · rw [outsAt0_B m c t h]; dsimp only; rw [next_block]
  rw [e, block_value, block0 m c t, block2 m c t]
  rfl

theorem sum_last (c : Dev nD) (t : Fin cfg0.N) (h : t.val = 27) :
    (outsAt0 m c t.val t.isLt).1 = inputBack rfl (arg0 m c) (arg1 m c) := by
  rw [sum_left]
  funext j
  rw [h]
  exact upTo_all (N := 28) rfl (added m c j)

theorem whole_input (c : Dev nD) : (dats m 0 c).arrAt 3 cfg0.N = inputBack rfl (arg0 m c) (arg1 m c) := by
  have h28 : cfg0.N = 28 := N_0
  refine (dats m 0 c).arrAt_eq_of_cover 3 _ (fun t hf => ?_) fun i => ?_
  · rw [flushed3, sum_last m c t (by have := (flush0_3 t).mp hf; have := t.isLt; omega)]
    generalize inputBack rfl (arg0 m c) (arg1 m c) = f
    exact funext fun y => (congrArg f
      (whole_at (y := y) (i := ((cfg0.win 3).blk t).view.emb y) (places t).2.2.2.1 rfl rfl)).symm
  · obtain ⟨t, ht⟩ : ∃ t : Fin cfg0.N, t.val = 27 := ⟨⟨27, by omega⟩, rfl⟩
    refine ⟨t, (flush0_3 t).mpr (by omega), ?_⟩
    show i ∈ ((View.whole main_v0_0).slice (win0_3.rect t)).set
    rw [View.set_slice_whole, Rect.mem_set_unit]
    exact in_tile i (by decide) ((places t).2.2.2.1.trans
      (by rw [show (i 0).val / 2048 = 0 by have : (i 0).val < 2048 := (i 0).isLt; omega]))

theorem whole_matrix (c : Dev nD) : (dats m 0 c).arrAt 4 cfg0.N = matrixBack (arg0 m c) (arg2 m c) := by
  refine (dats m 0 c).arrAt_eq_of_cover 4 _ (fun t _ => ?_) fun i => ?_
  · rw [flushed4, block_left]
    generalize matrixBack (arg0 m c) (arg2 m c) = f
    exact funext fun y => (congrArg f
      (col_at (N := 28) (t := t) (y := y) (i := ((cfg0.win 4).blk t).view.emb y) rfl (places t).2.2.2.2 rfl rfl)).symm
  · have h1 : (i 1).val < 7168 := (i 1).isLt
    let t : Fin cfg0.N := ⟨(i 1).val / 256, by show _ < 28; omega⟩
    refine ⟨t, flush0_4 t, ?_⟩
    show i ∈ ((View.whole main_v0_1).slice (win0_4.rect t)).set
    rw [View.set_slice_whole, Rect.mem_set_unit]
    exact in_column i (places t).2.2.2.2

theorem algebraic : Cert.algebraic_BackWinIdeal_BackWinRefIdeal := by
  intro m g m' g' _ agree
  refine ⟨_, _, (θ_run defs _ _).mono (fun _ h c => ⟨(h c).1.trans (whole_input m c), (h c).2.1.trans (whole_matrix m c),
    (h c).2.2⟩) (run_blocks (F := Ideal) m g), ?_⟩
  refine (θ_run Cert.BackWinRefIdeal.defs _ _).mono (fun _ h c => ⟨(h c).1.trans ?_, (h c).2.1.trans ?_, (h c).2.2⟩)
    (Cert.BackWinRefIdeal.Value.run (F := Ideal) m' g')
  · clear * - agree
    rw [(agree c).1, (agree c).2.1]
    refine Eq.trans (congrArg _ (wide_eq rfl (arg1 m c) _ _)) ?_
    funext j
    pointwise []
  · clear * - agree
    rw [(agree c).1, (agree c).2.2]
    funext j
    pointwise []
    exact matrix_turned (arg0 m c) (arg2 m c) j

end Cert.Proof.BackWin

end
-- ==== Proof.BackUp.lean ====
/-
# The gradients of the product with the feed-forward matrix
-/
module

public import proofs.«01_k».proof.Proof.Gen.BackUp.Frame
public import proofs.«01_k».proof.Proof.Gen.BackUpIdeal.Value
public import proofs.«01_k».proof.Proof.Gen.BackUpRefIdeal.Run
public import proofs.«01_k».proof.Proof.Columns
public import proofs.«01_k».proof.Proof.Total
public import Idealize.ShloMosaic.Lib.Quiescent
public import Idealize.ShloMosaic.Lib.Tactic

@[expose] public section

noncomputable section

open Idealize.ShloMosaic Idealize.ShloMosaic.TcCoe Idealize.SL.Sem Cert.Total Cert.Rms Cert.Columns

namespace Cert.Proof.BackUp

open Cert.BackUpIdeal Cert.BackUpIdeal.Gen Cert.BackUpIdeal.Value

theorem frame : Cert.quiescent_BackUp := fun m g _ => Cert.BackUp.Gen.frame m g

theorem frame_ideal : Cert.quiescent_BackUpIdeal := fun m g _ => Cert.BackUpIdeal.Gen.frame m g

theorem frame_ref_ideal : Cert.quiescent_BackUpRefIdeal := fun m g _ =>
  (θ_run Cert.BackUpRefIdeal.defs _ _).mono (fun r h => ⟨fun c => (h c).2.2, sem_eq_zero_of_no_sems (by decide) r.2⟩)
    (Cert.BackUpRefIdeal.Value.run (F := Ideal) m g)

section Point

variable (c : Dev nD) (i : grid0.Coords)
  (a2 : Memref sig .tc .vmem S2048x256 .bf16) (h2 : a2.IsWhole) (a3 : Memref sig .tc .vmem S1x1024x256 .bf16) (h3 : a3.IsWhole)
  (a4 : Memref sig .tc .vmem S2048x1024 .bf16) (h4 : a4.IsWhole) (a5 : Memref sig .tc .vmem S2048x1024 .f32) (h5 : a5.IsWhole)
  (a6 : Memref sig .tc .vmem S1024x256 .bf16) (h6 : a6.IsWhole)
  (dy : Vec Ideal S2048x256 .bf16) (w : Vec Ideal S1x1024x256 .bf16) (x : Vec Ideal S2048x1024 .bf16) (s : Vec Ideal S2048x1024 .f32)

/-- At the first point the body starts the sum at zero, and writes the block of the matrix's gradient. -/
theorem first_sum (hc : cond0_0 i) : out0_A_3 c i a2 h2 a3 h3 a4 h4 a5 h5 a6 h6 hc dy w x = k0_pay2 dy (k0_pay1 (F := Ideal)) w := by
  unfold out0_A_3
  rw [View.read_writes_eq_canon _ _ _ (cover0_A_3 c i a2 h2 a3 h3 a4 h4 a5 h5 a6 h6 hc dy w x)]
  unfold kernelRun0_A
  dsimp only
  sl_unfold_words
  rw [View.canon_cons_unit_zero (S := S2048x1024) plane, View.readCov_unit_zero (S := S2048x1024) _ plane]
  simp only [View.readAt_eq_ld, h2.read_unread, h3.read_unread, h4.read_unread,
    View.ld_unit_zero (S := S2048x256) plane, View.ld_unit_zero (S := S1x1024x256) space, View.ld_unit_zero (S := S2048x1024) plane]

theorem first_block (hc : cond0_0 i) : out0_A_4 c i a2 h2 a3 h3 a4 h4 a5 h5 a6 h6 hc dy w x = k0_pay3 dy x := by
  unfold out0_A_4
  rw [View.read_writes_eq_canon _ _ _ (cover0_A_4 c i a2 h2 a3 h3 a4 h4 a5 h5 a6 h6 hc dy w x)]
  unfold kernelRun0_A
  dsimp only
  sl_unfold_words
  rw [View.canon_unit_zero plane]
  simp only [View.readAt_eq_ld, h2.read_unread, h3.read_unread, h4.read_unread,
    View.ld_unit_zero (S := S2048x256) plane, View.ld_unit_zero (S := S1x1024x256) space, View.ld_unit_zero (S := S2048x1024) plane]

/-- At a later point it adds to what the point before left. -/
theorem next_sum (hc : ¬cond0_0 i) : out0_B_3 c i a2 h2 a3 h3 a4 h4 a5 h5 a6 h6 hc dy w x s = k0_pay2 dy s w := by
  unfold out0_B_3
  rw [View.read_writes_eq_canon _ _ _ (cover0_B_3 c i a2 h2 a3 h3 a4 h4 a5 h5 a6 h6 hc dy w x s)]
  unfold kernelRun0_B
  dsimp only
  rw [View.canon_unit_zero plane]
  sl_unfold_words
  simp only [View.readAt_eq_ld, h2.read_unread, h3.read_unread, h4.read_unread, h5.read_unread,
    View.ld_unit_zero (S := S2048x256) plane, View.ld_unit_zero (S := S1x1024x256) space, View.ld_unit_zero (S := S2048x1024) plane]

theorem next_block (hc : ¬cond0_0 i) : out0_B_4 c i a2 h2 a3 h3 a4 h4 a5 h5 a6 h6 hc dy w x s = k0_pay3 dy x := by
  unfold out0_B_4
  rw [View.read_writes_eq_canon _ _ _ (cover0_B_4 c i a2 h2 a3 h3 a4 h4 a5 h5 a6 h6 hc dy w x s)]
  unfold kernelRun0_B
  dsimp only
  sl_unfold_words
  rw [View.canon_unit_zero plane]
  simp only [View.readAt_eq_ld, h2.read_unread, h3.read_unread, h4.read_unread,
    View.ld_unit_zero (S := S2048x256) plane, View.ld_unit_zero (S := S1x1024x256) space, View.ld_unit_zero (S := S2048x1024) plane]

/-- What one point computes. -/
theorem sum_value : k0_pay2 dy s w = fun j => s j + ∑ p : Fin 256, dy (ix2 (j 0) p) * w (ix3 0 (j 1) p) := by
  funext j
  pointwise [k0_pay2]

theorem block_value : k0_pay3 dy x = matrixBack dy x := by
  funext j
  pointwise [k0_pay3]

end Point

variable (m : (ℓ : Loc nD τ sig) → Buf (Elt Ideal) ℓ)

abbrev arg0 (c : Dev nD) : Rows 2048 6144 := m ((c : Thread nD τ).loc main_arg0)

abbrev arg1 (c : Dev nD) : (⟨3, ![4, 1024, 1536]⟩ : Shape).Idx → EReal := m ((c : Thread nD τ).loc main_arg1)

abbrev arg2 (c : Dev nD) : Rows 2048 1024 := m ((c : Thread nD τ).loc main_arg2)

/-- Point `t` has block `t` of the columns, and everything of the other two. -/
theorem places : ∀ t : Fin cfg0.N, win0_0.index t = ![0, t.val] ∧ win0_1.index t = ![t.val / 6, 0, t.val % 6] ∧ win0_2.index t = ![0, 0]
    ∧ win0_3.index t = ![0, 0] ∧ win0_4.index t = ![0, t.val] :=
  (by decide +kernel : ∀ t : Fin grid0.N, _)

abbrev at_col (t : Fin cfg0.N) (p : Fin 256) : Fin 6144 := col (N := 24) rfl t p

theorem block0 (c : Dev nD) (t : Fin cfg0.N) : iblk m c 0 t = fun y => arg0 m c (ix2 (y 0) (at_col t (y 1))) :=
  funext fun y => congrArg (V m c main_arg0) (col_at (N := 24) (y := y) rfl (places t).1 rfl rfl)

theorem block1 (c : Dev nD) (t : Fin cfg0.N) : iblk m c 1 t = fun y => wide rfl (arg1 m c) (ix2 (y 1) (at_col t (y 2))) :=
  funext fun y => congrArg (V m c main_arg1) (part_at (N := 24) (y := y) rfl rfl rfl (places t).2.1 rfl rfl rfl)

theorem block2 (c : Dev nD) (t : Fin cfg0.N) : iblk m c 2 t = arg2 m c :=
  funext fun y => congrArg (V m c main_arg2) (whole_at (y := y) (places t).2.2.1 rfl rfl)

/-- What a column adds to the gradient at the input. -/
abbrev added (c : Dev nD) (j : S2048x1024.Idx) (k : Fin 6144) : EReal := arg0 m c (ix2 (j 0) k) * wide rfl (arg1 m c) (ix2 (j 1) k)

theorem sum_left (c : Dev nD) : ∀ (n : ℕ) (h : n < cfg0.N), (outsAt0 m c n h).1 = fun j => upTo (N := 24) rfl (added m c j) (n + 1)
  | 0, h => by
    have e := congrArg (fun q => q.1) (outsAt0_A m c ⟨0, h⟩ rfl)
    dsimp only at e
    rw [e, first_sum, sum_value, block0 m c, block1 m c]
    funext j
    rw [upTo_next (N := 24) rfl (added m c j) ⟨0, h⟩, upTo_zero]
    exact congrArg (· + _) word_zero
  | n + 1, h => by
    have h24 : cfg0.N = 24 := N_0
    have e := congrArg (fun q => q.1) (outsAt0_B m c ⟨n + 1, h⟩ (by dsimp only; omega))
    dsimp only at e
    rw [e, next_sum, sum_value, block0 m c, block1 m c]
    funext j
    rw [upTo_next (N := 24) rfl (added m c j) ⟨n + 1, h⟩]
    exact congrArg (· + _) (congrFun (sum_left c n _) j)

theorem block_left (c : Dev nD) (t : Fin cfg0.N) :
    (outsAt0 m c t.val t.isLt).2 = fun y => matrixBack (arg0 m c) (arg2 m c) (ix2 (y 0) (at_col t (y 1))) := by
  have e : (outsAt0 m c t.val t.isLt).2 = k0_pay3 (iblk m c 0 t) (iblk m c 2 t) := by
    by_cases h : t.val % 24 = 0
    · rw [outsAt0_A m c t h]; dsimp only; rw [first_block]
    · rw [outsAt0_B m c t h]; dsimp only; rw [next_block]
  rw [e, block_value, block0 m c t, block2 m c t]
  rfl

theorem sum_last (c : Dev nD) (t : Fin cfg0.N) (h : t.val = 23) :
    (outsAt0 m c t.val t.isLt).1 = inputBack rfl (arg0 m c) (arg1 m c) := by
  rw [sum_left]
  funext j
  rw [h]
  exact upTo_all (N := 24) rfl (added m c j)

theorem whole_input (c : Dev nD) : (dats m 0 c).arrAt 3 cfg0.N = inputBack rfl (arg0 m c) (arg1 m c) := by
  have h24 : cfg0.N = 24 := N_0
  refine (dats m 0 c).arrAt_eq_of_cover 3 _ (fun t hf => ?_) fun i => ?_
  · rw [flushed3, sum_last m c t (by have := (flush0_3 t).mp hf; have := t.isLt; omega)]
    generalize inputBack rfl (arg0 m c) (arg1 m c) = f
    exact funext fun y => (congrArg f
      (whole_at (y := y) (i := ((cfg0.win 3).blk t).view.emb y) (places t).2.2.2.1 rfl rfl)).symm
  · obtain ⟨t, ht⟩ : ∃ t : Fin cfg0.N, t.val = 23 := ⟨⟨23, by omega⟩, rfl⟩
    refine ⟨t, (flush0_3 t).mpr (by omega), ?_⟩
    show i ∈ ((View.whole main_v0_0).slice (win0_3.rect t)).set
    rw [View.set_slice_whole, Rect.mem_set_unit]
    exact in_tile i (by decide) ((places t).2.2.2.1.trans
      (by rw [show (i 0).val / 2048 = 0 by have : (i 0).val < 2048 := (i 0).isLt; omega]))

theorem whole_matrix (c : Dev nD) : (dats m 0 c).arrAt 4 cfg0.N = matrixBack (arg0 m c) (arg2 m c) := by
  refine (dats m 0 c).arrAt_eq_of_cover 4 _ (fun t _ => ?_) fun i => ?_
  · rw [flushed4, block_left]
    generalize matrixBack (arg0 m c) (arg2 m c) = f
    exact funext fun y => (congrArg f
      (col_at (N := 24) (t := t) (y := y) (i := ((cfg0.win 4).blk t).view.emb y) rfl (places t).2.2.2.2 rfl rfl)).symm
  · have h1 : (i 1).val < 6144 := (i 1).isLt
    let t : Fin cfg0.N := ⟨(i 1).val / 256, by show _ < 24; omega⟩
    refine ⟨t, flush0_4 t, ?_⟩
    show i ∈ ((View.whole main_v0_1).slice (win0_4.rect t)).set
    rw [View.set_slice_whole, Rect.mem_set_unit]
    exact in_column i (places t).2.2.2.2

theorem algebraic : Cert.algebraic_BackUpIdeal_BackUpRefIdeal := by
  intro m g m' g' _ agree
  refine ⟨_, _, (θ_run defs _ _).mono (fun _ h c => ⟨(h c).1.trans (whole_input m c), (h c).2.1.trans (whole_matrix m c),
    (h c).2.2⟩) (run_blocks (F := Ideal) m g), ?_⟩
  refine (θ_run Cert.BackUpRefIdeal.defs _ _).mono (fun _ h c => ⟨(h c).1.trans ?_, (h c).2.1.trans ?_, (h c).2.2⟩)
    (Cert.BackUpRefIdeal.Value.run (F := Ideal) m' g')
  · clear * - agree
    rw [(agree c).1, (agree c).2.1]
    refine Eq.trans (congrArg _ (wide_eq rfl (arg1 m c) _ _)) ?_
    funext j
    pointwise []
  · clear * - agree
    rw [(agree c).1, (agree c).2.2]
    funext j
    pointwise []
    exact matrix_turned (arg0 m c) (arg2 m c) j

end Cert.Proof.BackUp

end
-- ==== Proof.Parts.lean ====
/-
# The branches' gradients, 256 columns at a time

The input product has seven parts of 1024 columns each; the calls that differentiate the branches take four blocks of 256 columns from
the parts they need, and four blocks of rows from the branch's matrix.
-/
module

public import proofs.«01_k».proof.Proof.Columns

@[expose] public section

noncomputable section

namespace Cert.Parts

open Idealize.ShloMosaic Cert.Rms Cert.Columns

/-! ## Arrays of any number of columns -/

section Columns

variable {C : Nat}

/-- The gradient at the matrix product's input. -/
abbrev through (da : Rows 2048 1024) (w : Rows C 1024) : Rows 2048 C := fun j => ∑ k : Fin 1024, da (ix2 (j 0) k) * w (ix2 (j 1) k)

/-- Two arrays multiplied. -/
abbrev times (x y : Rows 2048 C) : Rows 2048 C := fun j => x j * y j

/-- The gradient at the convolution's output. -/
abbrev outer (da : Rows 2048 1024) (w : Rows C 1024) (b : Rows 2048 C) : Rows 2048 C := times (through da w) b

/-- Part `k` of the input product. -/
abbrev part (k : Fin 7) (x : Rows 2048 7168) : Rows 2048 1024 := fun j => x (ix2 (j 0) (⟨1024 * k.val + (j 1).val, by
  have : (j 1).val < 1024 := (j 1).isLt
  omega⟩ : Fin 7168))

end Columns

/-! ## Their blocks -/

section Cut

variable {R : Nat}

abbrev at_col (t : Fin 4) (p : Fin 256) : Fin 1024 := col (N := 4) rfl t p

/-- Block `t` of an array's columns, and of a matrix's rows. -/
abbrev cut (t : Fin 4) (x : Rows R 1024) : Rows R 256 := fun y => x (ix2 (y 0) (at_col t (y 1)))

abbrev cut_rows (t : Fin 4) (x : Rows 1024 1024) : Rows 256 1024 := fun y => x (ix2 (at_col t (y 0)) (y 1))

theorem part_col_at (k : Fin 7) {w : Fin 2 → Nat} {t : Fin 4} {i : (⟨2, ![2048, 7168]⟩ : Shape).Idx} {y : (⟨2, ![2048, 256]⟩ : Shape).Idx}
    {c : Fin 7168} (hc : c.val = 1024 * k.val + (256 * t.val + (y 1).val))
    (h : w = ![0, 4 * k.val + t.val]) (e0 : (i 0).val = w 0 * 2048 + 1 * (y 0).val) (e1 : (i 1).val = w 1 * 256 + 1 * (y 1).val) :
    i = ix2 (y 0 : Fin 2048) c := by
  rw [h] at e0 e1
  funext a
  match a with
  | ⟨0, _⟩ => exact Fin.ext (e0.trans (by show 0 * 2048 + 1 * (y 0).val = (y 0).val; omega))
  | ⟨1, _⟩ => exact Fin.ext (e1.trans (by show (4 * k.val + t.val) * 256 + 1 * (y 1).val = c.val; omega))

theorem cut_row_at {w : Fin 2 → Nat} {t : Fin 4} {i : (⟨2, ![1024, 1024]⟩ : Shape).Idx} {y : (⟨2, ![256, 1024]⟩ : Shape).Idx}
    (h : w = ![t.val, 0]) (e0 : (i 0).val = w 0 * 256 + 1 * (y 0).val) (e1 : (i 1).val = w 1 * 1024 + 1 * (y 1).val) :
    i = ix2 (at_col t (y 0)) (y 1 : Fin 1024) := by
  rw [h] at e0 e1
  funext a
  match a with
  | ⟨0, _⟩ => exact Fin.ext (e0.trans (by show t.val * 256 + 1 * (y 0).val = 256 * t.val + (y 0).val; omega))
  | ⟨1, _⟩ => exact Fin.ext (e1.trans (by show 0 * 1024 + 1 * (y 1).val = (y 1).val; omega))

end Cut

end Cert.Parts

end
-- ==== Proof.BackOut.lean ====
/-
# The gradients at the branches' sum

The two branches are added through their gates and multiplied by a matrix. Each point of the grid has 256 columns of the branches and of
their gates, and what it computes of them is what the whole arrays have there. The gates' gradients go to their own columns of an array
as wide as the input product, from which the lines after the kernel take them.
-/
module

public import proofs.«01_k».proof.Proof.Gen.BackOut.Frame
public import proofs.«01_k».proof.Proof.Gen.BackOutIdeal.Frame
public import proofs.«01_k».proof.Proof.Gen.BackOutRefIdeal.Run
public import proofs.«01_k».proof.Proof.Parts
public import proofs.«01_k».proof.Proof.Total
public import Idealize.ShloMosaic.Lib.Quiescent

@[expose] public section

noncomputable section

open Idealize.ShloMosaic Idealize.ShloMosaic.TcCoe Idealize.SL.Sem Cert.Total Cert.Rms Cert.Columns Cert.Parts

namespace Cert.Proof.BackOut

/-! ## What the arrays are, of any number of columns -/

section Columns

variable {C : Nat}

/-- A gate. -/
abbrev gate (x : Rows 2048 C) : Rows 2048 C := fun j => Ideal.logistic (x j)

/-- The gradient at a gate: `d` at the gated branch, `a` the branch. -/
abbrev gateBack (d a x : Rows 2048 C) : Rows 2048 C := fun j => d j * a j * (Ideal.logistic (x j) * (1 - Ideal.logistic (x j)))

end Columns

/-- An array of 1024 columns in each of the seven parts. -/
abbrev everywhere (f : Rows 2048 1024) : Rows 2048 7168 := fun i => f (ix2 (i 0) (⟨(i 1).val % 1024, Nat.mod_lt _ (by decide)⟩ : Fin 1024))

/-! ## The reference -/

section Host

open Cert.BackOutRefIdeal Cert.BackOutRefIdeal.Facts₀

theorem host_part5 (p : FVec Ideal S2048x7168 .f32) :
    extractStridedSlice S2048x1024 ![0, 5120] p slices_S2048x7168_S2048x1024_0_5120 = part 5 p := by
  funext j
  pointwise []
  rfl

theorem host_part6 (p : FVec Ideal S2048x7168 .f32) :
    extractStridedSlice S2048x1024 ![0, 6144] p slices_S2048x7168_S2048x1024_0_6144 = part 6 p := by
  funext j
  pointwise []
  rfl

theorem host_through (d : FVec Ideal S2048x1024 .bf16) (w : FVec Ideal S1024x1024 .bf16) :
    Host.dotGeneral dot_S2048x1024_S1024x1024_S2048x1024_1_1_0_0_n_n none (extf .f32 d bitsLt_bf16_f32) (extf .f32 w bitsLt_bf16_f32) = through d w := by
  funext j
  pointwise []

theorem host_gate (x : FVec Ideal S2048x1024 .f32) :
    Host.divf (broadcastInDim S2048x1024 ![] bcast_S_S2048x1024 (constant S_ .f32 0x3F800000#32)) (addf (broadcastInDim S2048x1024 ![] bcast_S_S2048x1024 (constant S_ .f32 0x3F800000#32)) (Host.exp (Host.negf x)))
      = gate x := by
  funext j
  pointwise []
  rfl

theorem host_gateBack (d a x : FVec Ideal S2048x1024 .f32) :
    (mulf (mulf d a) (mulf (gate x) (subf (broadcastInDim S2048x1024 ![] bcast_S_S2048x1024 (constant S_ .f32 0x3F800000#32)) (gate x))) : FVec Ideal S2048x1024 .f32)
      = gateBack d a x := by
  funext j
  pointwise []

end Host

open Cert.BackOutIdeal Cert.BackOutIdeal.Gen

theorem frame : Cert.quiescent_BackOut := fun m g _ => Cert.BackOut.Gen.frame m g

theorem frame_ideal : Cert.quiescent_BackOutIdeal := fun m g _ => Cert.BackOutIdeal.Gen.frame m g

theorem frame_ref_ideal : Cert.quiescent_BackOutRefIdeal := fun m g _ =>
  (θ_run Cert.BackOutRefIdeal.defs _ _).mono (fun r h => ⟨fun c => (h c).2.2.2.2.2, sem_eq_zero_of_no_sems (by decide) r.2⟩)
    (Cert.BackOutRefIdeal.Value.run (F := Ideal) m g)

/-! ## What one point computes -/

section Point

variable (d : Vec Ideal S2048x1024 .bf16) (w : Vec Ideal S256x1024 .bf16) (s : Vec Ideal S2048x256 .bf16) (a b x y : Vec Ideal S2048x256 .f32)

theorem through_value : k0_pay3 d w = through d w := by
  funext j
  pointwise [k0_pay3]

theorem gate5 : k0_pay5 x = gate x := by
  funext j
  pointwise [k0_pay5]
  rw [zero_sub]
  rfl

theorem gate6 : k0_pay6 x = gate x := by
  funext j
  pointwise [k0_pay6]
  rw [zero_sub]
  rfl

theorem matrix_value : k0_pay4 d s = matrixBack d s := by
  funext j
  pointwise [k0_pay4]

theorem back1 (e : FVec Ideal S2048x256 .f32) : k0_pay1 e (gate x) a = gateBack e a x := by
  funext j
  pointwise [k0_pay1]
  exact mul_assoc _ _ _

theorem back2 (e : FVec Ideal S2048x256 .f32) : k0_pay2 e (gate x) a = gateBack e a x := by
  funext j
  pointwise [k0_pay2]
  exact mul_assoc _ _ _

theorem left7 : out0_7 d w s a b x y = times (through d w) (gate x) := by
  unfold out0_7
  rw [View.canon_unit_zero plane]
  simp only [View.ld_unit_zero (S := S2048x1024) plane, View.ld_unit_zero (S := S256x1024) plane, View.ld_unit_zero (S := S2048x256) plane]
  unfold k0_pay7
  dsimp only
  rw [through_value, gate5]
  rfl

theorem left8 : out0_8 d w s a b x y = times (through d w) (gate y) := by
  unfold out0_8
  rw [View.canon_unit_zero plane]
  simp only [View.ld_unit_zero (S := S2048x1024) plane, View.ld_unit_zero (S := S256x1024) plane, View.ld_unit_zero (S := S2048x256) plane]
  unfold k0_pay8
  dsimp only
  rw [through_value, gate6]
  rfl

theorem left9 : out0_9 d w s a b x y = matrixBack d s := by
  unfold out0_9
  rw [View.canon_unit_zero plane]
  simp only [View.ld_unit_zero (S := S2048x1024) plane, View.ld_unit_zero (S := S2048x256) plane]
  exact matrix_value d s

theorem left10 : out0_10 d w s a b x y = gateBack (through d w) a x := by
  unfold out0_10 k0_pay9
  rw [View.canon_unit_zero plane]
  simp only [View.ld_unit_zero (S := S2048x1024) plane, View.ld_unit_zero (S := S256x1024) plane, View.ld_unit_zero (S := S2048x256) plane]
  rw [through_value, gate5, back1]

theorem left11 : out0_11 d w s a b x y = gateBack (through d w) b y := by
  unfold out0_11 k0_pay9
  rw [View.canon_unit_zero plane]
  simp only [View.ld_unit_zero (S := S2048x1024) plane, View.ld_unit_zero (S := S256x1024) plane, View.ld_unit_zero (S := S2048x256) plane]
  rw [through_value, gate6, back2]

end Point

/-! ## The whole arrays -/

variable (m : (ℓ : Loc nD τ sig) → Buf (Elt Ideal) ℓ)

abbrev arg0 (c : Dev nD) : Rows 2048 1024 := m ((c : Thread nD τ).loc main_arg0)

abbrev arg1 (c : Dev nD) : Rows 1024 1024 := m ((c : Thread nD τ).loc main_arg1)

abbrev arg2 (c : Dev nD) : Rows 2048 1024 := m ((c : Thread nD τ).loc main_arg2)

abbrev arg3 (c : Dev nD) : Rows 2048 1024 := m ((c : Thread nD τ).loc main_arg3)

abbrev arg4 (c : Dev nD) : Rows 2048 1024 := m ((c : Thread nD τ).loc main_arg4)

abbrev arg5 (c : Dev nD) : Rows 2048 7168 := m ((c : Thread nD τ).loc main_arg5)

theorem places : ∀ t : Fin cfg0.N, (win0_0.index t = ![0, 0] ∧ win0_1.index t = ![t.val, 0] ∧ win0_2.index t = ![0, t.val]
    ∧ win0_3.index t = ![0, t.val] ∧ win0_4.index t = ![0, t.val] ∧ win0_5.index t = ![0, 4 * 5 + t.val] ∧ win0_6.index t = ![0, 4 * 6 + t.val])
    ∧ win0_7.index t = ![0, t.val] ∧ win0_8.index t = ![0, t.val] ∧ win0_9.index t = ![t.val, 0] ∧ win0_10.index t = ![0, 4 * 5 + t.val]
    ∧ win0_11.index t = ![0, 4 * 6 + t.val] :=
  (by decide +kernel : ∀ t : Fin grid0.N, _)

section Blocks

variable (c : Dev nD) (t : Fin cfg0.N)

theorem block0 : iblk m c 0 t = arg0 m c :=
  funext fun y => congrArg (V m c main_arg0) (whole_at (y := y) (places t).1.1 rfl rfl)

theorem block1 : iblk m c 1 t = cut_rows t (arg1 m c) :=
  funext fun y => congrArg (V m c main_arg1) (cut_row_at (y := y) (places t).1.2.1 rfl rfl)

theorem block2 : iblk m c 2 t = cut t (arg2 m c) :=
  funext fun y => congrArg (V m c main_arg2) (col_at (N := 4) (y := y) rfl (places t).1.2.2.1 rfl rfl)

theorem block3 : iblk m c 3 t = cut t (arg3 m c) :=
  funext fun y => congrArg (V m c main_arg3) (col_at (N := 4) (y := y) rfl (places t).1.2.2.2.1 rfl rfl)

theorem block4 : iblk m c 4 t = cut t (arg4 m c) :=
  funext fun y => congrArg (V m c main_arg4) (col_at (N := 4) (y := y) rfl (places t).1.2.2.2.2.1 rfl rfl)

theorem block5 : iblk m c 5 t = cut t (part 5 (arg5 m c)) :=
  funext fun y => congrArg (V m c main_arg5) (part_col_at 5 (y := y) rfl (places t).1.2.2.2.2.2.1 rfl rfl)

theorem block6 : iblk m c 6 t = cut t (part 6 (arg5 m c)) :=
  funext fun y => congrArg (V m c main_arg5) (part_col_at 6 (y := y) rfl (places t).1.2.2.2.2.2.2 rfl rfl)

end Blocks

/-- The point that has a column, or a row of the matrix. -/
theorem point (n : Nat) (h : n < 1024) : ∃ t : Fin cfg0.N, t.val = n / 256 :=
  ⟨⟨n / 256, by show _ < 4; omega⟩, rfl⟩

abbrev summed (c : Dev nD) : Rows 2048 1024 := through (arg0 m c) (arg1 m c)

theorem whole7 (c : Dev nD) : (dats m 0 c).arrAt 7 cfg0.N = times (summed m c) (gate (part 5 (arg5 m c))) := by
  refine (dats m 0 c).arrAt_eq_of_cover 7 _ (fun t _ => ?_) fun i => ?_
  · show (cfg0.win 7).cut (grid0.coords t) ((dats m 0 c).after 7 t) = _
    rw [after0_7, left7, block0 m c t, block1 m c t, block5 m c t,
      show times (through (arg0 m c) (cut_rows t (arg1 m c))) (gate (cut t (part 5 (arg5 m c)))) = cut t (times (summed m c) (gate (part 5 (arg5 m c)))) from rfl]
    generalize times (summed m c) (gate (part 5 (arg5 m c))) = f
    exact funext fun y => (congrArg f
      (col_at (N := 4) (t := t) (y := y) (i := ((cfg0.win 7).blk t).view.emb y) rfl (places t).2.1 rfl rfl)).symm
  · obtain ⟨t, ht⟩ := point (i 1).val (i 1).isLt
    refine ⟨t, flush0_7 t, ?_⟩
    show i ∈ ((View.whole main_v0_0).slice (win0_7.rect t)).set
    rw [View.set_slice_whole, Rect.mem_set_unit]
    exact in_column i (ht ▸ (places t).2.1)

theorem whole8 (c : Dev nD) : (dats m 0 c).arrAt 8 cfg0.N = times (summed m c) (gate (part 6 (arg5 m c))) := by
  refine (dats m 0 c).arrAt_eq_of_cover 8 _ (fun t _ => ?_) fun i => ?_
  · show (cfg0.win 8).cut (grid0.coords t) ((dats m 0 c).after 8 t) = _
    rw [after0_8, left8, block0 m c t, block1 m c t, block6 m c t,
      show times (through (arg0 m c) (cut_rows t (arg1 m c))) (gate (cut t (part 6 (arg5 m c)))) = cut t (times (summed m c) (gate (part 6 (arg5 m c)))) from rfl]
    generalize times (summed m c) (gate (part 6 (arg5 m c))) = f
    exact funext fun y => (congrArg f
      (col_at (N := 4) (t := t) (y := y) (i := ((cfg0.win 8).blk t).view.emb y) rfl (places t).2.2.1 rfl rfl)).symm
  · obtain ⟨t, ht⟩ := point (i 1).val (i 1).isLt
    refine ⟨t, flush0_8 t, ?_⟩
    show i ∈ ((View.whole main_v0_1).slice (win0_8.rect t)).set
    rw [View.set_slice_whole, Rect.mem_set_unit]
    exact in_column i (ht ▸ (places t).2.2.1)

theorem whole9 (c : Dev nD) : (dats m 0 c).arrAt 9 cfg0.N = matrixBack (arg0 m c) (arg2 m c) := by
  refine (dats m 0 c).arrAt_eq_of_cover 9 _ (fun t _ => ?_) fun i => ?_
  · show (cfg0.win 9).cut (grid0.coords t) ((dats m 0 c).after 9 t) = _
    rw [after0_9, left9, block0 m c t, block2 m c t,
      show matrixBack (arg0 m c) (cut t (arg2 m c)) = cut_rows t (matrixBack (arg0 m c) (arg2 m c)) from rfl]
    generalize matrixBack (arg0 m c) (arg2 m c) = f
    exact funext fun y => (congrArg f
      (cut_row_at (t := t) (y := y) (i := ((cfg0.win 9).blk t).view.emb y) (places t).2.2.2.1 rfl rfl)).symm
  · obtain ⟨t, ht⟩ := point (i 0).val (i 0).isLt
    refine ⟨t, flush0_9 t, ?_⟩
    show i ∈ ((View.whole main_v0_2).slice (win0_9.rect t)).set
    rw [View.set_slice_whole, Rect.mem_set_unit]
    exact in_tile i (by decide) (ht ▸ (places t).2.2.2.1)

/-- A block of the parts that hold `f` is a block of `f`. -/
theorem everywhere_at (f : Rows 2048 1024) (k : Fin 7) {w : Fin 2 → Nat} {t : Fin 4} {i : (⟨2, ![2048, 7168]⟩ : Shape).Idx}
    {y : (⟨2, ![2048, 256]⟩ : Shape).Idx} (h : w = ![0, 4 * k.val + t.val]) (e0 : (i 0).val = w 0 * 2048 + 1 * (y 0).val)
    (e1 : (i 1).val = w 1 * 256 + 1 * (y 1).val) : everywhere f i = cut t f y := by
  have h1 : (y 1).val < 256 := (y 1).isLt
  rw [h] at e0 e1
  refine congrArg f (congrArg₂ ix2 (Fin.ext ?_) (Fin.ext ?_))
  · exact e0.trans (by show 0 * 2048 + 1 * (y 0).val = (y 0).val; omega)
  · show (i 1).val % 1024 = 256 * t.val + (y 1).val
    have e : (i 1).val = (4 * k.val + t.val) * 256 + 1 * (y 1).val := e1
    have := t.isLt
    omega

/-- Where column `j` of part `k` is: in block `j / 256` of the part. -/
theorem in_part (k : Fin 7) {w : Fin 2 → Nat} (i : (⟨2, ![2048, 7168]⟩ : Shape).Idx) (n : Nat) (hi : (i 1).val = 1024 * k.val + n)
    (h : w = ![0, 4 * k.val + n / 256]) :
    ∀ a : Fin 2, w a * (![2048, 256] : Fin 2 → Nat) a ≤ (i a).val ∧ (i a).val < w a * (![2048, 256] : Fin 2 → Nat) a + (![2048, 256] : Fin 2 → Nat) a :=
  in_column i (h.trans (by rw [hi]; congr 2; omega))

theorem in_everywhere (f : Rows 2048 1024) (k : Fin 7) (j : (⟨2, ![2048, 1024]⟩ : Shape).Idx) : part k (everywhere f) j = f j := by
  have h1 : (j 1).val < 1024 := (j 1).isLt
  refine congrArg f (funext fun a => ?_)
  match a with
  | ⟨0, _⟩ => rfl
  | ⟨1, _⟩ => exact Fin.ext (by show (1024 * k.val + (j 1).val) % 1024 = (j 1).val; omega)

abbrev first_gate (c : Dev nD) : Rows 2048 1024 := gateBack (summed m c) (arg3 m c) (part 5 (arg5 m c))

abbrev second_gate (c : Dev nD) : Rows 2048 1024 := gateBack (summed m c) (arg4 m c) (part 6 (arg5 m c))

theorem part10 (c : Dev nD) : part 5 ((dats m 0 c).arrAt 10 cfg0.N) = first_gate m c := by
  funext j
  obtain ⟨t, ht⟩ := point (j 1).val (j 1).isLt
  refine ((dats m 0 c).arrAt_apply_of_mem 10 (everywhere (first_gate m c)) (fun t _ => ?_) cfg0.N t _ t.isLt (flush0_10 t) ?_).trans
    (in_everywhere (first_gate m c) 5 j)
  · show (cfg0.win 10).cut (grid0.coords t) ((dats m 0 c).after 10 t) = _
    rw [after0_10, left10, block0 m c t, block1 m c t, block3 m c t, block5 m c t,
      show gateBack (through (arg0 m c) (cut_rows t (arg1 m c))) (cut t (arg3 m c)) (cut t (part 5 (arg5 m c))) = cut t (first_gate m c) from rfl]
    generalize first_gate m c = f
    exact funext fun y => (everywhere_at f 5 (t := t) (y := y) (i := ((cfg0.win 10).blk t).view.emb y) (places t).2.2.2.2.1 rfl rfl).symm
  · show _ ∈ ((View.whole main_v0_3).slice (win0_10.rect t)).set
    rw [View.set_slice_whole, Rect.mem_set_unit]
    exact in_part 5 _ (j 1).val rfl (ht ▸ (places t).2.2.2.2.1)

theorem part11 (c : Dev nD) : part 6 ((dats m 0 c).arrAt 11 cfg0.N) = second_gate m c := by
  funext j
  obtain ⟨t, ht⟩ := point (j 1).val (j 1).isLt
  refine ((dats m 0 c).arrAt_apply_of_mem 11 (everywhere (second_gate m c)) (fun t _ => ?_) cfg0.N t _ t.isLt (flush0_11 t) ?_).trans
    (in_everywhere (second_gate m c) 6 j)
  · show (cfg0.win 11).cut (grid0.coords t) ((dats m 0 c).after 11 t) = _
    rw [after0_11, left11, block0 m c t, block1 m c t, block4 m c t, block6 m c t,
      show gateBack (through (arg0 m c) (cut_rows t (arg1 m c))) (cut t (arg4 m c)) (cut t (part 6 (arg5 m c))) = cut t (second_gate m c) from rfl]
    generalize second_gate m c = f
    exact funext fun y => (everywhere_at f 6 (t := t) (y := y) (i := ((cfg0.win 11).blk t).view.emb y) (places t).2.2.2.2.2 rfl rfl).symm
  · show _ ∈ ((View.whole main_v0_4).slice (win0_11.rect t)).set
    rw [View.set_slice_whole, Rect.mem_set_unit]
    exact in_part 6 _ (j 1).val rfl (ht ▸ (places t).2.2.2.2.2)

/-! ## The lines after the kernel -/

theorem slice5 (p : FVec Ideal S2048x7168 .bf16) :
    extractStridedSlice S2048x1024 ![0, 5120] p slices_S2048x7168_S2048x1024_0_5120 = part 5 p := by
  funext j
  pointwise []
  rfl

theorem slice6 (p : FVec Ideal S2048x7168 .bf16) :
    extractStridedSlice S2048x1024 ![0, 6144] p slices_S2048x7168_S2048x1024_0_6144 = part 6 p := by
  funext j
  pointwise []
  rfl

theorem tail (W : Valuation τ sig (Elt Ideal)) (p q : S2048x7168.Idx → Ideal .bf16) (hp : W (Proc.devRef .tc main_v0_3) = p)
    (hq : W (Proc.devRef .tc main_v0_4) = q) :
    StableHlo.after hostOps1 W (Proc.devRef .tc main_v1) = extractStridedSlice S2048x1024 ![0, 5120] p slices_S2048x7168_S2048x1024_0_5120
    ∧ StableHlo.after hostOps1 W (Proc.devRef .tc main_v2) = extractStridedSlice S2048x1024 ![0, 6144] q slices_S2048x7168_S2048x1024_0_6144 := by
  subst hp hq
  and_intros <;> (after_results; try rfl)

theorem gates (c : Dev nD) :
    Pipeline.afterTail₀ cfgs (dats m) 0 (V0 m) [hostOps1] c main_v1 = first_gate m c
    ∧ Pipeline.afterTail₀ cfgs (dats m) 0 (V0 m) [hostOps1] c main_v2 = second_gate m c := by
  let W : Valuation τ sig (Elt Ideal) := Pipeline.withArrays spec0 c (V0 m c) fun w => (dats m 0 c).arrAt w cfg0.N
  have arr (w : Fin 12) : W (Proc.devRef .tc (Pipeline.arrRef spec0 w)) = (dats m 0 c).arrAt w cfg0.N :=
    Pipeline.withArrays_arr_shared spec0 c (V0 m c) (fun w => (dats m 0 c).arrAt w cfg0.N)
      (Pipeline.Dat.arrAt_sharedIn (dats m 0 c) sharedIn0 (V0 m c) (A_eq m c) cfg0.N) w
  have h := tail W _ _ (arr 10) (arr 11)
  exact ⟨h.1.trans ((slice5 _).trans (part10 m c)), h.2.trans ((slice6 _).trans (part11 m c))⟩

theorem algebraic : Cert.algebraic_BackOutIdeal_BackOutRefIdeal := by
  intro m g m' g' _ agree
  refine ⟨_, _, _, _, _, (θ_run defs _ _).mono (fun _ h c => ⟨((h.1 c).1 7).trans (whole7 m c), ((h.1 c).1 8).trans (whole8 m c),
    ((h.1 c).1 9).trans (whole9 m c),
    ((h.1 c).2 main_v1 (Pipeline.mem_restRefs_of main_v1 (by decide) (by decide))).trans (gates m c).1,
    ((h.1 c).2 main_v2 (Pipeline.mem_restRefs_of main_v2 (by decide) (by decide))).trans (gates m c).2,
    h.2 c⟩) (θ_run_and (run_main m g) (unchanged m g)), ?_⟩
  refine (θ_run Cert.BackOutRefIdeal.defs _ _).mono (fun _ h c => ⟨(h c).1.trans ?_, (h c).2.1.trans ?_, (h c).2.2.1.trans ?_,
    (h c).2.2.2.1.trans ?_, (h c).2.2.2.2.1.trans ?_, (h c).2.2.2.2.2⟩) (Cert.BackOutRefIdeal.Value.run (F := Ideal) m' g')
  · clear * - agree
    rw [(agree c).1, (agree c).2.1, (agree c).2.2.2.2.2, host_part5, host_gate, host_through]
    exact funext fun j => mul_comm _ _
  · clear * - agree
    rw [(agree c).1, (agree c).2.1, (agree c).2.2.2.2.2, host_part6, host_gate, host_through]
    exact funext fun j => mul_comm _ _
  · clear * - agree
    rw [(agree c).1, (agree c).2.2.1]
    funext j
    pointwise []
    exact matrix_turned _ _ _
  · clear * - agree
    rw [(agree c).1, (agree c).2.1, (agree c).2.2.2.1, (agree c).2.2.2.2.2, host_part5, host_gate, host_through]
    exact host_gateBack _ _ _
  · clear * - agree
    rw [(agree c).1, (agree c).2.1, (agree c).2.2.2.2.1, (agree c).2.2.2.2.2, host_part6, host_gate, host_through]
    exact host_gateBack _ _ _

end Cert.Proof.BackOut

end
-- ==== Proof.Shift.lean ====
/-
# Rows moved up or down

A causal convolution reads an array some rows before, its gradient some rows ahead, with zeros beyond the ends. One side rotates the
rows and masks those that came around; the other lays zeros before the rows, or around them, and cuts.
-/
module

public import proofs.«01_k».proof.Proof.Rms
public import Idealize.ShloMosaic.Lib.Pointwise
public import Idealize.ShloMosaic.Lib.WordCmp

@[expose] public section

noncomputable section

namespace Cert.Shift

open Idealize.ShloMosaic Cert.Rms

variable {R C : Nat}

/-- The array `k` rows ahead. -/
abbrev ahead (k : Nat) (x : Rows R C) : Rows R C := fun j =>
  if h : (j 0).val + k < R then x (ix2 ⟨(j 0).val + k, h⟩ (j 1)) else 0

/-- The array `k` rows before. -/
abbrev behind (k : Nat) (x : Rows R C) : Rows R C := fun j =>
  if k ≤ (j 0).val then x (ix2 ⟨(j 0).val - k, lt_of_le_of_lt (Nat.sub_le _ _) (j 0).isLt⟩ (j 1)) else 0

theorem rotated_up (x : Rows 2048 C) (k : Nat) (hk : 1 ≤ k) (hk' : k ≤ 2048) (b : BitVec 32) (hb : b.toNat = 2048 - k)
    (hi : (⟨2, ![2048, C]⟩ : Shape).Iotas .tc 32 [0]) (hr : (⟨2, ![2048, C]⟩ : Shape).Rotates 0 none) :
    select (cmpi .slt (iota .tc ⟨2, ![2048, C]⟩ 32 [0] hi) (broadcast ⟨2, ![2048, C]⟩ b))
      (dynamicRotate 0 b none x hr) (broadcast ⟨2, ![2048, C]⟩ (Scalar.ofBits (F := Ideal) .f32 0x00000000#32)) = ahead k x := by
  funext j
  have h0 : (j 0).val < 2048 := (j 0).isLt
  have e : (BitVec.ofNat 32 (j 0).val).toNat = (j 0).val := by rw [BitVec.toNat_ofNat]; omega
  pointwise []
  rw [WordCmp.cmpi_slt_of_lt (by rw [e]; omega) (by rw [hb]; omega), e, hb]
  refine (WordCmp.select_decide _ _ _).trans ?_
  by_cases h : (j 0).val + k < 2048
  · rw [if_pos (by omega), ahead, dif_pos h]
    refine congrArg x (funext fun a => Fin.ext ?_)
    match a with
    | ⟨0, _⟩ => show ((j 0).val + 2048 - (2048 - k) % 2048) % 2048 = (j 0).val + k; omega
    | ⟨1, _⟩ => rfl
  · rw [if_neg (by omega), ahead, dif_neg h]

theorem rotated_down (x : Rows 2048 C) (k : Nat) (hk' : k ≤ 2048) (b : BitVec 32) (hb : b.toNat = k)
    (hi : (⟨2, ![2048, C]⟩ : Shape).Iotas .tc 32 [0]) (hr : (⟨2, ![2048, C]⟩ : Shape).Rotates 0 none) :
    select (cmpi .sge (iota .tc ⟨2, ![2048, C]⟩ 32 [0] hi) (broadcast ⟨2, ![2048, C]⟩ b))
      (dynamicRotate 0 b none x hr) (broadcast ⟨2, ![2048, C]⟩ (Scalar.ofBits (F := Ideal) .f32 0x00000000#32)) = behind k x := by
  funext j
  have h0 : (j 0).val < 2048 := (j 0).isLt
  have e : (BitVec.ofNat 32 (j 0).val).toNat = (j 0).val := by rw [BitVec.toNat_ofNat]; omega
  pointwise []
  rw [WordCmp.cmpi_sge_of_lt (by rw [e]; omega) (by rw [hb]; omega), e, hb]
  refine (WordCmp.select_decide _ _ _).trans ?_
  by_cases h : k ≤ (j 0).val
  · rw [if_pos h, behind, if_pos h]
    refine congrArg x (funext fun a => Fin.ext ?_)
    match a with
    | ⟨0, _⟩ => show ((j 0).val + 2048 - k % 2048) % 2048 = (j 0).val - k; omega
    | ⟨1, _⟩ => rfl
  · rw [if_neg h, behind, if_neg h]

theorem padded_up (x : Rows 2048 C) (k lo hi : Nat) (hk : lo + k = 2) (v : (⟨0, ![]⟩ : Shape).Idx → EReal)
    (hv : ∀ i, v i = 0) (hp : (⟨2, ![2048, C]⟩ : Shape).Pads ![lo, 0] ![hi, 0] ![0, 0] ⟨2, ![2050, C]⟩) (hu : 0 < (⟨0, ![]⟩ : Shape).numel)
    (hs : (⟨2, ![2050, C]⟩ : Shape).Slices ![2, 0] ⟨2, ![2048, C]⟩) :
    extractStridedSlice ⟨2, ![2048, C]⟩ ![2, 0] (pad ⟨2, ![2050, C]⟩ ![lo, 0] ![hi, 0] ![0, 0] x v hp hu) hs = ahead k x := by
  funext j
  have h0 : (j 0).val < 2048 := (j 0).isLt
  have h1 : (j 1).val < C := (j 1).isLt
  pointwise []
  by_cases h : (j 0).val + k < 2048
  · refine (dif_pos ?_).trans ?_
    · show lo ≤ 2 + (j 0).val ∧ 2 + (j 0).val - lo < 2048
      omega
    · rw [ahead, dif_pos h]
      refine congrArg x (funext fun a => Fin.ext ?_)
      match a with
      | ⟨0, _⟩ => show (2 + (j 0).val - lo) / (0 + 1) = (j 0).val + k; omega
      | ⟨1, _⟩ => show (0 + (j 1).val - 0) / (0 + 1) = (j 1).val; omega
  · refine (dif_neg ?_).trans ?_
    · show ¬ (lo ≤ 2 + (j 0).val ∧ 2 + (j 0).val - lo < 2048)
      omega
    · rw [ahead, dif_neg h]
      exact hv _

theorem padded_down (x : Rows 2048 C) (k lo : Nat) (hk : lo + k = 2) (z : Rows 2 C) (hz : ∀ i, z i = 0)
    (hc : Shape.Concatenates [⟨2, ![2, C]⟩, ⟨2, ![2048, C]⟩] ⟨2, ![2050, C]⟩ 0)
    (hs : (⟨2, ![2050, C]⟩ : Shape).Slices ![lo, 0] ⟨2, ![2048, C]⟩) :
    extractStridedSlice ⟨2, ![2048, C]⟩ ![lo, 0] (concatenate ⟨2, ![2050, C]⟩ 0 [⟨⟨2, ![2, C]⟩, z⟩, ⟨⟨2, ![2048, C]⟩, x⟩] hc) hs = behind k x := by
  funext j
  have h0 : (j 0).val < 2048 := (j 0).isLt
  pointwise []
  by_cases h : k ≤ (j 0).val
  · refine (dif_neg ?_).trans ?_
    · show ¬ (lo + (j 0).val < 2)
      omega
    · rw [behind, if_pos h]
      refine congrArg x (funext fun a => Fin.ext ?_)
      match a with
      | ⟨0, _⟩ => show lo + (j 0).val - 2 = (j 0).val - k; omega
      | ⟨1, _⟩ => show 0 + (j 1).val = (j 1).val; omega
  · refine (dif_pos ?_).trans ?_
    · show lo + (j 0).val < 2
      omega
    · rw [behind, if_neg h]
      exact hz _

/-! ## The convolution's gradients -/

/-- At its input: each row goes to itself and the two rows before. -/
abbrev spread (w : Rows 3 C) (d : Rows 2048 C) : Rows 2048 C := fun j =>
  w (ix2 2 (j 1)) * d j + w (ix2 1 (j 1)) * ahead 1 d j + w (ix2 0 (j 1)) * ahead 2 d j

/-- At its taps. -/
abbrev taps (d x : Rows 2048 C) : Rows 3 C := fun j => ∑ s, d (ix2 s (j 1)) * behind (2 - (j 0).val) x (ix2 s (j 1))

/-- What depends on the column alone may be multiplied before or after. -/
theorem ahead_mul (k : Nat) (w : Fin C → EReal) (d : Rows 2048 C) :
    ahead k (fun j => d j * w (j 1)) = fun j => w (j 1) * ahead k d j := by
  funext j
  by_cases h : (j 0).val + k < 2048
  · rw [ahead, dif_pos h, ahead, dif_pos h]
    exact mul_comm _ _
  · rw [ahead, dif_neg h, ahead, dif_neg h, mul_zero]

theorem ahead_zero (d : Rows 2048 C) : ahead 0 d = d := by
  funext j
  rw [ahead, dif_pos (by have := (j 0).isLt; exact this)]
  refine congrArg d (funext fun a => ?_)
  match a with | 0 => rfl | 1 => rfl

theorem behind_zero (x : Rows 2048 C) : behind 0 x = x := by
  funext j
  rw [behind, if_pos (Nat.zero_le _)]
  refine congrArg x (funext fun a => ?_)
  match a with | 0 => rfl | 1 => rfl

theorem slice_add (o : Fin 2 → Nat) (x y : FVec Ideal ⟨2, ![2050, C]⟩ .f32) (hs : (⟨2, ![2050, C]⟩ : Shape).Slices o ⟨2, ![2048, C]⟩) :
    extractStridedSlice ⟨2, ![2048, C]⟩ o (addf x y) hs
      = addf (extractStridedSlice ⟨2, ![2048, C]⟩ o x hs : FVec Ideal ⟨2, ![2048, C]⟩ .f32) (extractStridedSlice ⟨2, ![2048, C]⟩ o y hs) := rfl

theorem in_row (i : (⟨2, ![1, C]⟩ : Shape).Idx) (p : Fin C) (h : (i 1).val = p.val) : i = ix2 (0 : Fin 1) p := by
  have h0 : (i 0).val < 1 := (i 0).isLt
  funext a
  match a with
  | ⟨0, _⟩ => exact Fin.ext (by show (i 0).val = 0; omega)
  | ⟨1, _⟩ => exact Fin.ext h

/-- Three rows, each laid among zeros and added up, are the rows one under another. -/
theorem rows_added (a b c : Rows 1 C) (v : (⟨0, ![]⟩ : Shape).Idx → EReal) (hv : ∀ i, v i = 0) (hu : 0 < (⟨0, ![]⟩ : Shape).numel)
    (h2 : (⟨2, ![1, C]⟩ : Shape).Pads ![2, 0] ![0, 0] ![0, 0] ⟨2, ![3, C]⟩)
    (h1 : (⟨2, ![1, C]⟩ : Shape).Pads ![1, 0] ![1, 0] ![0, 0] ⟨2, ![3, C]⟩)
    (h0 : (⟨2, ![1, C]⟩ : Shape).Pads ![0, 0] ![2, 0] ![0, 0] ⟨2, ![3, C]⟩) :
    (addf (addf (pad ⟨2, ![3, C]⟩ ![2, 0] ![0, 0] ![0, 0] a v h2 hu : FVec Ideal ⟨2, ![3, C]⟩ .f32) (pad ⟨2, ![3, C]⟩ ![1, 0] ![1, 0] ![0, 0] b v h1 hu))
      (pad ⟨2, ![3, C]⟩ ![0, 0] ![2, 0] ![0, 0] c v h0 hu) : FVec Ideal ⟨2, ![3, C]⟩ .f32)
      = fun j => (if (j 0).val = 0 then c else if (j 0).val = 1 then b else a) (ix2 0 (j 1)) := by
  funext j
  have h3 : (j 0).val < 3 := (j 0).isLt
  pointwise []
  rcases (by omega : (j 0).val = 0 ∨ (j 0).val = 1 ∨ (j 0).val = 2) with h | h | h
  · rw [dif_neg (by omega), dif_neg (by omega), dif_pos (by omega), hv, zero_add, zero_add, if_pos h]
    exact congrArg c (in_row _ _ (by show ((j 1).val - 0) / (0 + 1) = (j 1).val; omega))
  · rw [dif_neg (by omega), dif_pos (by omega), dif_neg (by omega), hv, zero_add, add_zero, if_neg (by omega), if_pos h]
    exact congrArg b (in_row _ _ (by show ((j 1).val - 0) / (0 + 1) = (j 1).val; omega))
  · rw [dif_pos (by omega), dif_neg (by omega), dif_neg (by omega), hv, add_zero, add_zero, if_neg (by omega), if_neg (by omega)]
    exact congrArg a (in_row _ _ (by show ((j 1).val - 0) / (0 + 1) = (j 1).val; omega))

/-- The same rows laid one under another. -/
theorem rows_laid (a b c : Rows 1 C)
    (hc : Shape.Concatenates [⟨2, ![1, C]⟩, ⟨2, ![1, C]⟩, ⟨2, ![1, C]⟩] ⟨2, ![3, C]⟩ 0) :
    (concatenate ⟨2, ![3, C]⟩ 0 [⟨⟨2, ![1, C]⟩, c⟩, ⟨⟨2, ![1, C]⟩, b⟩, ⟨⟨2, ![1, C]⟩, a⟩] hc : Rows 3 C)
      = fun j => (if (j 0).val = 0 then c else if (j 0).val = 1 then b else a) (ix2 0 (j 1)) := by
  funext j
  have h3 : (j 0).val < 3 := (j 0).isLt
  pointwise []
  rcases (by omega : (j 0).val = 0 ∨ (j 0).val = 1 ∨ (j 0).val = 2) with h | h | h
  · rw [dif_pos (by omega), if_pos h]
    exact congrArg c (in_row _ _ rfl)
  · rw [dif_neg (by omega), dif_pos (by omega), if_neg (by omega), if_pos h]
    exact congrArg b (in_row _ _ rfl)
  · rw [dif_neg (by omega), dif_neg (by omega), if_neg (by omega), if_neg (by omega)]
    exact congrArg a (in_row _ _ rfl)

/-- With the three sums as rows, they are the gradient at the taps. -/
theorem rows_taps (d x : Rows 2048 C) (a b c : Rows 1 C) (ha : a = fun i => ∑ s, d (ix2 s (i 1)) * x (ix2 s (i 1)))
    (hb : b = fun i => ∑ s, d (ix2 s (i 1)) * behind 1 x (ix2 s (i 1))) (hc : c = fun i => ∑ s, d (ix2 s (i 1)) * behind 2 x (ix2 s (i 1))) :
    (fun j => (if (j 0).val = 0 then c else if (j 0).val = 1 then b else a) (ix2 0 (j 1)) : Rows 3 C) = taps d x := by
  funext j
  have h3 : (j 0).val < 3 := (j 0).isLt
  rcases (by omega : (j 0).val = 0 ∨ (j 0).val = 1 ∨ (j 0).val = 2) with h | h | h
  · rw [taps, h, if_pos rfl, hc]
    rfl
  · rw [taps, h, if_neg (by decide), if_pos rfl, hb]
    rfl
  · rw [taps, h, if_neg (by decide), if_neg (by decide), ha, Nat.sub_self, behind_zero]
    rfl

end Cert.Shift

end
-- ==== Proof.BackConv.lean ====
/-
# The gradients of the short convolution branch

The branch multiplies one part of the input product by the convolution of two others and by a matrix. Each point of the grid has 256
columns of all arrays, and what it computes of them is what the whole arrays have there.
-/
module

public import proofs.«01_k».proof.Proof.Gen.BackConv.Frame
public import proofs.«01_k».proof.Proof.Gen.BackConvIdeal.Value
public import proofs.«01_k».proof.Proof.Gen.BackConvRefIdeal.Run
public import proofs.«01_k».proof.Proof.Parts
public import proofs.«01_k».proof.Proof.Shift
public import proofs.«01_k».proof.Proof.Total
public import Idealize.ShloMosaic.Lib.Quiescent

@[expose] public section

noncomputable section

open Idealize.ShloMosaic Idealize.ShloMosaic.TcCoe Idealize.SL.Sem Cert.Total Cert.Rms Cert.Columns Cert.Shift Cert.Parts

namespace Cert.Proof.BackConv

/-! ## The reference -/

section Host

open Cert.BackConvRefIdeal Cert.BackConvRefIdeal.Facts₀

theorem host_outer (da : FVec Ideal S2048x1024 .bf16) (w : FVec Ideal S1024x1024 .bf16) (p : FVec Ideal S2048x7168 .f32) :
    (mulf (extractStridedSlice S2048x1024 ![0, 0] p slices_S2048x7168_S2048x1024_0_0)
      (Host.dotGeneral dot_S2048x1024_S1024x1024_S2048x1024_1_1_0_0_n_n none (extf .f32 da bitsLt_bf16_f32) (extf .f32 w bitsLt_bf16_f32))
        : FVec Ideal S2048x1024 .f32) = outer da w (part 0 p) := by
  funext j
  pointwise []
  refine (mul_comm _ _).trans (congrArg (fun q => _ * p (ix2 (j 0) q)) (Fin.ext ?_))
  show (j 1).val = 1024 * 0 + (j 1).val
  omega

theorem host_part1 (p : FVec Ideal S2048x7168 .f32) :
    extractStridedSlice S2048x1024 ![0, 1024] p slices_S2048x7168_S2048x1024_0_1024 = part 1 p := by
  funext j
  pointwise []
  rfl

theorem host_part2 (p : FVec Ideal S2048x7168 .f32) :
    extractStridedSlice S2048x1024 ![0, 2048] p slices_S2048x7168_S2048x1024_0_2048 = part 2 p := by
  funext j
  pointwise []
  rfl

theorem host_row (ws : FVec Ideal S3x1024 .f32) (k : Nat) (hk : k < 3) (h : S3x1024.Slices ![k, 0] S1x1024) :
    broadcastInDim S2048x1024 ![0, 1] bcast_S1x1024_S2048x1024_0_1 (broadcastInDim S1x1024 ![1] bcast_S1024_S1x1024_1
      (shapeCast _ (extractStridedSlice S1x1024 ![k, 0] ws h) shapeCasts_S1x1024_S1024)) = fun j => ws (ix2 ⟨k, hk⟩ (j 1)) := by
  funext j
  pointwise []

theorem host_sum (z d : FVec Ideal S2048x1024 .f32) :
    broadcastInDim S1x1024 ![1] bcast_S1024_S1x1024_1 (Host.reduceAdd (shapeCast _ (Host.reduceAdd (mulf z d) (constant S_ .f32 0x00000000#32)
      reducesTo_S2048x1024_S1024_d0 h_S_) shapeCasts_S1024_S1x1024) (constant S_ .f32 0x00000000#32) reducesTo_S1x1024_S1024_d0 h_S_)
      = fun i => ∑ s, d (ix2 s (i 1)) * z (ix2 s (i 1)) := by
  funext j
  pointwise []
  rw [Fin.sum_univ_one]
  exact Finset.sum_congr rfl fun _ _ => mul_comm _ _

theorem zero_word (i : S_.Idx) : constant (F := Ideal) S_ .f32 0x00000000#32 i = 0 := word_zero

theorem host_spread (d : FVec Ideal S2048x1024 .f32) (ws : FVec Ideal S3x1024 .f32) :
    extractStridedSlice S2048x1024 ![2, 0] (addf (addf
      (pad S2050x1024 ![2, 0] ![0, 0] ![0, 0] (mulf d (broadcastInDim S2048x1024 ![0, 1] bcast_S1x1024_S2048x1024_0_1 (broadcastInDim S1x1024 ![1] bcast_S1024_S1x1024_1 (shapeCast _ (extractStridedSlice S1x1024 ![2, 0] ws slices_S3x1024_S1x1024_2_0) shapeCasts_S1x1024_S1024)))) (constant S_ .f32 0x00000000#32) pads_S2048x1024_S2050x1024_200_000 h_S_)
      (pad S2050x1024 ![1, 0] ![1, 0] ![0, 0] (mulf d (broadcastInDim S2048x1024 ![0, 1] bcast_S1x1024_S2048x1024_0_1 (broadcastInDim S1x1024 ![1] bcast_S1024_S1x1024_1 (shapeCast _ (extractStridedSlice S1x1024 ![1, 0] ws slices_S3x1024_S1x1024_1_0) shapeCasts_S1x1024_S1024)))) (constant S_ .f32 0x00000000#32) pads_S2048x1024_S2050x1024_110_000 h_S_))
      (pad S2050x1024 ![0, 0] ![2, 0] ![0, 0] (mulf d (broadcastInDim S2048x1024 ![0, 1] bcast_S1x1024_S2048x1024_0_1 (broadcastInDim S1x1024 ![1] bcast_S1024_S1x1024_1 (shapeCast _ (extractStridedSlice S1x1024 ![0, 0] ws slices_S3x1024_S1x1024_0_0) shapeCasts_S1x1024_S1024)))) (constant S_ .f32 0x00000000#32) pads_S2048x1024_S2050x1024_020_000 h_S_)
        : FVec Ideal S2050x1024 .f32) slices_S2050x1024_S2048x1024_2_0 = spread ws d := by
  rw [slice_add, slice_add, padded_up _ 0 2 0 rfl _ zero_word, padded_up _ 1 1 1 rfl _ zero_word, padded_up _ 2 0 2 rfl _ zero_word,
    host_row ws 2 (by decide), host_row ws 1 (by decide), host_row ws 0 (by decide)]
  funext j
  refine congrArg₂ (· + ·) (congrArg₂ (· + ·) ?_ ?_) ?_
  · exact (congrFun (ahead_mul 0 (fun p => ws (ix2 2 p)) d) j).trans (by rw [ahead_zero])
  · exact congrFun (ahead_mul 1 (fun p => ws (ix2 1 p)) d) j
  · exact congrFun (ahead_mul 2 (fun p => ws (ix2 0 p)) d) j

theorem host_zero (i : S2x1024.Idx) : broadcastInDim S2x1024 ![] bcast_S_S2x1024 (constant (F := Ideal) S_ .f32 0x00000000#32) i = 0 := word_zero

theorem host_taps (d x : FVec Ideal S2048x1024 .f32) :
    (addf (addf
      (pad S3x1024 ![2, 0] ![0, 0] ![0, 0] (broadcastInDim S1x1024 ![1] bcast_S1024_S1x1024_1 (Host.reduceAdd (shapeCast _ (Host.reduceAdd (mulf (extractStridedSlice S2048x1024 ![2, 0] (concatenate S2050x1024 0 [⟨S2x1024, (broadcastInDim S2x1024 ![] bcast_S_S2x1024 (constant S_ .f32 0x00000000#32))⟩, ⟨S2048x1024, x⟩] concatenates_S2x1024_S2048x1024_S2050x1024_d0) slices_S2050x1024_S2048x1024_2_0) d) (constant S_ .f32 0x00000000#32) reducesTo_S2048x1024_S1024_d0 h_S_) shapeCasts_S1024_S1x1024) (constant S_ .f32 0x00000000#32) reducesTo_S1x1024_S1024_d0 h_S_)) (constant S_ .f32 0x00000000#32) pads_S1x1024_S3x1024_200_000 h_S_)
      (pad S3x1024 ![1, 0] ![1, 0] ![0, 0] (broadcastInDim S1x1024 ![1] bcast_S1024_S1x1024_1 (Host.reduceAdd (shapeCast _ (Host.reduceAdd (mulf (extractStridedSlice S2048x1024 ![1, 0] (concatenate S2050x1024 0 [⟨S2x1024, (broadcastInDim S2x1024 ![] bcast_S_S2x1024 (constant S_ .f32 0x00000000#32))⟩, ⟨S2048x1024, x⟩] concatenates_S2x1024_S2048x1024_S2050x1024_d0) slices_S2050x1024_S2048x1024_1_0) d) (constant S_ .f32 0x00000000#32) reducesTo_S2048x1024_S1024_d0 h_S_) shapeCasts_S1024_S1x1024) (constant S_ .f32 0x00000000#32) reducesTo_S1x1024_S1024_d0 h_S_)) (constant S_ .f32 0x00000000#32) pads_S1x1024_S3x1024_110_000 h_S_))
      (pad S3x1024 ![0, 0] ![2, 0] ![0, 0] (broadcastInDim S1x1024 ![1] bcast_S1024_S1x1024_1 (Host.reduceAdd (shapeCast _ (Host.reduceAdd (mulf (extractStridedSlice S2048x1024 ![0, 0] (concatenate S2050x1024 0 [⟨S2x1024, (broadcastInDim S2x1024 ![] bcast_S_S2x1024 (constant S_ .f32 0x00000000#32))⟩, ⟨S2048x1024, x⟩] concatenates_S2x1024_S2048x1024_S2050x1024_d0) slices_S2050x1024_S2048x1024_0_0) d) (constant S_ .f32 0x00000000#32) reducesTo_S2048x1024_S1024_d0 h_S_) shapeCasts_S1024_S1x1024) (constant S_ .f32 0x00000000#32) reducesTo_S1x1024_S1024_d0 h_S_)) (constant S_ .f32 0x00000000#32) pads_S1x1024_S3x1024_020_000 h_S_)
        : FVec Ideal S3x1024 .f32) = taps d x := by
  rw [padded_down x 0 2 rfl _ host_zero, padded_down x 1 1 rfl _ host_zero, padded_down x 2 0 rfl _ host_zero, behind_zero]
  exact (rows_added _ _ _ _ zero_word _ _ _ _).trans (rows_taps d x _ _ _ (host_sum x d) (host_sum _ d) (host_sum _ d))

end Host

open Cert.BackConvIdeal Cert.BackConvIdeal.Gen Cert.BackConvIdeal.Value

theorem frame : Cert.quiescent_BackConv := fun m g _ => Cert.BackConv.Gen.frame m g

theorem frame_ideal : Cert.quiescent_BackConvIdeal := fun m g _ => Cert.BackConvIdeal.Gen.frame m g

theorem frame_ref_ideal : Cert.quiescent_BackConvRefIdeal := fun m g _ =>
  (θ_run Cert.BackConvRefIdeal.defs _ _).mono (fun r h => ⟨fun c => (h c).2.2.2.2.2, sem_eq_zero_of_no_sems (by decide) r.2⟩)
    (Cert.BackConvRefIdeal.Value.run (F := Ideal) m g)

/-! ## What one point computes -/

section Point

variable (da : Vec Ideal S2048x1024 .bf16) (w : Vec Ideal S256x1024 .bf16) (b x y q : Vec Ideal S2048x256 .f32) (ws : Vec Ideal S3x256 .f32)

theorem through_value : k0_pay1 da w = through da w := by
  funext j
  pointwise [k0_pay1]

theorem outer_value : k0_pay4 da w b = outer da w b := by
  unfold k0_pay4
  dsimp only
  rw [through_value]
  rfl

theorem first_value : k0_pay3 da w q = times (through da w) q := by
  unfold k0_pay3
  dsimp only
  rw [through_value]
  rfl

theorem matrix_value : k0_pay2 da b q = matrixBack da (times b q) := by
  funext j
  pointwise [k0_pay2]

/-- Row `k` of the taps, loaded. -/
theorem load_row (k : Fin 3) (inb) (p : (⟨2, ![1, 256]⟩ : Shape).Idx) :
    View.ld ws (Rect.unit (s := S3x256) ![k.val, 0] S1x256.size inb) p = ws (ix2 k (p 1)) := by
  refine View.ld_unit_apply_of _ _ _ _ _ _ fun a => ?_
  have h0 : (p 0).val < 1 := (p 0).isLt
  match a with
  | ⟨0, _⟩ => show k.val = k.val + (p 0).val; omega
  | ⟨1, _⟩ => show (p 1).val = 0 + (p 1).val; omega

theorem two_value (u v : Vec Ideal S1x256 .f32) : k0_pay5 da w b u v
    = fun j => u (ix2 0 (j 1)) * outer da w b j + v (ix2 0 (j 1)) * ahead 1 (outer da w b) j := by
  unfold k0_pay5
  dsimp only
  rw [outer_value]
  generalize outer da w b = d
  rw [rotated_up d 1 (by decide) (by decide) 2047#32 rfl]
  generalize ahead 1 d = e
  funext j
  pointwise []

theorem three_value (d e : FVec Ideal S2048x256 .f32) (u : Vec Ideal S1x256 .f32) : k0_pay6 d e u
    = fun j => e j + u (ix2 0 (j 1)) * ahead 2 d j := by
  unfold k0_pay6
  dsimp only
  rw [rotated_up d 2 (by decide) (by decide) 2046#32 rfl]
  generalize ahead 2 d = f
  funext j
  pointwise []

theorem spread_value : k0_pay6 (k0_pay10 da w b x y q ws) (k0_pay11 da w b x y q ws) (View.ld ws r0_5) = spread ws (outer da w b) := by
  rw [three_value]
  unfold k0_pay11 k0_pay10
  simp only [View.ld_unit_zero (S := S2048x1024) plane, View.ld_unit_zero (S := S256x1024) plane, View.ld_unit_zero (S := S2048x256) plane]
  rw [two_value, outer_value]
  funext j
  exact congrArg₂ (· + ·) (congrArg₂ (· + ·) (congrArg (· * _) (load_row ws 2 _ _)) (congrArg (· * _) (load_row ws 1 _ _)))
    (congrArg (· * _) (load_row ws 0 _ _))

/-- The sums over the rows, as a row. -/
theorem row_sum (d z : FVec Ideal S2048x256 .f32) :
    (shapeCast S1x256 (multiReduction .add [0] S256 (mulf d z) 0x00000000#32 reduces_S2048x256_S256 (.inl rfl) rfl) shapeCasts_S256_S1x256 : FVec Ideal S1x256 .f32)
      = fun i => ∑ s, d (ix2 s (i 1)) * z (ix2 s (i 1)) := by
  funext j
  pointwise []

theorem taps_value (d : FVec Ideal S2048x256 .f32) : k0_pay7 x y d = taps d (times x y) := by
  unfold k0_pay7
  dsimp only
  rw [show (mulf x y : FVec Ideal S2048x256 .f32) = times x y from rfl]
  rw [rotated_down (times x y) 1 (by decide) 1#32 rfl, rotated_down (times x y) 2 (by decide) 2#32 rfl]
  refine (rows_laid _ _ _ _).trans (rows_taps d (times x y) _ _ _ (row_sum d _) (row_sum d _) (row_sum d _))

theorem left7 : out0_7 da w b x y q ws = times (through da w) q := by
  unfold out0_7
  rw [View.canon_unit_zero plane]
  simp only [View.ld_unit_zero (S := S2048x1024) plane, View.ld_unit_zero (S := S256x1024) plane, View.ld_unit_zero (S := S2048x256) plane]
  exact first_value da w q

theorem left8 : out0_8 da w b x y q ws = times (spread ws (outer da w b)) y := by
  unfold out0_8
  rw [View.canon_unit_zero plane]
  simp only [View.ld_unit_zero (S := S2048x256) plane]
  unfold k0_pay8
  dsimp only
  rw [spread_value]
  rfl

theorem left9 : out0_9 da w b x y q ws = times (spread ws (outer da w b)) x := by
  unfold out0_9
  rw [View.canon_unit_zero plane]
  simp only [View.ld_unit_zero (S := S2048x256) plane]
  unfold k0_pay9
  dsimp only
  rw [spread_value]
  rfl

theorem left10 : out0_10 da w b x y q ws = matrixBack da (times b q) := by
  unfold out0_10
  rw [View.canon_unit_zero plane]
  simp only [View.ld_unit_zero (S := S2048x1024) plane, View.ld_unit_zero (S := S2048x256) plane]
  exact matrix_value da b q

theorem left11 : out0_11 da w b x y q ws = taps (outer da w b) (times x y) := by
  unfold out0_11
  rw [View.canon_unit_zero plane]
  simp only [View.ld_unit_zero (S := S2048x256) plane]
  unfold k0_pay10
  simp only [View.ld_unit_zero (S := S2048x1024) plane, View.ld_unit_zero (S := S256x1024) plane, View.ld_unit_zero (S := S2048x256) plane]
  rw [outer_value, taps_value]

end Point

/-! ## The whole arrays -/

variable (m : (ℓ : Loc nD τ sig) → Buf (Elt Ideal) ℓ)

abbrev arg0 (c : Dev nD) : Rows 2048 1024 := m ((c : Thread nD τ).loc main_arg0)

abbrev arg1 (c : Dev nD) : Rows 1024 1024 := m ((c : Thread nD τ).loc main_arg1)

abbrev arg2 (c : Dev nD) : Rows 2048 7168 := m ((c : Thread nD τ).loc main_arg2)

abbrev arg3 (c : Dev nD) : Rows 2048 1024 := m ((c : Thread nD τ).loc main_arg3)

abbrev arg4 (c : Dev nD) : Rows 3 1024 := m ((c : Thread nD τ).loc main_arg4)

theorem places : ∀ t : Fin cfg0.N, (win0_0.index t = ![0, 0] ∧ win0_1.index t = ![t.val, 0] ∧ win0_2.index t = ![0, 4 * 0 + t.val]
    ∧ win0_3.index t = ![0, 4 * 1 + t.val] ∧ win0_4.index t = ![0, 4 * 2 + t.val] ∧ win0_5.index t = ![0, t.val] ∧ win0_6.index t = ![0, t.val])
    ∧ win0_7.index t = ![0, t.val] ∧ win0_8.index t = ![0, t.val] ∧ win0_9.index t = ![0, t.val] ∧ win0_10.index t = ![t.val, 0]
    ∧ win0_11.index t = ![0, t.val] :=
  (by decide +kernel : ∀ t : Fin grid0.N, _)

section Blocks

variable (c : Dev nD) (t : Fin cfg0.N)

theorem block0 : iblk m c 0 t = arg0 m c :=
  funext fun y => congrArg (V m c main_arg0) (whole_at (y := y) (places t).1.1 rfl rfl)

theorem block1 : iblk m c 1 t = cut_rows t (arg1 m c) :=
  funext fun y => congrArg (V m c main_arg1) (cut_row_at (y := y) (places t).1.2.1 rfl rfl)

theorem block2 : iblk m c 2 t = cut t (part 0 (arg2 m c)) :=
  funext fun y => congrArg (V m c main_arg2) (part_col_at 0 (y := y) rfl (places t).1.2.2.1 rfl rfl)

theorem block3 : iblk m c 3 t = cut t (part 1 (arg2 m c)) :=
  funext fun y => congrArg (V m c main_arg2) (part_col_at 1 (y := y) rfl (places t).1.2.2.2.1 rfl rfl)

theorem block4 : iblk m c 4 t = cut t (part 2 (arg2 m c)) :=
  funext fun y => congrArg (V m c main_arg2) (part_col_at 2 (y := y) rfl (places t).1.2.2.2.2.1 rfl rfl)

theorem block5 : iblk m c 5 t = cut t (arg3 m c) :=
  funext fun y => congrArg (V m c main_arg3) (col_at (N := 4) (y := y) rfl (places t).1.2.2.2.2.2.1 rfl rfl)

theorem block6 : iblk m c 6 t = cut t (arg4 m c) :=
  funext fun y => congrArg (V m c main_arg4) (col_at (N := 4) (y := y) rfl (places t).1.2.2.2.2.2.2 rfl rfl)

end Blocks

/-- The point that has a column, or a row of the matrix. -/
theorem point (n : Nat) (h : n < 1024) : ∃ t : Fin cfg0.N, t.val = n / 256 :=
  ⟨⟨n / 256, by show _ < 4; omega⟩, rfl⟩

abbrev conv_out (c : Dev nD) : Rows 2048 1024 := outer (arg0 m c) (arg1 m c) (part 0 (arg2 m c))

abbrev conv_in (c : Dev nD) : Rows 2048 1024 := times (part 1 (arg2 m c)) (part 2 (arg2 m c))

theorem whole7 (c : Dev nD) : (dats m 0 c).arrAt 7 cfg0.N = times (through (arg0 m c) (arg1 m c)) (arg3 m c) := by
  refine (dats m 0 c).arrAt_eq_of_cover 7 _ (fun t _ => ?_) fun i => ?_
  · rw [flushed7, left7, block0 m c t, block1 m c t, block5 m c t,
      show times (through (arg0 m c) (cut_rows t (arg1 m c))) (cut t (arg3 m c)) = cut t (times (through (arg0 m c) (arg1 m c)) (arg3 m c)) from rfl]
    generalize times (through (arg0 m c) (arg1 m c)) (arg3 m c) = f
    exact funext fun y => (congrArg f
      (col_at (N := 4) (t := t) (y := y) (i := ((cfg0.win 7).blk t).view.emb y) rfl (places t).2.1 rfl rfl)).symm
  · obtain ⟨t, ht⟩ := point (i 1).val (i 1).isLt
    refine ⟨t, flush0_7 t, ?_⟩
    show i ∈ ((View.whole main_v0_0).slice (win0_7.rect t)).set
    rw [View.set_slice_whole, Rect.mem_set_unit]
    exact in_column i (ht ▸ (places t).2.1)

theorem whole8 (c : Dev nD) : (dats m 0 c).arrAt 8 cfg0.N = times (spread (arg4 m c) (conv_out m c)) (part 2 (arg2 m c)) := by
  refine (dats m 0 c).arrAt_eq_of_cover 8 _ (fun t _ => ?_) fun i => ?_
  · rw [flushed8, left8, block0 m c t, block1 m c t, block2 m c t, block4 m c t, block6 m c t,
      show times (spread (cut t (arg4 m c)) (outer (arg0 m c) (cut_rows t (arg1 m c)) (cut t (part 0 (arg2 m c))))) (cut t (part 2 (arg2 m c)))
        = cut t (times (spread (arg4 m c) (conv_out m c)) (part 2 (arg2 m c))) from rfl]
    generalize times (spread (arg4 m c) (conv_out m c)) (part 2 (arg2 m c)) = f
    exact funext fun y => (congrArg f
      (col_at (N := 4) (t := t) (y := y) (i := ((cfg0.win 8).blk t).view.emb y) rfl (places t).2.2.1 rfl rfl)).symm
  · obtain ⟨t, ht⟩ := point (i 1).val (i 1).isLt
    refine ⟨t, flush0_8 t, ?_⟩
    show i ∈ ((View.whole main_v0_1).slice (win0_8.rect t)).set
    rw [View.set_slice_whole, Rect.mem_set_unit]
    exact in_column i (ht ▸ (places t).2.2.1)

theorem whole9 (c : Dev nD) : (dats m 0 c).arrAt 9 cfg0.N = times (spread (arg4 m c) (conv_out m c)) (part 1 (arg2 m c)) := by
  refine (dats m 0 c).arrAt_eq_of_cover 9 _ (fun t _ => ?_) fun i => ?_
  · rw [flushed9, left9, block0 m c t, block1 m c t, block2 m c t, block3 m c t, block6 m c t,
      show times (spread (cut t (arg4 m c)) (outer (arg0 m c) (cut_rows t (arg1 m c)) (cut t (part 0 (arg2 m c))))) (cut t (part 1 (arg2 m c)))
        = cut t (times (spread (arg4 m c) (conv_out m c)) (part 1 (arg2 m c))) from rfl]
    generalize times (spread (arg4 m c) (conv_out m c)) (part 1 (arg2 m c)) = f
    exact funext fun y => (congrArg f
      (col_at (N := 4) (t := t) (y := y) (i := ((cfg0.win 9).blk t).view.emb y) rfl (places t).2.2.2.1 rfl rfl)).symm
  · obtain ⟨t, ht⟩ := point (i 1).val (i 1).isLt
    refine ⟨t, flush0_9 t, ?_⟩
    show i ∈ ((View.whole main_v0_2).slice (win0_9.rect t)).set
    rw [View.set_slice_whole, Rect.mem_set_unit]
    exact in_column i (ht ▸ (places t).2.2.2.1)

theorem whole10 (c : Dev nD) : (dats m 0 c).arrAt 10 cfg0.N = matrixBack (arg0 m c) (times (part 0 (arg2 m c)) (arg3 m c)) := by
  refine (dats m 0 c).arrAt_eq_of_cover 10 _ (fun t _ => ?_) fun i => ?_
  · rw [flushed10, left10, block0 m c t, block2 m c t, block5 m c t,
      show matrixBack (arg0 m c) (times (cut t (part 0 (arg2 m c))) (cut t (arg3 m c)))
        = cut_rows t (matrixBack (arg0 m c) (times (part 0 (arg2 m c)) (arg3 m c))) from rfl]
    generalize matrixBack (arg0 m c) (times (part 0 (arg2 m c)) (arg3 m c)) = f
    exact funext fun y => (congrArg f
      (cut_row_at (t := t) (y := y) (i := ((cfg0.win 10).blk t).view.emb y) (places t).2.2.2.2.1 rfl rfl)).symm
  · obtain ⟨t, ht⟩ := point (i 0).val (i 0).isLt
    refine ⟨t, flush0_10 t, ?_⟩
    show i ∈ ((View.whole main_v0_3).slice (win0_10.rect t)).set
    rw [View.set_slice_whole, Rect.mem_set_unit]
    exact in_tile i (by decide) (ht ▸ (places t).2.2.2.2.1)

theorem whole11 (c : Dev nD) : (dats m 0 c).arrAt 11 cfg0.N = taps (conv_out m c) (conv_in m c) := by
  refine (dats m 0 c).arrAt_eq_of_cover 11 _ (fun t _ => ?_) fun i => ?_
  · rw [flushed11, left11, block0 m c t, block1 m c t, block2 m c t, block3 m c t, block4 m c t,
      show taps (outer (arg0 m c) (cut_rows t (arg1 m c)) (cut t (part 0 (arg2 m c)))) (times (cut t (part 1 (arg2 m c))) (cut t (part 2 (arg2 m c))))
        = cut t (taps (conv_out m c) (conv_in m c)) from rfl]
    generalize taps (conv_out m c) (conv_in m c) = f
    exact funext fun y => (congrArg f
      (col_at (N := 4) (t := t) (y := y) (i := ((cfg0.win 11).blk t).view.emb y) rfl (places t).2.2.2.2.2 rfl rfl)).symm
  · obtain ⟨t, ht⟩ := point (i 1).val (i 1).isLt
    refine ⟨t, flush0_11 t, ?_⟩
    show i ∈ ((View.whole main_v0_4).slice (win0_11.rect t)).set
    rw [View.set_slice_whole, Rect.mem_set_unit]
    exact in_column i (ht ▸ (places t).2.2.2.2.2)

theorem algebraic : Cert.algebraic_BackConvIdeal_BackConvRefIdeal := by
  intro m g m' g' _ agree
  refine ⟨_, _, _, _, _, (θ_run defs _ _).mono (fun _ h c => ⟨(h c).1.trans (whole7 m c), (h c).2.1.trans (whole8 m c),
    (h c).2.2.1.trans (whole9 m c), (h c).2.2.2.1.trans (whole10 m c), (h c).2.2.2.2.1.trans (whole11 m c),
    (h c).2.2.2.2.2⟩) (run_blocks (F := Ideal) m g), ?_⟩
  refine (θ_run Cert.BackConvRefIdeal.defs _ _).mono (fun _ h c => ⟨(h c).1.trans ?_, (h c).2.1.trans ?_, (h c).2.2.1.trans ?_,
    (h c).2.2.2.1.trans ?_, (h c).2.2.2.2.1.trans ?_, (h c).2.2.2.2.2⟩) (Cert.BackConvRefIdeal.Value.run (F := Ideal) m' g')
  · clear * - agree
    rw [(agree c).1, (agree c).2.1, (agree c).2.2.2.1]
    funext j
    pointwise []
  · clear * - agree
    rw [(agree c).1, (agree c).2.1, (agree c).2.2.1, (agree c).2.2.2.2, host_outer, host_spread, host_part2]
    rfl
  · clear * - agree
    rw [(agree c).1, (agree c).2.1, (agree c).2.2.1, (agree c).2.2.2.2, host_outer, host_spread, host_part1]
    exact funext fun j => mul_comm _ _
  · clear * - agree
    rw [(agree c).1, (agree c).2.2.1, (agree c).2.2.2.1]
    funext j
    pointwise []
    refine Finset.sum_congr rfl fun s _ => (mul_comm _ _).trans
      (congrArg (fun p => arg2 m c (ix2 s p) * arg3 m c (ix2 s (j 0)) * arg0 m c (ix2 s (j 1))) (Fin.ext ?_))
    show (j 0).val = 1024 * 0 + (j 0).val
    omega
  · clear * - agree
    rw [(agree c).1, (agree c).2.1, (agree c).2.2.1, host_outer, host_part1, host_part2]
    exact host_taps _ _

end Cert.Proof.BackConv

end
-- ==== Proof.Gelu.lean ====
/-
# The gelu and its slope

The feed-forward layer multiplies the gelu of one half of an array by the other half. One side computes the slope of the gelu in closed
form, the other carries the gradient back through its factors. Among real numbers they are the same polynomial in the hyperbolic tangent.
Here are also the halves of 3072 columns, and their blocks of 512.
-/
module

public import proofs.«01_k».proof.Proof.Parts
public import proofs.«01_k».proof.Proof.Shift

@[expose] public section

noncomputable section

namespace Cert.Gelu

open Idealize.ShloMosaic Cert.Rms Cert.Shift

/-! ## Real numbers -/

/-- The value is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem isReal_sum {ι : Type} (s : Finset ι) (f : ι → EReal) (h : ∀ i, IsReal (f i)) : IsReal (∑ i ∈ s, f i) := by
  classical
  induction s using Finset.induction_on with
  | empty => exact ⟨0, Finset.sum_empty⟩
  | insert a s ha ih =>
    rw [Finset.sum_insert ha]
    exact (h a).add ih

theorem isReal_of_abs (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  have hl : max x (-x) < ⊤ := by
    by_contra hn
    simp [Ideal.cmp, hn] at h
  induction x with
  | bot => simp at hl
  | top => simp at hl
  | coe r => exact ⟨r, rfl⟩

/-! ## The constants -/

theorem word_one : Ideal.ofBits .f32 0x3F800000#32 = ((1 : ℝ) : EReal) := by
  simp [Ideal.ofBits, Ideal.ieee, -EReal.coe_mul]; norm_num

theorem word_three : Ideal.ofBits .f32 0x40400000#32 = ((3 : ℝ) : EReal) := by
  simp [Ideal.ofBits, Ideal.ieee, -EReal.coe_mul]; norm_num

theorem word_part : Ideal.ofBits .f32 0x472EAB00#32 = ((44715 : ℝ) : EReal) := by
  simp [Ideal.ofBits, Ideal.ieee, -EReal.coe_mul]; norm_num

theorem word_million : Ideal.ofBits .f32 0x49742400#32 = ((1000000 : ℝ) : EReal) := by
  simp [Ideal.ofBits, Ideal.ieee, -EReal.coe_mul]; norm_num

theorem word_root : Ideal.ofBits .f32 0x3F4C422A#32 = ((6693141 / 8388608 : ℝ) : EReal) := by
  simp [Ideal.ofBits, Ideal.ieee, -EReal.coe_mul]; norm_num

/-! ## The gelu -/

abbrev half : EReal := Ideal.ofBits .f32 0x3F000000#32

abbrev one : EReal := Ideal.ofBits .f32 0x3F800000#32

abbrev root : EReal := Ideal.ofBits .f32 0x3F4C422A#32

/-- The hyperbolic tangent within it. -/
def bend (k g : EReal) : EReal := Ideal.tanh (root * (g + k * g * (g * g)))

def act (k g : EReal) : EReal := half * g * (one + bend k g)

def slope (k k3 g : EReal) : EReal :=
  half * (one + bend k g) + half * g * (one - bend k g * bend k g) * root * (one + k3 * (g * g))

/-- The cubic's coefficient as a quotient. -/
def bent (g : EReal) : EReal :=
  Ideal.tanh (root * (g + Ideal.div (Ideal.ofBits .f32 0x472EAB00#32 * (g * g * g)) (Ideal.ofBits .f32 0x49742400#32)))

/-- The gradient `s` carried back to the hyperbolic tangent's argument. -/
def within (g s : EReal) : EReal := root * (half * (g * s) * ((one + bent g) * (one - bent g)))

def carried (g s : EReal) : EReal :=
  s * (half * (one + bent g)) + within g s
    + Ideal.ofBits .f32 0x472EAB00#32 * Ideal.div (within g s) (Ideal.ofBits .f32 0x49742400#32) * (Ideal.ofBits .f32 0x40400000#32 * (g * g))

section Same

variable {k k3 : EReal} (hk : k = ((8943 / 200000 : ℝ) : EReal)) (hk3 : k3 = ((26829 / 200000 : ℝ) : EReal))

include hk in
theorem bend_eq (g : EReal) : bend k g = bent g := by
  unfold bend bent
  rw [word_million, Ideal.div_coe (by norm_num), word_part, hk, mul_comm ((44715 : ℝ) : EReal), mul_assoc (g * g * g), ← EReal.coe_mul,
    show (44715 * (1 / 1000000) : ℝ) = 8943 / 200000 by norm_num, mul_assoc _ g (g * g), mul_assoc g g g, mul_comm _ ((8943 / 200000 : ℝ) : EReal)]

include hk in
theorem act_eq (g : EReal) : g * (half * (one + bent g)) = act k g := by
  unfold act
  rw [bend_eq hk, ← mul_assoc, mul_comm g]

theorem isReal_bent {g : EReal} (hg : IsReal g) : IsReal (bent g) := by
  obtain ⟨a, rfl⟩ := hg
  unfold bent
  rw [word_million, Ideal.div_coe (by norm_num), word_part]
  unfold root
  rw [word_root]
  simp only [← EReal.coe_mul, ← EReal.coe_add]
  exact ⟨_, rfl⟩

include hk hk3 in
theorem slope_eq {g s : EReal} (hg : IsReal g) (hs : IsReal s) : carried g s = s * slope k k3 g := by
  obtain ⟨t, ht⟩ := isReal_bent hg
  obtain ⟨a, rfl⟩ := hg
  obtain ⟨b, rfl⟩ := hs
  unfold carried within slope
  rw [bend_eq hk, ht, word_million, Ideal.div_coe (by norm_num), word_part, word_three, hk3]
  unfold half one root
  rw [word_half, word_one, word_root]
  simp only [← EReal.coe_mul, ← EReal.coe_add, ← EReal.coe_sub]
  refine congrArg _ ?_
  ring

end Same

/-! ## The convolution -/

section Conv

variable {C : Nat}

abbrev conv (w : Rows 3 C) (b : Rows 1 C) (x : Rows 2048 C) : Rows 2048 C := fun j =>
  w (ix2 2 (j 1)) * x j + w (ix2 1 (j 1)) * behind 1 x j + w (ix2 0 (j 1)) * behind 2 x j + b (ix2 0 (j 1))

theorem isReal_behind (k : Nat) {x : Rows 2048 C} (hx : ∀ j, IsReal (x j)) (j : (⟨2, ![2048, C]⟩ : Shape).Idx) : IsReal (behind k x j) := by
  unfold behind
  split
  · exact hx _
  · exact ⟨0, rfl⟩

theorem isReal_conv {w : Rows 3 C} {b : Rows 1 C} {x : Rows 2048 C} (hw : ∀ j, IsReal (w j)) (hb : ∀ j, IsReal (b j)) (hx : ∀ j, IsReal (x j))
    (j : (⟨2, ![2048, C]⟩ : Shape).Idx) : IsReal (conv w b x j) :=
  ((((hw _).mul (hx _)).add ((hw _).mul (isReal_behind 1 hx j))).add ((hw _).mul (isReal_behind 2 hx j))).add (hb _)

/-- The columns' sums, as a row. -/
abbrev total (d : Rows 2048 C) : Rows 1 C := fun i => ∑ s, d (ix2 s (i 1))

end Conv

/-! ## Halves, and blocks of 512 columns -/

section Cut

variable {R : Nat}

/-- Half `k` of an array's columns. -/
abbrev side (k : Fin 2) (x : Rows R 6144) : Rows R 3072 := fun j => x (ix2 (j 0) (⟨3072 * k.val + (j 1).val, by
  have : (j 1).val < 3072 := (j 1).isLt
  omega⟩ : Fin 6144))

theorem side0 (x : Rows R 6144) (h : (⟨2, ![R, 6144]⟩ : Shape).Slices ![0, 0] ⟨2, ![R, 3072]⟩) :
    extractStridedSlice ⟨2, ![R, 3072]⟩ ![0, 0] x h = side 0 x := by
  funext j
  refine congrArg x (funext fun a => Fin.ext ?_)
  match a with
  | ⟨0, _⟩ => show 0 + (j 0).val = (j 0).val; omega
  | ⟨1, _⟩ => show 0 + (j 1).val = 3072 * 0 + (j 1).val; omega

theorem side1 (x : Rows R 6144) (h : (⟨2, ![R, 6144]⟩ : Shape).Slices ![0, 3072] ⟨2, ![R, 3072]⟩) :
    extractStridedSlice ⟨2, ![R, 3072]⟩ ![0, 3072] x h = side 1 x := by
  funext j
  refine congrArg x (funext fun a => Fin.ext ?_)
  match a with
  | ⟨0, _⟩ => show 0 + (j 0).val = (j 0).val; omega
  | ⟨1, _⟩ => show 3072 + (j 1).val = 3072 * 1 + (j 1).val; omega

abbrev at_col (t : Fin 6) (p : Fin 512) : Fin 3072 := ⟨512 * t.val + p.val, by omega⟩

/-- Block `t` of a half's columns, and of a matrix's rows. -/
abbrev cut (t : Fin 6) (x : Rows R 3072) : Rows R 512 := fun y => x (ix2 (y 0) (at_col t (y 1)))

abbrev cut_rows (t : Fin 6) (x : Rows 3072 1024) : Rows 512 1024 := fun y => x (ix2 (at_col t (y 0)) (y 1))

theorem col_at {w : Fin 2 → Nat} {t : Fin 6} {i : (⟨2, ![R, 3072]⟩ : Shape).Idx} {y : (⟨2, ![R, 512]⟩ : Shape).Idx}
    (h : w = ![0, t.val]) (e0 : (i 0).val = w 0 * R + 1 * (y 0).val) (e1 : (i 1).val = w 1 * 512 + 1 * (y 1).val) :
    i = ix2 (y 0 : Fin R) (at_col t (y 1)) := by
  rw [h] at e0 e1
  funext a
  match a with
  | ⟨0, _⟩ => exact Fin.ext (e0.trans (by show 0 * R + 1 * (y 0).val = (y 0).val; omega))
  | ⟨1, _⟩ => exact Fin.ext (e1.trans (by show t.val * 512 + 1 * (y 1).val = 512 * t.val + (y 1).val; omega))

theorem side_at (k : Fin 2) {w : Fin 2 → Nat} {t : Fin 6} {i : (⟨2, ![R, 6144]⟩ : Shape).Idx} {y : (⟨2, ![R, 512]⟩ : Shape).Idx}
    {c : Fin 6144} (hc : c.val = 3072 * k.val + (512 * t.val + (y 1).val))
    (h : w = ![0, 6 * k.val + t.val]) (e0 : (i 0).val = w 0 * R + 1 * (y 0).val) (e1 : (i 1).val = w 1 * 512 + 1 * (y 1).val) :
    i = ix2 (y 0 : Fin R) c := by
  rw [h] at e0 e1
  funext a
  match a with
  | ⟨0, _⟩ => exact Fin.ext (e0.trans (by show 0 * R + 1 * (y 0).val = (y 0).val; omega))
  | ⟨1, _⟩ => exact Fin.ext (e1.trans (by show (6 * k.val + t.val) * 512 + 1 * (y 1).val = c.val; omega))

theorem cut_row_at {w : Fin 2 → Nat} {t : Fin 6} {i : (⟨2, ![3072, 1024]⟩ : Shape).Idx} {y : (⟨2, ![512, 1024]⟩ : Shape).Idx}
    (h : w = ![t.val, 0]) (e0 : (i 0).val = w 0 * 512 + 1 * (y 0).val) (e1 : (i 1).val = w 1 * 1024 + 1 * (y 1).val) :
    i = ix2 (at_col t (y 0)) (y 1 : Fin 1024) := by
  rw [h] at e0 e1
  funext a
  match a with
  | ⟨0, _⟩ => exact Fin.ext (e0.trans (by show t.val * 512 + 1 * (y 0).val = 512 * t.val + (y 0).val; omega))
  | ⟨1, _⟩ => exact Fin.ext (e1.trans (by show 0 * 1024 + 1 * (y 1).val = (y 1).val; omega))

/-- An index lies in the block of its column. -/
theorem in_column {w : Fin 2 → Nat} (i : (⟨2, ![R, 3072]⟩ : Shape).Idx) (h : w = ![0, (i 1).val / 512]) :
    ∀ a : Fin 2, w a * (![R, 512] : Fin 2 → Nat) a ≤ (i a).val ∧ (i a).val < w a * (![R, 512] : Fin 2 → Nat) a + (![R, 512] : Fin 2 → Nat) a := by
  rw [h]
  intro a
  match a with
  | ⟨0, _⟩ =>
    have h0 : (i 0).val < R := (i 0).isLt
    exact ⟨by simp, by simpa using h0⟩
  | ⟨1, _⟩ => exact ⟨Nat.div_mul_le_self _ _, Nat.lt_div_mul_add (by decide)⟩

end Cut

end Cert.Gelu

end
-- ==== Proof.BackFfn.lean ====
/-
# The gradients of the feed-forward layer

The layer convolves both halves of the raised array, multiplies the gelu of the first by the second and lowers the product by a matrix.
Each point of the grid has 512 columns of both halves, and what it computes of them is what the whole arrays have there. The gelu's slope is
the gradient carried back through the gelu's factors where the arguments are finite.
-/
module

public import proofs.«01_k».proof.Proof.Gen.BackFfn.Frame
public import proofs.«01_k».proof.Proof.Gen.BackFfnIdeal.Value
public import proofs.«01_k».proof.Proof.Gen.BackFfnRefIdeal.Run
public import proofs.«01_k».proof.Proof.Gelu
public import proofs.«01_k».proof.Proof.Total
public import Idealize.ShloMosaic.Lib.Quiescent

@[expose] public section

noncomputable section

open Idealize.ShloMosaic Idealize.ShloMosaic.TcCoe Idealize.SL.Sem Cert.Total Cert.Rms Cert.Shift Cert.Gelu
open Cert.Columns (plane matrixBack matrix_turned)
open Cert.Parts (through times)

namespace Cert.Proof.BackFfn

/-! ## The reference -/

section Host

open Cert.BackFfnRefIdeal Cert.BackFfnRefIdeal.Facts₀ Cert.BackFfnRefIdeal.Value

theorem host_total (d : FVec Ideal S2048x3072 .f32) :
    shapeCast S1x3072 (Host.reduceAdd d (constant S_ .f32 0x00000000#32) reducesTo_S2048x3072_S3072_d0 h_S_) shapeCasts_S3072_S1x3072 = total d := by
  funext j
  pointwise []

theorem zero_word (i : S_.Idx) : constant (F := Ideal) S_ .f32 0x00000000#32 i = 0 := word_zero

theorem host_zero (i : S2x3072.Idx) : broadcastInDim S2x3072 ![] bcast_S_S2x3072 (constant (F := Ideal) S_ .f32 0x00000000#32) i = 0 := word_zero

/-- Two rows of zeros and the array, cut at row `lo`. -/
abbrev lower (lo : Nat) (h : S2050x3072.Slices ![lo, 0] S2048x3072) (x : FVec Ideal S2048x3072 .f32) : FVec Ideal S2048x3072 .f32 :=
  extractStridedSlice S2048x3072 ![lo, 0] (concatenate S2050x3072 0 [⟨S2x3072, (broadcastInDim S2x3072 ![] bcast_S_S2x3072 (constant S_ .f32 0x00000000#32))⟩, ⟨S2048x3072, x⟩] concatenates_S2x3072_S2048x3072_S2050x3072_d0) h

/-- Row `k` of the taps at every row. -/
abbrev tap (k : Nat) (h : S3x3072.Slices ![k, 0] S1x3072) (ws : FVec Ideal S3x3072 .f32) : FVec Ideal S2048x3072 .f32 :=
  broadcastInDim S2048x3072 ![0, 1] bcast_S1x3072_S2048x3072_0_1 (broadcastInDim S1x3072 ![1] bcast_S3072_S1x3072_1
    (shapeCast _ (extractStridedSlice S1x3072 ![k, 0] ws h) shapeCasts_S1x3072_S3072))

/-- The sums of a product over the rows. -/
abbrev summed (z d : FVec Ideal S2048x3072 .f32) : FVec Ideal S1x3072 .f32 :=
  broadcastInDim S1x3072 ![1] bcast_S3072_S1x3072_1 (Host.reduceAdd (shapeCast _ (Host.reduceAdd (mulf z d) (constant S_ .f32 0x00000000#32)
    reducesTo_S2048x3072_S3072_d0 h_S_) shapeCasts_S3072_S1x3072) (constant S_ .f32 0x00000000#32) reducesTo_S1x3072_S3072_d0 h_S_)

theorem lower2 (h) (x : FVec Ideal S2048x3072 .f32) : lower 2 h x = x := (padded_down x 0 2 rfl _ host_zero _ h).trans (behind_zero x)

theorem lower1 (h) (x : FVec Ideal S2048x3072 .f32) : lower 1 h x = behind 1 x := padded_down x 1 1 rfl _ host_zero _ h

theorem lower0 (h) (x : FVec Ideal S2048x3072 .f32) : lower 0 h x = behind 2 x := padded_down x 2 0 rfl _ host_zero _ h

theorem tap_eq (ws : FVec Ideal S3x3072 .f32) (k : Nat) (hk : k < 3) (h : S3x3072.Slices ![k, 0] S1x3072) :
    tap k h ws = fun j => ws (ix2 ⟨k, hk⟩ (j 1)) := by
  funext j
  pointwise []

theorem summed_eq (z d : FVec Ideal S2048x3072 .f32) : summed z d = fun i => ∑ s, d (ix2 s (i 1)) * z (ix2 s (i 1)) := by
  funext j
  pointwise []
  rw [Fin.sum_univ_one]
  exact Finset.sum_congr rfl fun _ _ => mul_comm _ _

theorem host_conv (x : FVec Ideal S2048x3072 .f32) (ws : FVec Ideal S3x3072 .f32) (b : FVec Ideal S1x3072 .f32) :
    (addf (addf (addf (mulf (lower 0 slices_S2050x3072_S2048x3072_0_0 x) (tap 0 slices_S3x3072_S1x3072_0_0 ws))
      (mulf (lower 1 slices_S2050x3072_S2048x3072_1_0 x) (tap 1 slices_S3x3072_S1x3072_1_0 ws)))
      (mulf (lower 2 slices_S2050x3072_S2048x3072_2_0 x) (tap 2 slices_S3x3072_S1x3072_2_0 ws)))
      (broadcastInDim S2048x3072 ![0, 1] bcast_S1x3072_S2048x3072_0_1 b) : FVec Ideal S2048x3072 .f32) = conv ws b x := by
  rw [lower0, lower1, lower2, tap_eq ws 2 (by decide), tap_eq ws 1 (by decide), tap_eq ws 0 (by decide)]
  unfold conv
  generalize behind 1 x = p
  generalize behind 2 x = q
  funext j
  pointwise []
  refine congrArg (· + _) ?_
  rw [add_comm, add_comm (q j * _), ← add_assoc, mul_comm (x j), mul_comm (p j), mul_comm (q j)]

theorem host_spread (d : FVec Ideal S2048x3072 .f32) (ws : FVec Ideal S3x3072 .f32) :
    extractStridedSlice S2048x3072 ![2, 0] (addf (addf
      (pad S2050x3072 ![2, 0] ![0, 0] ![0, 0] (mulf d (tap 2 slices_S3x3072_S1x3072_2_0 ws)) (constant S_ .f32 0x00000000#32) pads_S2048x3072_S2050x3072_200_000 h_S_)
      (pad S2050x3072 ![1, 0] ![1, 0] ![0, 0] (mulf d (tap 1 slices_S3x3072_S1x3072_1_0 ws)) (constant S_ .f32 0x00000000#32) pads_S2048x3072_S2050x3072_110_000 h_S_))
      (pad S2050x3072 ![0, 0] ![2, 0] ![0, 0] (mulf d (tap 0 slices_S3x3072_S1x3072_0_0 ws)) (constant S_ .f32 0x00000000#32) pads_S2048x3072_S2050x3072_020_000 h_S_)
        : FVec Ideal S2050x3072 .f32) slices_S2050x3072_S2048x3072_2_0 = spread ws d := by
  rw [slice_add, slice_add, padded_up _ 0 2 0 rfl _ zero_word, padded_up _ 1 1 1 rfl _ zero_word, padded_up _ 2 0 2 rfl _ zero_word,
    tap_eq ws 2 (by decide), tap_eq ws 1 (by decide), tap_eq ws 0 (by decide)]
  funext j
  refine congrArg₂ (· + ·) (congrArg₂ (· + ·) ?_ ?_) ?_
  · exact (congrFun (ahead_mul 0 (fun p => ws (ix2 2 p)) d) j).trans (by rw [ahead_zero])
  · exact congrFun (ahead_mul 1 (fun p => ws (ix2 1 p)) d) j
  · exact congrFun (ahead_mul 2 (fun p => ws (ix2 0 p)) d) j

theorem host_taps (d x : FVec Ideal S2048x3072 .f32) :
    (addf (addf
      (pad S3x3072 ![2, 0] ![0, 0] ![0, 0] (summed (lower 2 slices_S2050x3072_S2048x3072_2_0 x) d) (constant S_ .f32 0x00000000#32) pads_S1x3072_S3x3072_200_000 h_S_)
      (pad S3x3072 ![1, 0] ![1, 0] ![0, 0] (summed (lower 1 slices_S2050x3072_S2048x3072_1_0 x) d) (constant S_ .f32 0x00000000#32) pads_S1x3072_S3x3072_110_000 h_S_))
      (pad S3x3072 ![0, 0] ![2, 0] ![0, 0] (summed (lower 0 slices_S2050x3072_S2048x3072_0_0 x) d) (constant S_ .f32 0x00000000#32) pads_S1x3072_S3x3072_020_000 h_S_)
        : FVec Ideal S3x3072 .f32) = taps d x := by
  rw [lower0, lower1, lower2]
  exact (rows_added _ _ _ _ zero_word _ _ _ _).trans (rows_taps d x _ _ _ (summed_eq x d) (summed_eq _ d) (summed_eq _ d))

variable (V0 : Valuation τ sig (Elt Ideal))

abbrev host0 : Rows 2048 1024 := V0 (Proc.devRef .tc main_arg0)

abbrev host1 : Rows 3072 1024 := V0 (Proc.devRef .tc main_arg1)

abbrev host2 : Rows 2048 6144 := V0 (Proc.devRef .tc main_arg2)

abbrev host3 : Rows 3 6144 := V0 (Proc.devRef .tc main_arg3)

abbrev host4 : Rows 1 6144 := V0 (Proc.devRef .tc main_arg4)

abbrev hostGate : Rows 2048 3072 := res_main_v30 V0

abbrev hostVal : Rows 2048 3072 := res_main_v55 V0

abbrev hostDf : Rows 2048 3072 := res_main_v85 V0

theorem host_gate : hostGate V0 = conv (side 0 (host3 V0)) (side 0 (host4 V0)) (side 0 (host2 V0)) := by
  rw [← side0 (host3 V0) slices_S3x6144_S3x3072_0_0, ← side0 (host4 V0) slices_S1x6144_S1x3072_0_0,
    ← side0 (host2 V0) slices_S2048x6144_S2048x3072_0_0]
  exact host_conv _ _ _

theorem host_val : hostVal V0 = conv (side 1 (host3 V0)) (side 1 (host4 V0)) (side 1 (host2 V0)) := by
  rw [← side1 (host3 V0) slices_S3x6144_S3x3072_0_3072, ← side1 (host4 V0) slices_S1x6144_S1x3072_0_3072,
    ← side1 (host2 V0) slices_S2048x6144_S2048x3072_0_3072]
  exact host_conv _ _ _

theorem host_df : hostDf V0 = through (host0 V0) (host1 V0) := by
  unfold hostDf res_main_v85 res_main_v82 res_main_v80
  funext j
  pointwise []

theorem host_act : res_main_v78 V0 = fun j => hostGate V0 j * (half * (one + bent (hostGate V0 j))) := by
  unfold hostGate res_main_v78 res_main_v77 res_main_v68
  generalize res_main_v30 V0 = g
  funext j
  rfl

theorem host_back : res_main_v101 V0 = fun j => carried (hostGate V0 j) (hostDf V0 j * hostVal V0 j) := by
  unfold hostGate hostDf hostVal res_main_v101 res_main_v94 res_main_v87 res_main_v77 res_main_v68
  generalize res_main_v30 V0 = g
  generalize res_main_v85 V0 = d
  generalize res_main_v55 V0 = v
  funext j
  rfl

theorem host_dug : extractStridedSlice S2048x3072 ![2, 0] (res_main_v134 V0) slices_S2050x3072_S2048x3072_2_0
    = spread (side 0 (host3 V0)) (res_main_v101 V0) := by
  rw [← side0 (host3 V0) slices_S3x6144_S3x3072_0_0]
  exact host_spread _ _

theorem host_duv : extractStridedSlice S2048x3072 ![2, 0] (res_main_v169 V0) slices_S2050x3072_S2048x3072_2_0
    = spread (side 1 (host3 V0)) (res_main_v86 V0) := by
  rw [← side1 (host3 V0) slices_S3x6144_S3x3072_0_3072]
  exact host_spread _ _

theorem host_dwg : (addf (addf
      (pad S3x3072 ![2, 0] ![0, 0] ![0, 0] (summed (res_main_v22 V0) (res_main_v101 V0)) (constant S_ .f32 0x00000000#32) pads_S1x3072_S3x3072_200_000 h_S_)
      (pad S3x3072 ![1, 0] ![1, 0] ![0, 0] (summed (res_main_v15 V0) (res_main_v101 V0)) (constant S_ .f32 0x00000000#32) pads_S1x3072_S3x3072_110_000 h_S_))
      (pad S3x3072 ![0, 0] ![2, 0] ![0, 0] (summed (res_main_v9 V0) (res_main_v101 V0)) (constant S_ .f32 0x00000000#32) pads_S1x3072_S3x3072_020_000 h_S_)
        : FVec Ideal S3x3072 .f32) = taps (res_main_v101 V0) (side 0 (host2 V0)) := by
  generalize res_main_v101 V0 = d
  rw [← side0 (host2 V0) slices_S2048x6144_S2048x3072_0_0]
  exact host_taps d _

theorem host_dwv : (addf (addf
      (pad S3x3072 ![2, 0] ![0, 0] ![0, 0] (summed (res_main_v47 V0) (res_main_v86 V0)) (constant S_ .f32 0x00000000#32) pads_S1x3072_S3x3072_200_000 h_S_)
      (pad S3x3072 ![1, 0] ![1, 0] ![0, 0] (summed (res_main_v40 V0) (res_main_v86 V0)) (constant S_ .f32 0x00000000#32) pads_S1x3072_S3x3072_110_000 h_S_))
      (pad S3x3072 ![0, 0] ![2, 0] ![0, 0] (summed (res_main_v34 V0) (res_main_v86 V0)) (constant S_ .f32 0x00000000#32) pads_S1x3072_S3x3072_020_000 h_S_)
        : FVec Ideal S3x3072 .f32) = taps (res_main_v86 V0) (side 1 (host2 V0)) := by
  generalize res_main_v86 V0 = d
  rw [← side1 (host2 V0) slices_S2048x6144_S2048x3072_0_3072]
  exact host_taps d _

theorem host_down : (truncf .bf16 (transpose S3072x1024 [1, 0] (Host.dotGeneral (φ₁ := .f32) (φ₂ := .f32) dot_S2048x1024_S2048x3072_S1024x3072_0_0_1_1_n_n none
    (res_main_v82 V0) (res_main_v79 V0)) transposes_S1024x3072_S3072x1024_1_0) bitsLt_bf16_f32 : FVec Ideal S3072x1024 .bf16) = matrixBack (host0 V0) (times (res_main_v78 V0) (hostVal V0)) := by
  unfold hostVal res_main_v82 res_main_v79
  generalize res_main_v78 V0 = a
  generalize res_main_v55 V0 = v
  funext j
  pointwise []
  exact matrix_turned _ (times a v) j

theorem host_valBack : res_main_v86 V0 = fun j => hostDf V0 j * (hostGate V0 j * (half * (one + bent (hostGate V0 j)))) := by
  unfold res_main_v86
  rw [host_act]
  exact funext fun j => mul_comm _ _

end Host

open Cert.BackFfnIdeal Cert.BackFfnIdeal.Gen Cert.BackFfnIdeal.Value

/-- The precondition's own side conditions. -/
instance facts_finite : Cert.Pre_finite.Facts where
  bitsLt_bf16_f32 := by decide
  bcast_S_S2048x1024 := by decide
  bcast_S_S3072x1024 := by decide
  bcast_S_S2048x6144 := by decide
  bcast_S_S3x6144 := by decide
  bcast_S_S1x6144 := by decide

theorem frame : Cert.quiescent_BackFfn := fun m g _ => Cert.BackFfn.Gen.frame m g

theorem frame_ideal : Cert.quiescent_BackFfnIdeal := fun m g _ => Cert.BackFfnIdeal.Gen.frame m g

theorem frame_ideal_finite : Cert.quiescent_BackFfnIdeal_pre_finite := fun m g _ => Cert.BackFfnIdeal.Gen.frame m g

theorem frame_ref_ideal : Cert.quiescent_BackFfnRefIdeal := fun m g _ =>
  (θ_run Cert.BackFfnRefIdeal.defs _ _).mono (fun r h => ⟨fun c => (h c).2.2.2.2.2.2.2, sem_eq_zero_of_no_sems (by decide) r.2⟩)
    (Cert.BackFfnRefIdeal.Value.run (F := Ideal) m g)

theorem frame_ref_ideal_finite : Cert.quiescent_BackFfnRefIdeal_pre_finite := fun m g _ => frame_ref_ideal m g trivial

theorem preserves : Cert.preserves_BackFfn_BackFfnIdeal :=
  ⟨IdealRules.named_const.statement _ _ _ _ _ rfl, IdealRules.named_const.statement _ _ _ _ _ rfl⟩

/-! ## What one point computes -/

/-- The two named coefficients. -/
abbrev k : EReal := (Named.named κ "k" 0x3D372713#32 : Ideal .f32)

abbrev k3 : EReal := (Named.named κ "k3" 0x3E095D4F#32 : Ideal .f32)

theorem k_value : k = ((8943 / 200000 : ℝ) : EReal) := IdealRules.named_const.ideal_named_scalar _ _ _ _ rfl

theorem k3_value : k3 = ((26829 / 200000 : ℝ) : EReal) := IdealRules.named_const.ideal_named_scalar _ _ _ _ rfl

section Point

/-- The gradient at the first convolution's output, and at the second's. -/
abbrev gateBack {C : Nat} (df g v : Rows 2048 C) : Rows 2048 C := fun j => df j * v j * slope k k3 (g j)

abbrev valBack {C : Nat} (df g : Rows 2048 C) : Rows 2048 C := fun j => df j * act k (g j)

abbrev active {C : Nat} (g v : Rows 2048 C) : Rows 2048 C := fun j => act k (g j) * v j

variable (da : Vec Ideal S2048x1024 .bf16) (w : Vec Ideal S512x1024 .bf16) (ug uv : Vec Ideal S2048x512 .f32) (wg wv : Vec Ideal S3x512 .f32)
  (bg bv : Vec Ideal S1x512 .f32)

theorem through_value : k0_pay3 da w = through da w := by
  funext j
  pointwise [k0_pay3]

/-- Row `r` of the taps, loaded. -/
theorem load_row (ws : Vec Ideal S3x512 .f32) (r : Fin 3) (inb) (p : (⟨2, ![1, 512]⟩ : Shape).Idx) :
    View.ld ws (Rect.unit (s := S3x512) ![r.val, 0] S1x512.size inb) p = ws (ix2 r (p 1)) := by
  refine View.ld_unit_apply_of _ _ _ _ _ _ fun a => ?_
  have h0 : (p 0).val < 1 := (p 0).isLt
  match a with
  | ⟨0, _⟩ => show r.val = r.val + (p 0).val; omega
  | ⟨1, _⟩ => show (p 1).val = 0 + (p 1).val; omega

theorem conv_value (x : Vec Ideal S2048x512 .f32) (b u2 u1 u0 : Vec Ideal S1x512 .f32) : k0_pay4 x b u2 u1 u0
    = fun j => u2 (ix2 0 (j 1)) * x j + u1 (ix2 0 (j 1)) * behind 1 x j + u0 (ix2 0 (j 1)) * behind 2 x j + b (ix2 0 (j 1)) := by
  unfold k0_pay4
  dsimp only
  rw [rotated_down x 1 (by decide) 1#32 rfl, rotated_down x 2 (by decide) 2#32 rfl]
  generalize behind 1 x = p
  generalize behind 2 x = q
  funext j
  pointwise []

theorem conv_loaded (x : Vec Ideal S2048x512 .f32) (b : Vec Ideal S1x512 .f32) (ws : Vec Ideal S3x512 .f32) :
    k0_pay4 x b (View.ld ws r0_4) (View.ld ws r0_5) (View.ld ws r0_6) = conv ws b x := by
  rw [conv_value]
  funext j
  exact congrArg (· + _) (congrArg₂ (· + ·) (congrArg₂ (· + ·) (congrArg (· * _) (load_row ws 2 _ _)) (congrArg (· * _) (load_row ws 1 _ _)))
    (congrArg (· * _) (load_row ws 0 _ _)))

theorem df_value : k0_pay25 da w ug uv wg wv bg bv = through da w := by
  unfold k0_pay25
  simp only [View.ld_unit_zero (S := S2048x1024) plane, View.ld_unit_zero (S := S512x1024) plane]
  exact through_value da w

theorem gate_value : k0_pay26 da w ug uv wg wv bg bv = conv wg bg ug := by
  unfold k0_pay26
  simp only [View.ld_unit_zero (S := S2048x512) plane, View.ld_unit_zero (S := S1x512) plane]
  exact conv_loaded ug bg wg

theorem val_value : k0_pay27 da w ug uv wg wv bg bv = conv wv bv uv := by
  unfold k0_pay27
  simp only [View.ld_unit_zero (S := S2048x512) plane, View.ld_unit_zero (S := S1x512) plane]
  exact conv_loaded uv bv wv

theorem act_value (g : FVec Ideal S2048x512 .f32) : k0_pay8 g = fun j => act k (g j) := rfl

theorem gateBack_value (df g v : FVec Ideal S2048x512 .f32) : k0_pay12 df g v (k0_pay6 g) (k0_pay7 g) (k0_pay9 g) k0_pay10 = gateBack df g v := rfl

theorem gateBack_point : k0_pay33 da w ug uv wg wv bg bv = gateBack (through da w) (conv wg bg ug) (conv wv bv uv) := by
  unfold k0_pay33 k0_pay28 k0_pay29 k0_pay31 k0_pay32
  rw [df_value, gate_value, val_value, gateBack_value]

theorem valBack_point : k0_pay34 da w ug uv wg wv bg bv = valBack (through da w) (conv wg bg ug) := by
  unfold k0_pay34 k0_pay30
  rw [df_value, gate_value, act_value]
  rfl

theorem spread_value (d : FVec Ideal S2048x512 .f32) (u2 u1 u0 : Vec Ideal S1x512 .f32) : k0_pay19 d u2 u1 u0
    = fun j => u2 (ix2 0 (j 1)) * d j + u1 (ix2 0 (j 1)) * ahead 1 d j + u0 (ix2 0 (j 1)) * ahead 2 d j := by
  unfold k0_pay19
  dsimp only
  rw [rotated_up d 1 (by decide) (by decide) 2047#32 rfl, rotated_up d 2 (by decide) (by decide) 2046#32 rfl]
  generalize ahead 1 d = p
  generalize ahead 2 d = q
  funext j
  pointwise []

theorem spread_loaded (d : FVec Ideal S2048x512 .f32) (ws : Vec Ideal S3x512 .f32) :
    k0_pay19 d (View.ld ws r0_4) (View.ld ws r0_5) (View.ld ws r0_6) = spread ws d := by
  rw [spread_value]
  funext j
  exact congrArg₂ (· + ·) (congrArg₂ (· + ·) (congrArg (· * _) (load_row ws 2 _ _)) (congrArg (· * _) (load_row ws 1 _ _)))
    (congrArg (· * _) (load_row ws 0 _ _))

/-- The sums over the rows, as a row. -/
theorem row_total (d : FVec Ideal S2048x512 .f32) :
    (shapeCast S1x512 (multiReduction .add [0] S512 d 0x00000000#32 reduces_S2048x512_S512 (.inl rfl) rfl) shapeCasts_S512_S1x512 : FVec Ideal S1x512 .f32)
      = total d := by
  funext j
  pointwise []

theorem row_sum (d z : FVec Ideal S2048x512 .f32) :
    (shapeCast S1x512 (multiReduction .add [0] S512 (mulf d z) 0x00000000#32 reduces_S2048x512_S512 (.inl rfl) rfl) shapeCasts_S512_S1x512 : FVec Ideal S1x512 .f32)
      = fun i => ∑ s, d (ix2 s (i 1)) * z (ix2 s (i 1)) := row_total (mulf d z)

theorem taps_value (x d : FVec Ideal S2048x512 .f32) : k0_pay24 x d = taps d x := by
  unfold k0_pay24
  dsimp only
  rw [rotated_down x 1 (by decide) 1#32 rfl, rotated_down x 2 (by decide) 2#32 rfl]
  exact (rows_laid _ _ _ _).trans (rows_taps d x _ _ _ (row_sum d _) (row_sum d _) (row_sum d _))

theorem left8 : out0_8 da w ug uv wg wv bg bv = spread wg (gateBack (through da w) (conv wg bg ug) (conv wv bv uv)) := by
  unfold out0_8
  rw [View.canon_unit_zero plane]
  refine Eq.trans ?_ (spread_loaded _ wg)
  rw [← gateBack_point da w ug uv wg wv bg bv]
  rfl

theorem left9 : out0_9 da w ug uv wg wv bg bv = spread wv (valBack (through da w) (conv wg bg ug)) := by
  unfold out0_9
  rw [View.canon_unit_zero plane, valBack_point, spread_loaded]

theorem left10 : out0_10 da w ug uv wg wv bg bv = matrixBack da (active (conv wg bg ug) (conv wv bv uv)) := by
  unfold out0_10 k0_pay30
  rw [View.canon_unit_zero plane, gate_value, val_value, act_value]
  simp only [View.ld_unit_zero (S := S2048x1024) plane]
  generalize conv wg bg ug = g
  generalize conv wv bv uv = v
  funext j
  pointwise [k0_pay11]

theorem left11 : out0_11 da w ug uv wg wv bg bv = taps (gateBack (through da w) (conv wg bg ug) (conv wv bv uv)) ug := by
  unfold out0_11
  rw [View.canon_unit_zero plane, gateBack_point]
  simp only [View.ld_unit_zero (S := S2048x512) plane]
  exact taps_value ug _

theorem left12 : out0_12 da w ug uv wg wv bg bv = taps (valBack (through da w) (conv wg bg ug)) uv := by
  unfold out0_12
  rw [View.canon_unit_zero plane, valBack_point]
  simp only [View.ld_unit_zero (S := S2048x512) plane]
  exact taps_value uv _

theorem left13 : out0_13 da w ug uv wg wv bg bv = total (gateBack (through da w) (conv wg bg ug) (conv wv bv uv)) := by
  unfold out0_13
  rw [View.canon_unit_zero plane, gateBack_point]
  exact row_total _

theorem left14 : out0_14 da w ug uv wg wv bg bv = total (valBack (through da w) (conv wg bg ug)) := by
  unfold out0_14
  rw [View.canon_unit_zero plane, valBack_point]
  exact row_total _

end Point

/-! ## The whole arrays -/

variable (m : (ℓ : Loc nD τ sig) → Buf (Elt Ideal) ℓ)

abbrev arg0 (c : Dev nD) : Rows 2048 1024 := m ((c : Thread nD τ).loc main_arg0)

abbrev arg1 (c : Dev nD) : Rows 3072 1024 := m ((c : Thread nD τ).loc main_arg1)

abbrev arg2 (c : Dev nD) : Rows 2048 6144 := m ((c : Thread nD τ).loc main_arg2)

abbrev arg3 (c : Dev nD) : Rows 3 6144 := m ((c : Thread nD τ).loc main_arg3)

abbrev arg4 (c : Dev nD) : Rows 1 6144 := m ((c : Thread nD τ).loc main_arg4)

theorem places : ∀ t : Fin cfg0.N, (win0_0.index t = ![0, 0] ∧ win0_1.index t = ![t.val, 0] ∧ win0_2.index t = ![0, 6 * 0 + t.val]
    ∧ win0_3.index t = ![0, 6 * 1 + t.val] ∧ win0_4.index t = ![0, 6 * 0 + t.val] ∧ win0_5.index t = ![0, 6 * 1 + t.val]
    ∧ win0_6.index t = ![0, 6 * 0 + t.val] ∧ win0_7.index t = ![0, 6 * 1 + t.val])
    ∧ win0_8.index t = ![0, t.val] ∧ win0_9.index t = ![0, t.val] ∧ win0_10.index t = ![t.val, 0] ∧ win0_11.index t = ![0, t.val]
    ∧ win0_12.index t = ![0, t.val] ∧ win0_13.index t = ![0, t.val] ∧ win0_14.index t = ![0, t.val] :=
  (by decide +kernel : ∀ t : Fin grid0.N, _)

section Blocks

variable (c : Dev nD) (t : Fin cfg0.N)

theorem block0 : iblk m c 0 t = arg0 m c :=
  funext fun y => congrArg (V m c main_arg0) (whole_at (y := y) (places t).1.1 rfl rfl)

theorem block1 : iblk m c 1 t = cut_rows t (arg1 m c) :=
  funext fun y => congrArg (V m c main_arg1) (cut_row_at (y := y) (places t).1.2.1 rfl rfl)

theorem block2 : iblk m c 2 t = cut t (side 0 (arg2 m c)) :=
  funext fun y => congrArg (V m c main_arg2) (side_at 0 (y := y) rfl (places t).1.2.2.1 rfl rfl)

theorem block3 : iblk m c 3 t = cut t (side 1 (arg2 m c)) :=
  funext fun y => congrArg (V m c main_arg2) (side_at 1 (y := y) rfl (places t).1.2.2.2.1 rfl rfl)

theorem block4 : iblk m c 4 t = cut t (side 0 (arg3 m c)) :=
  funext fun y => congrArg (V m c main_arg3) (side_at 0 (y := y) rfl (places t).1.2.2.2.2.1 rfl rfl)

theorem block5 : iblk m c 5 t = cut t (side 1 (arg3 m c)) :=
  funext fun y => congrArg (V m c main_arg3) (side_at 1 (y := y) rfl (places t).1.2.2.2.2.2.1 rfl rfl)

theorem block6 : iblk m c 6 t = cut t (side 0 (arg4 m c)) :=
  funext fun y => congrArg (V m c main_arg4) (side_at 0 (y := y) rfl (places t).1.2.2.2.2.2.2.1 rfl rfl)

theorem block7 : iblk m c 7 t = cut t (side 1 (arg4 m c)) :=
  funext fun y => congrArg (V m c main_arg4) (side_at 1 (y := y) rfl (places t).1.2.2.2.2.2.2.2 rfl rfl)

end Blocks

/-- The point that has a column, or a row of the matrix. -/
theorem point (n : Nat) (h : n < 3072) : ∃ t : Fin cfg0.N, t.val = n / 512 :=
  ⟨⟨n / 512, by show _ < 6; omega⟩, rfl⟩

abbrev df (c : Dev nD) : Rows 2048 3072 := through (arg0 m c) (arg1 m c)

abbrev gate (c : Dev nD) : Rows 2048 3072 := conv (side 0 (arg3 m c)) (side 0 (arg4 m c)) (side 0 (arg2 m c))

abbrev val (c : Dev nD) : Rows 2048 3072 := conv (side 1 (arg3 m c)) (side 1 (arg4 m c)) (side 1 (arg2 m c))

/-- The blocks of the two gradients at the convolutions' outputs. -/
theorem gateBack_block (c : Dev nD) (t : Fin 6) :
    gateBack (through (arg0 m c) (cut_rows t (arg1 m c))) (conv (cut t (side 0 (arg3 m c))) (cut t (side 0 (arg4 m c))) (cut t (side 0 (arg2 m c))))
      (conv (cut t (side 1 (arg3 m c))) (cut t (side 1 (arg4 m c))) (cut t (side 1 (arg2 m c)))) = cut t (gateBack (df m c) (gate m c) (val m c)) := rfl

theorem valBack_block (c : Dev nD) (t : Fin 6) :
    valBack (through (arg0 m c) (cut_rows t (arg1 m c))) (conv (cut t (side 0 (arg3 m c))) (cut t (side 0 (arg4 m c))) (cut t (side 0 (arg2 m c))))
      = cut t (valBack (df m c) (gate m c)) := rfl

theorem whole8 (c : Dev nD) : (dats m 0 c).arrAt 8 cfg0.N = spread (side 0 (arg3 m c)) (gateBack (df m c) (gate m c) (val m c)) := by
  refine (dats m 0 c).arrAt_eq_of_cover 8 _ (fun t _ => ?_) fun i => ?_
  · rw [flushed8, left8, block0 m c t, block1 m c t, block2 m c t, block3 m c t, block4 m c t, block5 m c t, block6 m c t, block7 m c t, gateBack_block m c t]
    generalize gateBack (df m c) (gate m c) (val m c) = d
    exact funext fun y => (congrArg (spread (side 0 (arg3 m c)) d)
      (col_at (t := t) (y := y) (i := ((cfg0.win 8).blk t).view.emb y) (places t).2.1 rfl rfl)).symm
  · obtain ⟨t, ht⟩ := point (i 1).val (i 1).isLt
    refine ⟨t, flush0_8 t, ?_⟩
    show i ∈ ((View.whole main_v0_0).slice (win0_8.rect t)).set
    rw [View.set_slice_whole, Rect.mem_set_unit]
    exact in_column i (ht ▸ (places t).2.1)

theorem whole9 (c : Dev nD) : (dats m 0 c).arrAt 9 cfg0.N = spread (side 1 (arg3 m c)) (valBack (df m c) (gate m c)) := by
  refine (dats m 0 c).arrAt_eq_of_cover 9 _ (fun t _ => ?_) fun i => ?_
  · rw [flushed9, left9, block0 m c t, block1 m c t, block2 m c t, block4 m c t, block5 m c t, block6 m c t, valBack_block m c t]
    generalize valBack (df m c) (gate m c) = d
    exact funext fun y => (congrArg (spread (side 1 (arg3 m c)) d)
      (col_at (t := t) (y := y) (i := ((cfg0.win 9).blk t).view.emb y) (places t).2.2.1 rfl rfl)).symm
  · obtain ⟨t, ht⟩ := point (i 1).val (i 1).isLt
    refine ⟨t, flush0_9 t, ?_⟩
    show i ∈ ((View.whole main_v0_1).slice (win0_9.rect t)).set
    rw [View.set_slice_whole, Rect.mem_set_unit]
    exact in_column i (ht ▸ (places t).2.2.1)

theorem whole10 (c : Dev nD) : (dats m 0 c).arrAt 10 cfg0.N = matrixBack (arg0 m c) (active (gate m c) (val m c)) := by
  refine (dats m 0 c).arrAt_eq_of_cover 10 _ (fun t _ => ?_) fun i => ?_
  · rw [flushed10, left10, block0 m c t, block2 m c t, block3 m c t, block4 m c t, block5 m c t, block6 m c t, block7 m c t]
    exact funext fun y => (congrArg (matrixBack (arg0 m c) (active (gate m c) (val m c)))
      (cut_row_at (t := t) (y := y) (i := ((cfg0.win 10).blk t).view.emb y) (places t).2.2.2.1 rfl rfl)).symm
  · obtain ⟨t, ht⟩ := point (i 0).val (i 0).isLt
    refine ⟨t, flush0_10 t, ?_⟩
    show i ∈ ((View.whole main_v0_2).slice (win0_10.rect t)).set
    rw [View.set_slice_whole, Rect.mem_set_unit]
    exact in_tile i (by decide) (ht ▸ (places t).2.2.2.1)

theorem whole11 (c : Dev nD) : (dats m 0 c).arrAt 11 cfg0.N = taps (gateBack (df m c) (gate m c) (val m c)) (side 0 (arg2 m c)) := by
  refine (dats m 0 c).arrAt_eq_of_cover 11 _ (fun t _ => ?_) fun i => ?_
  · rw [flushed11, left11, block0 m c t, block1 m c t, block2 m c t, block3 m c t, block4 m c t, block5 m c t, block6 m c t, block7 m c t, gateBack_block m c t]
    generalize gateBack (df m c) (gate m c) (val m c) = d
    exact funext fun y => (congrArg (taps d (side 0 (arg2 m c)))
      (col_at (t := t) (y := y) (i := ((cfg0.win 11).blk t).view.emb y) (places t).2.2.2.2.1 rfl rfl)).symm
  · obtain ⟨t, ht⟩ := point (i 1).val (i 1).isLt
    refine ⟨t, flush0_11 t, ?_⟩
    show i ∈ ((View.whole main_v0_3).slice (win0_11.rect t)).set
    rw [View.set_slice_whole, Rect.mem_set_unit]
    exact in_column i (ht ▸ (places t).2.2.2.2.1)

theorem whole12 (c : Dev nD) : (dats m 0 c).arrAt 12 cfg0.N = taps (valBack (df m c) (gate m c)) (side 1 (arg2 m c)) := by
  refine (dats m 0 c).arrAt_eq_of_cover 12 _ (fun t _ => ?_) fun i => ?_
  · rw [flushed12, left12, block0 m c t, block1 m c t, block2 m c t, block3 m c t, block4 m c t, block6 m c t, valBack_block m c t]
    generalize valBack (df m c) (gate m c) = d
    exact funext fun y => (congrArg (taps d (side 1 (arg2 m c)))
      (col_at (t := t) (y := y) (i := ((cfg0.win 12).blk t).view.emb y) (places t).2.2.2.2.2.1 rfl rfl)).symm
  · obtain ⟨t, ht⟩ := point (i 1).val (i 1).isLt
    refine ⟨t, flush0_12 t, ?_⟩
    show i ∈ ((View.whole main_v0_4).slice (win0_12.rect t)).set
    rw [View.set_slice_whole, Rect.mem_set_unit]
    exact in_column i (ht ▸ (places t).2.2.2.2.2.1)

theorem whole13 (c : Dev nD) : (dats m 0 c).arrAt 13 cfg0.N = total (gateBack (df m c) (gate m c) (val m c)) := by
  refine (dats m 0 c).arrAt_eq_of_cover 13 _ (fun t _ => ?_) fun i => ?_
  · rw [flushed13, left13, block0 m c t, block1 m c t, block2 m c t, block3 m c t, block4 m c t, block5 m c t, block6 m c t, block7 m c t, gateBack_block m c t]
    generalize gateBack (df m c) (gate m c) (val m c) = d
    exact funext fun y => (congrArg (total d)
      (col_at (t := t) (y := y) (i := ((cfg0.win 13).blk t).view.emb y) (places t).2.2.2.2.2.2.1 rfl rfl)).symm
  · obtain ⟨t, ht⟩ := point (i 1).val (i 1).isLt
    refine ⟨t, flush0_13 t, ?_⟩
    show i ∈ ((View.whole main_v0_5).slice (win0_13.rect t)).set
    rw [View.set_slice_whole, Rect.mem_set_unit]
    exact in_column i (ht ▸ (places t).2.2.2.2.2.2.1)

theorem whole14 (c : Dev nD) : (dats m 0 c).arrAt 14 cfg0.N = total (valBack (df m c) (gate m c)) := by
  refine (dats m 0 c).arrAt_eq_of_cover 14 _ (fun t _ => ?_) fun i => ?_
  · rw [flushed14, left14, block0 m c t, block1 m c t, block2 m c t, block4 m c t, block6 m c t, valBack_block m c t]
    generalize valBack (df m c) (gate m c) = d
    exact funext fun y => (congrArg (total d)
      (col_at (t := t) (y := y) (i := ((cfg0.win 14).blk t).view.emb y) (places t).2.2.2.2.2.2.2 rfl rfl)).symm
  · obtain ⟨t, ht⟩ := point (i 1).val (i 1).isLt
    refine ⟨t, flush0_14 t, ?_⟩
    show i ∈ ((View.whole main_v0_6).slice (win0_14.rect t)).set
    rw [View.set_slice_whole, Rect.mem_set_unit]
    exact in_column i (ht ▸ (places t).2.2.2.2.2.2.2)

/-! ## The reference's gradients are the kernel's -/

/-- Every argument is finite. -/
abbrev Finite (c : Dev nD) : Prop := (∀ j, IsReal (arg0 m c j)) ∧ (∀ j, IsReal (arg1 m c j)) ∧ (∀ j, IsReal (arg2 m c j)) ∧ (∀ j, IsReal (arg3 m c j))
  ∧ ∀ j, IsReal (arg4 m c j)

theorem finite_of_pre (pre : Cert.Pre_BackFfnIdeal_finite m) (c : Dev nD) : Finite m c := by
  obtain ⟨h0, h1, h2, h3, h4⟩ := pre c
  exact ⟨fun j => isReal_of_abs _ (congrFun h0 j), fun j => isReal_of_abs _ (congrFun h1 j), fun j => isReal_of_abs _ (congrFun h2 j),
    fun j => isReal_of_abs _ (congrFun h3 j), fun j => isReal_of_abs _ (congrFun h4 j)⟩

theorem carried_back {c : Dev nD} (h : Finite m c) :
    (fun j => carried (gate m c j) (df m c j * val m c j) : Rows 2048 3072) = gateBack (df m c) (gate m c) (val m c) :=
  funext fun j => slope_eq k_value k3_value (isReal_conv (fun _ => h.2.2.2.1 _) (fun _ => h.2.2.2.2 _) (fun _ => h.2.2.1 _) j)
    (.mul (isReal_sum _ _ fun _ => .mul (h.1 _) (h.2.1 _)) (isReal_conv (fun _ => h.2.2.2.1 _) (fun _ => h.2.2.2.2 _) (fun _ => h.2.2.1 _) j))

section Same

variable {m} {c : Dev nD} {V0 : Valuation Cert.BackFfnRefIdeal.τ Cert.BackFfnRefIdeal.sig (Elt Ideal)}

/-- The reference's arguments are the kernel's. -/
abbrev Agree (m : (ℓ : Loc nD τ sig) → Buf (Elt Ideal) ℓ) (c : Dev nD) (V0 : Valuation Cert.BackFfnRefIdeal.τ Cert.BackFfnRefIdeal.sig (Elt Ideal)) : Prop :=
  host0 V0 = arg0 m c ∧ host1 V0 = arg1 m c ∧ host2 V0 = arg2 m c ∧ host3 V0 = arg3 m c ∧ host4 V0 = arg4 m c

theorem same_gate (a : Agree m c V0) : hostGate V0 = gate m c := by
  rw [host_gate, a.2.2.1, a.2.2.2.1, a.2.2.2.2]

theorem same_val (a : Agree m c V0) : hostVal V0 = val m c := by
  rw [host_val, a.2.2.1, a.2.2.2.1, a.2.2.2.2]

theorem same_df (a : Agree m c V0) : hostDf V0 = df m c := by
  rw [host_df, a.1, a.2.1]

theorem same_gateBack (a : Agree m c V0) (h : Finite m c) :
    Cert.BackFfnRefIdeal.Value.res_main_v101 V0 = gateBack (df m c) (gate m c) (val m c) := by
  rw [host_back, same_gate a, same_val a, same_df a]
  exact carried_back m h

theorem same_valBack (a : Agree m c V0) : Cert.BackFfnRefIdeal.Value.res_main_v86 V0 = valBack (df m c) (gate m c) := by
  rw [host_valBack, same_gate a, same_df a]
  exact funext fun j => congrArg (df m c j * ·) (act_eq k_value (gate m c j))

theorem same_active (a : Agree m c V0) : times (Cert.BackFfnRefIdeal.Value.res_main_v78 V0) (hostVal V0) = active (gate m c) (val m c) := by
  rw [host_act, same_gate a, same_val a]
  exact funext fun j => congrArg (· * val m c j) (act_eq k_value (gate m c j))

end Same

theorem algebraic : Cert.algebraic_BackFfnIdeal_BackFfnRefIdeal_pre_finite := by
  intro m g m' g' pre agree
  refine ⟨_, _, _, _, _, _, _, (θ_run defs _ _).mono (fun _ h c => ⟨(h c).1.trans (whole8 m c), (h c).2.1.trans (whole9 m c),
    (h c).2.2.1.trans (whole10 m c), (h c).2.2.2.1.trans (whole11 m c), (h c).2.2.2.2.1.trans (whole12 m c),
    (h c).2.2.2.2.2.1.trans (whole13 m c), (h c).2.2.2.2.2.2.1.trans (whole14 m c), (h c).2.2.2.2.2.2.2⟩) (run_blocks (F := Ideal) m g), ?_⟩
  have a (c : Dev nD) : Agree m c (StableHlo.launchContents m' c) := agree c
  have f (c : Dev nD) : Finite m c := finite_of_pre m pre c
  refine (θ_run Cert.BackFfnRefIdeal.defs _ _).mono (fun _ h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2.1.trans ?_, (h c).2.2.2.2.2.2.2⟩)
    (Cert.BackFfnRefIdeal.Value.run (F := Ideal) m' g')
  · refine (host_dug _).trans ?_
    rw [same_gateBack (a c) (f c), (a c).2.2.2.1]
  · refine (host_duv _).trans ?_
    rw [same_valBack (a c), (a c).2.2.2.1]
  · refine (host_down _).trans ?_
    rw [same_active (a c), (a c).1]
  · refine (host_dwg _).trans ?_
    rw [same_gateBack (a c) (f c), (a c).2.2.1]
  · refine (host_dwv _).trans ?_
    rw [same_valBack (a c), (a c).2.2.1]
  · refine (host_total _).trans ?_
    rw [same_gateBack (a c) (f c)]
  · refine (host_total _).trans ?_
    rw [same_valBack (a c)]

end Cert.Proof.BackFfn

end
-- ==== Proof.lean ====
/-
# The claims

Each of the four calls has a theorem `frame` and a theorem `value` (Proof/GatherValue.lean, SplitValue.lean,
ExchangeValue.lean, JoinValue.lean) that hold for any float values: at `Ideal` and at `Bits` they are the kernel's frames and
the two value claims. The references are straight-line host programs without a semaphore. The claims of the calls that stay
on one device are in Proof/UpdateClaims.lean, PackSmall.lean, PackRepl.lean, AddClaims.lean,
TotalClaims.lean, NormBack.lean, LastStep.lean, MidNorms.lean, BackWin.lean, BackUp.lean, BackOut.lean,
BackConv.lean and BackFfn.lean.
-/
module

public import proofs.«01_k».proof.Defs
public import proofs.«01_k».proof.Proof.Gen.Gather
public import proofs.«01_k».proof.Proof.Gen.GatherIdeal
public import proofs.«01_k».proof.Proof.Gen.GatherRefIdeal
public import proofs.«01_k».proof.Proof.Gen.GatherRef
public import proofs.«01_k».proof.Proof.Gen.GatherRef.Run
public import proofs.«01_k».proof.Proof.Gen.GatherRefIdeal.Run
public import proofs.«01_k».proof.Proof.Gen.SplitIdeal
public import proofs.«01_k».proof.Proof.Gen.SplitIdeal.Skeleton
public import proofs.«01_k».proof.Proof.Gen.SplitIdeal.Launch
public import proofs.«01_k».proof.Proof.Gen.SplitIdeal.Points
public import proofs.«01_k».proof.Proof.Gen.ExchangeIdeal
public import proofs.«01_k».proof.Proof.Gen.ExchangeIdeal.Skeleton
public import proofs.«01_k».proof.Proof.Gen.ExchangeIdeal.Launch
public import proofs.«01_k».proof.Proof.Gen.ExchangeIdeal.Points
public import proofs.«01_k».proof.Proof.Gen.JoinIdeal
public import proofs.«01_k».proof.Proof.Gen.JoinIdeal.Skeleton
public import proofs.«01_k».proof.Proof.Gen.JoinIdeal.Launch
public import proofs.«01_k».proof.Proof.Gen.JoinIdeal.Points
public import proofs.«01_k».proof.Proof.Gen.Split
public import proofs.«01_k».proof.Proof.Gen.Exchange
public import proofs.«01_k».proof.Proof.Gen.Join
public import proofs.«01_k».proof.Proof.Gen.SplitRef
public import proofs.«01_k».proof.Proof.Gen.SplitRef.Run
public import proofs.«01_k».proof.Proof.Gen.SplitRefIdeal
public import proofs.«01_k».proof.Proof.Gen.SplitRefIdeal.Run
public import proofs.«01_k».proof.Proof.Gen.ExchangeRef
public import proofs.«01_k».proof.Proof.Gen.ExchangeRef.Run
public import proofs.«01_k».proof.Proof.Gen.ExchangeRefIdeal
public import proofs.«01_k».proof.Proof.Gen.ExchangeRefIdeal.Run
public import proofs.«01_k».proof.Proof.Gen.JoinRef
public import proofs.«01_k».proof.Proof.Gen.JoinRefIdeal
public import proofs.«01_k».proof.Proof.GatherValue
public import proofs.«01_k».proof.Proof.SplitValue
public import proofs.«01_k».proof.Proof.ExchangeValue
public import proofs.«01_k».proof.Proof.JoinValue
public import proofs.«01_k».proof.Proof.Gen.AdamWin.Frame
public import proofs.«01_k».proof.Proof.Gen.AdamWinIdeal.Value
public import proofs.«01_k».proof.Proof.Gen.AdamWinRefIdeal.Run
public import proofs.«01_k».proof.Proof.Gen.AdamUp.Frame
public import proofs.«01_k».proof.Proof.Gen.AdamUpIdeal.Value
public import proofs.«01_k».proof.Proof.Gen.AdamUpRefIdeal.Run
public import proofs.«01_k».proof.Proof.Gen.AdamRow.Frame
public import proofs.«01_k».proof.Proof.Gen.AdamRowIdeal.Value
public import proofs.«01_k».proof.Proof.Gen.AdamRowRefIdeal.Run
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamRepl.Frame
public import proofs.«01_k».proof.Proof.Gen.AdamReplIdeal.Value
public import proofs.«01_k».proof.Proof.Gen.AdamReplRefIdeal.Run
public import proofs.«01_k».proof.Proof.Gen.AddWin.Frame
public import proofs.«01_k».proof.Proof.Gen.AddWinIdeal.Value
public import proofs.«01_k».proof.Proof.Gen.AddWinRefIdeal.Run
public import proofs.«01_k».proof.Proof.Gen.AddUp.Frame
public import proofs.«01_k».proof.Proof.Gen.AddUpIdeal.Value
public import proofs.«01_k».proof.Proof.Gen.AddUpRefIdeal.Run
public import proofs.«01_k».proof.Proof.Gen.AddRow.Frame
public import proofs.«01_k».proof.Proof.Gen.AddRowIdeal.Value
public import proofs.«01_k».proof.Proof.Gen.AddRowRefIdeal.Run
public import proofs.«01_k».proof.Proof.Gen.AddDown.Frame
public import proofs.«01_k».proof.Proof.Gen.AddDownIdeal.Value
public import proofs.«01_k».proof.Proof.Gen.AddDownRefIdeal.Run
public import proofs.«01_k».proof.Proof.Gen.AddSmall.Frame
public import proofs.«01_k».proof.Proof.Gen.AddSmallIdeal.Value
public import proofs.«01_k».proof.Proof.Gen.AddSmallRefIdeal.Run
public import proofs.«01_k».proof.Proof.Gen.SumWin.Frame
public import proofs.«01_k».proof.Proof.Gen.SumWinIdeal.Value
public import proofs.«01_k».proof.Proof.Gen.SumWinRefIdeal.Run
public import proofs.«01_k».proof.Proof.Gen.SumUp.Frame
public import proofs.«01_k».proof.Proof.Gen.SumUpIdeal.Value
public import proofs.«01_k».proof.Proof.Gen.SumUpRefIdeal.Run
public import proofs.«01_k».proof.Proof.Gen.SumRow.Frame
public import proofs.«01_k».proof.Proof.Gen.SumRowIdeal.Value
public import proofs.«01_k».proof.Proof.Gen.SumRowRefIdeal.Run
public import proofs.«01_k».proof.Proof.Gen.SumDown.Frame
public import proofs.«01_k».proof.Proof.Gen.SumDownIdeal.Value
public import proofs.«01_k».proof.Proof.Gen.SumDownRefIdeal.Run
public import proofs.«01_k».proof.Proof.Gen.SumSmall.Frame
public import proofs.«01_k».proof.Proof.Gen.SumSmallIdeal.Value
public import proofs.«01_k».proof.Proof.Gen.SumSmallRefIdeal.Run
public import proofs.«01_k».proof.Proof.Gen.SumRepl.Frame
public import proofs.«01_k».proof.Proof.Gen.SumReplIdeal.Value
public import proofs.«01_k».proof.Proof.Gen.SumReplRefIdeal.Run
public import proofs.«01_k».proof.Proof.UpdateClaims
public import proofs.«01_k».proof.Proof.PackSmall
public import proofs.«01_k».proof.Proof.PackRepl
public import proofs.«01_k».proof.Proof.AddClaims
public import proofs.«01_k».proof.Proof.TotalClaims
public import proofs.«01_k».proof.Proof.NormBack
public import proofs.«01_k».proof.Proof.LastStep
public import proofs.«01_k».proof.Proof.MidNorms
public import proofs.«01_k».proof.Proof.BackWin
public import proofs.«01_k».proof.Proof.BackUp
public import proofs.«01_k».proof.Proof.BackOut
public import proofs.«01_k».proof.Proof.BackConv
public import proofs.«01_k».proof.Proof.BackFfn

@[expose] public section

noncomputable section

namespace Cert.Proof

open Idealize.ShloMosaic Idealize.SL.Sem

theorem gather_frame : Cert.quiescent_Gather := fun m g _ => Cert.GatherPlan.frame (F := Bits) m g

theorem gather_frame_ideal : Cert.quiescent_GatherIdeal := fun m g _ => Cert.GatherPlan.frame (F := Ideal) m g

theorem gather_frame_ref_ideal : Cert.quiescent_GatherRefIdeal := fun m g _ =>
  (θ_run Cert.GatherRefIdeal.defs _ _).mono (fun r h => ⟨fun c => (h c).2.2.2.2.2.2.2, sem_eq_zero_of_no_sems (by decide) r.2⟩)
    (Cert.GatherRefIdeal.Value.run (F := Ideal) m g)

theorem gather_frame_ref : Cert.quiescent_GatherRef := fun m g _ =>
  (θ_run Cert.GatherRef.defs _ _).mono (fun r h => ⟨fun c => (h c).2.2.2.2.2.2.2, sem_eq_zero_of_no_sems (by decide) r.2⟩)
    (Cert.GatherRef.Value.run (F := Bits) m g)

theorem gather_algebraic : Cert.algebraic_GatherIdeal_GatherRefIdeal := fun m g m' g' _ h => Cert.GatherPlan.value (F := Ideal) g g' h

theorem gather_bitexact : Cert.bitexact_Gather_GatherRef := fun m g m' g' _ h => Cert.GatherPlan.value (F := Bits) (m := m) (m' := m') g g' h

theorem split_frame : Cert.quiescent_Split := fun m g _ => Cert.SplitPlan.frame (F := Bits) m g

theorem split_frame_ideal : Cert.quiescent_SplitIdeal := fun m g _ => Cert.SplitPlan.frame (F := Ideal) m g

theorem split_frame_ref_ideal : Cert.quiescent_SplitRefIdeal := fun m g _ =>
  (θ_run Cert.SplitRefIdeal.defs _ _).mono (fun r h => ⟨fun c => (h c).2.2.2.2.2.2.2.2.2.2.2.2.2.2, sem_eq_zero_of_no_sems (by decide) r.2⟩)
    (Cert.SplitRefIdeal.Value.run (F := Ideal) m g)

theorem split_frame_ref : Cert.quiescent_SplitRef := fun m g _ =>
  (θ_run Cert.SplitRef.defs _ _).mono (fun r h => ⟨fun c => (h c).2.2.2.2.2.2.2.2.2.2.2.2.2.2, sem_eq_zero_of_no_sems (by decide) r.2⟩)
    (Cert.SplitRef.Value.run (F := Bits) m g)

theorem split_algebraic : Cert.algebraic_SplitIdeal_SplitRefIdeal := fun m g m' g' _ h => Cert.SplitPlan.value (F := Ideal) g g' h

set_option maxHeartbeats 1000000 in
theorem split_bitexact : Cert.bitexact_Split_SplitRef := fun m g m' g' _ h => Cert.SplitPlan.value (F := Bits) (m := m) (m' := m') g g' h

theorem exchange_frame : Cert.quiescent_Exchange := fun m g _ => Cert.ExchangePlan.frame (F := Bits) m g

theorem exchange_frame_ideal : Cert.quiescent_ExchangeIdeal := fun m g _ => Cert.ExchangePlan.frame (F := Ideal) m g

theorem exchange_frame_ref_ideal : Cert.quiescent_ExchangeRefIdeal := fun m g _ =>
  (θ_run Cert.ExchangeRefIdeal.defs _ _).mono (fun r h => ⟨fun c => (h c).2.2.2.2.2.2.2.2, sem_eq_zero_of_no_sems (by decide) r.2⟩)
    (Cert.ExchangeRefIdeal.Value.run (F := Ideal) m g)

theorem exchange_frame_ref : Cert.quiescent_ExchangeRef := fun m g _ =>
  (θ_run Cert.ExchangeRef.defs _ _).mono (fun r h => ⟨fun c => (h c).2.2.2.2.2.2.2.2, sem_eq_zero_of_no_sems (by decide) r.2⟩)
    (Cert.ExchangeRef.Value.run (F := Bits) m g)

theorem exchange_algebraic : Cert.algebraic_ExchangeIdeal_ExchangeRefIdeal := fun m g m' g' _ h => Cert.ExchangePlan.value (F := Ideal) g g' h

theorem exchange_bitexact : Cert.bitexact_Exchange_ExchangeRef := fun m g m' g' _ h => Cert.ExchangePlan.value (F := Bits) (m := m) (m' := m') g g' h

theorem join_frame : Cert.quiescent_Join := fun m g _ => Cert.JoinPlan.frame (F := Bits) m g

theorem join_frame_ideal : Cert.quiescent_JoinIdeal := fun m g _ => Cert.JoinPlan.frame (F := Ideal) m g

theorem join_frame_ref_ideal : Cert.quiescent_JoinRefIdeal := fun m g _ =>
  (θ_run Cert.JoinRefIdeal.defs _ _).mono (fun r h => ⟨fun c => ⟨h c _, h c _, h c _, h c _, h c _, h c _, h c _⟩, sem_eq_zero_of_no_sems (by decide) r.2⟩)
    (Cert.JoinPlan.ref_run (F := Ideal) m g)

theorem join_frame_ref : Cert.quiescent_JoinRef := fun m g _ =>
  (θ_run Cert.JoinRef.defs _ _).mono (fun r h => ⟨fun c => ⟨h c _, h c _, h c _, h c _, h c _, h c _, h c _⟩, sem_eq_zero_of_no_sems (by decide) r.2⟩)
    (Cert.JoinPlan.ref_run (F := Bits) m g)

theorem join_algebraic : Cert.algebraic_JoinIdeal_JoinRefIdeal := fun m g m' g' _ h => Cert.JoinPlan.value (F := Ideal) g g' h

theorem join_bitexact : Cert.bitexact_Join_JoinRef := fun m g m' g' _ h => Cert.JoinPlan.value (F := Bits) (m := m) (m' := m') g g' h

theorem claim : Cert.Claim := ⟨Cert.Gather.Gen.facts, Cert.GatherIdeal.Gen.facts, Cert.GatherRefIdeal.Gen.facts, Cert.GatherRef.Gen.facts,
  Cert.Split.Gen.facts, Cert.SplitIdeal.Gen.facts, Cert.SplitRefIdeal.Gen.facts, Cert.SplitRef.Gen.facts,
  Cert.Exchange.Gen.facts, Cert.ExchangeIdeal.Gen.facts, Cert.ExchangeRefIdeal.Gen.facts, Cert.ExchangeRef.Gen.facts,
  Cert.Join.Gen.facts, Cert.JoinIdeal.Gen.facts, Cert.JoinRefIdeal.Gen.facts, Cert.JoinRef.Gen.facts,
  Cert.AdamWin.Gen.facts, Cert.AdamWinIdeal.Gen.facts, Cert.AdamWinRefIdeal.Gen.facts,
  Cert.AdamUp.Gen.facts, Cert.AdamUpIdeal.Gen.facts, Cert.AdamUpRefIdeal.Gen.facts,
  Cert.AdamRow.Gen.facts, Cert.AdamRowIdeal.Gen.facts, Cert.AdamRowRefIdeal.Gen.facts,
  Cert.AdamDown.Gen.facts, Cert.AdamDownIdeal.Gen.facts, Cert.AdamDownRefIdeal.Gen.facts,
  Cert.AdamSmall.Gen.facts, Cert.AdamSmallIdeal.Gen.facts, Cert.AdamSmallRefIdeal.Gen.facts,
  Cert.AdamRepl.Gen.facts, Cert.AdamReplIdeal.Gen.facts, Cert.AdamReplRefIdeal.Gen.facts,
  Cert.PackSmall.Gen.facts, Cert.PackSmallIdeal.Gen.facts, Cert.PackSmallRefIdeal.Gen.facts,
  Cert.PackRepl.Gen.facts, Cert.PackReplIdeal.Gen.facts, Cert.PackReplRefIdeal.Gen.facts,
  Cert.AddWin.Gen.facts, Cert.AddWinIdeal.Gen.facts, Cert.AddWinRefIdeal.Gen.facts,
  Cert.AddUp.Gen.facts, Cert.AddUpIdeal.Gen.facts, Cert.AddUpRefIdeal.Gen.facts,
  Cert.AddRow.Gen.facts, Cert.AddRowIdeal.Gen.facts, Cert.AddRowRefIdeal.Gen.facts,
  Cert.AddDown.Gen.facts, Cert.AddDownIdeal.Gen.facts, Cert.AddDownRefIdeal.Gen.facts,
  Cert.AddSmall.Gen.facts, Cert.AddSmallIdeal.Gen.facts, Cert.AddSmallRefIdeal.Gen.facts,
  Cert.SumWin.Gen.facts, Cert.SumWinIdeal.Gen.facts, Cert.SumWinRefIdeal.Gen.facts,
  Cert.SumUp.Gen.facts, Cert.SumUpIdeal.Gen.facts, Cert.SumUpRefIdeal.Gen.facts,
  Cert.SumRow.Gen.facts, Cert.SumRowIdeal.Gen.facts, Cert.SumRowRefIdeal.Gen.facts,
  Cert.SumDown.Gen.facts, Cert.SumDownIdeal.Gen.facts, Cert.SumDownRefIdeal.Gen.facts,
  Cert.SumSmall.Gen.facts, Cert.SumSmallIdeal.Gen.facts, Cert.SumSmallRefIdeal.Gen.facts,
  Cert.SumRepl.Gen.facts, Cert.SumReplIdeal.Gen.facts, Cert.SumReplRefIdeal.Gen.facts,
  Cert.NormBack.Gen.facts, Cert.NormBackIdeal.Gen.facts, Cert.NormBackRefIdeal.Gen.facts,
  Cert.LastStep.Gen.facts, Cert.LastStepIdeal.Gen.facts, Cert.LastStepRefIdeal.Gen.facts,
  Cert.MidNorms.Gen.facts, Cert.MidNormsIdeal.Gen.facts, Cert.MidNormsRefIdeal.Gen.facts,
  Cert.BackWin.Gen.facts, Cert.BackWinIdeal.Gen.facts, Cert.BackWinRefIdeal.Gen.facts,
  Cert.BackUp.Gen.facts, Cert.BackUpIdeal.Gen.facts, Cert.BackUpRefIdeal.Gen.facts,
  Cert.BackOut.Gen.facts, Cert.BackOutIdeal.Gen.facts, Cert.BackOutRefIdeal.Gen.facts,
  Cert.BackConv.Gen.facts, Cert.BackConvIdeal.Gen.facts, Cert.BackConvRefIdeal.Gen.facts,
  Cert.BackFfn.Gen.facts, Cert.BackFfnIdeal.Gen.facts, Cert.BackFfnRefIdeal.Gen.facts, BackFfn.facts_finite,
  gather_frame, gather_frame_ideal, gather_frame_ref_ideal, gather_frame_ref,
  split_frame, split_frame_ideal, split_frame_ref_ideal, split_frame_ref,
  exchange_frame, exchange_frame_ideal, exchange_frame_ref_ideal, exchange_frame_ref,
  join_frame, join_frame_ideal, join_frame_ref_ideal, join_frame_ref,
  AdamWin.frame, AdamWin.frame_ideal, AdamWin.frame_ref_ideal,
  AdamUp.frame, AdamUp.frame_ideal, AdamUp.frame_ref_ideal,
  AdamRow.frame, AdamRow.frame_ideal, AdamRow.frame_ref_ideal,
  AdamDown.frame, AdamDown.frame_ideal, AdamDown.frame_ref_ideal,
  AdamSmall.frame, AdamSmall.frame_ideal, AdamSmall.frame_ref_ideal,
  AdamRepl.frame, AdamRepl.frame_ideal, AdamRepl.frame_ref_ideal,
  PackSmall.frame, PackSmall.frame_ideal, PackSmall.frame_ref_ideal,
  PackRepl.frame, PackRepl.frame_ideal, PackRepl.frame_ref_ideal,
  AddWin.frame, AddWin.frame_ideal, AddWin.frame_ref_ideal,
  AddUp.frame, AddUp.frame_ideal, AddUp.frame_ref_ideal,
  AddRow.frame, AddRow.frame_ideal, AddRow.frame_ref_ideal,
  AddDown.frame, AddDown.frame_ideal, AddDown.frame_ref_ideal,
  AddSmall.frame, AddSmall.frame_ideal, AddSmall.frame_ref_ideal,
  SumWin.frame, SumWin.frame_ideal, SumWin.frame_ref_ideal,
  SumUp.frame, SumUp.frame_ideal, SumUp.frame_ref_ideal,
  SumRow.frame, SumRow.frame_ideal, SumRow.frame_ref_ideal,
  SumDown.frame, SumDown.frame_ideal, SumDown.frame_ref_ideal,
  SumSmall.frame, SumSmall.frame_ideal, SumSmall.frame_ref_ideal,
  SumRepl.frame, SumRepl.frame_ideal, SumRepl.frame_ref_ideal,
  NormBack.frame, NormBack.frame_ideal, NormBack.frame_ref_ideal,
  LastStep.frame, LastStep.frame_ideal, LastStep.frame_ref_ideal,
  MidNorms.frame, MidNorms.frame_ideal, MidNorms.frame_ref_ideal,
  BackWin.frame, BackWin.frame_ideal, BackWin.frame_ref_ideal,
  BackUp.frame, BackUp.frame_ideal, BackUp.frame_ref_ideal,
  BackOut.frame, BackOut.frame_ideal, BackOut.frame_ref_ideal,
  BackConv.frame, BackConv.frame_ideal, BackConv.frame_ref_ideal,
  BackFfn.frame, BackFfn.frame_ideal, BackFfn.frame_ideal_finite, BackFfn.frame_ref_ideal, BackFfn.frame_ref_ideal_finite,
  trivial, gather_algebraic, gather_bitexact,
  trivial, split_algebraic, split_bitexact,
  trivial, exchange_algebraic, exchange_bitexact,
  trivial, join_algebraic, join_bitexact,
  AdamWin.preserves, AdamWin.algebraic,
  AdamUp.preserves, AdamUp.algebraic,
  AdamRow.preserves, AdamRow.algebraic,
  AdamDown.preserves, AdamDown.algebraic,
  AdamSmall.preserves, AdamSmall.algebraic,
  AdamRepl.preserves, AdamRepl.algebraic,
  PackSmall.preserves, PackSmall.algebraic,
  PackRepl.preserves, PackRepl.algebraic,
  trivial, AddWin.algebraic,
  trivial, AddUp.algebraic,
  trivial, AddRow.algebraic,
  trivial, AddDown.algebraic,
  trivial, AddSmall.algebraic,
  trivial, SumWin.algebraic,
  trivial, SumUp.algebraic,
  trivial, SumRow.algebraic,
  trivial, SumDown.algebraic,
  trivial, SumSmall.algebraic,
  trivial, SumRepl.algebraic,
  trivial, NormBack.algebraic,
  trivial, LastStep.algebraic,
  trivial, MidNorms.algebraic,
  trivial, BackWin.algebraic,
  trivial, BackUp.algebraic,
  trivial, BackOut.algebraic,
  trivial, BackConv.algebraic,
  BackFfn.preserves, BackFfn.algebraic⟩

end Cert.Proof

end
